-- ==== Defs.lean ====
def Pre_Kernel [hPre_starts : Cert.Pre_starts.Facts] (m : (ℓ : Loc Cert.Kernel.nD Cert.Kernel.τ Cert.Kernel.sig) → Buf (Elt Bits) ℓ) : Prop :=
  ∀ c : Dev Cert.Kernel.nD,
    (Cert.Pre_starts.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_starts : Cert.Pre_starts.Facts] (m : (ℓ : Loc Cert.KernelIdeal.nD Cert.KernelIdeal.τ Cert.KernelIdeal.sig) → Buf (Elt Ideal) ℓ) : Prop :=
  ∀ c : Dev Cert.KernelIdeal.nD,
    (Cert.Pre_starts.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_KernelIdeal_inputs [hPre_inputs : Cert.Pre_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs [hPre_inputs : Cert.Pre_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2 = (fun _ => 1#1)

def quiescent_Kernel [hKernel : Cert.Kernel.Facts] [hPre_starts : Cert.Pre_starts.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_starts : Cert.Pre_starts.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_inputs [hKernelIdeal : Cert.KernelIdeal.Facts] [hPre_inputs : Cert.Pre_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_inputs [hReferenceIdeal : Cert.ReferenceIdeal.Facts] [hPre_inputs : Cert.Pre_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "sm_log2e" .f32 0x3E0293EE#32 (((Real.sqrt 128)⁻¹ * (Real.log 2)⁻¹ : ℝ) : EReal)
  ∧ IdealRules.named_const.Statement Cert.KernelIdeal.κ "neg_inf" .f32 0xF149F2CA#32 ⊥

def algebraic_KernelIdeal_ReferenceIdeal_pre_inputs [hKernelIdeal : Cert.KernelIdeal.Facts] [hReferenceIdeal : Cert.ReferenceIdeal.Facts] [hPre_inputs : Cert.Pre_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_starts : Cert.Pre_starts.Facts) (hPre_inputs : Cert.Pre_inputs.Facts),
    quiescent_Kernel (hKernel := hKernel) (hPre_starts := hPre_starts)
    ∧ quiescent_KernelIdeal (hKernelIdeal := hKernelIdeal) (hPre_starts := hPre_starts)
    ∧ quiescent_KernelIdeal_pre_inputs (hKernelIdeal := hKernelIdeal) (hPre_inputs := hPre_inputs)
    ∧ quiescent_ReferenceIdeal (hReferenceIdeal := hReferenceIdeal)
    ∧ quiescent_ReferenceIdeal_pre_inputs (hReferenceIdeal := hReferenceIdeal) (hPre_inputs := hPre_inputs)
    ∧ preserves_Kernel_KernelIdeal
    ∧ algebraic_KernelIdeal_ReferenceIdeal_pre_inputs (hKernelIdeal := hKernelIdeal) (hReferenceIdeal := hReferenceIdeal) (hPre_inputs := hPre_inputs)
-- ==== Pre_inputs.lean ====
abbrev S256 : Shape := ⟨1, ![256]⟩
abbrev S8x1x256 : Shape := ⟨3, ![8, 1, 256]⟩
abbrev S8x128x1024x128 : Shape := ⟨4, ![8, 128, 1024, 128]⟩
abbrev S128x8x1x128 : Shape := ⟨4, ![128, 8, 1, 128]⟩
abbrev S128x8x8x128 : Shape := ⟨4, ![128, 8, 8, 128]⟩
abbrev S128x8x128 : Shape := ⟨3, ![128, 8, 128]⟩
abbrev S16384x1024 : Shape := ⟨2, ![16384, 1024]⟩
abbrev S8x128x16384 : Shape := ⟨3, ![8, 128, 16384]⟩
abbrev S8x128x128 : Shape := ⟨3, ![8, 128, 128]⟩
abbrev S128 : Shape := ⟨1, ![128]⟩
abbrev S_ : Shape := ⟨0, ![]⟩

class Facts : Prop where
  slicesBy_S256_S128_0s2 : S256.SlicesBy (![0] : Fin 1 → Nat) ![2] S128
  bcast_S128_S128x8x128_0 : S128.BroadcastsInDim S128x8x128 (![0] : Fin 1 → Fin S128x8x128.rank)
  bcast_S_S256 : S_.BroadcastsInDim S256 (![] : Fin 0 → Fin S256.rank)
  bcast_S_S8x1x256 : S_.BroadcastsInDim S8x1x256 (![] : Fin 0 → Fin S8x1x256.rank)

variable [Facts]

def fn {F : FTy → Type} [FloatOps F] (main_arg0 : IVec S256 32) (main_arg1 : FVec F S8x1x256 .f32) (main_arg2 : FVec F S8x128x1024x128 .fp8e4m3) (main_arg3 : FVec F S128x8x1x128 .f32) (main_arg4 : FVec F S128x8x8x128 .bf16) (main_arg5 : IVec S128x8x128 32) (main_arg6 : FVec F S16384x1024 .fp8e4m3) (main_arg7 : FVec F S8x128x16384 .fp8e4m3) (main_arg8 : FVec F S8x128x128 .f32) : IVec S256 1 × IVec S128x8x128 1 × IVec S8x1x256 1 :=
  let main_v0 : IVec S128 32 := (Host.slice S128 ![0] ![2] · slicesBy_S256_S128_0s2) main_arg0
  let main_v1 : IVec S128x8x128 32 := broadcastInDim S128x8x128 ![0] bcast_S128_S128x8x128_0 main_v0
  let main_c : IVec S_ 32 := constantI S_ 32 0#32
  let main_v2 : IVec S256 32 := broadcastInDim S256 ![] bcast_S_S256 main_c
  let main_v3 : IVec S256 1 := cmpi .sge main_arg0 main_v2
  let main_v4 : IVec S256 32 := iotaInDim S256 32 0
  let main_c_0 : IVec S_ 32 := constantI S_ 32 64#32
  let main_v5 : IVec S256 32 := broadcastInDim S256 ![] bcast_S_S256 main_c_0
  let main_v6 : IVec S256 32 := muli main_v5 main_v4
  let main_v7 : IVec S256 1 := cmpi .sle main_arg0 main_v6
  let main_v8 : IVec S256 1 := andi main_v3 main_v7
  let main_v9 : IVec S128x8x128 1 := cmpi .sle main_v1 main_arg5
  let main_cst : FVec F S_ .f32 := constant S_ .f32 0x00000000#32
  let main_v10 : FVec F S8x1x256 .f32 := broadcastInDim S8x1x256 ![] bcast_S_S8x1x256 main_cst
  let main_v11 : IVec S8x1x256 1 := cmpf .oge main_arg1 main_v10
  let main_cst_1 : FVec F S_ .f32 := constant S_ .f32 0x7F800000#32
  let main_v12 : FVec F S8x1x256 .f32 := broadcastInDim S8x1x256 ![] bcast_S_S8x1x256 main_cst_1
  let main_v13 : IVec S8x1x256 1 := cmpf .olt main_arg1 main_v12
  let main_v14 : IVec S8x1x256 1 := andi main_v11 main_v13
  (main_v8, main_v9, main_v14)
-- ==== Pre_starts.lean ====
abbrev S256 : Shape := ⟨1, ![256]⟩
abbrev S8x1x256 : Shape := ⟨3, ![8, 1, 256]⟩
abbrev S8x128x1024x128 : Shape := ⟨4, ![8, 128, 1024, 128]⟩
abbrev S128x8x1x128 : Shape := ⟨4, ![128, 8, 1, 128]⟩
abbrev S128x8x8x128 : Shape := ⟨4, ![128, 8, 8, 128]⟩
abbrev S128x8x128 : Shape := ⟨3, ![128, 8, 128]⟩
abbrev S16384x1024 : Shape := ⟨2, ![16384, 1024]⟩
abbrev S8x128x16384 : Shape := ⟨3, ![8, 128, 16384]⟩
abbrev S8x128x128 : Shape := ⟨3, ![8, 128, 128]⟩
abbrev S_ : Shape := ⟨0, ![]⟩

class Facts : Prop where
  bcast_S_S256 : S_.BroadcastsInDim S256 (![] : Fin 0 → Fin S256.rank)

variable [Facts]

def fn {F : FTy → Type} [FloatOps F] (main_arg0 : IVec S256 32) (main_arg1 : FVec F S8x1x256 .f32) (main_arg2 : FVec F S8x128x1024x128 .fp8e4m3) (main_arg3 : FVec F S128x8x1x128 .f32) (main_arg4 : FVec F S128x8x8x128 .bf16) (main_arg5 : IVec S128x8x128 32) (main_arg6 : FVec F S16384x1024 .fp8e4m3) (main_arg7 : FVec F S8x128x16384 .fp8e4m3) (main_arg8 : FVec F S8x128x128 .f32) : IVec S256 1 :=
  let main_c : IVec S_ 32 := constantI S_ 32 0#32
  let main_v0 : IVec S256 32 := broadcastInDim S256 ![] bcast_S_S256 main_c
  let main_v1 : IVec S256 1 := cmpi .sge main_arg0 main_v0
  let main_v2 : IVec S256 32 := iotaInDim S256 32 0
  let main_c_0 : IVec S_ 32 := constantI S_ 32 64#32
  let main_v3 : IVec S256 32 := broadcastInDim S256 ![] bcast_S_S256 main_c_0
  let main_v4 : IVec S256 32 := muli main_v3 main_v2
  let main_v5 : IVec S256 1 := cmpi .sle main_arg0 main_v4
  let main_v6 : IVec S256 1 := andi main_v1 main_v5
  main_v6
-- ==== Kernel.lean ====
abbrev S256 : Shape := ⟨1, ![256]⟩
abbrev S8x1x256 : Shape := ⟨3, ![8, 1, 256]⟩
abbrev S8x128x1024x128 : Shape := ⟨4, ![8, 128, 1024, 128]⟩
abbrev S128x8x1x128 : Shape := ⟨4, ![128, 8, 1, 128]⟩
abbrev S128x8x8x128 : Shape := ⟨4, ![128, 8, 8, 128]⟩
abbrev S128x8x128 : Shape := ⟨3, ![128, 8, 128]⟩
abbrev S16384x1024 : Shape := ⟨2, ![16384, 1024]⟩
abbrev S8x128x16384 : Shape := ⟨3, ![8, 128, 16384]⟩
abbrev S8x128x128 : Shape := ⟨3, ![8, 128, 128]⟩
abbrev S16384x8192 : Shape := ⟨2, ![16384, 8192]⟩
abbrev S1x1x256 : Shape := ⟨3, ![1, 1, 256]⟩
abbrev S1x1x1024x128 : Shape := ⟨4, ![1, 1, 1024, 128]⟩
abbrev S1x1x1x128 : Shape := ⟨4, ![1, 1, 1, 128]⟩
abbrev S1x1x8x128 : Shape := ⟨4, ![1, 1, 8, 128]⟩
abbrev S1x8x128 : Shape := ⟨3, ![1, 8, 128]⟩
abbrev S16384x128 : Shape := ⟨2, ![16384, 128]⟩
abbrev S1x128x16384 : Shape := ⟨3, ![1, 128, 16384]⟩
abbrev S1x128x128 : Shape := ⟨3, ![1, 128, 128]⟩
abbrev S128x1024 : Shape := ⟨2, ![128, 1024]⟩
abbrev S16384x512 : Shape := ⟨2, ![16384, 512]⟩
abbrev S1x128 : Shape := ⟨2, ![1, 128]⟩
abbrev S8x128 : Shape := ⟨2, ![8, 128]⟩
abbrev S8x1x128 : Shape := ⟨3, ![8, 1, 128]⟩
abbrev S8x16x128 : Shape := ⟨3, ![8, 16, 128]⟩
abbrev S128x128 : Shape := ⟨2, ![128, 128]⟩
abbrev S1 : Shape := ⟨1, ![1]⟩
abbrev S512x128 : Shape := ⟨2, ![512, 128]⟩
abbrev S64x128 : Shape := ⟨2, ![64, 128]⟩
abbrev S1x1x1 : Shape := ⟨3, ![1, 1, 1]⟩
abbrev S1x1x512x128 : Shape := ⟨4, ![1, 1, 512, 128]⟩
abbrev S1x1x128 : Shape := ⟨3, ![1, 1, 128]⟩
abbrev S512x512 : Shape := ⟨2, ![512, 512]⟩
abbrev S8x8x128 : Shape := ⟨3, ![8, 8, 128]⟩
abbrev S128 : Shape := ⟨1, ![128]⟩
abbrev S128x512 : Shape := ⟨2, ![128, 512]⟩
abbrev S64x8x128 : Shape := ⟨3, ![64, 8, 128]⟩
abbrev S1x128x512 : Shape := ⟨3, ![1, 128, 512]⟩
abbrev S16x128 : Shape := ⟨2, ![16, 128]⟩

abbrev nBuf : Space → Nat
  | .hbm => 9
  | .vmem => 18
  | .smem => 3
  | _ => 0

abbrev bufTy : (tb : Table) → Fin (tcTables nBuf tb) → BufTy
  | .hbm, ⟨0, _⟩ => ⟨S8x1x256, .f32⟩
  | .hbm, ⟨1, _⟩ => ⟨S8x128x1024x128, .fp8e4m3⟩
  | .hbm, ⟨2, _⟩ => ⟨S128x8x1x128, .f32⟩
  | .hbm, ⟨3, _⟩ => ⟨S128x8x8x128, .bf16⟩
  | .hbm, ⟨4, _⟩ => ⟨S128x8x128, .i32⟩
  | .hbm, ⟨5, _⟩ => ⟨S16384x1024, .fp8e4m3⟩
  | .hbm, ⟨6, _⟩ => ⟨S8x128x16384, .fp8e4m3⟩
  | .hbm, ⟨7, _⟩ => ⟨S8x128x128, .f32⟩
  | .hbm, ⟨8, _⟩ => ⟨S16384x8192, .bf16⟩
  | .local _ .vmem, ⟨0, _⟩ => ⟨S1x1x1024x128, .fp8e4m3⟩
  | .local _ .vmem, ⟨1, _⟩ => ⟨S1x1x1024x128, .fp8e4m3⟩
  | .local _ .vmem, ⟨2, _⟩ => ⟨S1x1x1x128, .f32⟩
  | .local _ .vmem, ⟨3, _⟩ => ⟨S1x1x1x128, .f32⟩
  | .local _ .vmem, ⟨4, _⟩ => ⟨S1x1x8x128, .bf16⟩
  | .local _ .vmem, ⟨5, _⟩ => ⟨S1x1x8x128, .bf16⟩
  | .local _ .vmem, ⟨6, _⟩ => ⟨S1x8x128, .i32⟩
  | .local _ .vmem, ⟨7, _⟩ => ⟨S1x8x128, .i32⟩
  | .local _ .vmem, ⟨8, _⟩ => ⟨S16384x128, .fp8e4m3⟩
  | .local _ .vmem, ⟨9, _⟩ => ⟨S16384x128, .fp8e4m3⟩
  | .local _ .vmem, ⟨10, _⟩ => ⟨S1x128x16384, .fp8e4m3⟩
  | .local _ .vmem, ⟨11, _⟩ => ⟨S1x128x16384, .fp8e4m3⟩
  | .local _ .vmem, ⟨12, _⟩ => ⟨S1x128x128, .f32⟩
  | .local _ .vmem, ⟨13, _⟩ => ⟨S1x128x128, .f32⟩
  | .local _ .vmem, ⟨14, _⟩ => ⟨S128x1024, .bf16⟩
  | .local _ .vmem, ⟨15, _⟩ => ⟨S128x1024, .bf16⟩
  | .local _ .vmem, ⟨16, _⟩ => ⟨S16384x512, .f32⟩
  | .local _ .vmem, ⟨17, _⟩ => ⟨S16384x128, .f32⟩
  | .local _ .smem, ⟨0, _⟩ => ⟨S256, .i32⟩
  | .local _ .smem, ⟨1, _⟩ => ⟨S1x1x256, .f32⟩
  | .local _ .smem, ⟨2, _⟩ => ⟨S1x1x256, .f32⟩
  | _, _ => ⟨S8x1x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_v0 : Ref sig .tc := ⟨.hbm, 8, rfl⟩
abbrev main_arg0 : Ref sig .tc := ⟨.smem, 0, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_stg0_0 : Ref sig .tc := ⟨.smem, 1, rfl⟩
abbrev cc0_stg0_1 : Ref sig .tc := ⟨.smem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 128], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let c2_i32 : BitVec 32 := 2#32
  let v14 : BitVec 32 := Scalar.muli arg1 c2_i32
  let v15 : Index := Scalar.indexCast v14
  ![v15.toNat]
@[reducible] def k0_t1_loop (i : grid0.Coords) (v16 : BitVec 32) : Scf.Loop 32 :=
  let c0_i32_15 : BitVec 32 := 0#32
  let arg1 : BitVec 32 := BitVec.ofNat 32 (i 1).val
  let c1_i32 : BitVec 32 := 1#32
  let v12 : BitVec 32 := Scalar.addi arg1 c1_i32
  let c128_i32 : BitVec 32 := 128#32
  let v13 : BitVec 32 := Scalar.muli v12 c128_i32
  let c_m128_i32 : BitVec 32 := 4294967168#32
  let v17 : BitVec 32 := Scalar.andi v16 c_m128_i32
  let v18 : BitVec 32 := Scalar.subi v13 v17
  let c512_i32 : BitVec 32 := 512#32
  let v19 : BitVec 32 := Scalar.addi v18 c512_i32
  let c1_i32_7 : BitVec 32 := 1#32
  let v20 : BitVec 32 := Scalar.subi v19 c1_i32_7
  let c0_i32 : BitVec 32 := 0#32
  let v22 : BitVec 1 := Scalar.cmpi .sgt v20 c0_i32
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c512_i32_8 : BitVec 32 := 512#32
  let c0_i32_10 : BitVec 32 := 0#32
  let v27 : BitVec 1 := Scalar.cmpi .sgt c512_i32_8 c0_i32_10
  let v28 : BitVec 32 := Scalar.extui v27
  let c0_i32_11 : BitVec 32 := 0#32
  let v29 : BitVec 1 := Scalar.cmpi .slt c512_i32_8 c0_i32_11
  let v30 : BitVec 32 := Scalar.extui v29
  let v31 : BitVec 32 := Scalar.subi v28 v30
  let v32 : BitVec 1 := Scalar.cmpi .ne v26 v31
  let v33 : BitVec 32 := Scalar.remsi v20 c512_i32_8
  let c0_i32_12 : BitVec 32 := 0#32
  let v34 : BitVec 1 := Scalar.cmpi .ne v33 c0_i32_12
  let v35 : BitVec 1 := Scalar.andi v32 v34
  let v21 : BitVec 32 := Scalar.divsi v20 c512_i32_8
  let c1_i32_13 : BitVec 32 := 1#32
  let v36 : BitVec 32 := Scalar.subi v21 c1_i32_13
  let v37 : BitVec 32 := Scalar.select v35 v36 v21
  let v41 : BitVec 32 := Scalar.subi v37 c0_i32_15
  let c1_i32_17 : BitVec 32 := 1#32
  let v43 : BitVec 32 := Scalar.divsi v41 c1_i32_17
  let v44 : BitVec 32 := Scalar.muli v43 c1_i32_17
  let v45 : BitVec 32 := Scalar.addi c0_i32_15 v44
  let c1_i32_18 : BitVec 32 := 1#32
  ⟨c0_i32_15, v45, c1_i32_18⟩

def k0_mult1 (i : grid0.Coords) (v16 : BitVec 32) (k0_t1 : Fin (k0_t1_loop i v16).trips) : BitVec 32 :=
  let c_m128_i32 : BitVec 32 := 4294967168#32
  let v17 : BitVec 32 := Scalar.andi v16 c_m128_i32
  let c16384_i32 : BitVec 32 := 16384#32
  let arg1 : BitVec 32 := BitVec.ofNat 32 (i 1).val
  let c1_i32 : BitVec 32 := 1#32
  let v12 : BitVec 32 := Scalar.addi arg1 c1_i32
  let c128_i32 : BitVec 32 := 128#32
  let v13 : BitVec 32 := Scalar.muli v12 c128_i32
  let v18 : BitVec 32 := Scalar.subi v13 v17
  let c512_i32 : BitVec 32 := 512#32
  let v19 : BitVec 32 := Scalar.addi v18 c512_i32
  let c1_i32_7 : BitVec 32 := 1#32
  let v20 : BitVec 32 := Scalar.subi v19 c1_i32_7
  let c0_i32 : BitVec 32 := 0#32
  let v22 : BitVec 1 := Scalar.cmpi .sgt v20 c0_i32
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c512_i32_8 : BitVec 32 := 512#32
  let c0_i32_10 : BitVec 32 := 0#32
  let v27 : BitVec 1 := Scalar.cmpi .sgt c512_i32_8 c0_i32_10
  let v28 : BitVec 32 := Scalar.extui v27
  let c0_i32_11 : BitVec 32 := 0#32
  let v29 : BitVec 1 := Scalar.cmpi .slt c512_i32_8 c0_i32_11
  let v30 : BitVec 32 := Scalar.extui v29
  let v31 : BitVec 32 := Scalar.subi v28 v30
  let v32 : BitVec 1 := Scalar.cmpi .ne v26 v31
  let v33 : BitVec 32 := Scalar.remsi v20 c512_i32_8
  let c0_i32_12 : BitVec 32 := 0#32
  let v34 : BitVec 1 := Scalar.cmpi .ne v33 c0_i32_12
  let v35 : BitVec 1 := Scalar.andi v32 v34
  let v21 : BitVec 32 := Scalar.divsi v20 c512_i32_8
  let c1_i32_13 : BitVec 32 := 1#32
  let v36 : BitVec 32 := Scalar.subi v21 c1_i32_13
  let v37 : BitVec 32 := Scalar.select v35 v36 v21
  let c512_i32_14 : BitVec 32 := 512#32
  let v38 : BitVec 32 := Scalar.muli v37 c512_i32_14
  let v39 : BitVec 32 := Scalar.subi c16384_i32 v38
  let v40 : BitVec 32 := Scalar.minsi v17 v39
  let c0_i32_15 : BitVec 32 := 0#32
  let c1_i32_18 : BitVec 32 := 1#32
  let arg14 : BitVec 32 := Scf.iv c0_i32_15 c1_i32_18 k0_t1
  let c512_i32_246 : BitVec 32 := 512#32
  let v410 : BitVec 32 := Scalar.muli arg14 c512_i32_246
  let v411 : BitVec 32 := Scalar.addi v40 v410
  v411
def k0_off2 (i : grid0.Coords) (v16 : BitVec 32) (k0_t1 : Fin (k0_t1_loop i v16).trips) : Fin 2 → Nat :=
  let c_m128_i32 : BitVec 32 := 4294967168#32
  let v17 : BitVec 32 := Scalar.andi v16 c_m128_i32
  let c16384_i32 : BitVec 32 := 16384#32
  let arg1 : BitVec 32 := BitVec.ofNat 32 (i 1).val
  let c1_i32 : BitVec 32 := 1#32
  let v12 : BitVec 32 := Scalar.addi arg1 c1_i32
  let c128_i32 : BitVec 32 := 128#32
  let v13 : BitVec 32 := Scalar.muli v12 c128_i32
  let v18 : BitVec 32 := Scalar.subi v13 v17
  let c512_i32 : BitVec 32 := 512#32
  let v19 : BitVec 32 := Scalar.addi v18 c512_i32
  let c1_i32_7 : BitVec 32 := 1#32
  let v20 : BitVec 32 := Scalar.subi v19 c1_i32_7
  let c0_i32 : BitVec 32 := 0#32
  let v22 : BitVec 1 := Scalar.cmpi .sgt v20 c0_i32
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c512_i32_8 : BitVec 32 := 512#32
  let c0_i32_10 : BitVec 32 := 0#32
  let v27 : BitVec 1 := Scalar.cmpi .sgt c512_i32_8 c0_i32_10
  let v28 : BitVec 32 := Scalar.extui v27
  let c0_i32_11 : BitVec 32 := 0#32
  let v29 : BitVec 1 := Scalar.cmpi .slt c512_i32_8 c0_i32_11
  let v30 : BitVec 32 := Scalar.extui v29
  let v31 : BitVec 32 := Scalar.subi v28 v30
  let v32 : BitVec 1 := Scalar.cmpi .ne v26 v31
  let v33 : BitVec 32 := Scalar.remsi v20 c512_i32_8
  let c0_i32_12 : BitVec 32 := 0#32
  let v34 : BitVec 1 := Scalar.cmpi .ne v33 c0_i32_12
  let v35 : BitVec 1 := Scalar.andi v32 v34
  let v21 : BitVec 32 := Scalar.divsi v20 c512_i32_8
  let c1_i32_13 : BitVec 32 := 1#32
  let v36 : BitVec 32 := Scalar.subi v21 c1_i32_13
  let v37 : BitVec 32 := Scalar.select v35 v36 v21
  let c512_i32_14 : BitVec 32 := 512#32
  let v38 : BitVec 32 := Scalar.muli v37 c512_i32_14
  let v39 : BitVec 32 := Scalar.subi c16384_i32 v38
  let v40 : BitVec 32 := Scalar.minsi v17 v39
  let c0_i32_15 : BitVec 32 := 0#32
  let c1_i32_18 : BitVec 32 := 1#32
  let arg14 : BitVec 32 := Scf.iv c0_i32_15 c1_i32_18 k0_t1
  let c512_i32_246 : BitVec 32 := 512#32
  let v410 : BitVec 32 := Scalar.muli arg14 c512_i32_246
  let v411 : BitVec 32 := Scalar.addi v40 v410
  let v412 : BitVec 32 := v411
  let v413 : Index := Scalar.indexCast v412
  let c0_247 : Index := 0#32
  ![v413.toNat, 0]
def k0_off3 (i : grid0.Coords) (v16 : BitVec 32) (k0_t1 : Fin (k0_t1_loop i v16).trips) (c0_i32_256 : BitVec 32) : Fin 3 → Nat :=
  let c0_257 : Index := 0#32
  let c0_258 : Index := 0#32
  let c_m128_i32 : BitVec 32 := 4294967168#32
  let v17 : BitVec 32 := Scalar.andi v16 c_m128_i32
  let c16384_i32 : BitVec 32 := 16384#32
  let arg1 : BitVec 32 := BitVec.ofNat 32 (i 1).val
  let c1_i32 : BitVec 32 := 1#32
  let v12 : BitVec 32 := Scalar.addi arg1 c1_i32
  let c128_i32 : BitVec 32 := 128#32
  let v13 : BitVec 32 := Scalar.muli v12 c128_i32
  let v18 : BitVec 32 := Scalar.subi v13 v17
  let c512_i32 : BitVec 32 := 512#32
  let v19 : BitVec 32 := Scalar.addi v18 c512_i32
  let c1_i32_7 : BitVec 32 := 1#32
  let v20 : BitVec 32 := Scalar.subi v19 c1_i32_7
  let c0_i32 : BitVec 32 := 0#32
  let v22 : BitVec 1 := Scalar.cmpi .sgt v20 c0_i32
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c512_i32_8 : BitVec 32 := 512#32
  let c0_i32_10 : BitVec 32 := 0#32
  let v27 : BitVec 1 := Scalar.cmpi .sgt c512_i32_8 c0_i32_10
  let v28 : BitVec 32 := Scalar.extui v27
  let c0_i32_11 : BitVec 32 := 0#32
  let v29 : BitVec 1 := Scalar.cmpi .slt c512_i32_8 c0_i32_11
  let v30 : BitVec 32 := Scalar.extui v29
  let v31 : BitVec 32 := Scalar.subi v28 v30
  let v32 : BitVec 1 := Scalar.cmpi .ne v26 v31
  let v33 : BitVec 32 := Scalar.remsi v20 c512_i32_8
  let c0_i32_12 : BitVec 32 := 0#32
  let v34 : BitVec 1 := Scalar.cmpi .ne v33 c0_i32_12
  let v35 : BitVec 1 := Scalar.andi v32 v34
  let v21 : BitVec 32 := Scalar.divsi v20 c512_i32_8
  let c1_i32_13 : BitVec 32 := 1#32
  let v36 : BitVec 32 := Scalar.subi v21 c1_i32_13
  let v37 : BitVec 32 := Scalar.select v35 v36 v21
  let c512_i32_14 : BitVec 32 := 512#32
  let v38 : BitVec 32 := Scalar.muli v37 c512_i32_14
  let v39 : BitVec 32 := Scalar.subi c16384_i32 v38
  let v40 : BitVec 32 := Scalar.minsi v17 v39
  let c0_i32_15 : BitVec 32 := 0#32
  let c1_i32_18 : BitVec 32 := 1#32
  let arg14 : BitVec 32 := Scf.iv c0_i32_15 c1_i32_18 k0_t1
  let c512_i32_246 : BitVec 32 := 512#32
  let v410 : BitVec 32 := Scalar.muli arg14 c512_i32_246
  let v411 : BitVec 32 := Scalar.addi v40 v410
  let v412 : BitVec 32 := v411
  let c0_i32_250 : BitVec 32 := 0#32
  let v419 : BitVec 1 := Scalar.cmpi .sgt v412 c0_i32_250
  let v420 : BitVec 32 := Scalar.extui v419
  let c0_i32_251 : BitVec 32 := 0#32
  let v421 : BitVec 1 := Scalar.cmpi .slt v412 c0_i32_251
  let v422 : BitVec 32 := Scalar.extui v421
  let v423 : BitVec 32 := Scalar.subi v420 v422
  let c64_i32_249 : BitVec 32 := 64#32
  let c0_i32_252 : BitVec 32 := 0#32
  let v424 : BitVec 1 := Scalar.cmpi .sgt c64_i32_249 c0_i32_252
  let v425 : BitVec 32 := Scalar.extui v424
  let c0_i32_253 : BitVec 32 := 0#32
  let v426 : BitVec 1 := Scalar.cmpi .slt c64_i32_249 c0_i32_253
  let v427 : BitVec 32 := Scalar.extui v426
  let v428 : BitVec 32 := Scalar.subi v425 v427
  let v429 : BitVec 1 := Scalar.cmpi .ne v423 v428
  let v430 : BitVec 32 := Scalar.remsi v412 c64_i32_249
  let c0_i32_254 : BitVec 32 := 0#32
  let v431 : BitVec 1 := Scalar.cmpi .ne v430 c0_i32_254
  let v432 : BitVec 1 := Scalar.andi v429 v431
  let v418 : BitVec 32 := Scalar.divsi v412 c64_i32_249
  let c1_i32_255 : BitVec 32 := 1#32
  let v433 : BitVec 32 := Scalar.subi v418 c1_i32_255
  let v434 : BitVec 32 := Scalar.select v432 v433 v418
  let v435 : BitVec 32 := Scalar.addi v434 c0_i32_256
  let v436 : Index := Scalar.indexCast v435
  ![0, 0, v436.toNat]
def k0_off4 (i : grid0.Coords) (v16 : BitVec 32) (k0_t1 : Fin (k0_t1_loop i v16).trips) (c0_i32_261 : BitVec 32) : Fin 2 → Nat :=
  let c0_i32_15 : BitVec 32 := 0#32
  let c1_i32_18 : BitVec 32 := 1#32
  let arg14 : BitVec 32 := Scf.iv c0_i32_15 c1_i32_18 k0_t1
  let c512_i32_260 : BitVec 32 := 512#32
  let v441 : BitVec 32 := Scalar.muli arg14 c512_i32_260
  let v442 : BitVec 32 := Scalar.addi v441 c0_i32_261
  let v443 : Index := Scalar.indexCast v442
  let c0_262 : Index := 0#32
  ![v443.toNat, 0]
@[reducible] def k0_t2_loop (i : grid0.Coords) (v16 : BitVec 32) : Scf.Loop 32 :=
  let c0_i32_15 : BitVec 32 := 0#32
  let arg1 : BitVec 32 := BitVec.ofNat 32 (i 1).val
  let c1_i32 : BitVec 32 := 1#32
  let v12 : BitVec 32 := Scalar.addi arg1 c1_i32
  let c128_i32 : BitVec 32 := 128#32
  let v13 : BitVec 32 := Scalar.muli v12 c128_i32
  let c_m128_i32 : BitVec 32 := 4294967168#32
  let v17 : BitVec 32 := Scalar.andi v16 c_m128_i32
  let v18 : BitVec 32 := Scalar.subi v13 v17
  let c512_i32 : BitVec 32 := 512#32
  let v19 : BitVec 32 := Scalar.addi v18 c512_i32
  let c1_i32_7 : BitVec 32 := 1#32
  let v20 : BitVec 32 := Scalar.subi v19 c1_i32_7
  let c0_i32 : BitVec 32 := 0#32
  let v22 : BitVec 1 := Scalar.cmpi .sgt v20 c0_i32
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c512_i32_8 : BitVec 32 := 512#32
  let c0_i32_10 : BitVec 32 := 0#32
  let v27 : BitVec 1 := Scalar.cmpi .sgt c512_i32_8 c0_i32_10
  let v28 : BitVec 32 := Scalar.extui v27
  let c0_i32_11 : BitVec 32 := 0#32
  let v29 : BitVec 1 := Scalar.cmpi .slt c512_i32_8 c0_i32_11
  let v30 : BitVec 32 := Scalar.extui v29
  let v31 : BitVec 32 := Scalar.subi v28 v30
  let v32 : BitVec 1 := Scalar.cmpi .ne v26 v31
  let v33 : BitVec 32 := Scalar.remsi v20 c512_i32_8
  let c0_i32_12 : BitVec 32 := 0#32
  let v34 : BitVec 1 := Scalar.cmpi .ne v33 c0_i32_12
  let v35 : BitVec 1 := Scalar.andi v32 v34
  let v21 : BitVec 32 := Scalar.divsi v20 c512_i32_8
  let c1_i32_13 : BitVec 32 := 1#32
  let v36 : BitVec 32 := Scalar.subi v21 c1_i32_13
  let v37 : BitVec 32 := Scalar.select v35 v36 v21
  let v41 : BitVec 32 := Scalar.subi v37 c0_i32_15
  let c1_i32_17 : BitVec 32 := 1#32
  let v43 : BitVec 32 := Scalar.divsi v41 c1_i32_17
  let v44 : BitVec 32 := Scalar.muli v43 c1_i32_17
  let v45 : BitVec 32 := Scalar.addi c0_i32_15 v44
  let v42 : BitVec 32 := Scalar.addi c0_i32_15 v41
  let c1_i32_19 : BitVec 32 := 1#32
  ⟨v45, v42, c1_i32_19⟩
def k0_mult2 (i : grid0.Coords) (v16 : BitVec 32) (k0_t2 : Fin (k0_t2_loop i v16).trips) : BitVec 32 :=
  let c_m128_i32 : BitVec 32 := 4294967168#32
  let v17 : BitVec 32 := Scalar.andi v16 c_m128_i32
  let c16384_i32 : BitVec 32 := 16384#32
  let arg1 : BitVec 32 := BitVec.ofNat 32 (i 1).val
  let c1_i32 : BitVec 32 := 1#32
  let v12 : BitVec 32 := Scalar.addi arg1 c1_i32
  let c128_i32 : BitVec 32 := 128#32
  let v13 : BitVec 32 := Scalar.muli v12 c128_i32
  let v18 : BitVec 32 := Scalar.subi v13 v17
  let c512_i32 : BitVec 32 := 512#32
  let v19 : BitVec 32 := Scalar.addi v18 c512_i32
  let c1_i32_7 : BitVec 32 := 1#32
  let v20 : BitVec 32 := Scalar.subi v19 c1_i32_7
  let c0_i32 : BitVec 32 := 0#32
  let v22 : BitVec 1 := Scalar.cmpi .sgt v20 c0_i32
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c512_i32_8 : BitVec 32 := 512#32
  let c0_i32_10 : BitVec 32 := 0#32
  let v27 : BitVec 1 := Scalar.cmpi .sgt c512_i32_8 c0_i32_10
  let v28 : BitVec 32 := Scalar.extui v27
  let c0_i32_11 : BitVec 32 := 0#32
  let v29 : BitVec 1 := Scalar.cmpi .slt c512_i32_8 c0_i32_11
  let v30 : BitVec 32 := Scalar.extui v29
  let v31 : BitVec 32 := Scalar.subi v28 v30
  let v32 : BitVec 1 := Scalar.cmpi .ne v26 v31
  let v33 : BitVec 32 := Scalar.remsi v20 c512_i32_8
  let c0_i32_12 : BitVec 32 := 0#32
  let v34 : BitVec 1 := Scalar.cmpi .ne v33 c0_i32_12
  let v35 : BitVec 1 := Scalar.andi v32 v34
  let v21 : BitVec 32 := Scalar.divsi v20 c512_i32_8
  let c1_i32_13 : BitVec 32 := 1#32
  let v36 : BitVec 32 := Scalar.subi v21 c1_i32_13
  let v37 : BitVec 32 := Scalar.select v35 v36 v21
  let c512_i32_14 : BitVec 32 := 512#32
  let v38 : BitVec 32 := Scalar.muli v37 c512_i32_14
  let v39 : BitVec 32 := Scalar.subi c16384_i32 v38
  let v40 : BitVec 32 := Scalar.minsi v17 v39
  let c0_i32_15 : BitVec 32 := 0#32
  let v41 : BitVec 32 := Scalar.subi v37 c0_i32_15
  let c1_i32_17 : BitVec 32 := 1#32
  let v43 : BitVec 32 := Scalar.divsi v41 c1_i32_17
  let v44 : BitVec 32 := Scalar.muli v43 c1_i32_17
  let v45 : BitVec 32 := Scalar.addi c0_i32_15 v44
  let c1_i32_19 : BitVec 32 := 1#32
  let arg14 : BitVec 32 := Scf.iv v45 c1_i32_19 k0_t2
  let c512_i32_246 : BitVec 32 := 512#32
  let v410 : BitVec 32 := Scalar.muli arg14 c512_i32_246
  let v411 : BitVec 32 := Scalar.addi v40 v410
  v411
def k0_off5 (i : grid0.Coords) (v16 : BitVec 32) (k0_t2 : Fin (k0_t2_loop i v16).trips) : Fin 2 → Nat :=
  let c_m128_i32 : BitVec 32 := 4294967168#32
  let v17 : BitVec 32 := Scalar.andi v16 c_m128_i32
  let c16384_i32 : BitVec 32 := 16384#32
  let arg1 : BitVec 32 := BitVec.ofNat 32 (i 1).val
  let c1_i32 : BitVec 32 := 1#32
  let v12 : BitVec 32 := Scalar.addi arg1 c1_i32
  let c128_i32 : BitVec 32 := 128#32
  let v13 : BitVec 32 := Scalar.muli v12 c128_i32
  let v18 : BitVec 32 := Scalar.subi v13 v17
  let c512_i32 : BitVec 32 := 512#32
  let v19 : BitVec 32 := Scalar.addi v18 c512_i32
  let c1_i32_7 : BitVec 32 := 1#32
  let v20 : BitVec 32 := Scalar.subi v19 c1_i32_7
  let c0_i32 : BitVec 32 := 0#32
  let v22 : BitVec 1 := Scalar.cmpi .sgt v20 c0_i32
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c512_i32_8 : BitVec 32 := 512#32
  let c0_i32_10 : BitVec 32 := 0#32
  let v27 : BitVec 1 := Scalar.cmpi .sgt c512_i32_8 c0_i32_10
  let v28 : BitVec 32 := Scalar.extui v27
  let c0_i32_11 : BitVec 32 := 0#32
  let v29 : BitVec 1 := Scalar.cmpi .slt c512_i32_8 c0_i32_11
  let v30 : BitVec 32 := Scalar.extui v29
  let v31 : BitVec 32 := Scalar.subi v28 v30
  let v32 : BitVec 1 := Scalar.cmpi .ne v26 v31
  let v33 : BitVec 32 := Scalar.remsi v20 c512_i32_8
  let c0_i32_12 : BitVec 32 := 0#32
  let v34 : BitVec 1 := Scalar.cmpi .ne v33 c0_i32_12
  let v35 : BitVec 1 := Scalar.andi v32 v34
  let v21 : BitVec 32 := Scalar.divsi v20 c512_i32_8
  let c1_i32_13 : BitVec 32 := 1#32
  let v36 : BitVec 32 := Scalar.subi v21 c1_i32_13
  let v37 : BitVec 32 := Scalar.select v35 v36 v21
  let c512_i32_14 : BitVec 32 := 512#32
  let v38 : BitVec 32 := Scalar.muli v37 c512_i32_14
  let v39 : BitVec 32 := Scalar.subi c16384_i32 v38
  let v40 : BitVec 32 := Scalar.minsi v17 v39
  let c0_i32_15 : BitVec 32 := 0#32
  let v41 : BitVec 32 := Scalar.subi v37 c0_i32_15
  let c1_i32_17 : BitVec 32 := 1#32
  let v43 : BitVec 32 := Scalar.divsi v41 c1_i32_17
  let v44 : BitVec 32 := Scalar.muli v43 c1_i32_17
  let v45 : BitVec 32 := Scalar.addi c0_i32_15 v44
  let c1_i32_19 : BitVec 32 := 1#32
  let arg14 : BitVec 32 := Scf.iv v45 c1_i32_19 k0_t2
  let c512_i32_246 : BitVec 32 := 512#32
  let v410 : BitVec 32 := Scalar.muli arg14 c512_i32_246
  let v411 : BitVec 32 := Scalar.addi v40 v410
  let v412 : BitVec 32 := v411
  let v413 : Index := Scalar.indexCast v412
  let c0_247 : Index := 0#32
  ![v413.toNat, 0]
def k0_off6 (i : grid0.Coords) (v16 : BitVec 32) (k0_t2 : Fin (k0_t2_loop i v16).trips) (c0_i32_256 : BitVec 32) : Fin 3 → Nat :=
  let c0_257 : Index := 0#32
  let c0_258 : Index := 0#32
  let c_m128_i32 : BitVec 32 := 4294967168#32
  let v17 : BitVec 32 := Scalar.andi v16 c_m128_i32
  let c16384_i32 : BitVec 32 := 16384#32
  let arg1 : BitVec 32 := BitVec.ofNat 32 (i 1).val
  let c1_i32 : BitVec 32 := 1#32
  let v12 : BitVec 32 := Scalar.addi arg1 c1_i32
  let c128_i32 : BitVec 32 := 128#32
  let v13 : BitVec 32 := Scalar.muli v12 c128_i32
  let v18 : BitVec 32 := Scalar.subi v13 v17
  let c512_i32 : BitVec 32 := 512#32
  let v19 : BitVec 32 := Scalar.addi v18 c512_i32
  let c1_i32_7 : BitVec 32 := 1#32
  let v20 : BitVec 32 := Scalar.subi v19 c1_i32_7
  let c0_i32 : BitVec 32 := 0#32
  let v22 : BitVec 1 := Scalar.cmpi .sgt v20 c0_i32
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c512_i32_8 : BitVec 32 := 512#32
  let c0_i32_10 : BitVec 32 := 0#32
  let v27 : BitVec 1 := Scalar.cmpi .sgt c512_i32_8 c0_i32_10
  let v28 : BitVec 32 := Scalar.extui v27
  let c0_i32_11 : BitVec 32 := 0#32
  let v29 : BitVec 1 := Scalar.cmpi .slt c512_i32_8 c0_i32_11
  let v30 : BitVec 32 := Scalar.extui v29
  let v31 : BitVec 32 := Scalar.subi v28 v30
  let v32 : BitVec 1 := Scalar.cmpi .ne v26 v31
  let v33 : BitVec 32 := Scalar.remsi v20 c512_i32_8
  let c0_i32_12 : BitVec 32 := 0#32
  let v34 : BitVec 1 := Scalar.cmpi .ne v33 c0_i32_12
  let v35 : BitVec 1 := Scalar.andi v32 v34
  let v21 : BitVec 32 := Scalar.divsi v20 c512_i32_8
  let c1_i32_13 : BitVec 32 := 1#32
  let v36 : BitVec 32 := Scalar.subi v21 c1_i32_13
  let v37 : BitVec 32 := Scalar.select v35 v36 v21
  let c512_i32_14 : BitVec 32 := 512#32
  let v38 : BitVec 32 := Scalar.muli v37 c512_i32_14
  let v39 : BitVec 32 := Scalar.subi c16384_i32 v38
  let v40 : BitVec 32 := Scalar.minsi v17 v39
  let c0_i32_15 : BitVec 32 := 0#32
  let v41 : BitVec 32 := Scalar.subi v37 c0_i32_15
  let c1_i32_17 : BitVec 32 := 1#32
  let v43 : BitVec 32 := Scalar.divsi v41 c1_i32_17
  let v44 : BitVec 32 := Scalar.muli v43 c1_i32_17
  let v45 : BitVec 32 := Scalar.addi c0_i32_15 v44
  let c1_i32_19 : BitVec 32 := 1#32
  let arg14 : BitVec 32 := Scf.iv v45 c1_i32_19 k0_t2
  let c512_i32_246 : BitVec 32 := 512#32
  let v410 : BitVec 32 := Scalar.muli arg14 c512_i32_246
  let v411 : BitVec 32 := Scalar.addi v40 v410
  let v412 : BitVec 32 := v411
  let c0_i32_250 : BitVec 32 := 0#32
  let v419 : BitVec 1 := Scalar.cmpi .sgt v412 c0_i32_250
  let v420 : BitVec 32 := Scalar.extui v419
  let c0_i32_251 : BitVec 32 := 0#32
  let v421 : BitVec 1 := Scalar.cmpi .slt v412 c0_i32_251
  let v422 : BitVec 32 := Scalar.extui v421
  let v423 : BitVec 32 := Scalar.subi v420 v422
  let c64_i32_249 : BitVec 32 := 64#32
  let c0_i32_252 : BitVec 32 := 0#32
  let v424 : BitVec 1 := Scalar.cmpi .sgt c64_i32_249 c0_i32_252
  let v425 : BitVec 32 := Scalar.extui v424
  let c0_i32_253 : BitVec 32 := 0#32
  let v426 : BitVec 1 := Scalar.cmpi .slt c64_i32_249 c0_i32_253
  let v427 : BitVec 32 := Scalar.extui v426
  let v428 : BitVec 32 := Scalar.subi v425 v427
  let v429 : BitVec 1 := Scalar.cmpi .ne v423 v428
  let v430 : BitVec 32 := Scalar.remsi v412 c64_i32_249
  let c0_i32_254 : BitVec 32 := 0#32
  let v431 : BitVec 1 := Scalar.cmpi .ne v430 c0_i32_254
  let v432 : BitVec 1 := Scalar.andi v429 v431
  let v418 : BitVec 32 := Scalar.divsi v412 c64_i32_249
  let c1_i32_255 : BitVec 32 := 1#32
  let v433 : BitVec 32 := Scalar.subi v418 c1_i32_255
  let v434 : BitVec 32 := Scalar.select v432 v433 v418
  let v435 : BitVec 32 := Scalar.addi v434 c0_i32_256
  let v436 : Index := Scalar.indexCast v435
  ![0, 0, v436.toNat]
def k0_off7 (i : grid0.Coords) (v16 : BitVec 32) (k0_t2 : Fin (k0_t2_loop i v16).trips) (c0_i32_261 : BitVec 32) : Fin 2 → Nat :=
  let c0_i32_15 : BitVec 32 := 0#32
  let arg1 : BitVec 32 := BitVec.ofNat 32 (i 1).val
  let c1_i32 : BitVec 32 := 1#32
  let v12 : BitVec 32 := Scalar.addi arg1 c1_i32
  let c128_i32 : BitVec 32 := 128#32
  let v13 : BitVec 32 := Scalar.muli v12 c128_i32
  let c_m128_i32 : BitVec 32 := 4294967168#32
  let v17 : BitVec 32 := Scalar.andi v16 c_m128_i32
  let v18 : BitVec 32 := Scalar.subi v13 v17
  let c512_i32 : BitVec 32 := 512#32
  let v19 : BitVec 32 := Scalar.addi v18 c512_i32
  let c1_i32_7 : BitVec 32 := 1#32
  let v20 : BitVec 32 := Scalar.subi v19 c1_i32_7
  let c0_i32 : BitVec 32 := 0#32
  let v22 : BitVec 1 := Scalar.cmpi .sgt v20 c0_i32
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c512_i32_8 : BitVec 32 := 512#32
  let c0_i32_10 : BitVec 32 := 0#32
  let v27 : BitVec 1 := Scalar.cmpi .sgt c512_i32_8 c0_i32_10
  let v28 : BitVec 32 := Scalar.extui v27
  let c0_i32_11 : BitVec 32 := 0#32
  let v29 : BitVec 1 := Scalar.cmpi .slt c512_i32_8 c0_i32_11
  let v30 : BitVec 32 := Scalar.extui v29
  let v31 : BitVec 32 := Scalar.subi v28 v30
  let v32 : BitVec 1 := Scalar.cmpi .ne v26 v31
  let v33 : BitVec 32 := Scalar.remsi v20 c512_i32_8
  let c0_i32_12 : BitVec 32 := 0#32
  let v34 : BitVec 1 := Scalar.cmpi .ne v33 c0_i32_12
  let v35 : BitVec 1 := Scalar.andi v32 v34
  let v21 : BitVec 32 := Scalar.divsi v20 c512_i32_8
  let c1_i32_13 : BitVec 32 := 1#32
  let v36 : BitVec 32 := Scalar.subi v21 c1_i32_13
  let v37 : BitVec 32 := Scalar.select v35 v36 v21
  let v41 : BitVec 32 := Scalar.subi v37 c0_i32_15
  let c1_i32_17 : BitVec 32 := 1#32
  let v43 : BitVec 32 := Scalar.divsi v41 c1_i32_17
  let v44 : BitVec 32 := Scalar.muli v43 c1_i32_17
  let v45 : BitVec 32 := Scalar.addi c0_i32_15 v44
  let c1_i32_19 : BitVec 32 := 1#32
  let arg14 : BitVec 32 := Scf.iv v45 c1_i32_19 k0_t2
  let c512_i32_260 : BitVec 32 := 512#32
  let v441 : BitVec 32 := Scalar.muli arg14 c512_i32_260
  let v442 : BitVec 32 := Scalar.addi v441 c0_i32_261
  let v443 : Index := Scalar.indexCast v442
  let c0_262 : Index := 0#32
  ![v443.toNat, 0]
@[reducible] def k0_t3_loop (i : grid0.Coords) (v16 : BitVec 32) : Scf.Loop 32 :=
  let c0_i32_43 : BitVec 32 := 0#32
  let arg1 : BitVec 32 := BitVec.ofNat 32 (i 1).val
  let c1_i32 : BitVec 32 := 1#32
  let v12 : BitVec 32 := Scalar.addi arg1 c1_i32
  let c128_i32 : BitVec 32 := 128#32
  let v13 : BitVec 32 := Scalar.muli v12 c128_i32
  let c_m128_i32 : BitVec 32 := 4294967168#32
  let v17 : BitVec 32 := Scalar.andi v16 c_m128_i32
  let v18 : BitVec 32 := Scalar.subi v13 v17
  let c512_i32 : BitVec 32 := 512#32
  let v19 : BitVec 32 := Scalar.addi v18 c512_i32
  let c1_i32_7 : BitVec 32 := 1#32
  let v20 : BitVec 32 := Scalar.subi v19 c1_i32_7
  let c0_i32 : BitVec 32 := 0#32
  let v22 : BitVec 1 := Scalar.cmpi .sgt v20 c0_i32
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c512_i32_8 : BitVec 32 := 512#32
  let c0_i32_10 : BitVec 32 := 0#32
  let v27 : BitVec 1 := Scalar.cmpi .sgt c512_i32_8 c0_i32_10
  let v28 : BitVec 32 := Scalar.extui v27
  let c0_i32_11 : BitVec 32 := 0#32
  let v29 : BitVec 1 := Scalar.cmpi .slt c512_i32_8 c0_i32_11
  let v30 : BitVec 32 := Scalar.extui v29
  let v31 : BitVec 32 := Scalar.subi v28 v30
  let v32 : BitVec 1 := Scalar.cmpi .ne v26 v31
  let v33 : BitVec 32 := Scalar.remsi v20 c512_i32_8
  let c0_i32_12 : BitVec 32 := 0#32
  let v34 : BitVec 1 := Scalar.cmpi .ne v33 c0_i32_12
  let v35 : BitVec 1 := Scalar.andi v32 v34
  let v21 : BitVec 32 := Scalar.divsi v20 c512_i32_8
  let c1_i32_13 : BitVec 32 := 1#32
  let v36 : BitVec 32 := Scalar.subi v21 c1_i32_13
  let v37 : BitVec 32 := Scalar.select v35 v36 v21
  let v88 : BitVec 32 := Scalar.subi v37 c0_i32_43
  let c1_i32_44 : BitVec 32 := 1#32
  let v90 : BitVec 32 := Scalar.divsi v88 c1_i32_44
  let v91 : BitVec 32 := Scalar.muli v90 c1_i32_44
  let v92 : BitVec 32 := Scalar.addi c0_i32_43 v91
  let c1_i32_45 : BitVec 32 := 1#32
  ⟨c0_i32_43, v92, c1_i32_45⟩
def k0_mult3 (i : grid0.Coords) (v16 : BitVec 32) (k0_t3 : Fin (k0_t3_loop i v16).trips) : BitVec 32 :=
  let c_m128_i32 : BitVec 32 := 4294967168#32
  let v17 : BitVec 32 := Scalar.andi v16 c_m128_i32
  let c16384_i32 : BitVec 32 := 16384#32
  let arg1 : BitVec 32 := BitVec.ofNat 32 (i 1).val
  let c1_i32 : BitVec 32 := 1#32
  let v12 : BitVec 32 := Scalar.addi arg1 c1_i32
  let c128_i32 : BitVec 32 := 128#32
  let v13 : BitVec 32 := Scalar.muli v12 c128_i32
  let v18 : BitVec 32 := Scalar.subi v13 v17
  let c512_i32 : BitVec 32 := 512#32
  let v19 : BitVec 32 := Scalar.addi v18 c512_i32
  let c1_i32_7 : BitVec 32 := 1#32
  let v20 : BitVec 32 := Scalar.subi v19 c1_i32_7
  let c0_i32 : BitVec 32 := 0#32
  let v22 : BitVec 1 := Scalar.cmpi .sgt v20 c0_i32
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c512_i32_8 : BitVec 32 := 512#32
  let c0_i32_10 : BitVec 32 := 0#32
  let v27 : BitVec 1 := Scalar.cmpi .sgt c512_i32_8 c0_i32_10
  let v28 : BitVec 32 := Scalar.extui v27
  let c0_i32_11 : BitVec 32 := 0#32
  let v29 : BitVec 1 := Scalar.cmpi .slt c512_i32_8 c0_i32_11
  let v30 : BitVec 32 := Scalar.extui v29
  let v31 : BitVec 32 := Scalar.subi v28 v30
  let v32 : BitVec 1 := Scalar.cmpi .ne v26 v31
  let v33 : BitVec 32 := Scalar.remsi v20 c512_i32_8
  let c0_i32_12 : BitVec 32 := 0#32
  let v34 : BitVec 1 := Scalar.cmpi .ne v33 c0_i32_12
  let v35 : BitVec 1 := Scalar.andi v32 v34
  let v21 : BitVec 32 := Scalar.divsi v20 c512_i32_8
  let c1_i32_13 : BitVec 32 := 1#32
  let v36 : BitVec 32 := Scalar.subi v21 c1_i32_13
  let v37 : BitVec 32 := Scalar.select v35 v36 v21
  let c512_i32_14 : BitVec 32 := 512#32
  let v38 : BitVec 32 := Scalar.muli v37 c512_i32_14
  let v39 : BitVec 32 := Scalar.subi c16384_i32 v38
  let v40 : BitVec 32 := Scalar.minsi v17 v39
  let c0_i32_43 : BitVec 32 := 0#32
  let c1_i32_45 : BitVec 32 := 1#32
  let arg14 : BitVec 32 := Scf.iv c0_i32_43 c1_i32_45 k0_t3
  let c512_i32_246 : BitVec 32 := 512#32
  let v410 : BitVec 32 := Scalar.muli arg14 c512_i32_246
  let v411 : BitVec 32 := Scalar.addi v40 v410
  v411
def k0_off8 (i : grid0.Coords) (v16 : BitVec 32) (k0_t3 : Fin (k0_t3_loop i v16).trips) : Fin 2 → Nat :=
  let c_m128_i32 : BitVec 32 := 4294967168#32
  let v17 : BitVec 32 := Scalar.andi v16 c_m128_i32
  let c16384_i32 : BitVec 32 := 16384#32
  let arg1 : BitVec 32 := BitVec.ofNat 32 (i 1).val
  let c1_i32 : BitVec 32 := 1#32
  let v12 : BitVec 32 := Scalar.addi arg1 c1_i32
  let c128_i32 : BitVec 32 := 128#32
  let v13 : BitVec 32 := Scalar.muli v12 c128_i32
  let v18 : BitVec 32 := Scalar.subi v13 v17
  let c512_i32 : BitVec 32 := 512#32
  let v19 : BitVec 32 := Scalar.addi v18 c512_i32
  let c1_i32_7 : BitVec 32 := 1#32
  let v20 : BitVec 32 := Scalar.subi v19 c1_i32_7
  let c0_i32 : BitVec 32 := 0#32
  let v22 : BitVec 1 := Scalar.cmpi .sgt v20 c0_i32
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c512_i32_8 : BitVec 32 := 512#32
  let c0_i32_10 : BitVec 32 := 0#32
  let v27 : BitVec 1 := Scalar.cmpi .sgt c512_i32_8 c0_i32_10
  let v28 : BitVec 32 := Scalar.extui v27
  let c0_i32_11 : BitVec 32 := 0#32
  let v29 : BitVec 1 := Scalar.cmpi .slt c512_i32_8 c0_i32_11
  let v30 : BitVec 32 := Scalar.extui v29
  let v31 : BitVec 32 := Scalar.subi v28 v30
  let v32 : BitVec 1 := Scalar.cmpi .ne v26 v31
  let v33 : BitVec 32 := Scalar.remsi v20 c512_i32_8
  let c0_i32_12 : BitVec 32 := 0#32
  let v34 : BitVec 1 := Scalar.cmpi .ne v33 c0_i32_12
  let v35 : BitVec 1 := Scalar.andi v32 v34
  let v21 : BitVec 32 := Scalar.divsi v20 c512_i32_8
  let c1_i32_13 : BitVec 32 := 1#32
  let v36 : BitVec 32 := Scalar.subi v21 c1_i32_13
  let v37 : BitVec 32 := Scalar.select v35 v36 v21
  let c512_i32_14 : BitVec 32 := 512#32
  let v38 : BitVec 32 := Scalar.muli v37 c512_i32_14
  let v39 : BitVec 32 := Scalar.subi c16384_i32 v38
  let v40 : BitVec 32 := Scalar.minsi v17 v39
  let c0_i32_43 : BitVec 32 := 0#32
  let c1_i32_45 : BitVec 32 := 1#32
  let arg14 : BitVec 32 := Scf.iv c0_i32_43 c1_i32_45 k0_t3
  let c512_i32_246 : BitVec 32 := 512#32
  let v410 : BitVec 32 := Scalar.muli arg14 c512_i32_246
  let v411 : BitVec 32 := Scalar.addi v40 v410
  let v412 : BitVec 32 := v411
  let v413 : Index := Scalar.indexCast v412
  let c0_247 : Index := 0#32
  ![v413.toNat, 0]
def k0_off9 (i : grid0.Coords) (v16 : BitVec 32) (k0_t3 : Fin (k0_t3_loop i v16).trips) (c0_i32_256 : BitVec 32) : Fin 3 → Nat :=
  let c0_257 : Index := 0#32
  let c0_258 : Index := 0#32
  let c_m128_i32 : BitVec 32 := 4294967168#32
  let v17 : BitVec 32 := Scalar.andi v16 c_m128_i32
  let c16384_i32 : BitVec 32 := 16384#32
  let arg1 : BitVec 32 := BitVec.ofNat 32 (i 1).val
  let c1_i32 : BitVec 32 := 1#32
  let v12 : BitVec 32 := Scalar.addi arg1 c1_i32
  let c128_i32 : BitVec 32 := 128#32
  let v13 : BitVec 32 := Scalar.muli v12 c128_i32
  let v18 : BitVec 32 := Scalar.subi v13 v17
  let c512_i32 : BitVec 32 := 512#32
  let v19 : BitVec 32 := Scalar.addi v18 c512_i32
  let c1_i32_7 : BitVec 32 := 1#32
  let v20 : BitVec 32 := Scalar.subi v19 c1_i32_7
  let c0_i32 : BitVec 32 := 0#32
  let v22 : BitVec 1 := Scalar.cmpi .sgt v20 c0_i32
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c512_i32_8 : BitVec 32 := 512#32
  let c0_i32_10 : BitVec 32 := 0#32
  let v27 : BitVec 1 := Scalar.cmpi .sgt c512_i32_8 c0_i32_10
  let v28 : BitVec 32 := Scalar.extui v27
  let c0_i32_11 : BitVec 32 := 0#32
  let v29 : BitVec 1 := Scalar.cmpi .slt c512_i32_8 c0_i32_11
  let v30 : BitVec 32 := Scalar.extui v29
  let v31 : BitVec 32 := Scalar.subi v28 v30
  let v32 : BitVec 1 := Scalar.cmpi .ne v26 v31
  let v33 : BitVec 32 := Scalar.remsi v20 c512_i32_8
  let c0_i32_12 : BitVec 32 := 0#32
  let v34 : BitVec 1 := Scalar.cmpi .ne v33 c0_i32_12
  let v35 : BitVec 1 := Scalar.andi v32 v34
  let v21 : BitVec 32 := Scalar.divsi v20 c512_i32_8
  let c1_i32_13 : BitVec 32 := 1#32
  let v36 : BitVec 32 := Scalar.subi v21 c1_i32_13
  let v37 : BitVec 32 := Scalar.select v35 v36 v21
  let c512_i32_14 : BitVec 32 := 512#32
  let v38 : BitVec 32 := Scalar.muli v37 c512_i32_14
  let v39 : BitVec 32 := Scalar.subi c16384_i32 v38
  let v40 : BitVec 32 := Scalar.minsi v17 v39
  let c0_i32_43 : BitVec 32 := 0#32
  let c1_i32_45 : BitVec 32 := 1#32
  let arg14 : BitVec 32 := Scf.iv c0_i32_43 c1_i32_45 k0_t3
  let c512_i32_246 : BitVec 32 := 512#32
  let v410 : BitVec 32 := Scalar.muli arg14 c512_i32_246
  let v411 : BitVec 32 := Scalar.addi v40 v410
  let v412 : BitVec 32 := v411
  let c0_i32_250 : BitVec 32 := 0#32
  let v417 : BitVec 1 := Scalar.cmpi .sgt v412 c0_i32_250
  let v418 : BitVec 32 := Scalar.extui v417
  let c0_i32_251 : BitVec 32 := 0#32
  let v419 : BitVec 1 := Scalar.cmpi .slt v412 c0_i32_251
  let v420 : BitVec 32 := Scalar.extui v419
  let v421 : BitVec 32 := Scalar.subi v418 v420
  let c64_i32_249 : BitVec 32 := 64#32
  let c0_i32_252 : BitVec 32 := 0#32
  let v422 : BitVec 1 := Scalar.cmpi .sgt c64_i32_249 c0_i32_252
  let v423 : BitVec 32 := Scalar.extui v422
  let c0_i32_253 : BitVec 32 := 0#32
  let v424 : BitVec 1 := Scalar.cmpi .slt c64_i32_249 c0_i32_253
  let v425 : BitVec 32 := Scalar.extui v424
  let v426 : BitVec 32 := Scalar.subi v423 v425
  let v427 : BitVec 1 := Scalar.cmpi .ne v421 v426
  let v428 : BitVec 32 := Scalar.remsi v412 c64_i32_249
  let c0_i32_254 : BitVec 32 := 0#32
  let v429 : BitVec 1 := Scalar.cmpi .ne v428 c0_i32_254
  let v430 : BitVec 1 := Scalar.andi v427 v429
  let v416 : BitVec 32 := Scalar.divsi v412 c64_i32_249
  let c1_i32_255 : BitVec 32 := 1#32
  let v431 : BitVec 32 := Scalar.subi v416 c1_i32_255
  let v432 : BitVec 32 := Scalar.select v430 v431 v416
  let v433 : BitVec 32 := Scalar.addi v432 c0_i32_256
  let v434 : Index := Scalar.indexCast v433
  ![0, 0, v434.toNat]
def k0_off10 (i : grid0.Coords) (v16 : BitVec 32) (k0_t3 : Fin (k0_t3_loop i v16).trips) (c0_i32_260 : BitVec 32) : Fin 2 → Nat :=
  let c0_i32_43 : BitVec 32 := 0#32
  let c1_i32_45 : BitVec 32 := 1#32
  let arg14 : BitVec 32 := Scf.iv c0_i32_43 c1_i32_45 k0_t3
  let c512_i32_259 : BitVec 32 := 512#32
  let v438 : BitVec 32 := Scalar.muli arg14 c512_i32_259
  let v439 : BitVec 32 := Scalar.addi v438 c0_i32_260
  let v440 : Index := Scalar.indexCast v439
  let c0_261 : Index := 0#32
  ![v440.toNat, 0]
def k0_off11 (i : grid0.Coords) (v16 : BitVec 32) (k0_t3 : Fin (k0_t3_loop i v16).trips) (c0_i32_265 : BitVec 32) : Fin 2 → Nat :=
  let c0_i32_43 : BitVec 32 := 0#32
  let c1_i32_45 : BitVec 32 := 1#32
  let arg14 : BitVec 32 := Scf.iv c0_i32_43 c1_i32_45 k0_t3
  let c512_i32_264 : BitVec 32 := 512#32
  let v457 : BitVec 32 := Scalar.muli arg14 c512_i32_264
  let v458 : BitVec 32 := Scalar.addi v457 c0_i32_265
  let v459 : Index := Scalar.indexCast v458
  let c0_266 : Index := 0#32
  ![v459.toNat, 0]
def k0_off12 (i : grid0.Coords) (v16 : BitVec 32) (k0_t3 : Fin (k0_t3_loop i v16).trips) (c0_i32_270 : BitVec 32) : Fin 2 → Nat :=
  let c0_i32_43 : BitVec 32 := 0#32
  let c1_i32_45 : BitVec 32 := 1#32
  let arg14 : BitVec 32 := Scf.iv c0_i32_43 c1_i32_45 k0_t3
  let c512_i32_269 : BitVec 32 := 512#32
  let v477 : BitVec 32 := Scalar.muli arg14 c512_i32_269
  let v478 : BitVec 32 := Scalar.addi v477 c0_i32_270
  let v479 : Index := Scalar.indexCast v478
  let c128_271 : Index := 128#32
  ![v479.toNat, 128]
def k0_off13 (i : grid0.Coords) (v16 : BitVec 32) (k0_t3 : Fin (k0_t3_loop i v16).trips) (c0_i32_275 : BitVec 32) : Fin 2 → Nat :=
  let c0_i32_43 : BitVec 32 := 0#32
  let c1_i32_45 : BitVec 32 := 1#32
  let arg14 : BitVec 32 := Scf.iv c0_i32_43 c1_i32_45 k0_t3
  let c512_i32_274 : BitVec 32 := 512#32
  let v497 : BitVec 32 := Scalar.muli arg14 c512_i32_274
  let v498 : BitVec 32 := Scalar.addi v497 c0_i32_275
  let v499 : Index := Scalar.indexCast v498
  let c256_276 : Index := 256#32
  ![v499.toNat, 256]
def k0_off14 (i : grid0.Coords) (v16 : BitVec 32) (k0_t3 : Fin (k0_t3_loop i v16).trips) (c0_i32_280 : BitVec 32) : Fin 2 → Nat :=
  let c0_i32_43 : BitVec 32 := 0#32
  let c1_i32_45 : BitVec 32 := 1#32
  let arg14 : BitVec 32 := Scf.iv c0_i32_43 c1_i32_45 k0_t3
  let c512_i32_279 : BitVec 32 := 512#32
  let v517 : BitVec 32 := Scalar.muli arg14 c512_i32_279
  let v518 : BitVec 32 := Scalar.addi v517 c0_i32_280
  let v519 : Index := Scalar.indexCast v518
  let c384_281 : Index := 384#32
  ![v519.toNat, 384]
@[reducible] def k0_t4_loop (i : grid0.Coords) (v16 : BitVec 32) : Scf.Loop 32 :=
  let c0_i32_43 : BitVec 32 := 0#32
  let arg1 : BitVec 32 := BitVec.ofNat 32 (i 1).val
  let c1_i32 : BitVec 32 := 1#32
  let v12 : BitVec 32 := Scalar.addi arg1 c1_i32
  let c128_i32 : BitVec 32 := 128#32
  let v13 : BitVec 32 := Scalar.muli v12 c128_i32
  let c_m128_i32 : BitVec 32 := 4294967168#32
  let v17 : BitVec 32 := Scalar.andi v16 c_m128_i32
  let v18 : BitVec 32 := Scalar.subi v13 v17
  let c512_i32 : BitVec 32 := 512#32
  let v19 : BitVec 32 := Scalar.addi v18 c512_i32
  let c1_i32_7 : BitVec 32 := 1#32
  let v20 : BitVec 32 := Scalar.subi v19 c1_i32_7
  let c0_i32 : BitVec 32 := 0#32
  let v22 : BitVec 1 := Scalar.cmpi .sgt v20 c0_i32
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c512_i32_8 : BitVec 32 := 512#32
  let c0_i32_10 : BitVec 32 := 0#32
  let v27 : BitVec 1 := Scalar.cmpi .sgt c512_i32_8 c0_i32_10
  let v28 : BitVec 32 := Scalar.extui v27
  let c0_i32_11 : BitVec 32 := 0#32
  let v29 : BitVec 1 := Scalar.cmpi .slt c512_i32_8 c0_i32_11
  let v30 : BitVec 32 := Scalar.extui v29
  let v31 : BitVec 32 := Scalar.subi v28 v30
  let v32 : BitVec 1 := Scalar.cmpi .ne v26 v31
  let v33 : BitVec 32 := Scalar.remsi v20 c512_i32_8
  let c0_i32_12 : BitVec 32 := 0#32
  let v34 : BitVec 1 := Scalar.cmpi .ne v33 c0_i32_12
  let v35 : BitVec 1 := Scalar.andi v32 v34
  let v21 : BitVec 32 := Scalar.divsi v20 c512_i32_8
  let c1_i32_13 : BitVec 32 := 1#32
  let v36 : BitVec 32 := Scalar.subi v21 c1_i32_13
  let v37 : BitVec 32 := Scalar.select v35 v36 v21
  let v88 : BitVec 32 := Scalar.subi v37 c0_i32_43
  let c1_i32_44 : BitVec 32 := 1#32
  let v90 : BitVec 32 := Scalar.divsi v88 c1_i32_44
  let v91 : BitVec 32 := Scalar.muli v90 c1_i32_44
  let v92 : BitVec 32 := Scalar.addi c0_i32_43 v91
  let v89 : BitVec 32 := Scalar.addi c0_i32_43 v88
  let c1_i32_46 : BitVec 32 := 1#32
  ⟨v92, v89, c1_i32_46⟩
def k0_mult4 (i : grid0.Coords) (v16 : BitVec 32) (k0_t4 : Fin (k0_t4_loop i v16).trips) : BitVec 32 :=
  let c_m128_i32 : BitVec 32 := 4294967168#32
  let v17 : BitVec 32 := Scalar.andi v16 c_m128_i32
  let c16384_i32 : BitVec 32 := 16384#32
  let arg1 : BitVec 32 := BitVec.ofNat 32 (i 1).val
  let c1_i32 : BitVec 32 := 1#32
  let v12 : BitVec 32 := Scalar.addi arg1 c1_i32
  let c128_i32 : BitVec 32 := 128#32
  let v13 : BitVec 32 := Scalar.muli v12 c128_i32
  let v18 : BitVec 32 := Scalar.subi v13 v17
  let c512_i32 : BitVec 32 := 512#32
  let v19 : BitVec 32 := Scalar.addi v18 c512_i32
  let c1_i32_7 : BitVec 32 := 1#32
  let v20 : BitVec 32 := Scalar.subi v19 c1_i32_7
  let c0_i32 : BitVec 32 := 0#32
  let v22 : BitVec 1 := Scalar.cmpi .sgt v20 c0_i32
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c512_i32_8 : BitVec 32 := 512#32
  let c0_i32_10 : BitVec 32 := 0#32
  let v27 : BitVec 1 := Scalar.cmpi .sgt c512_i32_8 c0_i32_10
  let v28 : BitVec 32 := Scalar.extui v27
  let c0_i32_11 : BitVec 32 := 0#32
  let v29 : BitVec 1 := Scalar.cmpi .slt c512_i32_8 c0_i32_11
  let v30 : BitVec 32 := Scalar.extui v29
  let v31 : BitVec 32 := Scalar.subi v28 v30
  let v32 : BitVec 1 := Scalar.cmpi .ne v26 v31
  let v33 : BitVec 32 := Scalar.remsi v20 c512_i32_8
  let c0_i32_12 : BitVec 32 := 0#32
  let v34 : BitVec 1 := Scalar.cmpi .ne v33 c0_i32_12
  let v35 : BitVec 1 := Scalar.andi v32 v34
  let v21 : BitVec 32 := Scalar.divsi v20 c512_i32_8
  let c1_i32_13 : BitVec 32 := 1#32
  let v36 : BitVec 32 := Scalar.subi v21 c1_i32_13
  let v37 : BitVec 32 := Scalar.select v35 v36 v21
  let c512_i32_14 : BitVec 32 := 512#32
  let v38 : BitVec 32 := Scalar.muli v37 c512_i32_14
  let v39 : BitVec 32 := Scalar.subi c16384_i32 v38
  let v40 : BitVec 32 := Scalar.minsi v17 v39
  let c0_i32_43 : BitVec 32 := 0#32
  let v88 : BitVec 32 := Scalar.subi v37 c0_i32_43
  let c1_i32_44 : BitVec 32 := 1#32
  let v90 : BitVec 32 := Scalar.divsi v88 c1_i32_44
  let v91 : BitVec 32 := Scalar.muli v90 c1_i32_44
  let v92 : BitVec 32 := Scalar.addi c0_i32_43 v91
  let c1_i32_46 : BitVec 32 := 1#32
  let arg14 : BitVec 32 := Scf.iv v92 c1_i32_46 k0_t4
  let c512_i32_246 : BitVec 32 := 512#32
  let v410 : BitVec 32 := Scalar.muli arg14 c512_i32_246
  let v411 : BitVec 32 := Scalar.addi v40 v410
  v411
def k0_off15 (i : grid0.Coords) (v16 : BitVec 32) (k0_t4 : Fin (k0_t4_loop i v16).trips) : Fin 2 → Nat :=
  let c_m128_i32 : BitVec 32 := 4294967168#32
  let v17 : BitVec 32 := Scalar.andi v16 c_m128_i32
  let c16384_i32 : BitVec 32 := 16384#32
  let arg1 : BitVec 32 := BitVec.ofNat 32 (i 1).val
  let c1_i32 : BitVec 32 := 1#32
  let v12 : BitVec 32 := Scalar.addi arg1 c1_i32
  let c128_i32 : BitVec 32 := 128#32
  let v13 : BitVec 32 := Scalar.muli v12 c128_i32
  let v18 : BitVec 32 := Scalar.subi v13 v17
  let c512_i32 : BitVec 32 := 512#32
  let v19 : BitVec 32 := Scalar.addi v18 c512_i32
  let c1_i32_7 : BitVec 32 := 1#32
  let v20 : BitVec 32 := Scalar.subi v19 c1_i32_7
  let c0_i32 : BitVec 32 := 0#32
  let v22 : BitVec 1 := Scalar.cmpi .sgt v20 c0_i32
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c512_i32_8 : BitVec 32 := 512#32
  let c0_i32_10 : BitVec 32 := 0#32
  let v27 : BitVec 1 := Scalar.cmpi .sgt c512_i32_8 c0_i32_10
  let v28 : BitVec 32 := Scalar.extui v27
  let c0_i32_11 : BitVec 32 := 0#32
  let v29 : BitVec 1 := Scalar.cmpi .slt c512_i32_8 c0_i32_11
  let v30 : BitVec 32 := Scalar.extui v29
  let v31 : BitVec 32 := Scalar.subi v28 v30
  let v32 : BitVec 1 := Scalar.cmpi .ne v26 v31
  let v33 : BitVec 32 := Scalar.remsi v20 c512_i32_8
  let c0_i32_12 : BitVec 32 := 0#32
  let v34 : BitVec 1 := Scalar.cmpi .ne v33 c0_i32_12
  let v35 : BitVec 1 := Scalar.andi v32 v34
  let v21 : BitVec 32 := Scalar.divsi v20 c512_i32_8
  let c1_i32_13 : BitVec 32 := 1#32
  let v36 : BitVec 32 := Scalar.subi v21 c1_i32_13
  let v37 : BitVec 32 := Scalar.select v35 v36 v21
  let c512_i32_14 : BitVec 32 := 512#32
  let v38 : BitVec 32 := Scalar.muli v37 c512_i32_14
  let v39 : BitVec 32 := Scalar.subi c16384_i32 v38
  let v40 : BitVec 32 := Scalar.minsi v17 v39
  let c0_i32_43 : BitVec 32 := 0#32
  let v88 : BitVec 32 := Scalar.subi v37 c0_i32_43
  let c1_i32_44 : BitVec 32 := 1#32
  let v90 : BitVec 32 := Scalar.divsi v88 c1_i32_44
  let v91 : BitVec 32 := Scalar.muli v90 c1_i32_44
  let v92 : BitVec 32 := Scalar.addi c0_i32_43 v91
  let c1_i32_46 : BitVec 32 := 1#32
  let arg14 : BitVec 32 := Scf.iv v92 c1_i32_46 k0_t4
  let c512_i32_246 : BitVec 32 := 512#32
  let v410 : BitVec 32 := Scalar.muli arg14 c512_i32_246
  let v411 : BitVec 32 := Scalar.addi v40 v410
  let v412 : BitVec 32 := v411
  let v413 : Index := Scalar.indexCast v412
  let c0_247 : Index := 0#32
  ![v413.toNat, 0]
def k0_off16 (i : grid0.Coords) (v16 : BitVec 32) (k0_t4 : Fin (k0_t4_loop i v16).trips) (c0_i32_256 : BitVec 32) : Fin 3 → Nat :=
  let c0_257 : Index := 0#32
  let c0_258 : Index := 0#32
  let c_m128_i32 : BitVec 32 := 4294967168#32
  let v17 : BitVec 32 := Scalar.andi v16 c_m128_i32
  let c16384_i32 : BitVec 32 := 16384#32
  let arg1 : BitVec 32 := BitVec.ofNat 32 (i 1).val
  let c1_i32 : BitVec 32 := 1#32
  let v12 : BitVec 32 := Scalar.addi arg1 c1_i32
  let c128_i32 : BitVec 32 := 128#32
  let v13 : BitVec 32 := Scalar.muli v12 c128_i32
  let v18 : BitVec 32 := Scalar.subi v13 v17
  let c512_i32 : BitVec 32 := 512#32
  let v19 : BitVec 32 := Scalar.addi v18 c512_i32
  let c1_i32_7 : BitVec 32 := 1#32
  let v20 : BitVec 32 := Scalar.subi v19 c1_i32_7
  let c0_i32 : BitVec 32 := 0#32
  let v22 : BitVec 1 := Scalar.cmpi .sgt v20 c0_i32
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c512_i32_8 : BitVec 32 := 512#32
  let c0_i32_10 : BitVec 32 := 0#32
  let v27 : BitVec 1 := Scalar.cmpi .sgt c512_i32_8 c0_i32_10
  let v28 : BitVec 32 := Scalar.extui v27
  let c0_i32_11 : BitVec 32 := 0#32
  let v29 : BitVec 1 := Scalar.cmpi .slt c512_i32_8 c0_i32_11
  let v30 : BitVec 32 := Scalar.extui v29
  let v31 : BitVec 32 := Scalar.subi v28 v30
  let v32 : BitVec 1 := Scalar.cmpi .ne v26 v31
  let v33 : BitVec 32 := Scalar.remsi v20 c512_i32_8
  let c0_i32_12 : BitVec 32 := 0#32
  let v34 : BitVec 1 := Scalar.cmpi .ne v33 c0_i32_12
  let v35 : BitVec 1 := Scalar.andi v32 v34
  let v21 : BitVec 32 := Scalar.divsi v20 c512_i32_8
  let c1_i32_13 : BitVec 32 := 1#32
  let v36 : BitVec 32 := Scalar.subi v21 c1_i32_13
  let v37 : BitVec 32 := Scalar.select v35 v36 v21
  let c512_i32_14 : BitVec 32 := 512#32
  let v38 : BitVec 32 := Scalar.muli v37 c512_i32_14
  let v39 : BitVec 32 := Scalar.subi c16384_i32 v38
  let v40 : BitVec 32 := Scalar.minsi v17 v39
  let c0_i32_43 : BitVec 32 := 0#32
  let v88 : BitVec 32 := Scalar.subi v37 c0_i32_43
  let c1_i32_44 : BitVec 32 := 1#32
  let v90 : BitVec 32 := Scalar.divsi v88 c1_i32_44
  let v91 : BitVec 32 := Scalar.muli v90 c1_i32_44
  let v92 : BitVec 32 := Scalar.addi c0_i32_43 v91
  let c1_i32_46 : BitVec 32 := 1#32
  let arg14 : BitVec 32 := Scf.iv v92 c1_i32_46 k0_t4
  let c512_i32_246 : BitVec 32 := 512#32
  let v410 : BitVec 32 := Scalar.muli arg14 c512_i32_246
  let v411 : BitVec 32 := Scalar.addi v40 v410
  let v412 : BitVec 32 := v411
  let c0_i32_250 : BitVec 32 := 0#32
  let v417 : BitVec 1 := Scalar.cmpi .sgt v412 c0_i32_250
  let v418 : BitVec 32 := Scalar.extui v417
  let c0_i32_251 : BitVec 32 := 0#32
  let v419 : BitVec 1 := Scalar.cmpi .slt v412 c0_i32_251
  let v420 : BitVec 32 := Scalar.extui v419
  let v421 : BitVec 32 := Scalar.subi v418 v420
  let c64_i32_249 : BitVec 32 := 64#32
  let c0_i32_252 : BitVec 32 := 0#32
  let v422 : BitVec 1 := Scalar.cmpi .sgt c64_i32_249 c0_i32_252
  let v423 : BitVec 32 := Scalar.extui v422
  let c0_i32_253 : BitVec 32 := 0#32
  let v424 : BitVec 1 := Scalar.cmpi .slt c64_i32_249 c0_i32_253
  let v425 : BitVec 32 := Scalar.extui v424
  let v426 : BitVec 32 := Scalar.subi v423 v425
  let v427 : BitVec 1 := Scalar.cmpi .ne v421 v426
  let v428 : BitVec 32 := Scalar.remsi v412 c64_i32_249
  let c0_i32_254 : BitVec 32 := 0#32
  let v429 : BitVec 1 := Scalar.cmpi .ne v428 c0_i32_254
  let v430 : BitVec 1 := Scalar.andi v427 v429
  let v416 : BitVec 32 := Scalar.divsi v412 c64_i32_249
  let c1_i32_255 : BitVec 32 := 1#32
  let v431 : BitVec 32 := Scalar.subi v416 c1_i32_255
  let v432 : BitVec 32 := Scalar.select v430 v431 v416
  let v433 : BitVec 32 := Scalar.addi v432 c0_i32_256
  let v434 : Index := Scalar.indexCast v433
  ![0, 0, v434.toNat]
def k0_off17 (i : grid0.Coords) (v16 : BitVec 32) (k0_t4 : Fin (k0_t4_loop i v16).trips) (c0_i32_260 : BitVec 32) : Fin 2 → Nat :=
  let c0_i32_43 : BitVec 32 := 0#32
  let arg1 : BitVec 32 := BitVec.ofNat 32 (i 1).val
  let c1_i32 : BitVec 32 := 1#32
  let v12 : BitVec 32 := Scalar.addi arg1 c1_i32
  let c128_i32 : BitVec 32 := 128#32
  let v13 : BitVec 32 := Scalar.muli v12 c128_i32
  let c_m128_i32 : BitVec 32 := 4294967168#32
  let v17 : BitVec 32 := Scalar.andi v16 c_m128_i32
  let v18 : BitVec 32 := Scalar.subi v13 v17
  let c512_i32 : BitVec 32 := 512#32
  let v19 : BitVec 32 := Scalar.addi v18 c512_i32
  let c1_i32_7 : BitVec 32 := 1#32
  let v20 : BitVec 32 := Scalar.subi v19 c1_i32_7
  let c0_i32 : BitVec 32 := 0#32
  let v22 : BitVec 1 := Scalar.cmpi .sgt v20 c0_i32
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c512_i32_8 : BitVec 32 := 512#32
  let c0_i32_10 : BitVec 32 := 0#32
  let v27 : BitVec 1 := Scalar.cmpi .sgt c512_i32_8 c0_i32_10
  let v28 : BitVec 32 := Scalar.extui v27
  let c0_i32_11 : BitVec 32 := 0#32
  let v29 : BitVec 1 := Scalar.cmpi .slt c512_i32_8 c0_i32_11
  let v30 : BitVec 32 := Scalar.extui v29
  let v31 : BitVec 32 := Scalar.subi v28 v30
  let v32 : BitVec 1 := Scalar.cmpi .ne v26 v31
  let v33 : BitVec 32 := Scalar.remsi v20 c512_i32_8
  let c0_i32_12 : BitVec 32 := 0#32
  let v34 : BitVec 1 := Scalar.cmpi .ne v33 c0_i32_12
  let v35 : BitVec 1 := Scalar.andi v32 v34
  let v21 : BitVec 32 := Scalar.divsi v20 c512_i32_8
  let c1_i32_13 : BitVec 32 := 1#32
  let v36 : BitVec 32 := Scalar.subi v21 c1_i32_13
  let v37 : BitVec 32 := Scalar.select v35 v36 v21
  let v88 : BitVec 32 := Scalar.subi v37 c0_i32_43
  let c1_i32_44 : BitVec 32 := 1#32
  let v90 : BitVec 32 := Scalar.divsi v88 c1_i32_44
  let v91 : BitVec 32 := Scalar.muli v90 c1_i32_44
  let v92 : BitVec 32 := Scalar.addi c0_i32_43 v91
  let c1_i32_46 : BitVec 32 := 1#32
  let arg14 : BitVec 32 := Scf.iv v92 c1_i32_46 k0_t4
  let c512_i32_259 : BitVec 32 := 512#32
  let v438 : BitVec 32 := Scalar.muli arg14 c512_i32_259
  let v439 : BitVec 32 := Scalar.addi v438 c0_i32_260
  let v440 : Index := Scalar.indexCast v439
  let c0_261 : Index := 0#32
  ![v440.toNat, 0]
def k0_off18 (i : grid0.Coords) (v16 : BitVec 32) (k0_t4 : Fin (k0_t4_loop i v16).trips) (c0_i32_265 : BitVec 32) : Fin 2 → Nat :=
  let c0_i32_43 : BitVec 32 := 0#32
  let arg1 : BitVec 32 := BitVec.ofNat 32 (i 1).val
  let c1_i32 : BitVec 32 := 1#32
  let v12 : BitVec 32 := Scalar.addi arg1 c1_i32
  let c128_i32 : BitVec 32 := 128#32
  let v13 : BitVec 32 := Scalar.muli v12 c128_i32
  let c_m128_i32 : BitVec 32 := 4294967168#32
  let v17 : BitVec 32 := Scalar.andi v16 c_m128_i32
  let v18 : BitVec 32 := Scalar.subi v13 v17
  let c512_i32 : BitVec 32 := 512#32
  let v19 : BitVec 32 := Scalar.addi v18 c512_i32
  let c1_i32_7 : BitVec 32 := 1#32
  let v20 : BitVec 32 := Scalar.subi v19 c1_i32_7
  let c0_i32 : BitVec 32 := 0#32
  let v22 : BitVec 1 := Scalar.cmpi .sgt v20 c0_i32
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c512_i32_8 : BitVec 32 := 512#32
  let c0_i32_10 : BitVec 32 := 0#32
  let v27 : BitVec 1 := Scalar.cmpi .sgt c512_i32_8 c0_i32_10
  let v28 : BitVec 32 := Scalar.extui v27
  let c0_i32_11 : BitVec 32 := 0#32
  let v29 : BitVec 1 := Scalar.cmpi .slt c512_i32_8 c0_i32_11
  let v30 : BitVec 32 := Scalar.extui v29
  let v31 : BitVec 32 := Scalar.subi v28 v30
  let v32 : BitVec 1 := Scalar.cmpi .ne v26 v31
  let v33 : BitVec 32 := Scalar.remsi v20 c512_i32_8
  let c0_i32_12 : BitVec 32 := 0#32
  let v34 : BitVec 1 := Scalar.cmpi .ne v33 c0_i32_12
  let v35 : BitVec 1 := Scalar.andi v32 v34
  let v21 : BitVec 32 := Scalar.divsi v20 c512_i32_8
  let c1_i32_13 : BitVec 32 := 1#32
  let v36 : BitVec 32 := Scalar.subi v21 c1_i32_13
  let v37 : BitVec 32 := Scalar.select v35 v36 v21
  let v88 : BitVec 32 := Scalar.subi v37 c0_i32_43
  let c1_i32_44 : BitVec 32 := 1#32
  let v90 : BitVec 32 := Scalar.divsi v88 c1_i32_44
  let v91 : BitVec 32 := Scalar.muli v90 c1_i32_44
  let v92 : BitVec 32 := Scalar.addi c0_i32_43 v91
  let c1_i32_46 : BitVec 32 := 1#32
  let arg14 : BitVec 32 := Scf.iv v92 c1_i32_46 k0_t4
  let c512_i32_264 : BitVec 32 := 512#32
  let v457 : BitVec 32 := Scalar.muli arg14 c512_i32_264
  let v458 : BitVec 32 := Scalar.addi v457 c0_i32_265
  let v459 : Index := Scalar.indexCast v458
  let c0_266 : Index := 0#32
  ![v459.toNat, 0]
def k0_off19 (i : grid0.Coords) (v16 : BitVec 32) (k0_t4 : Fin (k0_t4_loop i v16).trips) (c0_i32_270 : BitVec 32) : Fin 2 → Nat :=
  let c0_i32_43 : BitVec 32 := 0#32
  let arg1 : BitVec 32 := BitVec.ofNat 32 (i 1).val
  let c1_i32 : BitVec 32 := 1#32
  let v12 : BitVec 32 := Scalar.addi arg1 c1_i32
  let c128_i32 : BitVec 32 := 128#32
  let v13 : BitVec 32 := Scalar.muli v12 c128_i32
  let c_m128_i32 : BitVec 32 := 4294967168#32
  let v17 : BitVec 32 := Scalar.andi v16 c_m128_i32
  let v18 : BitVec 32 := Scalar.subi v13 v17
  let c512_i32 : BitVec 32 := 512#32
  let v19 : BitVec 32 := Scalar.addi v18 c512_i32
  let c1_i32_7 : BitVec 32 := 1#32
  let v20 : BitVec 32 := Scalar.subi v19 c1_i32_7
  let c0_i32 : BitVec 32 := 0#32
  let v22 : BitVec 1 := Scalar.cmpi .sgt v20 c0_i32
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c512_i32_8 : BitVec 32 := 512#32
  let c0_i32_10 : BitVec 32 := 0#32
  let v27 : BitVec 1 := Scalar.cmpi .sgt c512_i32_8 c0_i32_10
  let v28 : BitVec 32 := Scalar.extui v27
  let c0_i32_11 : BitVec 32 := 0#32
  let v29 : BitVec 1 := Scalar.cmpi .slt c512_i32_8 c0_i32_11
  let v30 : BitVec 32 := Scalar.extui v29
  let v31 : BitVec 32 := Scalar.subi v28 v30
  let v32 : BitVec 1 := Scalar.cmpi .ne v26 v31
  let v33 : BitVec 32 := Scalar.remsi v20 c512_i32_8
  let c0_i32_12 : BitVec 32 := 0#32
  let v34 : BitVec 1 := Scalar.cmpi .ne v33 c0_i32_12
  let v35 : BitVec 1 := Scalar.andi v32 v34
  let v21 : BitVec 32 := Scalar.divsi v20 c512_i32_8
  let c1_i32_13 : BitVec 32 := 1#32
  let v36 : BitVec 32 := Scalar.subi v21 c1_i32_13
  let v37 : BitVec 32 := Scalar.select v35 v36 v21
  let v88 : BitVec 32 := Scalar.subi v37 c0_i32_43
  let c1_i32_44 : BitVec 32 := 1#32
  let v90 : BitVec 32 := Scalar.divsi v88 c1_i32_44
  let v91 : BitVec 32 := Scalar.muli v90 c1_i32_44
  let v92 : BitVec 32 := Scalar.addi c0_i32_43 v91
  let c1_i32_46 : BitVec 32 := 1#32
  let arg14 : BitVec 32 := Scf.iv v92 c1_i32_46 k0_t4
  let c512_i32_269 : BitVec 32 := 512#32
  let v477 : BitVec 32 := Scalar.muli arg14 c512_i32_269
  let v478 : BitVec 32 := Scalar.addi v477 c0_i32_270
  let v479 : Index := Scalar.indexCast v478
  let c128_271 : Index := 128#32
  ![v479.toNat, 128]
def k0_off20 (i : grid0.Coords) (v16 : BitVec 32) (k0_t4 : Fin (k0_t4_loop i v16).trips) (c0_i32_275 : BitVec 32) : Fin 2 → Nat :=
  let c0_i32_43 : BitVec 32 := 0#32
  let arg1 : BitVec 32 := BitVec.ofNat 32 (i 1).val
  let c1_i32 : BitVec 32 := 1#32
  let v12 : BitVec 32 := Scalar.addi arg1 c1_i32
  let c128_i32 : BitVec 32 := 128#32
  let v13 : BitVec 32 := Scalar.muli v12 c128_i32
  let c_m128_i32 : BitVec 32 := 4294967168#32
  let v17 : BitVec 32 := Scalar.andi v16 c_m128_i32
  let v18 : BitVec 32 := Scalar.subi v13 v17
  let c512_i32 : BitVec 32 := 512#32
  let v19 : BitVec 32 := Scalar.addi v18 c512_i32
  let c1_i32_7 : BitVec 32 := 1#32
  let v20 : BitVec 32 := Scalar.subi v19 c1_i32_7
  let c0_i32 : BitVec 32 := 0#32
  let v22 : BitVec 1 := Scalar.cmpi .sgt v20 c0_i32
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c512_i32_8 : BitVec 32 := 512#32
  let c0_i32_10 : BitVec 32 := 0#32
  let v27 : BitVec 1 := Scalar.cmpi .sgt c512_i32_8 c0_i32_10
  let v28 : BitVec 32 := Scalar.extui v27
  let c0_i32_11 : BitVec 32 := 0#32
  let v29 : BitVec 1 := Scalar.cmpi .slt c512_i32_8 c0_i32_11
  let v30 : BitVec 32 := Scalar.extui v29
  let v31 : BitVec 32 := Scalar.subi v28 v30
  let v32 : BitVec 1 := Scalar.cmpi .ne v26 v31
  let v33 : BitVec 32 := Scalar.remsi v20 c512_i32_8
  let c0_i32_12 : BitVec 32 := 0#32
  let v34 : BitVec 1 := Scalar.cmpi .ne v33 c0_i32_12
  let v35 : BitVec 1 := Scalar.andi v32 v34
  let v21 : BitVec 32 := Scalar.divsi v20 c512_i32_8
  let c1_i32_13 : BitVec 32 := 1#32
  let v36 : BitVec 32 := Scalar.subi v21 c1_i32_13
  let v37 : BitVec 32 := Scalar.select v35 v36 v21
  let v88 : BitVec 32 := Scalar.subi v37 c0_i32_43
  let c1_i32_44 : BitVec 32 := 1#32
  let v90 : BitVec 32 := Scalar.divsi v88 c1_i32_44
  let v91 : BitVec 32 := Scalar.muli v90 c1_i32_44
  let v92 : BitVec 32 := Scalar.addi c0_i32_43 v91
  let c1_i32_46 : BitVec 32 := 1#32
  let arg14 : BitVec 32 := Scf.iv v92 c1_i32_46 k0_t4
  let c512_i32_274 : BitVec 32 := 512#32
  let v497 : BitVec 32 := Scalar.muli arg14 c512_i32_274
  let v498 : BitVec 32 := Scalar.addi v497 c0_i32_275
  let v499 : Index := Scalar.indexCast v498
  let c256_276 : Index := 256#32
  ![v499.toNat, 256]
def k0_off21 (i : grid0.Coords) (v16 : BitVec 32) (k0_t4 : Fin (k0_t4_loop i v16).trips) (c0_i32_280 : BitVec 32) : Fin 2 → Nat :=
  let c0_i32_43 : BitVec 32 := 0#32
  let arg1 : BitVec 32 := BitVec.ofNat 32 (i 1).val
  let c1_i32 : BitVec 32 := 1#32
  let v12 : BitVec 32 := Scalar.addi arg1 c1_i32
  let c128_i32 : BitVec 32 := 128#32
  let v13 : BitVec 32 := Scalar.muli v12 c128_i32
  let c_m128_i32 : BitVec 32 := 4294967168#32
  let v17 : BitVec 32 := Scalar.andi v16 c_m128_i32
  let v18 : BitVec 32 := Scalar.subi v13 v17
  let c512_i32 : BitVec 32 := 512#32
  let v19 : BitVec 32 := Scalar.addi v18 c512_i32
  let c1_i32_7 : BitVec 32 := 1#32
  let v20 : BitVec 32 := Scalar.subi v19 c1_i32_7
  let c0_i32 : BitVec 32 := 0#32
  let v22 : BitVec 1 := Scalar.cmpi .sgt v20 c0_i32
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c512_i32_8 : BitVec 32 := 512#32
  let c0_i32_10 : BitVec 32 := 0#32
  let v27 : BitVec 1 := Scalar.cmpi .sgt c512_i32_8 c0_i32_10
  let v28 : BitVec 32 := Scalar.extui v27
  let c0_i32_11 : BitVec 32 := 0#32
  let v29 : BitVec 1 := Scalar.cmpi .slt c512_i32_8 c0_i32_11
  let v30 : BitVec 32 := Scalar.extui v29
  let v31 : BitVec 32 := Scalar.subi v28 v30
  let v32 : BitVec 1 := Scalar.cmpi .ne v26 v31
  let v33 : BitVec 32 := Scalar.remsi v20 c512_i32_8
  let c0_i32_12 : BitVec 32 := 0#32
  let v34 : BitVec 1 := Scalar.cmpi .ne v33 c0_i32_12
  let v35 : BitVec 1 := Scalar.andi v32 v34
  let v21 : BitVec 32 := Scalar.divsi v20 c512_i32_8
  let c1_i32_13 : BitVec 32 := 1#32
  let v36 : BitVec 32 := Scalar.subi v21 c1_i32_13
  let v37 : BitVec 32 := Scalar.select v35 v36 v21
  let v88 : BitVec 32 := Scalar.subi v37 c0_i32_43
  let c1_i32_44 : BitVec 32 := 1#32
  let v90 : BitVec 32 := Scalar.divsi v88 c1_i32_44
  let v91 : BitVec 32 := Scalar.muli v90 c1_i32_44
  let v92 : BitVec 32 := Scalar.addi c0_i32_43 v91
  let c1_i32_46 : BitVec 32 := 1#32
  let arg14 : BitVec 32 := Scf.iv v92 c1_i32_46 k0_t4
  let c512_i32_279 : BitVec 32 := 512#32
  let v517 : BitVec 32 := Scalar.muli arg14 c512_i32_279
  let v518 : BitVec 32 := Scalar.addi v517 c0_i32_280
  let v519 : Index := Scalar.indexCast v518
  let c384_281 : Index := 384#32
  ![v519.toNat, 384]
@[reducible] def k0_t5_loop (i : grid0.Coords) (v16 : BitVec 32) : Scf.Loop 32 :=
  let c0_i32_60 : BitVec 32 := 0#32
  let arg1 : BitVec 32 := BitVec.ofNat 32 (i 1).val
  let c1_i32 : BitVec 32 := 1#32
  let v12 : BitVec 32 := Scalar.addi arg1 c1_i32
  let c128_i32 : BitVec 32 := 128#32
  let v13 : BitVec 32 := Scalar.muli v12 c128_i32
  let c_m128_i32 : BitVec 32 := 4294967168#32
  let v17 : BitVec 32 := Scalar.andi v16 c_m128_i32
  let v18 : BitVec 32 := Scalar.subi v13 v17
  let c512_i32 : BitVec 32 := 512#32
  let v19 : BitVec 32 := Scalar.addi v18 c512_i32
  let c1_i32_7 : BitVec 32 := 1#32
  let v20 : BitVec 32 := Scalar.subi v19 c1_i32_7
  let c0_i32 : BitVec 32 := 0#32
  let v22 : BitVec 1 := Scalar.cmpi .sgt v20 c0_i32
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c512_i32_8 : BitVec 32 := 512#32
  let c0_i32_10 : BitVec 32 := 0#32
  let v27 : BitVec 1 := Scalar.cmpi .sgt c512_i32_8 c0_i32_10
  let v28 : BitVec 32 := Scalar.extui v27
  let c0_i32_11 : BitVec 32 := 0#32
  let v29 : BitVec 1 := Scalar.cmpi .slt c512_i32_8 c0_i32_11
  let v30 : BitVec 32 := Scalar.extui v29
  let v31 : BitVec 32 := Scalar.subi v28 v30
  let v32 : BitVec 1 := Scalar.cmpi .ne v26 v31
  let v33 : BitVec 32 := Scalar.remsi v20 c512_i32_8
  let c0_i32_12 : BitVec 32 := 0#32
  let v34 : BitVec 1 := Scalar.cmpi .ne v33 c0_i32_12
  let v35 : BitVec 1 := Scalar.andi v32 v34
  let v21 : BitVec 32 := Scalar.divsi v20 c512_i32_8
  let c1_i32_13 : BitVec 32 := 1#32
  let v36 : BitVec 32 := Scalar.subi v21 c1_i32_13
  let v37 : BitVec 32 := Scalar.select v35 v36 v21
  let v116 : BitVec 32 := Scalar.subi v37 c0_i32_60
  let c1_i32_61 : BitVec 32 := 1#32
  let v118 : BitVec 32 := Scalar.divsi v116 c1_i32_61
  let v119 : BitVec 32 := Scalar.muli v118 c1_i32_61
  let v120 : BitVec 32 := Scalar.addi c0_i32_60 v119
  let c1_i32_62 : BitVec 32 := 1#32
  ⟨c0_i32_60, v120, c1_i32_62⟩
def k0_mult5 (i : grid0.Coords) (v16 : BitVec 32) (k0_t5 : Fin (k0_t5_loop i v16).trips) : BitVec 32 :=
  let c_m128_i32 : BitVec 32 := 4294967168#32
  let v17 : BitVec 32 := Scalar.andi v16 c_m128_i32
  let c16384_i32 : BitVec 32 := 16384#32
  let arg1 : BitVec 32 := BitVec.ofNat 32 (i 1).val
  let c1_i32 : BitVec 32 := 1#32
  let v12 : BitVec 32 := Scalar.addi arg1 c1_i32
  let c128_i32 : BitVec 32 := 128#32
  let v13 : BitVec 32 := Scalar.muli v12 c128_i32
  let v18 : BitVec 32 := Scalar.subi v13 v17
  let c512_i32 : BitVec 32 := 512#32
  let v19 : BitVec 32 := Scalar.addi v18 c512_i32
  let c1_i32_7 : BitVec 32 := 1#32
  let v20 : BitVec 32 := Scalar.subi v19 c1_i32_7
  let c0_i32 : BitVec 32 := 0#32
  let v22 : BitVec 1 := Scalar.cmpi .sgt v20 c0_i32
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c512_i32_8 : BitVec 32 := 512#32
  let c0_i32_10 : BitVec 32 := 0#32
  let v27 : BitVec 1 := Scalar.cmpi .sgt c512_i32_8 c0_i32_10
  let v28 : BitVec 32 := Scalar.extui v27
  let c0_i32_11 : BitVec 32 := 0#32
  let v29 : BitVec 1 := Scalar.cmpi .slt c512_i32_8 c0_i32_11
  let v30 : BitVec 32 := Scalar.extui v29
  let v31 : BitVec 32 := Scalar.subi v28 v30
  let v32 : BitVec 1 := Scalar.cmpi .ne v26 v31
  let v33 : BitVec 32 := Scalar.remsi v20 c512_i32_8
  let c0_i32_12 : BitVec 32 := 0#32
  let v34 : BitVec 1 := Scalar.cmpi .ne v33 c0_i32_12
  let v35 : BitVec 1 := Scalar.andi v32 v34
  let v21 : BitVec 32 := Scalar.divsi v20 c512_i32_8
  let c1_i32_13 : BitVec 32 := 1#32
  let v36 : BitVec 32 := Scalar.subi v21 c1_i32_13
  let v37 : BitVec 32 := Scalar.select v35 v36 v21
  let c512_i32_14 : BitVec 32 := 512#32
  let v38 : BitVec 32 := Scalar.muli v37 c512_i32_14
  let v39 : BitVec 32 := Scalar.subi c16384_i32 v38
  let v40 : BitVec 32 := Scalar.minsi v17 v39
  let c0_i32_60 : BitVec 32 := 0#32
  let c1_i32_62 : BitVec 32 := 1#32
  let arg14 : BitVec 32 := Scf.iv c0_i32_60 c1_i32_62 k0_t5
  let c512_i32_246 : BitVec 32 := 512#32
  let v410 : BitVec 32 := Scalar.muli arg14 c512_i32_246
  let v411 : BitVec 32 := Scalar.addi v40 v410
  v411
def k0_mult6 (i : grid0.Coords) (v16 : BitVec 32) (k0_t5 : Fin (k0_t5_loop i v16).trips) : BitVec 32 :=
  let c0_i32_60 : BitVec 32 := 0#32
  let c1_i32_62 : BitVec 32 := 1#32
  let arg14 : BitVec 32 := Scf.iv c0_i32_60 c1_i32_62 k0_t5
  let c512_i32_247 : BitVec 32 := 512#32
  let v413 : BitVec 32 := Scalar.muli arg14 c512_i32_247
  v413
def k0_off22 (i : grid0.Coords) (v16 : BitVec 32) (k0_t5 : Fin (k0_t5_loop i v16).trips) : Fin 2 → Nat :=
  let c0_i32_60 : BitVec 32 := 0#32
  let c1_i32_62 : BitVec 32 := 1#32
  let arg14 : BitVec 32 := Scf.iv c0_i32_60 c1_i32_62 k0_t5
  let c512_i32_247 : BitVec 32 := 512#32
  let v413 : BitVec 32 := Scalar.muli arg14 c512_i32_247
  let v414 : BitVec 32 := v413
  let v415 : Index := Scalar.indexCast v414
  let c0_248 : Index := 0#32
  ![v415.toNat, 0]
def k0_mult7 (i : grid0.Coords) (v16 : BitVec 32) (k0_t5 : Fin (k0_t5_loop i v16).trips) : BitVec 32 :=
  let c0_i32_60 : BitVec 32 := 0#32
  let c1_i32_62 : BitVec 32 := 1#32
  let arg14 : BitVec 32 := Scf.iv c0_i32_60 c1_i32_62 k0_t5
  let c512_i32_252 : BitVec 32 := 512#32
  let v428 : BitVec 32 := Scalar.muli arg14 c512_i32_252
  v428
def k0_off23 (i : grid0.Coords) (v16 : BitVec 32) (k0_t5 : Fin (k0_t5_loop i v16).trips) : Fin 2 → Nat :=
  let c0_i32_60 : BitVec 32 := 0#32
  let c1_i32_62 : BitVec 32 := 1#32
  let arg14 : BitVec 32 := Scf.iv c0_i32_60 c1_i32_62 k0_t5
  let c512_i32_252 : BitVec 32 := 512#32
  let v428 : BitVec 32 := Scalar.muli arg14 c512_i32_252
  let v429 : BitVec 32 := v428
  let v430 : Index := Scalar.indexCast v429
  let c128_253 : Index := 128#32
  ![v430.toNat, 128]
def k0_mult8 (i : grid0.Coords) (v16 : BitVec 32) (k0_t5 : Fin (k0_t5_loop i v16).trips) : BitVec 32 :=
  let c0_i32_60 : BitVec 32 := 0#32
  let c1_i32_62 : BitVec 32 := 1#32
  let arg14 : BitVec 32 := Scf.iv c0_i32_60 c1_i32_62 k0_t5
  let c512_i32_257 : BitVec 32 := 512#32
  let v443 : BitVec 32 := Scalar.muli arg14 c512_i32_257
  v443
def k0_off24 (i : grid0.Coords) (v16 : BitVec 32) (k0_t5 : Fin (k0_t5_loop i v16).trips) : Fin 2 → Nat :=
  let c0_i32_60 : BitVec 32 := 0#32
  let c1_i32_62 : BitVec 32 := 1#32
  let arg14 : BitVec 32 := Scf.iv c0_i32_60 c1_i32_62 k0_t5
  let c512_i32_257 : BitVec 32 := 512#32
  let v443 : BitVec 32 := Scalar.muli arg14 c512_i32_257
  let v444 : BitVec 32 := v443
  let v445 : Index := Scalar.indexCast v444
  let c256_258 : Index := 256#32
  ![v445.toNat, 256]
def k0_mult9 (i : grid0.Coords) (v16 : BitVec 32) (k0_t5 : Fin (k0_t5_loop i v16).trips) : BitVec 32 :=
  let c0_i32_60 : BitVec 32 := 0#32
  let c1_i32_62 : BitVec 32 := 1#32
  let arg14 : BitVec 32 := Scf.iv c0_i32_60 c1_i32_62 k0_t5
  let c512_i32_262 : BitVec 32 := 512#32
  let v458 : BitVec 32 := Scalar.muli arg14 c512_i32_262
  v458
def k0_off25 (i : grid0.Coords) (v16 : BitVec 32) (k0_t5 : Fin (k0_t5_loop i v16).trips) : Fin 2 → Nat :=
  let c0_i32_60 : BitVec 32 := 0#32
  let c1_i32_62 : BitVec 32 := 1#32
  let arg14 : BitVec 32 := Scf.iv c0_i32_60 c1_i32_62 k0_t5
  let c512_i32_262 : BitVec 32 := 512#32
  let v458 : BitVec 32 := Scalar.muli arg14 c512_i32_262
  let v459 : BitVec 32 := v458
  let v460 : Index := Scalar.indexCast v459
  let c384_263 : Index := 384#32
  ![v460.toNat, 384]
def k0_off26 (i : grid0.Coords) (v16 : BitVec 32) (k0_t5 : Fin (k0_t5_loop i v16).trips) : Fin 3 → Nat :=
  let c0_267 : Index := 0#32
  let c0_268 : Index := 0#32
  let c_m128_i32 : BitVec 32 := 4294967168#32
  let v17 : BitVec 32 := Scalar.andi v16 c_m128_i32
  let c16384_i32 : BitVec 32 := 16384#32
  let arg1 : BitVec 32 := BitVec.ofNat 32 (i 1).val
  let c1_i32 : BitVec 32 := 1#32
  let v12 : BitVec 32 := Scalar.addi arg1 c1_i32
  let c128_i32 : BitVec 32 := 128#32
  let v13 : BitVec 32 := Scalar.muli v12 c128_i32
  let v18 : BitVec 32 := Scalar.subi v13 v17
  let c512_i32 : BitVec 32 := 512#32
  let v19 : BitVec 32 := Scalar.addi v18 c512_i32
  let c1_i32_7 : BitVec 32 := 1#32
  let v20 : BitVec 32 := Scalar.subi v19 c1_i32_7
  let c0_i32 : BitVec 32 := 0#32
  let v22 : BitVec 1 := Scalar.cmpi .sgt v20 c0_i32
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c512_i32_8 : BitVec 32 := 512#32
  let c0_i32_10 : BitVec 32 := 0#32
  let v27 : BitVec 1 := Scalar.cmpi .sgt c512_i32_8 c0_i32_10
  let v28 : BitVec 32 := Scalar.extui v27
  let c0_i32_11 : BitVec 32 := 0#32
  let v29 : BitVec 1 := Scalar.cmpi .slt c512_i32_8 c0_i32_11
  let v30 : BitVec 32 := Scalar.extui v29
  let v31 : BitVec 32 := Scalar.subi v28 v30
  let v32 : BitVec 1 := Scalar.cmpi .ne v26 v31
  let v33 : BitVec 32 := Scalar.remsi v20 c512_i32_8
  let c0_i32_12 : BitVec 32 := 0#32
  let v34 : BitVec 1 := Scalar.cmpi .ne v33 c0_i32_12
  let v35 : BitVec 1 := Scalar.andi v32 v34
  let v21 : BitVec 32 := Scalar.divsi v20 c512_i32_8
  let c1_i32_13 : BitVec 32 := 1#32
  let v36 : BitVec 32 := Scalar.subi v21 c1_i32_13
  let v37 : BitVec 32 := Scalar.select v35 v36 v21
  let c512_i32_14 : BitVec 32 := 512#32
  let v38 : BitVec 32 := Scalar.muli v37 c512_i32_14
  let v39 : BitVec 32 := Scalar.subi c16384_i32 v38
  let v40 : BitVec 32 := Scalar.minsi v17 v39
  let c0_i32_60 : BitVec 32 := 0#32
  let c1_i32_62 : BitVec 32 := 1#32
  let arg14 : BitVec 32 := Scf.iv c0_i32_60 c1_i32_62 k0_t5
  let c512_i32_246 : BitVec 32 := 512#32
  let v410 : BitVec 32 := Scalar.muli arg14 c512_i32_246
  let v411 : BitVec 32 := Scalar.addi v40 v410
  let v412 : BitVec 32 := v411
  let v474 : Index := Scalar.indexCast v412
  ![0, 0, v474.toNat]
@[reducible] def k0_t6_loop (i : grid0.Coords) (v16 : BitVec 32) : Scf.Loop 32 :=
  let c0_i32_60 : BitVec 32 := 0#32
  let arg1 : BitVec 32 := BitVec.ofNat 32 (i 1).val
  let c1_i32 : BitVec 32 := 1#32
  let v12 : BitVec 32 := Scalar.addi arg1 c1_i32
  let c128_i32 : BitVec 32 := 128#32
  let v13 : BitVec 32 := Scalar.muli v12 c128_i32
  let c_m128_i32 : BitVec 32 := 4294967168#32
  let v17 : BitVec 32 := Scalar.andi v16 c_m128_i32
  let v18 : BitVec 32 := Scalar.subi v13 v17
  let c512_i32 : BitVec 32 := 512#32
  let v19 : BitVec 32 := Scalar.addi v18 c512_i32
  let c1_i32_7 : BitVec 32 := 1#32
  let v20 : BitVec 32 := Scalar.subi v19 c1_i32_7
  let c0_i32 : BitVec 32 := 0#32
  let v22 : BitVec 1 := Scalar.cmpi .sgt v20 c0_i32
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c512_i32_8 : BitVec 32 := 512#32
  let c0_i32_10 : BitVec 32 := 0#32
  let v27 : BitVec 1 := Scalar.cmpi .sgt c512_i32_8 c0_i32_10
  let v28 : BitVec 32 := Scalar.extui v27
  let c0_i32_11 : BitVec 32 := 0#32
  let v29 : BitVec 1 := Scalar.cmpi .slt c512_i32_8 c0_i32_11
  let v30 : BitVec 32 := Scalar.extui v29
  let v31 : BitVec 32 := Scalar.subi v28 v30
  let v32 : BitVec 1 := Scalar.cmpi .ne v26 v31
  let v33 : BitVec 32 := Scalar.remsi v20 c512_i32_8
  let c0_i32_12 : BitVec 32 := 0#32
  let v34 : BitVec 1 := Scalar.cmpi .ne v33 c0_i32_12
  let v35 : BitVec 1 := Scalar.andi v32 v34
  let v21 : BitVec 32 := Scalar.divsi v20 c512_i32_8
  let c1_i32_13 : BitVec 32 := 1#32
  let v36 : BitVec 32 := Scalar.subi v21 c1_i32_13
  let v37 : BitVec 32 := Scalar.select v35 v36 v21
  let v116 : BitVec 32 := Scalar.subi v37 c0_i32_60
  let c1_i32_61 : BitVec 32 := 1#32
  let v118 : BitVec 32 := Scalar.divsi v116 c1_i32_61
  let v119 : BitVec 32 := Scalar.muli v118 c1_i32_61
  let v120 : BitVec 32 := Scalar.addi c0_i32_60 v119
  let v117 : BitVec 32 := Scalar.addi c0_i32_60 v116
  let c1_i32_63 : BitVec 32 := 1#32
  ⟨v120, v117, c1_i32_63⟩
def k0_mult10 (i : grid0.Coords) (v16 : BitVec 32) (k0_t6 : Fin (k0_t6_loop i v16).trips) : BitVec 32 :=
  let c_m128_i32 : BitVec 32 := 4294967168#32
  let v17 : BitVec 32 := Scalar.andi v16 c_m128_i32
  let c16384_i32 : BitVec 32 := 16384#32
  let arg1 : BitVec 32 := BitVec.ofNat 32 (i 1).val
  let c1_i32 : BitVec 32 := 1#32
  let v12 : BitVec 32 := Scalar.addi arg1 c1_i32
  let c128_i32 : BitVec 32 := 128#32
  let v13 : BitVec 32 := Scalar.muli v12 c128_i32
  let v18 : BitVec 32 := Scalar.subi v13 v17
  let c512_i32 : BitVec 32 := 512#32
  let v19 : BitVec 32 := Scalar.addi v18 c512_i32
  let c1_i32_7 : BitVec 32 := 1#32
  let v20 : BitVec 32 := Scalar.subi v19 c1_i32_7
  let c0_i32 : BitVec 32 := 0#32
  let v22 : BitVec 1 := Scalar.cmpi .sgt v20 c0_i32
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c512_i32_8 : BitVec 32 := 512#32
  let c0_i32_10 : BitVec 32 := 0#32
  let v27 : BitVec 1 := Scalar.cmpi .sgt c512_i32_8 c0_i32_10
  let v28 : BitVec 32 := Scalar.extui v27
  let c0_i32_11 : BitVec 32 := 0#32
  let v29 : BitVec 1 := Scalar.cmpi .slt c512_i32_8 c0_i32_11
  let v30 : BitVec 32 := Scalar.extui v29
  let v31 : BitVec 32 := Scalar.subi v28 v30
  let v32 : BitVec 1 := Scalar.cmpi .ne v26 v31
  let v33 : BitVec 32 := Scalar.remsi v20 c512_i32_8
  let c0_i32_12 : BitVec 32 := 0#32
  let v34 : BitVec 1 := Scalar.cmpi .ne v33 c0_i32_12
  let v35 : BitVec 1 := Scalar.andi v32 v34
  let v21 : BitVec 32 := Scalar.divsi v20 c512_i32_8
  let c1_i32_13 : BitVec 32 := 1#32
  let v36 : BitVec 32 := Scalar.subi v21 c1_i32_13
  let v37 : BitVec 32 := Scalar.select v35 v36 v21
  let c512_i32_14 : BitVec 32 := 512#32
  let v38 : BitVec 32 := Scalar.muli v37 c512_i32_14
  let v39 : BitVec 32 := Scalar.subi c16384_i32 v38
  let v40 : BitVec 32 := Scalar.minsi v17 v39
  let c0_i32_60 : BitVec 32 := 0#32
  let v116 : BitVec 32 := Scalar.subi v37 c0_i32_60
  let c1_i32_61 : BitVec 32 := 1#32
  let v118 : BitVec 32 := Scalar.divsi v116 c1_i32_61
  let v119 : BitVec 32 := Scalar.muli v118 c1_i32_61
  let v120 : BitVec 32 := Scalar.addi c0_i32_60 v119
  let c1_i32_63 : BitVec 32 := 1#32
  let arg14 : BitVec 32 := Scf.iv v120 c1_i32_63 k0_t6
  let c512_i32_246 : BitVec 32 := 512#32
  let v410 : BitVec 32 := Scalar.muli arg14 c512_i32_246
  let v411 : BitVec 32 := Scalar.addi v40 v410
  v411
def k0_mult11 (i : grid0.Coords) (v16 : BitVec 32) (k0_t6 : Fin (k0_t6_loop i v16).trips) : BitVec 32 :=
  let c0_i32_60 : BitVec 32 := 0#32
  let arg1 : BitVec 32 := BitVec.ofNat 32 (i 1).val
  let c1_i32 : BitVec 32 := 1#32
  let v12 : BitVec 32 := Scalar.addi arg1 c1_i32
  let c128_i32 : BitVec 32 := 128#32
  let v13 : BitVec 32 := Scalar.muli v12 c128_i32
  let c_m128_i32 : BitVec 32 := 4294967168#32
  let v17 : BitVec 32 := Scalar.andi v16 c_m128_i32
  let v18 : BitVec 32 := Scalar.subi v13 v17
  let c512_i32 : BitVec 32 := 512#32
  let v19 : BitVec 32 := Scalar.addi v18 c512_i32
  let c1_i32_7 : BitVec 32 := 1#32
  let v20 : BitVec 32 := Scalar.subi v19 c1_i32_7
  let c0_i32 : BitVec 32 := 0#32
  let v22 : BitVec 1 := Scalar.cmpi .sgt v20 c0_i32
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c512_i32_8 : BitVec 32 := 512#32
  let c0_i32_10 : BitVec 32 := 0#32
  let v27 : BitVec 1 := Scalar.cmpi .sgt c512_i32_8 c0_i32_10
  let v28 : BitVec 32 := Scalar.extui v27
  let c0_i32_11 : BitVec 32 := 0#32
  let v29 : BitVec 1 := Scalar.cmpi .slt c512_i32_8 c0_i32_11
  let v30 : BitVec 32 := Scalar.extui v29
  let v31 : BitVec 32 := Scalar.subi v28 v30
  let v32 : BitVec 1 := Scalar.cmpi .ne v26 v31
  let v33 : BitVec 32 := Scalar.remsi v20 c512_i32_8
  let c0_i32_12 : BitVec 32 := 0#32
  let v34 : BitVec 1 := Scalar.cmpi .ne v33 c0_i32_12
  let v35 : BitVec 1 := Scalar.andi v32 v34
  let v21 : BitVec 32 := Scalar.divsi v20 c512_i32_8
  let c1_i32_13 : BitVec 32 := 1#32
  let v36 : BitVec 32 := Scalar.subi v21 c1_i32_13
  let v37 : BitVec 32 := Scalar.select v35 v36 v21
  let v116 : BitVec 32 := Scalar.subi v37 c0_i32_60
  let c1_i32_61 : BitVec 32 := 1#32
  let v118 : BitVec 32 := Scalar.divsi v116 c1_i32_61
  let v119 : BitVec 32 := Scalar.muli v118 c1_i32_61
  let v120 : BitVec 32 := Scalar.addi c0_i32_60 v119
  let c1_i32_63 : BitVec 32 := 1#32
  let arg14 : BitVec 32 := Scf.iv v120 c1_i32_63 k0_t6
  let c512_i32_247 : BitVec 32 := 512#32
  let v413 : BitVec 32 := Scalar.muli arg14 c512_i32_247
  v413
def k0_off27 (i : grid0.Coords) (v16 : BitVec 32) (k0_t6 : Fin (k0_t6_loop i v16).trips) : Fin 2 → Nat :=
  let c0_i32_60 : BitVec 32 := 0#32
  let arg1 : BitVec 32 := BitVec.ofNat 32 (i 1).val
  let c1_i32 : BitVec 32 := 1#32
  let v12 : BitVec 32 := Scalar.addi arg1 c1_i32
  let c128_i32 : BitVec 32 := 128#32
  let v13 : BitVec 32 := Scalar.muli v12 c128_i32
  let c_m128_i32 : BitVec 32 := 4294967168#32
  let v17 : BitVec 32 := Scalar.andi v16 c_m128_i32
  let v18 : BitVec 32 := Scalar.subi v13 v17
  let c512_i32 : BitVec 32 := 512#32
  let v19 : BitVec 32 := Scalar.addi v18 c512_i32
  let c1_i32_7 : BitVec 32 := 1#32
  let v20 : BitVec 32 := Scalar.subi v19 c1_i32_7
  let c0_i32 : BitVec 32 := 0#32
  let v22 : BitVec 1 := Scalar.cmpi .sgt v20 c0_i32
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c512_i32_8 : BitVec 32 := 512#32
  let c0_i32_10 : BitVec 32 := 0#32
  let v27 : BitVec 1 := Scalar.cmpi .sgt c512_i32_8 c0_i32_10
  let v28 : BitVec 32 := Scalar.extui v27
  let c0_i32_11 : BitVec 32 := 0#32
  let v29 : BitVec 1 := Scalar.cmpi .slt c512_i32_8 c0_i32_11
  let v30 : BitVec 32 := Scalar.extui v29
  let v31 : BitVec 32 := Scalar.subi v28 v30
  let v32 : BitVec 1 := Scalar.cmpi .ne v26 v31
  let v33 : BitVec 32 := Scalar.remsi v20 c512_i32_8
  let c0_i32_12 : BitVec 32 := 0#32
  let v34 : BitVec 1 := Scalar.cmpi .ne v33 c0_i32_12
  let v35 : BitVec 1 := Scalar.andi v32 v34
  let v21 : BitVec 32 := Scalar.divsi v20 c512_i32_8
  let c1_i32_13 : BitVec 32 := 1#32
  let v36 : BitVec 32 := Scalar.subi v21 c1_i32_13
  let v37 : BitVec 32 := Scalar.select v35 v36 v21
  let v116 : BitVec 32 := Scalar.subi v37 c0_i32_60
  let c1_i32_61 : BitVec 32 := 1#32
  let v118 : BitVec 32 := Scalar.divsi v116 c1_i32_61
  let v119 : BitVec 32 := Scalar.muli v118 c1_i32_61
  let v120 : BitVec 32 := Scalar.addi c0_i32_60 v119
  let c1_i32_63 : BitVec 32 := 1#32
  let arg14 : BitVec 32 := Scf.iv v120 c1_i32_63 k0_t6
  let c512_i32_247 : BitVec 32 := 512#32
  let v413 : BitVec 32 := Scalar.muli arg14 c512_i32_247
  let v414 : BitVec 32 := v413
  let v415 : Index := Scalar.indexCast v414
  let c0_248 : Index := 0#32
  ![v415.toNat, 0]
def k0_mult12 (i : grid0.Coords) (v16 : BitVec 32) (k0_t6 : Fin (k0_t6_loop i v16).trips) : BitVec 32 :=
  let c0_i32_60 : BitVec 32 := 0#32
  let arg1 : BitVec 32 := BitVec.ofNat 32 (i 1).val
  let c1_i32 : BitVec 32 := 1#32
  let v12 : BitVec 32 := Scalar.addi arg1 c1_i32
  let c128_i32 : BitVec 32 := 128#32
  let v13 : BitVec 32 := Scalar.muli v12 c128_i32
  let c_m128_i32 : BitVec 32 := 4294967168#32
  let v17 : BitVec 32 := Scalar.andi v16 c_m128_i32
  let v18 : BitVec 32 := Scalar.subi v13 v17
  let c512_i32 : BitVec 32 := 512#32
  let v19 : BitVec 32 := Scalar.addi v18 c512_i32
  let c1_i32_7 : BitVec 32 := 1#32
  let v20 : BitVec 32 := Scalar.subi v19 c1_i32_7
  let c0_i32 : BitVec 32 := 0#32
  let v22 : BitVec 1 := Scalar.cmpi .sgt v20 c0_i32
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c512_i32_8 : BitVec 32 := 512#32
  let c0_i32_10 : BitVec 32 := 0#32
  let v27 : BitVec 1 := Scalar.cmpi .sgt c512_i32_8 c0_i32_10
  let v28 : BitVec 32 := Scalar.extui v27
  let c0_i32_11 : BitVec 32 := 0#32
  let v29 : BitVec 1 := Scalar.cmpi .slt c512_i32_8 c0_i32_11
  let v30 : BitVec 32 := Scalar.extui v29
  let v31 : BitVec 32 := Scalar.subi v28 v30
  let v32 : BitVec 1 := Scalar.cmpi .ne v26 v31
  let v33 : BitVec 32 := Scalar.remsi v20 c512_i32_8
  let c0_i32_12 : BitVec 32 := 0#32
  let v34 : BitVec 1 := Scalar.cmpi .ne v33 c0_i32_12
  let v35 : BitVec 1 := Scalar.andi v32 v34
  let v21 : BitVec 32 := Scalar.divsi v20 c512_i32_8
  let c1_i32_13 : BitVec 32 := 1#32
  let v36 : BitVec 32 := Scalar.subi v21 c1_i32_13
  let v37 : BitVec 32 := Scalar.select v35 v36 v21
  let v116 : BitVec 32 := Scalar.subi v37 c0_i32_60
  let c1_i32_61 : BitVec 32 := 1#32
  let v118 : BitVec 32 := Scalar.divsi v116 c1_i32_61
  let v119 : BitVec 32 := Scalar.muli v118 c1_i32_61
  let v120 : BitVec 32 := Scalar.addi c0_i32_60 v119
  let c1_i32_63 : BitVec 32 := 1#32
  let arg14 : BitVec 32 := Scf.iv v120 c1_i32_63 k0_t6
  let c512_i32_252 : BitVec 32 := 512#32
  let v428 : BitVec 32 := Scalar.muli arg14 c512_i32_252
  v428
def k0_off28 (i : grid0.Coords) (v16 : BitVec 32) (k0_t6 : Fin (k0_t6_loop i v16).trips) : Fin 2 → Nat :=
  let c0_i32_60 : BitVec 32 := 0#32
  let arg1 : BitVec 32 := BitVec.ofNat 32 (i 1).val
  let c1_i32 : BitVec 32 := 1#32
  let v12 : BitVec 32 := Scalar.addi arg1 c1_i32
  let c128_i32 : BitVec 32 := 128#32
  let v13 : BitVec 32 := Scalar.muli v12 c128_i32
  let c_m128_i32 : BitVec 32 := 4294967168#32
  let v17 : BitVec 32 := Scalar.andi v16 c_m128_i32
  let v18 : BitVec 32 := Scalar.subi v13 v17
  let c512_i32 : BitVec 32 := 512#32
  let v19 : BitVec 32 := Scalar.addi v18 c512_i32
  let c1_i32_7 : BitVec 32 := 1#32
  let v20 : BitVec 32 := Scalar.subi v19 c1_i32_7
  let c0_i32 : BitVec 32 := 0#32
  let v22 : BitVec 1 := Scalar.cmpi .sgt v20 c0_i32
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c512_i32_8 : BitVec 32 := 512#32
  let c0_i32_10 : BitVec 32 := 0#32
  let v27 : BitVec 1 := Scalar.cmpi .sgt c512_i32_8 c0_i32_10
  let v28 : BitVec 32 := Scalar.extui v27
  let c0_i32_11 : BitVec 32 := 0#32
  let v29 : BitVec 1 := Scalar.cmpi .slt c512_i32_8 c0_i32_11
  let v30 : BitVec 32 := Scalar.extui v29
  let v31 : BitVec 32 := Scalar.subi v28 v30
  let v32 : BitVec 1 := Scalar.cmpi .ne v26 v31
  let v33 : BitVec 32 := Scalar.remsi v20 c512_i32_8
  let c0_i32_12 : BitVec 32 := 0#32
  let v34 : BitVec 1 := Scalar.cmpi .ne v33 c0_i32_12
  let v35 : BitVec 1 := Scalar.andi v32 v34
  let v21 : BitVec 32 := Scalar.divsi v20 c512_i32_8
  let c1_i32_13 : BitVec 32 := 1#32
  let v36 : BitVec 32 := Scalar.subi v21 c1_i32_13
  let v37 : BitVec 32 := Scalar.select v35 v36 v21
  let v116 : BitVec 32 := Scalar.subi v37 c0_i32_60
  let c1_i32_61 : BitVec 32 := 1#32
  let v118 : BitVec 32 := Scalar.divsi v116 c1_i32_61
  let v119 : BitVec 32 := Scalar.muli v118 c1_i32_61
  let v120 : BitVec 32 := Scalar.addi c0_i32_60 v119
  let c1_i32_63 : BitVec 32 := 1#32
  let arg14 : BitVec 32 := Scf.iv v120 c1_i32_63 k0_t6
  let c512_i32_252 : BitVec 32 := 512#32
  let v428 : BitVec 32 := Scalar.muli arg14 c512_i32_252
  let v429 : BitVec 32 := v428
  let v430 : Index := Scalar.indexCast v429
  let c128_253 : Index := 128#32
  ![v430.toNat, 128]
def k0_mult13 (i : grid0.Coords) (v16 : BitVec 32) (k0_t6 : Fin (k0_t6_loop i v16).trips) : BitVec 32 :=
  let c0_i32_60 : BitVec 32 := 0#32
  let arg1 : BitVec 32 := BitVec.ofNat 32 (i 1).val
  let c1_i32 : BitVec 32 := 1#32
  let v12 : BitVec 32 := Scalar.addi arg1 c1_i32
  let c128_i32 : BitVec 32 := 128#32
  let v13 : BitVec 32 := Scalar.muli v12 c128_i32
  let c_m128_i32 : BitVec 32 := 4294967168#32
  let v17 : BitVec 32 := Scalar.andi v16 c_m128_i32
  let v18 : BitVec 32 := Scalar.subi v13 v17
  let c512_i32 : BitVec 32 := 512#32
  let v19 : BitVec 32 := Scalar.addi v18 c512_i32
  let c1_i32_7 : BitVec 32 := 1#32
  let v20 : BitVec 32 := Scalar.subi v19 c1_i32_7
  let c0_i32 : BitVec 32 := 0#32
  let v22 : BitVec 1 := Scalar.cmpi .sgt v20 c0_i32
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c512_i32_8 : BitVec 32 := 512#32
  let c0_i32_10 : BitVec 32 := 0#32
  let v27 : BitVec 1 := Scalar.cmpi .sgt c512_i32_8 c0_i32_10
  let v28 : BitVec 32 := Scalar.extui v27
  let c0_i32_11 : BitVec 32 := 0#32
  let v29 : BitVec 1 := Scalar.cmpi .slt c512_i32_8 c0_i32_11
  let v30 : BitVec 32 := Scalar.extui v29
  let v31 : BitVec 32 := Scalar.subi v28 v30
  let v32 : BitVec 1 := Scalar.cmpi .ne v26 v31
  let v33 : BitVec 32 := Scalar.remsi v20 c512_i32_8
  let c0_i32_12 : BitVec 32 := 0#32
  let v34 : BitVec 1 := Scalar.cmpi .ne v33 c0_i32_12
  let v35 : BitVec 1 := Scalar.andi v32 v34
  let v21 : BitVec 32 := Scalar.divsi v20 c512_i32_8
  let c1_i32_13 : BitVec 32 := 1#32
  let v36 : BitVec 32 := Scalar.subi v21 c1_i32_13
  let v37 : BitVec 32 := Scalar.select v35 v36 v21
  let v116 : BitVec 32 := Scalar.subi v37 c0_i32_60
  let c1_i32_61 : BitVec 32 := 1#32
  let v118 : BitVec 32 := Scalar.divsi v116 c1_i32_61
  let v119 : BitVec 32 := Scalar.muli v118 c1_i32_61
  let v120 : BitVec 32 := Scalar.addi c0_i32_60 v119
  let c1_i32_63 : BitVec 32 := 1#32
  let arg14 : BitVec 32 := Scf.iv v120 c1_i32_63 k0_t6
  let c512_i32_257 : BitVec 32 := 512#32
  let v443 : BitVec 32 := Scalar.muli arg14 c512_i32_257
  v443
def k0_off29 (i : grid0.Coords) (v16 : BitVec 32) (k0_t6 : Fin (k0_t6_loop i v16).trips) : Fin 2 → Nat :=
  let c0_i32_60 : BitVec 32 := 0#32
  let arg1 : BitVec 32 := BitVec.ofNat 32 (i 1).val
  let c1_i32 : BitVec 32 := 1#32
  let v12 : BitVec 32 := Scalar.addi arg1 c1_i32
  let c128_i32 : BitVec 32 := 128#32
  let v13 : BitVec 32 := Scalar.muli v12 c128_i32
  let c_m128_i32 : BitVec 32 := 4294967168#32
  let v17 : BitVec 32 := Scalar.andi v16 c_m128_i32
  let v18 : BitVec 32 := Scalar.subi v13 v17
  let c512_i32 : BitVec 32 := 512#32
  let v19 : BitVec 32 := Scalar.addi v18 c512_i32
  let c1_i32_7 : BitVec 32 := 1#32
  let v20 : BitVec 32 := Scalar.subi v19 c1_i32_7
  let c0_i32 : BitVec 32 := 0#32
  let v22 : BitVec 1 := Scalar.cmpi .sgt v20 c0_i32
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c512_i32_8 : BitVec 32 := 512#32
  let c0_i32_10 : BitVec 32 := 0#32
  let v27 : BitVec 1 := Scalar.cmpi .sgt c512_i32_8 c0_i32_10
  let v28 : BitVec 32 := Scalar.extui v27
  let c0_i32_11 : BitVec 32 := 0#32
  let v29 : BitVec 1 := Scalar.cmpi .slt c512_i32_8 c0_i32_11
  let v30 : BitVec 32 := Scalar.extui v29
  let v31 : BitVec 32 := Scalar.subi v28 v30
  let v32 : BitVec 1 := Scalar.cmpi .ne v26 v31
  let v33 : BitVec 32 := Scalar.remsi v20 c512_i32_8
  let c0_i32_12 : BitVec 32 := 0#32
  let v34 : BitVec 1 := Scalar.cmpi .ne v33 c0_i32_12
  let v35 : BitVec 1 := Scalar.andi v32 v34
  let v21 : BitVec 32 := Scalar.divsi v20 c512_i32_8
  let c1_i32_13 : BitVec 32 := 1#32
  let v36 : BitVec 32 := Scalar.subi v21 c1_i32_13
  let v37 : BitVec 32 := Scalar.select v35 v36 v21
  let v116 : BitVec 32 := Scalar.subi v37 c0_i32_60
  let c1_i32_61 : BitVec 32 := 1#32
  let v118 : BitVec 32 := Scalar.divsi v116 c1_i32_61
  let v119 : BitVec 32 := Scalar.muli v118 c1_i32_61
  let v120 : BitVec 32 := Scalar.addi c0_i32_60 v119
  let c1_i32_63 : BitVec 32 := 1#32
  let arg14 : BitVec 32 := Scf.iv v120 c1_i32_63 k0_t6
  let c512_i32_257 : BitVec 32 := 512#32
  let v443 : BitVec 32 := Scalar.muli arg14 c512_i32_257
  let v444 : BitVec 32 := v443
  let v445 : Index := Scalar.indexCast v444
  let c256_258 : Index := 256#32
  ![v445.toNat, 256]
def k0_mult14 (i : grid0.Coords) (v16 : BitVec 32) (k0_t6 : Fin (k0_t6_loop i v16).trips) : BitVec 32 :=
  let c0_i32_60 : BitVec 32 := 0#32
  let arg1 : BitVec 32 := BitVec.ofNat 32 (i 1).val
  let c1_i32 : BitVec 32 := 1#32
  let v12 : BitVec 32 := Scalar.addi arg1 c1_i32
  let c128_i32 : BitVec 32 := 128#32
  let v13 : BitVec 32 := Scalar.muli v12 c128_i32
  let c_m128_i32 : BitVec 32 := 4294967168#32
  let v17 : BitVec 32 := Scalar.andi v16 c_m128_i32
  let v18 : BitVec 32 := Scalar.subi v13 v17
  let c512_i32 : BitVec 32 := 512#32
  let v19 : BitVec 32 := Scalar.addi v18 c512_i32
  let c1_i32_7 : BitVec 32 := 1#32
  let v20 : BitVec 32 := Scalar.subi v19 c1_i32_7
  let c0_i32 : BitVec 32 := 0#32
  let v22 : BitVec 1 := Scalar.cmpi .sgt v20 c0_i32
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c512_i32_8 : BitVec 32 := 512#32
  let c0_i32_10 : BitVec 32 := 0#32
  let v27 : BitVec 1 := Scalar.cmpi .sgt c512_i32_8 c0_i32_10
  let v28 : BitVec 32 := Scalar.extui v27
  let c0_i32_11 : BitVec 32 := 0#32
  let v29 : BitVec 1 := Scalar.cmpi .slt c512_i32_8 c0_i32_11
  let v30 : BitVec 32 := Scalar.extui v29
  let v31 : BitVec 32 := Scalar.subi v28 v30
  let v32 : BitVec 1 := Scalar.cmpi .ne v26 v31
  let v33 : BitVec 32 := Scalar.remsi v20 c512_i32_8
  let c0_i32_12 : BitVec 32 := 0#32
  let v34 : BitVec 1 := Scalar.cmpi .ne v33 c0_i32_12
  let v35 : BitVec 1 := Scalar.andi v32 v34
  let v21 : BitVec 32 := Scalar.divsi v20 c512_i32_8
  let c1_i32_13 : BitVec 32 := 1#32
  let v36 : BitVec 32 := Scalar.subi v21 c1_i32_13
  let v37 : BitVec 32 := Scalar.select v35 v36 v21
  let v116 : BitVec 32 := Scalar.subi v37 c0_i32_60
  let c1_i32_61 : BitVec 32 := 1#32
  let v118 : BitVec 32 := Scalar.divsi v116 c1_i32_61
  let v119 : BitVec 32 := Scalar.muli v118 c1_i32_61
  let v120 : BitVec 32 := Scalar.addi c0_i32_60 v119
  let c1_i32_63 : BitVec 32 := 1#32
  let arg14 : BitVec 32 := Scf.iv v120 c1_i32_63 k0_t6
  let c512_i32_262 : BitVec 32 := 512#32
  let v458 : BitVec 32 := Scalar.muli arg14 c512_i32_262
  v458
def k0_off30 (i : grid0.Coords) (v16 : BitVec 32) (k0_t6 : Fin (k0_t6_loop i v16).trips) : Fin 2 → Nat :=
  let c0_i32_60 : BitVec 32 := 0#32
  let arg1 : BitVec 32 := BitVec.ofNat 32 (i 1).val
  let c1_i32 : BitVec 32 := 1#32
  let v12 : BitVec 32 := Scalar.addi arg1 c1_i32
  let c128_i32 : BitVec 32 := 128#32
  let v13 : BitVec 32 := Scalar.muli v12 c128_i32
  let c_m128_i32 : BitVec 32 := 4294967168#32
  let v17 : BitVec 32 := Scalar.andi v16 c_m128_i32
  let v18 : BitVec 32 := Scalar.subi v13 v17
  let c512_i32 : BitVec 32 := 512#32
  let v19 : BitVec 32 := Scalar.addi v18 c512_i32
  let c1_i32_7 : BitVec 32 := 1#32
  let v20 : BitVec 32 := Scalar.subi v19 c1_i32_7
  let c0_i32 : BitVec 32 := 0#32
  let v22 : BitVec 1 := Scalar.cmpi .sgt v20 c0_i32
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c512_i32_8 : BitVec 32 := 512#32
  let c0_i32_10 : BitVec 32 := 0#32
  let v27 : BitVec 1 := Scalar.cmpi .sgt c512_i32_8 c0_i32_10
  let v28 : BitVec 32 := Scalar.extui v27
  let c0_i32_11 : BitVec 32 := 0#32
  let v29 : BitVec 1 := Scalar.cmpi .slt c512_i32_8 c0_i32_11
  let v30 : BitVec 32 := Scalar.extui v29
  let v31 : BitVec 32 := Scalar.subi v28 v30
  let v32 : BitVec 1 := Scalar.cmpi .ne v26 v31
  let v33 : BitVec 32 := Scalar.remsi v20 c512_i32_8
  let c0_i32_12 : BitVec 32 := 0#32
  let v34 : BitVec 1 := Scalar.cmpi .ne v33 c0_i32_12
  let v35 : BitVec 1 := Scalar.andi v32 v34
  let v21 : BitVec 32 := Scalar.divsi v20 c512_i32_8
  let c1_i32_13 : BitVec 32 := 1#32
  let v36 : BitVec 32 := Scalar.subi v21 c1_i32_13
  let v37 : BitVec 32 := Scalar.select v35 v36 v21
  let v116 : BitVec 32 := Scalar.subi v37 c0_i32_60
  let c1_i32_61 : BitVec 32 := 1#32
  let v118 : BitVec 32 := Scalar.divsi v116 c1_i32_61
  let v119 : BitVec 32 := Scalar.muli v118 c1_i32_61
  let v120 : BitVec 32 := Scalar.addi c0_i32_60 v119
  let c1_i32_63 : BitVec 32 := 1#32
  let arg14 : BitVec 32 := Scf.iv v120 c1_i32_63 k0_t6
  let c512_i32_262 : BitVec 32 := 512#32
  let v458 : BitVec 32 := Scalar.muli arg14 c512_i32_262
  let v459 : BitVec 32 := v458
  let v460 : Index := Scalar.indexCast v459
  let c384_263 : Index := 384#32
  ![v460.toNat, 384]
def k0_off31 (i : grid0.Coords) (v16 : BitVec 32) (k0_t6 : Fin (k0_t6_loop i v16).trips) : Fin 3 → Nat :=
  let c0_267 : Index := 0#32
  let c0_268 : Index := 0#32
  let c_m128_i32 : BitVec 32 := 4294967168#32
  let v17 : BitVec 32 := Scalar.andi v16 c_m128_i32
  let c16384_i32 : BitVec 32 := 16384#32
  let arg1 : BitVec 32 := BitVec.ofNat 32 (i 1).val
  let c1_i32 : BitVec 32 := 1#32
  let v12 : BitVec 32 := Scalar.addi arg1 c1_i32
  let c128_i32 : BitVec 32 := 128#32
  let v13 : BitVec 32 := Scalar.muli v12 c128_i32
  let v18 : BitVec 32 := Scalar.subi v13 v17
  let c512_i32 : BitVec 32 := 512#32
  let v19 : BitVec 32 := Scalar.addi v18 c512_i32
  let c1_i32_7 : BitVec 32 := 1#32
  let v20 : BitVec 32 := Scalar.subi v19 c1_i32_7
  let c0_i32 : BitVec 32 := 0#32
  let v22 : BitVec 1 := Scalar.cmpi .sgt v20 c0_i32
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c512_i32_8 : BitVec 32 := 512#32
  let c0_i32_10 : BitVec 32 := 0#32
  let v27 : BitVec 1 := Scalar.cmpi .sgt c512_i32_8 c0_i32_10
  let v28 : BitVec 32 := Scalar.extui v27
  let c0_i32_11 : BitVec 32 := 0#32
  let v29 : BitVec 1 := Scalar.cmpi .slt c512_i32_8 c0_i32_11
  let v30 : BitVec 32 := Scalar.extui v29
  let v31 : BitVec 32 := Scalar.subi v28 v30
  let v32 : BitVec 1 := Scalar.cmpi .ne v26 v31
  let v33 : BitVec 32 := Scalar.remsi v20 c512_i32_8
  let c0_i32_12 : BitVec 32 := 0#32
  let v34 : BitVec 1 := Scalar.cmpi .ne v33 c0_i32_12
  let v35 : BitVec 1 := Scalar.andi v32 v34
  let v21 : BitVec 32 := Scalar.divsi v20 c512_i32_8
  let c1_i32_13 : BitVec 32 := 1#32
  let v36 : BitVec 32 := Scalar.subi v21 c1_i32_13
  let v37 : BitVec 32 := Scalar.select v35 v36 v21
  let c512_i32_14 : BitVec 32 := 512#32
  let v38 : BitVec 32 := Scalar.muli v37 c512_i32_14
  let v39 : BitVec 32 := Scalar.subi c16384_i32 v38
  let v40 : BitVec 32 := Scalar.minsi v17 v39
  let c0_i32_60 : BitVec 32 := 0#32
  let v116 : BitVec 32 := Scalar.subi v37 c0_i32_60
  let c1_i32_61 : BitVec 32 := 1#32
  let v118 : BitVec 32 := Scalar.divsi v116 c1_i32_61
  let v119 : BitVec 32 := Scalar.muli v118 c1_i32_61
  let v120 : BitVec 32 := Scalar.addi c0_i32_60 v119
  let c1_i32_63 : BitVec 32 := 1#32
  let arg14 : BitVec 32 := Scf.iv v120 c1_i32_63 k0_t6
  let c512_i32_246 : BitVec 32 := 512#32
  let v410 : BitVec 32 := Scalar.muli arg14 c512_i32_246
  let v411 : BitVec 32 := Scalar.addi v40 v410
  let v412 : BitVec 32 := v411
  let v474 : Index := Scalar.indexCast v412
  ![0, 0, v474.toNat]
@[reducible] def k0_t7_loop (i : grid0.Coords) (v16 : BitVec 32) : Scf.Loop 32 :=
  let c0_i32_154 : BitVec 32 := 0#32
  let arg1 : BitVec 32 := BitVec.ofNat 32 (i 1).val
  let c1_i32 : BitVec 32 := 1#32
  let v12 : BitVec 32 := Scalar.addi arg1 c1_i32
  let c128_i32 : BitVec 32 := 128#32
  let v13 : BitVec 32 := Scalar.muli v12 c128_i32
  let c_m128_i32 : BitVec 32 := 4294967168#32
  let v17 : BitVec 32 := Scalar.andi v16 c_m128_i32
  let v18 : BitVec 32 := Scalar.subi v13 v17
  let c512_i32 : BitVec 32 := 512#32
  let v19 : BitVec 32 := Scalar.addi v18 c512_i32
  let c1_i32_7 : BitVec 32 := 1#32
  let v20 : BitVec 32 := Scalar.subi v19 c1_i32_7
  let c0_i32 : BitVec 32 := 0#32
  let v22 : BitVec 1 := Scalar.cmpi .sgt v20 c0_i32
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c512_i32_8 : BitVec 32 := 512#32
  let c0_i32_10 : BitVec 32 := 0#32
  let v27 : BitVec 1 := Scalar.cmpi .sgt c512_i32_8 c0_i32_10
  let v28 : BitVec 32 := Scalar.extui v27
  let c0_i32_11 : BitVec 32 := 0#32
  let v29 : BitVec 1 := Scalar.cmpi .slt c512_i32_8 c0_i32_11
  let v30 : BitVec 32 := Scalar.extui v29
  let v31 : BitVec 32 := Scalar.subi v28 v30
  let v32 : BitVec 1 := Scalar.cmpi .ne v26 v31
  let v33 : BitVec 32 := Scalar.remsi v20 c512_i32_8
  let c0_i32_12 : BitVec 32 := 0#32
  let v34 : BitVec 1 := Scalar.cmpi .ne v33 c0_i32_12
  let v35 : BitVec 1 := Scalar.andi v32 v34
  let v21 : BitVec 32 := Scalar.divsi v20 c512_i32_8
  let c1_i32_13 : BitVec 32 := 1#32
  let v36 : BitVec 32 := Scalar.subi v21 c1_i32_13
  let v37 : BitVec 32 := Scalar.select v35 v36 v21
  let v269 : BitVec 32 := Scalar.subi v37 c0_i32_154
  let c1_i32_155 : BitVec 32 := 1#32
  let v271 : BitVec 32 := Scalar.divsi v269 c1_i32_155
  let v272 : BitVec 32 := Scalar.muli v271 c1_i32_155
  let v273 : BitVec 32 := Scalar.addi c0_i32_154 v272
  let c1_i32_156 : BitVec 32 := 1#32
  ⟨c0_i32_154, v273, c1_i32_156⟩
def k0_mult15 (i : grid0.Coords) (v16 : BitVec 32) (k0_t7 : Fin (k0_t7_loop i v16).trips) : BitVec 32 :=
  let c_m128_i32 : BitVec 32 := 4294967168#32
  let v17 : BitVec 32 := Scalar.andi v16 c_m128_i32
  let c16384_i32 : BitVec 32 := 16384#32
  let arg1 : BitVec 32 := BitVec.ofNat 32 (i 1).val
  let c1_i32 : BitVec 32 := 1#32
  let v12 : BitVec 32 := Scalar.addi arg1 c1_i32
  let c128_i32 : BitVec 32 := 128#32
  let v13 : BitVec 32 := Scalar.muli v12 c128_i32
  let v18 : BitVec 32 := Scalar.subi v13 v17
  let c512_i32 : BitVec 32 := 512#32
  let v19 : BitVec 32 := Scalar.addi v18 c512_i32
  let c1_i32_7 : BitVec 32 := 1#32
  let v20 : BitVec 32 := Scalar.subi v19 c1_i32_7
  let c0_i32 : BitVec 32 := 0#32
  let v22 : BitVec 1 := Scalar.cmpi .sgt v20 c0_i32
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c512_i32_8 : BitVec 32 := 512#32
  let c0_i32_10 : BitVec 32 := 0#32
  let v27 : BitVec 1 := Scalar.cmpi .sgt c512_i32_8 c0_i32_10
  let v28 : BitVec 32 := Scalar.extui v27
  let c0_i32_11 : BitVec 32 := 0#32
  let v29 : BitVec 1 := Scalar.cmpi .slt c512_i32_8 c0_i32_11
  let v30 : BitVec 32 := Scalar.extui v29
  let v31 : BitVec 32 := Scalar.subi v28 v30
  let v32 : BitVec 1 := Scalar.cmpi .ne v26 v31
  let v33 : BitVec 32 := Scalar.remsi v20 c512_i32_8
  let c0_i32_12 : BitVec 32 := 0#32
  let v34 : BitVec 1 := Scalar.cmpi .ne v33 c0_i32_12
  let v35 : BitVec 1 := Scalar.andi v32 v34
  let v21 : BitVec 32 := Scalar.divsi v20 c512_i32_8
  let c1_i32_13 : BitVec 32 := 1#32
  let v36 : BitVec 32 := Scalar.subi v21 c1_i32_13
  let v37 : BitVec 32 := Scalar.select v35 v36 v21
  let c512_i32_14 : BitVec 32 := 512#32
  let v38 : BitVec 32 := Scalar.muli v37 c512_i32_14
  let v39 : BitVec 32 := Scalar.subi c16384_i32 v38
  let v40 : BitVec 32 := Scalar.minsi v17 v39
  let c0_i32_154 : BitVec 32 := 0#32
  let c1_i32_156 : BitVec 32 := 1#32
  let arg14 : BitVec 32 := Scf.iv c0_i32_154 c1_i32_156 k0_t7
  let c512_i32_246 : BitVec 32 := 512#32
  let v410 : BitVec 32 := Scalar.muli arg14 c512_i32_246
  let v411 : BitVec 32 := Scalar.addi v40 v410
  v411
def k0_off32 (i : grid0.Coords) (v16 : BitVec 32) (k0_t7 : Fin (k0_t7_loop i v16).trips) : Fin 2 → Nat :=
  let c_m128_i32 : BitVec 32 := 4294967168#32
  let v17 : BitVec 32 := Scalar.andi v16 c_m128_i32
  let c16384_i32 : BitVec 32 := 16384#32
  let arg1 : BitVec 32 := BitVec.ofNat 32 (i 1).val
  let c1_i32 : BitVec 32 := 1#32
  let v12 : BitVec 32 := Scalar.addi arg1 c1_i32
  let c128_i32 : BitVec 32 := 128#32
  let v13 : BitVec 32 := Scalar.muli v12 c128_i32
  let v18 : BitVec 32 := Scalar.subi v13 v17
  let c512_i32 : BitVec 32 := 512#32
  let v19 : BitVec 32 := Scalar.addi v18 c512_i32
  let c1_i32_7 : BitVec 32 := 1#32
  let v20 : BitVec 32 := Scalar.subi v19 c1_i32_7
  let c0_i32 : BitVec 32 := 0#32
  let v22 : BitVec 1 := Scalar.cmpi .sgt v20 c0_i32
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c512_i32_8 : BitVec 32 := 512#32
  let c0_i32_10 : BitVec 32 := 0#32
  let v27 : BitVec 1 := Scalar.cmpi .sgt c512_i32_8 c0_i32_10
  let v28 : BitVec 32 := Scalar.extui v27
  let c0_i32_11 : BitVec 32 := 0#32
  let v29 : BitVec 1 := Scalar.cmpi .slt c512_i32_8 c0_i32_11
  let v30 : BitVec 32 := Scalar.extui v29
  let v31 : BitVec 32 := Scalar.subi v28 v30
  let v32 : BitVec 1 := Scalar.cmpi .ne v26 v31
  let v33 : BitVec 32 := Scalar.remsi v20 c512_i32_8
  let c0_i32_12 : BitVec 32 := 0#32
  let v34 : BitVec 1 := Scalar.cmpi .ne v33 c0_i32_12
  let v35 : BitVec 1 := Scalar.andi v32 v34
  let v21 : BitVec 32 := Scalar.divsi v20 c512_i32_8
  let c1_i32_13 : BitVec 32 := 1#32
  let v36 : BitVec 32 := Scalar.subi v21 c1_i32_13
  let v37 : BitVec 32 := Scalar.select v35 v36 v21
  let c512_i32_14 : BitVec 32 := 512#32
  let v38 : BitVec 32 := Scalar.muli v37 c512_i32_14
  let v39 : BitVec 32 := Scalar.subi c16384_i32 v38
  let v40 : BitVec 32 := Scalar.minsi v17 v39
  let c0_i32_154 : BitVec 32 := 0#32
  let c1_i32_156 : BitVec 32 := 1#32
  let arg14 : BitVec 32 := Scf.iv c0_i32_154 c1_i32_156 k0_t7
  let c512_i32_246 : BitVec 32 := 512#32
  let v410 : BitVec 32 := Scalar.muli arg14 c512_i32_246
  let v411 : BitVec 32 := Scalar.addi v40 v410
  let v412 : BitVec 32 := v411
  let v413 : Index := Scalar.indexCast v412
  let c0_247 : Index := 0#32
  ![v413.toNat, 0]
def k0_off33 (i : grid0.Coords) (v16 : BitVec 32) (k0_t7 : Fin (k0_t7_loop i v16).trips) (c0_i32_256 : BitVec 32) : Fin 3 → Nat :=
  let c0_257 : Index := 0#32
  let c0_258 : Index := 0#32
  let c_m128_i32 : BitVec 32 := 4294967168#32
  let v17 : BitVec 32 := Scalar.andi v16 c_m128_i32
  let c16384_i32 : BitVec 32 := 16384#32
  let arg1 : BitVec 32 := BitVec.ofNat 32 (i 1).val
  let c1_i32 : BitVec 32 := 1#32
  let v12 : BitVec 32 := Scalar.addi arg1 c1_i32
  let c128_i32 : BitVec 32 := 128#32
  let v13 : BitVec 32 := Scalar.muli v12 c128_i32
  let v18 : BitVec 32 := Scalar.subi v13 v17
  let c512_i32 : BitVec 32 := 512#32
  let v19 : BitVec 32 := Scalar.addi v18 c512_i32
  let c1_i32_7 : BitVec 32 := 1#32
  let v20 : BitVec 32 := Scalar.subi v19 c1_i32_7
  let c0_i32 : BitVec 32 := 0#32
  let v22 : BitVec 1 := Scalar.cmpi .sgt v20 c0_i32
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c512_i32_8 : BitVec 32 := 512#32
  let c0_i32_10 : BitVec 32 := 0#32
  let v27 : BitVec 1 := Scalar.cmpi .sgt c512_i32_8 c0_i32_10
  let v28 : BitVec 32 := Scalar.extui v27
  let c0_i32_11 : BitVec 32 := 0#32
  let v29 : BitVec 1 := Scalar.cmpi .slt c512_i32_8 c0_i32_11
  let v30 : BitVec 32 := Scalar.extui v29
  let v31 : BitVec 32 := Scalar.subi v28 v30
  let v32 : BitVec 1 := Scalar.cmpi .ne v26 v31
  let v33 : BitVec 32 := Scalar.remsi v20 c512_i32_8
  let c0_i32_12 : BitVec 32 := 0#32
  let v34 : BitVec 1 := Scalar.cmpi .ne v33 c0_i32_12
  let v35 : BitVec 1 := Scalar.andi v32 v34
  let v21 : BitVec 32 := Scalar.divsi v20 c512_i32_8
  let c1_i32_13 : BitVec 32 := 1#32
  let v36 : BitVec 32 := Scalar.subi v21 c1_i32_13
  let v37 : BitVec 32 := Scalar.select v35 v36 v21
  let c512_i32_14 : BitVec 32 := 512#32
  let v38 : BitVec 32 := Scalar.muli v37 c512_i32_14
  let v39 : BitVec 32 := Scalar.subi c16384_i32 v38
  let v40 : BitVec 32 := Scalar.minsi v17 v39
  let c0_i32_154 : BitVec 32 := 0#32
  let c1_i32_156 : BitVec 32 := 1#32
  let arg14 : BitVec 32 := Scf.iv c0_i32_154 c1_i32_156 k0_t7
  let c512_i32_246 : BitVec 32 := 512#32
  let v410 : BitVec 32 := Scalar.muli arg14 c512_i32_246
  let v411 : BitVec 32 := Scalar.addi v40 v410
  let v412 : BitVec 32 := v411
  let c0_i32_250 : BitVec 32 := 0#32
  let v417 : BitVec 1 := Scalar.cmpi .sgt v412 c0_i32_250
  let v418 : BitVec 32 := Scalar.extui v417
  let c0_i32_251 : BitVec 32 := 0#32
  let v419 : BitVec 1 := Scalar.cmpi .slt v412 c0_i32_251
  let v420 : BitVec 32 := Scalar.extui v419
  let v421 : BitVec 32 := Scalar.subi v418 v420
  let c64_i32_249 : BitVec 32 := 64#32
  let c0_i32_252 : BitVec 32 := 0#32
  let v422 : BitVec 1 := Scalar.cmpi .sgt c64_i32_249 c0_i32_252
  let v423 : BitVec 32 := Scalar.extui v422
  let c0_i32_253 : BitVec 32 := 0#32
  let v424 : BitVec 1 := Scalar.cmpi .slt c64_i32_249 c0_i32_253
  let v425 : BitVec 32 := Scalar.extui v424
  let v426 : BitVec 32 := Scalar.subi v423 v425
  let v427 : BitVec 1 := Scalar.cmpi .ne v421 v426
  let v428 : BitVec 32 := Scalar.remsi v412 c64_i32_249
  let c0_i32_254 : BitVec 32 := 0#32
  let v429 : BitVec 1 := Scalar.cmpi .ne v428 c0_i32_254
  let v430 : BitVec 1 := Scalar.andi v427 v429
  let v416 : BitVec 32 := Scalar.divsi v412 c64_i32_249
  let c1_i32_255 : BitVec 32 := 1#32
  let v431 : BitVec 32 := Scalar.subi v416 c1_i32_255
  let v432 : BitVec 32 := Scalar.select v430 v431 v416
  let v433 : BitVec 32 := Scalar.addi v432 c0_i32_256
  let v434 : Index := Scalar.indexCast v433
  ![0, 0, v434.toNat]
def k0_off34 (i : grid0.Coords) (v16 : BitVec 32) (k0_t7 : Fin (k0_t7_loop i v16).trips) (c0_i32_260 : BitVec 32) : Fin 2 → Nat :=
  let c0_i32_154 : BitVec 32 := 0#32
  let c1_i32_156 : BitVec 32 := 1#32
  let arg14 : BitVec 32 := Scf.iv c0_i32_154 c1_i32_156 k0_t7
  let c512_i32_259 : BitVec 32 := 512#32
  let v438 : BitVec 32 := Scalar.muli arg14 c512_i32_259
  let v439 : BitVec 32 := Scalar.addi v438 c0_i32_260
  let v440 : Index := Scalar.indexCast v439
  let c0_261 : Index := 0#32
  ![v440.toNat, 0]
def k0_off35 (i : grid0.Coords) (v16 : BitVec 32) (k0_t7 : Fin (k0_t7_loop i v16).trips) (c0_i32_265 : BitVec 32) : Fin 2 → Nat :=
  let c0_i32_154 : BitVec 32 := 0#32
  let c1_i32_156 : BitVec 32 := 1#32
  let arg14 : BitVec 32 := Scf.iv c0_i32_154 c1_i32_156 k0_t7
  let c512_i32_264 : BitVec 32 := 512#32
  let v457 : BitVec 32 := Scalar.muli arg14 c512_i32_264
  let v458 : BitVec 32 := Scalar.addi v457 c0_i32_265
  let v459 : Index := Scalar.indexCast v458
  let c0_266 : Index := 0#32
  ![v459.toNat, 0]
def k0_off36 (i : grid0.Coords) (v16 : BitVec 32) (k0_t7 : Fin (k0_t7_loop i v16).trips) (c0_i32_270 : BitVec 32) : Fin 2 → Nat :=
  let c0_i32_154 : BitVec 32 := 0#32
  let c1_i32_156 : BitVec 32 := 1#32
  let arg14 : BitVec 32 := Scf.iv c0_i32_154 c1_i32_156 k0_t7
  let c512_i32_269 : BitVec 32 := 512#32
  let v477 : BitVec 32 := Scalar.muli arg14 c512_i32_269
  let v478 : BitVec 32 := Scalar.addi v477 c0_i32_270
  let v479 : Index := Scalar.indexCast v478
  let c128_271 : Index := 128#32
  ![v479.toNat, 128]
def k0_off37 (i : grid0.Coords) (v16 : BitVec 32) (k0_t7 : Fin (k0_t7_loop i v16).trips) (c0_i32_275 : BitVec 32) : Fin 2 → Nat :=
  let c0_i32_154 : BitVec 32 := 0#32
  let c1_i32_156 : BitVec 32 := 1#32
  let arg14 : BitVec 32 := Scf.iv c0_i32_154 c1_i32_156 k0_t7
  let c512_i32_274 : BitVec 32 := 512#32
  let v497 : BitVec 32 := Scalar.muli arg14 c512_i32_274
  let v498 : BitVec 32 := Scalar.addi v497 c0_i32_275
  let v499 : Index := Scalar.indexCast v498
  let c256_276 : Index := 256#32
  ![v499.toNat, 256]
def k0_off38 (i : grid0.Coords) (v16 : BitVec 32) (k0_t7 : Fin (k0_t7_loop i v16).trips) (c0_i32_280 : BitVec 32) : Fin 2 → Nat :=
  let c0_i32_154 : BitVec 32 := 0#32
  let c1_i32_156 : BitVec 32 := 1#32
  let arg14 : BitVec 32 := Scf.iv c0_i32_154 c1_i32_156 k0_t7
  let c512_i32_279 : BitVec 32 := 512#32
  let v517 : BitVec 32 := Scalar.muli arg14 c512_i32_279
  let v518 : BitVec 32 := Scalar.addi v517 c0_i32_280
  let v519 : Index := Scalar.indexCast v518
  let c384_281 : Index := 384#32
  ![v519.toNat, 384]
@[reducible] def k0_t8_loop (i : grid0.Coords) (v16 : BitVec 32) : Scf.Loop 32 :=
  let c0_i32_154 : BitVec 32 := 0#32
  let arg1 : BitVec 32 := BitVec.ofNat 32 (i 1).val
  let c1_i32 : BitVec 32 := 1#32
  let v12 : BitVec 32 := Scalar.addi arg1 c1_i32
  let c128_i32 : BitVec 32 := 128#32
  let v13 : BitVec 32 := Scalar.muli v12 c128_i32
  let c_m128_i32 : BitVec 32 := 4294967168#32
  let v17 : BitVec 32 := Scalar.andi v16 c_m128_i32
  let v18 : BitVec 32 := Scalar.subi v13 v17
  let c512_i32 : BitVec 32 := 512#32
  let v19 : BitVec 32 := Scalar.addi v18 c512_i32
  let c1_i32_7 : BitVec 32 := 1#32
  let v20 : BitVec 32 := Scalar.subi v19 c1_i32_7
  let c0_i32 : BitVec 32 := 0#32
  let v22 : BitVec 1 := Scalar.cmpi .sgt v20 c0_i32
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c512_i32_8 : BitVec 32 := 512#32
  let c0_i32_10 : BitVec 32 := 0#32
  let v27 : BitVec 1 := Scalar.cmpi .sgt c512_i32_8 c0_i32_10
  let v28 : BitVec 32 := Scalar.extui v27
  let c0_i32_11 : BitVec 32 := 0#32
  let v29 : BitVec 1 := Scalar.cmpi .slt c512_i32_8 c0_i32_11
  let v30 : BitVec 32 := Scalar.extui v29
  let v31 : BitVec 32 := Scalar.subi v28 v30
  let v32 : BitVec 1 := Scalar.cmpi .ne v26 v31
  let v33 : BitVec 32 := Scalar.remsi v20 c512_i32_8
  let c0_i32_12 : BitVec 32 := 0#32
  let v34 : BitVec 1 := Scalar.cmpi .ne v33 c0_i32_12
  let v35 : BitVec 1 := Scalar.andi v32 v34
  let v21 : BitVec 32 := Scalar.divsi v20 c512_i32_8
  let c1_i32_13 : BitVec 32 := 1#32
  let v36 : BitVec 32 := Scalar.subi v21 c1_i32_13
  let v37 : BitVec 32 := Scalar.select v35 v36 v21
  let v269 : BitVec 32 := Scalar.subi v37 c0_i32_154
  let c1_i32_155 : BitVec 32 := 1#32
  let v271 : BitVec 32 := Scalar.divsi v269 c1_i32_155
  let v272 : BitVec 32 := Scalar.muli v271 c1_i32_155
  let v273 : BitVec 32 := Scalar.addi c0_i32_154 v272
  let v270 : BitVec 32 := Scalar.addi c0_i32_154 v269
  let c1_i32_157 : BitVec 32 := 1#32
  ⟨v273, v270, c1_i32_157⟩
def k0_mult16 (i : grid0.Coords) (v16 : BitVec 32) (k0_t8 : Fin (k0_t8_loop i v16).trips) : BitVec 32 :=
  let c_m128_i32 : BitVec 32 := 4294967168#32
  let v17 : BitVec 32 := Scalar.andi v16 c_m128_i32
  let c16384_i32 : BitVec 32 := 16384#32
  let arg1 : BitVec 32 := BitVec.ofNat 32 (i 1).val
  let c1_i32 : BitVec 32 := 1#32
  let v12 : BitVec 32 := Scalar.addi arg1 c1_i32
  let c128_i32 : BitVec 32 := 128#32
  let v13 : BitVec 32 := Scalar.muli v12 c128_i32
  let v18 : BitVec 32 := Scalar.subi v13 v17
  let c512_i32 : BitVec 32 := 512#32
  let v19 : BitVec 32 := Scalar.addi v18 c512_i32
  let c1_i32_7 : BitVec 32 := 1#32
  let v20 : BitVec 32 := Scalar.subi v19 c1_i32_7
  let c0_i32 : BitVec 32 := 0#32
  let v22 : BitVec 1 := Scalar.cmpi .sgt v20 c0_i32
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c512_i32_8 : BitVec 32 := 512#32
  let c0_i32_10 : BitVec 32 := 0#32
  let v27 : BitVec 1 := Scalar.cmpi .sgt c512_i32_8 c0_i32_10
  let v28 : BitVec 32 := Scalar.extui v27
  let c0_i32_11 : BitVec 32 := 0#32
  let v29 : BitVec 1 := Scalar.cmpi .slt c512_i32_8 c0_i32_11
  let v30 : BitVec 32 := Scalar.extui v29
  let v31 : BitVec 32 := Scalar.subi v28 v30
  let v32 : BitVec 1 := Scalar.cmpi .ne v26 v31
  let v33 : BitVec 32 := Scalar.remsi v20 c512_i32_8
  let c0_i32_12 : BitVec 32 := 0#32
  let v34 : BitVec 1 := Scalar.cmpi .ne v33 c0_i32_12
  let v35 : BitVec 1 := Scalar.andi v32 v34
  let v21 : BitVec 32 := Scalar.divsi v20 c512_i32_8
  let c1_i32_13 : BitVec 32 := 1#32
  let v36 : BitVec 32 := Scalar.subi v21 c1_i32_13
  let v37 : BitVec 32 := Scalar.select v35 v36 v21
  let c512_i32_14 : BitVec 32 := 512#32
  let v38 : BitVec 32 := Scalar.muli v37 c512_i32_14
  let v39 : BitVec 32 := Scalar.subi c16384_i32 v38
  let v40 : BitVec 32 := Scalar.minsi v17 v39
  let c0_i32_154 : BitVec 32 := 0#32
  let v269 : BitVec 32 := Scalar.subi v37 c0_i32_154
  let c1_i32_155 : BitVec 32 := 1#32
  let v271 : BitVec 32 := Scalar.divsi v269 c1_i32_155
  let v272 : BitVec 32 := Scalar.muli v271 c1_i32_155
  let v273 : BitVec 32 := Scalar.addi c0_i32_154 v272
  let c1_i32_157 : BitVec 32 := 1#32
  let arg14 : BitVec 32 := Scf.iv v273 c1_i32_157 k0_t8
  let c512_i32_246 : BitVec 32 := 512#32
  let v410 : BitVec 32 := Scalar.muli arg14 c512_i32_246
  let v411 : BitVec 32 := Scalar.addi v40 v410
  v411
def k0_off39 (i : grid0.Coords) (v16 : BitVec 32) (k0_t8 : Fin (k0_t8_loop i v16).trips) : Fin 2 → Nat :=
  let c_m128_i32 : BitVec 32 := 4294967168#32
  let v17 : BitVec 32 := Scalar.andi v16 c_m128_i32
  let c16384_i32 : BitVec 32 := 16384#32
  let arg1 : BitVec 32 := BitVec.ofNat 32 (i 1).val
  let c1_i32 : BitVec 32 := 1#32
  let v12 : BitVec 32 := Scalar.addi arg1 c1_i32
  let c128_i32 : BitVec 32 := 128#32
  let v13 : BitVec 32 := Scalar.muli v12 c128_i32
  let v18 : BitVec 32 := Scalar.subi v13 v17
  let c512_i32 : BitVec 32 := 512#32
  let v19 : BitVec 32 := Scalar.addi v18 c512_i32
  let c1_i32_7 : BitVec 32 := 1#32
  let v20 : BitVec 32 := Scalar.subi v19 c1_i32_7
  let c0_i32 : BitVec 32 := 0#32
  let v22 : BitVec 1 := Scalar.cmpi .sgt v20 c0_i32
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c512_i32_8 : BitVec 32 := 512#32
  let c0_i32_10 : BitVec 32 := 0#32
  let v27 : BitVec 1 := Scalar.cmpi .sgt c512_i32_8 c0_i32_10
  let v28 : BitVec 32 := Scalar.extui v27
  let c0_i32_11 : BitVec 32 := 0#32
  let v29 : BitVec 1 := Scalar.cmpi .slt c512_i32_8 c0_i32_11
  let v30 : BitVec 32 := Scalar.extui v29
  let v31 : BitVec 32 := Scalar.subi v28 v30
  let v32 : BitVec 1 := Scalar.cmpi .ne v26 v31
  let v33 : BitVec 32 := Scalar.remsi v20 c512_i32_8
  let c0_i32_12 : BitVec 32 := 0#32
  let v34 : BitVec 1 := Scalar.cmpi .ne v33 c0_i32_12
  let v35 : BitVec 1 := Scalar.andi v32 v34
  let v21 : BitVec 32 := Scalar.divsi v20 c512_i32_8
  let c1_i32_13 : BitVec 32 := 1#32
  let v36 : BitVec 32 := Scalar.subi v21 c1_i32_13
  let v37 : BitVec 32 := Scalar.select v35 v36 v21
  let c512_i32_14 : BitVec 32 := 512#32
  let v38 : BitVec 32 := Scalar.muli v37 c512_i32_14
  let v39 : BitVec 32 := Scalar.subi c16384_i32 v38
  let v40 : BitVec 32 := Scalar.minsi v17 v39
  let c0_i32_154 : BitVec 32 := 0#32
  let v269 : BitVec 32 := Scalar.subi v37 c0_i32_154
  let c1_i32_155 : BitVec 32 := 1#32
  let v271 : BitVec 32 := Scalar.divsi v269 c1_i32_155
  let v272 : BitVec 32 := Scalar.muli v271 c1_i32_155
  let v273 : BitVec 32 := Scalar.addi c0_i32_154 v272
  let c1_i32_157 : BitVec 32 := 1#32
  let arg14 : BitVec 32 := Scf.iv v273 c1_i32_157 k0_t8
  let c512_i32_246 : BitVec 32 := 512#32
  let v410 : BitVec 32 := Scalar.muli arg14 c512_i32_246
  let v411 : BitVec 32 := Scalar.addi v40 v410
  let v412 : BitVec 32 := v411
  let v413 : Index := Scalar.indexCast v412
  let c0_247 : Index := 0#32
  ![v413.toNat, 0]
def k0_off40 (i : grid0.Coords) (v16 : BitVec 32) (k0_t8 : Fin (k0_t8_loop i v16).trips) (c0_i32_256 : BitVec 32) : Fin 3 → Nat :=
  let c0_257 : Index := 0#32
  let c0_258 : Index := 0#32
  let c_m128_i32 : BitVec 32 := 4294967168#32
  let v17 : BitVec 32 := Scalar.andi v16 c_m128_i32
  let c16384_i32 : BitVec 32 := 16384#32
  let arg1 : BitVec 32 := BitVec.ofNat 32 (i 1).val
  let c1_i32 : BitVec 32 := 1#32
  let v12 : BitVec 32 := Scalar.addi arg1 c1_i32
  let c128_i32 : BitVec 32 := 128#32
  let v13 : BitVec 32 := Scalar.muli v12 c128_i32
  let v18 : BitVec 32 := Scalar.subi v13 v17
  let c512_i32 : BitVec 32 := 512#32
  let v19 : BitVec 32 := Scalar.addi v18 c512_i32
  let c1_i32_7 : BitVec 32 := 1#32
  let v20 : BitVec 32 := Scalar.subi v19 c1_i32_7
  let c0_i32 : BitVec 32 := 0#32
  let v22 : BitVec 1 := Scalar.cmpi .sgt v20 c0_i32
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c512_i32_8 : BitVec 32 := 512#32
  let c0_i32_10 : BitVec 32 := 0#32
  let v27 : BitVec 1 := Scalar.cmpi .sgt c512_i32_8 c0_i32_10
  let v28 : BitVec 32 := Scalar.extui v27
  let c0_i32_11 : BitVec 32 := 0#32
  let v29 : BitVec 1 := Scalar.cmpi .slt c512_i32_8 c0_i32_11
  let v30 : BitVec 32 := Scalar.extui v29
  let v31 : BitVec 32 := Scalar.subi v28 v30
  let v32 : BitVec 1 := Scalar.cmpi .ne v26 v31
  let v33 : BitVec 32 := Scalar.remsi v20 c512_i32_8
  let c0_i32_12 : BitVec 32 := 0#32
  let v34 : BitVec 1 := Scalar.cmpi .ne v33 c0_i32_12
  let v35 : BitVec 1 := Scalar.andi v32 v34
  let v21 : BitVec 32 := Scalar.divsi v20 c512_i32_8
  let c1_i32_13 : BitVec 32 := 1#32
  let v36 : BitVec 32 := Scalar.subi v21 c1_i32_13
  let v37 : BitVec 32 := Scalar.select v35 v36 v21
  let c512_i32_14 : BitVec 32 := 512#32
  let v38 : BitVec 32 := Scalar.muli v37 c512_i32_14
  let v39 : BitVec 32 := Scalar.subi c16384_i32 v38
  let v40 : BitVec 32 := Scalar.minsi v17 v39
  let c0_i32_154 : BitVec 32 := 0#32
  let v269 : BitVec 32 := Scalar.subi v37 c0_i32_154
  let c1_i32_155 : BitVec 32 := 1#32
  let v271 : BitVec 32 := Scalar.divsi v269 c1_i32_155
  let v272 : BitVec 32 := Scalar.muli v271 c1_i32_155
  let v273 : BitVec 32 := Scalar.addi c0_i32_154 v272
  let c1_i32_157 : BitVec 32 := 1#32
  let arg14 : BitVec 32 := Scf.iv v273 c1_i32_157 k0_t8
  let c512_i32_246 : BitVec 32 := 512#32
  let v410 : BitVec 32 := Scalar.muli arg14 c512_i32_246
  let v411 : BitVec 32 := Scalar.addi v40 v410
  let v412 : BitVec 32 := v411
  let c0_i32_250 : BitVec 32 := 0#32
  let v417 : BitVec 1 := Scalar.cmpi .sgt v412 c0_i32_250
  let v418 : BitVec 32 := Scalar.extui v417
  let c0_i32_251 : BitVec 32 := 0#32
  let v419 : BitVec 1 := Scalar.cmpi .slt v412 c0_i32_251
  let v420 : BitVec 32 := Scalar.extui v419
  let v421 : BitVec 32 := Scalar.subi v418 v420
  let c64_i32_249 : BitVec 32 := 64#32
  let c0_i32_252 : BitVec 32 := 0#32
  let v422 : BitVec 1 := Scalar.cmpi .sgt c64_i32_249 c0_i32_252
  let v423 : BitVec 32 := Scalar.extui v422
  let c0_i32_253 : BitVec 32 := 0#32
  let v424 : BitVec 1 := Scalar.cmpi .slt c64_i32_249 c0_i32_253
  let v425 : BitVec 32 := Scalar.extui v424
  let v426 : BitVec 32 := Scalar.subi v423 v425
  let v427 : BitVec 1 := Scalar.cmpi .ne v421 v426
  let v428 : BitVec 32 := Scalar.remsi v412 c64_i32_249
  let c0_i32_254 : BitVec 32 := 0#32
  let v429 : BitVec 1 := Scalar.cmpi .ne v428 c0_i32_254
  let v430 : BitVec 1 := Scalar.andi v427 v429
  let v416 : BitVec 32 := Scalar.divsi v412 c64_i32_249
  let c1_i32_255 : BitVec 32 := 1#32
  let v431 : BitVec 32 := Scalar.subi v416 c1_i32_255
  let v432 : BitVec 32 := Scalar.select v430 v431 v416
  let v433 : BitVec 32 := Scalar.addi v432 c0_i32_256
  let v434 : Index := Scalar.indexCast v433
  ![0, 0, v434.toNat]
def k0_off41 (i : grid0.Coords) (v16 : BitVec 32) (k0_t8 : Fin (k0_t8_loop i v16).trips) (c0_i32_260 : BitVec 32) : Fin 2 → Nat :=
  let c0_i32_154 : BitVec 32 := 0#32
  let arg1 : BitVec 32 := BitVec.ofNat 32 (i 1).val
  let c1_i32 : BitVec 32 := 1#32
  let v12 : BitVec 32 := Scalar.addi arg1 c1_i32
  let c128_i32 : BitVec 32 := 128#32
  let v13 : BitVec 32 := Scalar.muli v12 c128_i32
  let c_m128_i32 : BitVec 32 := 4294967168#32
  let v17 : BitVec 32 := Scalar.andi v16 c_m128_i32
  let v18 : BitVec 32 := Scalar.subi v13 v17
  let c512_i32 : BitVec 32 := 512#32
  let v19 : BitVec 32 := Scalar.addi v18 c512_i32
  let c1_i32_7 : BitVec 32 := 1#32
  let v20 : BitVec 32 := Scalar.subi v19 c1_i32_7
  let c0_i32 : BitVec 32 := 0#32
  let v22 : BitVec 1 := Scalar.cmpi .sgt v20 c0_i32
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c512_i32_8 : BitVec 32 := 512#32
  let c0_i32_10 : BitVec 32 := 0#32
  let v27 : BitVec 1 := Scalar.cmpi .sgt c512_i32_8 c0_i32_10
  let v28 : BitVec 32 := Scalar.extui v27
  let c0_i32_11 : BitVec 32 := 0#32
  let v29 : BitVec 1 := Scalar.cmpi .slt c512_i32_8 c0_i32_11
  let v30 : BitVec 32 := Scalar.extui v29
  let v31 : BitVec 32 := Scalar.subi v28 v30
  let v32 : BitVec 1 := Scalar.cmpi .ne v26 v31
  let v33 : BitVec 32 := Scalar.remsi v20 c512_i32_8
  let c0_i32_12 : BitVec 32 := 0#32
  let v34 : BitVec 1 := Scalar.cmpi .ne v33 c0_i32_12
  let v35 : BitVec 1 := Scalar.andi v32 v34
  let v21 : BitVec 32 := Scalar.divsi v20 c512_i32_8
  let c1_i32_13 : BitVec 32 := 1#32
  let v36 : BitVec 32 := Scalar.subi v21 c1_i32_13
  let v37 : BitVec 32 := Scalar.select v35 v36 v21
  let v269 : BitVec 32 := Scalar.subi v37 c0_i32_154
  let c1_i32_155 : BitVec 32 := 1#32
  let v271 : BitVec 32 := Scalar.divsi v269 c1_i32_155
  let v272 : BitVec 32 := Scalar.muli v271 c1_i32_155
  let v273 : BitVec 32 := Scalar.addi c0_i32_154 v272
  let c1_i32_157 : BitVec 32 := 1#32
  let arg14 : BitVec 32 := Scf.iv v273 c1_i32_157 k0_t8
  let c512_i32_259 : BitVec 32 := 512#32
  let v438 : BitVec 32 := Scalar.muli arg14 c512_i32_259
  let v439 : BitVec 32 := Scalar.addi v438 c0_i32_260
  let v440 : Index := Scalar.indexCast v439
  let c0_261 : Index := 0#32
  ![v440.toNat, 0]
def k0_off42 (i : grid0.Coords) (v16 : BitVec 32) (k0_t8 : Fin (k0_t8_loop i v16).trips) (c0_i32_265 : BitVec 32) : Fin 2 → Nat :=
  let c0_i32_154 : BitVec 32 := 0#32
  let arg1 : BitVec 32 := BitVec.ofNat 32 (i 1).val
  let c1_i32 : BitVec 32 := 1#32
  let v12 : BitVec 32 := Scalar.addi arg1 c1_i32
  let c128_i32 : BitVec 32 := 128#32
  let v13 : BitVec 32 := Scalar.muli v12 c128_i32
  let c_m128_i32 : BitVec 32 := 4294967168#32
  let v17 : BitVec 32 := Scalar.andi v16 c_m128_i32
  let v18 : BitVec 32 := Scalar.subi v13 v17
  let c512_i32 : BitVec 32 := 512#32
  let v19 : BitVec 32 := Scalar.addi v18 c512_i32
  let c1_i32_7 : BitVec 32 := 1#32
  let v20 : BitVec 32 := Scalar.subi v19 c1_i32_7
  let c0_i32 : BitVec 32 := 0#32
  let v22 : BitVec 1 := Scalar.cmpi .sgt v20 c0_i32
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c512_i32_8 : BitVec 32 := 512#32
  let c0_i32_10 : BitVec 32 := 0#32
  let v27 : BitVec 1 := Scalar.cmpi .sgt c512_i32_8 c0_i32_10
  let v28 : BitVec 32 := Scalar.extui v27
  let c0_i32_11 : BitVec 32 := 0#32
  let v29 : BitVec 1 := Scalar.cmpi .slt c512_i32_8 c0_i32_11
  let v30 : BitVec 32 := Scalar.extui v29
  let v31 : BitVec 32 := Scalar.subi v28 v30
  let v32 : BitVec 1 := Scalar.cmpi .ne v26 v31
  let v33 : BitVec 32 := Scalar.remsi v20 c512_i32_8
  let c0_i32_12 : BitVec 32 := 0#32
  let v34 : BitVec 1 := Scalar.cmpi .ne v33 c0_i32_12
  let v35 : BitVec 1 := Scalar.andi v32 v34
  let v21 : BitVec 32 := Scalar.divsi v20 c512_i32_8
  let c1_i32_13 : BitVec 32 := 1#32
  let v36 : BitVec 32 := Scalar.subi v21 c1_i32_13
  let v37 : BitVec 32 := Scalar.select v35 v36 v21
  let v269 : BitVec 32 := Scalar.subi v37 c0_i32_154
  let c1_i32_155 : BitVec 32 := 1#32
  let v271 : BitVec 32 := Scalar.divsi v269 c1_i32_155
  let v272 : BitVec 32 := Scalar.muli v271 c1_i32_155
  let v273 : BitVec 32 := Scalar.addi c0_i32_154 v272
  let c1_i32_157 : BitVec 32 := 1#32
  let arg14 : BitVec 32 := Scf.iv v273 c1_i32_157 k0_t8
  let c512_i32_264 : BitVec 32 := 512#32
  let v457 : BitVec 32 := Scalar.muli arg14 c512_i32_264
  let v458 : BitVec 32 := Scalar.addi v457 c0_i32_265
  let v459 : Index := Scalar.indexCast v458
  let c0_266 : Index := 0#32
  ![v459.toNat, 0]
def k0_off43 (i : grid0.Coords) (v16 : BitVec 32) (k0_t8 : Fin (k0_t8_loop i v16).trips) (c0_i32_270 : BitVec 32) : Fin 2 → Nat :=
  let c0_i32_154 : BitVec 32 := 0#32
  let arg1 : BitVec 32 := BitVec.ofNat 32 (i 1).val
  let c1_i32 : BitVec 32 := 1#32
  let v12 : BitVec 32 := Scalar.addi arg1 c1_i32
  let c128_i32 : BitVec 32 := 128#32
  let v13 : BitVec 32 := Scalar.muli v12 c128_i32
  let c_m128_i32 : BitVec 32 := 4294967168#32
  let v17 : BitVec 32 := Scalar.andi v16 c_m128_i32
  let v18 : BitVec 32 := Scalar.subi v13 v17
  let c512_i32 : BitVec 32 := 512#32
  let v19 : BitVec 32 := Scalar.addi v18 c512_i32
  let c1_i32_7 : BitVec 32 := 1#32
  let v20 : BitVec 32 := Scalar.subi v19 c1_i32_7
  let c0_i32 : BitVec 32 := 0#32
  let v22 : BitVec 1 := Scalar.cmpi .sgt v20 c0_i32
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c512_i32_8 : BitVec 32 := 512#32
  let c0_i32_10 : BitVec 32 := 0#32
  let v27 : BitVec 1 := Scalar.cmpi .sgt c512_i32_8 c0_i32_10
  let v28 : BitVec 32 := Scalar.extui v27
  let c0_i32_11 : BitVec 32 := 0#32
  let v29 : BitVec 1 := Scalar.cmpi .slt c512_i32_8 c0_i32_11
  let v30 : BitVec 32 := Scalar.extui v29
  let v31 : BitVec 32 := Scalar.subi v28 v30
  let v32 : BitVec 1 := Scalar.cmpi .ne v26 v31
  let v33 : BitVec 32 := Scalar.remsi v20 c512_i32_8
  let c0_i32_12 : BitVec 32 := 0#32
  let v34 : BitVec 1 := Scalar.cmpi .ne v33 c0_i32_12
  let v35 : BitVec 1 := Scalar.andi v32 v34
  let v21 : BitVec 32 := Scalar.divsi v20 c512_i32_8
  let c1_i32_13 : BitVec 32 := 1#32
  let v36 : BitVec 32 := Scalar.subi v21 c1_i32_13
  let v37 : BitVec 32 := Scalar.select v35 v36 v21
  let v269 : BitVec 32 := Scalar.subi v37 c0_i32_154
  let c1_i32_155 : BitVec 32 := 1#32
  let v271 : BitVec 32 := Scalar.divsi v269 c1_i32_155
  let v272 : BitVec 32 := Scalar.muli v271 c1_i32_155
  let v273 : BitVec 32 := Scalar.addi c0_i32_154 v272
  let c1_i32_157 : BitVec 32 := 1#32
  let arg14 : BitVec 32 := Scf.iv v273 c1_i32_157 k0_t8
  let c512_i32_269 : BitVec 32 := 512#32
  let v477 : BitVec 32 := Scalar.muli arg14 c512_i32_269
  let v478 : BitVec 32 := Scalar.addi v477 c0_i32_270
  let v479 : Index := Scalar.indexCast v478
  let c128_271 : Index := 128#32
  ![v479.toNat, 128]
def k0_off44 (i : grid0.Coords) (v16 : BitVec 32) (k0_t8 : Fin (k0_t8_loop i v16).trips) (c0_i32_275 : BitVec 32) : Fin 2 → Nat :=
  let c0_i32_154 : BitVec 32 := 0#32
  let arg1 : BitVec 32 := BitVec.ofNat 32 (i 1).val
  let c1_i32 : BitVec 32 := 1#32
  let v12 : BitVec 32 := Scalar.addi arg1 c1_i32
  let c128_i32 : BitVec 32 := 128#32
  let v13 : BitVec 32 := Scalar.muli v12 c128_i32
  let c_m128_i32 : BitVec 32 := 4294967168#32
  let v17 : BitVec 32 := Scalar.andi v16 c_m128_i32
  let v18 : BitVec 32 := Scalar.subi v13 v17
  let c512_i32 : BitVec 32 := 512#32
  let v19 : BitVec 32 := Scalar.addi v18 c512_i32
  let c1_i32_7 : BitVec 32 := 1#32
  let v20 : BitVec 32 := Scalar.subi v19 c1_i32_7
  let c0_i32 : BitVec 32 := 0#32
  let v22 : BitVec 1 := Scalar.cmpi .sgt v20 c0_i32
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c512_i32_8 : BitVec 32 := 512#32
  let c0_i32_10 : BitVec 32 := 0#32
  let v27 : BitVec 1 := Scalar.cmpi .sgt c512_i32_8 c0_i32_10
  let v28 : BitVec 32 := Scalar.extui v27
  let c0_i32_11 : BitVec 32 := 0#32
  let v29 : BitVec 1 := Scalar.cmpi .slt c512_i32_8 c0_i32_11
  let v30 : BitVec 32 := Scalar.extui v29
  let v31 : BitVec 32 := Scalar.subi v28 v30
  let v32 : BitVec 1 := Scalar.cmpi .ne v26 v31
  let v33 : BitVec 32 := Scalar.remsi v20 c512_i32_8
  let c0_i32_12 : BitVec 32 := 0#32
  let v34 : BitVec 1 := Scalar.cmpi .ne v33 c0_i32_12
  let v35 : BitVec 1 := Scalar.andi v32 v34
  let v21 : BitVec 32 := Scalar.divsi v20 c512_i32_8
  let c1_i32_13 : BitVec 32 := 1#32
  let v36 : BitVec 32 := Scalar.subi v21 c1_i32_13
  let v37 : BitVec 32 := Scalar.select v35 v36 v21
  let v269 : BitVec 32 := Scalar.subi v37 c0_i32_154
  let c1_i32_155 : BitVec 32 := 1#32
  let v271 : BitVec 32 := Scalar.divsi v269 c1_i32_155
  let v272 : BitVec 32 := Scalar.muli v271 c1_i32_155
  let v273 : BitVec 32 := Scalar.addi c0_i32_154 v272
  let c1_i32_157 : BitVec 32 := 1#32
  let arg14 : BitVec 32 := Scf.iv v273 c1_i32_157 k0_t8
  let c512_i32_274 : BitVec 32 := 512#32
  let v497 : BitVec 32 := Scalar.muli arg14 c512_i32_274
  let v498 : BitVec 32 := Scalar.addi v497 c0_i32_275
  let v499 : Index := Scalar.indexCast v498
  let c256_276 : Index := 256#32
  ![v499.toNat, 256]
def k0_off45 (i : grid0.Coords) (v16 : BitVec 32) (k0_t8 : Fin (k0_t8_loop i v16).trips) (c0_i32_280 : BitVec 32) : Fin 2 → Nat :=
  let c0_i32_154 : BitVec 32 := 0#32
  let arg1 : BitVec 32 := BitVec.ofNat 32 (i 1).val
  let c1_i32 : BitVec 32 := 1#32
  let v12 : BitVec 32 := Scalar.addi arg1 c1_i32
  let c128_i32 : BitVec 32 := 128#32
  let v13 : BitVec 32 := Scalar.muli v12 c128_i32
  let c_m128_i32 : BitVec 32 := 4294967168#32
  let v17 : BitVec 32 := Scalar.andi v16 c_m128_i32
  let v18 : BitVec 32 := Scalar.subi v13 v17
  let c512_i32 : BitVec 32 := 512#32
  let v19 : BitVec 32 := Scalar.addi v18 c512_i32
  let c1_i32_7 : BitVec 32 := 1#32
  let v20 : BitVec 32 := Scalar.subi v19 c1_i32_7
  let c0_i32 : BitVec 32 := 0#32
  let v22 : BitVec 1 := Scalar.cmpi .sgt v20 c0_i32
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c512_i32_8 : BitVec 32 := 512#32
  let c0_i32_10 : BitVec 32 := 0#32
  let v27 : BitVec 1 := Scalar.cmpi .sgt c512_i32_8 c0_i32_10
  let v28 : BitVec 32 := Scalar.extui v27
  let c0_i32_11 : BitVec 32 := 0#32
  let v29 : BitVec 1 := Scalar.cmpi .slt c512_i32_8 c0_i32_11
  let v30 : BitVec 32 := Scalar.extui v29
  let v31 : BitVec 32 := Scalar.subi v28 v30
  let v32 : BitVec 1 := Scalar.cmpi .ne v26 v31
  let v33 : BitVec 32 := Scalar.remsi v20 c512_i32_8
  let c0_i32_12 : BitVec 32 := 0#32
  let v34 : BitVec 1 := Scalar.cmpi .ne v33 c0_i32_12
  let v35 : BitVec 1 := Scalar.andi v32 v34
  let v21 : BitVec 32 := Scalar.divsi v20 c512_i32_8
  let c1_i32_13 : BitVec 32 := 1#32
  let v36 : BitVec 32 := Scalar.subi v21 c1_i32_13
  let v37 : BitVec 32 := Scalar.select v35 v36 v21
  let v269 : BitVec 32 := Scalar.subi v37 c0_i32_154
  let c1_i32_155 : BitVec 32 := 1#32
  let v271 : BitVec 32 := Scalar.divsi v269 c1_i32_155
  let v272 : BitVec 32 := Scalar.muli v271 c1_i32_155
  let v273 : BitVec 32 := Scalar.addi c0_i32_154 v272
  let c1_i32_157 : BitVec 32 := 1#32
  let arg14 : BitVec 32 := Scf.iv v273 c1_i32_157 k0_t8
  let c512_i32_279 : BitVec 32 := 512#32
  let v517 : BitVec 32 := Scalar.muli arg14 c512_i32_279
  let v518 : BitVec 32 := Scalar.addi v517 c0_i32_280
  let v519 : Index := Scalar.indexCast v518
  let c384_281 : Index := 384#32
  ![v519.toNat, 384]
@[reducible] def k0_t9_loop (i : grid0.Coords) (v16 : BitVec 32) : Scf.Loop 32 :=
  let c0_i32_171 : BitVec 32 := 0#32
  let arg1 : BitVec 32 := BitVec.ofNat 32 (i 1).val
  let c1_i32 : BitVec 32 := 1#32
  let v12 : BitVec 32 := Scalar.addi arg1 c1_i32
  let c128_i32 : BitVec 32 := 128#32
  let v13 : BitVec 32 := Scalar.muli v12 c128_i32
  let c_m128_i32 : BitVec 32 := 4294967168#32
  let v17 : BitVec 32 := Scalar.andi v16 c_m128_i32
  let v18 : BitVec 32 := Scalar.subi v13 v17
  let c512_i32 : BitVec 32 := 512#32
  let v19 : BitVec 32 := Scalar.addi v18 c512_i32
  let c1_i32_7 : BitVec 32 := 1#32
  let v20 : BitVec 32 := Scalar.subi v19 c1_i32_7
  let c0_i32 : BitVec 32 := 0#32
  let v22 : BitVec 1 := Scalar.cmpi .sgt v20 c0_i32
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c512_i32_8 : BitVec 32 := 512#32
  let c0_i32_10 : BitVec 32 := 0#32
  let v27 : BitVec 1 := Scalar.cmpi .sgt c512_i32_8 c0_i32_10
  let v28 : BitVec 32 := Scalar.extui v27
  let c0_i32_11 : BitVec 32 := 0#32
  let v29 : BitVec 1 := Scalar.cmpi .slt c512_i32_8 c0_i32_11
  let v30 : BitVec 32 := Scalar.extui v29
  let v31 : BitVec 32 := Scalar.subi v28 v30
  let v32 : BitVec 1 := Scalar.cmpi .ne v26 v31
  let v33 : BitVec 32 := Scalar.remsi v20 c512_i32_8
  let c0_i32_12 : BitVec 32 := 0#32
  let v34 : BitVec 1 := Scalar.cmpi .ne v33 c0_i32_12
  let v35 : BitVec 1 := Scalar.andi v32 v34
  let v21 : BitVec 32 := Scalar.divsi v20 c512_i32_8
  let c1_i32_13 : BitVec 32 := 1#32
  let v36 : BitVec 32 := Scalar.subi v21 c1_i32_13
  let v37 : BitVec 32 := Scalar.select v35 v36 v21
  let v297 : BitVec 32 := Scalar.subi v37 c0_i32_171
  let c1_i32_172 : BitVec 32 := 1#32
  let v299 : BitVec 32 := Scalar.divsi v297 c1_i32_172
  let v300 : BitVec 32 := Scalar.muli v299 c1_i32_172
  let v301 : BitVec 32 := Scalar.addi c0_i32_171 v300
  let c1_i32_173 : BitVec 32 := 1#32
  ⟨c0_i32_171, v301, c1_i32_173⟩
def k0_mult17 (i : grid0.Coords) (v16 : BitVec 32) (k0_t9 : Fin (k0_t9_loop i v16).trips) : BitVec 32 :=
  let c_m128_i32 : BitVec 32 := 4294967168#32
  let v17 : BitVec 32 := Scalar.andi v16 c_m128_i32
  let c16384_i32 : BitVec 32 := 16384#32
  let arg1 : BitVec 32 := BitVec.ofNat 32 (i 1).val
  let c1_i32 : BitVec 32 := 1#32
  let v12 : BitVec 32 := Scalar.addi arg1 c1_i32
  let c128_i32 : BitVec 32 := 128#32
  let v13 : BitVec 32 := Scalar.muli v12 c128_i32
  let v18 : BitVec 32 := Scalar.subi v13 v17
  let c512_i32 : BitVec 32 := 512#32
  let v19 : BitVec 32 := Scalar.addi v18 c512_i32
  let c1_i32_7 : BitVec 32 := 1#32
  let v20 : BitVec 32 := Scalar.subi v19 c1_i32_7
  let c0_i32 : BitVec 32 := 0#32
  let v22 : BitVec 1 := Scalar.cmpi .sgt v20 c0_i32
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c512_i32_8 : BitVec 32 := 512#32
  let c0_i32_10 : BitVec 32 := 0#32
  let v27 : BitVec 1 := Scalar.cmpi .sgt c512_i32_8 c0_i32_10
  let v28 : BitVec 32 := Scalar.extui v27
  let c0_i32_11 : BitVec 32 := 0#32
  let v29 : BitVec 1 := Scalar.cmpi .slt c512_i32_8 c0_i32_11
  let v30 : BitVec 32 := Scalar.extui v29
  let v31 : BitVec 32 := Scalar.subi v28 v30
  let v32 : BitVec 1 := Scalar.cmpi .ne v26 v31
  let v33 : BitVec 32 := Scalar.remsi v20 c512_i32_8
  let c0_i32_12 : BitVec 32 := 0#32
  let v34 : BitVec 1 := Scalar.cmpi .ne v33 c0_i32_12
  let v35 : BitVec 1 := Scalar.andi v32 v34
  let v21 : BitVec 32 := Scalar.divsi v20 c512_i32_8
  let c1_i32_13 : BitVec 32 := 1#32
  let v36 : BitVec 32 := Scalar.subi v21 c1_i32_13
  let v37 : BitVec 32 := Scalar.select v35 v36 v21
  let c512_i32_14 : BitVec 32 := 512#32
  let v38 : BitVec 32 := Scalar.muli v37 c512_i32_14
  let v39 : BitVec 32 := Scalar.subi c16384_i32 v38
  let v40 : BitVec 32 := Scalar.minsi v17 v39
  let c0_i32_171 : BitVec 32 := 0#32
  let c1_i32_173 : BitVec 32 := 1#32
  let arg14 : BitVec 32 := Scf.iv c0_i32_171 c1_i32_173 k0_t9
  let c512_i32_246 : BitVec 32 := 512#32
  let v410 : BitVec 32 := Scalar.muli arg14 c512_i32_246
  let v411 : BitVec 32 := Scalar.addi v40 v410
  v411
def k0_mult18 (i : grid0.Coords) (v16 : BitVec 32) (k0_t9 : Fin (k0_t9_loop i v16).trips) : BitVec 32 :=
  let c0_i32_171 : BitVec 32 := 0#32
  let c1_i32_173 : BitVec 32 := 1#32
  let arg14 : BitVec 32 := Scf.iv c0_i32_171 c1_i32_173 k0_t9
  let c512_i32_247 : BitVec 32 := 512#32
  let v413 : BitVec 32 := Scalar.muli arg14 c512_i32_247
  v413
def k0_off46 (i : grid0.Coords) (v16 : BitVec 32) (k0_t9 : Fin (k0_t9_loop i v16).trips) : Fin 2 → Nat :=
  let c0_i32_171 : BitVec 32 := 0#32
  let c1_i32_173 : BitVec 32 := 1#32
  let arg14 : BitVec 32 := Scf.iv c0_i32_171 c1_i32_173 k0_t9
  let c512_i32_247 : BitVec 32 := 512#32
  let v413 : BitVec 32 := Scalar.muli arg14 c512_i32_247
  let v414 : BitVec 32 := v413
  let v415 : Index := Scalar.indexCast v414
  let c0_248 : Index := 0#32
  ![v415.toNat, 0]
def k0_mult19 (i : grid0.Coords) (v16 : BitVec 32) (k0_t9 : Fin (k0_t9_loop i v16).trips) : BitVec 32 :=
  let c0_i32_171 : BitVec 32 := 0#32
  let c1_i32_173 : BitVec 32 := 1#32
  let arg14 : BitVec 32 := Scf.iv c0_i32_171 c1_i32_173 k0_t9
  let c512_i32_252 : BitVec 32 := 512#32
  let v428 : BitVec 32 := Scalar.muli arg14 c512_i32_252
  v428
def k0_off47 (i : grid0.Coords) (v16 : BitVec 32) (k0_t9 : Fin (k0_t9_loop i v16).trips) : Fin 2 → Nat :=
  let c0_i32_171 : BitVec 32 := 0#32
  let c1_i32_173 : BitVec 32 := 1#32
  let arg14 : BitVec 32 := Scf.iv c0_i32_171 c1_i32_173 k0_t9
  let c512_i32_252 : BitVec 32 := 512#32
  let v428 : BitVec 32 := Scalar.muli arg14 c512_i32_252
  let v429 : BitVec 32 := v428
  let v430 : Index := Scalar.indexCast v429
  let c128_253 : Index := 128#32
  ![v430.toNat, 128]
def k0_mult20 (i : grid0.Coords) (v16 : BitVec 32) (k0_t9 : Fin (k0_t9_loop i v16).trips) : BitVec 32 :=
  let c0_i32_171 : BitVec 32 := 0#32
  let c1_i32_173 : BitVec 32 := 1#32
  let arg14 : BitVec 32 := Scf.iv c0_i32_171 c1_i32_173 k0_t9
  let c512_i32_257 : BitVec 32 := 512#32
  let v443 : BitVec 32 := Scalar.muli arg14 c512_i32_257
  v443
def k0_off48 (i : grid0.Coords) (v16 : BitVec 32) (k0_t9 : Fin (k0_t9_loop i v16).trips) : Fin 2 → Nat :=
  let c0_i32_171 : BitVec 32 := 0#32
  let c1_i32_173 : BitVec 32 := 1#32
  let arg14 : BitVec 32 := Scf.iv c0_i32_171 c1_i32_173 k0_t9
  let c512_i32_257 : BitVec 32 := 512#32
  let v443 : BitVec 32 := Scalar.muli arg14 c512_i32_257
  let v444 : BitVec 32 := v443
  let v445 : Index := Scalar.indexCast v444
  let c256_258 : Index := 256#32
  ![v445.toNat, 256]
def k0_mult21 (i : grid0.Coords) (v16 : BitVec 32) (k0_t9 : Fin (k0_t9_loop i v16).trips) : BitVec 32 :=
  let c0_i32_171 : BitVec 32 := 0#32
  let c1_i32_173 : BitVec 32 := 1#32
  let arg14 : BitVec 32 := Scf.iv c0_i32_171 c1_i32_173 k0_t9
  let c512_i32_262 : BitVec 32 := 512#32
  let v458 : BitVec 32 := Scalar.muli arg14 c512_i32_262
  v458
def k0_off49 (i : grid0.Coords) (v16 : BitVec 32) (k0_t9 : Fin (k0_t9_loop i v16).trips) : Fin 2 → Nat :=
  let c0_i32_171 : BitVec 32 := 0#32
  let c1_i32_173 : BitVec 32 := 1#32
  let arg14 : BitVec 32 := Scf.iv c0_i32_171 c1_i32_173 k0_t9
  let c512_i32_262 : BitVec 32 := 512#32
  let v458 : BitVec 32 := Scalar.muli arg14 c512_i32_262
  let v459 : BitVec 32 := v458
  let v460 : Index := Scalar.indexCast v459
  let c384_263 : Index := 384#32
  ![v460.toNat, 384]
def k0_off50 (i : grid0.Coords) (v16 : BitVec 32) (k0_t9 : Fin (k0_t9_loop i v16).trips) : Fin 3 → Nat :=
  let c0_267 : Index := 0#32
  let c0_268 : Index := 0#32
  let c_m128_i32 : BitVec 32 := 4294967168#32
  let v17 : BitVec 32 := Scalar.andi v16 c_m128_i32
  let c16384_i32 : BitVec 32 := 16384#32
  let arg1 : BitVec 32 := BitVec.ofNat 32 (i 1).val
  let c1_i32 : BitVec 32 := 1#32
  let v12 : BitVec 32 := Scalar.addi arg1 c1_i32
  let c128_i32 : BitVec 32 := 128#32
  let v13 : BitVec 32 := Scalar.muli v12 c128_i32
  let v18 : BitVec 32 := Scalar.subi v13 v17
  let c512_i32 : BitVec 32 := 512#32
  let v19 : BitVec 32 := Scalar.addi v18 c512_i32
  let c1_i32_7 : BitVec 32 := 1#32
  let v20 : BitVec 32 := Scalar.subi v19 c1_i32_7
  let c0_i32 : BitVec 32 := 0#32
  let v22 : BitVec 1 := Scalar.cmpi .sgt v20 c0_i32
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c512_i32_8 : BitVec 32 := 512#32
  let c0_i32_10 : BitVec 32 := 0#32
  let v27 : BitVec 1 := Scalar.cmpi .sgt c512_i32_8 c0_i32_10
  let v28 : BitVec 32 := Scalar.extui v27
  let c0_i32_11 : BitVec 32 := 0#32
  let v29 : BitVec 1 := Scalar.cmpi .slt c512_i32_8 c0_i32_11
  let v30 : BitVec 32 := Scalar.extui v29
  let v31 : BitVec 32 := Scalar.subi v28 v30
  let v32 : BitVec 1 := Scalar.cmpi .ne v26 v31
  let v33 : BitVec 32 := Scalar.remsi v20 c512_i32_8
  let c0_i32_12 : BitVec 32 := 0#32
  let v34 : BitVec 1 := Scalar.cmpi .ne v33 c0_i32_12
  let v35 : BitVec 1 := Scalar.andi v32 v34
  let v21 : BitVec 32 := Scalar.divsi v20 c512_i32_8
  let c1_i32_13 : BitVec 32 := 1#32
  let v36 : BitVec 32 := Scalar.subi v21 c1_i32_13
  let v37 : BitVec 32 := Scalar.select v35 v36 v21
  let c512_i32_14 : BitVec 32 := 512#32
  let v38 : BitVec 32 := Scalar.muli v37 c512_i32_14
  let v39 : BitVec 32 := Scalar.subi c16384_i32 v38
  let v40 : BitVec 32 := Scalar.minsi v17 v39
  let c0_i32_171 : BitVec 32 := 0#32
  let c1_i32_173 : BitVec 32 := 1#32
  let arg14 : BitVec 32 := Scf.iv c0_i32_171 c1_i32_173 k0_t9
  let c512_i32_246 : BitVec 32 := 512#32
  let v410 : BitVec 32 := Scalar.muli arg14 c512_i32_246
  let v411 : BitVec 32 := Scalar.addi v40 v410
  let v412 : BitVec 32 := v411
  let v474 : Index := Scalar.indexCast v412
  ![0, 0, v474.toNat]
@[reducible] def k0_t10_loop (i : grid0.Coords) (v16 : BitVec 32) : Scf.Loop 32 :=
  let c0_i32_171 : BitVec 32 := 0#32
  let arg1 : BitVec 32 := BitVec.ofNat 32 (i 1).val
  let c1_i32 : BitVec 32 := 1#32
  let v12 : BitVec 32 := Scalar.addi arg1 c1_i32
  let c128_i32 : BitVec 32 := 128#32
  let v13 : BitVec 32 := Scalar.muli v12 c128_i32
  let c_m128_i32 : BitVec 32 := 4294967168#32
  let v17 : BitVec 32 := Scalar.andi v16 c_m128_i32
  let v18 : BitVec 32 := Scalar.subi v13 v17
  let c512_i32 : BitVec 32 := 512#32
  let v19 : BitVec 32 := Scalar.addi v18 c512_i32
  let c1_i32_7 : BitVec 32 := 1#32
  let v20 : BitVec 32 := Scalar.subi v19 c1_i32_7
  let c0_i32 : BitVec 32 := 0#32
  let v22 : BitVec 1 := Scalar.cmpi .sgt v20 c0_i32
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c512_i32_8 : BitVec 32 := 512#32
  let c0_i32_10 : BitVec 32 := 0#32
  let v27 : BitVec 1 := Scalar.cmpi .sgt c512_i32_8 c0_i32_10
  let v28 : BitVec 32 := Scalar.extui v27
  let c0_i32_11 : BitVec 32 := 0#32
  let v29 : BitVec 1 := Scalar.cmpi .slt c512_i32_8 c0_i32_11
  let v30 : BitVec 32 := Scalar.extui v29
  let v31 : BitVec 32 := Scalar.subi v28 v30
  let v32 : BitVec 1 := Scalar.cmpi .ne v26 v31
  let v33 : BitVec 32 := Scalar.remsi v20 c512_i32_8
  let c0_i32_12 : BitVec 32 := 0#32
  let v34 : BitVec 1 := Scalar.cmpi .ne v33 c0_i32_12
  let v35 : BitVec 1 := Scalar.andi v32 v34
  let v21 : BitVec 32 := Scalar.divsi v20 c512_i32_8
  let c1_i32_13 : BitVec 32 := 1#32
  let v36 : BitVec 32 := Scalar.subi v21 c1_i32_13
  let v37 : BitVec 32 := Scalar.select v35 v36 v21
  let v297 : BitVec 32 := Scalar.subi v37 c0_i32_171
  let c1_i32_172 : BitVec 32 := 1#32
  let v299 : BitVec 32 := Scalar.divsi v297 c1_i32_172
  let v300 : BitVec 32 := Scalar.muli v299 c1_i32_172
  let v301 : BitVec 32 := Scalar.addi c0_i32_171 v300
  let v298 : BitVec 32 := Scalar.addi c0_i32_171 v297
  let c1_i32_174 : BitVec 32 := 1#32
  ⟨v301, v298, c1_i32_174⟩
def k0_mult22 (i : grid0.Coords) (v16 : BitVec 32) (k0_t10 : Fin (k0_t10_loop i v16).trips) : BitVec 32 :=
  let c_m128_i32 : BitVec 32 := 4294967168#32
  let v17 : BitVec 32 := Scalar.andi v16 c_m128_i32
  let c16384_i32 : BitVec 32 := 16384#32
  let arg1 : BitVec 32 := BitVec.ofNat 32 (i 1).val
  let c1_i32 : BitVec 32 := 1#32
  let v12 : BitVec 32 := Scalar.addi arg1 c1_i32
  let c128_i32 : BitVec 32 := 128#32
  let v13 : BitVec 32 := Scalar.muli v12 c128_i32
  let v18 : BitVec 32 := Scalar.subi v13 v17
  let c512_i32 : BitVec 32 := 512#32
  let v19 : BitVec 32 := Scalar.addi v18 c512_i32
  let c1_i32_7 : BitVec 32 := 1#32
  let v20 : BitVec 32 := Scalar.subi v19 c1_i32_7
  let c0_i32 : BitVec 32 := 0#32
  let v22 : BitVec 1 := Scalar.cmpi .sgt v20 c0_i32
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c512_i32_8 : BitVec 32 := 512#32
  let c0_i32_10 : BitVec 32 := 0#32
  let v27 : BitVec 1 := Scalar.cmpi .sgt c512_i32_8 c0_i32_10
  let v28 : BitVec 32 := Scalar.extui v27
  let c0_i32_11 : BitVec 32 := 0#32
  let v29 : BitVec 1 := Scalar.cmpi .slt c512_i32_8 c0_i32_11
  let v30 : BitVec 32 := Scalar.extui v29
  let v31 : BitVec 32 := Scalar.subi v28 v30
  let v32 : BitVec 1 := Scalar.cmpi .ne v26 v31
  let v33 : BitVec 32 := Scalar.remsi v20 c512_i32_8
  let c0_i32_12 : BitVec 32 := 0#32
  let v34 : BitVec 1 := Scalar.cmpi .ne v33 c0_i32_12
  let v35 : BitVec 1 := Scalar.andi v32 v34
  let v21 : BitVec 32 := Scalar.divsi v20 c512_i32_8
  let c1_i32_13 : BitVec 32 := 1#32
  let v36 : BitVec 32 := Scalar.subi v21 c1_i32_13
  let v37 : BitVec 32 := Scalar.select v35 v36 v21
  let c512_i32_14 : BitVec 32 := 512#32
  let v38 : BitVec 32 := Scalar.muli v37 c512_i32_14
  let v39 : BitVec 32 := Scalar.subi c16384_i32 v38
  let v40 : BitVec 32 := Scalar.minsi v17 v39
  let c0_i32_171 : BitVec 32 := 0#32
  let v297 : BitVec 32 := Scalar.subi v37 c0_i32_171
  let c1_i32_172 : BitVec 32 := 1#32
  let v299 : BitVec 32 := Scalar.divsi v297 c1_i32_172
  let v300 : BitVec 32 := Scalar.muli v299 c1_i32_172
  let v301 : BitVec 32 := Scalar.addi c0_i32_171 v300
  let c1_i32_174 : BitVec 32 := 1#32
  let arg14 : BitVec 32 := Scf.iv v301 c1_i32_174 k0_t10
  let c512_i32_246 : BitVec 32 := 512#32
  let v410 : BitVec 32 := Scalar.muli arg14 c512_i32_246
  let v411 : BitVec 32 := Scalar.addi v40 v410
  v411
def k0_mult23 (i : grid0.Coords) (v16 : BitVec 32) (k0_t10 : Fin (k0_t10_loop i v16).trips) : BitVec 32 :=
  let c0_i32_171 : BitVec 32 := 0#32
  let arg1 : BitVec 32 := BitVec.ofNat 32 (i 1).val
  let c1_i32 : BitVec 32 := 1#32
  let v12 : BitVec 32 := Scalar.addi arg1 c1_i32
  let c128_i32 : BitVec 32 := 128#32
  let v13 : BitVec 32 := Scalar.muli v12 c128_i32
  let c_m128_i32 : BitVec 32 := 4294967168#32
  let v17 : BitVec 32 := Scalar.andi v16 c_m128_i32
  let v18 : BitVec 32 := Scalar.subi v13 v17
  let c512_i32 : BitVec 32 := 512#32
  let v19 : BitVec 32 := Scalar.addi v18 c512_i32
  let c1_i32_7 : BitVec 32 := 1#32
  let v20 : BitVec 32 := Scalar.subi v19 c1_i32_7
  let c0_i32 : BitVec 32 := 0#32
  let v22 : BitVec 1 := Scalar.cmpi .sgt v20 c0_i32
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c512_i32_8 : BitVec 32 := 512#32
  let c0_i32_10 : BitVec 32 := 0#32
  let v27 : BitVec 1 := Scalar.cmpi .sgt c512_i32_8 c0_i32_10
  let v28 : BitVec 32 := Scalar.extui v27
  let c0_i32_11 : BitVec 32 := 0#32
  let v29 : BitVec 1 := Scalar.cmpi .slt c512_i32_8 c0_i32_11
  let v30 : BitVec 32 := Scalar.extui v29
  let v31 : BitVec 32 := Scalar.subi v28 v30
  let v32 : BitVec 1 := Scalar.cmpi .ne v26 v31
  let v33 : BitVec 32 := Scalar.remsi v20 c512_i32_8
  let c0_i32_12 : BitVec 32 := 0#32
  let v34 : BitVec 1 := Scalar.cmpi .ne v33 c0_i32_12
  let v35 : BitVec 1 := Scalar.andi v32 v34
  let v21 : BitVec 32 := Scalar.divsi v20 c512_i32_8
  let c1_i32_13 : BitVec 32 := 1#32
  let v36 : BitVec 32 := Scalar.subi v21 c1_i32_13
  let v37 : BitVec 32 := Scalar.select v35 v36 v21
  let v297 : BitVec 32 := Scalar.subi v37 c0_i32_171
  let c1_i32_172 : BitVec 32 := 1#32
  let v299 : BitVec 32 := Scalar.divsi v297 c1_i32_172
  let v300 : BitVec 32 := Scalar.muli v299 c1_i32_172
  let v301 : BitVec 32 := Scalar.addi c0_i32_171 v300
  let c1_i32_174 : BitVec 32 := 1#32
  let arg14 : BitVec 32 := Scf.iv v301 c1_i32_174 k0_t10
  let c512_i32_247 : BitVec 32 := 512#32
  let v413 : BitVec 32 := Scalar.muli arg14 c512_i32_247
  v413
def k0_off51 (i : grid0.Coords) (v16 : BitVec 32) (k0_t10 : Fin (k0_t10_loop i v16).trips) : Fin 2 → Nat :=
  let c0_i32_171 : BitVec 32 := 0#32
  let arg1 : BitVec 32 := BitVec.ofNat 32 (i 1).val
  let c1_i32 : BitVec 32 := 1#32
  let v12 : BitVec 32 := Scalar.addi arg1 c1_i32
  let c128_i32 : BitVec 32 := 128#32
  let v13 : BitVec 32 := Scalar.muli v12 c128_i32
  let c_m128_i32 : BitVec 32 := 4294967168#32
  let v17 : BitVec 32 := Scalar.andi v16 c_m128_i32
  let v18 : BitVec 32 := Scalar.subi v13 v17
  let c512_i32 : BitVec 32 := 512#32
  let v19 : BitVec 32 := Scalar.addi v18 c512_i32
  let c1_i32_7 : BitVec 32 := 1#32
  let v20 : BitVec 32 := Scalar.subi v19 c1_i32_7
  let c0_i32 : BitVec 32 := 0#32
  let v22 : BitVec 1 := Scalar.cmpi .sgt v20 c0_i32
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c512_i32_8 : BitVec 32 := 512#32
  let c0_i32_10 : BitVec 32 := 0#32
  let v27 : BitVec 1 := Scalar.cmpi .sgt c512_i32_8 c0_i32_10
  let v28 : BitVec 32 := Scalar.extui v27
  let c0_i32_11 : BitVec 32 := 0#32
  let v29 : BitVec 1 := Scalar.cmpi .slt c512_i32_8 c0_i32_11
  let v30 : BitVec 32 := Scalar.extui v29
  let v31 : BitVec 32 := Scalar.subi v28 v30
  let v32 : BitVec 1 := Scalar.cmpi .ne v26 v31
  let v33 : BitVec 32 := Scalar.remsi v20 c512_i32_8
  let c0_i32_12 : BitVec 32 := 0#32
  let v34 : BitVec 1 := Scalar.cmpi .ne v33 c0_i32_12
  let v35 : BitVec 1 := Scalar.andi v32 v34
  let v21 : BitVec 32 := Scalar.divsi v20 c512_i32_8
  let c1_i32_13 : BitVec 32 := 1#32
  let v36 : BitVec 32 := Scalar.subi v21 c1_i32_13
  let v37 : BitVec 32 := Scalar.select v35 v36 v21
  let v297 : BitVec 32 := Scalar.subi v37 c0_i32_171
  let c1_i32_172 : BitVec 32 := 1#32
  let v299 : BitVec 32 := Scalar.divsi v297 c1_i32_172
  let v300 : BitVec 32 := Scalar.muli v299 c1_i32_172
  let v301 : BitVec 32 := Scalar.addi c0_i32_171 v300
  let c1_i32_174 : BitVec 32 := 1#32
  let arg14 : BitVec 32 := Scf.iv v301 c1_i32_174 k0_t10
  let c512_i32_247 : BitVec 32 := 512#32
  let v413 : BitVec 32 := Scalar.muli arg14 c512_i32_247
  let v414 : BitVec 32 := v413
  let v415 : Index := Scalar.indexCast v414
  let c0_248 : Index := 0#32
  ![v415.toNat, 0]
def k0_mult24 (i : grid0.Coords) (v16 : BitVec 32) (k0_t10 : Fin (k0_t10_loop i v16).trips) : BitVec 32 :=
  let c0_i32_171 : BitVec 32 := 0#32
  let arg1 : BitVec 32 := BitVec.ofNat 32 (i 1).val
  let c1_i32 : BitVec 32 := 1#32
  let v12 : BitVec 32 := Scalar.addi arg1 c1_i32
  let c128_i32 : BitVec 32 := 128#32
  let v13 : BitVec 32 := Scalar.muli v12 c128_i32
  let c_m128_i32 : BitVec 32 := 4294967168#32
  let v17 : BitVec 32 := Scalar.andi v16 c_m128_i32
  let v18 : BitVec 32 := Scalar.subi v13 v17
  let c512_i32 : BitVec 32 := 512#32
  let v19 : BitVec 32 := Scalar.addi v18 c512_i32
  let c1_i32_7 : BitVec 32 := 1#32
  let v20 : BitVec 32 := Scalar.subi v19 c1_i32_7
  let c0_i32 : BitVec 32 := 0#32
  let v22 : BitVec 1 := Scalar.cmpi .sgt v20 c0_i32
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c512_i32_8 : BitVec 32 := 512#32
  let c0_i32_10 : BitVec 32 := 0#32
  let v27 : BitVec 1 := Scalar.cmpi .sgt c512_i32_8 c0_i32_10
  let v28 : BitVec 32 := Scalar.extui v27
  let c0_i32_11 : BitVec 32 := 0#32
  let v29 : BitVec 1 := Scalar.cmpi .slt c512_i32_8 c0_i32_11
  let v30 : BitVec 32 := Scalar.extui v29
  let v31 : BitVec 32 := Scalar.subi v28 v30
  let v32 : BitVec 1 := Scalar.cmpi .ne v26 v31
  let v33 : BitVec 32 := Scalar.remsi v20 c512_i32_8
  let c0_i32_12 : BitVec 32 := 0#32
  let v34 : BitVec 1 := Scalar.cmpi .ne v33 c0_i32_12
  let v35 : BitVec 1 := Scalar.andi v32 v34
  let v21 : BitVec 32 := Scalar.divsi v20 c512_i32_8
  let c1_i32_13 : BitVec 32 := 1#32
  let v36 : BitVec 32 := Scalar.subi v21 c1_i32_13
  let v37 : BitVec 32 := Scalar.select v35 v36 v21
  let v297 : BitVec 32 := Scalar.subi v37 c0_i32_171
  let c1_i32_172 : BitVec 32 := 1#32
  let v299 : BitVec 32 := Scalar.divsi v297 c1_i32_172
  let v300 : BitVec 32 := Scalar.muli v299 c1_i32_172
  let v301 : BitVec 32 := Scalar.addi c0_i32_171 v300
  let c1_i32_174 : BitVec 32 := 1#32
  let arg14 : BitVec 32 := Scf.iv v301 c1_i32_174 k0_t10
  let c512_i32_252 : BitVec 32 := 512#32
  let v428 : BitVec 32 := Scalar.muli arg14 c512_i32_252
  v428
def k0_off52 (i : grid0.Coords) (v16 : BitVec 32) (k0_t10 : Fin (k0_t10_loop i v16).trips) : Fin 2 → Nat :=
  let c0_i32_171 : BitVec 32 := 0#32
  let arg1 : BitVec 32 := BitVec.ofNat 32 (i 1).val
  let c1_i32 : BitVec 32 := 1#32
  let v12 : BitVec 32 := Scalar.addi arg1 c1_i32
  let c128_i32 : BitVec 32 := 128#32
  let v13 : BitVec 32 := Scalar.muli v12 c128_i32
  let c_m128_i32 : BitVec 32 := 4294967168#32
  let v17 : BitVec 32 := Scalar.andi v16 c_m128_i32
  let v18 : BitVec 32 := Scalar.subi v13 v17
  let c512_i32 : BitVec 32 := 512#32
  let v19 : BitVec 32 := Scalar.addi v18 c512_i32
  let c1_i32_7 : BitVec 32 := 1#32
  let v20 : BitVec 32 := Scalar.subi v19 c1_i32_7
  let c0_i32 : BitVec 32 := 0#32
  let v22 : BitVec 1 := Scalar.cmpi .sgt v20 c0_i32
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c512_i32_8 : BitVec 32 := 512#32
  let c0_i32_10 : BitVec 32 := 0#32
  let v27 : BitVec 1 := Scalar.cmpi .sgt c512_i32_8 c0_i32_10
  let v28 : BitVec 32 := Scalar.extui v27
  let c0_i32_11 : BitVec 32 := 0#32
  let v29 : BitVec 1 := Scalar.cmpi .slt c512_i32_8 c0_i32_11
  let v30 : BitVec 32 := Scalar.extui v29
  let v31 : BitVec 32 := Scalar.subi v28 v30
  let v32 : BitVec 1 := Scalar.cmpi .ne v26 v31
  let v33 : BitVec 32 := Scalar.remsi v20 c512_i32_8
  let c0_i32_12 : BitVec 32 := 0#32
  let v34 : BitVec 1 := Scalar.cmpi .ne v33 c0_i32_12
  let v35 : BitVec 1 := Scalar.andi v32 v34
  let v21 : BitVec 32 := Scalar.divsi v20 c512_i32_8
  let c1_i32_13 : BitVec 32 := 1#32
  let v36 : BitVec 32 := Scalar.subi v21 c1_i32_13
  let v37 : BitVec 32 := Scalar.select v35 v36 v21
  let v297 : BitVec 32 := Scalar.subi v37 c0_i32_171
  let c1_i32_172 : BitVec 32 := 1#32
  let v299 : BitVec 32 := Scalar.divsi v297 c1_i32_172
  let v300 : BitVec 32 := Scalar.muli v299 c1_i32_172
  let v301 : BitVec 32 := Scalar.addi c0_i32_171 v300
  let c1_i32_174 : BitVec 32 := 1#32
  let arg14 : BitVec 32 := Scf.iv v301 c1_i32_174 k0_t10
  let c512_i32_252 : BitVec 32 := 512#32
  let v428 : BitVec 32 := Scalar.muli arg14 c512_i32_252
  let v429 : BitVec 32 := v428
  let v430 : Index := Scalar.indexCast v429
  let c128_253 : Index := 128#32
  ![v430.toNat, 128]
def k0_mult25 (i : grid0.Coords) (v16 : BitVec 32) (k0_t10 : Fin (k0_t10_loop i v16).trips) : BitVec 32 :=
  let c0_i32_171 : BitVec 32 := 0#32
  let arg1 : BitVec 32 := BitVec.ofNat 32 (i 1).val
  let c1_i32 : BitVec 32 := 1#32
  let v12 : BitVec 32 := Scalar.addi arg1 c1_i32
  let c128_i32 : BitVec 32 := 128#32
  let v13 : BitVec 32 := Scalar.muli v12 c128_i32
  let c_m128_i32 : BitVec 32 := 4294967168#32
  let v17 : BitVec 32 := Scalar.andi v16 c_m128_i32
  let v18 : BitVec 32 := Scalar.subi v13 v17
  let c512_i32 : BitVec 32 := 512#32
  let v19 : BitVec 32 := Scalar.addi v18 c512_i32
  let c1_i32_7 : BitVec 32 := 1#32
  let v20 : BitVec 32 := Scalar.subi v19 c1_i32_7
  let c0_i32 : BitVec 32 := 0#32
  let v22 : BitVec 1 := Scalar.cmpi .sgt v20 c0_i32
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c512_i32_8 : BitVec 32 := 512#32
  let c0_i32_10 : BitVec 32 := 0#32
  let v27 : BitVec 1 := Scalar.cmpi .sgt c512_i32_8 c0_i32_10
  let v28 : BitVec 32 := Scalar.extui v27
  let c0_i32_11 : BitVec 32 := 0#32
  let v29 : BitVec 1 := Scalar.cmpi .slt c512_i32_8 c0_i32_11
  let v30 : BitVec 32 := Scalar.extui v29
  let v31 : BitVec 32 := Scalar.subi v28 v30
  let v32 : BitVec 1 := Scalar.cmpi .ne v26 v31
  let v33 : BitVec 32 := Scalar.remsi v20 c512_i32_8
  let c0_i32_12 : BitVec 32 := 0#32
  let v34 : BitVec 1 := Scalar.cmpi .ne v33 c0_i32_12
  let v35 : BitVec 1 := Scalar.andi v32 v34
  let v21 : BitVec 32 := Scalar.divsi v20 c512_i32_8
  let c1_i32_13 : BitVec 32 := 1#32
  let v36 : BitVec 32 := Scalar.subi v21 c1_i32_13
  let v37 : BitVec 32 := Scalar.select v35 v36 v21
  let v297 : BitVec 32 := Scalar.subi v37 c0_i32_171
  let c1_i32_172 : BitVec 32 := 1#32
  let v299 : BitVec 32 := Scalar.divsi v297 c1_i32_172
  let v300 : BitVec 32 := Scalar.muli v299 c1_i32_172
  let v301 : BitVec 32 := Scalar.addi c0_i32_171 v300
  let c1_i32_174 : BitVec 32 := 1#32
  let arg14 : BitVec 32 := Scf.iv v301 c1_i32_174 k0_t10
  let c512_i32_257 : BitVec 32 := 512#32
  let v443 : BitVec 32 := Scalar.muli arg14 c512_i32_257
  v443
def k0_off53 (i : grid0.Coords) (v16 : BitVec 32) (k0_t10 : Fin (k0_t10_loop i v16).trips) : Fin 2 → Nat :=
  let c0_i32_171 : BitVec 32 := 0#32
  let arg1 : BitVec 32 := BitVec.ofNat 32 (i 1).val
  let c1_i32 : BitVec 32 := 1#32
  let v12 : BitVec 32 := Scalar.addi arg1 c1_i32
  let c128_i32 : BitVec 32 := 128#32
  let v13 : BitVec 32 := Scalar.muli v12 c128_i32
  let c_m128_i32 : BitVec 32 := 4294967168#32
  let v17 : BitVec 32 := Scalar.andi v16 c_m128_i32
  let v18 : BitVec 32 := Scalar.subi v13 v17
  let c512_i32 : BitVec 32 := 512#32
  let v19 : BitVec 32 := Scalar.addi v18 c512_i32
  let c1_i32_7 : BitVec 32 := 1#32
  let v20 : BitVec 32 := Scalar.subi v19 c1_i32_7
  let c0_i32 : BitVec 32 := 0#32
  let v22 : BitVec 1 := Scalar.cmpi .sgt v20 c0_i32
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c512_i32_8 : BitVec 32 := 512#32
  let c0_i32_10 : BitVec 32 := 0#32
  let v27 : BitVec 1 := Scalar.cmpi .sgt c512_i32_8 c0_i32_10
  let v28 : BitVec 32 := Scalar.extui v27
  let c0_i32_11 : BitVec 32 := 0#32
  let v29 : BitVec 1 := Scalar.cmpi .slt c512_i32_8 c0_i32_11
  let v30 : BitVec 32 := Scalar.extui v29
  let v31 : BitVec 32 := Scalar.subi v28 v30
  let v32 : BitVec 1 := Scalar.cmpi .ne v26 v31
  let v33 : BitVec 32 := Scalar.remsi v20 c512_i32_8
  let c0_i32_12 : BitVec 32 := 0#32
  let v34 : BitVec 1 := Scalar.cmpi .ne v33 c0_i32_12
  let v35 : BitVec 1 := Scalar.andi v32 v34
  let v21 : BitVec 32 := Scalar.divsi v20 c512_i32_8
  let c1_i32_13 : BitVec 32 := 1#32
  let v36 : BitVec 32 := Scalar.subi v21 c1_i32_13
  let v37 : BitVec 32 := Scalar.select v35 v36 v21
  let v297 : BitVec 32 := Scalar.subi v37 c0_i32_171
  let c1_i32_172 : BitVec 32 := 1#32
  let v299 : BitVec 32 := Scalar.divsi v297 c1_i32_172
  let v300 : BitVec 32 := Scalar.muli v299 c1_i32_172
  let v301 : BitVec 32 := Scalar.addi c0_i32_171 v300
  let c1_i32_174 : BitVec 32 := 1#32
  let arg14 : BitVec 32 := Scf.iv v301 c1_i32_174 k0_t10
  let c512_i32_257 : BitVec 32 := 512#32
  let v443 : BitVec 32 := Scalar.muli arg14 c512_i32_257
  let v444 : BitVec 32 := v443
  let v445 : Index := Scalar.indexCast v444
  let c256_258 : Index := 256#32
  ![v445.toNat, 256]
def k0_mult26 (i : grid0.Coords) (v16 : BitVec 32) (k0_t10 : Fin (k0_t10_loop i v16).trips) : BitVec 32 :=
  let c0_i32_171 : BitVec 32 := 0#32
  let arg1 : BitVec 32 := BitVec.ofNat 32 (i 1).val
  let c1_i32 : BitVec 32 := 1#32
  let v12 : BitVec 32 := Scalar.addi arg1 c1_i32
  let c128_i32 : BitVec 32 := 128#32
  let v13 : BitVec 32 := Scalar.muli v12 c128_i32
  let c_m128_i32 : BitVec 32 := 4294967168#32
  let v17 : BitVec 32 := Scalar.andi v16 c_m128_i32
  let v18 : BitVec 32 := Scalar.subi v13 v17
  let c512_i32 : BitVec 32 := 512#32
  let v19 : BitVec 32 := Scalar.addi v18 c512_i32
  let c1_i32_7 : BitVec 32 := 1#32
  let v20 : BitVec 32 := Scalar.subi v19 c1_i32_7
  let c0_i32 : BitVec 32 := 0#32
  let v22 : BitVec 1 := Scalar.cmpi .sgt v20 c0_i32
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c512_i32_8 : BitVec 32 := 512#32
  let c0_i32_10 : BitVec 32 := 0#32
  let v27 : BitVec 1 := Scalar.cmpi .sgt c512_i32_8 c0_i32_10
  let v28 : BitVec 32 := Scalar.extui v27
  let c0_i32_11 : BitVec 32 := 0#32
  let v29 : BitVec 1 := Scalar.cmpi .slt c512_i32_8 c0_i32_11
  let v30 : BitVec 32 := Scalar.extui v29
  let v31 : BitVec 32 := Scalar.subi v28 v30
  let v32 : BitVec 1 := Scalar.cmpi .ne v26 v31
  let v33 : BitVec 32 := Scalar.remsi v20 c512_i32_8
  let c0_i32_12 : BitVec 32 := 0#32
  let v34 : BitVec 1 := Scalar.cmpi .ne v33 c0_i32_12
  let v35 : BitVec 1 := Scalar.andi v32 v34
  let v21 : BitVec 32 := Scalar.divsi v20 c512_i32_8
  let c1_i32_13 : BitVec 32 := 1#32
  let v36 : BitVec 32 := Scalar.subi v21 c1_i32_13
  let v37 : BitVec 32 := Scalar.select v35 v36 v21
  let v297 : BitVec 32 := Scalar.subi v37 c0_i32_171
  let c1_i32_172 : BitVec 32 := 1#32
  let v299 : BitVec 32 := Scalar.divsi v297 c1_i32_172
  let v300 : BitVec 32 := Scalar.muli v299 c1_i32_172
  let v301 : BitVec 32 := Scalar.addi c0_i32_171 v300
  let c1_i32_174 : BitVec 32 := 1#32
  let arg14 : BitVec 32 := Scf.iv v301 c1_i32_174 k0_t10
  let c512_i32_262 : BitVec 32 := 512#32
  let v458 : BitVec 32 := Scalar.muli arg14 c512_i32_262
  v458
def k0_off54 (i : grid0.Coords) (v16 : BitVec 32) (k0_t10 : Fin (k0_t10_loop i v16).trips) : Fin 2 → Nat :=
  let c0_i32_171 : BitVec 32 := 0#32
  let arg1 : BitVec 32 := BitVec.ofNat 32 (i 1).val
  let c1_i32 : BitVec 32 := 1#32
  let v12 : BitVec 32 := Scalar.addi arg1 c1_i32
  let c128_i32 : BitVec 32 := 128#32
  let v13 : BitVec 32 := Scalar.muli v12 c128_i32
  let c_m128_i32 : BitVec 32 := 4294967168#32
  let v17 : BitVec 32 := Scalar.andi v16 c_m128_i32
  let v18 : BitVec 32 := Scalar.subi v13 v17
  let c512_i32 : BitVec 32 := 512#32
  let v19 : BitVec 32 := Scalar.addi v18 c512_i32
  let c1_i32_7 : BitVec 32 := 1#32
  let v20 : BitVec 32 := Scalar.subi v19 c1_i32_7
  let c0_i32 : BitVec 32 := 0#32
  let v22 : BitVec 1 := Scalar.cmpi .sgt v20 c0_i32
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c512_i32_8 : BitVec 32 := 512#32
  let c0_i32_10 : BitVec 32 := 0#32
  let v27 : BitVec 1 := Scalar.cmpi .sgt c512_i32_8 c0_i32_10
  let v28 : BitVec 32 := Scalar.extui v27
  let c0_i32_11 : BitVec 32 := 0#32
  let v29 : BitVec 1 := Scalar.cmpi .slt c512_i32_8 c0_i32_11
  let v30 : BitVec 32 := Scalar.extui v29
  let v31 : BitVec 32 := Scalar.subi v28 v30
  let v32 : BitVec 1 := Scalar.cmpi .ne v26 v31
  let v33 : BitVec 32 := Scalar.remsi v20 c512_i32_8
  let c0_i32_12 : BitVec 32 := 0#32
  let v34 : BitVec 1 := Scalar.cmpi .ne v33 c0_i32_12
  let v35 : BitVec 1 := Scalar.andi v32 v34
  let v21 : BitVec 32 := Scalar.divsi v20 c512_i32_8
  let c1_i32_13 : BitVec 32 := 1#32
  let v36 : BitVec 32 := Scalar.subi v21 c1_i32_13
  let v37 : BitVec 32 := Scalar.select v35 v36 v21
  let v297 : BitVec 32 := Scalar.subi v37 c0_i32_171
  let c1_i32_172 : BitVec 32 := 1#32
  let v299 : BitVec 32 := Scalar.divsi v297 c1_i32_172
  let v300 : BitVec 32 := Scalar.muli v299 c1_i32_172
  let v301 : BitVec 32 := Scalar.addi c0_i32_171 v300
  let c1_i32_174 : BitVec 32 := 1#32
  let arg14 : BitVec 32 := Scf.iv v301 c1_i32_174 k0_t10
  let c512_i32_262 : BitVec 32 := 512#32
  let v458 : BitVec 32 := Scalar.muli arg14 c512_i32_262
  let v459 : BitVec 32 := v458
  let v460 : Index := Scalar.indexCast v459
  let c384_263 : Index := 384#32
  ![v460.toNat, 384]
def k0_off55 (i : grid0.Coords) (v16 : BitVec 32) (k0_t10 : Fin (k0_t10_loop i v16).trips) : Fin 3 → Nat :=
  let c0_267 : Index := 0#32
  let c0_268 : Index := 0#32
  let c_m128_i32 : BitVec 32 := 4294967168#32
  let v17 : BitVec 32 := Scalar.andi v16 c_m128_i32
  let c16384_i32 : BitVec 32 := 16384#32
  let arg1 : BitVec 32 := BitVec.ofNat 32 (i 1).val
  let c1_i32 : BitVec 32 := 1#32
  let v12 : BitVec 32 := Scalar.addi arg1 c1_i32
  let c128_i32 : BitVec 32 := 128#32
  let v13 : BitVec 32 := Scalar.muli v12 c128_i32
  let v18 : BitVec 32 := Scalar.subi v13 v17
  let c512_i32 : BitVec 32 := 512#32
  let v19 : BitVec 32 := Scalar.addi v18 c512_i32
  let c1_i32_7 : BitVec 32 := 1#32
  let v20 : BitVec 32 := Scalar.subi v19 c1_i32_7
  let c0_i32 : BitVec 32 := 0#32
  let v22 : BitVec 1 := Scalar.cmpi .sgt v20 c0_i32
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c512_i32_8 : BitVec 32 := 512#32
  let c0_i32_10 : BitVec 32 := 0#32
  let v27 : BitVec 1 := Scalar.cmpi .sgt c512_i32_8 c0_i32_10
  let v28 : BitVec 32 := Scalar.extui v27
  let c0_i32_11 : BitVec 32 := 0#32
  let v29 : BitVec 1 := Scalar.cmpi .slt c512_i32_8 c0_i32_11
  let v30 : BitVec 32 := Scalar.extui v29
  let v31 : BitVec 32 := Scalar.subi v28 v30
  let v32 : BitVec 1 := Scalar.cmpi .ne v26 v31
  let v33 : BitVec 32 := Scalar.remsi v20 c512_i32_8
  let c0_i32_12 : BitVec 32 := 0#32
  let v34 : BitVec 1 := Scalar.cmpi .ne v33 c0_i32_12
  let v35 : BitVec 1 := Scalar.andi v32 v34
  let v21 : BitVec 32 := Scalar.divsi v20 c512_i32_8
  let c1_i32_13 : BitVec 32 := 1#32
  let v36 : BitVec 32 := Scalar.subi v21 c1_i32_13
  let v37 : BitVec 32 := Scalar.select v35 v36 v21
  let c512_i32_14 : BitVec 32 := 512#32
  let v38 : BitVec 32 := Scalar.muli v37 c512_i32_14
  let v39 : BitVec 32 := Scalar.subi c16384_i32 v38
  let v40 : BitVec 32 := Scalar.minsi v17 v39
  let c0_i32_171 : BitVec 32 := 0#32
  let v297 : BitVec 32 := Scalar.subi v37 c0_i32_171
  let c1_i32_172 : BitVec 32 := 1#32
  let v299 : BitVec 32 := Scalar.divsi v297 c1_i32_172
  let v300 : BitVec 32 := Scalar.muli v299 c1_i32_172
  let v301 : BitVec 32 := Scalar.addi c0_i32_171 v300
  let c1_i32_174 : BitVec 32 := 1#32
  let arg14 : BitVec 32 := Scf.iv v301 c1_i32_174 k0_t10
  let c512_i32_246 : BitVec 32 := 512#32
  let v410 : BitVec 32 := Scalar.muli arg14 c512_i32_246
  let v411 : BitVec 32 := Scalar.addi v40 v410
  let v412 : BitVec 32 := v411
  let v474 : Index := Scalar.indexCast v412
  ![0, 0, v474.toNat]

def k0_chk1_0 (i : grid0.Coords) (v16 : BitVec 32) : Prop :=
  ((k0_t1_loop i v16).OK) ∧
  (∀ k0_t1 : Fin (k0_t1_loop i v16).trips, 128 ∣ (k0_mult1 i v16 k0_t1).toNat) ∧
  (∀ k0_t1 : Fin (k0_t1_loop i v16).trips, ∀ a, (k0_off2 i v16 k0_t1) a + S512x128.size a ≤ S16384x128.size a) ∧
  (∀ k0_t1 : Fin (k0_t1_loop i v16).trips, ∀ (r : Fin 8), ∀ a, (k0_off3 i v16 k0_t1 (BitVec.ofNat 32 r.val)) a + S1x1x1.size a ≤ S1x1x256.size a) ∧
  (∀ k0_t1 : Fin (k0_t1_loop i v16).trips, ∀ (r : Fin 8), ∀ a, (k0_off4 i v16 k0_t1 (BitVec.ofNat 32 (64 * r.val))) a + S64x128.size a ≤ S16384x128.size a) ∧
  ((k0_t2_loop i v16).OK) ∧
  (∀ k0_t2 : Fin (k0_t2_loop i v16).trips, 128 ∣ (k0_mult2 i v16 k0_t2).toNat) ∧
  (∀ k0_t2 : Fin (k0_t2_loop i v16).trips, ∀ a, (k0_off5 i v16 k0_t2) a + S512x128.size a ≤ S16384x128.size a) ∧
  (∀ k0_t2 : Fin (k0_t2_loop i v16).trips, ∀ (r : Fin 8), ∀ a, (k0_off6 i v16 k0_t2 (BitVec.ofNat 32 r.val)) a + S1x1x1.size a ≤ S1x1x256.size a) ∧
  (∀ k0_t2 : Fin (k0_t2_loop i v16).trips, ∀ (r : Fin 8), ∀ a, (k0_off7 i v16 k0_t2 (BitVec.ofNat 32 (64 * r.val))) a + S64x128.size a ≤ S16384x128.size a) ∧
  ((k0_t3_loop i v16).OK) ∧
  (∀ k0_t3 : Fin (k0_t3_loop i v16).trips, 128 ∣ (k0_mult3 i v16 k0_t3).toNat) ∧
  (∀ k0_t3 : Fin (k0_t3_loop i v16).trips, ∀ a, (k0_off8 i v16 k0_t3) a + S512x128.size a ≤ S16384x128.size a) ∧
  (∀ k0_t3 : Fin (k0_t3_loop i v16).trips, ∀ (r : Fin 8), ∀ a, (k0_off9 i v16 k0_t3 (BitVec.ofNat 32 r.val)) a + S1x1x1.size a ≤ S1x1x256.size a) ∧
  (∀ k0_t3 : Fin (k0_t3_loop i v16).trips, ∀ (r : Fin 8), ∀ a, (k0_off10 i v16 k0_t3 (BitVec.ofNat 32 (64 * r.val))) a + S64x128.size a ≤ S16384x128.size a) ∧
  (∀ k0_t3 : Fin (k0_t3_loop i v16).trips, ∀ (r : Fin 8), ∀ a, (k0_off11 i v16 k0_t3 (BitVec.ofNat 32 (64 * r.val))) a + S64x128.size a ≤ S16384x512.size a) ∧
  (∀ k0_t3 : Fin (k0_t3_loop i v16).trips, ∀ (r : Fin 8), ∀ a, (k0_off12 i v16 k0_t3 (BitVec.ofNat 32 (64 * r.val))) a + S64x128.size a ≤ S16384x512.size a) ∧
  (∀ k0_t3 : Fin (k0_t3_loop i v16).trips, ∀ (r : Fin 8), ∀ a, (k0_off13 i v16 k0_t3 (BitVec.ofNat 32 (64 * r.val))) a + S64x128.size a ≤ S16384x512.size a) ∧
  (∀ k0_t3 : Fin (k0_t3_loop i v16).trips, ∀ (r : Fin 8), ∀ a, (k0_off14 i v16 k0_t3 (BitVec.ofNat 32 (64 * r.val))) a + S64x128.size a ≤ S16384x512.size a) ∧
  ((k0_t4_loop i v16).OK) ∧
  (∀ k0_t4 : Fin (k0_t4_loop i v16).trips, 128 ∣ (k0_mult4 i v16 k0_t4).toNat) ∧
  (∀ k0_t4 : Fin (k0_t4_loop i v16).trips, ∀ a, (k0_off15 i v16 k0_t4) a + S512x128.size a ≤ S16384x128.size a) ∧
  (∀ k0_t4 : Fin (k0_t4_loop i v16).trips, ∀ (r : Fin 8), ∀ a, (k0_off16 i v16 k0_t4 (BitVec.ofNat 32 r.val)) a + S1x1x1.size a ≤ S1x1x256.size a) ∧
  (∀ k0_t4 : Fin (k0_t4_loop i v16).trips, ∀ (r : Fin 8), ∀ a, (k0_off17 i v16 k0_t4 (BitVec.ofNat 32 (64 * r.val))) a + S64x128.size a ≤ S16384x128.size a) ∧
  (∀ k0_t4 : Fin (k0_t4_loop i v16).trips, ∀ (r : Fin 8), ∀ a, (k0_off18 i v16 k0_t4 (BitVec.ofNat 32 (64 * r.val))) a + S64x128.size a ≤ S16384x512.size a) ∧
  (∀ k0_t4 : Fin (k0_t4_loop i v16).trips, ∀ (r : Fin 8), ∀ a, (k0_off19 i v16 k0_t4 (BitVec.ofNat 32 (64 * r.val))) a + S64x128.size a ≤ S16384x512.size a) ∧
  (∀ k0_t4 : Fin (k0_t4_loop i v16).trips, ∀ (r : Fin 8), ∀ a, (k0_off20 i v16 k0_t4 (BitVec.ofNat 32 (64 * r.val))) a + S64x128.size a ≤ S16384x512.size a) ∧
  (∀ k0_t4 : Fin (k0_t4_loop i v16).trips, ∀ (r : Fin 8), ∀ a, (k0_off21 i v16 k0_t4 (BitVec.ofNat 32 (64 * r.val))) a + S64x128.size a ≤ S16384x512.size a) ∧
  ((k0_t5_loop i v16).OK) ∧
  (∀ k0_t5 : Fin (k0_t5_loop i v16).trips, 128 ∣ (k0_mult5 i v16 k0_t5).toNat) ∧
  (∀ k0_t5 : Fin (k0_t5_loop i v16).trips, 512 ∣ (k0_mult6 i v16 k0_t5).toNat) ∧
  (∀ k0_t5 : Fin (k0_t5_loop i v16).trips, ∀ a, (k0_off22 i v16 k0_t5) a + S512x128.size a ≤ S16384x512.size a)
def k0_chk1_1 (i : grid0.Coords) (v16 : BitVec 32) : Prop :=
  (∀ k0_t5 : Fin (k0_t5_loop i v16).trips, 512 ∣ (k0_mult7 i v16 k0_t5).toNat) ∧
  (∀ k0_t5 : Fin (k0_t5_loop i v16).trips, ∀ a, (k0_off23 i v16 k0_t5) a + S512x128.size a ≤ S16384x512.size a) ∧
  (∀ k0_t5 : Fin (k0_t5_loop i v16).trips, 512 ∣ (k0_mult8 i v16 k0_t5).toNat) ∧
  (∀ k0_t5 : Fin (k0_t5_loop i v16).trips, ∀ a, (k0_off24 i v16 k0_t5) a + S512x128.size a ≤ S16384x512.size a) ∧
  (∀ k0_t5 : Fin (k0_t5_loop i v16).trips, 512 ∣ (k0_mult9 i v16 k0_t5).toNat) ∧
  (∀ k0_t5 : Fin (k0_t5_loop i v16).trips, ∀ a, (k0_off25 i v16 k0_t5) a + S512x128.size a ≤ S16384x512.size a) ∧
  (∀ k0_t5 : Fin (k0_t5_loop i v16).trips, ∀ a, (k0_off26 i v16 k0_t5) a + S1x128x512.size a ≤ S1x128x16384.size a) ∧
  ((k0_t6_loop i v16).OK) ∧
  (∀ k0_t6 : Fin (k0_t6_loop i v16).trips, 128 ∣ (k0_mult10 i v16 k0_t6).toNat) ∧
  (∀ k0_t6 : Fin (k0_t6_loop i v16).trips, 512 ∣ (k0_mult11 i v16 k0_t6).toNat) ∧
  (∀ k0_t6 : Fin (k0_t6_loop i v16).trips, ∀ a, (k0_off27 i v16 k0_t6) a + S512x128.size a ≤ S16384x512.size a) ∧
  (∀ k0_t6 : Fin (k0_t6_loop i v16).trips, 512 ∣ (k0_mult12 i v16 k0_t6).toNat) ∧
  (∀ k0_t6 : Fin (k0_t6_loop i v16).trips, ∀ a, (k0_off28 i v16 k0_t6) a + S512x128.size a ≤ S16384x512.size a) ∧
  (∀ k0_t6 : Fin (k0_t6_loop i v16).trips, 512 ∣ (k0_mult13 i v16 k0_t6).toNat) ∧
  (∀ k0_t6 : Fin (k0_t6_loop i v16).trips, ∀ a, (k0_off29 i v16 k0_t6) a + S512x128.size a ≤ S16384x512.size a) ∧
  (∀ k0_t6 : Fin (k0_t6_loop i v16).trips, 512 ∣ (k0_mult14 i v16 k0_t6).toNat) ∧
  (∀ k0_t6 : Fin (k0_t6_loop i v16).trips, ∀ a, (k0_off30 i v16 k0_t6) a + S512x128.size a ≤ S16384x512.size a) ∧
  (∀ k0_t6 : Fin (k0_t6_loop i v16).trips, ∀ a, (k0_off31 i v16 k0_t6) a + S1x128x512.size a ≤ S1x128x16384.size a) ∧
  ((k0_t7_loop i v16).OK) ∧
  (∀ k0_t7 : Fin (k0_t7_loop i v16).trips, 128 ∣ (k0_mult15 i v16 k0_t7).toNat) ∧
  (∀ k0_t7 : Fin (k0_t7_loop i v16).trips, ∀ a, (k0_off32 i v16 k0_t7) a + S512x128.size a ≤ S16384x128.size a) ∧
  (∀ k0_t7 : Fin (k0_t7_loop i v16).trips, ∀ (r : Fin 8), ∀ a, (k0_off33 i v16 k0_t7 (BitVec.ofNat 32 r.val)) a + S1x1x1.size a ≤ S1x1x256.size a) ∧
  (∀ k0_t7 : Fin (k0_t7_loop i v16).trips, ∀ (r : Fin 8), ∀ a, (k0_off34 i v16 k0_t7 (BitVec.ofNat 32 (64 * r.val))) a + S64x128.size a ≤ S16384x128.size a) ∧
  (∀ k0_t7 : Fin (k0_t7_loop i v16).trips, ∀ (r : Fin 8), ∀ a, (k0_off35 i v16 k0_t7 (BitVec.ofNat 32 (64 * r.val))) a + S64x128.size a ≤ S16384x512.size a) ∧
  (∀ k0_t7 : Fin (k0_t7_loop i v16).trips, ∀ (r : Fin 8), ∀ a, (k0_off36 i v16 k0_t7 (BitVec.ofNat 32 (64 * r.val))) a + S64x128.size a ≤ S16384x512.size a) ∧
  (∀ k0_t7 : Fin (k0_t7_loop i v16).trips, ∀ (r : Fin 8), ∀ a, (k0_off37 i v16 k0_t7 (BitVec.ofNat 32 (64 * r.val))) a + S64x128.size a ≤ S16384x512.size a) ∧
  (∀ k0_t7 : Fin (k0_t7_loop i v16).trips, ∀ (r : Fin 8), ∀ a, (k0_off38 i v16 k0_t7 (BitVec.ofNat 32 (64 * r.val))) a + S64x128.size a ≤ S16384x512.size a) ∧
  ((k0_t8_loop i v16).OK) ∧
  (∀ k0_t8 : Fin (k0_t8_loop i v16).trips, 128 ∣ (k0_mult16 i v16 k0_t8).toNat) ∧
  (∀ k0_t8 : Fin (k0_t8_loop i v16).trips, ∀ a, (k0_off39 i v16 k0_t8) a + S512x128.size a ≤ S16384x128.size a) ∧
  (∀ k0_t8 : Fin (k0_t8_loop i v16).trips, ∀ (r : Fin 8), ∀ a, (k0_off40 i v16 k0_t8 (BitVec.ofNat 32 r.val)) a + S1x1x1.size a ≤ S1x1x256.size a) ∧
  (∀ k0_t8 : Fin (k0_t8_loop i v16).trips, ∀ (r : Fin 8), ∀ a, (k0_off41 i v16 k0_t8 (BitVec.ofNat 32 (64 * r.val))) a + S64x128.size a ≤ S16384x128.size a)
def k0_chk1_2 (i : grid0.Coords) (v16 : BitVec 32) : Prop :=
  (∀ k0_t8 : Fin (k0_t8_loop i v16).trips, ∀ (r : Fin 8), ∀ a, (k0_off42 i v16 k0_t8 (BitVec.ofNat 32 (64 * r.val))) a + S64x128.size a ≤ S16384x512.size a) ∧
  (∀ k0_t8 : Fin (k0_t8_loop i v16).trips, ∀ (r : Fin 8), ∀ a, (k0_off43 i v16 k0_t8 (BitVec.ofNat 32 (64 * r.val))) a + S64x128.size a ≤ S16384x512.size a) ∧
  (∀ k0_t8 : Fin (k0_t8_loop i v16).trips, ∀ (r : Fin 8), ∀ a, (k0_off44 i v16 k0_t8 (BitVec.ofNat 32 (64 * r.val))) a + S64x128.size a ≤ S16384x512.size a) ∧
  (∀ k0_t8 : Fin (k0_t8_loop i v16).trips, ∀ (r : Fin 8), ∀ a, (k0_off45 i v16 k0_t8 (BitVec.ofNat 32 (64 * r.val))) a + S64x128.size a ≤ S16384x512.size a) ∧
  ((k0_t9_loop i v16).OK) ∧
  (∀ k0_t9 : Fin (k0_t9_loop i v16).trips, 128 ∣ (k0_mult17 i v16 k0_t9).toNat) ∧
  (∀ k0_t9 : Fin (k0_t9_loop i v16).trips, 512 ∣ (k0_mult18 i v16 k0_t9).toNat) ∧
  (∀ k0_t9 : Fin (k0_t9_loop i v16).trips, ∀ a, (k0_off46 i v16 k0_t9) a + S512x128.size a ≤ S16384x512.size a) ∧
  (∀ k0_t9 : Fin (k0_t9_loop i v16).trips, 512 ∣ (k0_mult19 i v16 k0_t9).toNat) ∧
  (∀ k0_t9 : Fin (k0_t9_loop i v16).trips, ∀ a, (k0_off47 i v16 k0_t9) a + S512x128.size a ≤ S16384x512.size a) ∧
  (∀ k0_t9 : Fin (k0_t9_loop i v16).trips, 512 ∣ (k0_mult20 i v16 k0_t9).toNat) ∧
  (∀ k0_t9 : Fin (k0_t9_loop i v16).trips, ∀ a, (k0_off48 i v16 k0_t9) a + S512x128.size a ≤ S16384x512.size a) ∧
  (∀ k0_t9 : Fin (k0_t9_loop i v16).trips, 512 ∣ (k0_mult21 i v16 k0_t9).toNat) ∧
  (∀ k0_t9 : Fin (k0_t9_loop i v16).trips, ∀ a, (k0_off49 i v16 k0_t9) a + S512x128.size a ≤ S16384x512.size a) ∧
  (∀ k0_t9 : Fin (k0_t9_loop i v16).trips, ∀ a, (k0_off50 i v16 k0_t9) a + S1x128x512.size a ≤ S1x128x16384.size a) ∧
  ((k0_t10_loop i v16).OK) ∧
  (∀ k0_t10 : Fin (k0_t10_loop i v16).trips, 128 ∣ (k0_mult22 i v16 k0_t10).toNat) ∧
  (∀ k0_t10 : Fin (k0_t10_loop i v16).trips, 512 ∣ (k0_mult23 i v16 k0_t10).toNat) ∧
  (∀ k0_t10 : Fin (k0_t10_loop i v16).trips, ∀ a, (k0_off51 i v16 k0_t10) a + S512x128.size a ≤ S16384x512.size a) ∧
  (∀ k0_t10 : Fin (k0_t10_loop i v16).trips, 512 ∣ (k0_mult24 i v16 k0_t10).toNat) ∧
  (∀ k0_t10 : Fin (k0_t10_loop i v16).trips, ∀ a, (k0_off52 i v16 k0_t10) a + S512x128.size a ≤ S16384x512.size a) ∧
  (∀ k0_t10 : Fin (k0_t10_loop i v16).trips, 512 ∣ (k0_mult25 i v16 k0_t10).toNat) ∧
  (∀ k0_t10 : Fin (k0_t10_loop i v16).trips, ∀ a, (k0_off53 i v16 k0_t10) a + S512x128.size a ≤ S16384x512.size a) ∧
  (∀ k0_t10 : Fin (k0_t10_loop i v16).trips, 512 ∣ (k0_mult26 i v16 k0_t10).toNat) ∧
  (∀ k0_t10 : Fin (k0_t10_loop i v16).trips, ∀ a, (k0_off54 i v16 k0_t10) a + S512x128.size a ≤ S16384x512.size a) ∧
  (∀ k0_t10 : Fin (k0_t10_loop i v16).trips, ∀ a, (k0_off55 i v16 k0_t10) a + S1x128x512.size a ≤ S1x128x16384.size a)
def k0_chk1 (i : grid0.Coords) (v16 : BitVec 32) : Prop :=
  k0_chk1_0 i v16 ∧
  k0_chk1_1 i v16 ∧
  k0_chk1_2 i v16
theorem k0_t1_ok : ∀ (i : grid0.Coords) (v16 : BitVec 32) (k0_hw1 : k0_chk1 i v16), (k0_t1_loop i v16).OK := fun i v16 k0_hw1 => k0_hw1.1.1
theorem k0_mult1_dvd : ∀ (i : grid0.Coords) (v16 : BitVec 32) (k0_hw1 : k0_chk1 i v16) (k0_t1 : Fin (k0_t1_loop i v16).trips), 128 ∣ (k0_mult1 i v16 k0_t1).toNat := fun i v16 k0_hw1 k0_t1 => k0_hw1.1.2.1 k0_t1
theorem k0_off2_inb : ∀ (i : grid0.Coords) (v16 : BitVec 32) (k0_hw1 : k0_chk1 i v16) (k0_t1 : Fin (k0_t1_loop i v16).trips), ∀ a, (k0_off2 i v16 k0_t1) a + S512x128.size a ≤ S16384x128.size a := fun i v16 k0_hw1 k0_t1 => k0_hw1.1.2.2.1 k0_t1
theorem k0_off3_inb : ∀ (i : grid0.Coords) (v16 : BitVec 32) (k0_hw1 : k0_chk1 i v16) (k0_t1 : Fin (k0_t1_loop i v16).trips), ∀ (r : Fin 8), ∀ a, (k0_off3 i v16 k0_t1 (BitVec.ofNat 32 r.val)) a + S1x1x1.size a ≤ S1x1x256.size a := fun i v16 k0_hw1 k0_t1 r => k0_hw1.1.2.2.2.1 k0_t1 r
theorem k0_off4_inb : ∀ (i : grid0.Coords) (v16 : BitVec 32) (k0_hw1 : k0_chk1 i v16) (k0_t1 : Fin (k0_t1_loop i v16).trips), ∀ (r : Fin 8), ∀ a, (k0_off4 i v16 k0_t1 (BitVec.ofNat 32 (64 * r.val))) a + S64x128.size a ≤ S16384x128.size a := fun i v16 k0_hw1 k0_t1 r => k0_hw1.1.2.2.2.2.1 k0_t1 r
theorem k0_t2_ok : ∀ (i : grid0.Coords) (v16 : BitVec 32) (k0_hw1 : k0_chk1 i v16), (k0_t2_loop i v16).OK := fun i v16 k0_hw1 => k0_hw1.1.2.2.2.2.2.1
theorem k0_mult2_dvd : ∀ (i : grid0.Coords) (v16 : BitVec 32) (k0_hw1 : k0_chk1 i v16) (k0_t2 : Fin (k0_t2_loop i v16).trips), 128 ∣ (k0_mult2 i v16 k0_t2).toNat := fun i v16 k0_hw1 k0_t2 => k0_hw1.1.2.2.2.2.2.2.1 k0_t2
theorem k0_off5_inb : ∀ (i : grid0.Coords) (v16 : BitVec 32) (k0_hw1 : k0_chk1 i v16) (k0_t2 : Fin (k0_t2_loop i v16).trips), ∀ a, (k0_off5 i v16 k0_t2) a + S512x128.size a ≤ S16384x128.size a := fun i v16 k0_hw1 k0_t2 => k0_hw1.1.2.2.2.2.2.2.2.1 k0_t2
theorem k0_off6_inb : ∀ (i : grid0.Coords) (v16 : BitVec 32) (k0_hw1 : k0_chk1 i v16) (k0_t2 : Fin (k0_t2_loop i v16).trips), ∀ (r : Fin 8), ∀ a, (k0_off6 i v16 k0_t2 (BitVec.ofNat 32 r.val)) a + S1x1x1.size a ≤ S1x1x256.size a := fun i v16 k0_hw1 k0_t2 r => k0_hw1.1.2.2.2.2.2.2.2.2.1 k0_t2 r
theorem k0_off7_inb : ∀ (i : grid0.Coords) (v16 : BitVec 32) (k0_hw1 : k0_chk1 i v16) (k0_t2 : Fin (k0_t2_loop i v16).trips), ∀ (r : Fin 8), ∀ a, (k0_off7 i v16 k0_t2 (BitVec.ofNat 32 (64 * r.val))) a + S64x128.size a ≤ S16384x128.size a := fun i v16 k0_hw1 k0_t2 r => k0_hw1.1.2.2.2.2.2.2.2.2.2.1 k0_t2 r
theorem k0_t3_ok : ∀ (i : grid0.Coords) (v16 : BitVec 32) (k0_hw1 : k0_chk1 i v16), (k0_t3_loop i v16).OK := fun i v16 k0_hw1 => k0_hw1.1.2.2.2.2.2.2.2.2.2.2.1
theorem k0_mult3_dvd : ∀ (i : grid0.Coords) (v16 : BitVec 32) (k0_hw1 : k0_chk1 i v16) (k0_t3 : Fin (k0_t3_loop i v16).trips), 128 ∣ (k0_mult3 i v16 k0_t3).toNat := fun i v16 k0_hw1 k0_t3 => k0_hw1.1.2.2.2.2.2.2.2.2.2.2.2.1 k0_t3
theorem k0_off8_inb : ∀ (i : grid0.Coords) (v16 : BitVec 32) (k0_hw1 : k0_chk1 i v16) (k0_t3 : Fin (k0_t3_loop i v16).trips), ∀ a, (k0_off8 i v16 k0_t3) a + S512x128.size a ≤ S16384x128.size a := fun i v16 k0_hw1 k0_t3 => k0_hw1.1.2.2.2.2.2.2.2.2.2.2.2.2.1 k0_t3
theorem k0_off9_inb : ∀ (i : grid0.Coords) (v16 : BitVec 32) (k0_hw1 : k0_chk1 i v16) (k0_t3 : Fin (k0_t3_loop i v16).trips), ∀ (r : Fin 8), ∀ a, (k0_off9 i v16 k0_t3 (BitVec.ofNat 32 r.val)) a + S1x1x1.size a ≤ S1x1x256.size a := fun i v16 k0_hw1 k0_t3 r => k0_hw1.1.2.2.2.2.2.2.2.2.2.2.2.2.2.1 k0_t3 r
theorem k0_off10_inb : ∀ (i : grid0.Coords) (v16 : BitVec 32) (k0_hw1 : k0_chk1 i v16) (k0_t3 : Fin (k0_t3_loop i v16).trips), ∀ (r : Fin 8), ∀ a, (k0_off10 i v16 k0_t3 (BitVec.ofNat 32 (64 * r.val))) a + S64x128.size a ≤ S16384x128.size a := fun i v16 k0_hw1 k0_t3 r => k0_hw1.1.2.2.2.2.2.2.2.2.2.2.2.2.2.2.1 k0_t3 r
theorem k0_off11_inb : ∀ (i : grid0.Coords) (v16 : BitVec 32) (k0_hw1 : k0_chk1 i v16) (k0_t3 : Fin (k0_t3_loop i v16).trips), ∀ (r : Fin 8), ∀ a, (k0_off11 i v16 k0_t3 (BitVec.ofNat 32 (64 * r.val))) a + S64x128.size a ≤ S16384x512.size a := fun i v16 k0_hw1 k0_t3 r => k0_hw1.1.2.2.2.2.2.2.2.2.2.2.2.2.2.2.2.1 k0_t3 r
theorem k0_off12_inb : ∀ (i : grid0.Coords) (v16 : BitVec 32) (k0_hw1 : k0_chk1 i v16) (k0_t3 : Fin (k0_t3_loop i v16).trips), ∀ (r : Fin 8), ∀ a, (k0_off12 i v16 k0_t3 (BitVec.ofNat 32 (64 * r.val))) a + S64x128.size a ≤ S16384x512.size a := fun i v16 k0_hw1 k0_t3 r => k0_hw1.1.2.2.2.2.2.2.2.2.2.2.2.2.2.2.2.2.1 k0_t3 r
theorem k0_off13_inb : ∀ (i : grid0.Coords) (v16 : BitVec 32) (k0_hw1 : k0_chk1 i v16) (k0_t3 : Fin (k0_t3_loop i v16).trips), ∀ (r : Fin 8), ∀ a, (k0_off13 i v16 k0_t3 (BitVec.ofNat 32 (64 * r.val))) a + S64x128.size a ≤ S16384x512.size a := fun i v16 k0_hw1 k0_t3 r => k0_hw1.1.2.2.2.2.2.2.2.2.2.2.2.2.2.2.2.2.2.1 k0_t3 r
theorem k0_off14_inb : ∀ (i : grid0.Coords) (v16 : BitVec 32) (k0_hw1 : k0_chk1 i v16) (k0_t3 : Fin (k0_t3_loop i v16).trips), ∀ (r : Fin 8), ∀ a, (k0_off14 i v16 k0_t3 (BitVec.ofNat 32 (64 * r.val))) a + S64x128.size a ≤ S16384x512.size a := fun i v16 k0_hw1 k0_t3 r => k0_hw1.1.2.2.2.2.2.2.2.2.2.2.2.2.2.2.2.2.2.2.1 k0_t3 r
theorem k0_t4_ok : ∀ (i : grid0.Coords) (v16 : BitVec 32) (k0_hw1 : k0_chk1 i v16), (k0_t4_loop i v16).OK := fun i v16 k0_hw1 => k0_hw1.1.2.2.2.2.2.2.2.2.2.2.2.2.2.2.2.2.2.2.2.1
theorem k0_mult4_dvd : ∀ (i : grid0.Coords) (v16 : BitVec 32) (k0_hw1 : k0_chk1 i v16) (k0_t4 : Fin (k0_t4_loop i v16).trips), 128 ∣ (k0_mult4 i v16 k0_t4).toNat := fun i v16 k0_hw1 k0_t4 => k0_hw1.1.2.2.2.2.2.2.2.2.2.2.2.2.2.2.2.2.2.2.2.2.1 k0_t4
theorem k0_off15_inb : ∀ (i : grid0.Coords) (v16 : BitVec 32) (k0_hw1 : k0_chk1 i v16) (k0_t4 : Fin (k0_t4_loop i v16).trips), ∀ a, (k0_off15 i v16 k0_t4) a + S512x128.size a ≤ S16384x128.size a := fun i v16 k0_hw1 k0_t4 => k0_hw1.1.2.2.2.2.2.2.2.2.2.2.2.2.2.2.2.2.2.2.2.2.2.1 k0_t4
theorem k0_off16_inb : ∀ (i : grid0.Coords) (v16 : BitVec 32) (k0_hw1 : k0_chk1 i v16) (k0_t4 : Fin (k0_t4_loop i v16).trips), ∀ (r : Fin 8), ∀ a, (k0_off16 i v16 k0_t4 (BitVec.ofNat 32 r.val)) a + S1x1x1.size a ≤ S1x1x256.size a := fun i v16 k0_hw1 k0_t4 r => k0_hw1.1.2.2.2.2.2.2.2.2.2.2.2.2.2.2.2.2.2.2.2.2.2.2.1 k0_t4 r
theorem k0_off17_inb : ∀ (i : grid0.Coords) (v16 : BitVec 32) (k0_hw1 : k0_chk1 i v16) (k0_t4 : Fin (k0_t4_loop i v16).trips), ∀ (r : Fin 8), ∀ a, (k0_off17 i v16 k0_t4 (BitVec.ofNat 32 (64 * r.val))) a + S64x128.size a ≤ S16384x128.size a := fun i v16 k0_hw1 k0_t4 r => k0_hw1.1.2.2.2.2.2.2.2.2.2.2.2.2.2.2.2.2.2.2.2.2.2.2.2.1 k0_t4 r
theorem k0_off18_inb : ∀ (i : grid0.Coords) (v16 : BitVec 32) (k0_hw1 : k0_chk1 i v16) (k0_t4 : Fin (k0_t4_loop i v16).trips), ∀ (r : Fin 8), ∀ a, (k0_off18 i v16 k0_t4 (BitVec.ofNat 32 (64 * r.val))) a + S64x128.size a ≤ S16384x512.size a := fun i v16 k0_hw1 k0_t4 r => k0_hw1.1.2.2.2.2.2.2.2.2.2.2.2.2.2.2.2.2.2.2.2.2.2.2.2.2.1 k0_t4 r
theorem k0_off19_inb : ∀ (i : grid0.Coords) (v16 : BitVec 32) (k0_hw1 : k0_chk1 i v16) (k0_t4 : Fin (k0_t4_loop i v16).trips), ∀ (r : Fin 8), ∀ a, (k0_off19 i v16 k0_t4 (BitVec.ofNat 32 (64 * r.val))) a + S64x128.size a ≤ S16384x512.size a := fun i v16 k0_hw1 k0_t4 r => k0_hw1.1.2.2.2.2.2.2.2.2.2.2.2.2.2.2.2.2.2.2.2.2.2.2.2.2.2.1 k0_t4 r
theorem k0_off20_inb : ∀ (i : grid0.Coords) (v16 : BitVec 32) (k0_hw1 : k0_chk1 i v16) (k0_t4 : Fin (k0_t4_loop i v16).trips), ∀ (r : Fin 8), ∀ a, (k0_off20 i v16 k0_t4 (BitVec.ofNat 32 (64 * r.val))) a + S64x128.size a ≤ S16384x512.size a := fun i v16 k0_hw1 k0_t4 r => k0_hw1.1.2.2.2.2.2.2.2.2.2.2.2.2.2.2.2.2.2.2.2.2.2.2.2.2.2.2.1 k0_t4 r
theorem k0_off21_inb : ∀ (i : grid0.Coords) (v16 : BitVec 32) (k0_hw1 : k0_chk1 i v16) (k0_t4 : Fin (k0_t4_loop i v16).trips), ∀ (r : Fin 8), ∀ a, (k0_off21 i v16 k0_t4 (BitVec.ofNat 32 (64 * r.val))) a + S64x128.size a ≤ S16384x512.size a := fun i v16 k0_hw1 k0_t4 r => k0_hw1.1.2.2.2.2.2.2.2.2.2.2.2.2.2.2.2.2.2.2.2.2.2.2.2.2.2.2.2.1 k0_t4 r
theorem k0_t5_ok : ∀ (i : grid0.Coords) (v16 : BitVec 32) (k0_hw1 : k0_chk1 i v16), (k0_t5_loop i v16).OK := fun i v16 k0_hw1 => k0_hw1.1.2.2.2.2.2.2.2.2.2.2.2.2.2.2.2.2.2.2.2.2.2.2.2.2.2.2.2.2.1
theorem k0_mult5_dvd : ∀ (i : grid0.Coords) (v16 : BitVec 32) (k0_hw1 : k0_chk1 i v16) (k0_t5 : Fin (k0_t5_loop i v16).trips), 128 ∣ (k0_mult5 i v16 k0_t5).toNat := fun i v16 k0_hw1 k0_t5 => k0_hw1.1.2.2.2.2.2.2.2.2.2.2.2.2.2.2.2.2.2.2.2.2.2.2.2.2.2.2.2.2.2.1 k0_t5
theorem k0_mult6_dvd : ∀ (i : grid0.Coords) (v16 : BitVec 32) (k0_hw1 : k0_chk1 i v16) (k0_t5 : Fin (k0_t5_loop i v16).trips), 512 ∣ (k0_mult6 i v16 k0_t5).toNat := fun i v16 k0_hw1 k0_t5 => k0_hw1.1.2.2.2.2.2.2.2.2.2.2.2.2.2.2.2.2.2.2.2.2.2.2.2.2.2.2.2.2.2.2.1 k0_t5
theorem k0_off22_inb : ∀ (i : grid0.Coords) (v16 : BitVec 32) (k0_hw1 : k0_chk1 i v16) (k0_t5 : Fin (k0_t5_loop i v16).trips), ∀ a, (k0_off22 i v16 k0_t5) a + S512x128.size a ≤ S16384x512.size a := fun i v16 k0_hw1 k0_t5 => k0_hw1.1.2.2.2.2.2.2.2.2.2.2.2.2.2.2.2.2.2.2.2.2.2.2.2.2.2.2.2.2.2.2.2 k0_t5
theorem k0_mult7_dvd : ∀ (i : grid0.Coords) (v16 : BitVec 32) (k0_hw1 : k0_chk1 i v16) (k0_t5 : Fin (k0_t5_loop i v16).trips), 512 ∣ (k0_mult7 i v16 k0_t5).toNat := fun i v16 k0_hw1 k0_t5 => k0_hw1.2.1.1 k0_t5
theorem k0_off23_inb : ∀ (i : grid0.Coords) (v16 : BitVec 32) (k0_hw1 : k0_chk1 i v16) (k0_t5 : Fin (k0_t5_loop i v16).trips), ∀ a, (k0_off23 i v16 k0_t5) a + S512x128.size a ≤ S16384x512.size a := fun i v16 k0_hw1 k0_t5 => k0_hw1.2.1.2.1 k0_t5
theorem k0_mult8_dvd : ∀ (i : grid0.Coords) (v16 : BitVec 32) (k0_hw1 : k0_chk1 i v16) (k0_t5 : Fin (k0_t5_loop i v16).trips), 512 ∣ (k0_mult8 i v16 k0_t5).toNat := fun i v16 k0_hw1 k0_t5 => k0_hw1.2.1.2.2.1 k0_t5
theorem k0_off24_inb : ∀ (i : grid0.Coords) (v16 : BitVec 32) (k0_hw1 : k0_chk1 i v16) (k0_t5 : Fin (k0_t5_loop i v16).trips), ∀ a, (k0_off24 i v16 k0_t5) a + S512x128.size a ≤ S16384x512.size a := fun i v16 k0_hw1 k0_t5 => k0_hw1.2.1.2.2.2.1 k0_t5
theorem k0_mult9_dvd : ∀ (i : grid0.Coords) (v16 : BitVec 32) (k0_hw1 : k0_chk1 i v16) (k0_t5 : Fin (k0_t5_loop i v16).trips), 512 ∣ (k0_mult9 i v16 k0_t5).toNat := fun i v16 k0_hw1 k0_t5 => k0_hw1.2.1.2.2.2.2.1 k0_t5
theorem k0_off25_inb : ∀ (i : grid0.Coords) (v16 : BitVec 32) (k0_hw1 : k0_chk1 i v16) (k0_t5 : Fin (k0_t5_loop i v16).trips), ∀ a, (k0_off25 i v16 k0_t5) a + S512x128.size a ≤ S16384x512.size a := fun i v16 k0_hw1 k0_t5 => k0_hw1.2.1.2.2.2.2.2.1 k0_t5
theorem k0_off26_inb : ∀ (i : grid0.Coords) (v16 : BitVec 32) (k0_hw1 : k0_chk1 i v16) (k0_t5 : Fin (k0_t5_loop i v16).trips), ∀ a, (k0_off26 i v16 k0_t5) a + S1x128x512.size a ≤ S1x128x16384.size a := fun i v16 k0_hw1 k0_t5 => k0_hw1.2.1.2.2.2.2.2.2.1 k0_t5
theorem k0_t6_ok : ∀ (i : grid0.Coords) (v16 : BitVec 32) (k0_hw1 : k0_chk1 i v16), (k0_t6_loop i v16).OK := fun i v16 k0_hw1 => k0_hw1.2.1.2.2.2.2.2.2.2.1
theorem k0_mult10_dvd : ∀ (i : grid0.Coords) (v16 : BitVec 32) (k0_hw1 : k0_chk1 i v16) (k0_t6 : Fin (k0_t6_loop i v16).trips), 128 ∣ (k0_mult10 i v16 k0_t6).toNat := fun i v16 k0_hw1 k0_t6 => k0_hw1.2.1.2.2.2.2.2.2.2.2.1 k0_t6
theorem k0_mult11_dvd : ∀ (i : grid0.Coords) (v16 : BitVec 32) (k0_hw1 : k0_chk1 i v16) (k0_t6 : Fin (k0_t6_loop i v16).trips), 512 ∣ (k0_mult11 i v16 k0_t6).toNat := fun i v16 k0_hw1 k0_t6 => k0_hw1.2.1.2.2.2.2.2.2.2.2.2.1 k0_t6
theorem k0_off27_inb : ∀ (i : grid0.Coords) (v16 : BitVec 32) (k0_hw1 : k0_chk1 i v16) (k0_t6 : Fin (k0_t6_loop i v16).trips), ∀ a, (k0_off27 i v16 k0_t6) a + S512x128.size a ≤ S16384x512.size a := fun i v16 k0_hw1 k0_t6 => k0_hw1.2.1.2.2.2.2.2.2.2.2.2.2.1 k0_t6
theorem k0_mult12_dvd : ∀ (i : grid0.Coords) (v16 : BitVec 32) (k0_hw1 : k0_chk1 i v16) (k0_t6 : Fin (k0_t6_loop i v16).trips), 512 ∣ (k0_mult12 i v16 k0_t6).toNat := fun i v16 k0_hw1 k0_t6 => k0_hw1.2.1.2.2.2.2.2.2.2.2.2.2.2.1 k0_t6
theorem k0_off28_inb : ∀ (i : grid0.Coords) (v16 : BitVec 32) (k0_hw1 : k0_chk1 i v16) (k0_t6 : Fin (k0_t6_loop i v16).trips), ∀ a, (k0_off28 i v16 k0_t6) a + S512x128.size a ≤ S16384x512.size a := fun i v16 k0_hw1 k0_t6 => k0_hw1.2.1.2.2.2.2.2.2.2.2.2.2.2.2.1 k0_t6
theorem k0_mult13_dvd : ∀ (i : grid0.Coords) (v16 : BitVec 32) (k0_hw1 : k0_chk1 i v16) (k0_t6 : Fin (k0_t6_loop i v16).trips), 512 ∣ (k0_mult13 i v16 k0_t6).toNat := fun i v16 k0_hw1 k0_t6 => k0_hw1.2.1.2.2.2.2.2.2.2.2.2.2.2.2.2.1 k0_t6
theorem k0_off29_inb : ∀ (i : grid0.Coords) (v16 : BitVec 32) (k0_hw1 : k0_chk1 i v16) (k0_t6 : Fin (k0_t6_loop i v16).trips), ∀ a, (k0_off29 i v16 k0_t6) a + S512x128.size a ≤ S16384x512.size a := fun i v16 k0_hw1 k0_t6 => k0_hw1.2.1.2.2.2.2.2.2.2.2.2.2.2.2.2.2.1 k0_t6
theorem k0_mult14_dvd : ∀ (i : grid0.Coords) (v16 : BitVec 32) (k0_hw1 : k0_chk1 i v16) (k0_t6 : Fin (k0_t6_loop i v16).trips), 512 ∣ (k0_mult14 i v16 k0_t6).toNat := fun i v16 k0_hw1 k0_t6 => k0_hw1.2.1.2.2.2.2.2.2.2.2.2.2.2.2.2.2.2.1 k0_t6
theorem k0_off30_inb : ∀ (i : grid0.Coords) (v16 : BitVec 32) (k0_hw1 : k0_chk1 i v16) (k0_t6 : Fin (k0_t6_loop i v16).trips), ∀ a, (k0_off30 i v16 k0_t6) a + S512x128.size a ≤ S16384x512.size a := fun i v16 k0_hw1 k0_t6 => k0_hw1.2.1.2.2.2.2.2.2.2.2.2.2.2.2.2.2.2.2.1 k0_t6
theorem k0_off31_inb : ∀ (i : grid0.Coords) (v16 : BitVec 32) (k0_hw1 : k0_chk1 i v16) (k0_t6 : Fin (k0_t6_loop i v16).trips), ∀ a, (k0_off31 i v16 k0_t6) a + S1x128x512.size a ≤ S1x128x16384.size a := fun i v16 k0_hw1 k0_t6 => k0_hw1.2.1.2.2.2.2.2.2.2.2.2.2.2.2.2.2.2.2.2.1 k0_t6
theorem k0_t7_ok : ∀ (i : grid0.Coords) (v16 : BitVec 32) (k0_hw1 : k0_chk1 i v16), (k0_t7_loop i v16).OK := fun i v16 k0_hw1 => k0_hw1.2.1.2.2.2.2.2.2.2.2.2.2.2.2.2.2.2.2.2.2.1
theorem k0_mult15_dvd : ∀ (i : grid0.Coords) (v16 : BitVec 32) (k0_hw1 : k0_chk1 i v16) (k0_t7 : Fin (k0_t7_loop i v16).trips), 128 ∣ (k0_mult15 i v16 k0_t7).toNat := fun i v16 k0_hw1 k0_t7 => k0_hw1.2.1.2.2.2.2.2.2.2.2.2.2.2.2.2.2.2.2.2.2.2.1 k0_t7
theorem k0_off32_inb : ∀ (i : grid0.Coords) (v16 : BitVec 32) (k0_hw1 : k0_chk1 i v16) (k0_t7 : Fin (k0_t7_loop i v16).trips), ∀ a, (k0_off32 i v16 k0_t7) a + S512x128.size a ≤ S16384x128.size a := fun i v16 k0_hw1 k0_t7 => k0_hw1.2.1.2.2.2.2.2.2.2.2.2.2.2.2.2.2.2.2.2.2.2.2.1 k0_t7
theorem k0_off33_inb : ∀ (i : grid0.Coords) (v16 : BitVec 32) (k0_hw1 : k0_chk1 i v16) (k0_t7 : Fin (k0_t7_loop i v16).trips), ∀ (r : Fin 8), ∀ a, (k0_off33 i v16 k0_t7 (BitVec.ofNat 32 r.val)) a + S1x1x1.size a ≤ S1x1x256.size a := fun i v16 k0_hw1 k0_t7 r => k0_hw1.2.1.2.2.2.2.2.2.2.2.2.2.2.2.2.2.2.2.2.2.2.2.2.1 k0_t7 r
theorem k0_off34_inb : ∀ (i : grid0.Coords) (v16 : BitVec 32) (k0_hw1 : k0_chk1 i v16) (k0_t7 : Fin (k0_t7_loop i v16).trips), ∀ (r : Fin 8), ∀ a, (k0_off34 i v16 k0_t7 (BitVec.ofNat 32 (64 * r.val))) a + S64x128.size a ≤ S16384x128.size a := fun i v16 k0_hw1 k0_t7 r => k0_hw1.2.1.2.2.2.2.2.2.2.2.2.2.2.2.2.2.2.2.2.2.2.2.2.2.1 k0_t7 r
theorem k0_off35_inb : ∀ (i : grid0.Coords) (v16 : BitVec 32) (k0_hw1 : k0_chk1 i v16) (k0_t7 : Fin (k0_t7_loop i v16).trips), ∀ (r : Fin 8), ∀ a, (k0_off35 i v16 k0_t7 (BitVec.ofNat 32 (64 * r.val))) a + S64x128.size a ≤ S16384x512.size a := fun i v16 k0_hw1 k0_t7 r => k0_hw1.2.1.2.2.2.2.2.2.2.2.2.2.2.2.2.2.2.2.2.2.2.2.2.2.2.1 k0_t7 r
theorem k0_off36_inb : ∀ (i : grid0.Coords) (v16 : BitVec 32) (k0_hw1 : k0_chk1 i v16) (k0_t7 : Fin (k0_t7_loop i v16).trips), ∀ (r : Fin 8), ∀ a, (k0_off36 i v16 k0_t7 (BitVec.ofNat 32 (64 * r.val))) a + S64x128.size a ≤ S16384x512.size a := fun i v16 k0_hw1 k0_t7 r => k0_hw1.2.1.2.2.2.2.2.2.2.2.2.2.2.2.2.2.2.2.2.2.2.2.2.2.2.2.1 k0_t7 r
theorem k0_off37_inb : ∀ (i : grid0.Coords) (v16 : BitVec 32) (k0_hw1 : k0_chk1 i v16) (k0_t7 : Fin (k0_t7_loop i v16).trips), ∀ (r : Fin 8), ∀ a, (k0_off37 i v16 k0_t7 (BitVec.ofNat 32 (64 * r.val))) a + S64x128.size a ≤ S16384x512.size a := fun i v16 k0_hw1 k0_t7 r => k0_hw1.2.1.2.2.2.2.2.2.2.2.2.2.2.2.2.2.2.2.2.2.2.2.2.2.2.2.2.1 k0_t7 r
theorem k0_off38_inb : ∀ (i : grid0.Coords) (v16 : BitVec 32) (k0_hw1 : k0_chk1 i v16) (k0_t7 : Fin (k0_t7_loop i v16).trips), ∀ (r : Fin 8), ∀ a, (k0_off38 i v16 k0_t7 (BitVec.ofNat 32 (64 * r.val))) a + S64x128.size a ≤ S16384x512.size a := fun i v16 k0_hw1 k0_t7 r => k0_hw1.2.1.2.2.2.2.2.2.2.2.2.2.2.2.2.2.2.2.2.2.2.2.2.2.2.2.2.2.1 k0_t7 r
theorem k0_t8_ok : ∀ (i : grid0.Coords) (v16 : BitVec 32) (k0_hw1 : k0_chk1 i v16), (k0_t8_loop i v16).OK := fun i v16 k0_hw1 => k0_hw1.2.1.2.2.2.2.2.2.2.2.2.2.2.2.2.2.2.2.2.2.2.2.2.2.2.2.2.2.2.1
theorem k0_mult16_dvd : ∀ (i : grid0.Coords) (v16 : BitVec 32) (k0_hw1 : k0_chk1 i v16) (k0_t8 : Fin (k0_t8_loop i v16).trips), 128 ∣ (k0_mult16 i v16 k0_t8).toNat := fun i v16 k0_hw1 k0_t8 => k0_hw1.2.1.2.2.2.2.2.2.2.2.2.2.2.2.2.2.2.2.2.2.2.2.2.2.2.2.2.2.2.2.1 k0_t8
theorem k0_off39_inb : ∀ (i : grid0.Coords) (v16 : BitVec 32) (k0_hw1 : k0_chk1 i v16) (k0_t8 : Fin (k0_t8_loop i v16).trips), ∀ a, (k0_off39 i v16 k0_t8) a + S512x128.size a ≤ S16384x128.size a := fun i v16 k0_hw1 k0_t8 => k0_hw1.2.1.2.2.2.2.2.2.2.2.2.2.2.2.2.2.2.2.2.2.2.2.2.2.2.2.2.2.2.2.2.1 k0_t8
theorem k0_off40_inb : ∀ (i : grid0.Coords) (v16 : BitVec 32) (k0_hw1 : k0_chk1 i v16) (k0_t8 : Fin (k0_t8_loop i v16).trips), ∀ (r : Fin 8), ∀ a, (k0_off40 i v16 k0_t8 (BitVec.ofNat 32 r.val)) a + S1x1x1.size a ≤ S1x1x256.size a := fun i v16 k0_hw1 k0_t8 r => k0_hw1.2.1.2.2.2.2.2.2.2.2.2.2.2.2.2.2.2.2.2.2.2.2.2.2.2.2.2.2.2.2.2.2.1 k0_t8 r
theorem k0_off41_inb : ∀ (i : grid0.Coords) (v16 : BitVec 32) (k0_hw1 : k0_chk1 i v16) (k0_t8 : Fin (k0_t8_loop i v16).trips), ∀ (r : Fin 8), ∀ a, (k0_off41 i v16 k0_t8 (BitVec.ofNat 32 (64 * r.val))) a + S64x128.size a ≤ S16384x128.size a := fun i v16 k0_hw1 k0_t8 r => k0_hw1.2.1.2.2.2.2.2.2.2.2.2.2.2.2.2.2.2.2.2.2.2.2.2.2.2.2.2.2.2.2.2.2.2 k0_t8 r
theorem k0_off42_inb : ∀ (i : grid0.Coords) (v16 : BitVec 32) (k0_hw1 : k0_chk1 i v16) (k0_t8 : Fin (k0_t8_loop i v16).trips), ∀ (r : Fin 8), ∀ a, (k0_off42 i v16 k0_t8 (BitVec.ofNat 32 (64 * r.val))) a + S64x128.size a ≤ S16384x512.size a := fun i v16 k0_hw1 k0_t8 r => k0_hw1.2.2.1 k0_t8 r
theorem k0_off43_inb : ∀ (i : grid0.Coords) (v16 : BitVec 32) (k0_hw1 : k0_chk1 i v16) (k0_t8 : Fin (k0_t8_loop i v16).trips), ∀ (r : Fin 8), ∀ a, (k0_off43 i v16 k0_t8 (BitVec.ofNat 32 (64 * r.val))) a + S64x128.size a ≤ S16384x512.size a := fun i v16 k0_hw1 k0_t8 r => k0_hw1.2.2.2.1 k0_t8 r
theorem k0_off44_inb : ∀ (i : grid0.Coords) (v16 : BitVec 32) (k0_hw1 : k0_chk1 i v16) (k0_t8 : Fin (k0_t8_loop i v16).trips), ∀ (r : Fin 8), ∀ a, (k0_off44 i v16 k0_t8 (BitVec.ofNat 32 (64 * r.val))) a + S64x128.size a ≤ S16384x512.size a := fun i v16 k0_hw1 k0_t8 r => k0_hw1.2.2.2.2.1 k0_t8 r
theorem k0_off45_inb : ∀ (i : grid0.Coords) (v16 : BitVec 32) (k0_hw1 : k0_chk1 i v16) (k0_t8 : Fin (k0_t8_loop i v16).trips), ∀ (r : Fin 8), ∀ a, (k0_off45 i v16 k0_t8 (BitVec.ofNat 32 (64 * r.val))) a + S64x128.size a ≤ S16384x512.size a := fun i v16 k0_hw1 k0_t8 r => k0_hw1.2.2.2.2.2.1 k0_t8 r
theorem k0_t9_ok : ∀ (i : grid0.Coords) (v16 : BitVec 32) (k0_hw1 : k0_chk1 i v16), (k0_t9_loop i v16).OK := fun i v16 k0_hw1 => k0_hw1.2.2.2.2.2.2.1
theorem k0_mult17_dvd : ∀ (i : grid0.Coords) (v16 : BitVec 32) (k0_hw1 : k0_chk1 i v16) (k0_t9 : Fin (k0_t9_loop i v16).trips), 128 ∣ (k0_mult17 i v16 k0_t9).toNat := fun i v16 k0_hw1 k0_t9 => k0_hw1.2.2.2.2.2.2.2.1 k0_t9
theorem k0_mult18_dvd : ∀ (i : grid0.Coords) (v16 : BitVec 32) (k0_hw1 : k0_chk1 i v16) (k0_t9 : Fin (k0_t9_loop i v16).trips), 512 ∣ (k0_mult18 i v16 k0_t9).toNat := fun i v16 k0_hw1 k0_t9 => k0_hw1.2.2.2.2.2.2.2.2.1 k0_t9
theorem k0_off46_inb : ∀ (i : grid0.Coords) (v16 : BitVec 32) (k0_hw1 : k0_chk1 i v16) (k0_t9 : Fin (k0_t9_loop i v16).trips), ∀ a, (k0_off46 i v16 k0_t9) a + S512x128.size a ≤ S16384x512.size a := fun i v16 k0_hw1 k0_t9 => k0_hw1.2.2.2.2.2.2.2.2.2.1 k0_t9
theorem k0_mult19_dvd : ∀ (i : grid0.Coords) (v16 : BitVec 32) (k0_hw1 : k0_chk1 i v16) (k0_t9 : Fin (k0_t9_loop i v16).trips), 512 ∣ (k0_mult19 i v16 k0_t9).toNat := fun i v16 k0_hw1 k0_t9 => k0_hw1.2.2.2.2.2.2.2.2.2.2.1 k0_t9
theorem k0_off47_inb : ∀ (i : grid0.Coords) (v16 : BitVec 32) (k0_hw1 : k0_chk1 i v16) (k0_t9 : Fin (k0_t9_loop i v16).trips), ∀ a, (k0_off47 i v16 k0_t9) a + S512x128.size a ≤ S16384x512.size a := fun i v16 k0_hw1 k0_t9 => k0_hw1.2.2.2.2.2.2.2.2.2.2.2.1 k0_t9
theorem k0_mult20_dvd : ∀ (i : grid0.Coords) (v16 : BitVec 32) (k0_hw1 : k0_chk1 i v16) (k0_t9 : Fin (k0_t9_loop i v16).trips), 512 ∣ (k0_mult20 i v16 k0_t9).toNat := fun i v16 k0_hw1 k0_t9 => k0_hw1.2.2.2.2.2.2.2.2.2.2.2.2.1 k0_t9
theorem k0_off48_inb : ∀ (i : grid0.Coords) (v16 : BitVec 32) (k0_hw1 : k0_chk1 i v16) (k0_t9 : Fin (k0_t9_loop i v16).trips), ∀ a, (k0_off48 i v16 k0_t9) a + S512x128.size a ≤ S16384x512.size a := fun i v16 k0_hw1 k0_t9 => k0_hw1.2.2.2.2.2.2.2.2.2.2.2.2.2.1 k0_t9
theorem k0_mult21_dvd : ∀ (i : grid0.Coords) (v16 : BitVec 32) (k0_hw1 : k0_chk1 i v16) (k0_t9 : Fin (k0_t9_loop i v16).trips), 512 ∣ (k0_mult21 i v16 k0_t9).toNat := fun i v16 k0_hw1 k0_t9 => k0_hw1.2.2.2.2.2.2.2.2.2.2.2.2.2.2.1 k0_t9
theorem k0_off49_inb : ∀ (i : grid0.Coords) (v16 : BitVec 32) (k0_hw1 : k0_chk1 i v16) (k0_t9 : Fin (k0_t9_loop i v16).trips), ∀ a, (k0_off49 i v16 k0_t9) a + S512x128.size a ≤ S16384x512.size a := fun i v16 k0_hw1 k0_t9 => k0_hw1.2.2.2.2.2.2.2.2.2.2.2.2.2.2.2.1 k0_t9
theorem k0_off50_inb : ∀ (i : grid0.Coords) (v16 : BitVec 32) (k0_hw1 : k0_chk1 i v16) (k0_t9 : Fin (k0_t9_loop i v16).trips), ∀ a, (k0_off50 i v16 k0_t9) a + S1x128x512.size a ≤ S1x128x16384.size a := fun i v16 k0_hw1 k0_t9 => k0_hw1.2.2.2.2.2.2.2.2.2.2.2.2.2.2.2.2.1 k0_t9
theorem k0_t10_ok : ∀ (i : grid0.Coords) (v16 : BitVec 32) (k0_hw1 : k0_chk1 i v16), (k0_t10_loop i v16).OK := fun i v16 k0_hw1 => k0_hw1.2.2.2.2.2.2.2.2.2.2.2.2.2.2.2.2.2.1
theorem k0_mult22_dvd : ∀ (i : grid0.Coords) (v16 : BitVec 32) (k0_hw1 : k0_chk1 i v16) (k0_t10 : Fin (k0_t10_loop i v16).trips), 128 ∣ (k0_mult22 i v16 k0_t10).toNat := fun i v16 k0_hw1 k0_t10 => k0_hw1.2.2.2.2.2.2.2.2.2.2.2.2.2.2.2.2.2.2.1 k0_t10
theorem k0_mult23_dvd : ∀ (i : grid0.Coords) (v16 : BitVec 32) (k0_hw1 : k0_chk1 i v16) (k0_t10 : Fin (k0_t10_loop i v16).trips), 512 ∣ (k0_mult23 i v16 k0_t10).toNat := fun i v16 k0_hw1 k0_t10 => k0_hw1.2.2.2.2.2.2.2.2.2.2.2.2.2.2.2.2.2.2.2.1 k0_t10
theorem k0_off51_inb : ∀ (i : grid0.Coords) (v16 : BitVec 32) (k0_hw1 : k0_chk1 i v16) (k0_t10 : Fin (k0_t10_loop i v16).trips), ∀ a, (k0_off51 i v16 k0_t10) a + S512x128.size a ≤ S16384x512.size a := fun i v16 k0_hw1 k0_t10 => k0_hw1.2.2.2.2.2.2.2.2.2.2.2.2.2.2.2.2.2.2.2.2.1 k0_t10
theorem k0_mult24_dvd : ∀ (i : grid0.Coords) (v16 : BitVec 32) (k0_hw1 : k0_chk1 i v16) (k0_t10 : Fin (k0_t10_loop i v16).trips), 512 ∣ (k0_mult24 i v16 k0_t10).toNat := fun i v16 k0_hw1 k0_t10 => k0_hw1.2.2.2.2.2.2.2.2.2.2.2.2.2.2.2.2.2.2.2.2.2.1 k0_t10
theorem k0_off52_inb : ∀ (i : grid0.Coords) (v16 : BitVec 32) (k0_hw1 : k0_chk1 i v16) (k0_t10 : Fin (k0_t10_loop i v16).trips), ∀ a, (k0_off52 i v16 k0_t10) a + S512x128.size a ≤ S16384x512.size a := fun i v16 k0_hw1 k0_t10 => k0_hw1.2.2.2.2.2.2.2.2.2.2.2.2.2.2.2.2.2.2.2.2.2.2.1 k0_t10
theorem k0_mult25_dvd : ∀ (i : grid0.Coords) (v16 : BitVec 32) (k0_hw1 : k0_chk1 i v16) (k0_t10 : Fin (k0_t10_loop i v16).trips), 512 ∣ (k0_mult25 i v16 k0_t10).toNat := fun i v16 k0_hw1 k0_t10 => k0_hw1.2.2.2.2.2.2.2.2.2.2.2.2.2.2.2.2.2.2.2.2.2.2.2.1 k0_t10
theorem k0_off53_inb : ∀ (i : grid0.Coords) (v16 : BitVec 32) (k0_hw1 : k0_chk1 i v16) (k0_t10 : Fin (k0_t10_loop i v16).trips), ∀ a, (k0_off53 i v16 k0_t10) a + S512x128.size a ≤ S16384x512.size a := fun i v16 k0_hw1 k0_t10 => k0_hw1.2.2.2.2.2.2.2.2.2.2.2.2.2.2.2.2.2.2.2.2.2.2.2.2.1 k0_t10
theorem k0_mult26_dvd : ∀ (i : grid0.Coords) (v16 : BitVec 32) (k0_hw1 : k0_chk1 i v16) (k0_t10 : Fin (k0_t10_loop i v16).trips), 512 ∣ (k0_mult26 i v16 k0_t10).toNat := fun i v16 k0_hw1 k0_t10 => k0_hw1.2.2.2.2.2.2.2.2.2.2.2.2.2.2.2.2.2.2.2.2.2.2.2.2.2.1 k0_t10
theorem k0_off54_inb : ∀ (i : grid0.Coords) (v16 : BitVec 32) (k0_hw1 : k0_chk1 i v16) (k0_t10 : Fin (k0_t10_loop i v16).trips), ∀ a, (k0_off54 i v16 k0_t10) a + S512x128.size a ≤ S16384x512.size a := fun i v16 k0_hw1 k0_t10 => k0_hw1.2.2.2.2.2.2.2.2.2.2.2.2.2.2.2.2.2.2.2.2.2.2.2.2.2.2.1 k0_t10
theorem k0_off55_inb : ∀ (i : grid0.Coords) (v16 : BitVec 32) (k0_hw1 : k0_chk1 i v16) (k0_t10 : Fin (k0_t10_loop i v16).trips), ∀ a, (k0_off55 i v16 k0_t10) a + S1x128x512.size a ≤ S1x128x16384.size a := fun i v16 k0_hw1 k0_t10 => k0_hw1.2.2.2.2.2.2.2.2.2.2.2.2.2.2.2.2.2.2.2.2.2.2.2.2.2.2.2 k0_t10

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .smem S1x1x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024x128 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x8x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S16384x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x128x16384 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "neg_inf" => some ⊥
  | "sm_log2e" => some (((Real.sqrt 128)⁻¹ * (Real.log 2)⁻¹ : ℝ) : EReal)
  | _ => none
-- ==== ReferenceIdeal.lean ====
abbrev S256 : Shape := ⟨1, ![256]⟩
abbrev S8x1x256 : Shape := ⟨3, ![8, 1, 256]⟩
abbrev S8x128x1024x128 : Shape := ⟨4, ![8, 128, 1024, 128]⟩
abbrev S128x8x1x128 : Shape := ⟨4, ![128, 8, 1, 128]⟩
abbrev S128x8x8x128 : Shape := ⟨4, ![128, 8, 8, 128]⟩
abbrev S128x8x128 : Shape := ⟨3, ![128, 8, 128]⟩
abbrev S16384x1024 : Shape := ⟨2, ![16384, 1024]⟩
abbrev S8x128x16384 : Shape := ⟨3, ![8, 128, 16384]⟩
abbrev S8x128x128 : Shape := ⟨3, ![8, 128, 128]⟩
abbrev S16384x8192 : Shape := ⟨2, ![16384, 8192]⟩
abbrev S16384x8x128 : Shape := ⟨3, ![16384, 8, 128]⟩
abbrev S8x16384x128 : Shape := ⟨3, ![8, 16384, 128]⟩
abbrev S8x131072x128 : Shape := ⟨3, ![8, 131072, 128]⟩
abbrev S8x131072x16384 : Shape := ⟨3, ![8, 131072, 16384]⟩
abbrev S8x128x8x128x16384 : Shape := ⟨5, ![8, 128, 8, 128, 16384]⟩
abbrev S8x128x8x128 : Shape := ⟨4, ![8, 128, 8, 128]⟩
abbrev S8x128x8x1x128 : Shape := ⟨5, ![8, 128, 8, 1, 128]⟩
abbrev S8x128x8x16x128 : Shape := ⟨5, ![8, 128, 8, 16, 128]⟩
abbrev S8x16384x16384 : Shape := ⟨3, ![8, 16384, 16384]⟩
abbrev S8x128x1x128x16384 : Shape := ⟨5, ![8, 128, 1, 128, 16384]⟩
abbrev S8x128x1x128 : Shape := ⟨4, ![8, 128, 1, 128]⟩
abbrev S8x128x1x128x1 : Shape := ⟨5, ![8, 128, 1, 128, 1]⟩
abbrev S8x256x1 : Shape := ⟨3, ![8, 256, 1]⟩
abbrev S8x256x64 : Shape := ⟨3, ![8, 256, 64]⟩
abbrev S8x1x1x1x16384 : Shape := ⟨5, ![8, 1, 1, 1, 16384]⟩
abbrev S128x8x128x16384 : Shape := ⟨4, ![128, 8, 128, 16384]⟩
abbrev S128x8x128x1 : Shape := ⟨4, ![128, 8, 128, 1]⟩
abbrev S1x128x8x128x16384 : Shape := ⟨5, ![1, 128, 8, 128, 16384]⟩
abbrev S8x128x8x128x1 : Shape := ⟨5, ![8, 128, 8, 128, 1]⟩
abbrev S8x128x8x128x128 : Shape := ⟨5, ![8, 128, 8, 128, 128]⟩
abbrev S8x1x1x128x128 : Shape := ⟨5, ![8, 1, 1, 128, 128]⟩
abbrev S8x128x8x8x16x128 : Shape := ⟨6, ![8, 128, 8, 8, 16, 128]⟩
abbrev S128x8x16x8x8x128 : Shape := ⟨6, ![128, 8, 16, 8, 8, 128]⟩

abbrev nBuf : Space → Nat
  | .hbm => 10
  | .vmem => 9
  | .smem => 0
  | _ => 0

abbrev bufTy : (tb : Table) → Fin (tcTables nBuf tb) → BufTy
  | .hbm, ⟨0, _⟩ => ⟨S256, .i32⟩
  | .hbm, ⟨1, _⟩ => ⟨S8x1x256, .f32⟩
  | .hbm, ⟨2, _⟩ => ⟨S8x128x1024x128, .fp8e4m3⟩
  | .hbm, ⟨3, _⟩ => ⟨S128x8x1x128, .f32⟩
  | .hbm, ⟨4, _⟩ => ⟨S128x8x8x128, .bf16⟩
  | .hbm, ⟨5, _⟩ => ⟨S128x8x128, .i32⟩
  | .hbm, ⟨6, _⟩ => ⟨S16384x1024, .fp8e4m3⟩
  | .hbm, ⟨7, _⟩ => ⟨S8x128x16384, .fp8e4m3⟩
  | .hbm, ⟨8, _⟩ => ⟨S8x128x128, .f32⟩
  | .hbm, ⟨9, _⟩ => ⟨S16384x8192, .bf16⟩
  | .local _ .vmem, ⟨0, _⟩ => ⟨S8x1x256, .f32⟩
  | .local _ .vmem, ⟨1, _⟩ => ⟨S8x128x1024x128, .fp8e4m3⟩
  | .local _ .vmem, ⟨2, _⟩ => ⟨S128x8x1x128, .f32⟩
  | .local _ .vmem, ⟨3, _⟩ => ⟨S128x8x8x128, .bf16⟩
  | .local _ .vmem, ⟨4, _⟩ => ⟨S128x8x128, .i32⟩
  | .local _ .vmem, ⟨5, _⟩ => ⟨S16384x1024, .fp8e4m3⟩
  | .local _ .vmem, ⟨6, _⟩ => ⟨S8x128x16384, .fp8e4m3⟩
  | .local _ .vmem, ⟨7, _⟩ => ⟨S8x128x128, .f32⟩
  | .local _ .vmem, ⟨8, _⟩ => ⟨S16384x8192, .bf16⟩
  | _, _ => ⟨S256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F] [Named F]

def κ : String → Option EReal := fun
  | "sm_scale" => some (((Real.sqrt 128)⁻¹ : ℝ) : EReal)
  | _ => none

abbrev grid0 : Pipeline.Grid := .none

abbrev stage0_0 : Fin 1 → Memref sig .tc .vmem S8x1x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x128x1024x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x8x1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x8x8x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x8x128 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16384x1024 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x128x16384 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16384x8192 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.KernelPoints.lean ====
module

public import proofs.«01_k».proof.Proof.Gen.Kernel
public import Idealize.ShloMosaic.Lib.Pipeline.Kit

@[expose] public section

noncomputable section

namespace Cert.Kernel.Hand

open Cert.Kernel.Gen
open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%arg1)) is fetched at the points ≡ 0 (mod 128), at any contents of the tables (its index map reads none). -/
theorem fetch0_0 (a : (pcfg0 (F := F)).Adm) : ∀ t : Fin (cfg0 a).N, ((cfg0 a).win 0).fetch t = true ↔ t.val % 128 = 0 :=
  (fun t => Pipeline.Window.fetchOf_reads cc0_transform_0 reads0_0 hreads0_0 0 (by decide) (by decide) (Pipeline.Window.sep_of_coord cc0_transform_0 0 0 (fun _ => rfl) (by decide)) (P := 128) (by decide) t : ∀ t : Fin grid0.N, Pipeline.Window.fetchOf grid0 false cc0_transform_0 t = true ↔ t.val % 128 = 0)
/-- Window 1 (operand 2 (%arg2)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 1 (by decide) (by decide) (Pipeline.Window.sep_of_coord cc0_transform_1 1 1 (fun _ => rfl) (by decide)) (P := 1) (by decide) t).mpr (Nat.mod_one _) : ∀ t : Fin grid0.N, Pipeline.Window.fetchOf grid0 false cc0_transform_1 t = true)
/-- Window 2 (operand 3 (%arg3)) is fetched at every point, at any contents of the tables (its index map reads none). -/
theorem fetch0_2 (a : (pcfg0 (F := F)).Adm) : ∀ t : Fin (cfg0 a).N, ((cfg0 a).win 2).fetch t = true :=
  (fun t => (Pipeline.Window.fetchOf_reads cc0_transform_2 reads0_2 hreads0_2 1 (by decide) (by decide) (Pipeline.Window.sep_of_coord cc0_transform_2 1 0 (fun _ => rfl) (by decide)) (P := 1) (by decide) t).mpr (Nat.mod_one _) : ∀ t : Fin grid0.N, Pipeline.Window.fetchOf grid0 false cc0_transform_2 t = true)
/-- Window 3 (operand 4 (%arg4)) is fetched at every point, at any contents of the tables (its index map reads none). -/
theorem fetch0_3 (a : (pcfg0 (F := F)).Adm) : ∀ t : Fin (cfg0 a).N, ((cfg0 a).win 3).fetch t = true :=
  (fun t => (Pipeline.Window.fetchOf_reads cc0_transform_3 reads0_3 hreads0_3 1 (by decide) (by decide) (Pipeline.Window.sep_of_coord cc0_transform_3 1 0 (fun _ => rfl) (by decide)) (P := 1) (by decide) t).mpr (Nat.mod_one _) : ∀ t : Fin grid0.N, Pipeline.Window.fetchOf grid0 false cc0_transform_3 t = true)
/-- Window 4 (operand 5 (%arg5)) is fetched at every point, at any contents of the tables (its index map reads none). -/
theorem fetch0_4 (a : (pcfg0 (F := F)).Adm) : ∀ t : Fin (cfg0 a).N, ((cfg0 a).win 4).fetch t = true :=
  (fun t => (Pipeline.Window.fetchOf_reads cc0_transform_4 reads0_4 hreads0_4 1 (by decide) (by decide) (Pipeline.Window.sep_of_coord cc0_transform_4 1 0 (fun _ => rfl) (by decide)) (P := 1) (by decide) t).mpr (Nat.mod_one _) : ∀ t : Fin grid0.N, Pipeline.Window.fetchOf grid0 false cc0_transform_4 t = true)
/-- Window 5 (operand 6 (%arg6)) is fetched at the points ≡ 0 (mod 128), at any contents of the tables (its index map reads none). -/
theorem fetch0_5 (a : (pcfg0 (F := F)).Adm) : ∀ t : Fin (cfg0 a).N, ((cfg0 a).win 5).fetch t = true ↔ t.val % 128 = 0 :=
  (fun t => Pipeline.Window.fetchOf_reads cc0_transform_5 reads0_5 hreads0_5 0 (by decide) (by decide) (Pipeline.Window.sep_of_coord cc0_transform_5 0 1 (fun _ => rfl) (by decide)) (P := 128) (by decide) t : ∀ t : Fin grid0.N, Pipeline.Window.fetchOf grid0 false cc0_transform_5 t = true ↔ t.val % 128 = 0)
/-- Window 6 (operand 7 (%arg7)) is fetched at the points ≡ 0 (mod 128), at any contents of the tables (its index map reads none). -/
theorem fetch0_6 (a : (pcfg0 (F := F)).Adm) : ∀ t : Fin (cfg0 a).N, ((cfg0 a).win 6).fetch t = true ↔ t.val % 128 = 0 :=
  (fun t => Pipeline.Window.fetchOf_reads cc0_transform_6 reads0_6 hreads0_6 0 (by decide) (by decide) (Pipeline.Window.sep_of_coord cc0_transform_6 0 0 (fun _ => rfl) (by decide)) (P := 128) (by decide) t : ∀ t : Fin grid0.N, Pipeline.Window.fetchOf grid0 false cc0_transform_6 t = true ↔ t.val % 128 = 0)
/-- Window 7 (operand 8 (%arg8)) is fetched at the points ≡ 0 (mod 128), at any contents of the tables (its index map reads none). -/
theorem fetch0_7 (a : (pcfg0 (F := F)).Adm) : ∀ t : Fin (cfg0 a).N, ((cfg0 a).win 7).fetch t = true ↔ t.val % 128 = 0 :=
  (fun t => Pipeline.Window.fetchOf_reads cc0_transform_7 reads0_7 hreads0_7 0 (by decide) (by decide) (Pipeline.Window.sep_of_coord cc0_transform_7 0 0 (fun _ => rfl) (by decide)) (P := 128) (by decide) t : ∀ t : Fin grid0.N, Pipeline.Window.fetchOf grid0 false cc0_transform_7 t = true ↔ t.val % 128 = 0)
/-- Window 8 (result 0 (%0)) is written back at every point, at any contents of the tables (its index map reads none). -/
theorem flush0_8 (a : (pcfg0 (F := F)).Adm) : ∀ t : Fin (cfg0 a).N, ((cfg0 a).win 8).flush t = true :=
  (fun t => (Pipeline.Window.flushOf_reads cc0_transform_8 reads0_8 hreads0_8 1 (by decide) (by decide) (Pipeline.Window.sep_of_coord cc0_transform_8 1 0 (fun _ => rfl) (by decide)) (P := 1) (m := 0) (by decide) rfl t).mpr (Nat.mod_one _) : ∀ t : Fin grid0.N, Pipeline.Window.flushOf grid0 true cc0_transform_8 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_attention (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (Memref.whole cc0_scratch0) (Memref.isWhole_whole _) (Memref.whole cc0_scratch1) (Memref.isWhole_whole _)

end Cert.Kernel.Hand

end
-- ==== Proof.KernelKit.lean ====
module

public import proofs.«01_k».proof.Proof.Gen.Kernel.Launch
public import proofs.«01_k».proof.Proof.Gen.Kernel.Skeleton
public import proofs.«01_k».proof.Proof.Gen.Kernel.Loops
public import proofs.«01_k».proof.Proof.KernelPoints
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl
theorem V_main_arg8 (c : Dev nD) : V m c main_arg8 = m ((c : Thread nD τ).loc main_arg8) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S256 .i32 := Memref.whole main_arg0
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (by decide : main_arg0 ∈ Pipeline.restRefs sig spec0)).trans (V_main_arg0 m c),
      (Pipeline.RDat.FramePost.arr_in h c 0 rfl).trans ((hA c 0).trans (V_main_arg1 m c)),
      (Pipeline.RDat.FramePost.arr_in h c 1 rfl).trans ((hA c 1).trans (V_main_arg2 m c)),
      (Pipeline.RDat.FramePost.arr_in h c 2 rfl).trans ((hA c 2).trans (V_main_arg3 m c)),
      (Pipeline.RDat.FramePost.arr_in h c 3 rfl).trans ((hA c 3).trans (V_main_arg4 m c)),
      (Pipeline.RDat.FramePost.arr_in h c 4 rfl).trans ((hA c 4).trans (V_main_arg5 m c)),
      (Pipeline.RDat.FramePost.arr_in h c 5 rfl).trans ((hA c 5).trans (V_main_arg6 m c)),
      (Pipeline.RDat.FramePost.arr_in h c 6 rfl).trans ((hA c 6).trans (V_main_arg7 m c)),
      (Pipeline.RDat.FramePost.arr_in h c 7 rfl).trans ((hA c 7).trans (V_main_arg8 m c))⟩) h

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .smem S1x1x256 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x1024x128 .fp8e4m3 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x1x128 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x8x128 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x8x128 .i32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S16384x128 .fp8e4m3 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x128x16384 .fp8e4m3 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x128x128 .f32 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S128x1024 .bf16 := spec0_8.stage ((cfgM m hO).slots t 8)
abbrev hs0_8 (hO : Ok m) (t : Fin (cfgM m hO).N) : (ms0_8 m hO t).IsWhole := hstage0_8 (((cfgM m hO).slots t 8).cast nbuf0_8)

/-! ## The side conditions the body assumes, as the frame's hypothesis -/

/-- The side conditions the body ASSUMES of words it loads from its prefetched tables and input SMEM windows, or
    inside a counted loop of the loop's carried counter at every trip (the
    printed `TpuEff.assume (kK_chkN …)`: facts computed from the words that no program decides for every word), at
    EVERY point, over the tables' words (`tbl m`, under `hO`) and the argument blocks' there — spelled as each case's
    run reads them (`View.readAt` through the memref at its held contents), each under the conditions of the
    branches it sits inside. The frame holds under it; Proof.lean proves it from the certificate's precondition (`hyps_of_pre`;
    `View.readAt_apply` and `Memref.IsWhole.read_unread` rewrite a conjunct to the predicate at the word). -/
def Hyps (m : (ℓ : Loc nD τ sig) → Buf (Elt F) ℓ) (hO : Ok m) : Prop :=
  ∀ (c : Dev nD) (t : Fin (cfgM m hO).N),
    k0_chk1 (grid0.coords t) (tbM0_0.view.readAt (Elt F) (Rect.unit (s := S256) (k0_off1 (grid0.coords t)) S1.size (k0_off1_inb (grid0.coords t))).toLoadRect (tbl m 0) (Shape.Idx.first (numel1_S1.symm ▸ Nat.one_pos)))

/-! Each conjunct of `Gen.Hyps` by name: its statement (`Hyps.pN`), a lemma citing it (`Hyps.cN`: what a run, or a
    statement over it, takes for that side condition), and `Gen.Hyps` built from one proof per conjunct (`Hyps.of`:
    what Proof.lean's `hyps_of_pre` applies). -/

/-- Conjunct 0 of `Gen.Hyps` at point `t`: the side condition `k0_chk1` the body assumes as `k0_hw1`. -/
abbrev Hyps.p0 (m : (ℓ : Loc nD τ sig) → Buf (Elt F) ℓ) (hO : Ok m) (c : Dev nD) (t : Fin (cfgM m hO).N) : Prop :=
  k0_chk1 (grid0.coords t) (tbM0_0.view.readAt (Elt F) (Rect.unit (s := S256) (k0_off1 (grid0.coords t)) S1.size (k0_off1_inb (grid0.coords t))).toLoadRect (tbl m 0) (Shape.Idx.first (numel1_S1.symm ▸ Nat.one_pos)))
variable {m} in
theorem Hyps.c0 {hO : Ok m} (hH : Hyps m hO) (c : Dev nD) (t : Fin (cfgM m hO).N) :
    k0_chk1 (grid0.coords t) (tbM0_0.view.readAt (Elt F) (Rect.unit (s := S256) (k0_off1 (grid0.coords t)) S1.size (k0_off1_inb (grid0.coords t))).toLoadRect (tbl m 0) (Shape.Idx.first (numel1_S1.symm ▸ Nat.one_pos))) := (hH c t)
variable {m} in
theorem Hyps.of {hO : Ok m}
    (p0 : ∀ (c : Dev nD) (t : Fin (cfgM m hO).N), Hyps.p0 m hO c t) :
    Hyps m hO := fun c t =>
  p0 c t

/-- The scratch operands: whole scoped buffers of the kernel's own, passed beside the windows. -/
abbrev scM0_0 : Memref sig .tc .vmem S16384x512 .f32 := Memref.whole cc0_scratch0
abbrev scM0_1 : Memref sig .tc .vmem S16384x128 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Hand

end
-- ==== Proof.Words.lean ====
/- The index words that the attention kernel computes at a grid point: how many key tiles of 512 a query group visits, the
   first key of the first tile, and the row and key-group offsets of a tile, each with its closed form in natural numbers. -/
module

public import Idealize.ShloMosaic.Lib.WordArith
public import Idealize.ShloMosaic.Lib.Scf

@[expose] public section

namespace Cert.Words

open Idealize.ShloMosaic

/-- Signed division rounded down, as the kernel spells it. -/
def fdivW (x d : BitVec 32) : BitVec 32 :=
  Scalar.select
    (Scalar.andi
      (Scalar.cmpi .ne (Scalar.subi (Scalar.extui (Scalar.cmpi .sgt x 0#32)) (Scalar.extui (Scalar.cmpi .slt x 0#32)))
        (Scalar.subi (Scalar.extui (Scalar.cmpi .sgt d 0#32)) (Scalar.extui (Scalar.cmpi .slt d 0#32))))
      (Scalar.cmpi .ne (Scalar.remsi x d) 0#32))
    (Scalar.subi (Scalar.divsi x d) 1#32) (Scalar.divsi x d)

/-- The first visited key, rounded down to a lane row. -/
def loW (w : BitVec 32) : BitVec 32 := Scalar.andi w 4294967168#32

/-- The number of key tiles from the rounded first key `lo` to the end of query group `g`. -/
def ntL (g lo : BitVec 32) : BitVec 32 :=
  fdivW (Scalar.subi (Scalar.addi (Scalar.subi (Scalar.muli (Scalar.addi g 1#32) 128#32) lo) 512#32) 1#32) 512#32

/-- The first key of the first tile. -/
def baseL (g lo : BitVec 32) : BitVec 32 := Scalar.minsi lo (Scalar.subi 16384#32 (Scalar.muli (ntL g lo) 512#32))

/-- The row of tile `t` in the score buffer. -/
def tileW (t : ℕ) : BitVec 32 := Scalar.muli (Scf.iv 0#32 1#32 t) 512#32

/-- The bound of the loop over the tiles. -/
def ubL (g lo : BitVec 32) : BitVec 32 := Scalar.addi 0#32 (Scalar.muli (Scalar.divsi (Scalar.subi (ntL g lo) 0#32) 1#32) 1#32)

/-! ## The closed forms -/

/-- Tiles visited, in natural numbers: group `g`, first lane row `l`. -/
def nt (g l : ℕ) : ℕ := (g + 1 - l + 3) / 4

/-- First key of the first tile, in natural numbers. -/
def base (g l : ℕ) : ℕ := min (128 * l) (16384 - 512 * nt g l)

theorem and_mask128 (x : BitVec 32) : x &&& 4294967168#32 = (x >>> 7) <<< 7 := by
  have hm : (4294967168#32 : BitVec 32) = BitVec.allOnes 32 <<< 7 := by decide
  rw [hm]
  ext i hi
  simp only [BitVec.getElem_and, BitVec.getElem_shiftLeft, BitVec.getElem_ushiftRight, BitVec.getElem_allOnes]
  by_cases h : i < 7
  · simp only [h, decide_true, Bool.not_true, Bool.false_and, Bool.and_false]
  · simp only [h, decide_false, Bool.not_false, Bool.true_and]
    rw [Bool.and_true, show 7 + (i - 7) = i by omega, BitVec.getLsbD_eq_getElem hi]

theorem loW_eq (w : BitVec 32) : loW w = BitVec.ofNat 32 (128 * (w.toNat / 128)) := by
  apply BitVec.eq_of_toNat_eq
  unfold loW Scalar.andi IntOp.andi
  rw [and_mask128, BitVec.toNat_shiftLeft, BitVec.toNat_ushiftRight, Nat.shiftLeft_eq, Nat.shiftRight_eq_div_pow, BitVec.toNat_ofNat]
  have := w.isLt
  omega

set_option maxRecDepth 100000 in
theorem closed : ∀ g : Fin 128, ∀ l : Fin 128, l.1 ≤ g.1 →
    (ntL (BitVec.ofNat 32 g.1) (BitVec.ofNat 32 (128 * l.1))).toNat = nt g.1 l.1
    ∧ (baseL (BitVec.ofNat 32 g.1) (BitVec.ofNat 32 (128 * l.1))).toNat = base g.1 l.1
    ∧ ubL (BitVec.ofNat 32 g.1) (BitVec.ofNat 32 (128 * l.1)) = BitVec.ofNat 32 (nt g.1 l.1)
    ∧ ntL (BitVec.ofNat 32 g.1) (BitVec.ofNat 32 (128 * l.1)) = BitVec.ofNat 32 (nt g.1 l.1) := by
  decide +kernel

theorem nt_pos {g l : ℕ} (h : l ≤ g) : 0 < nt g l := by unfold nt; omega
theorem nt_le {g l : ℕ} (hg : g < 128) : nt g l ≤ 32 := by unfold nt; omega
theorem base_le_lo (g l : ℕ) : base g l ≤ 128 * l := Nat.min_le_left _ _
theorem base_end {g l : ℕ} (hg : g < 128) : base g l + 512 * nt g l ≤ 16384 := by
  have := nt_le (l := l) hg
  unfold base; omega
theorem le_base_end {g l : ℕ} (hg : g < 128) (h : l ≤ g) : 128 * (g + 1) ≤ base g l + 512 * nt g l := by
  have := nt_le (l := l) hg
  have : g + 1 - l ≤ 4 * nt g l := by unfold nt; omega
  unfold base; omega
theorem base_dvd (g l : ℕ) : 128 ∣ base g l := by
  unfold base
  rcases Nat.le_total (128 * l) (16384 - 512 * nt g l) with h | h
  · rw [Nat.min_eq_left h]; exact Dvd.intro _ rfl
  · rw [Nat.min_eq_right h]; exact ⟨128 - 4 * nt g l, by omega⟩

/-- The loop over the tiles makes `nt` trips. -/
theorem trips_ub {n : ℕ} (hn : n ≤ 32) : Scf.trips 0#32 (BitVec.ofNat 32 n) 1#32 = n := by
  unfold Scf.trips
  have e : (BitVec.ofNat 32 n).toInt = (n : Int) := by
    rw [BitVec.toInt_eq_toNat_of_lt] <;> rw [BitVec.toNat_ofNat, Nat.mod_eq_of_lt (by omega)]
    omega
  rw [e, show (0#32 : BitVec 32).toInt = 0 by decide, show (1#32 : BitVec 32).toInt = 1 by decide]
  omega

theorem ok_ub {n : ℕ} (hn : n ≤ 32) : Scf.OK 0#32 (BitVec.ofNat 32 n) 1#32 := by
  unfold Scf.OK
  rw [trips_ub hn, show (0#32 : BitVec 32).toInt = 0 by decide, show (1#32 : BitVec 32).toInt = 1 by decide]
  omega

/-- The loop over what the tiles leave makes no trip. -/
theorem trips_rest {n : ℕ} (a : BitVec 32) (ha : a = BitVec.ofNat 32 n) :
    Scf.trips a (BitVec.ofNat 32 n) 1#32 = 0 := by
  subst ha
  unfold Scf.trips
  rw [show (1#32 : BitVec 32).toInt = 1 by decide]
  omega

theorem ok_rest {n : ℕ} (hn : n ≤ 32) : Scf.OK (BitVec.ofNat 32 n) (BitVec.ofNat 32 n) 1#32 := by
  unfold Scf.OK
  rw [trips_rest _ rfl, show (1#32 : BitVec 32).toInt = 1 by decide]
  have e : (BitVec.ofNat 32 n).toInt = (n : Int) := by
    rw [BitVec.toInt_eq_toNat_of_lt] <;> rw [BitVec.toNat_ofNat, Nat.mod_eq_of_lt (by omega)]
    omega
  rw [e]; omega

theorem tileW_toNat {t : ℕ} (ht : t < 32) : (tileW t).toNat = 512 * t := by
  have h : ∀ t : Fin 32, (tileW t.1).toNat = 512 * t.1 := by decide +kernel
  exact h ⟨t, ht⟩

/-- The row of the group of 64 rows `r` of tile `t`. -/
theorem tile_row {t : ℕ} (ht : t < 32) {r : ℕ} (hr : r < 8) :
    (Scalar.addi (tileW t) (BitVec.ofNat 32 (64 * r))).toNat = 512 * t + 64 * r := by
  unfold Scalar.addi IntOp.addi
  rw [BitVec.toNat_add, tileW_toNat ht, BitVec.toNat_ofNat]; omega

/-- The first key of tile `t`. -/
theorem key_toNat {b : BitVec 32} {B t : ℕ} (hb : b.toNat = B) (ht : t < 32) (hB : B + 512 * t < 16384) :
    (Scalar.addi b (tileW t)).toNat = B + 512 * t := by
  unfold Scalar.addi IntOp.addi
  rw [BitVec.toNat_add, tileW_toNat ht, hb]; omega

/-- The group of 64 keys `r` of the tile at key `x`. -/
theorem keyGroup {b : BitVec 32} {x r : ℕ} (hb : b.toNat = x) (hx : 64 ∣ x) (hlt : x < 16384) (hr : r < 8) :
    (Scalar.addi (fdivW b 64#32) (BitVec.ofNat 32 r)).toNat = x / 64 + r := by
  have h : ∀ k : Fin 256, fdivW (BitVec.ofNat 32 (64 * k.1)) 64#32 = BitVec.ofNat 32 k.1 := by decide +kernel
  obtain ⟨k, rfl⟩ := hx
  have e : b = BitVec.ofNat 32 (64 * k) := by
    apply BitVec.eq_of_toNat_eq; rw [hb, BitVec.toNat_ofNat]; omega
  rw [e, h ⟨k, by omega⟩]
  unfold Scalar.addi IntOp.addi
  rw [BitVec.toNat_add, BitVec.toNat_ofNat, BitVec.toNat_ofNat, Nat.mul_div_cancel_left _ (by decide)]
  show (k % _ + _) % _ = _
  omega

end Cert.Words
-- ==== Proof.KernelWords.lean ====
/- What the attention kernel's index words are at a grid point whose first key `w` is a token at or before the group's first
   token: the trips of its loops, the offsets of its loads and stores in closed form, and that all of them are in range. -/
module

public import proofs.«01_k».proof.Proof.Gen.Kernel
public import proofs.«01_k».proof.Proof.Words

@[expose] public section

namespace Cert.Kernel.Hand

open Cert.Kernel.Gen Cert.Words
open Idealize.ShloMosaic

variable (i : grid0.Coords) (w : BitVec 32)

/-- The query group of a grid point. -/
abbrev grp : ℕ := (i 1).val

theorem grp_lt : grp i < 128 := (i 1).isLt

/-- The first key is at or before the group's first token. -/
def Early : Prop := w.toNat ≤ 128 * grp i

/-- The first visited lane row of keys. -/
abbrev row0 : ℕ := w.toNat / 128

variable {i w}

theorem Early.row0_le (h : Early i w) : row0 w ≤ grp i := by
  have : w.toNat ≤ 128 * grp i := h
  show w.toNat / 128 ≤ grp i
  omega

theorem Early.closed (h : Early i w) :
    (baseL (BitVec.ofNat 32 (grp i)) (loW w)).toNat = base (grp i) (row0 w)
    ∧ ubL (BitVec.ofNat 32 (grp i)) (loW w) = BitVec.ofNat 32 (nt (grp i) (row0 w))
    ∧ ntL (BitVec.ofNat 32 (grp i)) (loW w) = BitVec.ofNat 32 (nt (grp i) (row0 w)) := by
  have hg := grp_lt i
  have hl := h.row0_le
  have c := Words.closed ⟨grp i, hg⟩ ⟨row0 w, by omega⟩ hl
  rw [loW_eq]
  exact c.2

/-- The loop over the tiles of the point. -/
abbrev tilesLoop (i : grid0.Coords) (w : BitVec 32) : Scf.Loop 32 := ⟨0#32, ubL (BitVec.ofNat 32 (grp i)) (loW w), 1#32⟩

/-- The loop over what the tiles leave. -/
abbrev restLoop (i : grid0.Coords) (w : BitVec 32) : Scf.Loop 32 :=
  ⟨ubL (BitVec.ofNat 32 (grp i)) (loW w), Scalar.addi 0#32 (Scalar.subi (ntL (BitVec.ofNat 32 (grp i)) (loW w)) 0#32), 1#32⟩

theorem Early.trips (h : Early i w) : (tilesLoop i w).trips = nt (grp i) (row0 w) := by
  show Scf.trips 0#32 (ubL (BitVec.ofNat 32 (grp i)) (loW w)) 1#32 = _
  rw [h.closed.2.1, trips_ub (nt_le (grp_lt i))]

theorem Early.ok (h : Early i w) : (tilesLoop i w).OK := by
  show Scf.OK 0#32 (ubL (BitVec.ofNat 32 (grp i)) (loW w)) 1#32
  rw [h.closed.2.1]; exact ok_ub (nt_le (grp_lt i))

theorem rest_ub (n : ℕ) : Scalar.addi 0#32 (Scalar.subi (BitVec.ofNat 32 n) 0#32) = BitVec.ofNat 32 n := by
  unfold Scalar.addi IntOp.addi Scalar.subi IntOp.subi
  simp

theorem Early.restTrips (h : Early i w) : (restLoop i w).trips = 0 := by
  show Scf.trips (ubL (BitVec.ofNat 32 (grp i)) (loW w)) (Scalar.addi 0#32 (Scalar.subi (ntL (BitVec.ofNat 32 (grp i)) (loW w)) 0#32)) 1#32 = _
  rw [h.closed.2.2, rest_ub]
  exact trips_rest _ h.closed.2.1

theorem Early.restOk (h : Early i w) : (restLoop i w).OK := by
  show Scf.OK (ubL (BitVec.ofNat 32 (grp i)) (loW w)) (Scalar.addi 0#32 (Scalar.subi (ntL (BitVec.ofNat 32 (grp i)) (loW w)) 0#32)) 1#32
  rw [h.closed.2.2, h.closed.2.1, rest_ub]; exact ok_rest (nt_le (grp_lt i))

theorem Early.noRest (h : Early i w) (t : Fin (restLoop i w).trips) : False := by
  exact absurd (t.2.trans_eq h.restTrips) (Nat.not_lt_zero _)

theorem Early.lt (h : Early i w) (t : Fin (tilesLoop i w).trips) : t.1 < nt (grp i) (row0 w) := t.2.trans_eq h.trips

theorem Early.lt32 (h : Early i w) (t : Fin (tilesLoop i w).trips) : t.1 < 32 :=
  Nat.lt_of_lt_of_le (h.lt t) (nt_le (grp_lt i))

theorem Early.key_lt (h : Early i w) (t : Fin (tilesLoop i w).trips) :
    base (grp i) (row0 w) + 512 * t.1 + 512 ≤ 16384 := by
  have := h.lt t
  have := base_end (l := row0 w) (grp_lt i)
  omega

theorem Early.key (h : Early i w) (t : Fin (tilesLoop i w).trips) :
    (Scalar.addi (baseL (BitVec.ofNat 32 (grp i)) (loW w)) (tileW t.1)).toNat = base (grp i) (row0 w) + 512 * t.1 :=
  key_toNat h.closed.1 (h.lt32 t) (by have := h.key_lt t; omega)

theorem Early.dvd (h : Early i w) (t : Fin (tilesLoop i w).trips) :
    128 ∣ (Scalar.addi (baseL (BitVec.ofNat 32 (grp i)) (loW w)) (tileW t.1)).toNat := by
  rw [h.key t]; exact Dvd.dvd.add (base_dvd _ _) (Dvd.intro (4 * t.1) (by omega))

theorem Early.dvdTile (h : Early i w) (t : Fin (tilesLoop i w).trips) : 512 ∣ (tileW t.1).toNat := by
  rw [tileW_toNat (h.lt32 t)]; exact Dvd.intro _ rfl

theorem Early.keyGroup (h : Early i w) (t : Fin (tilesLoop i w).trips) (r : Fin 8) :
    (Scalar.addi (fdivW (Scalar.addi (baseL (BitVec.ofNat 32 (grp i)) (loW w)) (tileW t.1)) 64#32) (BitVec.ofNat 32 r.1)).toNat
      = (base (grp i) (row0 w) + 512 * t.1) / 64 + r.1 :=
  Words.keyGroup (h.key t) (Dvd.dvd.trans (by decide) (h.key t ▸ h.dvd t)) (by have := h.key_lt t; omega) r.2

theorem inb2 {x y a b A B : ℕ} (h0 : x + a ≤ A) (h1 : y + b ≤ B) :
    ∀ j : Fin 2, (![x, y] : Fin 2 → ℕ) j + (![a, b] : Fin 2 → ℕ) j ≤ (![A, B] : Fin 2 → ℕ) j :=
  Fin.forall_fin_two.2 ⟨h0, h1⟩

theorem inb3 {x y z a b c A B C : ℕ} (h0 : x + a ≤ A) (h1 : y + b ≤ B) (h2 : z + c ≤ C) :
    ∀ j : Fin 3, (![x, y, z] : Fin 3 → ℕ) j + (![a, b, c] : Fin 3 → ℕ) j ≤ (![A, B, C] : Fin 3 → ℕ) j :=
  Fin.forall_fin_succ.2 ⟨h0, Fin.forall_fin_two.2 ⟨h1, h2⟩⟩

/-! ## The offsets -/

theorem off2_eq (h : Early i w) (t : Fin (k0_t1_loop i w).trips) : k0_off2 i w t = ![base (grp i) (row0 w) + 512 * t.1, 0] := by
  show ![(Scalar.addi (baseL (BitVec.ofNat 32 (grp i)) (loW w)) (tileW t.1)).toNat, 0] = _
  rw [h.key t]

theorem off3_eq (h : Early i w) (t : Fin (k0_t1_loop i w).trips) (r : Fin 8) : k0_off3 i w t (BitVec.ofNat 32 r.1) = ![0, 0, (base (grp i) (row0 w) + 512 * t.1) / 64 + r.1] := by
  show ![0, 0, (Scalar.addi (fdivW (Scalar.addi (baseL (BitVec.ofNat 32 (grp i)) (loW w)) (tileW t.1)) 64#32) (BitVec.ofNat 32 r.1)).toNat] = _
  rw [h.keyGroup t r]

theorem off4_eq (h : Early i w) (t : Fin (k0_t1_loop i w).trips) (r : Fin 8) : k0_off4 i w t (BitVec.ofNat 32 (64 * r.1)) = ![512 * t.1 + 64 * r.1, 0] := by
  show ![(Scalar.addi (tileW t.1) (BitVec.ofNat 32 (64 * r.1))).toNat, 0] = _
  rw [tile_row (h.lt32 t) r.2]

theorem off8_eq (h : Early i w) (t : Fin (k0_t3_loop i w).trips) : k0_off8 i w t = ![base (grp i) (row0 w) + 512 * t.1, 0] := by
  show ![(Scalar.addi (baseL (BitVec.ofNat 32 (grp i)) (loW w)) (tileW t.1)).toNat, 0] = _
  rw [h.key t]

theorem off9_eq (h : Early i w) (t : Fin (k0_t3_loop i w).trips) (r : Fin 8) : k0_off9 i w t (BitVec.ofNat 32 r.1) = ![0, 0, (base (grp i) (row0 w) + 512 * t.1) / 64 + r.1] := by
  show ![0, 0, (Scalar.addi (fdivW (Scalar.addi (baseL (BitVec.ofNat 32 (grp i)) (loW w)) (tileW t.1)) 64#32) (BitVec.ofNat 32 r.1)).toNat] = _
  rw [h.keyGroup t r]

theorem off10_eq (h : Early i w) (t : Fin (k0_t3_loop i w).trips) (r : Fin 8) : k0_off10 i w t (BitVec.ofNat 32 (64 * r.1)) = ![512 * t.1 + 64 * r.1, 0] := by
  show ![(Scalar.addi (tileW t.1) (BitVec.ofNat 32 (64 * r.1))).toNat, 0] = _
  rw [tile_row (h.lt32 t) r.2]

theorem off11_eq (h : Early i w) (t : Fin (k0_t3_loop i w).trips) (r : Fin 8) : k0_off11 i w t (BitVec.ofNat 32 (64 * r.1)) = ![512 * t.1 + 64 * r.1, 0] := by
  show ![(Scalar.addi (tileW t.1) (BitVec.ofNat 32 (64 * r.1))).toNat, 0] = _
  rw [tile_row (h.lt32 t) r.2]

theorem off12_eq (h : Early i w) (t : Fin (k0_t3_loop i w).trips) (r : Fin 8) : k0_off12 i w t (BitVec.ofNat 32 (64 * r.1)) = ![512 * t.1 + 64 * r.1, 128] := by
  show ![(Scalar.addi (tileW t.1) (BitVec.ofNat 32 (64 * r.1))).toNat, 128] = _
  rw [tile_row (h.lt32 t) r.2]

theorem off13_eq (h : Early i w) (t : Fin (k0_t3_loop i w).trips) (r : Fin 8) : k0_off13 i w t (BitVec.ofNat 32 (64 * r.1)) = ![512 * t.1 + 64 * r.1, 256] := by
  show ![(Scalar.addi (tileW t.1) (BitVec.ofNat 32 (64 * r.1))).toNat, 256] = _
  rw [tile_row (h.lt32 t) r.2]

theorem off14_eq (h : Early i w) (t : Fin (k0_t3_loop i w).trips) (r : Fin 8) : k0_off14 i w t (BitVec.ofNat 32 (64 * r.1)) = ![512 * t.1 + 64 * r.1, 384] := by
  show ![(Scalar.addi (tileW t.1) (BitVec.ofNat 32 (64 * r.1))).toNat, 384] = _
  rw [tile_row (h.lt32 t) r.2]

theorem off22_eq (h : Early i w) (t : Fin (k0_t5_loop i w).trips) : k0_off22 i w t = ![512 * t.1, 0] := by
  show ![(tileW t.1).toNat, 0] = _
  rw [tileW_toNat (h.lt32 t)]

theorem off23_eq (h : Early i w) (t : Fin (k0_t5_loop i w).trips) : k0_off23 i w t = ![512 * t.1, 128] := by
  show ![(tileW t.1).toNat, 128] = _
  rw [tileW_toNat (h.lt32 t)]

theorem off24_eq (h : Early i w) (t : Fin (k0_t5_loop i w).trips) : k0_off24 i w t = ![512 * t.1, 256] := by
  show ![(tileW t.1).toNat, 256] = _
  rw [tileW_toNat (h.lt32 t)]

theorem off25_eq (h : Early i w) (t : Fin (k0_t5_loop i w).trips) : k0_off25 i w t = ![512 * t.1, 384] := by
  show ![(tileW t.1).toNat, 384] = _
  rw [tileW_toNat (h.lt32 t)]

theorem off26_eq (h : Early i w) (t : Fin (k0_t5_loop i w).trips) : k0_off26 i w t = ![0, 0, base (grp i) (row0 w) + 512 * t.1] := by
  show ![0, 0, (Scalar.addi (baseL (BitVec.ofNat 32 (grp i)) (loW w)) (tileW t.1)).toNat] = _
  rw [h.key t]

theorem off32_eq (h : Early i w) (t : Fin (k0_t7_loop i w).trips) : k0_off32 i w t = ![base (grp i) (row0 w) + 512 * t.1, 0] := by
  show ![(Scalar.addi (baseL (BitVec.ofNat 32 (grp i)) (loW w)) (tileW t.1)).toNat, 0] = _
  rw [h.key t]

theorem off33_eq (h : Early i w) (t : Fin (k0_t7_loop i w).trips) (r : Fin 8) : k0_off33 i w t (BitVec.ofNat 32 r.1) = ![0, 0, (base (grp i) (row0 w) + 512 * t.1) / 64 + r.1] := by
  show ![0, 0, (Scalar.addi (fdivW (Scalar.addi (baseL (BitVec.ofNat 32 (grp i)) (loW w)) (tileW t.1)) 64#32) (BitVec.ofNat 32 r.1)).toNat] = _
  rw [h.keyGroup t r]

theorem off34_eq (h : Early i w) (t : Fin (k0_t7_loop i w).trips) (r : Fin 8) : k0_off34 i w t (BitVec.ofNat 32 (64 * r.1)) = ![512 * t.1 + 64 * r.1, 0] := by
  show ![(Scalar.addi (tileW t.1) (BitVec.ofNat 32 (64 * r.1))).toNat, 0] = _
  rw [tile_row (h.lt32 t) r.2]

theorem off35_eq (h : Early i w) (t : Fin (k0_t7_loop i w).trips) (r : Fin 8) : k0_off35 i w t (BitVec.ofNat 32 (64 * r.1)) = ![512 * t.1 + 64 * r.1, 0] := by
  show ![(Scalar.addi (tileW t.1) (BitVec.ofNat 32 (64 * r.1))).toNat, 0] = _
  rw [tile_row (h.lt32 t) r.2]

theorem off36_eq (h : Early i w) (t : Fin (k0_t7_loop i w).trips) (r : Fin 8) : k0_off36 i w t (BitVec.ofNat 32 (64 * r.1)) = ![512 * t.1 + 64 * r.1, 128] := by
  show ![(Scalar.addi (tileW t.1) (BitVec.ofNat 32 (64 * r.1))).toNat, 128] = _
  rw [tile_row (h.lt32 t) r.2]

theorem off37_eq (h : Early i w) (t : Fin (k0_t7_loop i w).trips) (r : Fin 8) : k0_off37 i w t (BitVec.ofNat 32 (64 * r.1)) = ![512 * t.1 + 64 * r.1, 256] := by
  show ![(Scalar.addi (tileW t.1) (BitVec.ofNat 32 (64 * r.1))).toNat, 256] = _
  rw [tile_row (h.lt32 t) r.2]

theorem off38_eq (h : Early i w) (t : Fin (k0_t7_loop i w).trips) (r : Fin 8) : k0_off38 i w t (BitVec.ofNat 32 (64 * r.1)) = ![512 * t.1 + 64 * r.1, 384] := by
  show ![(Scalar.addi (tileW t.1) (BitVec.ofNat 32 (64 * r.1))).toNat, 384] = _
  rw [tile_row (h.lt32 t) r.2]

theorem off46_eq (h : Early i w) (t : Fin (k0_t9_loop i w).trips) : k0_off46 i w t = ![512 * t.1, 0] := by
  show ![(tileW t.1).toNat, 0] = _
  rw [tileW_toNat (h.lt32 t)]

theorem off47_eq (h : Early i w) (t : Fin (k0_t9_loop i w).trips) : k0_off47 i w t = ![512 * t.1, 128] := by
  show ![(tileW t.1).toNat, 128] = _
  rw [tileW_toNat (h.lt32 t)]

theorem off48_eq (h : Early i w) (t : Fin (k0_t9_loop i w).trips) : k0_off48 i w t = ![512 * t.1, 256] := by
  show ![(tileW t.1).toNat, 256] = _
  rw [tileW_toNat (h.lt32 t)]

theorem off49_eq (h : Early i w) (t : Fin (k0_t9_loop i w).trips) : k0_off49 i w t = ![512 * t.1, 384] := by
  show ![(tileW t.1).toNat, 384] = _
  rw [tileW_toNat (h.lt32 t)]

theorem off50_eq (h : Early i w) (t : Fin (k0_t9_loop i w).trips) : k0_off50 i w t = ![0, 0, base (grp i) (row0 w) + 512 * t.1] := by
  show ![0, 0, (Scalar.addi (baseL (BitVec.ofNat 32 (grp i)) (loW w)) (tileW t.1)).toNat] = _
  rw [h.key t]

/-! ## All facts that the kernel assumes -/

theorem chk1_0 (h : Early i w) : k0_chk1_0 i w :=
  ⟨h.ok,
    fun t => h.dvd t,
    fun t => by rw [off2_eq h t]; exact inb2 (h.key_lt t) (by decide),
    fun t r => by rw [off3_eq h t r]; exact inb3 (by decide) (by decide) (by have := h.key_lt t; have := r.2; omega),
    fun t r => by rw [off4_eq h t r]; exact inb2 (by have := h.lt32 t; have := r.2; omega) (by decide),
    h.restOk,
    fun t => (h.noRest t).elim,
    fun t => (h.noRest t).elim,
    fun t => (h.noRest t).elim,
    fun t => (h.noRest t).elim,
    h.ok,
    fun t => h.dvd t,
    fun t => by rw [off8_eq h t]; exact inb2 (h.key_lt t) (by decide),
    fun t r => by rw [off9_eq h t r]; exact inb3 (by decide) (by decide) (by have := h.key_lt t; have := r.2; omega),
    fun t r => by rw [off10_eq h t r]; exact inb2 (by have := h.lt32 t; have := r.2; omega) (by decide),
    fun t r => by rw [off11_eq h t r]; exact inb2 (by have := h.lt32 t; have := r.2; omega) (by decide),
    fun t r => by rw [off12_eq h t r]; exact inb2 (by have := h.lt32 t; have := r.2; omega) (by decide),
    fun t r => by rw [off13_eq h t r]; exact inb2 (by have := h.lt32 t; have := r.2; omega) (by decide),
    fun t r => by rw [off14_eq h t r]; exact inb2 (by have := h.lt32 t; have := r.2; omega) (by decide),
    h.restOk,
    fun t => (h.noRest t).elim,
    fun t => (h.noRest t).elim,
    fun t => (h.noRest t).elim,
    fun t => (h.noRest t).elim,
    fun t => (h.noRest t).elim,
    fun t => (h.noRest t).elim,
    fun t => (h.noRest t).elim,
    fun t => (h.noRest t).elim,
    h.ok,
    fun t => h.dvd t,
    fun t => h.dvdTile t,
    fun t => by rw [off22_eq h t]; exact inb2 (by have := h.lt32 t; omega) (by decide)⟩

theorem chk1_1 (h : Early i w) : k0_chk1_1 i w :=
  ⟨fun t => h.dvdTile t,
    fun t => by rw [off23_eq h t]; exact inb2 (by have := h.lt32 t; omega) (by decide),
    fun t => h.dvdTile t,
    fun t => by rw [off24_eq h t]; exact inb2 (by have := h.lt32 t; omega) (by decide),
    fun t => h.dvdTile t,
    fun t => by rw [off25_eq h t]; exact inb2 (by have := h.lt32 t; omega) (by decide),
    fun t => by rw [off26_eq h t]; exact inb3 (by decide) (by decide) (h.key_lt t),
    h.restOk,
    fun t => (h.noRest t).elim,
    fun t => (h.noRest t).elim,
    fun t => (h.noRest t).elim,
    fun t => (h.noRest t).elim,
    fun t => (h.noRest t).elim,
    fun t => (h.noRest t).elim,
    fun t => (h.noRest t).elim,
    fun t => (h.noRest t).elim,
    fun t => (h.noRest t).elim,
    fun t => (h.noRest t).elim,
    h.ok,
    fun t => h.dvd t,
    fun t => by rw [off32_eq h t]; exact inb2 (h.key_lt t) (by decide),
    fun t r => by rw [off33_eq h t r]; exact inb3 (by decide) (by decide) (by have := h.key_lt t; have := r.2; omega),
    fun t r => by rw [off34_eq h t r]; exact inb2 (by have := h.lt32 t; have := r.2; omega) (by decide),
    fun t r => by rw [off35_eq h t r]; exact inb2 (by have := h.lt32 t; have := r.2; omega) (by decide),
    fun t r => by rw [off36_eq h t r]; exact inb2 (by have := h.lt32 t; have := r.2; omega) (by decide),
    fun t r => by rw [off37_eq h t r]; exact inb2 (by have := h.lt32 t; have := r.2; omega) (by decide),
    fun t r => by rw [off38_eq h t r]; exact inb2 (by have := h.lt32 t; have := r.2; omega) (by decide),
    h.restOk,
    fun t => (h.noRest t).elim,
    fun t => (h.noRest t).elim,
    fun t => (h.noRest t).elim,
    fun t => (h.noRest t).elim⟩

theorem chk1_2 (h : Early i w) : k0_chk1_2 i w :=
  ⟨fun t => (h.noRest t).elim,
    fun t => (h.noRest t).elim,
    fun t => (h.noRest t).elim,
    fun t => (h.noRest t).elim,
    h.ok,
    fun t => h.dvd t,
    fun t => h.dvdTile t,
    fun t => by rw [off46_eq h t]; exact inb2 (by have := h.lt32 t; omega) (by decide),
    fun t => h.dvdTile t,
    fun t => by rw [off47_eq h t]; exact inb2 (by have := h.lt32 t; omega) (by decide),
    fun t => h.dvdTile t,
    fun t => by rw [off48_eq h t]; exact inb2 (by have := h.lt32 t; omega) (by decide),
    fun t => h.dvdTile t,
    fun t => by rw [off49_eq h t]; exact inb2 (by have := h.lt32 t; omega) (by decide),
    fun t => by rw [off50_eq h t]; exact inb3 (by decide) (by decide) (h.key_lt t),
    h.restOk,
    fun t => (h.noRest t).elim,
    fun t => (h.noRest t).elim,
    fun t => (h.noRest t).elim,
    fun t => (h.noRest t).elim,
    fun t => (h.noRest t).elim,
    fun t => (h.noRest t).elim,
    fun t => (h.noRest t).elim,
    fun t => (h.noRest t).elim,
    fun t => (h.noRest t).elim,
    fun t => (h.noRest t).elim⟩

/-- Every fact that the kernel assumes of a point's words. -/
theorem chk1 (h : Early i w) : k0_chk1 i w := ⟨chk1_0 h, chk1_1 h, chk1_2 h⟩

end Cert.Kernel.Hand
-- ==== Proof.KernelEarly.lean ====
/- The first key that the attention kernel reads at each grid point is a token at or before the group's first token, whenever
   the array of first keys says so of every unit; so every fact the kernel assumes of the word holds. -/
module

public import proofs.«01_k».proof.Proof.KernelKit
public import proofs.«01_k».proof.Proof.KernelWords

@[expose] public section

noncomputable section

namespace Cert.Kernel.Hand

open Cert.Kernel.Gen
open Idealize.ShloMosaic Idealize.ShloMosaic.TcCoe
open Idealize.SL Idealize.SL.Sem

variable {F : FTy → Type} [FloatOps F]

/-- The word of the table of first keys that the body reads at a grid point. -/
def wordAt (m : (ℓ : Loc nD τ sig) → Buf (Elt F) ℓ) (i : grid0.Coords) : BitVec 32 :=
  tbM0_0.view.readAt (Elt F) (Rect.unit (s := S256) (k0_off1 i) S1.size (k0_off1_inb i)).toLoadRect (tbl m 0) (Shape.Idx.first (numel1_S1.symm ▸ Nat.one_pos))

/-- It is the word of the group's first unit. -/
theorem wordAt_eq (m : (ℓ : Loc nD τ sig) → Buf (Elt F) ℓ) (i : grid0.Coords) (y : S256.Idx) (hy : (y 0).1 = 2 * (i 1).val) :
    wordAt m i = (m ((0 : Dev nD).tc.loc main_arg0) : S256.Idx → BitVec 32) y := by
  unfold wordAt
  show (m ((0 : Dev nD).tc.loc main_arg0) : S256.Idx → BitVec 32) _ = _
  refine congrArg (m ((0 : Dev nD).tc.loc main_arg0) : S256.Idx → BitVec 32) ?_
  refine funext fun (a : Fin 1) => ?_
  obtain rfl : a = 0 := Subsingleton.elim _ _
  apply Fin.ext
  have e : k0_off1 i 0 = 2 * (i 1).val := by
    show (Scalar.muli (BitVec.ofNat 32 (i 1).val) 2#32).toNat = _
    have := (i 1).isLt
    have h : (i 1).val < 128 := this
    unfold Scalar.muli IntOp.muli
    rw [BitVec.toNat_mul, BitVec.toNat_ofNat]
    show _ % _ * 2 % _ = _
    omega
  show k0_off1 i 0 + 1 * 0 = _
  rw [e]; exact hy.symm

theorem early_of (m : (ℓ : Loc nD τ sig) → Buf (Elt F) ℓ)
    (h : ∀ y : S256.Idx, ((m ((0 : Dev nD).tc.loc main_arg0) : S256.Idx → BitVec 32) y).toNat ≤ 64 * (y 0).1) (i : grid0.Coords) :
    Early i (wordAt m i) := by
  have hi : (i 1).val < 128 := (i 1).isLt
  let y : S256.Idx := fun (a : Fin 1) => ⟨2 * (i 1).val, by obtain rfl : a = 0 := Subsingleton.elim _ _; show _ < 256; omega⟩
  have e := wordAt_eq m i y rfl
  have := h y
  unfold Early grp
  rw [e]
  have e2 : (y 0).1 = 2 * (i 1).val := rfl
  rw [e2] at this
  omega

/-- Every fact that the kernel assumes, at every point. -/
theorem hyps_of (m : (ℓ : Loc nD τ sig) → Buf (Elt F) ℓ) (hO : Ok m)
    (h : ∀ y : S256.Idx, ((m ((0 : Dev nD).tc.loc main_arg0) : S256.Idx → BitVec 32) y).toNat ≤ 64 * (y 0).1) : Hyps m hO :=
  Hyps.of fun c t => chk1 (early_of m h (grid0.coords t))

end Cert.Kernel.Hand

end
-- ==== Proof.KernelIdealPoints.lean ====
module

public import proofs.«01_k».proof.Proof.Gen.KernelIdeal
public import Idealize.ShloMosaic.Lib.Pipeline.Kit

@[expose] public section

noncomputable section

namespace Cert.KernelIdeal.Hand

open Cert.KernelIdeal.Gen
open Idealize.ShloMosaic Idealize.ShloMosaic.TcCoe
open Idealize.SL Idealize.SL.Sem

variable {F : FTy → Type} [FloatOps F] [Named F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%arg1)) is fetched at the points ≡ 0 (mod 128), at any contents of the tables (its index map reads none). -/
theorem fetch0_0 (a : (pcfg0 (F := F)).Adm) : ∀ t : Fin (cfg0 a).N, ((cfg0 a).win 0).fetch t = true ↔ t.val % 128 = 0 :=
  (fun t => Pipeline.Window.fetchOf_reads cc0_transform_0 reads0_0 hreads0_0 0 (by decide) (by decide) (Pipeline.Window.sep_of_coord cc0_transform_0 0 0 (fun _ => rfl) (by decide)) (P := 128) (by decide) t : ∀ t : Fin grid0.N, Pipeline.Window.fetchOf grid0 false cc0_transform_0 t = true ↔ t.val % 128 = 0)
/-- Window 1 (operand 2 (%arg2)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 1 (by decide) (by decide) (Pipeline.Window.sep_of_coord cc0_transform_1 1 1 (fun _ => rfl) (by decide)) (P := 1) (by decide) t).mpr (Nat.mod_one _) : ∀ t : Fin grid0.N, Pipeline.Window.fetchOf grid0 false cc0_transform_1 t = true)
/-- Window 2 (operand 3 (%arg3)) is fetched at every point, at any contents of the tables (its index map reads none). -/
theorem fetch0_2 (a : (pcfg0 (F := F)).Adm) : ∀ t : Fin (cfg0 a).N, ((cfg0 a).win 2).fetch t = true :=
  (fun t => (Pipeline.Window.fetchOf_reads cc0_transform_2 reads0_2 hreads0_2 1 (by decide) (by decide) (Pipeline.Window.sep_of_coord cc0_transform_2 1 0 (fun _ => rfl) (by decide)) (P := 1) (by decide) t).mpr (Nat.mod_one _) : ∀ t : Fin grid0.N, Pipeline.Window.fetchOf grid0 false cc0_transform_2 t = true)
/-- Window 3 (operand 4 (%arg4)) is fetched at every point, at any contents of the tables (its index map reads none). -/
theorem fetch0_3 (a : (pcfg0 (F := F)).Adm) : ∀ t : Fin (cfg0 a).N, ((cfg0 a).win 3).fetch t = true :=
  (fun t => (Pipeline.Window.fetchOf_reads cc0_transform_3 reads0_3 hreads0_3 1 (by decide) (by decide) (Pipeline.Window.sep_of_coord cc0_transform_3 1 0 (fun _ => rfl) (by decide)) (P := 1) (by decide) t).mpr (Nat.mod_one _) : ∀ t : Fin grid0.N, Pipeline.Window.fetchOf grid0 false cc0_transform_3 t = true)
/-- Window 4 (operand 5 (%arg5)) is fetched at every point, at any contents of the tables (its index map reads none). -/
theorem fetch0_4 (a : (pcfg0 (F := F)).Adm) : ∀ t : Fin (cfg0 a).N, ((cfg0 a).win 4).fetch t = true :=
  (fun t => (Pipeline.Window.fetchOf_reads cc0_transform_4 reads0_4 hreads0_4 1 (by decide) (by decide) (Pipeline.Window.sep_of_coord cc0_transform_4 1 0 (fun _ => rfl) (by decide)) (P := 1) (by decide) t).mpr (Nat.mod_one _) : ∀ t : Fin grid0.N, Pipeline.Window.fetchOf grid0 false cc0_transform_4 t = true)
/-- Window 5 (operand 6 (%arg6)) is fetched at the points ≡ 0 (mod 128), at any contents of the tables (its index map reads none). -/
theorem fetch0_5 (a : (pcfg0 (F := F)).Adm) : ∀ t : Fin (cfg0 a).N, ((cfg0 a).win 5).fetch t = true ↔ t.val % 128 = 0 :=
  (fun t => Pipeline.Window.fetchOf_reads cc0_transform_5 reads0_5 hreads0_5 0 (by decide) (by decide) (Pipeline.Window.sep_of_coord cc0_transform_5 0 1 (fun _ => rfl) (by decide)) (P := 128) (by decide) t : ∀ t : Fin grid0.N, Pipeline.Window.fetchOf grid0 false cc0_transform_5 t = true ↔ t.val % 128 = 0)
/-- Window 6 (operand 7 (%arg7)) is fetched at the points ≡ 0 (mod 128), at any contents of the tables (its index map reads none). -/
theorem fetch0_6 (a : (pcfg0 (F := F)).Adm) : ∀ t : Fin (cfg0 a).N, ((cfg0 a).win 6).fetch t = true ↔ t.val % 128 = 0 :=
  (fun t => Pipeline.Window.fetchOf_reads cc0_transform_6 reads0_6 hreads0_6 0 (by decide) (by decide) (Pipeline.Window.sep_of_coord cc0_transform_6 0 0 (fun _ => rfl) (by decide)) (P := 128) (by decide) t : ∀ t : Fin grid0.N, Pipeline.Window.fetchOf grid0 false cc0_transform_6 t = true ↔ t.val % 128 = 0)
/-- Window 7 (operand 8 (%arg8)) is fetched at the points ≡ 0 (mod 128), at any contents of the tables (its index map reads none). -/
theorem fetch0_7 (a : (pcfg0 (F := F)).Adm) : ∀ t : Fin (cfg0 a).N, ((cfg0 a).win 7).fetch t = true ↔ t.val % 128 = 0 :=
  (fun t => Pipeline.Window.fetchOf_reads cc0_transform_7 reads0_7 hreads0_7 0 (by decide) (by decide) (Pipeline.Window.sep_of_coord cc0_transform_7 0 0 (fun _ => rfl) (by decide)) (P := 128) (by decide) t : ∀ t : Fin grid0.N, Pipeline.Window.fetchOf grid0 false cc0_transform_7 t = true ↔ t.val % 128 = 0)
/-- Window 8 (result 0 (%0)) is written back at every point, at any contents of the tables (its index map reads none). -/
theorem flush0_8 (a : (pcfg0 (F := F)).Adm) : ∀ t : Fin (cfg0 a).N, ((cfg0 a).win 8).flush t = true :=
  (fun t => (Pipeline.Window.flushOf_reads cc0_transform_8 reads0_8 hreads0_8 1 (by decide) (by decide) (Pipeline.Window.sep_of_coord cc0_transform_8 1 0 (fun _ => rfl) (by decide)) (P := 1) (m := 0) (by decide) rfl t).mpr (Nat.mod_one _) : ∀ t : Fin grid0.N, Pipeline.Window.flushOf grid0 true cc0_transform_8 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_attention (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (Memref.whole cc0_scratch0) (Memref.isWhole_whole _) (Memref.whole cc0_scratch1) (Memref.isWhole_whole _)

end Cert.KernelIdeal.Hand

end
-- ==== Proof.KernelIdealKit.lean ====
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.KernelIdealPoints
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl
theorem V_main_arg8 (c : Dev nD) : V m c main_arg8 = m ((c : Thread nD τ).loc main_arg8) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S256 .i32 := Memref.whole main_arg0
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (by decide : main_arg0 ∈ Pipeline.restRefs sig spec0)).trans (V_main_arg0 m c),
      (Pipeline.RDat.FramePost.arr_in h c 0 rfl).trans ((hA c 0).trans (V_main_arg1 m c)),
      (Pipeline.RDat.FramePost.arr_in h c 1 rfl).trans ((hA c 1).trans (V_main_arg2 m c)),
      (Pipeline.RDat.FramePost.arr_in h c 2 rfl).trans ((hA c 2).trans (V_main_arg3 m c)),
      (Pipeline.RDat.FramePost.arr_in h c 3 rfl).trans ((hA c 3).trans (V_main_arg4 m c)),
      (Pipeline.RDat.FramePost.arr_in h c 4 rfl).trans ((hA c 4).trans (V_main_arg5 m c)),
      (Pipeline.RDat.FramePost.arr_in h c 5 rfl).trans ((hA c 5).trans (V_main_arg6 m c)),
      (Pipeline.RDat.FramePost.arr_in h c 6 rfl).trans ((hA c 6).trans (V_main_arg7 m c)),
      (Pipeline.RDat.FramePost.arr_in h c 7 rfl).trans ((hA c 7).trans (V_main_arg8 m c))⟩) h

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .smem S1x1x256 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x1024x128 .fp8e4m3 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x1x128 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x8x128 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x8x128 .i32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S16384x128 .fp8e4m3 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x128x16384 .fp8e4m3 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x128x128 .f32 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S128x1024 .bf16 := spec0_8.stage ((cfgM m hO).slots t 8)
abbrev hs0_8 (hO : Ok m) (t : Fin (cfgM m hO).N) : (ms0_8 m hO t).IsWhole := hstage0_8 (((cfgM m hO).slots t 8).cast nbuf0_8)

/-! ## The side conditions the body assumes, as the frame's hypothesis -/

/-- The side conditions the body ASSUMES of words it loads from its prefetched tables and input SMEM windows, or
    inside a counted loop of the loop's carried counter at every trip (the
    printed `TpuEff.assume (kK_chkN …)`: facts computed from the words that no program decides for every word), at
    EVERY point, over the tables' words (`tbl m`, under `hO`) and the argument blocks' there — spelled as each case's
    run reads them (`View.readAt` through the memref at its held contents), each under the conditions of the
    branches it sits inside. The frame holds under it; Proof.lean proves it from the certificate's precondition (`hyps_of_pre`;
    `View.readAt_apply` and `Memref.IsWhole.read_unread` rewrite a conjunct to the predicate at the word). -/
def Hyps (m : (ℓ : Loc nD τ sig) → Buf (Elt F) ℓ) (hO : Ok m) : Prop :=
  ∀ (c : Dev nD) (t : Fin (cfgM m hO).N),
    k0_chk1 (grid0.coords t) (tbM0_0.view.readAt (Elt F) (Rect.unit (s := S256) (k0_off1 (grid0.coords t)) S1.size (k0_off1_inb (grid0.coords t))).toLoadRect (tbl m 0) (Shape.Idx.first (numel1_S1.symm ▸ Nat.one_pos)))

/-! Each conjunct of `Gen.Hyps` by name: its statement (`Hyps.pN`), a lemma citing it (`Hyps.cN`: what a run, or a
    statement over it, takes for that side condition), and `Gen.Hyps` built from one proof per conjunct (`Hyps.of`:
    what Proof.lean's `hyps_of_pre` applies). -/

/-- Conjunct 0 of `Gen.Hyps` at point `t`: the side condition `k0_chk1` the body assumes as `k0_hw1`. -/
abbrev Hyps.p0 (m : (ℓ : Loc nD τ sig) → Buf (Elt F) ℓ) (hO : Ok m) (c : Dev nD) (t : Fin (cfgM m hO).N) : Prop :=
  k0_chk1 (grid0.coords t) (tbM0_0.view.readAt (Elt F) (Rect.unit (s := S256) (k0_off1 (grid0.coords t)) S1.size (k0_off1_inb (grid0.coords t))).toLoadRect (tbl m 0) (Shape.Idx.first (numel1_S1.symm ▸ Nat.one_pos)))
variable {m} in
theorem Hyps.c0 {hO : Ok m} (hH : Hyps m hO) (c : Dev nD) (t : Fin (cfgM m hO).N) :
    k0_chk1 (grid0.coords t) (tbM0_0.view.readAt (Elt F) (Rect.unit (s := S256) (k0_off1 (grid0.coords t)) S1.size (k0_off1_inb (grid0.coords t))).toLoadRect (tbl m 0) (Shape.Idx.first (numel1_S1.symm ▸ Nat.one_pos))) := (hH c t)
variable {m} in
theorem Hyps.of {hO : Ok m}
    (p0 : ∀ (c : Dev nD) (t : Fin (cfgM m hO).N), Hyps.p0 m hO c t) :
    Hyps m hO := fun c t =>
  p0 c t

/-- The scratch operands: whole scoped buffers of the kernel's own, passed beside the windows. -/
abbrev scM0_0 : Memref sig .tc .vmem S16384x512 .f32 := Memref.whole cc0_scratch0
abbrev scM0_1 : Memref sig .tc .vmem S16384x128 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.KernelIdealWords.lean ====
/- What the attention kernel's index words are at a grid point whose first key `w` is a token at or before the group's first
   token: the trips of its loops, the offsets of its loads and stores in closed form, and that all of them are in range. -/
module

public import proofs.«01_k».proof.Proof.Gen.KernelIdeal
public import proofs.«01_k».proof.Proof.Words

@[expose] public section

namespace Cert.KernelIdeal.Hand

open Cert.KernelIdeal.Gen Cert.Words
open Idealize.ShloMosaic

variable (i : grid0.Coords) (w : BitVec 32)

/-- The query group of a grid point. -/
abbrev grp : ℕ := (i 1).val

theorem grp_lt : grp i < 128 := (i 1).isLt

/-- The first key is at or before the group's first token. -/
def Early : Prop := w.toNat ≤ 128 * grp i

/-- The first visited lane row of keys. -/
abbrev row0 : ℕ := w.toNat / 128

variable {i w}

theorem Early.row0_le (h : Early i w) : row0 w ≤ grp i := by
  have : w.toNat ≤ 128 * grp i := h
  show w.toNat / 128 ≤ grp i
  omega

theorem Early.closed (h : Early i w) :
    (baseL (BitVec.ofNat 32 (grp i)) (loW w)).toNat = base (grp i) (row0 w)
    ∧ ubL (BitVec.ofNat 32 (grp i)) (loW w) = BitVec.ofNat 32 (nt (grp i) (row0 w))
    ∧ ntL (BitVec.ofNat 32 (grp i)) (loW w) = BitVec.ofNat 32 (nt (grp i) (row0 w)) := by
  have hg := grp_lt i
  have hl := h.row0_le
  have c := Words.closed ⟨grp i, hg⟩ ⟨row0 w, by omega⟩ hl
  rw [loW_eq]
  exact c.2

/-- The loop over the tiles of the point. -/
abbrev tilesLoop (i : grid0.Coords) (w : BitVec 32) : Scf.Loop 32 := ⟨0#32, ubL (BitVec.ofNat 32 (grp i)) (loW w), 1#32⟩

/-- The loop over what the tiles leave. -/
abbrev restLoop (i : grid0.Coords) (w : BitVec 32) : Scf.Loop 32 :=
  ⟨ubL (BitVec.ofNat 32 (grp i)) (loW w), Scalar.addi 0#32 (Scalar.subi (ntL (BitVec.ofNat 32 (grp i)) (loW w)) 0#32), 1#32⟩

theorem Early.trips (h : Early i w) : (tilesLoop i w).trips = nt (grp i) (row0 w) := by
  show Scf.trips 0#32 (ubL (BitVec.ofNat 32 (grp i)) (loW w)) 1#32 = _
  rw [h.closed.2.1, trips_ub (nt_le (grp_lt i))]

theorem Early.ok (h : Early i w) : (tilesLoop i w).OK := by
  show Scf.OK 0#32 (ubL (BitVec.ofNat 32 (grp i)) (loW w)) 1#32
  rw [h.closed.2.1]; exact ok_ub (nt_le (grp_lt i))

theorem rest_ub (n : ℕ) : Scalar.addi 0#32 (Scalar.subi (BitVec.ofNat 32 n) 0#32) = BitVec.ofNat 32 n := by
  unfold Scalar.addi IntOp.addi Scalar.subi IntOp.subi
  simp

theorem Early.restTrips (h : Early i w) : (restLoop i w).trips = 0 := by
  show Scf.trips (ubL (BitVec.ofNat 32 (grp i)) (loW w)) (Scalar.addi 0#32 (Scalar.subi (ntL (BitVec.ofNat 32 (grp i)) (loW w)) 0#32)) 1#32 = _
  rw [h.closed.2.2, rest_ub]
  exact trips_rest _ h.closed.2.1

theorem Early.restOk (h : Early i w) : (restLoop i w).OK := by
  show Scf.OK (ubL (BitVec.ofNat 32 (grp i)) (loW w)) (Scalar.addi 0#32 (Scalar.subi (ntL (BitVec.ofNat 32 (grp i)) (loW w)) 0#32)) 1#32
  rw [h.closed.2.2, h.closed.2.1, rest_ub]; exact ok_rest (nt_le (grp_lt i))

theorem Early.noRest (h : Early i w) (t : Fin (restLoop i w).trips) : False := by
  exact absurd (t.2.trans_eq h.restTrips) (Nat.not_lt_zero _)

theorem Early.lt (h : Early i w) (t : Fin (tilesLoop i w).trips) : t.1 < nt (grp i) (row0 w) := t.2.trans_eq h.trips

theorem Early.lt32 (h : Early i w) (t : Fin (tilesLoop i w).trips) : t.1 < 32 :=
  Nat.lt_of_lt_of_le (h.lt t) (nt_le (grp_lt i))

theorem Early.key_lt (h : Early i w) (t : Fin (tilesLoop i w).trips) :
    base (grp i) (row0 w) + 512 * t.1 + 512 ≤ 16384 := by
  have := h.lt t
  have := base_end (l := row0 w) (grp_lt i)
  omega

theorem Early.key (h : Early i w) (t : Fin (tilesLoop i w).trips) :
    (Scalar.addi (baseL (BitVec.ofNat 32 (grp i)) (loW w)) (tileW t.1)).toNat = base (grp i) (row0 w) + 512 * t.1 :=
  key_toNat h.closed.1 (h.lt32 t) (by have := h.key_lt t; omega)

theorem Early.dvd (h : Early i w) (t : Fin (tilesLoop i w).trips) :
    128 ∣ (Scalar.addi (baseL (BitVec.ofNat 32 (grp i)) (loW w)) (tileW t.1)).toNat := by
  rw [h.key t]; exact Dvd.dvd.add (base_dvd _ _) (Dvd.intro (4 * t.1) (by omega))

theorem Early.dvdTile (h : Early i w) (t : Fin (tilesLoop i w).trips) : 512 ∣ (tileW t.1).toNat := by
  rw [tileW_toNat (h.lt32 t)]; exact Dvd.intro _ rfl

theorem Early.keyGroup (h : Early i w) (t : Fin (tilesLoop i w).trips) (r : Fin 8) :
    (Scalar.addi (fdivW (Scalar.addi (baseL (BitVec.ofNat 32 (grp i)) (loW w)) (tileW t.1)) 64#32) (BitVec.ofNat 32 r.1)).toNat
      = (base (grp i) (row0 w) + 512 * t.1) / 64 + r.1 :=
  Words.keyGroup (h.key t) (Dvd.dvd.trans (by decide) (h.key t ▸ h.dvd t)) (by have := h.key_lt t; omega) r.2

theorem inb2 {x y a b A B : ℕ} (h0 : x + a ≤ A) (h1 : y + b ≤ B) :
    ∀ j : Fin 2, (![x, y] : Fin 2 → ℕ) j + (![a, b] : Fin 2 → ℕ) j ≤ (![A, B] : Fin 2 → ℕ) j :=
  Fin.forall_fin_two.2 ⟨h0, h1⟩

theorem inb3 {x y z a b c A B C : ℕ} (h0 : x + a ≤ A) (h1 : y + b ≤ B) (h2 : z + c ≤ C) :
    ∀ j : Fin 3, (![x, y, z] : Fin 3 → ℕ) j + (![a, b, c] : Fin 3 → ℕ) j ≤ (![A, B, C] : Fin 3 → ℕ) j :=
  Fin.forall_fin_succ.2 ⟨h0, Fin.forall_fin_two.2 ⟨h1, h2⟩⟩

/-! ## The offsets -/

theorem off2_eq (h : Early i w) (t : Fin (k0_t1_loop i w).trips) : k0_off2 i w t = ![base (grp i) (row0 w) + 512 * t.1, 0] := by
  show ![(Scalar.addi (baseL (BitVec.ofNat 32 (grp i)) (loW w)) (tileW t.1)).toNat, 0] = _
  rw [h.key t]

theorem off3_eq (h : Early i w) (t : Fin (k0_t1_loop i w).trips) (r : Fin 8) : k0_off3 i w t (BitVec.ofNat 32 r.1) = ![0, 0, (base (grp i) (row0 w) + 512 * t.1) / 64 + r.1] := by
  show ![0, 0, (Scalar.addi (fdivW (Scalar.addi (baseL (BitVec.ofNat 32 (grp i)) (loW w)) (tileW t.1)) 64#32) (BitVec.ofNat 32 r.1)).toNat] = _
  rw [h.keyGroup t r]

theorem off4_eq (h : Early i w) (t : Fin (k0_t1_loop i w).trips) (r : Fin 8) : k0_off4 i w t (BitVec.ofNat 32 (64 * r.1)) = ![512 * t.1 + 64 * r.1, 0] := by
  show ![(Scalar.addi (tileW t.1) (BitVec.ofNat 32 (64 * r.1))).toNat, 0] = _
  rw [tile_row (h.lt32 t) r.2]

theorem off8_eq (h : Early i w) (t : Fin (k0_t3_loop i w).trips) : k0_off8 i w t = ![base (grp i) (row0 w) + 512 * t.1, 0] := by
  show ![(Scalar.addi (baseL (BitVec.ofNat 32 (grp i)) (loW w)) (tileW t.1)).toNat, 0] = _
  rw [h.key t]

theorem off9_eq (h : Early i w) (t : Fin (k0_t3_loop i w).trips) (r : Fin 8) : k0_off9 i w t (BitVec.ofNat 32 r.1) = ![0, 0, (base (grp i) (row0 w) + 512 * t.1) / 64 + r.1] := by
  show ![0, 0, (Scalar.addi (fdivW (Scalar.addi (baseL (BitVec.ofNat 32 (grp i)) (loW w)) (tileW t.1)) 64#32) (BitVec.ofNat 32 r.1)).toNat] = _
  rw [h.keyGroup t r]

theorem off10_eq (h : Early i w) (t : Fin (k0_t3_loop i w).trips) (r : Fin 8) : k0_off10 i w t (BitVec.ofNat 32 (64 * r.1)) = ![512 * t.1 + 64 * r.1, 0] := by
  show ![(Scalar.addi (tileW t.1) (BitVec.ofNat 32 (64 * r.1))).toNat, 0] = _
  rw [tile_row (h.lt32 t) r.2]

theorem off11_eq (h : Early i w) (t : Fin (k0_t3_loop i w).trips) (r : Fin 8) : k0_off11 i w t (BitVec.ofNat 32 (64 * r.1)) = ![512 * t.1 + 64 * r.1, 0] := by
  show ![(Scalar.addi (tileW t.1) (BitVec.ofNat 32 (64 * r.1))).toNat, 0] = _
  rw [tile_row (h.lt32 t) r.2]

theorem off12_eq (h : Early i w) (t : Fin (k0_t3_loop i w).trips) (r : Fin 8) : k0_off12 i w t (BitVec.ofNat 32 (64 * r.1)) = ![512 * t.1 + 64 * r.1, 128] := by
  show ![(Scalar.addi (tileW t.1) (BitVec.ofNat 32 (64 * r.1))).toNat, 128] = _
  rw [tile_row (h.lt32 t) r.2]

theorem off13_eq (h : Early i w) (t : Fin (k0_t3_loop i w).trips) (r : Fin 8) : k0_off13 i w t (BitVec.ofNat 32 (64 * r.1)) = ![512 * t.1 + 64 * r.1, 256] := by
  show ![(Scalar.addi (tileW t.1) (BitVec.ofNat 32 (64 * r.1))).toNat, 256] = _
  rw [tile_row (h.lt32 t) r.2]

theorem off14_eq (h : Early i w) (t : Fin (k0_t3_loop i w).trips) (r : Fin 8) : k0_off14 i w t (BitVec.ofNat 32 (64 * r.1)) = ![512 * t.1 + 64 * r.1, 384] := by
  show ![(Scalar.addi (tileW t.1) (BitVec.ofNat 32 (64 * r.1))).toNat, 384] = _
  rw [tile_row (h.lt32 t) r.2]

theorem off22_eq (h : Early i w) (t : Fin (k0_t5_loop i w).trips) : k0_off22 i w t = ![512 * t.1, 0] := by
  show ![(tileW t.1).toNat, 0] = _
  rw [tileW_toNat (h.lt32 t)]

theorem off23_eq (h : Early i w) (t : Fin (k0_t5_loop i w).trips) : k0_off23 i w t = ![512 * t.1, 128] := by
  show ![(tileW t.1).toNat, 128] = _
  rw [tileW_toNat (h.lt32 t)]

theorem off24_eq (h : Early i w) (t : Fin (k0_t5_loop i w).trips) : k0_off24 i w t = ![512 * t.1, 256] := by
  show ![(tileW t.1).toNat, 256] = _
  rw [tileW_toNat (h.lt32 t)]

theorem off25_eq (h : Early i w) (t : Fin (k0_t5_loop i w).trips) : k0_off25 i w t = ![512 * t.1, 384] := by
  show ![(tileW t.1).toNat, 384] = _
  rw [tileW_toNat (h.lt32 t)]

theorem off26_eq (h : Early i w) (t : Fin (k0_t5_loop i w).trips) : k0_off26 i w t = ![0, 0, base (grp i) (row0 w) + 512 * t.1] := by
  show ![0, 0, (Scalar.addi (baseL (BitVec.ofNat 32 (grp i)) (loW w)) (tileW t.1)).toNat] = _
  rw [h.key t]

theorem off32_eq (h : Early i w) (t : Fin (k0_t7_loop i w).trips) : k0_off32 i w t = ![base (grp i) (row0 w) + 512 * t.1, 0] := by
  show ![(Scalar.addi (baseL (BitVec.ofNat 32 (grp i)) (loW w)) (tileW t.1)).toNat, 0] = _
  rw [h.key t]

theorem off33_eq (h : Early i w) (t : Fin (k0_t7_loop i w).trips) (r : Fin 8) : k0_off33 i w t (BitVec.ofNat 32 r.1) = ![0, 0, (base (grp i) (row0 w) + 512 * t.1) / 64 + r.1] := by
  show ![0, 0, (Scalar.addi (fdivW (Scalar.addi (baseL (BitVec.ofNat 32 (grp i)) (loW w)) (tileW t.1)) 64#32) (BitVec.ofNat 32 r.1)).toNat] = _
  rw [h.keyGroup t r]

theorem off34_eq (h : Early i w) (t : Fin (k0_t7_loop i w).trips) (r : Fin 8) : k0_off34 i w t (BitVec.ofNat 32 (64 * r.1)) = ![512 * t.1 + 64 * r.1, 0] := by
  show ![(Scalar.addi (tileW t.1) (BitVec.ofNat 32 (64 * r.1))).toNat, 0] = _
  rw [tile_row (h.lt32 t) r.2]

theorem off35_eq (h : Early i w) (t : Fin (k0_t7_loop i w).trips) (r : Fin 8) : k0_off35 i w t (BitVec.ofNat 32 (64 * r.1)) = ![512 * t.1 + 64 * r.1, 0] := by
  show ![(Scalar.addi (tileW t.1) (BitVec.ofNat 32 (64 * r.1))).toNat, 0] = _
  rw [tile_row (h.lt32 t) r.2]

theorem off36_eq (h : Early i w) (t : Fin (k0_t7_loop i w).trips) (r : Fin 8) : k0_off36 i w t (BitVec.ofNat 32 (64 * r.1)) = ![512 * t.1 + 64 * r.1, 128] := by
  show ![(Scalar.addi (tileW t.1) (BitVec.ofNat 32 (64 * r.1))).toNat, 128] = _
  rw [tile_row (h.lt32 t) r.2]

theorem off37_eq (h : Early i w) (t : Fin (k0_t7_loop i w).trips) (r : Fin 8) : k0_off37 i w t (BitVec.ofNat 32 (64 * r.1)) = ![512 * t.1 + 64 * r.1, 256] := by
  show ![(Scalar.addi (tileW t.1) (BitVec.ofNat 32 (64 * r.1))).toNat, 256] = _
  rw [tile_row (h.lt32 t) r.2]

theorem off38_eq (h : Early i w) (t : Fin (k0_t7_loop i w).trips) (r : Fin 8) : k0_off38 i w t (BitVec.ofNat 32 (64 * r.1)) = ![512 * t.1 + 64 * r.1, 384] := by
  show ![(Scalar.addi (tileW t.1) (BitVec.ofNat 32 (64 * r.1))).toNat, 384] = _
  rw [tile_row (h.lt32 t) r.2]

theorem off46_eq (h : Early i w) (t : Fin (k0_t9_loop i w).trips) : k0_off46 i w t = ![512 * t.1, 0] := by
  show ![(tileW t.1).toNat, 0] = _
  rw [tileW_toNat (h.lt32 t)]

theorem off47_eq (h : Early i w) (t : Fin (k0_t9_loop i w).trips) : k0_off47 i w t = ![512 * t.1, 128] := by
  show ![(tileW t.1).toNat, 128] = _
  rw [tileW_toNat (h.lt32 t)]

theorem off48_eq (h : Early i w) (t : Fin (k0_t9_loop i w).trips) : k0_off48 i w t = ![512 * t.1, 256] := by
  show ![(tileW t.1).toNat, 256] = _
  rw [tileW_toNat (h.lt32 t)]

theorem off49_eq (h : Early i w) (t : Fin (k0_t9_loop i w).trips) : k0_off49 i w t = ![512 * t.1, 384] := by
  show ![(tileW t.1).toNat, 384] = _
  rw [tileW_toNat (h.lt32 t)]

theorem off50_eq (h : Early i w) (t : Fin (k0_t9_loop i w).trips) : k0_off50 i w t = ![0, 0, base (grp i) (row0 w) + 512 * t.1] := by
  show ![0, 0, (Scalar.addi (baseL (BitVec.ofNat 32 (grp i)) (loW w)) (tileW t.1)).toNat] = _
  rw [h.key t]

/-! ## All facts that the kernel assumes -/

theorem chk1_0 (h : Early i w) : k0_chk1_0 i w :=
  ⟨h.ok,
    fun t => h.dvd t,
    fun t => by rw [off2_eq h t]; exact inb2 (h.key_lt t) (by decide),
    fun t r => by rw [off3_eq h t r]; exact inb3 (by decide) (by decide) (by have := h.key_lt t; have := r.2; omega),
    fun t r => by rw [off4_eq h t r]; exact inb2 (by have := h.lt32 t; have := r.2; omega) (by decide),
    h.restOk,
    fun t => (h.noRest t).elim,
    fun t => (h.noRest t).elim,
    fun t => (h.noRest t).elim,
    fun t => (h.noRest t).elim,
    h.ok,
    fun t => h.dvd t,
    fun t => by rw [off8_eq h t]; exact inb2 (h.key_lt t) (by decide),
    fun t r => by rw [off9_eq h t r]; exact inb3 (by decide) (by decide) (by have := h.key_lt t; have := r.2; omega),
    fun t r => by rw [off10_eq h t r]; exact inb2 (by have := h.lt32 t; have := r.2; omega) (by decide),
    fun t r => by rw [off11_eq h t r]; exact inb2 (by have := h.lt32 t; have := r.2; omega) (by decide),
    fun t r => by rw [off12_eq h t r]; exact inb2 (by have := h.lt32 t; have := r.2; omega) (by decide),
    fun t r => by rw [off13_eq h t r]; exact inb2 (by have := h.lt32 t; have := r.2; omega) (by decide),
    fun t r => by rw [off14_eq h t r]; exact inb2 (by have := h.lt32 t; have := r.2; omega) (by decide),
    h.restOk,
    fun t => (h.noRest t).elim,
    fun t => (h.noRest t).elim,
    fun t => (h.noRest t).elim,
    fun t => (h.noRest t).elim,
    fun t => (h.noRest t).elim,
    fun t => (h.noRest t).elim,
    fun t => (h.noRest t).elim,
    fun t => (h.noRest t).elim,
    h.ok,
    fun t => h.dvd t,
    fun t => h.dvdTile t,
    fun t => by rw [off22_eq h t]; exact inb2 (by have := h.lt32 t; omega) (by decide)⟩

theorem chk1_1 (h : Early i w) : k0_chk1_1 i w :=
  ⟨fun t => h.dvdTile t,
    fun t => by rw [off23_eq h t]; exact inb2 (by have := h.lt32 t; omega) (by decide),
    fun t => h.dvdTile t,
    fun t => by rw [off24_eq h t]; exact inb2 (by have := h.lt32 t; omega) (by decide),
    fun t => h.dvdTile t,
    fun t => by rw [off25_eq h t]; exact inb2 (by have := h.lt32 t; omega) (by decide),
    fun t => by rw [off26_eq h t]; exact inb3 (by decide) (by decide) (h.key_lt t),
    h.restOk,
    fun t => (h.noRest t).elim,
    fun t => (h.noRest t).elim,
    fun t => (h.noRest t).elim,
    fun t => (h.noRest t).elim,
    fun t => (h.noRest t).elim,
    fun t => (h.noRest t).elim,
    fun t => (h.noRest t).elim,
    fun t => (h.noRest t).elim,
    fun t => (h.noRest t).elim,
    fun t => (h.noRest t).elim,
    h.ok,
    fun t => h.dvd t,
    fun t => by rw [off32_eq h t]; exact inb2 (h.key_lt t) (by decide),
    fun t r => by rw [off33_eq h t r]; exact inb3 (by decide) (by decide) (by have := h.key_lt t; have := r.2; omega),
    fun t r => by rw [off34_eq h t r]; exact inb2 (by have := h.lt32 t; have := r.2; omega) (by decide),
    fun t r => by rw [off35_eq h t r]; exact inb2 (by have := h.lt32 t; have := r.2; omega) (by decide),
    fun t r => by rw [off36_eq h t r]; exact inb2 (by have := h.lt32 t; have := r.2; omega) (by decide),
    fun t r => by rw [off37_eq h t r]; exact inb2 (by have := h.lt32 t; have := r.2; omega) (by decide),
    fun t r => by rw [off38_eq h t r]; exact inb2 (by have := h.lt32 t; have := r.2; omega) (by decide),
    h.restOk,
    fun t => (h.noRest t).elim,
    fun t => (h.noRest t).elim,
    fun t => (h.noRest t).elim,
    fun t => (h.noRest t).elim⟩

theorem chk1_2 (h : Early i w) : k0_chk1_2 i w :=
  ⟨fun t => (h.noRest t).elim,
    fun t => (h.noRest t).elim,
    fun t => (h.noRest t).elim,
    fun t => (h.noRest t).elim,
    h.ok,
    fun t => h.dvd t,
    fun t => h.dvdTile t,
    fun t => by rw [off46_eq h t]; exact inb2 (by have := h.lt32 t; omega) (by decide),
    fun t => h.dvdTile t,
    fun t => by rw [off47_eq h t]; exact inb2 (by have := h.lt32 t; omega) (by decide),
    fun t => h.dvdTile t,
    fun t => by rw [off48_eq h t]; exact inb2 (by have := h.lt32 t; omega) (by decide),
    fun t => h.dvdTile t,
    fun t => by rw [off49_eq h t]; exact inb2 (by have := h.lt32 t; omega) (by decide),
    fun t => by rw [off50_eq h t]; exact inb3 (by decide) (by decide) (h.key_lt t),
    h.restOk,
    fun t => (h.noRest t).elim,
    fun t => (h.noRest t).elim,
    fun t => (h.noRest t).elim,
    fun t => (h.noRest t).elim,
    fun t => (h.noRest t).elim,
    fun t => (h.noRest t).elim,
    fun t => (h.noRest t).elim,
    fun t => (h.noRest t).elim,
    fun t => (h.noRest t).elim,
    fun t => (h.noRest t).elim⟩

/-- Every fact that the kernel assumes of a point's words. -/
theorem chk1 (h : Early i w) : k0_chk1 i w := ⟨chk1_0 h, chk1_1 h, chk1_2 h⟩

end Cert.KernelIdeal.Hand
-- ==== Proof.KernelIdealEarly.lean ====
/- The first key that the attention kernel reads at each grid point is a token at or before the group's first token, whenever
   the array of first keys says so of every unit; so every fact the kernel assumes of the word holds. -/
module

public import proofs.«01_k».proof.Proof.KernelIdealKit
public import proofs.«01_k».proof.Proof.KernelIdealWords

@[expose] public section

noncomputable section

namespace Cert.KernelIdeal.Hand

open Cert.KernelIdeal.Gen
open Idealize.ShloMosaic Idealize.ShloMosaic.TcCoe
open Idealize.SL Idealize.SL.Sem

variable {F : FTy → Type} [FloatOps F] [Named F]

/-- The word of the table of first keys that the body reads at a grid point. -/
def wordAt (m : (ℓ : Loc nD τ sig) → Buf (Elt F) ℓ) (i : grid0.Coords) : BitVec 32 :=
  tbM0_0.view.readAt (Elt F) (Rect.unit (s := S256) (k0_off1 i) S1.size (k0_off1_inb i)).toLoadRect (tbl m 0) (Shape.Idx.first (numel1_S1.symm ▸ Nat.one_pos))

/-- It is the word of the group's first unit. -/
theorem wordAt_eq (m : (ℓ : Loc nD τ sig) → Buf (Elt F) ℓ) (i : grid0.Coords) (y : S256.Idx) (hy : (y 0).1 = 2 * (i 1).val) :
    wordAt m i = (m ((0 : Dev nD).tc.loc main_arg0) : S256.Idx → BitVec 32) y := by
  unfold wordAt
  show (m ((0 : Dev nD).tc.loc main_arg0) : S256.Idx → BitVec 32) _ = _
  refine congrArg (m ((0 : Dev nD).tc.loc main_arg0) : S256.Idx → BitVec 32) ?_
  refine funext fun (a : Fin 1) => ?_
  obtain rfl : a = 0 := Subsingleton.elim _ _
  apply Fin.ext
  have e : k0_off1 i 0 = 2 * (i 1).val := by
    show (Scalar.muli (BitVec.ofNat 32 (i 1).val) 2#32).toNat = _
    have := (i 1).isLt
    have h : (i 1).val < 128 := this
    unfold Scalar.muli IntOp.muli
    rw [BitVec.toNat_mul, BitVec.toNat_ofNat]
    show _ % _ * 2 % _ = _
    omega
  show k0_off1 i 0 + 1 * 0 = _
  rw [e]; exact hy.symm

theorem early_of (m : (ℓ : Loc nD τ sig) → Buf (Elt F) ℓ)
    (h : ∀ y : S256.Idx, ((m ((0 : Dev nD).tc.loc main_arg0) : S256.Idx → BitVec 32) y).toNat ≤ 64 * (y 0).1) (i : grid0.Coords) :
    Early i (wordAt m i) := by
  have hi : (i 1).val < 128 := (i 1).isLt
  let y : S256.Idx := fun (a : Fin 1) => ⟨2 * (i 1).val, by obtain rfl : a = 0 := Subsingleton.elim _ _; show _ < 256; omega⟩
  have e := wordAt_eq m i y rfl
  have := h y
  unfold Early grp
  rw [e]
  have e2 : (y 0).1 = 2 * (i 1).val := rfl
  rw [e2] at this
  omega

/-- Every fact that the kernel assumes, at every point. -/
theorem hyps_of (m : (ℓ : Loc nD τ sig) → Buf (Elt F) ℓ) (hO : Ok m)
    (h : ∀ y : S256.Idx, ((m ((0 : Dev nD).tc.loc main_arg0) : S256.Idx → BitVec 32) y).toNat ≤ 64 * (y 0).1) : Hyps m hO :=
  Hyps.of fun c t => chk1 (early_of m h (grid0.coords t))

end Cert.KernelIdeal.Hand

end
-- ==== Proof.KernelBody.lean ====
module

public import proofs.«01_k».proof.Proof.KernelKit

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1604000 in
/-- The body's triple: on whole staging memrefs — the inputs' at their contents,
    the FORGOTTEN outputs' (8) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg3 : Memref sig .tc .smem S1x1x256 .f32) (harg3 : arg3.IsWhole) (arg4 : Memref sig .tc .vmem S1x1x1024x128 .fp8e4m3) (harg4 : arg4.IsWhole) (arg5 : Memref sig .tc .vmem S1x1x1x128 .f32) (harg5 : arg5.IsWhole) (arg6 : Memref sig .tc .vmem S1x1x8x128 .bf16) (harg6 : arg6.IsWhole) (arg7 : Memref sig .tc .vmem S1x8x128 .i32) (harg7 : arg7.IsWhole) (arg8 : Memref sig .tc .vmem S16384x128 .fp8e4m3) (harg8 : arg8.IsWhole) (arg9 : Memref sig .tc .vmem S1x128x16384 .fp8e4m3) (harg9 : arg9.IsWhole) (arg10 : Memref sig .tc .vmem S1x128x128 .f32) (harg10 : arg10.IsWhole) (arg11 : Memref sig .tc .vmem S128x1024 .bf16) (harg11 : arg11.IsWhole) (arg12 : Memref sig .tc .vmem S16384x512 .f32) (harg12 : arg12.IsWhole) (arg13 : Memref sig .tc .vmem S16384x128 .f32) (harg13 : arg13.IsWhole)
    (x0 : Vec F S1x1x256 .f32) (x1 : Vec F S1x1x1024x128 .fp8e4m3) (x2 : Vec F S1x1x1x128 .f32) (x3 : Vec F S1x1x8x128 .bf16) (x4 : Vec F S1x8x128 .i32) (x5 : Vec F S16384x128 .fp8e4m3) (x6 : Vec F S1x128x16384 .fp8e4m3) (x7 : Vec F S1x128x128 .f32) (xt0 : TbBuf0 (F := F) c tbM0_0) (k0_hw1 : k0_chk1 i (tbM0_0.view.readAt (Elt F) (Rect.unit (s := S256) (k0_off1 i) S1.size (k0_off1_inb i)).toLoadRect xt0 (Shape.Idx.first (numel1_S1.symm ▸ Nat.one_pos)))) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d) ∗ (∃ d, owns (c : Thread nD τ) arg13 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d) ∗ (∃ d, owns (c : Thread nD τ) arg13 fullShare d) ∗ tbPt0 c tbM0_0 xt0) -∗ K ⟨⟩))
          ⊢ wp frame (wpE (defs₀ (F := F)) Variants.none c none) E (cc0_attention i tbM0_0 htbM0_0 arg3 harg3 arg4 harg4 arg5 harg5 arg6 harg6 arg7 harg7 arg8 harg8 arg9 harg9 arg10 harg10 arg11 harg11 arg12 harg12 arg13 harg13) K := by
    intro E K
    simp only [cc0_attention_eq_skeleton]; unfold cc0_attention_skel
    simp only [k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7
    sl_exec (disch := first | sl_exact k0_hw1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _, _; isplitr; swap; · iexact H8
      ipureintro; rfl
    isplitl [HS0]
    · iexists _, _; isplitr; swap; · iexact HS0
      ipureintro; rfl
    isplitl [HS1]
    · iexists _, _; isplitr; swap; · iexact HS1
      ipureintro; rfl
    iexact HT0

end Cert.Kernel.Hand

end
-- ==== Proof.KernelFrame.lean ====
module

public import proofs.«01_k».proof.Proof.KernelBody
public import Idealize.ShloMosaic.Lib.Claim

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (8): nothing reads what the kernel leaves in them, so nothing
    of it is named (Lib/Pipeline/Dat.lean `Dat.toRForget`). -/
def forgets0 : Fin 9 → Bool := fun w => w.val == 8

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (hH : Hyps m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, h⟩ => Pipeline.Dat.unnamed (cfg := (cfgM m hO)) ⟨8, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (hH : Hyps m hO) (c : Dev nD) (w : Fin (cfgM m hO).W) : (dats m hO hH 0 c).A w = V m c (Pipeline.arrRef spec0 w) := by
  dsimp only [dats]

/-- What the body leaves, window by window (the proof data's `match` reduced by `dsimp`). -/
theorem after0_0 (hO : Ok m) (hH : Hyps m hO) (c : Dev nD) (t : Fin (cfgM m hO).N) : (dats m hO hH 0 c).after 0 t = iblk m hO c 0 t := by dsimp only [dats]; try rfl
theorem after0_1 (hO : Ok m) (hH : Hyps m hO) (c : Dev nD) (t : Fin (cfgM m hO).N) : (dats m hO hH 0 c).after 1 t = iblk m hO c 1 t := by dsimp only [dats]; try rfl
theorem after0_2 (hO : Ok m) (hH : Hyps m hO) (c : Dev nD) (t : Fin (cfgM m hO).N) : (dats m hO hH 0 c).after 2 t = iblk m hO c 2 t := by dsimp only [dats]; try rfl
theorem after0_3 (hO : Ok m) (hH : Hyps m hO) (c : Dev nD) (t : Fin (cfgM m hO).N) : (dats m hO hH 0 c).after 3 t = iblk m hO c 3 t := by dsimp only [dats]; try rfl
theorem after0_4 (hO : Ok m) (hH : Hyps m hO) (c : Dev nD) (t : Fin (cfgM m hO).N) : (dats m hO hH 0 c).after 4 t = iblk m hO c 4 t := by dsimp only [dats]; try rfl
theorem after0_5 (hO : Ok m) (hH : Hyps m hO) (c : Dev nD) (t : Fin (cfgM m hO).N) : (dats m hO hH 0 c).after 5 t = iblk m hO c 5 t := by dsimp only [dats]; try rfl
theorem after0_6 (hO : Ok m) (hH : Hyps m hO) (c : Dev nD) (t : Fin (cfgM m hO).N) : (dats m hO hH 0 c).after 6 t = iblk m hO c 6 t := by dsimp only [dats]; try rfl
theorem after0_7 (hO : Ok m) (hH : Hyps m hO) (c : Dev nD) (t : Fin (cfgM m hO).N) : (dats m hO hH 0 c).after 7 t = iblk m hO c 7 t := by dsimp only [dats]; try rfl

/-- Each input's current staging buffer holds its block at every point, fetched there or not (`beforeK_W_of`). -/
theorem before0_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d
theorem before0_1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (after0_1 m hO hH c) t d
theorem before0_2 (hO : Ok m) (hH : Hyps m hO) (c : Dev nD) (t : Fin (cfgM m hO).N) (d) : (dats m hO hH 0 c).before 2 t d = iblk m hO c 2 t :=
  before0_2_of m hO (dats m hO hH 0 c) (A_eq m hO hH c 2) (after0_2 m hO hH c) t d
theorem before0_3 (hO : Ok m) (hH : Hyps m hO) (c : Dev nD) (t : Fin (cfgM m hO).N) (d) : (dats m hO hH 0 c).before 3 t d = iblk m hO c 3 t :=
  before0_3_of m hO (dats m hO hH 0 c) (A_eq m hO hH c 3) (after0_3 m hO hH c) t d
theorem before0_4 (hO : Ok m) (hH : Hyps m hO) (c : Dev nD) (t : Fin (cfgM m hO).N) (d) : (dats m hO hH 0 c).before 4 t d = iblk m hO c 4 t :=
  before0_4_of m hO (dats m hO hH 0 c) (A_eq m hO hH c 4) (after0_4 m hO hH c) t d
theorem before0_5 (hO : Ok m) (hH : Hyps m hO) (c : Dev nD) (t : Fin (cfgM m hO).N) (d) : (dats m hO hH 0 c).before 5 t d = iblk m hO c 5 t :=
  before0_5_of m hO (dats m hO hH 0 c) (A_eq m hO hH c 5) (after0_5 m hO hH c) t d
theorem before0_6 (hO : Ok m) (hH : Hyps m hO) (c : Dev nD) (t : Fin (cfgM m hO).N) (d) : (dats m hO hH 0 c).before 6 t d = iblk m hO c 6 t :=
  before0_6_of m hO (dats m hO hH 0 c) (A_eq m hO hH c 6) (after0_6 m hO hH c) t d
theorem before0_7 (hO : Ok m) (hH : Hyps m hO) (c : Dev nD) (t : Fin (cfgM m hO).N) (d) : (dats m hO hH 0 c).before 7 t d = iblk m hO c 7 t :=
  before0_7_of m hO (dats m hO hH 0 c) (A_eq m hO hH c 7) (after0_7 m hO hH c) t d

/-! ## The body obligation, at a generic point -/

/-- What the body is called with at point `t` (Lib/Pipeline.lean `BodyObligation`'s precondition, the windows one by one), -/
def bodyPre (hO : Ok m) (hH : Hyps m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare ((dats m hO hH 0 c).before 4 t d))
    ∗ (∃ d, owns (c : Thread nD τ) (ms0_5 m hO t) fullShare ((dats m hO hH 0 c).before 5 t d))
    ∗ (∃ d, owns (c : Thread nD τ) (ms0_6 m hO t) fullShare ((dats m hO hH 0 c).before 6 t d))
    ∗ (∃ d, owns (c : Thread nD τ) (ms0_7 m hO t) fullShare ((dats m hO hH 0 c).before 7 t d))
    ∗ (∃ d, owns (c : Thread nD τ) (ms0_8 m hO t) fullShare d))

/-- and what it returns. -/
def bodyPost (hO : Ok m) (hH : Hyps m hO) (c : Dev nD) (t : Fin (cfgM m hO).N) : sProp 𝕄 :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t)
    ∗ owns (c : Thread nD τ) (ms0_2 m hO t) fullShare ((dats m hO hH 0 c).after 2 t)
    ∗ owns (c : Thread nD τ) (ms0_3 m hO t) fullShare ((dats m hO hH 0 c).after 3 t)
    ∗ owns (c : Thread nD τ) (ms0_4 m hO t) fullShare ((dats m hO hH 0 c).after 4 t)
    ∗ owns (c : Thread nD τ) (ms0_5 m hO t) fullShare ((dats m hO hH 0 c).after 5 t)
    ∗ owns (c : Thread nD τ) (ms0_6 m hO t) fullShare ((dats m hO hH 0 c).after 6 t)
    ∗ owns (c : Thread nD τ) (ms0_7 m hO t) fullShare ((dats m hO hH 0 c).after 7 t)
    ∗ (∃ d, owns (c : Thread nD τ) (ms0_8 m hO t) fullShare d))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (hO : Ok m) (hH : Hyps m hO) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2, before0_3, before0_4, before0_5, before0_6, before0_7]
  rw [show (dats m hO hH 0 c).Φ t.succ = (dats m hO hH 0 c).Φ t.castSucc from rfl,
    show (dats m hO hH 0 c).owesAt () t.succ = (dats m hO hH 0 c).owesAt () t.castSucc from rfl,
    after0_0, after0_1, after0_2, after0_3, after0_4, after0_5, after0_6, after0_7]
  rw [show (dats m hO hH 0 c).Φ t.castSucc = iprop(Pipeline.ΦA spec0 c ∗ Pipeline.ΦT pre0 (tbl m) c) from rfl, PhiT0_eq, PhiA0_eq]
  iintro ⟨⟨⟨⟨HS0, HS1⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_A c (grid0.coords t) _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (tbl m 0) (Hyps.c0 hH c t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  isplitl [HT0]; · iexact HT0
  iintro ⟨H0, H1, H2, H3, H4, H5, H6, H7, H8, HS0, HS1, HT0⟩
  isplitl [HS0 HS1 Hg HT0]
  · isplitl [HS0 HS1 Hg]
    · isplitl [HS0 HS1]
      · isplitl [HS0]
        · iexact HS0
        iexact HS1
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hH : Hyps m hO) (c : Dev nD) : BodyObligation (dats (F := F) m hO hH 0 c) (defs₀ (F := F)) Variants.none () Set.univ forgets0 := fun t => by
  rw [bigSep_W0, bigSep_W0, defs₀_row m hO]
  exact triple_restated (sound_body m hO hH c t) rfl .rfl fun _ => .rfl

/-! ## The run and the frame -/

-- `θ_run_frameP_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hH : Hyps m hO) : θ_run defs (onTc (τ := τ) (main (F := F))) (s₀ m ρ) (fun r => (Pipeline.RDat.FramePost ((Pipeline.pin pcfgs fun _ => adm m hO) 0) (fun c => (dats m hO hH 0 c).toRForget forgets0) (V m)) r ∧ r.2.sem = fun _ => 0) :=
  Pipeline.θ_run_frameP_forget (Q' := _) pcfgs (fun _ => adm m hO) (dats m hO hH) (0 : Fin 1) launch0 defs₀ Variants.none forgets0 m ρ main
    (hbody := fun c => (body_obligation m hO hH c).loose) (hshare := fun c => (dats m hO hH 0 c).share_full fun _ => rfl)
    (howed := fun _ _ => rfl) (V := V m) (hmain := hmain m Variants.none) (hA := A_eq m hO hH) (hpf := V_pre m) (hΦ := fun _ _ => rfl)

/-- At the compiled mesh, for any values, from any memory with zero counters: every weakly fair execution of @main on the
    TensorCores terminates, and every final state has every INPUT array of the pipeline unchanged, nothing stated of the
    FORGOTTEN outputs (window 8) (Lib/Pipeline/Frame.lean `RDat.FramePost` over the proof data with those windows
    forgotten, Dat.lean `Dat.toRForget`), and every other unscoped buffer at its region-entry contents. -/
theorem run_main (hO : Ok m) (hH : Hyps m hO) : θ_run defs (onTc (τ := τ) (main (F := F))) (s₀ m ρ) (Pipeline.RDat.FramePost ((Pipeline.pin pcfgs fun _ => adm m hO) 0) (fun c => (dats m hO hH 0 c).toRForget forgets0) (V m)) :=
  (θ_run defs _ _).mono (fun _ h => h.1) (run_main_quiescent m ρ hO hH)

/-- `frame` without the counters: the argument arrays end unchanged. -/
theorem unchanged (hO : Ok m) (hH : Hyps m hO) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ hO (fun c => (dats m hO hH 0 c).toRForget forgets0) (A_eq m hO hH) (run_main m ρ hO hH)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`; here for every contents of the PREFETCHED TABLES, UNDER `Gen.Ok m` (the pipeline's side condition of
    them) and `Gen.Hyps m hO` (the side conditions the body assumes, at every point), which Proof.lean proves from the precondition: `⟨…, fun m ρ h => Cert.Kernel.Gen.frame m ρ (ok_of_pre m h) (hyps_of_pre m h _)⟩`. -/
theorem frame (hO : Ok m) (hH : Hyps m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ hO hH) ((θ_run defs _ _).mono (fun _ h => h.2) (run_main_quiescent m ρ hO hH))

end Cert.Kernel.Hand

end
-- ==== Proof.KernelIdealBody.lean ====
module

public import proofs.«01_k».proof.Proof.KernelIdealKit

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1604000 in
/-- The body's triple: on whole staging memrefs — the inputs' at their contents,
    the FORGOTTEN outputs' (8) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg3 : Memref sig .tc .smem S1x1x256 .f32) (harg3 : arg3.IsWhole) (arg4 : Memref sig .tc .vmem S1x1x1024x128 .fp8e4m3) (harg4 : arg4.IsWhole) (arg5 : Memref sig .tc .vmem S1x1x1x128 .f32) (harg5 : arg5.IsWhole) (arg6 : Memref sig .tc .vmem S1x1x8x128 .bf16) (harg6 : arg6.IsWhole) (arg7 : Memref sig .tc .vmem S1x8x128 .i32) (harg7 : arg7.IsWhole) (arg8 : Memref sig .tc .vmem S16384x128 .fp8e4m3) (harg8 : arg8.IsWhole) (arg9 : Memref sig .tc .vmem S1x128x16384 .fp8e4m3) (harg9 : arg9.IsWhole) (arg10 : Memref sig .tc .vmem S1x128x128 .f32) (harg10 : arg10.IsWhole) (arg11 : Memref sig .tc .vmem S128x1024 .bf16) (harg11 : arg11.IsWhole) (arg12 : Memref sig .tc .vmem S16384x512 .f32) (harg12 : arg12.IsWhole) (arg13 : Memref sig .tc .vmem S16384x128 .f32) (harg13 : arg13.IsWhole)
    (x0 : Vec F S1x1x256 .f32) (x1 : Vec F S1x1x1024x128 .fp8e4m3) (x2 : Vec F S1x1x1x128 .f32) (x3 : Vec F S1x1x8x128 .bf16) (x4 : Vec F S1x8x128 .i32) (x5 : Vec F S16384x128 .fp8e4m3) (x6 : Vec F S1x128x16384 .fp8e4m3) (x7 : Vec F S1x128x128 .f32) (xt0 : TbBuf0 (F := F) c tbM0_0) (k0_hw1 : k0_chk1 i (tbM0_0.view.readAt (Elt F) (Rect.unit (s := S256) (k0_off1 i) S1.size (k0_off1_inb i)).toLoadRect xt0 (Shape.Idx.first (numel1_S1.symm ▸ Nat.one_pos)))) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d) ∗ (∃ d, owns (c : Thread nD τ) arg13 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d) ∗ (∃ d, owns (c : Thread nD τ) arg13 fullShare d) ∗ tbPt0 c tbM0_0 xt0) -∗ K ⟨⟩))
          ⊢ wp frame (wpE (defs₀ (F := F)) Variants.none c none) E (cc0_attention i tbM0_0 htbM0_0 arg3 harg3 arg4 harg4 arg5 harg5 arg6 harg6 arg7 harg7 arg8 harg8 arg9 harg9 arg10 harg10 arg11 harg11 arg12 harg12 arg13 harg13) K := by
    intro E K
    simp only [cc0_attention_eq_skeleton]; unfold cc0_attention_skel
    simp only [k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7
    sl_exec (disch := first | sl_exact k0_hw1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _, _; isplitr; swap; · iexact H8
      ipureintro; rfl
    isplitl [HS0]
    · iexists _, _; isplitr; swap; · iexact HS0
      ipureintro; rfl
    isplitl [HS1]
    · iexists _, _; isplitr; swap; · iexact HS1
      ipureintro; rfl
    iexact HT0

end Cert.KernelIdeal.Hand

end
-- ==== Proof.KernelIdealFrame.lean ====
module

public import proofs.«01_k».proof.Proof.KernelIdealBody
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (8): nothing reads what the kernel leaves in them, so nothing
    of it is named (Lib/Pipeline/Dat.lean `Dat.toRForget`). -/
def forgets0 : Fin 9 → Bool := fun w => w.val == 8

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (hH : Hyps m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, h⟩ => Pipeline.Dat.unnamed (cfg := (cfgM m hO)) ⟨8, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (hH : Hyps m hO) (c : Dev nD) (w : Fin (cfgM m hO).W) : (dats m hO hH 0 c).A w = V m c (Pipeline.arrRef spec0 w) := by
  dsimp only [dats]

/-- What the body leaves, window by window (the proof data's `match` reduced by `dsimp`). -/
theorem after0_0 (hO : Ok m) (hH : Hyps m hO) (c : Dev nD) (t : Fin (cfgM m hO).N) : (dats m hO hH 0 c).after 0 t = iblk m hO c 0 t := by dsimp only [dats]; try rfl
theorem after0_1 (hO : Ok m) (hH : Hyps m hO) (c : Dev nD) (t : Fin (cfgM m hO).N) : (dats m hO hH 0 c).after 1 t = iblk m hO c 1 t := by dsimp only [dats]; try rfl
theorem after0_2 (hO : Ok m) (hH : Hyps m hO) (c : Dev nD) (t : Fin (cfgM m hO).N) : (dats m hO hH 0 c).after 2 t = iblk m hO c 2 t := by dsimp only [dats]; try rfl
theorem after0_3 (hO : Ok m) (hH : Hyps m hO) (c : Dev nD) (t : Fin (cfgM m hO).N) : (dats m hO hH 0 c).after 3 t = iblk m hO c 3 t := by dsimp only [dats]; try rfl
theorem after0_4 (hO : Ok m) (hH : Hyps m hO) (c : Dev nD) (t : Fin (cfgM m hO).N) : (dats m hO hH 0 c).after 4 t = iblk m hO c 4 t := by dsimp only [dats]; try rfl
theorem after0_5 (hO : Ok m) (hH : Hyps m hO) (c : Dev nD) (t : Fin (cfgM m hO).N) : (dats m hO hH 0 c).after 5 t = iblk m hO c 5 t := by dsimp only [dats]; try rfl
theorem after0_6 (hO : Ok m) (hH : Hyps m hO) (c : Dev nD) (t : Fin (cfgM m hO).N) : (dats m hO hH 0 c).after 6 t = iblk m hO c 6 t := by dsimp only [dats]; try rfl
theorem after0_7 (hO : Ok m) (hH : Hyps m hO) (c : Dev nD) (t : Fin (cfgM m hO).N) : (dats m hO hH 0 c).after 7 t = iblk m hO c 7 t := by dsimp only [dats]; try rfl

/-- Each input's current staging buffer holds its block at every point, fetched there or not (`beforeK_W_of`). -/
theorem before0_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d
theorem before0_1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (after0_1 m hO hH c) t d
theorem before0_2 (hO : Ok m) (hH : Hyps m hO) (c : Dev nD) (t : Fin (cfgM m hO).N) (d) : (dats m hO hH 0 c).before 2 t d = iblk m hO c 2 t :=
  before0_2_of m hO (dats m hO hH 0 c) (A_eq m hO hH c 2) (after0_2 m hO hH c) t d
theorem before0_3 (hO : Ok m) (hH : Hyps m hO) (c : Dev nD) (t : Fin (cfgM m hO).N) (d) : (dats m hO hH 0 c).before 3 t d = iblk m hO c 3 t :=
  before0_3_of m hO (dats m hO hH 0 c) (A_eq m hO hH c 3) (after0_3 m hO hH c) t d
theorem before0_4 (hO : Ok m) (hH : Hyps m hO) (c : Dev nD) (t : Fin (cfgM m hO).N) (d) : (dats m hO hH 0 c).before 4 t d = iblk m hO c 4 t :=
  before0_4_of m hO (dats m hO hH 0 c) (A_eq m hO hH c 4) (after0_4 m hO hH c) t d
theorem before0_5 (hO : Ok m) (hH : Hyps m hO) (c : Dev nD) (t : Fin (cfgM m hO).N) (d) : (dats m hO hH 0 c).before 5 t d = iblk m hO c 5 t :=
  before0_5_of m hO (dats m hO hH 0 c) (A_eq m hO hH c 5) (after0_5 m hO hH c) t d
theorem before0_6 (hO : Ok m) (hH : Hyps m hO) (c : Dev nD) (t : Fin (cfgM m hO).N) (d) : (dats m hO hH 0 c).before 6 t d = iblk m hO c 6 t :=
  before0_6_of m hO (dats m hO hH 0 c) (A_eq m hO hH c 6) (after0_6 m hO hH c) t d
theorem before0_7 (hO : Ok m) (hH : Hyps m hO) (c : Dev nD) (t : Fin (cfgM m hO).N) (d) : (dats m hO hH 0 c).before 7 t d = iblk m hO c 7 t :=
  before0_7_of m hO (dats m hO hH 0 c) (A_eq m hO hH c 7) (after0_7 m hO hH c) t d

/-! ## The body obligation, at a generic point -/

/-- What the body is called with at point `t` (Lib/Pipeline.lean `BodyObligation`'s precondition, the windows one by one), -/
def bodyPre (hO : Ok m) (hH : Hyps m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare ((dats m hO hH 0 c).before 4 t d))
    ∗ (∃ d, owns (c : Thread nD τ) (ms0_5 m hO t) fullShare ((dats m hO hH 0 c).before 5 t d))
    ∗ (∃ d, owns (c : Thread nD τ) (ms0_6 m hO t) fullShare ((dats m hO hH 0 c).before 6 t d))
    ∗ (∃ d, owns (c : Thread nD τ) (ms0_7 m hO t) fullShare ((dats m hO hH 0 c).before 7 t d))
    ∗ (∃ d, owns (c : Thread nD τ) (ms0_8 m hO t) fullShare d))

/-- and what it returns. -/
def bodyPost (hO : Ok m) (hH : Hyps m hO) (c : Dev nD) (t : Fin (cfgM m hO).N) : sProp 𝕄 :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t)
    ∗ owns (c : Thread nD τ) (ms0_2 m hO t) fullShare ((dats m hO hH 0 c).after 2 t)
    ∗ owns (c : Thread nD τ) (ms0_3 m hO t) fullShare ((dats m hO hH 0 c).after 3 t)
    ∗ owns (c : Thread nD τ) (ms0_4 m hO t) fullShare ((dats m hO hH 0 c).after 4 t)
    ∗ owns (c : Thread nD τ) (ms0_5 m hO t) fullShare ((dats m hO hH 0 c).after 5 t)
    ∗ owns (c : Thread nD τ) (ms0_6 m hO t) fullShare ((dats m hO hH 0 c).after 6 t)
    ∗ owns (c : Thread nD τ) (ms0_7 m hO t) fullShare ((dats m hO hH 0 c).after 7 t)
    ∗ (∃ d, owns (c : Thread nD τ) (ms0_8 m hO t) fullShare d))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (hO : Ok m) (hH : Hyps m hO) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2, before0_3, before0_4, before0_5, before0_6, before0_7]
  rw [show (dats m hO hH 0 c).Φ t.succ = (dats m hO hH 0 c).Φ t.castSucc from rfl,
    show (dats m hO hH 0 c).owesAt () t.succ = (dats m hO hH 0 c).owesAt () t.castSucc from rfl,
    after0_0, after0_1, after0_2, after0_3, after0_4, after0_5, after0_6, after0_7]
  rw [show (dats m hO hH 0 c).Φ t.castSucc = iprop(Pipeline.ΦA spec0 c ∗ Pipeline.ΦT pre0 (tbl m) c) from rfl, PhiT0_eq, PhiA0_eq]
  iintro ⟨⟨⟨⟨HS0, HS1⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_A c (grid0.coords t) _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (tbl m 0) (Hyps.c0 hH c t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  isplitl [HT0]; · iexact HT0
  iintro ⟨H0, H1, H2, H3, H4, H5, H6, H7, H8, HS0, HS1, HT0⟩
  isplitl [HS0 HS1 Hg HT0]
  · isplitl [HS0 HS1 Hg]
    · isplitl [HS0 HS1]
      · isplitl [HS0]
        · iexact HS0
        iexact HS1
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hH : Hyps m hO) (c : Dev nD) : BodyObligation (dats (F := F) m hO hH 0 c) (defs₀ (F := F)) Variants.none () Set.univ forgets0 := fun t => by
  rw [bigSep_W0, bigSep_W0, defs₀_row m hO]
  exact triple_restated (sound_body m hO hH c t) rfl .rfl fun _ => .rfl

/-! ## The run and the frame -/

-- `θ_run_frameP_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hH : Hyps m hO) : θ_run defs (onTc (τ := τ) (main (F := F))) (s₀ m ρ) (fun r => (Pipeline.RDat.FramePost ((Pipeline.pin pcfgs fun _ => adm m hO) 0) (fun c => (dats m hO hH 0 c).toRForget forgets0) (V m)) r ∧ r.2.sem = fun _ => 0) :=
  Pipeline.θ_run_frameP_forget (Q' := _) pcfgs (fun _ => adm m hO) (dats m hO hH) (0 : Fin 1) launch0 defs₀ Variants.none forgets0 m ρ main
    (hbody := fun c => (body_obligation m hO hH c).loose) (hshare := fun c => (dats m hO hH 0 c).share_full fun _ => rfl)
    (howed := fun _ _ => rfl) (V := V m) (hmain := hmain m Variants.none) (hA := A_eq m hO hH) (hpf := V_pre m) (hΦ := fun _ _ => rfl)

/-- At the compiled mesh, for any values, from any memory with zero counters: every weakly fair execution of @main on the
    TensorCores terminates, and every final state has every INPUT array of the pipeline unchanged, nothing stated of the
    FORGOTTEN outputs (window 8) (Lib/Pipeline/Frame.lean `RDat.FramePost` over the proof data with those windows
    forgotten, Dat.lean `Dat.toRForget`), and every other unscoped buffer at its region-entry contents. -/
theorem run_main (hO : Ok m) (hH : Hyps m hO) : θ_run defs (onTc (τ := τ) (main (F := F))) (s₀ m ρ) (Pipeline.RDat.FramePost ((Pipeline.pin pcfgs fun _ => adm m hO) 0) (fun c => (dats m hO hH 0 c).toRForget forgets0) (V m)) :=
  (θ_run defs _ _).mono (fun _ h => h.1) (run_main_quiescent m ρ hO hH)

/-- `frame` without the counters: the argument arrays end unchanged. -/
theorem unchanged (hO : Ok m) (hH : Hyps m hO) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ hO (fun c => (dats m hO hH 0 c).toRForget forgets0) (A_eq m hO hH) (run_main m ρ hO hH)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`; here for every contents of the PREFETCHED TABLES, UNDER `Gen.Ok m` (the pipeline's side condition of
    them) and `Gen.Hyps m hO` (the side conditions the body assumes, at every point), which Proof.lean proves from the precondition: `⟨…, fun m ρ h => Cert.KernelIdeal.Gen.frame m ρ (ok_of_pre m h) (hyps_of_pre m h _)⟩`. -/
theorem frame (hO : Ok m) (hH : Hyps m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ hO hH) ((θ_run defs _ _).mono (fun _ h => h.2) (run_main_quiescent m ρ hO hH))

end Cert.KernelIdeal.Hand

end
-- ==== Proof.Starts.lean ====
/- The first keys read off the precondition: the word of unit `u` is a token at or before the unit's first token, `64·u`. -/
module

public import proofs.«01_k».proof.Proof.Gen.Pre_starts
public import Idealize.ShloMosaic.Lib.WordCmp
public import Idealize.ShloMosaic.Lib.ValueIdx

@[expose] public section

namespace Cert.Starts

open Cert.Pre_starts
open Idealize.ShloMosaic

theorem andi_ofBool (p q : Bool) : IntOp.andi (BitVec.ofBool p) (BitVec.ofBool q) = BitVec.ofBool (p && q) := by
  cases p <;> cases q <;> decide

theorem ofBool_eq_one (p : Bool) : (BitVec.ofBool p = 1#1) ↔ p = true := by cases p <;> decide

/-- A word between zero and `64·n`, read as signed, is at most `64·n`. -/
theorem toNat_le {x : BitVec 32} {n : ℕ} (hn : n < 256)
    (h : IntOp.andi (IntOp.cmpi .sge x 0#32) (IntOp.cmpi .sle x (IntOp.muli 64#32 (BitVec.ofNat 32 n))) = 1#1) : x.toNat ≤ 64 * n := by
  unfold IntOp.muli at h
  simp only [IntOp.cmpi, andi_ofBool, ofBool_eq_one, Bool.and_eq_true] at h
  obtain ⟨h1, h2⟩ := h
  have e : (64#32 * BitVec.ofNat 32 n).toNat = 64 * n := by
    rw [BitVec.toNat_mul, BitVec.toNat_ofNat, BitVec.toNat_ofNat]; omega
  simp only [BitVec.sle, decide_eq_true_eq, BitVec.toInt_eq_toNat_cond, e] at h1 h2
  have := x.isLt
  simp at h1
  split at h2 <;> split at h2 <;> omega

theorem starts_le {F : FTy → Type} [FloatOps F] {a0 a1 a2 a3 a4 a5 a6 a7 a8}
    (h : Cert.Pre_starts.fn (F := F) a0 a1 a2 a3 a4 a5 a6 a7 a8 = fun _ => 1#1) (y : S256.Idx) : (a0 y).toNat ≤ 64 * (y 0).1 :=
  toNat_le (y 0).2 (congrFun h y)

end Cert.Starts
-- ==== Proof.Frames.lean ====
/- The claims that are no values: each program runs, leaves its arguments as they are and its counters at zero, under the
   precondition on the first keys; and each named constant of the idealized kernel is the real number it stands for. -/
module

public import proofs.«01_k».proof.Defs
public import proofs.«01_k».proof.Proof.KernelEarly
public import proofs.«01_k».proof.Proof.KernelIdealEarly
public import proofs.«01_k».proof.Proof.KernelFrame
public import proofs.«01_k».proof.Proof.KernelIdealFrame
public import proofs.«01_k».proof.Proof.Starts
public import proofs.«01_k».proof.Proof.Gen.ReferenceIdeal.Frame

@[expose] public section

noncomputable section

namespace Cert.Frames

open Idealize.ShloMosaic Idealize.SL.Sem

theorem frame_p : Cert.quiescent_Kernel := fun m ρ h =>
  Cert.Kernel.Hand.frame m ρ trivial (Cert.Kernel.Hand.hyps_of m _ (Starts.starts_le (h 0)))

theorem frame_pi : Cert.quiescent_KernelIdeal := fun m ρ h =>
  Cert.KernelIdeal.Hand.frame m ρ trivial (Cert.KernelIdeal.Hand.hyps_of m _ (Starts.starts_le (h 0)))

theorem frame_ri : Cert.quiescent_ReferenceIdeal := fun m ρ _ => Cert.ReferenceIdeal.Gen.frame m ρ

theorem preserves : Cert.preserves_Kernel_KernelIdeal :=
  ⟨IdealRules.named_const.statement Cert.KernelIdeal.κ "sm_log2e" .f32 0x3E0293EE#32 _ rfl,
    IdealRules.named_const.statement Cert.KernelIdeal.κ "neg_inf" .f32 0xF149F2CA#32 ⊥ rfl⟩

end Cert.Frames

end
-- ==== Proof.Inputs.lean ====
/- What the precondition on the inputs says, entry by entry. -/
module

public import proofs.«01_k».proof.Proof.Gen.Pre_inputs
public import proofs.«01_k».proof.Proof.Starts
public import Idealize.ShloMosaic.Lib.Pointwise

@[expose] public section

namespace Cert.Inputs

open Cert.Pre_inputs
open Idealize.ShloMosaic Idealize.ShloMosaic.Tactic

variable {a0 : IVec S256 32} {a1 : FVec Ideal S8x1x256 .f32} {a2 a3 a4} {a5 : IVec S128x8x128 32} {a6 a7 a8}

/-- The first keys. -/
theorem starts (h : (Cert.Pre_inputs.fn (F := Ideal) a0 a1 a2 a3 a4 a5 a6 a7 a8).1 = fun _ => 1#1) (y : S256.Idx) : (a0 y).toNat ≤ 64 * (y 0).1 :=
  Starts.toNat_le (y 0).2 (congrFun h y)

/-- No token of a group starts before the group's first key. -/
theorem lanes (h : (Cert.Pre_inputs.fn (F := Ideal) a0 a1 a2 a3 a4 a5 a6 a7 a8).2.1 = fun _ => 1#1) (g : Fin 128) (t : Fin 8) (l : Fin 128) :
    IntOp.cmpi .sle (a0 (ix1 ⟨2 * g.1, by omega⟩)) (a5 (ix3 g t l)) = 1#1 := by
  have e := congrFun h (ix3 g t l)
  unfold Cert.Pre_inputs.fn at e
  rw [← e]
  pointwise []

/-- The scales of the keys are real and not negative. -/
theorem scales (h : (Cert.Pre_inputs.fn (F := Ideal) a0 a1 a2 a3 a4 a5 a6 a7 a8).2.2 = fun _ => 1#1) (y : S8x1x256.Idx) : (0 : EReal) ≤ a1 y ∧ (a1 y : EReal) ≠ ⊤ := by
  have e := congrFun h y
  have e' : IntOp.andi (Ideal.cmp .oge (a1 y) (Ideal.ofBits .f32 0#32)) (Ideal.cmp .olt (a1 y) (Ideal.ofBits .f32 2139095040#32)) = 1#1 := e
  have z : Ideal.ofBits .f32 0#32 = 0 := by simp [Ideal.ofBits, Ideal.ieee]
  have t : Ideal.ofBits .f32 2139095040#32 = ⊤ := by simp [Ideal.ofBits, Ideal.ieee]
  rw [z, t] at e'
  simp only [Ideal.cmp, Starts.andi_ofBool, Starts.ofBool_eq_one, Bool.and_eq_true, decide_eq_true_eq] at e'
  exact ⟨e'.1, e'.2.ne⟩

end Cert.Inputs
-- ==== Proof.KernelIdealStores.lean ====
/- What one grid point of the kernel stores, as the list of its stores. -/
module

public import proofs.«01_k».proof.Proof.KernelIdealKit

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1604000 in
/-- The stores of one grid point to its output block, last first, and that running the point leaves them. -/
@[irreducible] def stores (c : Dev nD) (i : grid0.Coords) (arg3 : Memref sig .tc .smem S1x1x256 .f32) (harg3 : arg3.IsWhole) (arg4 : Memref sig .tc .vmem S1x1x1024x128 .fp8e4m3) (harg4 : arg4.IsWhole) (arg5 : Memref sig .tc .vmem S1x1x1x128 .f32) (harg5 : arg5.IsWhole) (arg6 : Memref sig .tc .vmem S1x1x8x128 .bf16) (harg6 : arg6.IsWhole) (arg7 : Memref sig .tc .vmem S1x8x128 .i32) (harg7 : arg7.IsWhole) (arg8 : Memref sig .tc .vmem S16384x128 .fp8e4m3) (harg8 : arg8.IsWhole) (arg9 : Memref sig .tc .vmem S1x128x16384 .fp8e4m3) (harg9 : arg9.IsWhole) (arg10 : Memref sig .tc .vmem S1x128x128 .f32) (harg10 : arg10.IsWhole) (arg11 : Memref sig .tc .vmem S128x1024 .bf16) (harg11 : arg11.IsWhole) (arg12 : Memref sig .tc .vmem S16384x512 .f32) (harg12 : arg12.IsWhole) (arg13 : Memref sig .tc .vmem S16384x128 .f32) (harg13 : arg13.IsWhole)
    (x0 : Vec F S1x1x256 .f32) (x1 : Vec F S1x1x1024x128 .fp8e4m3) (x2 : Vec F S1x1x1x128 .f32) (x3 : Vec F S1x1x8x128 .bf16) (x4 : Vec F S1x8x128 .i32) (x5 : Vec F S16384x128 .fp8e4m3) (x6 : Vec F S1x128x16384 .fp8e4m3) (x7 : Vec F S1x128x128 .f32) (xt0 : TbBuf0 (F := F) c tbM0_0) (k0_hw1 : k0_chk1 i (tbM0_0.view.readAt (Elt F) (Rect.unit (s := S256) (k0_off1 i) S1.size (k0_off1_inb i)).toLoadRect xt0 (Shape.Idx.first (numel1_S1.symm ▸ Nat.one_pos)))) (d12 : Vec F S16384x512 .f32) (d13 : Vec F S16384x128 .f32) :
    { L : List (View.Piece (Elt F) S128x1024 .bf16) // ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ owns (c : Thread nD τ) arg12 fullShare d12 ∗ owns (c : Thread nD τ) arg13 fullShare d13 ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, owns (c : Thread nD τ) arg11 fullShare (arg11.view.read (Elt F) (arg11.view.writes (Elt F) f L))) ∗ (∃ d, owns (c : Thread nD τ) arg12 fullShare d) ∗ (∃ d, owns (c : Thread nD τ) arg13 fullShare d) ∗ tbPt0 c tbM0_0 xt0) -∗ K ⟨⟩))
          ⊢ wp frame (wpE (defs₀ (F := F)) Variants.none c none) E (cc0_attention i tbM0_0 htbM0_0 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0_attention_eq_skeleton]; unfold cc0_attention_skel
    simp only [k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hs0, HS0⟩, ⟨%fs1, %hs1, HS1⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg12.eq_unread hs0; obtain rfl := harg13.eq_unread hs1
    sl_exec (disch := first | sl_exact k0_hw1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _, _; isplitr; swap; · iexact H8
      ipureintro; rfl
    isplitl [HS0]
    · iexists _, _; isplitr; swap; · iexact HS0
      ipureintro; rfl
    isplitl [HS1]
    · iexists _, _; isplitr; swap; · iexact HS1
      ipureintro; rfl
    iexact HT0

end Cert.KernelIdeal.Hand

end
-- ==== Proof.KernelIdealSpec.lean ====
/- What the kernel's loops leave, in extended reals: the corrections, the scores, the weights. -/
module

public import proofs.«01_k».proof.Proof.KernelIdealKit
public import proofs.«01_k».proof.Proof.KernelIdealWords
public import Idealize.ShloMosaic.Lib.Pointwise

@[expose] public section

noncomputable section

namespace Cert.KernelIdeal.Hand

open Cert.KernelIdeal.Gen
open Idealize.ShloMosaic Idealize.ShloMosaic.TcCoe

/-- A key as an index of the sequence. -/
def keyIx (n : ℕ) : Fin 16384 := ⟨n % 16384, Nat.mod_lt _ (by decide)⟩

/-- The group of 64 keys that holds a key. -/
def grpIx (n : ℕ) : Fin 256 := ⟨n / 64 % 256, Nat.mod_lt _ (by decide)⟩

/-- The lane of a column. -/
def laneIx (n : ℕ) : Fin 128 := ⟨n % 128, Nat.mod_lt _ (by decide)⟩

/-- A column of the scores of a unit. -/
def colIx (n : ℕ) : Fin 512 := ⟨n % 512, Nat.mod_lt _ (by decide)⟩

/-- The softmax scale in base two. -/
def smC : EReal := Named.named (F := Ideal) (φ := .f32) κ "sm_log2e" 1040356334#32

/-- The kernel's least score. -/
def negC : EReal := Named.named (F := Ideal) (φ := .f32) κ "neg_inf" 4048155338#32

/-- The score that the mean of the queries adds: key `key`, lane `lane`. -/
def biasF (kc : S16384x128.Idx → EReal) (mq : S128x128.Idx → EReal) (ks : S1x1x256.Idx → EReal) (key lane : ℕ) : EReal :=
  (∑ e : Fin 128, kc (ix2 (keyIx key) e) * mq (ix2 (laneIx lane) e)) * (ks (ix3 0 0 (grpIx key)) * smC)

/-- A score, masked: key `key`, column `col`, whose last key is `qp` and whose first is `ds`. -/
def scoreF (kc : S16384x128.Idx → EReal) (mq : S128x128.Idx → EReal) (ks : S1x1x256.Idx → EReal) (q : S512x128.Idx → EReal)
    (sq : S1x128.Idx → EReal) (qp ds : ℕ → BitVec 32) (key col : ℕ) : EReal :=
  Scalar.select (IntOp.andi (IntOp.cmpi CmpIPredicate.sle (BitVec.ofNat 32 key) (qp col))
      (IntOp.cmpi CmpIPredicate.sge (BitVec.ofNat 32 key) (ds col)))
    ((∑ e : Fin 128, kc (ix2 (keyIx key) e) * q (ix2 (colIx col) e)) * (sq (ix2 0 (laneIx col)) * ks (ix3 0 0 (grpIx key)))
      + biasF kc mq ks key (col % 128)) negC

theorem emb2 {A B a b o p : ℕ} {inb} (x : (⟨2, ![a, b]⟩ : Shape).Idx) (y : (⟨2, ![A, B]⟩ : Shape).Idx)
    (h0 : (y 0).1 = o + (x 0).1) (h1 : (y 1).1 = p + (x 1).1) :
    (Rect.unit (s := ⟨2, ![A, B]⟩) ![o, p] ![a, b] inb).emb x = y := by
  funext j
  apply Fin.ext
  match j with
  | ⟨0, _⟩ => exact (congrArg (o + ·) (Nat.one_mul _)).trans h0.symm
  | ⟨1, _⟩ => exact (congrArg (p + ·) (Nat.one_mul _)).trans h1.symm

variable {κ₀ : Kind} {sp : Space} {e : EltTy}

/-- A load of a block of rows and columns, at an index. -/
theorem rd2 {A B a b : ℕ} {off : Fin 2 → ℕ} {inb} (v : View sig κ₀ sp ⟨2, ![A, B]⟩ e) (X : v.ty.Contents (Elt Ideal)) {o p : ℕ}
    (ho : off = ![o, p]) (x : (⟨2, ![a, b]⟩ : Shape).Idx) (y : (⟨2, ![A, B]⟩ : Shape).Idx)
    (h0 : (y 0).1 = o + (x 0).1) (h1 : (y 1).1 = p + (x 1).1) :
    View.readAt (Elt Ideal) v (Rect.unit (s := ⟨2, ![A, B]⟩) off ![a, b] inb).toLoadRect X x = v.read (Elt Ideal) X y := by
  subst ho
  rw [← emb2 (inb := inb) x y h0 h1]
  rfl

/-- A load of a block of a rank-three array, at an index. -/
theorem rd3 {A B C a b c : ℕ} {off : Fin 3 → ℕ} {inb} (v : View sig κ₀ sp ⟨3, ![A, B, C]⟩ e) (X : v.ty.Contents (Elt Ideal)) {o p q : ℕ}
    (ho : off = ![o, p, q]) (x : (⟨3, ![a, b, c]⟩ : Shape).Idx) (y : (⟨3, ![A, B, C]⟩ : Shape).Idx)
    (h0 : (y 0).1 = o + (x 0).1) (h1 : (y 1).1 = p + (x 1).1) (h2 : (y 2).1 = q + (x 2).1) :
    View.readAt (Elt Ideal) v (Rect.unit (s := ⟨3, ![A, B, C]⟩) off ![a, b, c] inb).toLoadRect X x = v.read (Elt Ideal) X y := by
  subst ho
  refine congrArg (v.read (Elt Ideal) X) (funext fun j => Fin.ext ?_)
  match j with
  | ⟨0, _⟩ => exact (congrArg (o + ·) (Nat.one_mul _)).trans h0.symm
  | ⟨1, _⟩ => exact (congrArg (p + ·) (Nat.one_mul _)).trans h1.symm
  | ⟨2, _⟩ => exact (congrArg (q + ·) (Nat.one_mul _)).trans h2.symm

/-- A piece of a two-dimensional write, read by rows and columns. -/
theorem piece2 {A B a b o p : ℕ} {e : EltTy} {off : Fin 2 → ℕ} {inb} {f : (⟨2, ![a, b]⟩ : Shape).Idx → Elt Ideal e} {g : ℕ → ℕ → Elt Ideal e}
    {P : View.Piece (Elt Ideal) ⟨2, ![A, B]⟩ e} (hP : P = ⟨Rect.unit off ![a, b] inb, f⟩) (ho : off = ![o, p])
    (h : ∀ (r : Fin a) (l : Fin b), f (ix2 r l) = g (o + r.1) (p + l.1)) (x : P.1.shape.Idx) :
    P.2 x = g (P.1.emb x 0).1 (P.1.emb x 1).1 := by
  subst hP ho
  refine ((congrArg f (eq_ix2 x)).trans (h (x 0) (x 1))).trans ?_
  exact congrArg₂ g (congrArg (o + ·) (Nat.one_mul _).symm) (congrArg (p + ·) (Nat.one_mul _).symm)

/-- A row and a column that a piece covers. -/
theorem mem2 {A B a b o p : ℕ} {off : Fin 2 → ℕ} {inb} (ho : off = ![o, p]) (y : (⟨2, ![A, B]⟩ : Shape).Idx)
    (h0 : o ≤ (y 0).1 ∧ (y 0).1 < o + a) (h1 : p ≤ (y 1).1 ∧ (y 1).1 < p + b) :
    y ∈ (Rect.unit (s := ⟨2, ![A, B]⟩) off ![a, b] inb).set := by
  subst ho
  refine Rect.mem_set_unit.2 fun j => ?_
  match j with
  | ⟨0, _⟩ => exact h0
  | ⟨1, _⟩ => exact h1

theorem keyIx_val {y : ℕ} (h : y < 16384) : (keyIx y).1 = y := Nat.mod_eq_of_lt h

/-- A load of a block of keys, at an index. -/
theorem rdKey {a o : ℕ} {off : Fin 2 → ℕ} {inb} (v : View sig κ₀ sp S16384x128 e) (X : v.ty.Contents (Elt Ideal)) (ho : off = ![o, 0])
    (R : Fin a) (l : Fin 128) {y : ℕ} (hy : y = o + R.1) (hlt : o + a ≤ 16384) :
    View.readAt (Elt Ideal) v (Rect.unit (s := S16384x128) off ![a, 128] inb).toLoadRect X (ix2 R l) = v.read (Elt Ideal) X (ix2 (keyIx y) l) :=
  rd2 v X ho (ix2 R l) (ix2 (keyIx y) l) ((keyIx_val (by have := R.2; omega)).trans hy) (Nat.zero_add _).symm

/-- The scale of a group of keys. -/
theorem rdGrp {o : ℕ} {off : Fin 3 → ℕ} {inb} (v : View sig κ₀ sp S1x1x256 e) (X : v.ty.Contents (Elt Ideal)) (ho : off = ![0, 0, o])
    (x : (⟨3, ![1, 1, 1]⟩ : Shape).Idx) {y : ℕ} (hy : y / 64 = o) (hlt : y < 16384) :
    View.readAt (Elt Ideal) v (Rect.unit (s := S1x1x256) off ![1, 1, 1] inb).toLoadRect X x = v.read (Elt Ideal) X (ix3 0 0 (grpIx y)) := by
  have hx : ∀ j, (x j).1 = 0 := fun j => match j with
    | ⟨0, _⟩ => Nat.lt_one_iff.1 (x 0).2
    | ⟨1, _⟩ => Nat.lt_one_iff.1 (x 1).2
    | ⟨2, _⟩ => Nat.lt_one_iff.1 (x 2).2
  refine rd3 v X ho x (ix3 0 0 (grpIx y)) ((hx 0).symm ▸ rfl) ((hx 1).symm ▸ rfl) ?_
  rw [hx 2]
  exact (Nat.mod_eq_of_lt (by omega)).trans hy

/-- What a loop leaves of a buffer: trip `k` writes rows `512 k` to `512 k + 511`, each as `G` says. -/
theorem loop_read {A B : ℕ} (v : View sig κ₀ sp ⟨2, ![A, B]⟩ e) (f : v.ty.Contents (Elt Ideal)) (G : (⟨2, ![A, B]⟩ : Shape).Idx → Elt Ideal e)
    (st : ℕ → List (View.Piece (Elt Ideal) ⟨2, ![A, B]⟩ e)) (N : ℕ) (h0 : st 0 = [])
    (hs : ∀ k < N, ∃ L, st (k + 1) = L ++ st k ∧ (∀ P ∈ L, ∀ x, P.2 x = G (P.1.emb x)) ∧
      ∀ y : (⟨2, ![A, B]⟩ : Shape).Idx, 512 * k ≤ (y 0).1 → (y 0).1 < 512 * k + 512 → ∃ P ∈ L, y ∈ P.1.set)
    (y : (⟨2, ![A, B]⟩ : Shape).Idx) (hy : (y 0).1 < 512 * N) :
    v.read (Elt Ideal) (v.writes (Elt Ideal) f (st N)) y = G y := by
  have hall : ∀ k ≤ N, ∀ P ∈ st k, ∀ x, P.2 x = G (P.1.emb x) := by
    intro k
    induction k with
    | zero => intro _ P hP; rw [h0] at hP; exact absurd hP List.not_mem_nil
    | succ k ih =>
      intro hk P hP
      obtain ⟨L, hL, hG, -⟩ := hs k (by omega)
      rw [hL] at hP
      rcases List.mem_append.1 hP with hP | hP
      · exact hG P hP
      · exact ih (by omega) P hP
  have hcov : ∀ k ≤ N, (y 0).1 < 512 * k → ∃ P ∈ st k, y ∈ P.1.set := by
    intro k
    induction k with
    | zero => intro _ hlt; omega
    | succ k ih =>
      intro hk hlt
      obtain ⟨L, hL, -, hc⟩ := hs k (by omega)
      rw [hL]
      by_cases hlo : (y 0).1 < 512 * k
      · obtain ⟨P, hP, hm⟩ := ih (by omega) hlo
        exact ⟨P, List.mem_append_right _ hP, hm⟩
      · obtain ⟨P, hP, hm⟩ := hc y (by omega) (by omega)
        exact ⟨P, List.mem_append_left _ hP, hm⟩
  exact View.read_writes_apply_of_pieces v f G _ (hall N le_rfl) y (hcov N le_rfl hy)

end Cert.KernelIdeal.Hand

end
-- ==== Proof.KernelIdealWeight.lean ====
/- The weights as the loops read the scores, and the sums that the loops carry. -/
module

public import proofs.«01_k».proof.Proof.KernelIdealSpec

@[expose] public section

noncomputable section

namespace Cert.KernelIdeal.Hand

open Cert.KernelIdeal.Gen
open Idealize.ShloMosaic Idealize.ShloMosaic.TcCoe

/-- A weight: the power of two of a score less its column's offset. -/
def weightF (w : ℕ → ℕ → EReal) (off : ℕ → EReal) (row col : ℕ) : EReal := FloatOps.exp2 (F := Ideal) (φ := .f32) (w row col - off col)

/-- The bounds of the weights' format. -/
def clipF (x : EReal) : EReal := min (Ideal.ofBits .f32 1138753536#32) (max (Ideal.ofBits .f32 3286237184#32) x)

theorem clip_congr {x y : EReal} (h : x = y) : min (Ideal.ofBits .f32 1138753536#32) (max (Ideal.ofBits .f32 3286237184#32) x) = clipF y := by
  rw [h]; rfl

/-- The offset of a column: the greatest of eight maxima, less eight. -/
def offF (m : S8x128.Idx → EReal) (l : Fin 128) : EReal :=
  Finset.univ.fold max (Ideal.ofBits .f32 4286578688#32) (fun a : Fin 8 => m (ix2 a l)) - Ideal.ofBits .f32 1090519040#32

/-- A weight, as a trip of the loop computes it. -/
theorem weight_at {κ₀ : Kind} {sp : Space} {v12 : View sig κ₀ sp S16384x512 .f32} {X12 : v12.ty.Contents (Elt Ideal)} {w : ℕ → ℕ → EReal} {off : ℕ → EReal} {T k : ℕ}
    (hw : ∀ y : S16384x512.Idx, (y 0).1 < 512 * T → v12.read (Elt Ideal) X12 y = w (y 0).1 (y 1).1) (hk : k < T) (hT : 512 * T ≤ 16384)
    {o : Fin 2 → ℕ} {m : ℕ} (ho : o = ![512 * k, m]) (hm : m + 128 ≤ 512) (R : Fin 512) (l : Fin 128) {ov : EReal} {row col : ℕ}
    {inb : ∀ a, o a + (![512, 128] : Fin 2 → ℕ) a ≤ S16384x512.size a} (hov : ov = off (m + l.1)) (hrow : row = 512 * k + R.1) (hcol : col = m + l.1) :
    FloatOps.exp2 (F := Ideal) (φ := .f32) ((View.readAt (Elt Ideal) v12 (Rect.unit (s := S16384x512) o ![512, 128] inb).toLoadRect X12 (ix2 R l) : EReal) - ov)
      = weightF w off row col := by
  unfold weightF
  rw [hov, hrow, hcol]
  refine congrArg (fun z : EReal => FloatOps.exp2 (F := Ideal) (φ := .f32) (z - off (m + l.1))) ?_
  refine (rd2 v12 X12 ho (ix2 R l) (ix2 ⟨512 * k + R.1, by have := R.2; omega⟩ ⟨m + l.1, by have := l.2; omega⟩) rfl rfl).trans ?_
  exact hw _ (by show 512 * k + R.1 < _; have := R.2; omega)

/-- A value of the attention, as a trip of the loop reads it. -/
theorem value_at {κ₀ : Kind} {sp : Space} {v9 : View sig κ₀ sp S1x128x16384 .fp8e4m3} {X9 : v9.ty.Contents (Elt Ideal)} {B : ℕ} {o : Fin 3 → ℕ}
    (ho : o = ![0, 0, B]) (hB : B + 512 ≤ 16384) (d : Fin 128) (x : Fin 512) {key : ℕ} (hkey : key = B + x.1)
    {inb : ∀ a, o a + (![1, 128, 512] : Fin 3 → ℕ) a ≤ S1x128x16384.size a} :
    View.readAt (Elt Ideal) v9 (Rect.unit (s := S1x128x16384) o ![1, 128, 512] inb).toLoadRect X9 (ix3 0 d x) = v9.read (Elt Ideal) X9 (ix3 0 d (keyIx key)) :=
  rd3 v9 X9 ho (ix3 0 d x) (ix3 0 d (keyIx key)) rfl (Nat.zero_add _).symm ((keyIx_val (by have := x.2; omega)).trans hkey)

theorem sum_split (f : ℕ → EReal) (o : ℕ) : (∑ a : Fin 8, ∑ x : Fin 64, f (o + (x.1 * 8 + a.1))) = ∑ r ∈ Finset.range 512, f (o + r) := by
  rw [Finset.sum_comm, ← Fintype.sum_prod_type' (fun (x : Fin 64) (a : Fin 8) => f (o + (x.1 * 8 + a.1))), Finset.sum_range (fun r => f (o + r))]
  refine Fintype.sum_equiv (finProdFinEquiv (m := 64) (n := 8)) _ _ fun p => ?_
  show f (o + (p.1.1 * 8 + p.2.1)) = f (o + (p.2.1 + 8 * p.1.1))
  congr 2; omega

/-- The sums that a loop carries are those of the rows before. -/
theorem loop_sum (m : ℕ → Fin 8 → EReal) (f : ℕ → EReal) (N : ℕ)
    (hs : ∀ k < N, ∀ a, m (k + 1) a = m k a + ∑ x : Fin 64, f (512 * k + (x.1 * 8 + a.1))) :
    ∀ k ≤ N, (∑ a, m k a) = (∑ a, m 0 a) + ∑ row ∈ Finset.range (512 * k), f row := by
  intro k
  induction k with
  | zero => intro _; simp
  | succ k ih =>
    intro hk
    rw [Finset.sum_congr rfl fun a _ => hs k (by omega) a, Finset.sum_add_distrib, ih (by omega), sum_split f (512 * k), add_assoc, Nat.mul_succ, Finset.sum_range_add]

/-- The product that a loop carries is the sum over the rows before. -/
theorem loop_acc (m : ℕ → EReal) (f : ℕ → EReal) (N : ℕ) (hs : ∀ k < N, m (k + 1) = m k + ∑ x : Fin 512, f (512 * k + x.1)) :
    ∀ k ≤ N, m k = m 0 + ∑ row ∈ Finset.range (512 * k), f row := by
  intro k
  induction k with
  | zero => intro _; simp
  | succ k ih =>
    intro hk
    rw [hs k (by omega), ih (by omega), add_assoc, Nat.mul_succ, Finset.sum_range_add, Finset.sum_range (fun r => f (512 * k + r))]

end Cert.KernelIdeal.Hand

end
-- ==== Proof.KernelIdealBias.lean ====
/- The first loop of the kernel: it writes the scores of the mean of the queries. -/
module

public import proofs.«01_k».proof.Proof.KernelIdealSpec

@[expose] public section

set_option maxRecDepth 16384
set_option maxHeartbeats 4000000

noncomputable section

namespace Cert.KernelIdeal.Hand

open Cert.KernelIdeal.Gen
open Idealize.ShloMosaic Idealize.ShloMosaic.TcCoe Idealize.ShloMosaic.Tactic

/-- A score of the mean of the queries, as the loop reads it. -/
theorem bias_at {i v16} (h : Early i v16) (k : Fin (k0_t1_loop i v16).trips) {sp sp' : Space}
    (v8 : View sig .tc sp S16384x128 .fp8e4m3) (X8 : v8.ty.Contents (Elt Ideal)) (v3 : View sig .tc sp' S1x1x256 .f32) (X3 : v3.ty.Contents (Elt Ideal))
    (mq : S128x128.Idx → EReal) (n : ℕ) (hn : n < 8) {b : ℕ} (R : Fin 512) (l : Fin 128) {inb2 : ∀ a, k0_off2 i v16 k a + (![512, 128] : Fin 2 → ℕ) a ≤ S16384x128.size a} {inb3 : ∀ a, k0_off3 i v16 k (BitVec.ofNat 32 b) a + (![1, 1, 1] : Fin 3 → ℕ) a ≤ S1x1x256.size a} {x : (⟨3, ![1, 1, 1]⟩ : Shape).Idx} {key lane : ℕ} (hb : b = n)
    (hR : 64 * n ≤ R.1 ∧ R.1 < 64 * n + 64) (hkey : key = Words.base (grp i) (row0 v16) + 512 * k.1 + R.1) (hl : lane = l.1) :
    (∑ e : Fin 128, (View.readAt (Elt Ideal) v8 (Rect.unit (s := S16384x128) (k0_off2 i v16 k) ![512, 128] inb2).toLoadRect X8 (ix2 R e) : EReal) * mq (ix2 l e))
      * ((View.readAt (Elt Ideal) v3 (Rect.unit (s := S1x1x256) (k0_off3 i v16 k (BitVec.ofNat 32 b)) ![1, 1, 1] inb3).toLoadRect X3 x : EReal)
        * Named.named (F := Ideal) (φ := .f32) κ "sm_log2e" 1040356334#32)
      = biasF (v8.read (Elt Ideal) X8) mq (v3.read (Elt Ideal) X3) key lane := by
  have hk := h.key_lt k
  have hd := Words.base_dvd (grp i) (row0 v16)
  subst hb hl
  unfold biasF smC
  refine congrArg₂ (· * ·) (Finset.sum_congr rfl fun e _ => congrArg₂ (· * ·) (rdKey v8 X8 (off2_eq h k) _ _ hkey hk) ?_) (congrArg (· * _) (rdGrp v3 X3 (off3_eq h k ⟨b, hn⟩) x ?_ ?_))
  · exact congrArg (fun z => mq (ix2 z e)) (Fin.ext (Nat.mod_eq_of_lt l.2).symm)
  · simp only []; omega
  · omega

section

variable (𝒱 : Variants) (c : Dev nD) (bd : Option 𝒱.V) (i : grid0.Coords) (arg2 : Memref sig .tc .smem S256 .i32) (harg2 : arg2.IsWhole) (arg3 : Memref sig .tc .smem S1x1x256 .f32) (harg3 : arg3.IsWhole) (arg4 : Memref sig .tc .vmem S1x1x1024x128 .fp8e4m3) (harg4 : arg4.IsWhole) (arg5 : Memref sig .tc .vmem S1x1x1x128 .f32) (harg5 : arg5.IsWhole) (arg6 : Memref sig .tc .vmem S1x1x8x128 .bf16) (harg6 : arg6.IsWhole) (arg7 : Memref sig .tc .vmem S1x8x128 .i32) (harg7 : arg7.IsWhole) (arg8 : Memref sig .tc .vmem S16384x128 .fp8e4m3) (harg8 : arg8.IsWhole) (arg9 : Memref sig .tc .vmem S1x128x16384 .fp8e4m3) (harg9 : arg9.IsWhole) (arg10 : Memref sig .tc .vmem S1x128x128 .f32) (harg10 : arg10.IsWhole) (arg11 : Memref sig .tc .vmem S128x1024 .bf16) (harg11 : arg11.IsWhole) (arg12 : Memref sig .tc .vmem S16384x512 .f32) (harg12 : arg12.IsWhole) (arg13 : Memref sig .tc .vmem S16384x128 .f32) (harg13 : arg13.IsWhole) (arg1 : BitVec 32) (v11 : FVec Ideal S128x128 .bf16) (v16 : Elt Ideal .i32) (k0_hw1 : k0_chk1 i v16) (v17 : BitVec 32) (v21 : BitVec 32) (v35 : BitVec 1) (v40 : BitVec 32) (X_arg3 : BufTy.Contents (Elt Ideal) arg3.view.ty) (X_arg8 : BufTy.Contents (Elt Ideal) arg8.view.ty)

include 𝒱 c bd i arg2 harg2 arg3 harg3 arg4 harg4 arg5 harg5 arg6 harg6 arg7 harg7 arg8 harg8 arg9 harg9 arg10 harg10 arg11 harg11 arg12 harg12 arg13 harg13 arg1 v11 v16 k0_hw1 v17 v21 v35 v40 X_arg3 X_arg8

/-- What one trip of the loop writes, element by element. -/
theorem bias_pieces (k : Fin (k0_t1_loop i v16).trips) (acc : BitVec 32) (h : Early i v16) :
    ∀ P ∈ tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg1 v11 v16 k0_hw1 v17 v21 v35 v40 X_arg3 X_arg8 k acc, ∀ x,
      P.2 x = (fun y : S16384x128.Idx => biasF (arg8.view.read (Elt Ideal) X_arg8) v11 (arg3.view.read (Elt Ideal) X_arg3)
        (Words.base (grp i) (row0 v16) + (y 0).1) (y 1).1) (P.1.emb x) := by
  have hk := h.key_lt k
  have hd := Words.base_dvd (grp i) (row0 v16)
  intro P hP
  unfold tripL_k0_t1 trip_k0_t1 at hP
  simp only [List.mem_cons, List.not_mem_nil, or_false] at hP
  rcases hP with hP | hP | hP | hP | hP | hP | hP | hP
  · refine piece2 hP (g := fun R L => biasF (arg8.view.read (Elt Ideal) X_arg8) v11 (arg3.view.read (Elt Ideal) X_arg3)
        (Words.base (grp i) (row0 v16) + R) L) (off4_eq h k ⟨7, by decide⟩) (fun r l => ?_)
    pointwise [k0_pay542, k0_pay7, k0_pay8, k0_pay9, k0_pay10, k0_pay11, k0_pay12, k0_pay13, k0_pay14, k0_pay15, k0_pay16, k0_pay17, k0_pay18, k0_pay19, k0_pay20, k0_pay21, k0_pay22, k0_pay23, trip_k0_t1.sl.arg14, trip_k0_t1.sl.r, trip_k0_t1.sl.r_1, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.v410, trip_k0_t1.sl.v411, trip_k0_t1.sl.v448, trip_k0_t1.sl.v479, trip_k0_t1.sl.v480, trip_k0_t1.sl.v481, trip_k0_t1.sl.v482, trip_k0_t1.sl.v483, trip_k0_t1.sl.v489, trip_k0_t1.sl.v490]
    exact bias_at h k arg8.view X_arg8 arg3.view X_arg3 v11 7 (by decide) ⟨448 + r.1, by have := r.2; omega⟩ l rfl (by have := r.2; simp only []; omega) (by simp only []; omega) (by omega)
  · refine piece2 hP (g := fun R L => biasF (arg8.view.read (Elt Ideal) X_arg8) v11 (arg3.view.read (Elt Ideal) X_arg3)
        (Words.base (grp i) (row0 v16) + R) L) (off4_eq h k ⟨6, by decide⟩) (fun r l => ?_)
    pointwise [k0_pay542, k0_pay7, k0_pay8, k0_pay9, k0_pay10, k0_pay11, k0_pay12, k0_pay13, k0_pay14, k0_pay15, k0_pay16, k0_pay17, k0_pay18, k0_pay19, k0_pay20, k0_pay21, k0_pay22, k0_pay23, trip_k0_t1.sl.arg14, trip_k0_t1.sl.r, trip_k0_t1.sl.r_1, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.v410, trip_k0_t1.sl.v411, trip_k0_t1.sl.v448, trip_k0_t1.sl.v479, trip_k0_t1.sl.v480, trip_k0_t1.sl.v481, trip_k0_t1.sl.v482, trip_k0_t1.sl.v483, trip_k0_t1.sl.v489, trip_k0_t1.sl.v490]
    exact bias_at h k arg8.view X_arg8 arg3.view X_arg3 v11 6 (by decide) ⟨384 + r.1, by have := r.2; omega⟩ l rfl (by have := r.2; simp only []; omega) (by simp only []; omega) (by omega)
  · refine piece2 hP (g := fun R L => biasF (arg8.view.read (Elt Ideal) X_arg8) v11 (arg3.view.read (Elt Ideal) X_arg3)
        (Words.base (grp i) (row0 v16) + R) L) (off4_eq h k ⟨5, by decide⟩) (fun r l => ?_)
    pointwise [k0_pay542, k0_pay7, k0_pay8, k0_pay9, k0_pay10, k0_pay11, k0_pay12, k0_pay13, k0_pay14, k0_pay15, k0_pay16, k0_pay17, k0_pay18, k0_pay19, k0_pay20, k0_pay21, k0_pay22, k0_pay23, trip_k0_t1.sl.arg14, trip_k0_t1.sl.r, trip_k0_t1.sl.r_1, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.v410, trip_k0_t1.sl.v411, trip_k0_t1.sl.v448, trip_k0_t1.sl.v479, trip_k0_t1.sl.v480, trip_k0_t1.sl.v481, trip_k0_t1.sl.v482, trip_k0_t1.sl.v483, trip_k0_t1.sl.v489, trip_k0_t1.sl.v490]
    exact bias_at h k arg8.view X_arg8 arg3.view X_arg3 v11 5 (by decide) ⟨320 + r.1, by have := r.2; omega⟩ l rfl (by have := r.2; simp only []; omega) (by simp only []; omega) (by omega)
  · refine piece2 hP (g := fun R L => biasF (arg8.view.read (Elt Ideal) X_arg8) v11 (arg3.view.read (Elt Ideal) X_arg3)
        (Words.base (grp i) (row0 v16) + R) L) (off4_eq h k ⟨4, by decide⟩) (fun r l => ?_)
    pointwise [k0_pay542, k0_pay7, k0_pay8, k0_pay9, k0_pay10, k0_pay11, k0_pay12, k0_pay13, k0_pay14, k0_pay15, k0_pay16, k0_pay17, k0_pay18, k0_pay19, k0_pay20, k0_pay21, k0_pay22, k0_pay23, trip_k0_t1.sl.arg14, trip_k0_t1.sl.r, trip_k0_t1.sl.r_1, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.v410, trip_k0_t1.sl.v411, trip_k0_t1.sl.v448, trip_k0_t1.sl.v479, trip_k0_t1.sl.v480, trip_k0_t1.sl.v481, trip_k0_t1.sl.v482, trip_k0_t1.sl.v483, trip_k0_t1.sl.v489, trip_k0_t1.sl.v490]
    exact bias_at h k arg8.view X_arg8 arg3.view X_arg3 v11 4 (by decide) ⟨256 + r.1, by have := r.2; omega⟩ l rfl (by have := r.2; simp only []; omega) (by simp only []; omega) (by omega)
  · refine piece2 hP (g := fun R L => biasF (arg8.view.read (Elt Ideal) X_arg8) v11 (arg3.view.read (Elt Ideal) X_arg3)
        (Words.base (grp i) (row0 v16) + R) L) (off4_eq h k ⟨3, by decide⟩) (fun r l => ?_)
    pointwise [k0_pay542, k0_pay7, k0_pay8, k0_pay9, k0_pay10, k0_pay11, k0_pay12, k0_pay13, k0_pay14, k0_pay15, k0_pay16, k0_pay17, k0_pay18, k0_pay19, k0_pay20, k0_pay21, k0_pay22, k0_pay23, trip_k0_t1.sl.arg14, trip_k0_t1.sl.r, trip_k0_t1.sl.r_1, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.v410, trip_k0_t1.sl.v411, trip_k0_t1.sl.v448, trip_k0_t1.sl.v479, trip_k0_t1.sl.v480, trip_k0_t1.sl.v481, trip_k0_t1.sl.v482, trip_k0_t1.sl.v483, trip_k0_t1.sl.v489, trip_k0_t1.sl.v490]
    exact bias_at h k arg8.view X_arg8 arg3.view X_arg3 v11 3 (by decide) ⟨192 + r.1, by have := r.2; omega⟩ l rfl (by have := r.2; simp only []; omega) (by simp only []; omega) (by omega)
  · refine piece2 hP (g := fun R L => biasF (arg8.view.read (Elt Ideal) X_arg8) v11 (arg3.view.read (Elt Ideal) X_arg3)
        (Words.base (grp i) (row0 v16) + R) L) (off4_eq h k ⟨2, by decide⟩) (fun r l => ?_)
    pointwise [k0_pay542, k0_pay7, k0_pay8, k0_pay9, k0_pay10, k0_pay11, k0_pay12, k0_pay13, k0_pay14, k0_pay15, k0_pay16, k0_pay17, k0_pay18, k0_pay19, k0_pay20, k0_pay21, k0_pay22, k0_pay23, trip_k0_t1.sl.arg14, trip_k0_t1.sl.r, trip_k0_t1.sl.r_1, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.v410, trip_k0_t1.sl.v411, trip_k0_t1.sl.v448, trip_k0_t1.sl.v479, trip_k0_t1.sl.v480, trip_k0_t1.sl.v481, trip_k0_t1.sl.v482, trip_k0_t1.sl.v483, trip_k0_t1.sl.v489, trip_k0_t1.sl.v490]
    exact bias_at h k arg8.view X_arg8 arg3.view X_arg3 v11 2 (by decide) ⟨128 + r.1, by have := r.2; omega⟩ l rfl (by have := r.2; simp only []; omega) (by simp only []; omega) (by omega)
  · refine piece2 hP (g := fun R L => biasF (arg8.view.read (Elt Ideal) X_arg8) v11 (arg3.view.read (Elt Ideal) X_arg3)
        (Words.base (grp i) (row0 v16) + R) L) (off4_eq h k ⟨1, by decide⟩) (fun r l => ?_)
    pointwise [k0_pay542, k0_pay7, k0_pay8, k0_pay9, k0_pay10, k0_pay11, k0_pay12, k0_pay13, k0_pay14, k0_pay15, k0_pay16, k0_pay17, k0_pay18, k0_pay19, k0_pay20, k0_pay21, k0_pay22, k0_pay23, trip_k0_t1.sl.arg14, trip_k0_t1.sl.r, trip_k0_t1.sl.r_1, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.v410, trip_k0_t1.sl.v411, trip_k0_t1.sl.v448, trip_k0_t1.sl.v479, trip_k0_t1.sl.v480, trip_k0_t1.sl.v481, trip_k0_t1.sl.v482, trip_k0_t1.sl.v483, trip_k0_t1.sl.v489, trip_k0_t1.sl.v490]
    exact bias_at h k arg8.view X_arg8 arg3.view X_arg3 v11 1 (by decide) ⟨64 + r.1, by have := r.2; omega⟩ l rfl (by have := r.2; simp only []; omega) (by simp only []; omega) (by omega)
  · refine piece2 hP (g := fun R L => biasF (arg8.view.read (Elt Ideal) X_arg8) v11 (arg3.view.read (Elt Ideal) X_arg3)
        (Words.base (grp i) (row0 v16) + R) L) (off4_eq h k ⟨0, by decide⟩) (fun r l => ?_)
    pointwise [k0_pay542, k0_pay7, k0_pay8, k0_pay9, k0_pay10, k0_pay11, k0_pay12, k0_pay13, k0_pay14, k0_pay15, k0_pay16, k0_pay17, k0_pay18, k0_pay19, k0_pay20, k0_pay21, k0_pay22, k0_pay23, trip_k0_t1.sl.arg14, trip_k0_t1.sl.r, trip_k0_t1.sl.r_1, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.v410, trip_k0_t1.sl.v411, trip_k0_t1.sl.v448, trip_k0_t1.sl.v479, trip_k0_t1.sl.v480, trip_k0_t1.sl.v481, trip_k0_t1.sl.v482, trip_k0_t1.sl.v483, trip_k0_t1.sl.v489, trip_k0_t1.sl.v490]
    exact bias_at h k arg8.view X_arg8 arg3.view X_arg3 v11 0 (by decide) ⟨r.1, by have := r.2; omega⟩ l rfl (by have := r.2; simp only []; omega) (by simp only []; omega) (by omega)

/-- A trip of the loop writes all of its rows. -/
theorem bias_cover (k : Fin (k0_t1_loop i v16).trips) (acc : BitVec 32) (h : Early i v16) (y : S16384x128.Idx) (hlo : 512 * k.1 ≤ (y 0).1) (hhi : (y 0).1 < 512 * k.1 + 512) :
    ∃ P ∈ tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg1 v11 v16 k0_hw1 v17 v21 v35 v40 X_arg3 X_arg8 k acc, y ∈ P.1.set := by
  by_contra hno
  replace hno := fun P hP hy => hno ⟨P, hP, hy⟩
  unfold tripL_k0_t1 trip_k0_t1 at hno
  simp only [List.forall_mem_cons] at hno
  obtain ⟨h7, h6, h5, h4, h3, h2, h1, h0, -⟩ := hno
  have key : ∀ n : Fin 8, 512 * k.1 + 64 * n.1 ≤ (y 0).1 ∧ (y 0).1 < 512 * k.1 + 64 * n.1 + 64 → (0 ≤ (y 1).1 ∧ (y 1).1 < 0 + 128) :=
    fun n _ => ⟨Nat.zero_le _, by have : (y 1).1 < 128 := (y 1).2; omega⟩
  have g0 : ¬ (512 * k.1 + 0 ≤ (y 0).1 ∧ (y 0).1 < 512 * k.1 + 0 + 64) := fun hh => h0 (mem2 (off4_eq h k ⟨0, by decide⟩) y hh (key ⟨0, by decide⟩ hh))
  have g1 : ¬ (512 * k.1 + 64 ≤ (y 0).1 ∧ (y 0).1 < 512 * k.1 + 64 + 64) := fun hh => h1 (mem2 (off4_eq h k ⟨1, by decide⟩) y hh (key ⟨1, by decide⟩ hh))
  have g2 : ¬ (512 * k.1 + 128 ≤ (y 0).1 ∧ (y 0).1 < 512 * k.1 + 128 + 64) := fun hh => h2 (mem2 (off4_eq h k ⟨2, by decide⟩) y hh (key ⟨2, by decide⟩ hh))
  have g3 : ¬ (512 * k.1 + 192 ≤ (y 0).1 ∧ (y 0).1 < 512 * k.1 + 192 + 64) := fun hh => h3 (mem2 (off4_eq h k ⟨3, by decide⟩) y hh (key ⟨3, by decide⟩ hh))
  have g4 : ¬ (512 * k.1 + 256 ≤ (y 0).1 ∧ (y 0).1 < 512 * k.1 + 256 + 64) := fun hh => h4 (mem2 (off4_eq h k ⟨4, by decide⟩) y hh (key ⟨4, by decide⟩ hh))
  have g5 : ¬ (512 * k.1 + 320 ≤ (y 0).1 ∧ (y 0).1 < 512 * k.1 + 320 + 64) := fun hh => h5 (mem2 (off4_eq h k ⟨5, by decide⟩) y hh (key ⟨5, by decide⟩ hh))
  have g6 : ¬ (512 * k.1 + 384 ≤ (y 0).1 ∧ (y 0).1 < 512 * k.1 + 384 + 64) := fun hh => h6 (mem2 (off4_eq h k ⟨6, by decide⟩) y hh (key ⟨6, by decide⟩ hh))
  have g7 : ¬ (512 * k.1 + 448 ≤ (y 0).1 ∧ (y 0).1 < 512 * k.1 + 448 + 64) := fun hh => h7 (mem2 (off4_eq h k ⟨7, by decide⟩) y hh (key ⟨7, by decide⟩ hh))
  omega

/-- What the loop leaves: the scores of the mean of the queries. -/
theorem bias_read (init : BitVec 32) (f) (h : Early i v16) (y : S16384x128.Idx) (hy : (y 0).1 < 512 * (k0_t1_loop i v16).trips) :
    arg13.view.read (Elt Ideal) (arg13.view.writes (Elt Ideal) f (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg1 v11 v16 k0_hw1 v17 v21 v35 v40 X_arg3 X_arg8 init (k0_t1_loop i v16).trips).2) y
      = biasF (arg8.view.read (Elt Ideal) X_arg8) v11 (arg3.view.read (Elt Ideal) X_arg3) (Words.base (grp i) (row0 v16) + (y 0).1) (y 1).1 :=
  loop_read arg13.view f (fun y : S16384x128.Idx => biasF (arg8.view.read (Elt Ideal) X_arg8) v11 (arg3.view.read (Elt Ideal) X_arg3)
      (Words.base (grp i) (row0 v16) + (y 0).1) (y 1).1)
    (fun k => (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg1 v11 v16 k0_hw1 v17 v21 v35 v40 X_arg3 X_arg8 init k).2) _ rfl
    (fun k hk => ⟨_, congrArg Prod.snd (st_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg1 v11 v16 k0_hw1 v17 v21 v35 v40 X_arg3 X_arg8 init ⟨k, hk⟩),
      bias_pieces 𝒱 c bd i arg2 harg2 arg3 harg3 arg4 harg4 arg5 harg5 arg6 harg6 arg7 harg7 arg8 harg8 arg9 harg9 arg10 harg10 arg11 harg11 arg12 harg12 arg13 harg13 arg1 v11 v16 k0_hw1 v17 v21 v35 v40 X_arg3 X_arg8 ⟨k, hk⟩ _ h, bias_cover 𝒱 c bd i arg2 harg2 arg3 harg3 arg4 harg4 arg5 harg5 arg6 harg6 arg7 harg7 arg8 harg8 arg9 harg9 arg10 harg10 arg11 harg11 arg12 harg12 arg13 harg13 arg1 v11 v16 k0_hw1 v17 v21 v35 v40 X_arg3 X_arg8 ⟨k, hk⟩ _ h⟩) y hy

end

end Cert.KernelIdeal.Hand

end
-- ==== Proof.KernelIdealScore.lean ====
/- A score as the loops read it, and which rows and columns a trip writes. -/
module

public import proofs.«01_k».proof.Proof.KernelIdealBias

@[expose] public section

noncomputable section

namespace Cert.KernelIdeal.Hand

open Cert.KernelIdeal.Gen
open Idealize.ShloMosaic Idealize.ShloMosaic.TcCoe

theorem keyWord {v : BitVec 32} {B : ℕ} (hv : v = BitVec.ofNat 32 B) (k b r : ℕ) :
    IntOp.addi (Scalar.addi (Scalar.addi v (Scalar.muli (Scf.iv 0#32 1#32 k) 512#32)) (BitVec.ofNat 32 b)) (BitVec.ofNat 32 r)
      = BitVec.ofNat 32 (B + 512 * k + b + r) := by
  subst hv
  apply BitVec.eq_of_toNat_eq
  simp only [IntOp.addi, Scalar.addi, Scalar.muli, IntOp.muli, Scf.iv, BitVec.toNat_add, BitVec.toNat_mul, BitVec.toNat_ofNat]
  omega

theorem select_congr {c c' : BitVec 1} {a a' b b' : EReal} (hc : c = c') (ha : a = a') (hb : b = b') : Scalar.select c a b = Scalar.select c' a' b' := by
  rw [hc, ha, hb]

/-- A score, as a trip of the loop computes it. -/
theorem score_at {v16 v40 : BitVec 32} {i : grid0.Coords} {k T : ℕ} {sp sp' sp'' : Space} (hv : v40 = BitVec.ofNat 32 (Words.base (grp i) (row0 v16)))
    {v8 : View sig .tc sp S16384x128 .fp8e4m3} {X8 : v8.ty.Contents (Elt Ideal)} {v3 : View sig .tc sp' S1x1x256 .f32} {X3 : v3.ty.Contents (Elt Ideal)}
    {v13 : View sig .tc sp'' S16384x128 .f32} {X13 : v13.ty.Contents (Elt Ideal)} {mq : S128x128.Idx → EReal} {qp ds : ℕ → BitVec 32}
    {q : S512x128.Idx → EReal} {sq : S1x128.Idx → EReal}
    (hk : Words.base (grp i) (row0 v16) + 512 * k + 512 ≤ 16384) (hkT : k < T)
    (hb : ∀ y : S16384x128.Idx, (y 0).1 < 512 * T → v13.read (Elt Ideal) X13 y
      = biasF (v8.read (Elt Ideal) X8) mq (v3.read (Elt Ideal) X3) (Words.base (grp i) (row0 v16) + (y 0).1) (y 1).1)
    {o8 : Fin 2 → ℕ} {o3 : Fin 3 → ℕ} {o13 : Fin 2 → ℕ} {n m : ℕ} (hn : n < 8) (hm : m = 64 * n)
    (h8 : o8 = ![Words.base (grp i) (row0 v16) + 512 * k, 0]) (h3 : o3 = ![0, 0, (Words.base (grp i) (row0 v16) + 512 * k) / 64 + n])
    (h13 : o13 = ![512 * k + 64 * n, 0])
    {c : ℕ} (hc : c < 4) (R : Fin 512) (r : Fin 64) (l : Fin 128) (C : Fin 512) (hR : R.1 = m + r.1) (hC : C.1 = 128 * c + l.1) {qw dw : BitVec 32}
    (hq : qw = qp (128 * c + l.1)) (hd : dw = ds (128 * c + l.1))
    {inb8 : ∀ a, o8 a + (![512, 128] : Fin 2 → ℕ) a ≤ S16384x128.size a} {inb3 : ∀ a, o3 a + (![1, 1, 1] : Fin 3 → ℕ) a ≤ S1x1x256.size a}
    {inb13 : ∀ a, o13 a + (![64, 128] : Fin 2 → ℕ) a ≤ S16384x128.size a} {x : (⟨3, ![1, 1, 1]⟩ : Shape).Idx} {key col : ℕ}
    (hkey : key = Words.base (grp i) (row0 v16) + 512 * k + R.1) (hcol : col = 128 * c + l.1) :
    Scalar.select
      (IntOp.andi
        (IntOp.cmpi CmpIPredicate.sle (IntOp.addi (Scalar.addi (Scalar.addi v40 (Scalar.muli (Scf.iv 0#32 1#32 k) 512#32)) (BitVec.ofNat 32 m)) (BitVec.ofNat 32 r.1)) qw)
        (IntOp.cmpi CmpIPredicate.sge (IntOp.addi (Scalar.addi (Scalar.addi v40 (Scalar.muli (Scf.iv 0#32 1#32 k) 512#32)) (BitVec.ofNat 32 m)) (BitVec.ofNat 32 r.1)) dw))
      ((∑ e : Fin 128, (View.readAt (Elt Ideal) v8 (Rect.unit (s := S16384x128) o8 ![512, 128] inb8).toLoadRect X8 (ix2 R e) : EReal) * q (ix2 C e))
          * (sq (ix2 0 l) * (View.readAt (Elt Ideal) v3 (Rect.unit (s := S1x1x256) o3 ![1, 1, 1] inb3).toLoadRect X3 x : EReal))
        + (View.readAt (Elt Ideal) v13 (Rect.unit (s := S16384x128) o13 ![64, 128] inb13).toLoadRect X13 (ix2 r l) : EReal))
      (Named.named (F := Ideal) (φ := .f32) κ "neg_inf" 4048155338#32)
      = scoreF (v8.read (Elt Ideal) X8) mq (v3.read (Elt Ideal) X3) q sq qp ds key col := by
  have hd' := Words.base_dvd (grp i) (row0 v16)
  have hr := r.2
  have hkw : IntOp.addi (Scalar.addi (Scalar.addi v40 (Scalar.muli (Scf.iv 0#32 1#32 k) 512#32)) (BitVec.ofNat 32 m)) (BitVec.ofNat 32 r.1) = BitVec.ofNat 32 key := by
    rw [keyWord hv]; congr 1; omega
  have hlane : laneIx col = l := Fin.ext (by show col % 128 = _; omega)
  have hcolx : colIx col = C := Fin.ext (by show col % 512 = _; omega)
  have hcm : col % 128 = l.1 := by omega
  unfold scoreF
  rw [hkw, hlane, hcolx, hcm, hq, hd, hcol]
  refine select_congr rfl (congrArg₂ (· + ·) (congrArg₂ (· * ·) (Finset.sum_congr rfl fun e _ => congrArg (· * _) (rdKey v8 X8 h8 _ _ hkey hk))
    (congrArg (_ * ·) (rdGrp v3 X3 h3 x (by omega) (by omega)))) ?_) rfl
  refine (rd2 v13 X13 h13 (ix2 r l) (ix2 ⟨512 * k + R.1, by omega⟩ l) (by show 512 * k + R.1 = 512 * k + 64 * n + r.1; omega) (Nat.zero_add _).symm).trans ?_
  refine (hb _ (by show 512 * k + R.1 < _; omega)).trans ?_
  show biasF _ _ _ (_ + (512 * k + R.1)) l.1 = _
  rw [hkey, Nat.add_assoc]

/-- The greatest of a number and of eight times eight numbers. -/
def tileMax (m : EReal) (f : ℕ → ℕ → EReal) : EReal :=
  max (max (max (max (max (max (max (max m (Finset.univ.fold max (Ideal.ofBits .f32 4286578688#32) fun x : Fin 8 => f 0 x.1))
    (Finset.univ.fold max (Ideal.ofBits .f32 4286578688#32) fun x : Fin 8 => f 1 x.1)) (Finset.univ.fold max (Ideal.ofBits .f32 4286578688#32) fun x : Fin 8 => f 2 x.1))
    (Finset.univ.fold max (Ideal.ofBits .f32 4286578688#32) fun x : Fin 8 => f 3 x.1)) (Finset.univ.fold max (Ideal.ofBits .f32 4286578688#32) fun x : Fin 8 => f 4 x.1))
    (Finset.univ.fold max (Ideal.ofBits .f32 4286578688#32) fun x : Fin 8 => f 5 x.1)) (Finset.univ.fold max (Ideal.ofBits .f32 4286578688#32) fun x : Fin 8 => f 6 x.1))
    (Finset.univ.fold max (Ideal.ofBits .f32 4286578688#32) fun x : Fin 8 => f 7 x.1)

theorem tileMax_congr (m : EReal) (f : ℕ → ℕ → EReal) {g0 g1 g2 g3 g4 g5 g6 g7 : Fin 8 → EReal} (h0 : ∀ x, g0 x = f 0 x.1) (h1 : ∀ x, g1 x = f 1 x.1)
    (h2 : ∀ x, g2 x = f 2 x.1) (h3 : ∀ x, g3 x = f 3 x.1) (h4 : ∀ x, g4 x = f 4 x.1) (h5 : ∀ x, g5 x = f 5 x.1) (h6 : ∀ x, g6 x = f 6 x.1) (h7 : ∀ x, g7 x = f 7 x.1) :
    max (max (max (max (max (max (max (max m (Finset.univ.fold max (Ideal.ofBits .f32 4286578688#32) g0))
    (Finset.univ.fold max (Ideal.ofBits .f32 4286578688#32) g1)) (Finset.univ.fold max (Ideal.ofBits .f32 4286578688#32) g2))
    (Finset.univ.fold max (Ideal.ofBits .f32 4286578688#32) g3)) (Finset.univ.fold max (Ideal.ofBits .f32 4286578688#32) g4))
    (Finset.univ.fold max (Ideal.ofBits .f32 4286578688#32) g5)) (Finset.univ.fold max (Ideal.ofBits .f32 4286578688#32) g6))
    (Finset.univ.fold max (Ideal.ofBits .f32 4286578688#32) g7) = tileMax m f := by
  rw [funext h0, funext h1, funext h2, funext h3, funext h4, funext h5, funext h6, funext h7]
  rfl

theorem ofBits_bot : Ideal.ofBits .f32 4286578688#32 = ⊥ := by
  simp [Ideal.ofBits, Ideal.ieee]

theorem tileMax_le {m : EReal} {f : ℕ → ℕ → EReal} {z : EReal} : tileMax m f ≤ z ↔ m ≤ z ∧ ∀ n < 8, ∀ x < 8, f n x ≤ z := by
  unfold tileMax
  simp only [max_le_iff, Finset.fold_max_le, ofBits_bot, bot_le, true_and, Finset.mem_univ, forall_true_left]
  constructor
  · rintro ⟨⟨⟨⟨⟨⟨⟨⟨h, h0⟩, h1⟩, h2⟩, h3⟩, h4⟩, h5⟩, h6⟩, h7⟩
    refine ⟨h, fun n hn x hx => ?_⟩
    match n, hn with
    | 0, _ => exact h0 ⟨x, hx⟩
    | 1, _ => exact h1 ⟨x, hx⟩
    | 2, _ => exact h2 ⟨x, hx⟩
    | 3, _ => exact h3 ⟨x, hx⟩
    | 4, _ => exact h4 ⟨x, hx⟩
    | 5, _ => exact h5 ⟨x, hx⟩
    | 6, _ => exact h6 ⟨x, hx⟩
    | 7, _ => exact h7 ⟨x, hx⟩
  · rintro ⟨h, hf⟩
    exact ⟨⟨⟨⟨⟨⟨⟨⟨h, fun x => hf 0 (by decide) x.1 x.2⟩, fun x => hf 1 (by decide) x.1 x.2⟩, fun x => hf 2 (by decide) x.1 x.2⟩, fun x => hf 3 (by decide) x.1 x.2⟩,
      fun x => hf 4 (by decide) x.1 x.2⟩, fun x => hf 5 (by decide) x.1 x.2⟩, fun x => hf 6 (by decide) x.1 x.2⟩, fun x => hf 7 (by decide) x.1 x.2⟩

/-- The maxima that a loop carries are those of the rows before. -/
theorem loop_max (m : ℕ → Fin 8 → EReal) (f : ℕ → EReal) (N : ℕ)
    (hs : ∀ k < N, ∀ a, m (k + 1) a = tileMax (m k a) (fun n x => f (512 * k + (64 * n + (x * 8 + a.1))))) (z : EReal) :
    ∀ k ≤ N, (∀ a, m k a ≤ z) ↔ (∀ a, m 0 a ≤ z) ∧ ∀ row < 512 * k, f row ≤ z := by
  intro k
  induction k with
  | zero => exact fun _ => ⟨fun h => ⟨h, fun row hr => by omega⟩, fun h => h.1⟩
  | succ k ih =>
    intro hk
    have ih := ih (by omega)
    constructor
    · intro h
      have h' := fun a => tileMax_le.1 ((hs k (by omega) a).symm.le.trans (h a))
      obtain ⟨h0, hr⟩ := ih.1 fun a => (h' a).1
      refine ⟨h0, fun row hrow => ?_⟩
      by_cases hlt : row < 512 * k
      · exact hr row hlt
      · have e := (h' ⟨row % 8, Nat.mod_lt _ (by decide)⟩).2 ((row - 512 * k) / 64) (by omega) ((row - 512 * k) % 64 / 8) (by omega)
        have e' : 512 * k + (64 * ((row - 512 * k) / 64) + ((row - 512 * k) % 64 / 8 * 8 + row % 8)) = row := by omega
        simp only [e'] at e
        exact e
    · rintro ⟨h0, hr⟩ a
      rw [hs k (by omega) a]
      exact tileMax_le.2 ⟨ih.2 ⟨h0, fun row hlt => hr row (by omega)⟩ a, fun n hn x hx => hr _ (by have := a.2; omega)⟩

end Cert.KernelIdeal.Hand

end
-- ==== Proof.KernelIdealUnit.lean ====
/- The small values of the attention kernel: the last key of a column, and the offset of its weights. -/
module

public import proofs.«01_k».proof.Proof.KernelIdealStores
public import proofs.«01_k».proof.Proof.KernelIdealSpec
public import proofs.«01_k».proof.Proof.KernelIdealWeight
public import proofs.«01_k».proof.Proof.KernelIdealScore
public import Idealize.ShloMosaic.Lib.Pointwise

@[expose] public section

set_option maxRecDepth 16384
set_option maxHeartbeats 4000000

noncomputable section

namespace Cert.KernelIdeal.Hand

open Cert.KernelIdeal.Gen
open Idealize.ShloMosaic Idealize.ShloMosaic.TcCoe Idealize.ShloMosaic.Tactic

/-- The last key of column `col` of unit `u`: its token. -/
def qpF (g u col : ℕ) : BitVec 32 := BitVec.ofNat 32 (128 * g + 64 * u + 16 * (col / 128) + col % 16)

/-- The kernel's least score is the least of all. -/
theorem negC_bot : negC = ⊥ := rfl

theorem off562 (m : FVec Ideal S8x128 .f32) (l : Fin 128) : k0_pay562 (F := Ideal) m (ix2 0 l) = offF m l := by
  unfold offF
  pointwise [k0_pay562]
theorem off563 (m : FVec Ideal S8x128 .f32) (l : Fin 128) : k0_pay563 (F := Ideal) m (ix2 0 l) = offF m l := by
  unfold offF
  pointwise [k0_pay563]
theorem off564 (m : FVec Ideal S8x128 .f32) (l : Fin 128) : k0_pay564 (F := Ideal) m (ix2 0 l) = offF m l := by
  unfold offF
  pointwise [k0_pay564]
theorem off631 (m : FVec Ideal S8x128 .f32) (l : Fin 128) : k0_pay631 (F := Ideal) m (ix2 0 l) = offF m l := by
  unfold offF
  pointwise [k0_pay631]
theorem off632 (m : FVec Ideal S8x128 .f32) (l : Fin 128) : k0_pay632 (F := Ideal) m (ix2 0 l) = offF m l := by
  unfold offF
  pointwise [k0_pay632]
theorem off633 (m : FVec Ideal S8x128 .f32) (l : Fin 128) : k0_pay633 (F := Ideal) m (ix2 0 l) = offF m l := by
  unfold offF
  pointwise [k0_pay633]
theorem off634 (m : FVec Ideal S8x128 .f32) (l : Fin 128) : k0_pay634 (F := Ideal) m (ix2 0 l) = offF m l := by
  unfold offF
  pointwise [k0_pay634]

/-- A word of a token. -/
theorem qp_word {g n n' u c : ℕ} (hg : g < 128) (h : n = 64 * u) (h' : n' = 16 * c) (hn : n < 128) (hn' : n' < 128) (l : Fin 128) :
    IntOp.addi (Scalar.addi (Scalar.addi (Scalar.muli (BitVec.ofNat 32 g) 128#32) (BitVec.ofNat 32 n)) (BitVec.ofNat 32 n')) (IntOp.andi (BitVec.ofNat 32 l.1) 15#32) = qpF g u (128 * c + l.1) := by
  have hl := l.2
  unfold qpF Scalar.addi Scalar.muli IntOp.addi IntOp.muli IntOp.andi
  apply BitVec.eq_of_toNat_eq
  have e : (BitVec.ofNat 32 l.1 &&& 15#32).toNat = l.1 % 16 := by
    rw [BitVec.toNat_and, BitVec.toNat_ofNat, Nat.mod_eq_of_lt (by omega)]
    exact Nat.and_two_pow_sub_one_eq_mod l.1 4
  rw [BitVec.toNat_add, BitVec.toNat_add, BitVec.toNat_add, BitVec.toNat_mul, e]
  simp only [BitVec.toNat_ofNat]
  omega
theorem qp545 {g : ℕ} (hg : g < 128) (l : Fin 128) : k0_pay545 (BitVec.ofNat 32 g) (ix2 0 l) = qpF g 0 (0 + l.1) := by
  refine Eq.trans ?_ (qp_word (n := 0) (n' := 0) (u := 0) (c := 0) hg (by decide) (by decide) (by decide) (by decide) l)
  pointwise [k0_pay545, k0_pay548]
theorem qp546 {g : ℕ} (hg : g < 128) (l : Fin 128) : k0_pay546 (BitVec.ofNat 32 g) (ix2 0 l) = qpF g 0 (128 + l.1) := by
  refine Eq.trans ?_ (qp_word (n := 0) (n' := 16) (u := 0) (c := 1) hg (by decide) (by decide) (by decide) (by decide) l)
  pointwise [k0_pay546, k0_pay548]
theorem qp547 {g : ℕ} (hg : g < 128) (l : Fin 128) : k0_pay547 (BitVec.ofNat 32 g) (ix2 0 l) = qpF g 0 (256 + l.1) := by
  refine Eq.trans ?_ (qp_word (n := 0) (n' := 32) (u := 0) (c := 2) hg (by decide) (by decide) (by decide) (by decide) l)
  pointwise [k0_pay547, k0_pay548]
theorem qp615 {g : ℕ} (hg : g < 128) (l : Fin 128) : k0_pay615 (BitVec.ofNat 32 g) (ix2 0 l) = qpF g 1 (0 + l.1) := by
  refine Eq.trans ?_ (qp_word (n := 64) (n' := 0) (u := 1) (c := 0) hg (by decide) (by decide) (by decide) (by decide) l)
  pointwise [k0_pay615, k0_pay548]
theorem qp616 {g : ℕ} (hg : g < 128) (l : Fin 128) : k0_pay616 (BitVec.ofNat 32 g) (ix2 0 l) = qpF g 1 (128 + l.1) := by
  refine Eq.trans ?_ (qp_word (n := 64) (n' := 16) (u := 1) (c := 1) hg (by decide) (by decide) (by decide) (by decide) l)
  pointwise [k0_pay616, k0_pay548]
theorem qp617 {g : ℕ} (hg : g < 128) (l : Fin 128) : k0_pay617 (BitVec.ofNat 32 g) (ix2 0 l) = qpF g 1 (256 + l.1) := by
  refine Eq.trans ?_ (qp_word (n := 64) (n' := 32) (u := 1) (c := 2) hg (by decide) (by decide) (by decide) (by decide) l)
  pointwise [k0_pay617, k0_pay548]
theorem qp618 {g : ℕ} (hg : g < 128) (l : Fin 128) : k0_pay618 (BitVec.ofNat 32 g) (ix2 0 l) = qpF g 1 (384 + l.1) := by
  refine Eq.trans ?_ (qp_word (n := 64) (n' := 48) (u := 1) (c := 3) hg (by decide) (by decide) (by decide) (by decide) l)
  pointwise [k0_pay618, k0_pay548]
theorem qp548 {g : ℕ} (hg : g < 128) (l : Fin 128) : IntOp.addi (Scalar.addi (Scalar.addi (Scalar.muli (BitVec.ofNat 32 g) 128#32) 0#32) 48#32) (k0_pay548 (ix2 0 l)) = qpF g 0 (384 + l.1) := by
  refine Eq.trans ?_ (qp_word (n := 0) (n' := 48) (u := 0) (c := 3) hg (by decide) (by decide) (by decide) (by decide) l)
  pointwise [k0_pay548]

/-- The offset of a column: the greatest score less eight. -/
def offS (n : ℕ) (S : ℕ → EReal) : EReal := (Finset.range n).sup S - Ideal.ofBits .f32 1090519040#32

theorem off_eq {m : S8x128.Idx → EReal} {l : Fin 128} {n n' : ℕ} {S : ℕ → EReal} {m0 : S8x128.Idx → EReal} (h0 : ∀ a : Fin 8, m0 (ix2 a l) = ⊥) (hn : n' = n)
    (h : ∀ z : EReal, (∀ a : Fin 8, m (ix2 a l) ≤ z) ↔ (∀ a : Fin 8, m0 (ix2 a l) ≤ z) ∧ ∀ row < n', S row ≤ z) :
    offF m l = offS n S := by
  subst hn
  unfold offF offS
  congr 1
  rw [ofBits_bot]
  refine eq_of_forall_ge_iff fun z => ?_
  rw [Finset.fold_max_le, Finset.sup_le_iff]
  simp only [bot_le, true_and, Finset.mem_univ, true_imp_iff, Finset.mem_range]
  refine (h z).trans ?_
  simp only [h0, bot_le, implies_true, true_and]
theorem bot554 (a : Fin 8) (l : Fin 128) : (k0_pay554 (F := Ideal) (ix2 a l) : EReal) = ⊥ := by
  refine Eq.trans ?_ negC_bot
  pointwise [k0_pay554]
  rfl
theorem bot555 (a : Fin 8) (l : Fin 128) : (k0_pay555 (F := Ideal) (ix2 a l) : EReal) = ⊥ := by
  refine Eq.trans ?_ negC_bot
  pointwise [k0_pay555]
  rfl
theorem bot556 (a : Fin 8) (l : Fin 128) : (k0_pay556 (F := Ideal) (ix2 a l) : EReal) = ⊥ := by
  refine Eq.trans ?_ negC_bot
  pointwise [k0_pay556]
  rfl
theorem bot557 (a : Fin 8) (l : Fin 128) : (k0_pay557 (F := Ideal) (ix2 a l) : EReal) = ⊥ := by
  refine Eq.trans ?_ negC_bot
  pointwise [k0_pay557]
  rfl
theorem zero566 (l : Fin 128) : (∑ a : Fin 8, (k0_pay566 (F := Ideal) (ix2 a l) : EReal)) = 0 := by
  refine Finset.sum_eq_zero fun a _ => ?_
  pointwise [k0_pay566]
theorem zero567 (l : Fin 128) : (∑ a : Fin 8, (k0_pay567 (F := Ideal) (ix2 a l) : EReal)) = 0 := by
  refine Finset.sum_eq_zero fun a _ => ?_
  pointwise [k0_pay567]
theorem zero568 (l : Fin 128) : (∑ a : Fin 8, (k0_pay568 (F := Ideal) (ix2 a l) : EReal)) = 0 := by
  refine Finset.sum_eq_zero fun a _ => ?_
  pointwise [k0_pay568]
theorem zero569 (l : Fin 128) : (∑ a : Fin 8, (k0_pay569 (F := Ideal) (ix2 a l) : EReal)) = 0 := by
  refine Finset.sum_eq_zero fun a _ => ?_
  pointwise [k0_pay569]
theorem zero635 (l : Fin 128) : (∑ a : Fin 8, (k0_pay635 (F := Ideal) (ix2 a l) : EReal)) = 0 := by
  refine Finset.sum_eq_zero fun a _ => ?_
  pointwise [k0_pay635]
theorem zero636 (l : Fin 128) : (∑ a : Fin 8, (k0_pay636 (F := Ideal) (ix2 a l) : EReal)) = 0 := by
  refine Finset.sum_eq_zero fun a _ => ?_
  pointwise [k0_pay636]
theorem zero637 (l : Fin 128) : (∑ a : Fin 8, (k0_pay637 (F := Ideal) (ix2 a l) : EReal)) = 0 := by
  refine Finset.sum_eq_zero fun a _ => ?_
  pointwise [k0_pay637]
theorem zero638 (l : Fin 128) : (∑ a : Fin 8, (k0_pay638 (F := Ideal) (ix2 a l) : EReal)) = 0 := by
  refine Finset.sum_eq_zero fun a _ => ?_
  pointwise [k0_pay638]
theorem zero570 (d : Fin 128) (c : Fin 512) : (k0_pay570 (F := Ideal) (ix2 d c) : EReal) = 0 := by
  pointwise [k0_pay570]
theorem zero639 (d : Fin 128) (c : Fin 512) : (k0_pay639 (F := Ideal) (ix2 d c) : EReal) = 0 := by
  pointwise [k0_pay639]

end Cert.KernelIdeal.Hand
-- ==== Proof.KernelIdealScoreA.lean ====
/- A loop of the kernel over tiles of 512 keys: it writes the scores of four tiles of queries. -/
module

public import proofs.«01_k».proof.Proof.KernelIdealScore

@[expose] public section

set_option maxRecDepth 16384
set_option maxHeartbeats 4000000

noncomputable section

namespace Cert.KernelIdeal.Hand

open Cert.KernelIdeal.Gen
open Idealize.ShloMosaic Idealize.ShloMosaic.TcCoe Idealize.ShloMosaic.Tactic

section

variable (𝒱 : Variants) (c : Dev nD) (bd : Option 𝒱.V) (i : grid0.Coords) (arg2 : Memref sig .tc .smem S256 .i32) (harg2 : arg2.IsWhole) (arg3 : Memref sig .tc .smem S1x1x256 .f32) (harg3 : arg3.IsWhole) (arg4 : Memref sig .tc .vmem S1x1x1024x128 .fp8e4m3) (harg4 : arg4.IsWhole) (arg5 : Memref sig .tc .vmem S1x1x1x128 .f32) (harg5 : arg5.IsWhole) (arg6 : Memref sig .tc .vmem S1x1x8x128 .bf16) (harg6 : arg6.IsWhole) (arg7 : Memref sig .tc .vmem S1x8x128 .i32) (harg7 : arg7.IsWhole) (arg8 : Memref sig .tc .vmem S16384x128 .fp8e4m3) (harg8 : arg8.IsWhole) (arg9 : Memref sig .tc .vmem S1x128x16384 .fp8e4m3) (harg9 : arg9.IsWhole) (arg10 : Memref sig .tc .vmem S1x128x128 .f32) (harg10 : arg10.IsWhole) (arg11 : Memref sig .tc .vmem S128x1024 .bf16) (harg11 : arg11.IsWhole) (arg12 : Memref sig .tc .vmem S16384x512 .f32) (harg12 : arg12.IsWhole) (arg13 : Memref sig .tc .vmem S16384x128 .f32) (harg13 : arg13.IsWhole) (v3 : FVec Ideal S1x128 .f32) (v16 : Elt Ideal .i32) (k0_hw1 : k0_chk1 i v16) (v37 : BitVec 32) (v40 : BitVec 32) (v49 : FVec Ideal S512x128 .fp8e4m3) (v57 : IVec S1x128 32) (v63 : IVec S1x128 32) (v69 : IVec S1x128 32) (v70 : BitVec 32) (v73 : IVec S1x128 32) (v76 : Vec Ideal S1x1x128 .i32) (v78 : Vec Ideal S1x1x128 .i32) (v80 : Vec Ideal S1x1x128 .i32) (v82 : Vec Ideal S1x1x128 .i32) (X_arg3 : BufTy.Contents (Elt Ideal) arg3.view.ty) (X_arg8 : BufTy.Contents (Elt Ideal) arg8.view.ty) (X_arg13 : BufTy.Contents (Elt Ideal) arg13.view.ty)

include 𝒱 c bd i arg2 harg2 arg3 harg3 arg4 harg4 arg5 harg5 arg6 harg6 arg7 harg7 arg8 harg8 arg9 harg9 arg10 harg10 arg11 harg11 arg12 harg12 arg13 harg13 v3 v16 k0_hw1 v37 v40 v49 v57 v63 v69 v70 v73 v76 v78 v80 v82 X_arg3 X_arg8 X_arg13

section

variable (k : Fin (k0_t3_loop i v16).trips) (acc :  FVec Ideal S8x128 .f32 × FVec Ideal S8x128 .f32 × FVec Ideal S8x128 .f32 × FVec Ideal S8x128 .f32) (h : Early i v16) {mq : S128x128.Idx → EReal} {qp ds : ℕ → BitVec 32} (hq0 : ∀ l : Fin 128, v57 (ix2 0 l) = qp (0 + l.1)) (hd0 : ∀ l : Fin 128, v76 (ix3 0 0 l) = ds (0 + l.1)) (hq1 : ∀ l : Fin 128, v63 (ix2 0 l) = qp (128 + l.1)) (hd1 : ∀ l : Fin 128, v78 (ix3 0 0 l) = ds (128 + l.1)) (hq2 : ∀ l : Fin 128, v69 (ix2 0 l) = qp (256 + l.1)) (hd2 : ∀ l : Fin 128, v80 (ix3 0 0 l) = ds (256 + l.1)) (hq3 : ∀ l : Fin 128, IntOp.addi v70 (v73 (ix2 0 l)) = qp (384 + l.1)) (hd3 : ∀ l : Fin 128, v82 (ix3 0 0 l) = ds (384 + l.1)) (hv : v40 = BitVec.ofNat 32 (Words.base (grp i) (row0 v16))) (hb : ∀ y : S16384x128.Idx, (y 0).1 < 512 * Words.nt (grp i) (row0 v16) → arg13.view.read (Elt Ideal) X_arg13 y = biasF (arg8.view.read (Elt Ideal) X_arg8) mq (arg3.view.read (Elt Ideal) X_arg3) (Words.base (grp i) (row0 v16) + (y 0).1) (y 1).1)

include k acc h mq qp ds hq0 hd0 hq1 hd1 hq2 hd2 hq3 hd3 hv hb

/-- What one trip of the loop writes, element by element. -/
theorem score3_pieces :
    ∀ P ∈ tripL_k0_t3 (F := Ideal) 𝒱 c bd i arg2 harg2 arg3 harg3 arg4 harg4 arg5 harg5 arg6 harg6 arg7 harg7 arg8 harg8 arg9 harg9 arg10 harg10 arg11 harg11 arg12 harg12 arg13 harg13 v3 v16 k0_hw1 v37 v40 v49 v57 v63 v69 v70 v73 v76 v78 v80 v82 X_arg3 X_arg8 X_arg13 k acc, ∀ x,
      P.2 x = (fun y : S16384x512.Idx => scoreF (arg8.view.read (Elt Ideal) X_arg8) mq (arg3.view.read (Elt Ideal) X_arg3) v49 v3 qp ds (Words.base (grp i) (row0 v16) + (y 0).1) (y 1).1) (P.1.emb x) := by
  intro P hP
  unfold tripL_k0_t3 trip_k0_t3 at hP
  simp only [List.mem_cons, List.not_mem_nil, or_false] at hP
  rcases hP with hP | hP | hP | hP | hP | hP | hP | hP | hP | hP | hP | hP | hP | hP | hP | hP | hP | hP | hP | hP | hP | hP | hP | hP | hP | hP | hP | hP | hP | hP | hP | hP
  refine piece2 hP (g := fun R L => scoreF (arg8.view.read (Elt Ideal) X_arg8) mq (arg3.view.read (Elt Ideal) X_arg3) v49 v3 qp ds (Words.base (grp i) (row0 v16) + R) L) (off14_eq h k ⟨7, by decide⟩) (fun r l => ?_)
  rotate_left
  refine piece2 hP (g := fun R L => scoreF (arg8.view.read (Elt Ideal) X_arg8) mq (arg3.view.read (Elt Ideal) X_arg3) v49 v3 qp ds (Words.base (grp i) (row0 v16) + R) L) (off13_eq h k ⟨7, by decide⟩) (fun r l => ?_)
  rotate_left
  refine piece2 hP (g := fun R L => scoreF (arg8.view.read (Elt Ideal) X_arg8) mq (arg3.view.read (Elt Ideal) X_arg3) v49 v3 qp ds (Words.base (grp i) (row0 v16) + R) L) (off12_eq h k ⟨7, by decide⟩) (fun r l => ?_)
  rotate_left
  refine piece2 hP (g := fun R L => scoreF (arg8.view.read (Elt Ideal) X_arg8) mq (arg3.view.read (Elt Ideal) X_arg3) v49 v3 qp ds (Words.base (grp i) (row0 v16) + R) L) (off11_eq h k ⟨7, by decide⟩) (fun r l => ?_)
  rotate_left
  refine piece2 hP (g := fun R L => scoreF (arg8.view.read (Elt Ideal) X_arg8) mq (arg3.view.read (Elt Ideal) X_arg3) v49 v3 qp ds (Words.base (grp i) (row0 v16) + R) L) (off14_eq h k ⟨6, by decide⟩) (fun r l => ?_)
  rotate_left
  refine piece2 hP (g := fun R L => scoreF (arg8.view.read (Elt Ideal) X_arg8) mq (arg3.view.read (Elt Ideal) X_arg3) v49 v3 qp ds (Words.base (grp i) (row0 v16) + R) L) (off13_eq h k ⟨6, by decide⟩) (fun r l => ?_)
  rotate_left
  refine piece2 hP (g := fun R L => scoreF (arg8.view.read (Elt Ideal) X_arg8) mq (arg3.view.read (Elt Ideal) X_arg3) v49 v3 qp ds (Words.base (grp i) (row0 v16) + R) L) (off12_eq h k ⟨6, by decide⟩) (fun r l => ?_)
  rotate_left
  refine piece2 hP (g := fun R L => scoreF (arg8.view.read (Elt Ideal) X_arg8) mq (arg3.view.read (Elt Ideal) X_arg3) v49 v3 qp ds (Words.base (grp i) (row0 v16) + R) L) (off11_eq h k ⟨6, by decide⟩) (fun r l => ?_)
  rotate_left
  refine piece2 hP (g := fun R L => scoreF (arg8.view.read (Elt Ideal) X_arg8) mq (arg3.view.read (Elt Ideal) X_arg3) v49 v3 qp ds (Words.base (grp i) (row0 v16) + R) L) (off14_eq h k ⟨5, by decide⟩) (fun r l => ?_)
  rotate_left
  refine piece2 hP (g := fun R L => scoreF (arg8.view.read (Elt Ideal) X_arg8) mq (arg3.view.read (Elt Ideal) X_arg3) v49 v3 qp ds (Words.base (grp i) (row0 v16) + R) L) (off13_eq h k ⟨5, by decide⟩) (fun r l => ?_)
  rotate_left
  refine piece2 hP (g := fun R L => scoreF (arg8.view.read (Elt Ideal) X_arg8) mq (arg3.view.read (Elt Ideal) X_arg3) v49 v3 qp ds (Words.base (grp i) (row0 v16) + R) L) (off12_eq h k ⟨5, by decide⟩) (fun r l => ?_)
  rotate_left
  refine piece2 hP (g := fun R L => scoreF (arg8.view.read (Elt Ideal) X_arg8) mq (arg3.view.read (Elt Ideal) X_arg3) v49 v3 qp ds (Words.base (grp i) (row0 v16) + R) L) (off11_eq h k ⟨5, by decide⟩) (fun r l => ?_)
  rotate_left
  refine piece2 hP (g := fun R L => scoreF (arg8.view.read (Elt Ideal) X_arg8) mq (arg3.view.read (Elt Ideal) X_arg3) v49 v3 qp ds (Words.base (grp i) (row0 v16) + R) L) (off14_eq h k ⟨4, by decide⟩) (fun r l => ?_)
  rotate_left
  refine piece2 hP (g := fun R L => scoreF (arg8.view.read (Elt Ideal) X_arg8) mq (arg3.view.read (Elt Ideal) X_arg3) v49 v3 qp ds (Words.base (grp i) (row0 v16) + R) L) (off13_eq h k ⟨4, by decide⟩) (fun r l => ?_)
  rotate_left
  refine piece2 hP (g := fun R L => scoreF (arg8.view.read (Elt Ideal) X_arg8) mq (arg3.view.read (Elt Ideal) X_arg3) v49 v3 qp ds (Words.base (grp i) (row0 v16) + R) L) (off12_eq h k ⟨4, by decide⟩) (fun r l => ?_)
  rotate_left
  refine piece2 hP (g := fun R L => scoreF (arg8.view.read (Elt Ideal) X_arg8) mq (arg3.view.read (Elt Ideal) X_arg3) v49 v3 qp ds (Words.base (grp i) (row0 v16) + R) L) (off11_eq h k ⟨4, by decide⟩) (fun r l => ?_)
  rotate_left
  refine piece2 hP (g := fun R L => scoreF (arg8.view.read (Elt Ideal) X_arg8) mq (arg3.view.read (Elt Ideal) X_arg3) v49 v3 qp ds (Words.base (grp i) (row0 v16) + R) L) (off14_eq h k ⟨3, by decide⟩) (fun r l => ?_)
  rotate_left
  refine piece2 hP (g := fun R L => scoreF (arg8.view.read (Elt Ideal) X_arg8) mq (arg3.view.read (Elt Ideal) X_arg3) v49 v3 qp ds (Words.base (grp i) (row0 v16) + R) L) (off13_eq h k ⟨3, by decide⟩) (fun r l => ?_)
  rotate_left
  refine piece2 hP (g := fun R L => scoreF (arg8.view.read (Elt Ideal) X_arg8) mq (arg3.view.read (Elt Ideal) X_arg3) v49 v3 qp ds (Words.base (grp i) (row0 v16) + R) L) (off12_eq h k ⟨3, by decide⟩) (fun r l => ?_)
  rotate_left
  refine piece2 hP (g := fun R L => scoreF (arg8.view.read (Elt Ideal) X_arg8) mq (arg3.view.read (Elt Ideal) X_arg3) v49 v3 qp ds (Words.base (grp i) (row0 v16) + R) L) (off11_eq h k ⟨3, by decide⟩) (fun r l => ?_)
  rotate_left
  refine piece2 hP (g := fun R L => scoreF (arg8.view.read (Elt Ideal) X_arg8) mq (arg3.view.read (Elt Ideal) X_arg3) v49 v3 qp ds (Words.base (grp i) (row0 v16) + R) L) (off14_eq h k ⟨2, by decide⟩) (fun r l => ?_)
  rotate_left
  refine piece2 hP (g := fun R L => scoreF (arg8.view.read (Elt Ideal) X_arg8) mq (arg3.view.read (Elt Ideal) X_arg3) v49 v3 qp ds (Words.base (grp i) (row0 v16) + R) L) (off13_eq h k ⟨2, by decide⟩) (fun r l => ?_)
  rotate_left
  refine piece2 hP (g := fun R L => scoreF (arg8.view.read (Elt Ideal) X_arg8) mq (arg3.view.read (Elt Ideal) X_arg3) v49 v3 qp ds (Words.base (grp i) (row0 v16) + R) L) (off12_eq h k ⟨2, by decide⟩) (fun r l => ?_)
  rotate_left
  refine piece2 hP (g := fun R L => scoreF (arg8.view.read (Elt Ideal) X_arg8) mq (arg3.view.read (Elt Ideal) X_arg3) v49 v3 qp ds (Words.base (grp i) (row0 v16) + R) L) (off11_eq h k ⟨2, by decide⟩) (fun r l => ?_)
  rotate_left
  refine piece2 hP (g := fun R L => scoreF (arg8.view.read (Elt Ideal) X_arg8) mq (arg3.view.read (Elt Ideal) X_arg3) v49 v3 qp ds (Words.base (grp i) (row0 v16) + R) L) (off14_eq h k ⟨1, by decide⟩) (fun r l => ?_)
  rotate_left
  refine piece2 hP (g := fun R L => scoreF (arg8.view.read (Elt Ideal) X_arg8) mq (arg3.view.read (Elt Ideal) X_arg3) v49 v3 qp ds (Words.base (grp i) (row0 v16) + R) L) (off13_eq h k ⟨1, by decide⟩) (fun r l => ?_)
  rotate_left
  refine piece2 hP (g := fun R L => scoreF (arg8.view.read (Elt Ideal) X_arg8) mq (arg3.view.read (Elt Ideal) X_arg3) v49 v3 qp ds (Words.base (grp i) (row0 v16) + R) L) (off12_eq h k ⟨1, by decide⟩) (fun r l => ?_)
  rotate_left
  refine piece2 hP (g := fun R L => scoreF (arg8.view.read (Elt Ideal) X_arg8) mq (arg3.view.read (Elt Ideal) X_arg3) v49 v3 qp ds (Words.base (grp i) (row0 v16) + R) L) (off11_eq h k ⟨1, by decide⟩) (fun r l => ?_)
  rotate_left
  refine piece2 hP (g := fun R L => scoreF (arg8.view.read (Elt Ideal) X_arg8) mq (arg3.view.read (Elt Ideal) X_arg3) v49 v3 qp ds (Words.base (grp i) (row0 v16) + R) L) (off14_eq h k ⟨0, by decide⟩) (fun r l => ?_)
  rotate_left
  refine piece2 hP (g := fun R L => scoreF (arg8.view.read (Elt Ideal) X_arg8) mq (arg3.view.read (Elt Ideal) X_arg3) v49 v3 qp ds (Words.base (grp i) (row0 v16) + R) L) (off13_eq h k ⟨0, by decide⟩) (fun r l => ?_)
  rotate_left
  refine piece2 hP (g := fun R L => scoreF (arg8.view.read (Elt Ideal) X_arg8) mq (arg3.view.read (Elt Ideal) X_arg3) v49 v3 qp ds (Words.base (grp i) (row0 v16) + R) L) (off12_eq h k ⟨0, by decide⟩) (fun r l => ?_)
  rotate_left
  refine piece2 hP (g := fun R L => scoreF (arg8.view.read (Elt Ideal) X_arg8) mq (arg3.view.read (Elt Ideal) X_arg3) v49 v3 qp ds (Words.base (grp i) (row0 v16) + R) L) (off11_eq h k ⟨0, by decide⟩) (fun r l => ?_)
  rotate_left
  all_goals pointwise [k0_pay95, trip_k0_t3.sl.r_40, trip_k0_t3.sl.v444, k0_pay48, trip_k0_t3.sl.r_71, trip_k0_t3.sl.r_52, trip_k0_t3.sl.r_69, trip_k0_t3.sl.r_22, trip_k0_t3.sl.r_23, k0_pay87, k0_pay146, k0_pay98, trip_k0_t3.sl.v419, trip_k0_t3.sl.r_13, trip_k0_t3.sl.v763, k0_pay47._proof_2, k0_pay122, k0_pay112, k0_pay139, k0_pay136, k0_pay143, trip_k0_t3.sl.r_19, k0_pay53, trip_k0_t3.sl.r_18, k0_pay84, trip_k0_t3.sl.r_70, trip_k0_t3.sl.r_49, k0_pay55, k0_pay57, trip_k0_t3.sl.r_24, trip_k0_t3.sl.v421, k0_pay86, k0_pay125, k0_pay142, k0_pay80, k0_pay70, trip_k0_t3.sl.v428, trip_k0_t3.sl.r_7, trip_k0_t3.sl.r_21, k0_pay64, k0_pay134, k0_pay114, k0_pay137, k0_pay81, k0_pay130, trip_k0_t3.sl.r_51, k0_pay121, k0_pay88, k0_pay144, trip_k0_t3.sl.r_45, trip_k0_t3.sl.v442, trip_k0_t3.sl.r_50, k0_pay66, k0_pay115, trip_k0_t3.sl.r_53, trip_k0_t3.sl.v432, trip_k0_t3.sl.v451, trip_k0_t3.sl.r_56, trip_k0_t3.sl.r_64, trip_k0_t3.sl.r_60, trip_k0_t3.sl.arg14, trip_k0_t3.sl.v440, k0_pay155, k0_pay129, k0_pay126, trip_k0_t3.sl.r_16, k0_pay141, k0_pay140, trip_k0_t3.sl.v411, k0_pay558, trip_k0_t3.sl.v434, trip_k0_t3.sl.r_55, k0_pay156, k0_pay108, trip_k0_t3.sl.r_30, trip_k0_t3.sl.v430, trip_k0_t3.sl.r_32, trip_k0_t3.sl.v413, k0_pay42._proof_1, k0_pay76, trip_k0_t3.sl.r_8, k0_pay91, k0_pay60, k0_pay68, k0_pay94, k0_pay552, k0_pay138, trip_k0_t3.sl.cst_331, k0_pay59, trip_k0_t3.sl.r_10, k0_pay133, k0_pay54, k0_pay120, k0_pay67, trip_k0_t3.sl.r_66, k0_pay110, trip_k0_t3.sl.r_43, trip_k0_t3.sl.v415, trip_k0_t3.sl.r_25, k0_pay47._proof_3, k0_pay100, trip_k0_t3.sl.v437, trip_k0_t3.sl.r_33, trip_k0_t3.sl.r_6, k0_pay73, k0_pay96, k0_pay50, k0_pay154, k0_pay78, trip_k0_t3.sl.r_35, trip_k0_t3.sl.r_74, trip_k0_t3.sl.v439, trip_k0_t3.sl.r_11, trip_k0_t3.sl.v418, trip_k0_t3.sl.r_46, k0_pay85, trip_k0_t3.sl.r_54, k0_pay51, k0_pay149, trip_k0_t3.sl.r_34, trip_k0_t3.sl.r_12, k0_pay151, trip_k0_t3.sl.r_62, trip_k0_t3.sl.r_44, k0_pay69, trip_k0_t3.sl.r_31, k0_pay52, k0_pay135, k0_pay132, k0_pay75, k0_pay116, trip_k0_t3.sl.r_58, trip_k0_t3.sl.r_28, k0_pay150, k0_pay128, trip_k0_t3.sl.r_9, k0_pay93, k0_pay153, k0_pay90, trip_k0_t3.sl.r_73, k0_pay45, trip_k0_t3.sl.r_26, trip_k0_t3.sl.v808, trip_k0_t3.sl.r_14, trip_k0_t3.sl.r_2, k0_pay83, k0_pay56, trip_k0_t3.sl.r_27, trip_k0_t3.sl.cst_248, k0_pay559, trip_k0_t3.sl.r_42, trip_k0_t3.sl.v449, k0_pay104, k0_pay111, k0_pay71, k0_pay61, k0_pay127, trip_k0_t3.sl.v447, trip_k0_t3.sl.r_68, k0_pay145, trip_k0_t3.sl.r_47, k0_pay47._proof_1, trip_k0_t3.sl.v431, k0_pay148, k0_pay119, trip_k0_t3.sl.r_15, k0_pay92, trip_k0_t3.sl.r_5, k0_pay58, trip_k0_t3.sl.v436, k0_pay118, k0_pay117, trip_k0_t3.sl.v443, k0_pay147, k0_pay62, k0_pay152, k0_pay131, trip_k0_t3.sl.r_20, k0_pay63, trip_k0_t3.sl.v427, trip_k0_t3.sl.r_65, k0_pay79, k0_pay107, trip_k0_t3.sl.r_63, trip_k0_t3.sl.r_41, k0_pay109, k0_pay106, trip_k0_t3.sl.r_36, k0_pay113, trip_k0_t3.sl.r_37, k0_pay97, k0_pay553, trip_k0_t3.sl.r, trip_k0_t3.sl.v450, k0_pay65, trip_k0_t3.sl.r_17, trip_k0_t3.sl.v433, trip_k0_t3.sl.v420, k0_pay77, k0_pay549, trip_k0_t3.sl.r_4, k0_pay123, trip_k0_t3.sl.r_48, k0_pay550, trip_k0_t3.sl.r_39, trip_k0_t3.sl.v410, trip_k0_t3.sl.r_57, k0_pay103, k0_pay46, k0_pay101, k0_pay105, trip_k0_t3.sl.v446, k0_pay82, k0_pay102, k0_pay74, trip_k0_t3.sl.v448, k0_pay99, k0_pay47, trip_k0_t3.sl.r_72, trip_k0_t3.sl.r_29, k0_pay124, trip_k0_t3.sl.r_38, trip_k0_t3.sl.r_67, trip_k0_t3.sl.r_3, trip_k0_t3.sl.r_59, k0_pay551, trip_k0_t3.sl.v429, trip_k0_t3.sl.v416, trip_k0_t3.sl.r_61, trip_k0_t3.sl.v417, k0_pay49, trip_k0_t3.sl.v445, k0_pay72, k0_pay89, trip_k0_t3.sl.r_1]
  · exact score_at (k := k.1) hv (h.key_lt k) (h.lt k) hb (n := 7) (m := 448) (by decide) (by decide)
      (off8_eq h k) (off9_eq h k ⟨7, by decide⟩) (off10_eq h k ⟨7, by decide⟩)
      (c := 3) (by decide) ⟨448 + r.1, by have := r.2; omega⟩ r l ⟨384 + l.1, by have := l.2; omega⟩ rfl rfl (hq3 l) (hd3 l) (by simp only []; omega) (by omega)
  · exact score_at (k := k.1) hv (h.key_lt k) (h.lt k) hb (n := 7) (m := 448) (by decide) (by decide)
      (off8_eq h k) (off9_eq h k ⟨7, by decide⟩) (off10_eq h k ⟨7, by decide⟩)
      (c := 2) (by decide) ⟨448 + r.1, by have := r.2; omega⟩ r l ⟨256 + l.1, by have := l.2; omega⟩ rfl rfl (hq2 l) (hd2 l) (by simp only []; omega) (by omega)
  · exact score_at (k := k.1) hv (h.key_lt k) (h.lt k) hb (n := 7) (m := 448) (by decide) (by decide)
      (off8_eq h k) (off9_eq h k ⟨7, by decide⟩) (off10_eq h k ⟨7, by decide⟩)
      (c := 1) (by decide) ⟨448 + r.1, by have := r.2; omega⟩ r l ⟨128 + l.1, by have := l.2; omega⟩ rfl rfl (hq1 l) (hd1 l) (by simp only []; omega) (by omega)
  · exact score_at (k := k.1) hv (h.key_lt k) (h.lt k) hb (n := 7) (m := 448) (by decide) (by decide)
      (off8_eq h k) (off9_eq h k ⟨7, by decide⟩) (off10_eq h k ⟨7, by decide⟩)
      (c := 0) (by decide) ⟨448 + r.1, by have := r.2; omega⟩ r l ⟨l.1, by have := l.2; omega⟩ rfl (Nat.zero_add _).symm (hq0 l) (hd0 l) (by simp only []; omega) (by omega)
  · exact score_at (k := k.1) hv (h.key_lt k) (h.lt k) hb (n := 6) (m := 384) (by decide) (by decide)
      (off8_eq h k) (off9_eq h k ⟨6, by decide⟩) (off10_eq h k ⟨6, by decide⟩)
      (c := 3) (by decide) ⟨384 + r.1, by have := r.2; omega⟩ r l ⟨384 + l.1, by have := l.2; omega⟩ rfl rfl (hq3 l) (hd3 l) (by simp only []; omega) (by omega)
  · exact score_at (k := k.1) hv (h.key_lt k) (h.lt k) hb (n := 6) (m := 384) (by decide) (by decide)
      (off8_eq h k) (off9_eq h k ⟨6, by decide⟩) (off10_eq h k ⟨6, by decide⟩)
      (c := 2) (by decide) ⟨384 + r.1, by have := r.2; omega⟩ r l ⟨256 + l.1, by have := l.2; omega⟩ rfl rfl (hq2 l) (hd2 l) (by simp only []; omega) (by omega)
  · exact score_at (k := k.1) hv (h.key_lt k) (h.lt k) hb (n := 6) (m := 384) (by decide) (by decide)
      (off8_eq h k) (off9_eq h k ⟨6, by decide⟩) (off10_eq h k ⟨6, by decide⟩)
      (c := 1) (by decide) ⟨384 + r.1, by have := r.2; omega⟩ r l ⟨128 + l.1, by have := l.2; omega⟩ rfl rfl (hq1 l) (hd1 l) (by simp only []; omega) (by omega)
  · exact score_at (k := k.1) hv (h.key_lt k) (h.lt k) hb (n := 6) (m := 384) (by decide) (by decide)
      (off8_eq h k) (off9_eq h k ⟨6, by decide⟩) (off10_eq h k ⟨6, by decide⟩)
      (c := 0) (by decide) ⟨384 + r.1, by have := r.2; omega⟩ r l ⟨l.1, by have := l.2; omega⟩ rfl (Nat.zero_add _).symm (hq0 l) (hd0 l) (by simp only []; omega) (by omega)
  · exact score_at (k := k.1) hv (h.key_lt k) (h.lt k) hb (n := 5) (m := 320) (by decide) (by decide)
      (off8_eq h k) (off9_eq h k ⟨5, by decide⟩) (off10_eq h k ⟨5, by decide⟩)
      (c := 3) (by decide) ⟨320 + r.1, by have := r.2; omega⟩ r l ⟨384 + l.1, by have := l.2; omega⟩ rfl rfl (hq3 l) (hd3 l) (by simp only []; omega) (by omega)
  · exact score_at (k := k.1) hv (h.key_lt k) (h.lt k) hb (n := 5) (m := 320) (by decide) (by decide)
      (off8_eq h k) (off9_eq h k ⟨5, by decide⟩) (off10_eq h k ⟨5, by decide⟩)
      (c := 2) (by decide) ⟨320 + r.1, by have := r.2; omega⟩ r l ⟨256 + l.1, by have := l.2; omega⟩ rfl rfl (hq2 l) (hd2 l) (by simp only []; omega) (by omega)
  · exact score_at (k := k.1) hv (h.key_lt k) (h.lt k) hb (n := 5) (m := 320) (by decide) (by decide)
      (off8_eq h k) (off9_eq h k ⟨5, by decide⟩) (off10_eq h k ⟨5, by decide⟩)
      (c := 1) (by decide) ⟨320 + r.1, by have := r.2; omega⟩ r l ⟨128 + l.1, by have := l.2; omega⟩ rfl rfl (hq1 l) (hd1 l) (by simp only []; omega) (by omega)
  · exact score_at (k := k.1) hv (h.key_lt k) (h.lt k) hb (n := 5) (m := 320) (by decide) (by decide)
      (off8_eq h k) (off9_eq h k ⟨5, by decide⟩) (off10_eq h k ⟨5, by decide⟩)
      (c := 0) (by decide) ⟨320 + r.1, by have := r.2; omega⟩ r l ⟨l.1, by have := l.2; omega⟩ rfl (Nat.zero_add _).symm (hq0 l) (hd0 l) (by simp only []; omega) (by omega)
  · exact score_at (k := k.1) hv (h.key_lt k) (h.lt k) hb (n := 4) (m := 256) (by decide) (by decide)
      (off8_eq h k) (off9_eq h k ⟨4, by decide⟩) (off10_eq h k ⟨4, by decide⟩)
      (c := 3) (by decide) ⟨256 + r.1, by have := r.2; omega⟩ r l ⟨384 + l.1, by have := l.2; omega⟩ rfl rfl (hq3 l) (hd3 l) (by simp only []; omega) (by omega)
  · exact score_at (k := k.1) hv (h.key_lt k) (h.lt k) hb (n := 4) (m := 256) (by decide) (by decide)
      (off8_eq h k) (off9_eq h k ⟨4, by decide⟩) (off10_eq h k ⟨4, by decide⟩)
      (c := 2) (by decide) ⟨256 + r.1, by have := r.2; omega⟩ r l ⟨256 + l.1, by have := l.2; omega⟩ rfl rfl (hq2 l) (hd2 l) (by simp only []; omega) (by omega)
  · exact score_at (k := k.1) hv (h.key_lt k) (h.lt k) hb (n := 4) (m := 256) (by decide) (by decide)
      (off8_eq h k) (off9_eq h k ⟨4, by decide⟩) (off10_eq h k ⟨4, by decide⟩)
      (c := 1) (by decide) ⟨256 + r.1, by have := r.2; omega⟩ r l ⟨128 + l.1, by have := l.2; omega⟩ rfl rfl (hq1 l) (hd1 l) (by simp only []; omega) (by omega)
  · exact score_at (k := k.1) hv (h.key_lt k) (h.lt k) hb (n := 4) (m := 256) (by decide) (by decide)
      (off8_eq h k) (off9_eq h k ⟨4, by decide⟩) (off10_eq h k ⟨4, by decide⟩)
      (c := 0) (by decide) ⟨256 + r.1, by have := r.2; omega⟩ r l ⟨l.1, by have := l.2; omega⟩ rfl (Nat.zero_add _).symm (hq0 l) (hd0 l) (by simp only []; omega) (by omega)
  · exact score_at (k := k.1) hv (h.key_lt k) (h.lt k) hb (n := 3) (m := 192) (by decide) (by decide)
      (off8_eq h k) (off9_eq h k ⟨3, by decide⟩) (off10_eq h k ⟨3, by decide⟩)
      (c := 3) (by decide) ⟨192 + r.1, by have := r.2; omega⟩ r l ⟨384 + l.1, by have := l.2; omega⟩ rfl rfl (hq3 l) (hd3 l) (by simp only []; omega) (by omega)
  · exact score_at (k := k.1) hv (h.key_lt k) (h.lt k) hb (n := 3) (m := 192) (by decide) (by decide)
      (off8_eq h k) (off9_eq h k ⟨3, by decide⟩) (off10_eq h k ⟨3, by decide⟩)
      (c := 2) (by decide) ⟨192 + r.1, by have := r.2; omega⟩ r l ⟨256 + l.1, by have := l.2; omega⟩ rfl rfl (hq2 l) (hd2 l) (by simp only []; omega) (by omega)
  · exact score_at (k := k.1) hv (h.key_lt k) (h.lt k) hb (n := 3) (m := 192) (by decide) (by decide)
      (off8_eq h k) (off9_eq h k ⟨3, by decide⟩) (off10_eq h k ⟨3, by decide⟩)
      (c := 1) (by decide) ⟨192 + r.1, by have := r.2; omega⟩ r l ⟨128 + l.1, by have := l.2; omega⟩ rfl rfl (hq1 l) (hd1 l) (by simp only []; omega) (by omega)
  · exact score_at (k := k.1) hv (h.key_lt k) (h.lt k) hb (n := 3) (m := 192) (by decide) (by decide)
      (off8_eq h k) (off9_eq h k ⟨3, by decide⟩) (off10_eq h k ⟨3, by decide⟩)
      (c := 0) (by decide) ⟨192 + r.1, by have := r.2; omega⟩ r l ⟨l.1, by have := l.2; omega⟩ rfl (Nat.zero_add _).symm (hq0 l) (hd0 l) (by simp only []; omega) (by omega)
  · exact score_at (k := k.1) hv (h.key_lt k) (h.lt k) hb (n := 2) (m := 128) (by decide) (by decide)
      (off8_eq h k) (off9_eq h k ⟨2, by decide⟩) (off10_eq h k ⟨2, by decide⟩)
      (c := 3) (by decide) ⟨128 + r.1, by have := r.2; omega⟩ r l ⟨384 + l.1, by have := l.2; omega⟩ rfl rfl (hq3 l) (hd3 l) (by simp only []; omega) (by omega)
  · exact score_at (k := k.1) hv (h.key_lt k) (h.lt k) hb (n := 2) (m := 128) (by decide) (by decide)
      (off8_eq h k) (off9_eq h k ⟨2, by decide⟩) (off10_eq h k ⟨2, by decide⟩)
      (c := 2) (by decide) ⟨128 + r.1, by have := r.2; omega⟩ r l ⟨256 + l.1, by have := l.2; omega⟩ rfl rfl (hq2 l) (hd2 l) (by simp only []; omega) (by omega)
  · exact score_at (k := k.1) hv (h.key_lt k) (h.lt k) hb (n := 2) (m := 128) (by decide) (by decide)
      (off8_eq h k) (off9_eq h k ⟨2, by decide⟩) (off10_eq h k ⟨2, by decide⟩)
      (c := 1) (by decide) ⟨128 + r.1, by have := r.2; omega⟩ r l ⟨128 + l.1, by have := l.2; omega⟩ rfl rfl (hq1 l) (hd1 l) (by simp only []; omega) (by omega)
  · exact score_at (k := k.1) hv (h.key_lt k) (h.lt k) hb (n := 2) (m := 128) (by decide) (by decide)
      (off8_eq h k) (off9_eq h k ⟨2, by decide⟩) (off10_eq h k ⟨2, by decide⟩)
      (c := 0) (by decide) ⟨128 + r.1, by have := r.2; omega⟩ r l ⟨l.1, by have := l.2; omega⟩ rfl (Nat.zero_add _).symm (hq0 l) (hd0 l) (by simp only []; omega) (by omega)
  · exact score_at (k := k.1) hv (h.key_lt k) (h.lt k) hb (n := 1) (m := 64) (by decide) (by decide)
      (off8_eq h k) (off9_eq h k ⟨1, by decide⟩) (off10_eq h k ⟨1, by decide⟩)
      (c := 3) (by decide) ⟨64 + r.1, by have := r.2; omega⟩ r l ⟨384 + l.1, by have := l.2; omega⟩ rfl rfl (hq3 l) (hd3 l) (by simp only []; omega) (by omega)
  · exact score_at (k := k.1) hv (h.key_lt k) (h.lt k) hb (n := 1) (m := 64) (by decide) (by decide)
      (off8_eq h k) (off9_eq h k ⟨1, by decide⟩) (off10_eq h k ⟨1, by decide⟩)
      (c := 2) (by decide) ⟨64 + r.1, by have := r.2; omega⟩ r l ⟨256 + l.1, by have := l.2; omega⟩ rfl rfl (hq2 l) (hd2 l) (by simp only []; omega) (by omega)
  · exact score_at (k := k.1) hv (h.key_lt k) (h.lt k) hb (n := 1) (m := 64) (by decide) (by decide)
      (off8_eq h k) (off9_eq h k ⟨1, by decide⟩) (off10_eq h k ⟨1, by decide⟩)
      (c := 1) (by decide) ⟨64 + r.1, by have := r.2; omega⟩ r l ⟨128 + l.1, by have := l.2; omega⟩ rfl rfl (hq1 l) (hd1 l) (by simp only []; omega) (by omega)
  · exact score_at (k := k.1) hv (h.key_lt k) (h.lt k) hb (n := 1) (m := 64) (by decide) (by decide)
      (off8_eq h k) (off9_eq h k ⟨1, by decide⟩) (off10_eq h k ⟨1, by decide⟩)
      (c := 0) (by decide) ⟨64 + r.1, by have := r.2; omega⟩ r l ⟨l.1, by have := l.2; omega⟩ rfl (Nat.zero_add _).symm (hq0 l) (hd0 l) (by simp only []; omega) (by omega)
  · exact score_at (k := k.1) hv (h.key_lt k) (h.lt k) hb (n := 0) (m := 0) (by decide) (by decide)
      (off8_eq h k) (off9_eq h k ⟨0, by decide⟩) (off10_eq h k ⟨0, by decide⟩)
      (c := 3) (by decide) ⟨r.1, by have := r.2; omega⟩ r l ⟨384 + l.1, by have := l.2; omega⟩ (Nat.zero_add _).symm rfl (hq3 l) (hd3 l) (by simp only []; omega) (by omega)
  · exact score_at (k := k.1) hv (h.key_lt k) (h.lt k) hb (n := 0) (m := 0) (by decide) (by decide)
      (off8_eq h k) (off9_eq h k ⟨0, by decide⟩) (off10_eq h k ⟨0, by decide⟩)
      (c := 2) (by decide) ⟨r.1, by have := r.2; omega⟩ r l ⟨256 + l.1, by have := l.2; omega⟩ (Nat.zero_add _).symm rfl (hq2 l) (hd2 l) (by simp only []; omega) (by omega)
  · exact score_at (k := k.1) hv (h.key_lt k) (h.lt k) hb (n := 0) (m := 0) (by decide) (by decide)
      (off8_eq h k) (off9_eq h k ⟨0, by decide⟩) (off10_eq h k ⟨0, by decide⟩)
      (c := 1) (by decide) ⟨r.1, by have := r.2; omega⟩ r l ⟨128 + l.1, by have := l.2; omega⟩ (Nat.zero_add _).symm rfl (hq1 l) (hd1 l) (by simp only []; omega) (by omega)
  · exact score_at (k := k.1) hv (h.key_lt k) (h.lt k) hb (n := 0) (m := 0) (by decide) (by decide)
      (off8_eq h k) (off9_eq h k ⟨0, by decide⟩) (off10_eq h k ⟨0, by decide⟩)
      (c := 0) (by decide) ⟨r.1, by have := r.2; omega⟩ r l ⟨l.1, by have := l.2; omega⟩ (Nat.zero_add _).symm (Nat.zero_add _).symm (hq0 l) (hd0 l) (by simp only []; omega) (by omega)

/-- The maxima of the columns of tile 0, after one more trip. -/
theorem score3_max0 (a : Fin 8) (l : Fin 128) :
    ((tripR_k0_t3 (F := Ideal) 𝒱 c bd i arg2 harg2 arg3 harg3 arg4 harg4 arg5 harg5 arg6 harg6 arg7 harg7 arg8 harg8 arg9 harg9 arg10 harg10 arg11 harg11 arg12 harg12 arg13 harg13 v3 v16 k0_hw1 v37 v40 v49 v57 v63 v69 v70 v73 v76 v78 v80 v82 X_arg3 X_arg8 X_arg13 k acc).1 (ix2 a l) : EReal) = tileMax (acc.1 (ix2 a l))
      (fun n x => scoreF (arg8.view.read (Elt Ideal) X_arg8) mq (arg3.view.read (Elt Ideal) X_arg3) v49 v3 qp ds (Words.base (grp i) (row0 v16) + (512 * k.1 + (64 * n + (x * 8 + a.1)))) (l.1)) := by
  unfold tripR_k0_t3 trip_k0_t3
  dsimp only
  pointwise [trip_k0_t3.sl.v444, trip_k0_t3.sl.r_52, trip_k0_t3.sl.r_22, trip_k0_t3.sl.r_23, k0_pay87, k0_pay146, trip_k0_t3.sl.r_70, k0_pay57, trip_k0_t3.sl.r_7, trip_k0_t3.sl.r_21, k0_pay134, k0_pay130, k0_pay88, k0_pay144, trip_k0_t3.sl.v442, trip_k0_t3.sl.v451, trip_k0_t3.sl.arg14, trip_k0_t3.sl.r_16, trip_k0_t3.sl.v411, trip_k0_t3.sl.r_32, k0_pay91, trip_k0_t3.sl.cst_331, k0_pay59, k0_pay120, trip_k0_t3.sl.r_43, trip_k0_t3.sl.v415, trip_k0_t3.sl.v437, k0_pay73, trip_k0_t3.sl.r_11, trip_k0_t3.sl.r_46, trip_k0_t3.sl.r_62, k0_pay132, k0_pay75, k0_pay116, trip_k0_t3.sl.r_28, k0_pay45, trip_k0_t3.sl.r_2, trip_k0_t3.sl.cst_248, trip_k0_t3.sl.r_42, trip_k0_t3.sl.v449, k0_pay104, k0_pay71, k0_pay61, trip_k0_t3.sl.v447, k0_pay145, k0_pay148, k0_pay58, trip_k0_t3.sl.v436, k0_pay118, k0_pay117, trip_k0_t3.sl.v443, k0_pay131, trip_k0_t3.sl.r_65, k0_pay106, trip_k0_t3.sl.r_37, trip_k0_t3.sl.r, trip_k0_t3.sl.v450, k0_pay77, k0_pay550, trip_k0_t3.sl.v410, trip_k0_t3.sl.r_57, k0_pay103, trip_k0_t3.sl.v446, k0_pay102, k0_pay74, trip_k0_t3.sl.v448, k0_pay47, trip_k0_t3.sl.r_67, trip_k0_t3.sl.r_61, trip_k0_t3.sl.v445, k0_pay72, k0_pay89]
  refine tileMax_congr _ (fun n x => scoreF (arg8.view.read (Elt Ideal) X_arg8) mq (arg3.view.read (Elt Ideal) X_arg3) v49 v3 qp ds (Words.base (grp i) (row0 v16) + (512 * k.1 + (64 * n + (x * 8 + a.1)))) (l.1))
    (fun x => ?_) (fun x => ?_) (fun x => ?_) (fun x => ?_) (fun x => ?_) (fun x => ?_) (fun x => ?_) (fun x => ?_)
  · have hx : x.1 * 8 + a.1 < 64 := by have := x.2; have := a.2; omega
    exact score_at (k := k.1) hv (h.key_lt k) (h.lt k) hb (n := 0) (m := 0) (by decide) (by decide)
      (off8_eq h k) (off9_eq h k ⟨0, by decide⟩) (off10_eq h k ⟨0, by decide⟩)
      (c := 0) (by decide) ⟨(x.1 * 8 + a.1), by omega⟩ ⟨x.1 * 8 + a.1, hx⟩ l ⟨l.1, by have := l.2; omega⟩ (Nat.zero_add _).symm (Nat.zero_add _).symm (hq0 l) (hd0 l) (by simp only []; omega) (by omega)
  · have hx : x.1 * 8 + a.1 < 64 := by have := x.2; have := a.2; omega
    exact score_at (k := k.1) hv (h.key_lt k) (h.lt k) hb (n := 1) (m := 64) (by decide) (by decide)
      (off8_eq h k) (off9_eq h k ⟨1, by decide⟩) (off10_eq h k ⟨1, by decide⟩)
      (c := 0) (by decide) ⟨64 + (x.1 * 8 + a.1), by omega⟩ ⟨x.1 * 8 + a.1, hx⟩ l ⟨l.1, by have := l.2; omega⟩ rfl (Nat.zero_add _).symm (hq0 l) (hd0 l) (by simp only []; omega) (by omega)
  · have hx : x.1 * 8 + a.1 < 64 := by have := x.2; have := a.2; omega
    exact score_at (k := k.1) hv (h.key_lt k) (h.lt k) hb (n := 2) (m := 128) (by decide) (by decide)
      (off8_eq h k) (off9_eq h k ⟨2, by decide⟩) (off10_eq h k ⟨2, by decide⟩)
      (c := 0) (by decide) ⟨128 + (x.1 * 8 + a.1), by omega⟩ ⟨x.1 * 8 + a.1, hx⟩ l ⟨l.1, by have := l.2; omega⟩ rfl (Nat.zero_add _).symm (hq0 l) (hd0 l) (by simp only []; omega) (by omega)
  · have hx : x.1 * 8 + a.1 < 64 := by have := x.2; have := a.2; omega
    exact score_at (k := k.1) hv (h.key_lt k) (h.lt k) hb (n := 3) (m := 192) (by decide) (by decide)
      (off8_eq h k) (off9_eq h k ⟨3, by decide⟩) (off10_eq h k ⟨3, by decide⟩)
      (c := 0) (by decide) ⟨192 + (x.1 * 8 + a.1), by omega⟩ ⟨x.1 * 8 + a.1, hx⟩ l ⟨l.1, by have := l.2; omega⟩ rfl (Nat.zero_add _).symm (hq0 l) (hd0 l) (by simp only []; omega) (by omega)
  · have hx : x.1 * 8 + a.1 < 64 := by have := x.2; have := a.2; omega
    exact score_at (k := k.1) hv (h.key_lt k) (h.lt k) hb (n := 4) (m := 256) (by decide) (by decide)
      (off8_eq h k) (off9_eq h k ⟨4, by decide⟩) (off10_eq h k ⟨4, by decide⟩)
      (c := 0) (by decide) ⟨256 + (x.1 * 8 + a.1), by omega⟩ ⟨x.1 * 8 + a.1, hx⟩ l ⟨l.1, by have := l.2; omega⟩ rfl (Nat.zero_add _).symm (hq0 l) (hd0 l) (by simp only []; omega) (by omega)
  · have hx : x.1 * 8 + a.1 < 64 := by have := x.2; have := a.2; omega
    exact score_at (k := k.1) hv (h.key_lt k) (h.lt k) hb (n := 5) (m := 320) (by decide) (by decide)
      (off8_eq h k) (off9_eq h k ⟨5, by decide⟩) (off10_eq h k ⟨5, by decide⟩)
      (c := 0) (by decide) ⟨320 + (x.1 * 8 + a.1), by omega⟩ ⟨x.1 * 8 + a.1, hx⟩ l ⟨l.1, by have := l.2; omega⟩ rfl (Nat.zero_add _).symm (hq0 l) (hd0 l) (by simp only []; omega) (by omega)
  · have hx : x.1 * 8 + a.1 < 64 := by have := x.2; have := a.2; omega
    exact score_at (k := k.1) hv (h.key_lt k) (h.lt k) hb (n := 6) (m := 384) (by decide) (by decide)
      (off8_eq h k) (off9_eq h k ⟨6, by decide⟩) (off10_eq h k ⟨6, by decide⟩)
      (c := 0) (by decide) ⟨384 + (x.1 * 8 + a.1), by omega⟩ ⟨x.1 * 8 + a.1, hx⟩ l ⟨l.1, by have := l.2; omega⟩ rfl (Nat.zero_add _).symm (hq0 l) (hd0 l) (by simp only []; omega) (by omega)
  · have hx : x.1 * 8 + a.1 < 64 := by have := x.2; have := a.2; omega
    exact score_at (k := k.1) hv (h.key_lt k) (h.lt k) hb (n := 7) (m := 448) (by decide) (by decide)
      (off8_eq h k) (off9_eq h k ⟨7, by decide⟩) (off10_eq h k ⟨7, by decide⟩)
      (c := 0) (by decide) ⟨448 + (x.1 * 8 + a.1), by omega⟩ ⟨x.1 * 8 + a.1, hx⟩ l ⟨l.1, by have := l.2; omega⟩ rfl (Nat.zero_add _).symm (hq0 l) (hd0 l) (by simp only []; omega) (by omega)

/-- The maxima of the columns of tile 1, after one more trip. -/
theorem score3_max1 (a : Fin 8) (l : Fin 128) :
    ((tripR_k0_t3 (F := Ideal) 𝒱 c bd i arg2 harg2 arg3 harg3 arg4 harg4 arg5 harg5 arg6 harg6 arg7 harg7 arg8 harg8 arg9 harg9 arg10 harg10 arg11 harg11 arg12 harg12 arg13 harg13 v3 v16 k0_hw1 v37 v40 v49 v57 v63 v69 v70 v73 v76 v78 v80 v82 X_arg3 X_arg8 X_arg13 k acc).2.1 (ix2 a l) : EReal) = tileMax (acc.2.1 (ix2 a l))
      (fun n x => scoreF (arg8.view.read (Elt Ideal) X_arg8) mq (arg3.view.read (Elt Ideal) X_arg3) v49 v3 qp ds (Words.base (grp i) (row0 v16) + (512 * k.1 + (64 * n + (x * 8 + a.1)))) (128 + l.1)) := by
  unfold tripR_k0_t3 trip_k0_t3
  dsimp only
  pointwise [trip_k0_t3.sl.r_40, trip_k0_t3.sl.v444, k0_pay48, trip_k0_t3.sl.r_71, k0_pay87, trip_k0_t3.sl.r_13, trip_k0_t3.sl.r_19, trip_k0_t3.sl.r_18, k0_pay57, trip_k0_t3.sl.r_24, k0_pay80, trip_k0_t3.sl.r_7, k0_pay64, k0_pay137, k0_pay130, k0_pay121, k0_pay88, k0_pay144, trip_k0_t3.sl.v442, trip_k0_t3.sl.r_53, trip_k0_t3.sl.r_60, trip_k0_t3.sl.arg14, trip_k0_t3.sl.r_16, trip_k0_t3.sl.v411, k0_pay94, trip_k0_t3.sl.v415, trip_k0_t3.sl.v437, trip_k0_t3.sl.r_33, k0_pay50, k0_pay78, trip_k0_t3.sl.r_46, trip_k0_t3.sl.r_54, k0_pay149, trip_k0_t3.sl.r_34, trip_k0_t3.sl.r_12, k0_pay151, trip_k0_t3.sl.r_44, k0_pay135, k0_pay116, trip_k0_t3.sl.r_58, trip_k0_t3.sl.r_28, trip_k0_t3.sl.cst_248, k0_pay71, k0_pay145, k0_pay92, k0_pay58, trip_k0_t3.sl.v436, k0_pay117, trip_k0_t3.sl.v443, k0_pay62, k0_pay152, k0_pay131, trip_k0_t3.sl.r_20, trip_k0_t3.sl.r_65, k0_pay107, trip_k0_t3.sl.r_63, trip_k0_t3.sl.r_41, k0_pay109, trip_k0_t3.sl.r_37, trip_k0_t3.sl.r, k0_pay123, trip_k0_t3.sl.r_39, trip_k0_t3.sl.v410, trip_k0_t3.sl.r_57, k0_pay103, k0_pay102, trip_k0_t3.sl.r_72, trip_k0_t3.sl.r_67, trip_k0_t3.sl.r_3, trip_k0_t3.sl.r_59, k0_pay551, trip_k0_t3.sl.v445, k0_pay72, trip_k0_t3.sl.r_1]
  refine tileMax_congr _ (fun n x => scoreF (arg8.view.read (Elt Ideal) X_arg8) mq (arg3.view.read (Elt Ideal) X_arg3) v49 v3 qp ds (Words.base (grp i) (row0 v16) + (512 * k.1 + (64 * n + (x * 8 + a.1)))) (128 + l.1))
    (fun x => ?_) (fun x => ?_) (fun x => ?_) (fun x => ?_) (fun x => ?_) (fun x => ?_) (fun x => ?_) (fun x => ?_)
  · have hx : x.1 * 8 + a.1 < 64 := by have := x.2; have := a.2; omega
    exact score_at (k := k.1) hv (h.key_lt k) (h.lt k) hb (n := 0) (m := 0) (by decide) (by decide)
      (off8_eq h k) (off9_eq h k ⟨0, by decide⟩) (off10_eq h k ⟨0, by decide⟩)
      (c := 1) (by decide) ⟨(x.1 * 8 + a.1), by omega⟩ ⟨x.1 * 8 + a.1, hx⟩ l ⟨128 + l.1, by have := l.2; omega⟩ (Nat.zero_add _).symm rfl (hq1 l) (hd1 l) (by simp only []; omega) (by omega)
  · have hx : x.1 * 8 + a.1 < 64 := by have := x.2; have := a.2; omega
    exact score_at (k := k.1) hv (h.key_lt k) (h.lt k) hb (n := 1) (m := 64) (by decide) (by decide)
      (off8_eq h k) (off9_eq h k ⟨1, by decide⟩) (off10_eq h k ⟨1, by decide⟩)
      (c := 1) (by decide) ⟨64 + (x.1 * 8 + a.1), by omega⟩ ⟨x.1 * 8 + a.1, hx⟩ l ⟨128 + l.1, by have := l.2; omega⟩ rfl rfl (hq1 l) (hd1 l) (by simp only []; omega) (by omega)
  · have hx : x.1 * 8 + a.1 < 64 := by have := x.2; have := a.2; omega
    exact score_at (k := k.1) hv (h.key_lt k) (h.lt k) hb (n := 2) (m := 128) (by decide) (by decide)
      (off8_eq h k) (off9_eq h k ⟨2, by decide⟩) (off10_eq h k ⟨2, by decide⟩)
      (c := 1) (by decide) ⟨128 + (x.1 * 8 + a.1), by omega⟩ ⟨x.1 * 8 + a.1, hx⟩ l ⟨128 + l.1, by have := l.2; omega⟩ rfl rfl (hq1 l) (hd1 l) (by simp only []; omega) (by omega)
  · have hx : x.1 * 8 + a.1 < 64 := by have := x.2; have := a.2; omega
    exact score_at (k := k.1) hv (h.key_lt k) (h.lt k) hb (n := 3) (m := 192) (by decide) (by decide)
      (off8_eq h k) (off9_eq h k ⟨3, by decide⟩) (off10_eq h k ⟨3, by decide⟩)
      (c := 1) (by decide) ⟨192 + (x.1 * 8 + a.1), by omega⟩ ⟨x.1 * 8 + a.1, hx⟩ l ⟨128 + l.1, by have := l.2; omega⟩ rfl rfl (hq1 l) (hd1 l) (by simp only []; omega) (by omega)
  · have hx : x.1 * 8 + a.1 < 64 := by have := x.2; have := a.2; omega
    exact score_at (k := k.1) hv (h.key_lt k) (h.lt k) hb (n := 4) (m := 256) (by decide) (by decide)
      (off8_eq h k) (off9_eq h k ⟨4, by decide⟩) (off10_eq h k ⟨4, by decide⟩)
      (c := 1) (by decide) ⟨256 + (x.1 * 8 + a.1), by omega⟩ ⟨x.1 * 8 + a.1, hx⟩ l ⟨128 + l.1, by have := l.2; omega⟩ rfl rfl (hq1 l) (hd1 l) (by simp only []; omega) (by omega)
  · have hx : x.1 * 8 + a.1 < 64 := by have := x.2; have := a.2; omega
    exact score_at (k := k.1) hv (h.key_lt k) (h.lt k) hb (n := 5) (m := 320) (by decide) (by decide)
      (off8_eq h k) (off9_eq h k ⟨5, by decide⟩) (off10_eq h k ⟨5, by decide⟩)
      (c := 1) (by decide) ⟨320 + (x.1 * 8 + a.1), by omega⟩ ⟨x.1 * 8 + a.1, hx⟩ l ⟨128 + l.1, by have := l.2; omega⟩ rfl rfl (hq1 l) (hd1 l) (by simp only []; omega) (by omega)
  · have hx : x.1 * 8 + a.1 < 64 := by have := x.2; have := a.2; omega
    exact score_at (k := k.1) hv (h.key_lt k) (h.lt k) hb (n := 6) (m := 384) (by decide) (by decide)
      (off8_eq h k) (off9_eq h k ⟨6, by decide⟩) (off10_eq h k ⟨6, by decide⟩)
      (c := 1) (by decide) ⟨384 + (x.1 * 8 + a.1), by omega⟩ ⟨x.1 * 8 + a.1, hx⟩ l ⟨128 + l.1, by have := l.2; omega⟩ rfl rfl (hq1 l) (hd1 l) (by simp only []; omega) (by omega)
  · have hx : x.1 * 8 + a.1 < 64 := by have := x.2; have := a.2; omega
    exact score_at (k := k.1) hv (h.key_lt k) (h.lt k) hb (n := 7) (m := 448) (by decide) (by decide)
      (off8_eq h k) (off9_eq h k ⟨7, by decide⟩) (off10_eq h k ⟨7, by decide⟩)
      (c := 1) (by decide) ⟨448 + (x.1 * 8 + a.1), by omega⟩ ⟨x.1 * 8 + a.1, hx⟩ l ⟨128 + l.1, by have := l.2; omega⟩ rfl rfl (hq1 l) (hd1 l) (by simp only []; omega) (by omega)

/-- The maxima of the columns of tile 2, after one more trip. -/
theorem score3_max2 (a : Fin 8) (l : Fin 128) :
    ((tripR_k0_t3 (F := Ideal) 𝒱 c bd i arg2 harg2 arg3 harg3 arg4 harg4 arg5 harg5 arg6 harg6 arg7 harg7 arg8 harg8 arg9 harg9 arg10 harg10 arg11 harg11 arg12 harg12 arg13 harg13 v3 v16 k0_hw1 v37 v40 v49 v57 v63 v69 v70 v73 v76 v78 v80 v82 X_arg3 X_arg8 X_arg13 k acc).2.2.1 (ix2 a l) : EReal) = tileMax (acc.2.2.1 (ix2 a l))
      (fun n x => scoreF (arg8.view.read (Elt Ideal) X_arg8) mq (arg3.view.read (Elt Ideal) X_arg3) v49 v3 qp ds (Words.base (grp i) (row0 v16) + (512 * k.1 + (64 * n + (x * 8 + a.1)))) (256 + l.1)) := by
  unfold tripR_k0_t3 trip_k0_t3
  dsimp only
  pointwise [k0_pay95, trip_k0_t3.sl.r_40, trip_k0_t3.sl.v444, trip_k0_t3.sl.r_69, k0_pay87, k0_pay112, trip_k0_t3.sl.r_19, k0_pay53, trip_k0_t3.sl.r_18, trip_k0_t3.sl.r_49, k0_pay57, trip_k0_t3.sl.r_7, k0_pay81, k0_pay130, trip_k0_t3.sl.r_51, k0_pay88, k0_pay144, trip_k0_t3.sl.r_45, trip_k0_t3.sl.v442, trip_k0_t3.sl.r_50, trip_k0_t3.sl.r_64, trip_k0_t3.sl.r_60, trip_k0_t3.sl.arg14, k0_pay155, k0_pay126, trip_k0_t3.sl.r_16, k0_pay140, trip_k0_t3.sl.v411, trip_k0_t3.sl.r_55, trip_k0_t3.sl.r_30, trip_k0_t3.sl.r_8, k0_pay552, k0_pay138, trip_k0_t3.sl.r_10, k0_pay67, k0_pay110, trip_k0_t3.sl.v415, trip_k0_t3.sl.r_25, trip_k0_t3.sl.v437, trip_k0_t3.sl.r_35, trip_k0_t3.sl.r_46, k0_pay51, trip_k0_t3.sl.r_31, k0_pay116, trip_k0_t3.sl.r_58, trip_k0_t3.sl.r_28, trip_k0_t3.sl.r_9, k0_pay153, trip_k0_t3.sl.r_73, trip_k0_t3.sl.r_26, trip_k0_t3.sl.r_14, k0_pay83, trip_k0_t3.sl.cst_248, k0_pay71, trip_k0_t3.sl.r_68, k0_pay145, trip_k0_t3.sl.r_47, trip_k0_t3.sl.r_5, k0_pay58, trip_k0_t3.sl.v436, k0_pay117, trip_k0_t3.sl.v443, k0_pay131, trip_k0_t3.sl.r_20, trip_k0_t3.sl.r_65, trip_k0_t3.sl.r_41, trip_k0_t3.sl.r_37, k0_pay97, trip_k0_t3.sl.r, k0_pay65, trip_k0_t3.sl.r_4, trip_k0_t3.sl.r_39, trip_k0_t3.sl.v410, trip_k0_t3.sl.r_57, k0_pay103, k0_pay102, trip_k0_t3.sl.r_29, k0_pay124, trip_k0_t3.sl.r_67, trip_k0_t3.sl.r_59, trip_k0_t3.sl.v445, k0_pay72, trip_k0_t3.sl.r_1]
  refine tileMax_congr _ (fun n x => scoreF (arg8.view.read (Elt Ideal) X_arg8) mq (arg3.view.read (Elt Ideal) X_arg3) v49 v3 qp ds (Words.base (grp i) (row0 v16) + (512 * k.1 + (64 * n + (x * 8 + a.1)))) (256 + l.1))
    (fun x => ?_) (fun x => ?_) (fun x => ?_) (fun x => ?_) (fun x => ?_) (fun x => ?_) (fun x => ?_) (fun x => ?_)
  · have hx : x.1 * 8 + a.1 < 64 := by have := x.2; have := a.2; omega
    exact score_at (k := k.1) hv (h.key_lt k) (h.lt k) hb (n := 0) (m := 0) (by decide) (by decide)
      (off8_eq h k) (off9_eq h k ⟨0, by decide⟩) (off10_eq h k ⟨0, by decide⟩)
      (c := 2) (by decide) ⟨(x.1 * 8 + a.1), by omega⟩ ⟨x.1 * 8 + a.1, hx⟩ l ⟨256 + l.1, by have := l.2; omega⟩ (Nat.zero_add _).symm rfl (hq2 l) (hd2 l) (by simp only []; omega) (by omega)
  · have hx : x.1 * 8 + a.1 < 64 := by have := x.2; have := a.2; omega
    exact score_at (k := k.1) hv (h.key_lt k) (h.lt k) hb (n := 1) (m := 64) (by decide) (by decide)
      (off8_eq h k) (off9_eq h k ⟨1, by decide⟩) (off10_eq h k ⟨1, by decide⟩)
      (c := 2) (by decide) ⟨64 + (x.1 * 8 + a.1), by omega⟩ ⟨x.1 * 8 + a.1, hx⟩ l ⟨256 + l.1, by have := l.2; omega⟩ rfl rfl (hq2 l) (hd2 l) (by simp only []; omega) (by omega)
  · have hx : x.1 * 8 + a.1 < 64 := by have := x.2; have := a.2; omega
    exact score_at (k := k.1) hv (h.key_lt k) (h.lt k) hb (n := 2) (m := 128) (by decide) (by decide)
      (off8_eq h k) (off9_eq h k ⟨2, by decide⟩) (off10_eq h k ⟨2, by decide⟩)
      (c := 2) (by decide) ⟨128 + (x.1 * 8 + a.1), by omega⟩ ⟨x.1 * 8 + a.1, hx⟩ l ⟨256 + l.1, by have := l.2; omega⟩ rfl rfl (hq2 l) (hd2 l) (by simp only []; omega) (by omega)
  · have hx : x.1 * 8 + a.1 < 64 := by have := x.2; have := a.2; omega
    exact score_at (k := k.1) hv (h.key_lt k) (h.lt k) hb (n := 3) (m := 192) (by decide) (by decide)
      (off8_eq h k) (off9_eq h k ⟨3, by decide⟩) (off10_eq h k ⟨3, by decide⟩)
      (c := 2) (by decide) ⟨192 + (x.1 * 8 + a.1), by omega⟩ ⟨x.1 * 8 + a.1, hx⟩ l ⟨256 + l.1, by have := l.2; omega⟩ rfl rfl (hq2 l) (hd2 l) (by simp only []; omega) (by omega)
  · have hx : x.1 * 8 + a.1 < 64 := by have := x.2; have := a.2; omega
    exact score_at (k := k.1) hv (h.key_lt k) (h.lt k) hb (n := 4) (m := 256) (by decide) (by decide)
      (off8_eq h k) (off9_eq h k ⟨4, by decide⟩) (off10_eq h k ⟨4, by decide⟩)
      (c := 2) (by decide) ⟨256 + (x.1 * 8 + a.1), by omega⟩ ⟨x.1 * 8 + a.1, hx⟩ l ⟨256 + l.1, by have := l.2; omega⟩ rfl rfl (hq2 l) (hd2 l) (by simp only []; omega) (by omega)
  · have hx : x.1 * 8 + a.1 < 64 := by have := x.2; have := a.2; omega
    exact score_at (k := k.1) hv (h.key_lt k) (h.lt k) hb (n := 5) (m := 320) (by decide) (by decide)
      (off8_eq h k) (off9_eq h k ⟨5, by decide⟩) (off10_eq h k ⟨5, by decide⟩)
      (c := 2) (by decide) ⟨320 + (x.1 * 8 + a.1), by omega⟩ ⟨x.1 * 8 + a.1, hx⟩ l ⟨256 + l.1, by have := l.2; omega⟩ rfl rfl (hq2 l) (hd2 l) (by simp only []; omega) (by omega)
  · have hx : x.1 * 8 + a.1 < 64 := by have := x.2; have := a.2; omega
    exact score_at (k := k.1) hv (h.key_lt k) (h.lt k) hb (n := 6) (m := 384) (by decide) (by decide)
      (off8_eq h k) (off9_eq h k ⟨6, by decide⟩) (off10_eq h k ⟨6, by decide⟩)
      (c := 2) (by decide) ⟨384 + (x.1 * 8 + a.1), by omega⟩ ⟨x.1 * 8 + a.1, hx⟩ l ⟨256 + l.1, by have := l.2; omega⟩ rfl rfl (hq2 l) (hd2 l) (by simp only []; omega) (by omega)
  · have hx : x.1 * 8 + a.1 < 64 := by have := x.2; have := a.2; omega
    exact score_at (k := k.1) hv (h.key_lt k) (h.lt k) hb (n := 7) (m := 448) (by decide) (by decide)
      (off8_eq h k) (off9_eq h k ⟨7, by decide⟩) (off10_eq h k ⟨7, by decide⟩)
      (c := 2) (by decide) ⟨448 + (x.1 * 8 + a.1), by omega⟩ ⟨x.1 * 8 + a.1, hx⟩ l ⟨256 + l.1, by have := l.2; omega⟩ rfl rfl (hq2 l) (hd2 l) (by simp only []; omega) (by omega)

/-- The maxima of the columns of tile 3, after one more trip. -/
theorem score3_max3 (a : Fin 8) (l : Fin 128) :
    ((tripR_k0_t3 (F := Ideal) 𝒱 c bd i arg2 harg2 arg3 harg3 arg4 harg4 arg5 harg5 arg6 harg6 arg7 harg7 arg8 harg8 arg9 harg9 arg10 harg10 arg11 harg11 arg12 harg12 arg13 harg13 v3 v16 k0_hw1 v37 v40 v49 v57 v63 v69 v70 v73 v76 v78 v80 v82 X_arg3 X_arg8 X_arg13 k acc).2.2.2 (ix2 a l) : EReal) = tileMax (acc.2.2.2 (ix2 a l))
      (fun n x => scoreF (arg8.view.read (Elt Ideal) X_arg8) mq (arg3.view.read (Elt Ideal) X_arg3) v49 v3 qp ds (Words.base (grp i) (row0 v16) + (512 * k.1 + (64 * n + (x * 8 + a.1)))) (384 + l.1)) := by
  unfold tripR_k0_t3 trip_k0_t3
  dsimp only
  pointwise [trip_k0_t3.sl.r_40, trip_k0_t3.sl.v444, trip_k0_t3.sl.r_69, k0_pay87, k0_pay98, k0_pay143, trip_k0_t3.sl.r_19, trip_k0_t3.sl.r_18, k0_pay84, trip_k0_t3.sl.r_49, k0_pay57, k0_pay86, k0_pay70, trip_k0_t3.sl.r_7, k0_pay130, trip_k0_t3.sl.r_51, k0_pay88, k0_pay144, trip_k0_t3.sl.v442, trip_k0_t3.sl.r_50, k0_pay115, trip_k0_t3.sl.r_56, trip_k0_t3.sl.r_60, trip_k0_t3.sl.arg14, k0_pay129, trip_k0_t3.sl.r_16, k0_pay141, trip_k0_t3.sl.v411, k0_pay156, trip_k0_t3.sl.r_30, trip_k0_t3.sl.r_8, k0_pay68, trip_k0_t3.sl.r_10, k0_pay54, trip_k0_t3.sl.r_66, trip_k0_t3.sl.v415, k0_pay100, trip_k0_t3.sl.v437, trip_k0_t3.sl.r_6, trip_k0_t3.sl.r_74, trip_k0_t3.sl.r_46, trip_k0_t3.sl.r_31, k0_pay116, trip_k0_t3.sl.r_58, trip_k0_t3.sl.r_28, trip_k0_t3.sl.r_9, k0_pay56, trip_k0_t3.sl.r_27, trip_k0_t3.sl.cst_248, k0_pay559, k0_pay71, k0_pay127, trip_k0_t3.sl.r_68, k0_pay145, trip_k0_t3.sl.r_15, k0_pay58, trip_k0_t3.sl.v436, k0_pay117, trip_k0_t3.sl.v443, k0_pay131, trip_k0_t3.sl.r_20, trip_k0_t3.sl.r_65, trip_k0_t3.sl.r_41, trip_k0_t3.sl.r_36, k0_pay113, trip_k0_t3.sl.r_37, k0_pay553, trip_k0_t3.sl.r, trip_k0_t3.sl.r_17, k0_pay549, trip_k0_t3.sl.r_48, trip_k0_t3.sl.r_39, trip_k0_t3.sl.v410, trip_k0_t3.sl.r_57, k0_pay103, k0_pay101, k0_pay102, trip_k0_t3.sl.r_29, trip_k0_t3.sl.r_38, trip_k0_t3.sl.r_67, trip_k0_t3.sl.r_59, trip_k0_t3.sl.v445, k0_pay72, trip_k0_t3.sl.r_1]
  refine tileMax_congr _ (fun n x => scoreF (arg8.view.read (Elt Ideal) X_arg8) mq (arg3.view.read (Elt Ideal) X_arg3) v49 v3 qp ds (Words.base (grp i) (row0 v16) + (512 * k.1 + (64 * n + (x * 8 + a.1)))) (384 + l.1))
    (fun x => ?_) (fun x => ?_) (fun x => ?_) (fun x => ?_) (fun x => ?_) (fun x => ?_) (fun x => ?_) (fun x => ?_)
  · have hx : x.1 * 8 + a.1 < 64 := by have := x.2; have := a.2; omega
    exact score_at (k := k.1) hv (h.key_lt k) (h.lt k) hb (n := 0) (m := 0) (by decide) (by decide)
      (off8_eq h k) (off9_eq h k ⟨0, by decide⟩) (off10_eq h k ⟨0, by decide⟩)
      (c := 3) (by decide) ⟨(x.1 * 8 + a.1), by omega⟩ ⟨x.1 * 8 + a.1, hx⟩ l ⟨384 + l.1, by have := l.2; omega⟩ (Nat.zero_add _).symm rfl (hq3 l) (hd3 l) (by simp only []; omega) (by omega)
  · have hx : x.1 * 8 + a.1 < 64 := by have := x.2; have := a.2; omega
    exact score_at (k := k.1) hv (h.key_lt k) (h.lt k) hb (n := 1) (m := 64) (by decide) (by decide)
      (off8_eq h k) (off9_eq h k ⟨1, by decide⟩) (off10_eq h k ⟨1, by decide⟩)
      (c := 3) (by decide) ⟨64 + (x.1 * 8 + a.1), by omega⟩ ⟨x.1 * 8 + a.1, hx⟩ l ⟨384 + l.1, by have := l.2; omega⟩ rfl rfl (hq3 l) (hd3 l) (by simp only []; omega) (by omega)
  · have hx : x.1 * 8 + a.1 < 64 := by have := x.2; have := a.2; omega
    exact score_at (k := k.1) hv (h.key_lt k) (h.lt k) hb (n := 2) (m := 128) (by decide) (by decide)
      (off8_eq h k) (off9_eq h k ⟨2, by decide⟩) (off10_eq h k ⟨2, by decide⟩)
      (c := 3) (by decide) ⟨128 + (x.1 * 8 + a.1), by omega⟩ ⟨x.1 * 8 + a.1, hx⟩ l ⟨384 + l.1, by have := l.2; omega⟩ rfl rfl (hq3 l) (hd3 l) (by simp only []; omega) (by omega)
  · have hx : x.1 * 8 + a.1 < 64 := by have := x.2; have := a.2; omega
    exact score_at (k := k.1) hv (h.key_lt k) (h.lt k) hb (n := 3) (m := 192) (by decide) (by decide)
      (off8_eq h k) (off9_eq h k ⟨3, by decide⟩) (off10_eq h k ⟨3, by decide⟩)
      (c := 3) (by decide) ⟨192 + (x.1 * 8 + a.1), by omega⟩ ⟨x.1 * 8 + a.1, hx⟩ l ⟨384 + l.1, by have := l.2; omega⟩ rfl rfl (hq3 l) (hd3 l) (by simp only []; omega) (by omega)
  · have hx : x.1 * 8 + a.1 < 64 := by have := x.2; have := a.2; omega
    exact score_at (k := k.1) hv (h.key_lt k) (h.lt k) hb (n := 4) (m := 256) (by decide) (by decide)
      (off8_eq h k) (off9_eq h k ⟨4, by decide⟩) (off10_eq h k ⟨4, by decide⟩)
      (c := 3) (by decide) ⟨256 + (x.1 * 8 + a.1), by omega⟩ ⟨x.1 * 8 + a.1, hx⟩ l ⟨384 + l.1, by have := l.2; omega⟩ rfl rfl (hq3 l) (hd3 l) (by simp only []; omega) (by omega)
  · have hx : x.1 * 8 + a.1 < 64 := by have := x.2; have := a.2; omega
    exact score_at (k := k.1) hv (h.key_lt k) (h.lt k) hb (n := 5) (m := 320) (by decide) (by decide)
      (off8_eq h k) (off9_eq h k ⟨5, by decide⟩) (off10_eq h k ⟨5, by decide⟩)
      (c := 3) (by decide) ⟨320 + (x.1 * 8 + a.1), by omega⟩ ⟨x.1 * 8 + a.1, hx⟩ l ⟨384 + l.1, by have := l.2; omega⟩ rfl rfl (hq3 l) (hd3 l) (by simp only []; omega) (by omega)
  · have hx : x.1 * 8 + a.1 < 64 := by have := x.2; have := a.2; omega
    exact score_at (k := k.1) hv (h.key_lt k) (h.lt k) hb (n := 6) (m := 384) (by decide) (by decide)
      (off8_eq h k) (off9_eq h k ⟨6, by decide⟩) (off10_eq h k ⟨6, by decide⟩)
      (c := 3) (by decide) ⟨384 + (x.1 * 8 + a.1), by omega⟩ ⟨x.1 * 8 + a.1, hx⟩ l ⟨384 + l.1, by have := l.2; omega⟩ rfl rfl (hq3 l) (hd3 l) (by simp only []; omega) (by omega)
  · have hx : x.1 * 8 + a.1 < 64 := by have := x.2; have := a.2; omega
    exact score_at (k := k.1) hv (h.key_lt k) (h.lt k) hb (n := 7) (m := 448) (by decide) (by decide)
      (off8_eq h k) (off9_eq h k ⟨7, by decide⟩) (off10_eq h k ⟨7, by decide⟩)
      (c := 3) (by decide) ⟨448 + (x.1 * 8 + a.1), by omega⟩ ⟨x.1 * 8 + a.1, hx⟩ l ⟨384 + l.1, by have := l.2; omega⟩ rfl rfl (hq3 l) (hd3 l) (by simp only []; omega) (by omega)

end

/-- A trip of the loop writes all of its rows. -/
theorem score3_cover (k : Fin (k0_t3_loop i v16).trips) (acc :  FVec Ideal S8x128 .f32 × FVec Ideal S8x128 .f32 × FVec Ideal S8x128 .f32 × FVec Ideal S8x128 .f32) (h : Early i v16) (y : S16384x512.Idx) (hlo : 512 * k.1 ≤ (y 0).1) (hhi : (y 0).1 < 512 * k.1 + 512) :
    ∃ P ∈ tripL_k0_t3 (F := Ideal) 𝒱 c bd i arg2 harg2 arg3 harg3 arg4 harg4 arg5 harg5 arg6 harg6 arg7 harg7 arg8 harg8 arg9 harg9 arg10 harg10 arg11 harg11 arg12 harg12 arg13 harg13 v3 v16 k0_hw1 v37 v40 v49 v57 v63 v69 v70 v73 v76 v78 v80 v82 X_arg3 X_arg8 X_arg13 k acc, y ∈ P.1.set := by
  by_contra hno
  replace hno := fun P hP hy => hno ⟨P, hP, hy⟩
  unfold tripL_k0_t3 trip_k0_t3 at hno
  simp only [List.forall_mem_cons] at hno
  obtain ⟨h73, h72, h71, h70, h63, h62, h61, h60, h53, h52, h51, h50, h43, h42, h41, h40, h33, h32, h31, h30, h23, h22, h21, h20, h13, h12, h11, h10, h03, h02, h01, h00, -⟩ := hno
  have hy1 : (y 1).1 < 512 := (y 1).2
  have g00 : ¬ (512 * k.1 + 0 ≤ (y 0).1 ∧ (y 0).1 < 512 * k.1 + 0 + 64 ∧ 0 ≤ (y 1).1 ∧ (y 1).1 < 0 + 128) := fun hh => h00 (mem2 (off11_eq h k ⟨0, by decide⟩) y ⟨hh.1, hh.2.1⟩ hh.2.2)
  have g01 : ¬ (512 * k.1 + 0 ≤ (y 0).1 ∧ (y 0).1 < 512 * k.1 + 0 + 64 ∧ 128 ≤ (y 1).1 ∧ (y 1).1 < 128 + 128) := fun hh => h01 (mem2 (off12_eq h k ⟨0, by decide⟩) y ⟨hh.1, hh.2.1⟩ hh.2.2)
  have g02 : ¬ (512 * k.1 + 0 ≤ (y 0).1 ∧ (y 0).1 < 512 * k.1 + 0 + 64 ∧ 256 ≤ (y 1).1 ∧ (y 1).1 < 256 + 128) := fun hh => h02 (mem2 (off13_eq h k ⟨0, by decide⟩) y ⟨hh.1, hh.2.1⟩ hh.2.2)
  have g03 : ¬ (512 * k.1 + 0 ≤ (y 0).1 ∧ (y 0).1 < 512 * k.1 + 0 + 64 ∧ 384 ≤ (y 1).1 ∧ (y 1).1 < 384 + 128) := fun hh => h03 (mem2 (off14_eq h k ⟨0, by decide⟩) y ⟨hh.1, hh.2.1⟩ hh.2.2)
  have g10 : ¬ (512 * k.1 + 64 ≤ (y 0).1 ∧ (y 0).1 < 512 * k.1 + 64 + 64 ∧ 0 ≤ (y 1).1 ∧ (y 1).1 < 0 + 128) := fun hh => h10 (mem2 (off11_eq h k ⟨1, by decide⟩) y ⟨hh.1, hh.2.1⟩ hh.2.2)
  have g11 : ¬ (512 * k.1 + 64 ≤ (y 0).1 ∧ (y 0).1 < 512 * k.1 + 64 + 64 ∧ 128 ≤ (y 1).1 ∧ (y 1).1 < 128 + 128) := fun hh => h11 (mem2 (off12_eq h k ⟨1, by decide⟩) y ⟨hh.1, hh.2.1⟩ hh.2.2)
  have g12 : ¬ (512 * k.1 + 64 ≤ (y 0).1 ∧ (y 0).1 < 512 * k.1 + 64 + 64 ∧ 256 ≤ (y 1).1 ∧ (y 1).1 < 256 + 128) := fun hh => h12 (mem2 (off13_eq h k ⟨1, by decide⟩) y ⟨hh.1, hh.2.1⟩ hh.2.2)
  have g13 : ¬ (512 * k.1 + 64 ≤ (y 0).1 ∧ (y 0).1 < 512 * k.1 + 64 + 64 ∧ 384 ≤ (y 1).1 ∧ (y 1).1 < 384 + 128) := fun hh => h13 (mem2 (off14_eq h k ⟨1, by decide⟩) y ⟨hh.1, hh.2.1⟩ hh.2.2)
  have g20 : ¬ (512 * k.1 + 128 ≤ (y 0).1 ∧ (y 0).1 < 512 * k.1 + 128 + 64 ∧ 0 ≤ (y 1).1 ∧ (y 1).1 < 0 + 128) := fun hh => h20 (mem2 (off11_eq h k ⟨2, by decide⟩) y ⟨hh.1, hh.2.1⟩ hh.2.2)
  have g21 : ¬ (512 * k.1 + 128 ≤ (y 0).1 ∧ (y 0).1 < 512 * k.1 + 128 + 64 ∧ 128 ≤ (y 1).1 ∧ (y 1).1 < 128 + 128) := fun hh => h21 (mem2 (off12_eq h k ⟨2, by decide⟩) y ⟨hh.1, hh.2.1⟩ hh.2.2)
  have g22 : ¬ (512 * k.1 + 128 ≤ (y 0).1 ∧ (y 0).1 < 512 * k.1 + 128 + 64 ∧ 256 ≤ (y 1).1 ∧ (y 1).1 < 256 + 128) := fun hh => h22 (mem2 (off13_eq h k ⟨2, by decide⟩) y ⟨hh.1, hh.2.1⟩ hh.2.2)
  have g23 : ¬ (512 * k.1 + 128 ≤ (y 0).1 ∧ (y 0).1 < 512 * k.1 + 128 + 64 ∧ 384 ≤ (y 1).1 ∧ (y 1).1 < 384 + 128) := fun hh => h23 (mem2 (off14_eq h k ⟨2, by decide⟩) y ⟨hh.1, hh.2.1⟩ hh.2.2)
  have g30 : ¬ (512 * k.1 + 192 ≤ (y 0).1 ∧ (y 0).1 < 512 * k.1 + 192 + 64 ∧ 0 ≤ (y 1).1 ∧ (y 1).1 < 0 + 128) := fun hh => h30 (mem2 (off11_eq h k ⟨3, by decide⟩) y ⟨hh.1, hh.2.1⟩ hh.2.2)
  have g31 : ¬ (512 * k.1 + 192 ≤ (y 0).1 ∧ (y 0).1 < 512 * k.1 + 192 + 64 ∧ 128 ≤ (y 1).1 ∧ (y 1).1 < 128 + 128) := fun hh => h31 (mem2 (off12_eq h k ⟨3, by decide⟩) y ⟨hh.1, hh.2.1⟩ hh.2.2)
  have g32 : ¬ (512 * k.1 + 192 ≤ (y 0).1 ∧ (y 0).1 < 512 * k.1 + 192 + 64 ∧ 256 ≤ (y 1).1 ∧ (y 1).1 < 256 + 128) := fun hh => h32 (mem2 (off13_eq h k ⟨3, by decide⟩) y ⟨hh.1, hh.2.1⟩ hh.2.2)
  have g33 : ¬ (512 * k.1 + 192 ≤ (y 0).1 ∧ (y 0).1 < 512 * k.1 + 192 + 64 ∧ 384 ≤ (y 1).1 ∧ (y 1).1 < 384 + 128) := fun hh => h33 (mem2 (off14_eq h k ⟨3, by decide⟩) y ⟨hh.1, hh.2.1⟩ hh.2.2)
  have g40 : ¬ (512 * k.1 + 256 ≤ (y 0).1 ∧ (y 0).1 < 512 * k.1 + 256 + 64 ∧ 0 ≤ (y 1).1 ∧ (y 1).1 < 0 + 128) := fun hh => h40 (mem2 (off11_eq h k ⟨4, by decide⟩) y ⟨hh.1, hh.2.1⟩ hh.2.2)
  have g41 : ¬ (512 * k.1 + 256 ≤ (y 0).1 ∧ (y 0).1 < 512 * k.1 + 256 + 64 ∧ 128 ≤ (y 1).1 ∧ (y 1).1 < 128 + 128) := fun hh => h41 (mem2 (off12_eq h k ⟨4, by decide⟩) y ⟨hh.1, hh.2.1⟩ hh.2.2)
  have g42 : ¬ (512 * k.1 + 256 ≤ (y 0).1 ∧ (y 0).1 < 512 * k.1 + 256 + 64 ∧ 256 ≤ (y 1).1 ∧ (y 1).1 < 256 + 128) := fun hh => h42 (mem2 (off13_eq h k ⟨4, by decide⟩) y ⟨hh.1, hh.2.1⟩ hh.2.2)
  have g43 : ¬ (512 * k.1 + 256 ≤ (y 0).1 ∧ (y 0).1 < 512 * k.1 + 256 + 64 ∧ 384 ≤ (y 1).1 ∧ (y 1).1 < 384 + 128) := fun hh => h43 (mem2 (off14_eq h k ⟨4, by decide⟩) y ⟨hh.1, hh.2.1⟩ hh.2.2)
  have g50 : ¬ (512 * k.1 + 320 ≤ (y 0).1 ∧ (y 0).1 < 512 * k.1 + 320 + 64 ∧ 0 ≤ (y 1).1 ∧ (y 1).1 < 0 + 128) := fun hh => h50 (mem2 (off11_eq h k ⟨5, by decide⟩) y ⟨hh.1, hh.2.1⟩ hh.2.2)
  have g51 : ¬ (512 * k.1 + 320 ≤ (y 0).1 ∧ (y 0).1 < 512 * k.1 + 320 + 64 ∧ 128 ≤ (y 1).1 ∧ (y 1).1 < 128 + 128) := fun hh => h51 (mem2 (off12_eq h k ⟨5, by decide⟩) y ⟨hh.1, hh.2.1⟩ hh.2.2)
  have g52 : ¬ (512 * k.1 + 320 ≤ (y 0).1 ∧ (y 0).1 < 512 * k.1 + 320 + 64 ∧ 256 ≤ (y 1).1 ∧ (y 1).1 < 256 + 128) := fun hh => h52 (mem2 (off13_eq h k ⟨5, by decide⟩) y ⟨hh.1, hh.2.1⟩ hh.2.2)
  have g53 : ¬ (512 * k.1 + 320 ≤ (y 0).1 ∧ (y 0).1 < 512 * k.1 + 320 + 64 ∧ 384 ≤ (y 1).1 ∧ (y 1).1 < 384 + 128) := fun hh => h53 (mem2 (off14_eq h k ⟨5, by decide⟩) y ⟨hh.1, hh.2.1⟩ hh.2.2)
  have g60 : ¬ (512 * k.1 + 384 ≤ (y 0).1 ∧ (y 0).1 < 512 * k.1 + 384 + 64 ∧ 0 ≤ (y 1).1 ∧ (y 1).1 < 0 + 128) := fun hh => h60 (mem2 (off11_eq h k ⟨6, by decide⟩) y ⟨hh.1, hh.2.1⟩ hh.2.2)
  have g61 : ¬ (512 * k.1 + 384 ≤ (y 0).1 ∧ (y 0).1 < 512 * k.1 + 384 + 64 ∧ 128 ≤ (y 1).1 ∧ (y 1).1 < 128 + 128) := fun hh => h61 (mem2 (off12_eq h k ⟨6, by decide⟩) y ⟨hh.1, hh.2.1⟩ hh.2.2)
  have g62 : ¬ (512 * k.1 + 384 ≤ (y 0).1 ∧ (y 0).1 < 512 * k.1 + 384 + 64 ∧ 256 ≤ (y 1).1 ∧ (y 1).1 < 256 + 128) := fun hh => h62 (mem2 (off13_eq h k ⟨6, by decide⟩) y ⟨hh.1, hh.2.1⟩ hh.2.2)
  have g63 : ¬ (512 * k.1 + 384 ≤ (y 0).1 ∧ (y 0).1 < 512 * k.1 + 384 + 64 ∧ 384 ≤ (y 1).1 ∧ (y 1).1 < 384 + 128) := fun hh => h63 (mem2 (off14_eq h k ⟨6, by decide⟩) y ⟨hh.1, hh.2.1⟩ hh.2.2)
  have g70 : ¬ (512 * k.1 + 448 ≤ (y 0).1 ∧ (y 0).1 < 512 * k.1 + 448 + 64 ∧ 0 ≤ (y 1).1 ∧ (y 1).1 < 0 + 128) := fun hh => h70 (mem2 (off11_eq h k ⟨7, by decide⟩) y ⟨hh.1, hh.2.1⟩ hh.2.2)
  have g71 : ¬ (512 * k.1 + 448 ≤ (y 0).1 ∧ (y 0).1 < 512 * k.1 + 448 + 64 ∧ 128 ≤ (y 1).1 ∧ (y 1).1 < 128 + 128) := fun hh => h71 (mem2 (off12_eq h k ⟨7, by decide⟩) y ⟨hh.1, hh.2.1⟩ hh.2.2)
  have g72 : ¬ (512 * k.1 + 448 ≤ (y 0).1 ∧ (y 0).1 < 512 * k.1 + 448 + 64 ∧ 256 ≤ (y 1).1 ∧ (y 1).1 < 256 + 128) := fun hh => h72 (mem2 (off13_eq h k ⟨7, by decide⟩) y ⟨hh.1, hh.2.1⟩ hh.2.2)
  have g73 : ¬ (512 * k.1 + 448 ≤ (y 0).1 ∧ (y 0).1 < 512 * k.1 + 448 + 64 ∧ 384 ≤ (y 1).1 ∧ (y 1).1 < 384 + 128) := fun hh => h73 (mem2 (off14_eq h k ⟨7, by decide⟩) y ⟨hh.1, hh.2.1⟩ hh.2.2)
  rcases (by omega : (512 * k.1 + 0 ≤ (y 0).1 ∧ (y 0).1 < 512 * k.1 + 0 + 64) ∨ (512 * k.1 + 64 ≤ (y 0).1 ∧ (y 0).1 < 512 * k.1 + 64 + 64) ∨ (512 * k.1 + 128 ≤ (y 0).1 ∧ (y 0).1 < 512 * k.1 + 128 + 64) ∨ (512 * k.1 + 192 ≤ (y 0).1 ∧ (y 0).1 < 512 * k.1 + 192 + 64) ∨ (512 * k.1 + 256 ≤ (y 0).1 ∧ (y 0).1 < 512 * k.1 + 256 + 64) ∨ (512 * k.1 + 320 ≤ (y 0).1 ∧ (y 0).1 < 512 * k.1 + 320 + 64) ∨ (512 * k.1 + 384 ≤ (y 0).1 ∧ (y 0).1 < 512 * k.1 + 384 + 64) ∨ (512 * k.1 + 448 ≤ (y 0).1 ∧ (y 0).1 < 512 * k.1 + 448 + 64)) with hn | hn | hn | hn | hn | hn | hn | hn <;>
    rcases (by omega : (0 ≤ (y 1).1 ∧ (y 1).1 < 0 + 128) ∨ (128 ≤ (y 1).1 ∧ (y 1).1 < 128 + 128) ∨ (256 ≤ (y 1).1 ∧ (y 1).1 < 256 + 128) ∨ (384 ≤ (y 1).1 ∧ (y 1).1 < 384 + 128)) with hc | hc | hc | hc
  · exact g00 ⟨hn.1, hn.2, hc⟩
  · exact g01 ⟨hn.1, hn.2, hc⟩
  · exact g02 ⟨hn.1, hn.2, hc⟩
  · exact g03 ⟨hn.1, hn.2, hc⟩
  · exact g10 ⟨hn.1, hn.2, hc⟩
  · exact g11 ⟨hn.1, hn.2, hc⟩
  · exact g12 ⟨hn.1, hn.2, hc⟩
  · exact g13 ⟨hn.1, hn.2, hc⟩
  · exact g20 ⟨hn.1, hn.2, hc⟩
  · exact g21 ⟨hn.1, hn.2, hc⟩
  · exact g22 ⟨hn.1, hn.2, hc⟩
  · exact g23 ⟨hn.1, hn.2, hc⟩
  · exact g30 ⟨hn.1, hn.2, hc⟩
  · exact g31 ⟨hn.1, hn.2, hc⟩
  · exact g32 ⟨hn.1, hn.2, hc⟩
  · exact g33 ⟨hn.1, hn.2, hc⟩
  · exact g40 ⟨hn.1, hn.2, hc⟩
  · exact g41 ⟨hn.1, hn.2, hc⟩
  · exact g42 ⟨hn.1, hn.2, hc⟩
  · exact g43 ⟨hn.1, hn.2, hc⟩
  · exact g50 ⟨hn.1, hn.2, hc⟩
  · exact g51 ⟨hn.1, hn.2, hc⟩
  · exact g52 ⟨hn.1, hn.2, hc⟩
  · exact g53 ⟨hn.1, hn.2, hc⟩
  · exact g60 ⟨hn.1, hn.2, hc⟩
  · exact g61 ⟨hn.1, hn.2, hc⟩
  · exact g62 ⟨hn.1, hn.2, hc⟩
  · exact g63 ⟨hn.1, hn.2, hc⟩
  · exact g70 ⟨hn.1, hn.2, hc⟩
  · exact g71 ⟨hn.1, hn.2, hc⟩
  · exact g72 ⟨hn.1, hn.2, hc⟩
  · exact g73 ⟨hn.1, hn.2, hc⟩

section

variable (init :  FVec Ideal S8x128 .f32 × FVec Ideal S8x128 .f32 × FVec Ideal S8x128 .f32 × FVec Ideal S8x128 .f32)

include init

/-- The scores that the loop leaves. -/
theorem score3_read (f) (h : Early i v16) {mq : S128x128.Idx → EReal} {qp ds : ℕ → BitVec 32} (hq0 : ∀ l : Fin 128, v57 (ix2 0 l) = qp (0 + l.1)) (hd0 : ∀ l : Fin 128, v76 (ix3 0 0 l) = ds (0 + l.1)) (hq1 : ∀ l : Fin 128, v63 (ix2 0 l) = qp (128 + l.1)) (hd1 : ∀ l : Fin 128, v78 (ix3 0 0 l) = ds (128 + l.1)) (hq2 : ∀ l : Fin 128, v69 (ix2 0 l) = qp (256 + l.1)) (hd2 : ∀ l : Fin 128, v80 (ix3 0 0 l) = ds (256 + l.1)) (hq3 : ∀ l : Fin 128, IntOp.addi v70 (v73 (ix2 0 l)) = qp (384 + l.1)) (hd3 : ∀ l : Fin 128, v82 (ix3 0 0 l) = ds (384 + l.1)) (hv : v40 = BitVec.ofNat 32 (Words.base (grp i) (row0 v16))) (hb : ∀ y : S16384x128.Idx, (y 0).1 < 512 * Words.nt (grp i) (row0 v16) → arg13.view.read (Elt Ideal) X_arg13 y = biasF (arg8.view.read (Elt Ideal) X_arg8) mq (arg3.view.read (Elt Ideal) X_arg3) (Words.base (grp i) (row0 v16) + (y 0).1) (y 1).1) (y : S16384x512.Idx) (hy : (y 0).1 < 512 * (k0_t3_loop i v16).trips) :
    arg12.view.read (Elt Ideal) (arg12.view.writes (Elt Ideal) f (st_k0_t3 (F := Ideal) 𝒱 c bd i arg2 harg2 arg3 harg3 arg4 harg4 arg5 harg5 arg6 harg6 arg7 harg7 arg8 harg8 arg9 harg9 arg10 harg10 arg11 harg11 arg12 harg12 arg13 harg13 v3 v16 k0_hw1 v37 v40 v49 v57 v63 v69 v70 v73 v76 v78 v80 v82 X_arg3 X_arg8 X_arg13 init (k0_t3_loop i v16).trips).2) y
      = scoreF (arg8.view.read (Elt Ideal) X_arg8) mq (arg3.view.read (Elt Ideal) X_arg3) v49 v3 qp ds (Words.base (grp i) (row0 v16) + (y 0).1) (y 1).1 :=
  loop_read arg12.view f (fun y : S16384x512.Idx => scoreF (arg8.view.read (Elt Ideal) X_arg8) mq (arg3.view.read (Elt Ideal) X_arg3) v49 v3 qp ds (Words.base (grp i) (row0 v16) + (y 0).1) (y 1).1)
    (fun k => (st_k0_t3 (F := Ideal) 𝒱 c bd i arg2 harg2 arg3 harg3 arg4 harg4 arg5 harg5 arg6 harg6 arg7 harg7 arg8 harg8 arg9 harg9 arg10 harg10 arg11 harg11 arg12 harg12 arg13 harg13 v3 v16 k0_hw1 v37 v40 v49 v57 v63 v69 v70 v73 v76 v78 v80 v82 X_arg3 X_arg8 X_arg13 init k).2) _ rfl
    (fun k hk => ⟨_, congrArg Prod.snd (st_k0_t3_succ (F := Ideal) 𝒱 c bd i arg2 harg2 arg3 harg3 arg4 harg4 arg5 harg5 arg6 harg6 arg7 harg7 arg8 harg8 arg9 harg9 arg10 harg10 arg11 harg11 arg12 harg12 arg13 harg13 v3 v16 k0_hw1 v37 v40 v49 v57 v63 v69 v70 v73 v76 v78 v80 v82 X_arg3 X_arg8 X_arg13 init ⟨k, hk⟩),
      score3_pieces 𝒱 c bd i arg2 harg2 arg3 harg3 arg4 harg4 arg5 harg5 arg6 harg6 arg7 harg7 arg8 harg8 arg9 harg9 arg10 harg10 arg11 harg11 arg12 harg12 arg13 harg13 v3 v16 k0_hw1 v37 v40 v49 v57 v63 v69 v70 v73 v76 v78 v80 v82 X_arg3 X_arg8 X_arg13 ⟨k, hk⟩ _ h hq0 hd0 hq1 hd1 hq2 hd2 hq3 hd3 hv hb, score3_cover 𝒱 c bd i arg2 harg2 arg3 harg3 arg4 harg4 arg5 harg5 arg6 harg6 arg7 harg7 arg8 harg8 arg9 harg9 arg10 harg10 arg11 harg11 arg12 harg12 arg13 harg13 v3 v16 k0_hw1 v37 v40 v49 v57 v63 v69 v70 v73 v76 v78 v80 v82 X_arg3 X_arg8 X_arg13 ⟨k, hk⟩ _ h⟩) y hy

section

variable (h : Early i v16) {mq : S128x128.Idx → EReal} {qp ds : ℕ → BitVec 32} (hq0 : ∀ l : Fin 128, v57 (ix2 0 l) = qp (0 + l.1)) (hd0 : ∀ l : Fin 128, v76 (ix3 0 0 l) = ds (0 + l.1)) (hq1 : ∀ l : Fin 128, v63 (ix2 0 l) = qp (128 + l.1)) (hd1 : ∀ l : Fin 128, v78 (ix3 0 0 l) = ds (128 + l.1)) (hq2 : ∀ l : Fin 128, v69 (ix2 0 l) = qp (256 + l.1)) (hd2 : ∀ l : Fin 128, v80 (ix3 0 0 l) = ds (256 + l.1)) (hq3 : ∀ l : Fin 128, IntOp.addi v70 (v73 (ix2 0 l)) = qp (384 + l.1)) (hd3 : ∀ l : Fin 128, v82 (ix3 0 0 l) = ds (384 + l.1)) (hv : v40 = BitVec.ofNat 32 (Words.base (grp i) (row0 v16))) (hb : ∀ y : S16384x128.Idx, (y 0).1 < 512 * Words.nt (grp i) (row0 v16) → arg13.view.read (Elt Ideal) X_arg13 y = biasF (arg8.view.read (Elt Ideal) X_arg8) mq (arg3.view.read (Elt Ideal) X_arg3) (Words.base (grp i) (row0 v16) + (y 0).1) (y 1).1) (l : Fin 128) (z : EReal)

include h mq qp ds hq0 hd0 hq1 hd1 hq2 hd2 hq3 hd3 hv hb l z

/-- The maxima that the loop leaves for tile 0. -/
theorem score3_lub0 :
    (∀ a : Fin 8, ((st_k0_t3 (F := Ideal) 𝒱 c bd i arg2 harg2 arg3 harg3 arg4 harg4 arg5 harg5 arg6 harg6 arg7 harg7 arg8 harg8 arg9 harg9 arg10 harg10 arg11 harg11 arg12 harg12 arg13 harg13 v3 v16 k0_hw1 v37 v40 v49 v57 v63 v69 v70 v73 v76 v78 v80 v82 X_arg3 X_arg8 X_arg13 init (k0_t3_loop i v16).trips).1.1 (ix2 a l) : EReal) ≤ z) ↔ (∀ a : Fin 8, (init.1 (ix2 a l) : EReal) ≤ z) ∧
      ∀ row < 512 * (k0_t3_loop i v16).trips, scoreF (arg8.view.read (Elt Ideal) X_arg8) mq (arg3.view.read (Elt Ideal) X_arg3) v49 v3 qp ds (Words.base (grp i) (row0 v16) + row) (l.1) ≤ z :=
  loop_max (fun k a => (st_k0_t3 (F := Ideal) 𝒱 c bd i arg2 harg2 arg3 harg3 arg4 harg4 arg5 harg5 arg6 harg6 arg7 harg7 arg8 harg8 arg9 harg9 arg10 harg10 arg11 harg11 arg12 harg12 arg13 harg13 v3 v16 k0_hw1 v37 v40 v49 v57 v63 v69 v70 v73 v76 v78 v80 v82 X_arg3 X_arg8 X_arg13 init k).1.1 (ix2 a l)) (fun row => scoreF (arg8.view.read (Elt Ideal) X_arg8) mq (arg3.view.read (Elt Ideal) X_arg3) v49 v3 qp ds (Words.base (grp i) (row0 v16) + row) (l.1)) _
    (fun k hk a => (congrArg (fun p => (p.1.1 (ix2 a l) : EReal)) (st_k0_t3_succ (F := Ideal) 𝒱 c bd i arg2 harg2 arg3 harg3 arg4 harg4 arg5 harg5 arg6 harg6 arg7 harg7 arg8 harg8 arg9 harg9 arg10 harg10 arg11 harg11 arg12 harg12 arg13 harg13 v3 v16 k0_hw1 v37 v40 v49 v57 v63 v69 v70 v73 v76 v78 v80 v82 X_arg3 X_arg8 X_arg13 init ⟨k, hk⟩)).trans
      (score3_max0 𝒱 c bd i arg2 harg2 arg3 harg3 arg4 harg4 arg5 harg5 arg6 harg6 arg7 harg7 arg8 harg8 arg9 harg9 arg10 harg10 arg11 harg11 arg12 harg12 arg13 harg13 v3 v16 k0_hw1 v37 v40 v49 v57 v63 v69 v70 v73 v76 v78 v80 v82 X_arg3 X_arg8 X_arg13 ⟨k, hk⟩ _ h hq0 hd0 hq1 hd1 hq2 hd2 hq3 hd3 hv hb a l)) z _ le_rfl

/-- The maxima that the loop leaves for tile 1. -/
theorem score3_lub1 :
    (∀ a : Fin 8, ((st_k0_t3 (F := Ideal) 𝒱 c bd i arg2 harg2 arg3 harg3 arg4 harg4 arg5 harg5 arg6 harg6 arg7 harg7 arg8 harg8 arg9 harg9 arg10 harg10 arg11 harg11 arg12 harg12 arg13 harg13 v3 v16 k0_hw1 v37 v40 v49 v57 v63 v69 v70 v73 v76 v78 v80 v82 X_arg3 X_arg8 X_arg13 init (k0_t3_loop i v16).trips).1.2.1 (ix2 a l) : EReal) ≤ z) ↔ (∀ a : Fin 8, (init.2.1 (ix2 a l) : EReal) ≤ z) ∧
      ∀ row < 512 * (k0_t3_loop i v16).trips, scoreF (arg8.view.read (Elt Ideal) X_arg8) mq (arg3.view.read (Elt Ideal) X_arg3) v49 v3 qp ds (Words.base (grp i) (row0 v16) + row) (128 + l.1) ≤ z :=
  loop_max (fun k a => (st_k0_t3 (F := Ideal) 𝒱 c bd i arg2 harg2 arg3 harg3 arg4 harg4 arg5 harg5 arg6 harg6 arg7 harg7 arg8 harg8 arg9 harg9 arg10 harg10 arg11 harg11 arg12 harg12 arg13 harg13 v3 v16 k0_hw1 v37 v40 v49 v57 v63 v69 v70 v73 v76 v78 v80 v82 X_arg3 X_arg8 X_arg13 init k).1.2.1 (ix2 a l)) (fun row => scoreF (arg8.view.read (Elt Ideal) X_arg8) mq (arg3.view.read (Elt Ideal) X_arg3) v49 v3 qp ds (Words.base (grp i) (row0 v16) + row) (128 + l.1)) _
    (fun k hk a => (congrArg (fun p => (p.1.2.1 (ix2 a l) : EReal)) (st_k0_t3_succ (F := Ideal) 𝒱 c bd i arg2 harg2 arg3 harg3 arg4 harg4 arg5 harg5 arg6 harg6 arg7 harg7 arg8 harg8 arg9 harg9 arg10 harg10 arg11 harg11 arg12 harg12 arg13 harg13 v3 v16 k0_hw1 v37 v40 v49 v57 v63 v69 v70 v73 v76 v78 v80 v82 X_arg3 X_arg8 X_arg13 init ⟨k, hk⟩)).trans
      (score3_max1 𝒱 c bd i arg2 harg2 arg3 harg3 arg4 harg4 arg5 harg5 arg6 harg6 arg7 harg7 arg8 harg8 arg9 harg9 arg10 harg10 arg11 harg11 arg12 harg12 arg13 harg13 v3 v16 k0_hw1 v37 v40 v49 v57 v63 v69 v70 v73 v76 v78 v80 v82 X_arg3 X_arg8 X_arg13 ⟨k, hk⟩ _ h hq0 hd0 hq1 hd1 hq2 hd2 hq3 hd3 hv hb a l)) z _ le_rfl

/-- The maxima that the loop leaves for tile 2. -/
theorem score3_lub2 :
    (∀ a : Fin 8, ((st_k0_t3 (F := Ideal) 𝒱 c bd i arg2 harg2 arg3 harg3 arg4 harg4 arg5 harg5 arg6 harg6 arg7 harg7 arg8 harg8 arg9 harg9 arg10 harg10 arg11 harg11 arg12 harg12 arg13 harg13 v3 v16 k0_hw1 v37 v40 v49 v57 v63 v69 v70 v73 v76 v78 v80 v82 X_arg3 X_arg8 X_arg13 init (k0_t3_loop i v16).trips).1.2.2.1 (ix2 a l) : EReal) ≤ z) ↔ (∀ a : Fin 8, (init.2.2.1 (ix2 a l) : EReal) ≤ z) ∧
      ∀ row < 512 * (k0_t3_loop i v16).trips, scoreF (arg8.view.read (Elt Ideal) X_arg8) mq (arg3.view.read (Elt Ideal) X_arg3) v49 v3 qp ds (Words.base (grp i) (row0 v16) + row) (256 + l.1) ≤ z :=
  loop_max (fun k a => (st_k0_t3 (F := Ideal) 𝒱 c bd i arg2 harg2 arg3 harg3 arg4 harg4 arg5 harg5 arg6 harg6 arg7 harg7 arg8 harg8 arg9 harg9 arg10 harg10 arg11 harg11 arg12 harg12 arg13 harg13 v3 v16 k0_hw1 v37 v40 v49 v57 v63 v69 v70 v73 v76 v78 v80 v82 X_arg3 X_arg8 X_arg13 init k).1.2.2.1 (ix2 a l)) (fun row => scoreF (arg8.view.read (Elt Ideal) X_arg8) mq (arg3.view.read (Elt Ideal) X_arg3) v49 v3 qp ds (Words.base (grp i) (row0 v16) + row) (256 + l.1)) _
    (fun k hk a => (congrArg (fun p => (p.1.2.2.1 (ix2 a l) : EReal)) (st_k0_t3_succ (F := Ideal) 𝒱 c bd i arg2 harg2 arg3 harg3 arg4 harg4 arg5 harg5 arg6 harg6 arg7 harg7 arg8 harg8 arg9 harg9 arg10 harg10 arg11 harg11 arg12 harg12 arg13 harg13 v3 v16 k0_hw1 v37 v40 v49 v57 v63 v69 v70 v73 v76 v78 v80 v82 X_arg3 X_arg8 X_arg13 init ⟨k, hk⟩)).trans
      (score3_max2 𝒱 c bd i arg2 harg2 arg3 harg3 arg4 harg4 arg5 harg5 arg6 harg6 arg7 harg7 arg8 harg8 arg9 harg9 arg10 harg10 arg11 harg11 arg12 harg12 arg13 harg13 v3 v16 k0_hw1 v37 v40 v49 v57 v63 v69 v70 v73 v76 v78 v80 v82 X_arg3 X_arg8 X_arg13 ⟨k, hk⟩ _ h hq0 hd0 hq1 hd1 hq2 hd2 hq3 hd3 hv hb a l)) z _ le_rfl

/-- The maxima that the loop leaves for tile 3. -/
theorem score3_lub3 :
    (∀ a : Fin 8, ((st_k0_t3 (F := Ideal) 𝒱 c bd i arg2 harg2 arg3 harg3 arg4 harg4 arg5 harg5 arg6 harg6 arg7 harg7 arg8 harg8 arg9 harg9 arg10 harg10 arg11 harg11 arg12 harg12 arg13 harg13 v3 v16 k0_hw1 v37 v40 v49 v57 v63 v69 v70 v73 v76 v78 v80 v82 X_arg3 X_arg8 X_arg13 init (k0_t3_loop i v16).trips).1.2.2.2 (ix2 a l) : EReal) ≤ z) ↔ (∀ a : Fin 8, (init.2.2.2 (ix2 a l) : EReal) ≤ z) ∧
      ∀ row < 512 * (k0_t3_loop i v16).trips, scoreF (arg8.view.read (Elt Ideal) X_arg8) mq (arg3.view.read (Elt Ideal) X_arg3) v49 v3 qp ds (Words.base (grp i) (row0 v16) + row) (384 + l.1) ≤ z :=
  loop_max (fun k a => (st_k0_t3 (F := Ideal) 𝒱 c bd i arg2 harg2 arg3 harg3 arg4 harg4 arg5 harg5 arg6 harg6 arg7 harg7 arg8 harg8 arg9 harg9 arg10 harg10 arg11 harg11 arg12 harg12 arg13 harg13 v3 v16 k0_hw1 v37 v40 v49 v57 v63 v69 v70 v73 v76 v78 v80 v82 X_arg3 X_arg8 X_arg13 init k).1.2.2.2 (ix2 a l)) (fun row => scoreF (arg8.view.read (Elt Ideal) X_arg8) mq (arg3.view.read (Elt Ideal) X_arg3) v49 v3 qp ds (Words.base (grp i) (row0 v16) + row) (384 + l.1)) _
    (fun k hk a => (congrArg (fun p => (p.1.2.2.2 (ix2 a l) : EReal)) (st_k0_t3_succ (F := Ideal) 𝒱 c bd i arg2 harg2 arg3 harg3 arg4 harg4 arg5 harg5 arg6 harg6 arg7 harg7 arg8 harg8 arg9 harg9 arg10 harg10 arg11 harg11 arg12 harg12 arg13 harg13 v3 v16 k0_hw1 v37 v40 v49 v57 v63 v69 v70 v73 v76 v78 v80 v82 X_arg3 X_arg8 X_arg13 init ⟨k, hk⟩)).trans
      (score3_max3 𝒱 c bd i arg2 harg2 arg3 harg3 arg4 harg4 arg5 harg5 arg6 harg6 arg7 harg7 arg8 harg8 arg9 harg9 arg10 harg10 arg11 harg11 arg12 harg12 arg13 harg13 v3 v16 k0_hw1 v37 v40 v49 v57 v63 v69 v70 v73 v76 v78 v80 v82 X_arg3 X_arg8 X_arg13 ⟨k, hk⟩ _ h hq0 hd0 hq1 hd1 hq2 hd2 hq3 hd3 hv hb a l)) z _ le_rfl

end

end

end

end Cert.KernelIdeal.Hand

end
-- ==== Proof.KernelIdealWeightA.lean ====
/- A loop of the kernel over tiles of 512 keys: it sums the weights, and the values by weight, of four tiles of queries. -/
module

public import proofs.«01_k».proof.Proof.KernelIdealWeight

@[expose] public section

set_option maxRecDepth 16384
set_option maxHeartbeats 4000000

noncomputable section

namespace Cert.KernelIdeal.Hand

open Cert.KernelIdeal.Gen
open Idealize.ShloMosaic Idealize.ShloMosaic.TcCoe Idealize.ShloMosaic.Tactic

section

variable (𝒱 : Variants) (c : Dev nD) (bd : Option 𝒱.V) (i : grid0.Coords) (arg2 : Memref sig .tc .smem S256 .i32) (harg2 : arg2.IsWhole) (arg3 : Memref sig .tc .smem S1x1x256 .f32) (harg3 : arg3.IsWhole) (arg4 : Memref sig .tc .vmem S1x1x1024x128 .fp8e4m3) (harg4 : arg4.IsWhole) (arg5 : Memref sig .tc .vmem S1x1x1x128 .f32) (harg5 : arg5.IsWhole) (arg6 : Memref sig .tc .vmem S1x1x8x128 .bf16) (harg6 : arg6.IsWhole) (arg7 : Memref sig .tc .vmem S1x8x128 .i32) (harg7 : arg7.IsWhole) (arg8 : Memref sig .tc .vmem S16384x128 .fp8e4m3) (harg8 : arg8.IsWhole) (arg9 : Memref sig .tc .vmem S1x128x16384 .fp8e4m3) (harg9 : arg9.IsWhole) (arg10 : Memref sig .tc .vmem S1x128x128 .f32) (harg10 : arg10.IsWhole) (arg11 : Memref sig .tc .vmem S128x1024 .bf16) (harg11 : arg11.IsWhole) (arg12 : Memref sig .tc .vmem S16384x512 .f32) (harg12 : arg12.IsWhole) (arg13 : Memref sig .tc .vmem S16384x128 .f32) (harg13 : arg13.IsWhole) (v16 : Elt Ideal .i32) (k0_hw1 : k0_chk1 i v16) (v37 : BitVec 32) (v40 : BitVec 32) (v94_3 : FVec Ideal S8x128 .f32) (v98 : FVec Ideal S1x128 .f32) (v102 : FVec Ideal S1x128 .f32) (v106 : FVec Ideal S1x128 .f32) (X_arg9 : BufTy.Contents (Elt Ideal) arg9.view.ty) (X_arg12 : BufTy.Contents (Elt Ideal) arg12.view.ty)

include 𝒱 c bd i arg2 harg2 arg3 harg3 arg4 harg4 arg5 harg5 arg6 harg6 arg7 harg7 arg8 harg8 arg9 harg9 arg10 harg10 arg11 harg11 arg12 harg12 arg13 harg13 v16 k0_hw1 v37 v40 v94_3 v98 v102 v106 X_arg9 X_arg12

section

variable (k : Fin (k0_t5_loop i v16).trips) (acc :  FVec Ideal S8x128 .f32 × FVec Ideal S8x128 .f32 × FVec Ideal S8x128 .f32 × FVec Ideal S8x128 .f32 × FVec Ideal S128x512 .f32) (h : Early i v16) {w : ℕ → ℕ → EReal} {off : ℕ → EReal} (hw : ∀ y : S16384x512.Idx, (y 0).1 < 512 * Words.nt (grp i) (row0 v16) → arg12.view.read (Elt Ideal) X_arg12 y = w (y 0).1 (y 1).1) (ho0 : ∀ l : Fin 128, v98 (ix2 0 l) = off l.1) (ho1 : ∀ l : Fin 128, v102 (ix2 0 l) = off (128 + l.1)) (ho2 : ∀ l : Fin 128, v106 (ix2 0 l) = off (256 + l.1)) (ho3 : ∀ l : Fin 128, offF v94_3 l = off (384 + l.1))

include k acc h w off hw ho0 ho1 ho2 ho3

/-- The sums of the weights of tile 0, after one more trip. -/
theorem pv5_sum0 (a : Fin 8) (l : Fin 128) :
    ((tripR_k0_t5 (F := Ideal) 𝒱 c bd i arg2 harg2 arg3 harg3 arg4 harg4 arg5 harg5 arg6 harg6 arg7 harg7 arg8 harg8 arg9 harg9 arg10 harg10 arg11 harg11 arg12 harg12 arg13 harg13 v16 k0_hw1 v37 v40 v94_3 v98 v102 v106 X_arg9 X_arg12 k acc).1 (ix2 a l) : EReal) = (acc.1 (ix2 a l) : EReal) + ∑ x : Fin 64, weightF w off (512 * k.1 + (x.1 * 8 + a.1)) (l.1) := by
  have hT : 512 * Words.nt (grp i) (row0 v16) ≤ 16384 := by
    have := Words.nt_le (l := row0 v16) (grp_lt i); omega
  unfold tripR_k0_t5 trip_k0_t5
  dsimp only
  pointwise [trip_k0_t5.sl.v420, trip_k0_t5.sl.v418, trip_k0_t5.sl.v422, trip_k0_t5.sl.v417, trip_k0_t5.sl.v419, trip_k0_t5.sl.v421]
  refine congrArg₂ (· + ·) rfl (Finset.sum_congr rfl fun x _ => ?_)
  exact weight_at (m := 0) (v12 := arg12.view) (X12 := X_arg12) (k := k.1) hw (h.lt k) hT (off22_eq h k) (by decide) ⟨x.1 * 8 + a.1, by have := x.2; have := a.2; omega⟩ l ((ho0 l).trans (congrArg off (Nat.zero_add _).symm)) rfl (by omega)

/-- The sums of the weights of tile 1, after one more trip. -/
theorem pv5_sum1 (a : Fin 8) (l : Fin 128) :
    ((tripR_k0_t5 (F := Ideal) 𝒱 c bd i arg2 harg2 arg3 harg3 arg4 harg4 arg5 harg5 arg6 harg6 arg7 harg7 arg8 harg8 arg9 harg9 arg10 harg10 arg11 harg11 arg12 harg12 arg13 harg13 v16 k0_hw1 v37 v40 v94_3 v98 v102 v106 X_arg9 X_arg12 k acc).2.1 (ix2 a l) : EReal) = (acc.2.1 (ix2 a l) : EReal) + ∑ x : Fin 64, weightF w off (512 * k.1 + (x.1 * 8 + a.1)) (128 + l.1) := by
  have hT : 512 * Words.nt (grp i) (row0 v16) ≤ 16384 := by
    have := Words.nt_le (l := row0 v16) (grp_lt i); omega
  unfold tripR_k0_t5 trip_k0_t5
  dsimp only
  pointwise [trip_k0_t5.sl.v435, trip_k0_t5.sl.v433, trip_k0_t5.sl.v436, trip_k0_t5.sl.v432, trip_k0_t5.sl.v437, trip_k0_t5.sl.v434]
  refine congrArg₂ (· + ·) rfl (Finset.sum_congr rfl fun x _ => ?_)
  exact weight_at (m := 128) (v12 := arg12.view) (X12 := X_arg12) (k := k.1) hw (h.lt k) hT (off23_eq h k) (by decide) ⟨x.1 * 8 + a.1, by have := x.2; have := a.2; omega⟩ l (ho1 l) rfl (by omega)

/-- The sums of the weights of tile 2, after one more trip. -/
theorem pv5_sum2 (a : Fin 8) (l : Fin 128) :
    ((tripR_k0_t5 (F := Ideal) 𝒱 c bd i arg2 harg2 arg3 harg3 arg4 harg4 arg5 harg5 arg6 harg6 arg7 harg7 arg8 harg8 arg9 harg9 arg10 harg10 arg11 harg11 arg12 harg12 arg13 harg13 v16 k0_hw1 v37 v40 v94_3 v98 v102 v106 X_arg9 X_arg12 k acc).2.2.1 (ix2 a l) : EReal) = (acc.2.2.1 (ix2 a l) : EReal) + ∑ x : Fin 64, weightF w off (512 * k.1 + (x.1 * 8 + a.1)) (256 + l.1) := by
  have hT : 512 * Words.nt (grp i) (row0 v16) ≤ 16384 := by
    have := Words.nt_le (l := row0 v16) (grp_lt i); omega
  unfold tripR_k0_t5 trip_k0_t5
  dsimp only
  pointwise [trip_k0_t5.sl.v447, trip_k0_t5.sl.v448, trip_k0_t5.sl.v452, trip_k0_t5.sl.v451, trip_k0_t5.sl.v450, trip_k0_t5.sl.v449]
  refine congrArg₂ (· + ·) rfl (Finset.sum_congr rfl fun x _ => ?_)
  exact weight_at (m := 256) (v12 := arg12.view) (X12 := X_arg12) (k := k.1) hw (h.lt k) hT (off24_eq h k) (by decide) ⟨x.1 * 8 + a.1, by have := x.2; have := a.2; omega⟩ l (ho2 l) rfl (by omega)

/-- The sums of the weights of tile 3, after one more trip. -/
theorem pv5_sum3 (a : Fin 8) (l : Fin 128) :
    ((tripR_k0_t5 (F := Ideal) 𝒱 c bd i arg2 harg2 arg3 harg3 arg4 harg4 arg5 harg5 arg6 harg6 arg7 harg7 arg8 harg8 arg9 harg9 arg10 harg10 arg11 harg11 arg12 harg12 arg13 harg13 v16 k0_hw1 v37 v40 v94_3 v98 v102 v106 X_arg9 X_arg12 k acc).2.2.2.1 (ix2 a l) : EReal) = (acc.2.2.2.1 (ix2 a l) : EReal) + ∑ x : Fin 64, weightF w off (512 * k.1 + (x.1 * 8 + a.1)) (384 + l.1) := by
  have hT : 512 * Words.nt (grp i) (row0 v16) ≤ 16384 := by
    have := Words.nt_le (l := row0 v16) (grp_lt i); omega
  unfold tripR_k0_t5 trip_k0_t5
  dsimp only
  pointwise [k0_pay565, k0_pay571, k0_pay572]
  refine congrArg₂ (· + ·) rfl (Finset.sum_congr rfl fun x _ => ?_)
  exact weight_at (m := 384) (v12 := arg12.view) (X12 := X_arg12) (k := k.1) hw (h.lt k) hT (off25_eq h k) (by decide) ⟨x.1 * 8 + a.1, by have := x.2; have := a.2; omega⟩ l (ho3 l) rfl (by omega)

/-- The values by weight, after one more trip. -/
theorem pv5_acc (d : Fin 128) (col : Fin 512) :
    ((tripR_k0_t5 (F := Ideal) 𝒱 c bd i arg2 harg2 arg3 harg3 arg4 harg4 arg5 harg5 arg6 harg6 arg7 harg7 arg8 harg8 arg9 harg9 arg10 harg10 arg11 harg11 arg12 harg12 arg13 harg13 v16 k0_hw1 v37 v40 v94_3 v98 v102 v106 X_arg9 X_arg12 k acc).2.2.2.2 (ix2 d col) : EReal) = (acc.2.2.2.2 (ix2 d col) : EReal)
      + ∑ x : Fin 512, (arg9.view.read (Elt Ideal) X_arg9 (ix3 0 d (keyIx (Words.base (grp i) (row0 v16) + (512 * k.1 + x.1)))) : EReal) * clipF (weightF w off (512 * k.1 + x.1) col.1) := by
  have hT : 512 * Words.nt (grp i) (row0 v16) ≤ 16384 := by
    have := Words.nt_le (l := row0 v16) (grp_lt i); omega
  have hk := h.key_lt k
  have hcol := col.2
  unfold tripR_k0_t5 trip_k0_t5
  dsimp only
  pointwise [trip_k0_t5.sl.cst_251, trip_k0_t5.sl.v426, trip_k0_t5.sl.v447, trip_k0_t5.sl.v427, trip_k0_t5.sl.v442, trip_k0_t5.sl.v448, trip_k0_t5.sl.v433, k0_pay565, trip_k0_t5.sl.v418, trip_k0_t5.sl.v423, trip_k0_t5.sl.v439, trip_k0_t5.sl.v441, trip_k0_t5.sl.v425, trip_k0_t5.sl.v432, trip_k0_t5.sl.v424, trip_k0_t5.sl.cst_250, k0_pay571, trip_k0_t5.sl.v417, trip_k0_t5.sl.v449, trip_k0_t5.sl.v419, trip_k0_t5.sl.v434, k0_pay573]
  refine congrArg₂ (· + ·) rfl (Finset.sum_congr rfl fun x _ => congrArg₂ (· * ·) (value_at (off26_eq h k) hk d x (by omega)) ?_)
  by_cases h1 : col.1 < 128
  · refine (dif_pos h1).trans (clip_congr ?_)
    exact weight_at (m := 0) (v12 := arg12.view) (X12 := X_arg12) (k := k.1) hw (h.lt k) hT (off22_eq h k) (by decide) x ⟨col.1, by omega⟩ ((ho0 ⟨col.1, by omega⟩).trans (congrArg off (Nat.zero_add _).symm)) rfl (by simp only []; omega)
  refine (dif_neg h1).trans ?_
  by_cases h2 : col.1 - 128 < 128
  · refine (dif_pos h2).trans (clip_congr ?_)
    exact weight_at (m := 128) (v12 := arg12.view) (X12 := X_arg12) (k := k.1) hw (h.lt k) hT (off23_eq h k) (by decide) x ⟨col.1 - 128, by omega⟩ (ho1 ⟨col.1 - 128, by omega⟩) rfl (by simp only []; omega)
  refine (dif_neg h2).trans ?_
  by_cases h3 : col.1 - 128 - 128 < 128
  · refine (dif_pos h3).trans (clip_congr ?_)
    exact weight_at (m := 256) (v12 := arg12.view) (X12 := X_arg12) (k := k.1) hw (h.lt k) hT (off24_eq h k) (by decide) x ⟨col.1 - 128 - 128, by omega⟩ (ho2 ⟨col.1 - 128 - 128, by omega⟩) rfl (by simp only []; omega)
  refine (dif_neg h3).trans (clip_congr ?_)
  exact weight_at (m := 384) (v12 := arg12.view) (X12 := X_arg12) (k := k.1) hw (h.lt k) hT (off25_eq h k) (by decide) x ⟨col.1 - 128 - 128 - 128, by omega⟩ (ho3 ⟨col.1 - 128 - 128 - 128, by omega⟩) rfl (by simp only []; omega)

end

section

variable (init :  FVec Ideal S8x128 .f32 × FVec Ideal S8x128 .f32 × FVec Ideal S8x128 .f32 × FVec Ideal S8x128 .f32 × FVec Ideal S128x512 .f32) (h : Early i v16) {w : ℕ → ℕ → EReal} {off : ℕ → EReal} (hw : ∀ y : S16384x512.Idx, (y 0).1 < 512 * Words.nt (grp i) (row0 v16) → arg12.view.read (Elt Ideal) X_arg12 y = w (y 0).1 (y 1).1) (ho0 : ∀ l : Fin 128, v98 (ix2 0 l) = off l.1) (ho1 : ∀ l : Fin 128, v102 (ix2 0 l) = off (128 + l.1)) (ho2 : ∀ l : Fin 128, v106 (ix2 0 l) = off (256 + l.1)) (ho3 : ∀ l : Fin 128, offF v94_3 l = off (384 + l.1))

include init h w off hw ho0 ho1 ho2 ho3

/-- The sums of the weights that the loop leaves for tile 0. -/
theorem pv5_total0 (l : Fin 128) :
    (∑ a : Fin 8, ((st_k0_t5 (F := Ideal) 𝒱 c bd i arg2 harg2 arg3 harg3 arg4 harg4 arg5 harg5 arg6 harg6 arg7 harg7 arg8 harg8 arg9 harg9 arg10 harg10 arg11 harg11 arg12 harg12 arg13 harg13 v16 k0_hw1 v37 v40 v94_3 v98 v102 v106 X_arg9 X_arg12 init (k0_t5_loop i v16).trips).1 (ix2 a l) : EReal)) = (∑ a : Fin 8, (init.1 (ix2 a l) : EReal))
      + ∑ row ∈ Finset.range (512 * (k0_t5_loop i v16).trips), weightF w off row (l.1) :=
  loop_sum (fun k a => (st_k0_t5 (F := Ideal) 𝒱 c bd i arg2 harg2 arg3 harg3 arg4 harg4 arg5 harg5 arg6 harg6 arg7 harg7 arg8 harg8 arg9 harg9 arg10 harg10 arg11 harg11 arg12 harg12 arg13 harg13 v16 k0_hw1 v37 v40 v94_3 v98 v102 v106 X_arg9 X_arg12 init k).1 (ix2 a l)) (fun row => weightF w off row (l.1)) _
    (fun k hk a => (congrArg (fun p => (p.1 (ix2 a l) : EReal)) (st_k0_t5_succ (F := Ideal) 𝒱 c bd i arg2 harg2 arg3 harg3 arg4 harg4 arg5 harg5 arg6 harg6 arg7 harg7 arg8 harg8 arg9 harg9 arg10 harg10 arg11 harg11 arg12 harg12 arg13 harg13 v16 k0_hw1 v37 v40 v94_3 v98 v102 v106 X_arg9 X_arg12 init ⟨k, hk⟩)).trans
      (pv5_sum0 𝒱 c bd i arg2 harg2 arg3 harg3 arg4 harg4 arg5 harg5 arg6 harg6 arg7 harg7 arg8 harg8 arg9 harg9 arg10 harg10 arg11 harg11 arg12 harg12 arg13 harg13 v16 k0_hw1 v37 v40 v94_3 v98 v102 v106 X_arg9 X_arg12 ⟨k, hk⟩ _ h hw ho0 ho1 ho2 ho3 a l)) _ le_rfl

/-- The sums of the weights that the loop leaves for tile 1. -/
theorem pv5_total1 (l : Fin 128) :
    (∑ a : Fin 8, ((st_k0_t5 (F := Ideal) 𝒱 c bd i arg2 harg2 arg3 harg3 arg4 harg4 arg5 harg5 arg6 harg6 arg7 harg7 arg8 harg8 arg9 harg9 arg10 harg10 arg11 harg11 arg12 harg12 arg13 harg13 v16 k0_hw1 v37 v40 v94_3 v98 v102 v106 X_arg9 X_arg12 init (k0_t5_loop i v16).trips).2.1 (ix2 a l) : EReal)) = (∑ a : Fin 8, (init.2.1 (ix2 a l) : EReal))
      + ∑ row ∈ Finset.range (512 * (k0_t5_loop i v16).trips), weightF w off row (128 + l.1) :=
  loop_sum (fun k a => (st_k0_t5 (F := Ideal) 𝒱 c bd i arg2 harg2 arg3 harg3 arg4 harg4 arg5 harg5 arg6 harg6 arg7 harg7 arg8 harg8 arg9 harg9 arg10 harg10 arg11 harg11 arg12 harg12 arg13 harg13 v16 k0_hw1 v37 v40 v94_3 v98 v102 v106 X_arg9 X_arg12 init k).2.1 (ix2 a l)) (fun row => weightF w off row (128 + l.1)) _
    (fun k hk a => (congrArg (fun p => (p.2.1 (ix2 a l) : EReal)) (st_k0_t5_succ (F := Ideal) 𝒱 c bd i arg2 harg2 arg3 harg3 arg4 harg4 arg5 harg5 arg6 harg6 arg7 harg7 arg8 harg8 arg9 harg9 arg10 harg10 arg11 harg11 arg12 harg12 arg13 harg13 v16 k0_hw1 v37 v40 v94_3 v98 v102 v106 X_arg9 X_arg12 init ⟨k, hk⟩)).trans
      (pv5_sum1 𝒱 c bd i arg2 harg2 arg3 harg3 arg4 harg4 arg5 harg5 arg6 harg6 arg7 harg7 arg8 harg8 arg9 harg9 arg10 harg10 arg11 harg11 arg12 harg12 arg13 harg13 v16 k0_hw1 v37 v40 v94_3 v98 v102 v106 X_arg9 X_arg12 ⟨k, hk⟩ _ h hw ho0 ho1 ho2 ho3 a l)) _ le_rfl

/-- The sums of the weights that the loop leaves for tile 2. -/
theorem pv5_total2 (l : Fin 128) :
    (∑ a : Fin 8, ((st_k0_t5 (F := Ideal) 𝒱 c bd i arg2 harg2 arg3 harg3 arg4 harg4 arg5 harg5 arg6 harg6 arg7 harg7 arg8 harg8 arg9 harg9 arg10 harg10 arg11 harg11 arg12 harg12 arg13 harg13 v16 k0_hw1 v37 v40 v94_3 v98 v102 v106 X_arg9 X_arg12 init (k0_t5_loop i v16).trips).2.2.1 (ix2 a l) : EReal)) = (∑ a : Fin 8, (init.2.2.1 (ix2 a l) : EReal))
      + ∑ row ∈ Finset.range (512 * (k0_t5_loop i v16).trips), weightF w off row (256 + l.1) :=
  loop_sum (fun k a => (st_k0_t5 (F := Ideal) 𝒱 c bd i arg2 harg2 arg3 harg3 arg4 harg4 arg5 harg5 arg6 harg6 arg7 harg7 arg8 harg8 arg9 harg9 arg10 harg10 arg11 harg11 arg12 harg12 arg13 harg13 v16 k0_hw1 v37 v40 v94_3 v98 v102 v106 X_arg9 X_arg12 init k).2.2.1 (ix2 a l)) (fun row => weightF w off row (256 + l.1)) _
    (fun k hk a => (congrArg (fun p => (p.2.2.1 (ix2 a l) : EReal)) (st_k0_t5_succ (F := Ideal) 𝒱 c bd i arg2 harg2 arg3 harg3 arg4 harg4 arg5 harg5 arg6 harg6 arg7 harg7 arg8 harg8 arg9 harg9 arg10 harg10 arg11 harg11 arg12 harg12 arg13 harg13 v16 k0_hw1 v37 v40 v94_3 v98 v102 v106 X_arg9 X_arg12 init ⟨k, hk⟩)).trans
      (pv5_sum2 𝒱 c bd i arg2 harg2 arg3 harg3 arg4 harg4 arg5 harg5 arg6 harg6 arg7 harg7 arg8 harg8 arg9 harg9 arg10 harg10 arg11 harg11 arg12 harg12 arg13 harg13 v16 k0_hw1 v37 v40 v94_3 v98 v102 v106 X_arg9 X_arg12 ⟨k, hk⟩ _ h hw ho0 ho1 ho2 ho3 a l)) _ le_rfl

/-- The sums of the weights that the loop leaves for tile 3. -/
theorem pv5_total3 (l : Fin 128) :
    (∑ a : Fin 8, ((st_k0_t5 (F := Ideal) 𝒱 c bd i arg2 harg2 arg3 harg3 arg4 harg4 arg5 harg5 arg6 harg6 arg7 harg7 arg8 harg8 arg9 harg9 arg10 harg10 arg11 harg11 arg12 harg12 arg13 harg13 v16 k0_hw1 v37 v40 v94_3 v98 v102 v106 X_arg9 X_arg12 init (k0_t5_loop i v16).trips).2.2.2.1 (ix2 a l) : EReal)) = (∑ a : Fin 8, (init.2.2.2.1 (ix2 a l) : EReal))
      + ∑ row ∈ Finset.range (512 * (k0_t5_loop i v16).trips), weightF w off row (384 + l.1) :=
  loop_sum (fun k a => (st_k0_t5 (F := Ideal) 𝒱 c bd i arg2 harg2 arg3 harg3 arg4 harg4 arg5 harg5 arg6 harg6 arg7 harg7 arg8 harg8 arg9 harg9 arg10 harg10 arg11 harg11 arg12 harg12 arg13 harg13 v16 k0_hw1 v37 v40 v94_3 v98 v102 v106 X_arg9 X_arg12 init k).2.2.2.1 (ix2 a l)) (fun row => weightF w off row (384 + l.1)) _
    (fun k hk a => (congrArg (fun p => (p.2.2.2.1 (ix2 a l) : EReal)) (st_k0_t5_succ (F := Ideal) 𝒱 c bd i arg2 harg2 arg3 harg3 arg4 harg4 arg5 harg5 arg6 harg6 arg7 harg7 arg8 harg8 arg9 harg9 arg10 harg10 arg11 harg11 arg12 harg12 arg13 harg13 v16 k0_hw1 v37 v40 v94_3 v98 v102 v106 X_arg9 X_arg12 init ⟨k, hk⟩)).trans
      (pv5_sum3 𝒱 c bd i arg2 harg2 arg3 harg3 arg4 harg4 arg5 harg5 arg6 harg6 arg7 harg7 arg8 harg8 arg9 harg9 arg10 harg10 arg11 harg11 arg12 harg12 arg13 harg13 v16 k0_hw1 v37 v40 v94_3 v98 v102 v106 X_arg9 X_arg12 ⟨k, hk⟩ _ h hw ho0 ho1 ho2 ho3 a l)) _ le_rfl

/-- The values by weight that the loop leaves. -/
theorem pv5_values (d : Fin 128) (col : Fin 512) :
    ((st_k0_t5 (F := Ideal) 𝒱 c bd i arg2 harg2 arg3 harg3 arg4 harg4 arg5 harg5 arg6 harg6 arg7 harg7 arg8 harg8 arg9 harg9 arg10 harg10 arg11 harg11 arg12 harg12 arg13 harg13 v16 k0_hw1 v37 v40 v94_3 v98 v102 v106 X_arg9 X_arg12 init (k0_t5_loop i v16).trips).2.2.2.2 (ix2 d col) : EReal) = (init.2.2.2.2 (ix2 d col) : EReal) + ∑ row ∈ Finset.range (512 * (k0_t5_loop i v16).trips),
      (arg9.view.read (Elt Ideal) X_arg9 (ix3 0 d (keyIx (Words.base (grp i) (row0 v16) + row))) : EReal) * clipF (weightF w off row col.1) :=
  loop_acc (fun k => (st_k0_t5 (F := Ideal) 𝒱 c bd i arg2 harg2 arg3 harg3 arg4 harg4 arg5 harg5 arg6 harg6 arg7 harg7 arg8 harg8 arg9 harg9 arg10 harg10 arg11 harg11 arg12 harg12 arg13 harg13 v16 k0_hw1 v37 v40 v94_3 v98 v102 v106 X_arg9 X_arg12 init k).2.2.2.2 (ix2 d col)) (fun row => (arg9.view.read (Elt Ideal) X_arg9 (ix3 0 d (keyIx (Words.base (grp i) (row0 v16) + row))) : EReal) * clipF (weightF w off row col.1)) _
    (fun k hk => (congrArg (fun p => (p.2.2.2.2 (ix2 d col) : EReal)) (st_k0_t5_succ (F := Ideal) 𝒱 c bd i arg2 harg2 arg3 harg3 arg4 harg4 arg5 harg5 arg6 harg6 arg7 harg7 arg8 harg8 arg9 harg9 arg10 harg10 arg11 harg11 arg12 harg12 arg13 harg13 v16 k0_hw1 v37 v40 v94_3 v98 v102 v106 X_arg9 X_arg12 init ⟨k, hk⟩)).trans
      (pv5_acc 𝒱 c bd i arg2 harg2 arg3 harg3 arg4 harg4 arg5 harg5 arg6 harg6 arg7 harg7 arg8 harg8 arg9 harg9 arg10 harg10 arg11 harg11 arg12 harg12 arg13 harg13 v16 k0_hw1 v37 v40 v94_3 v98 v102 v106 X_arg9 X_arg12 ⟨k, hk⟩ _ h hw ho0 ho1 ho2 ho3 d col)) _ le_rfl

end

end

end Cert.KernelIdeal.Hand

end
-- ==== Proof.KernelIdealUnitA.lean ====
/- What the loops of the first unit of the attention kernel leave, from the values that each loop stores. -/
module

public import proofs.«01_k».proof.Proof.KernelIdealUnit
public import proofs.«01_k».proof.Proof.KernelIdealBias
public import proofs.«01_k».proof.Proof.KernelIdealScoreA
public import proofs.«01_k».proof.Proof.KernelIdealWeightA
public import Idealize.ShloMosaic.Lib.Pointwise

@[expose] public section

set_option maxRecDepth 16384
set_option maxHeartbeats 4000000

noncomputable section

namespace Cert.KernelIdeal.Hand

open Cert.KernelIdeal.Gen
open Idealize.ShloMosaic Idealize.ShloMosaic.TcCoe Idealize.ShloMosaic.Tactic

/-- The first key of column `col` of unit `u`. -/
def dsF (x4 : S1x8x128.Idx → BitVec 32) (u col : ℕ) : BitVec 32 := x4 (ix3 0 ⟨(4 * u + col / 128) % 8, Nat.mod_lt _ (by decide)⟩ ⟨col % 128, Nat.mod_lt _ (by decide)⟩)

theorem ds_at (arg7 : Memref sig .tc .vmem S1x8x128 .i32) (harg7 : arg7.IsWhole) (x4 : Vec Ideal S1x8x128 .i32) {u c o p : ℕ} {off : Fin 3 → ℕ} {inb}
    (ho : off = ![0, o, 0]) (hu : o = 4 * u + c) (hn : o < 8) (hp : p = 128 * c := by rfl) (l : Fin 128) :
    View.readAt (Elt Ideal) arg7.view (Rect.unit (s := S1x8x128) off ![1, 1, 128] inb).toLoadRect (harg7.unread x4) (ix3 0 0 l) = dsF x4 u (p + l.1) := by
  have hl := l.2
  subst hp
  refine (rd3 arg7.view _ ho (ix3 0 0 l) (ix3 0 ⟨(4 * u + (128 * c + l.1) / 128) % 8, Nat.mod_lt _ (by decide)⟩ ⟨(128 * c + l.1) % 128, Nat.mod_lt _ (by decide)⟩) rfl ?_ ?_).trans (congrFun (harg7.read_unread x4) _)
  · show (4 * u + (128 * c + l.1) / 128) % 8 = o + 0
    omega
  · show (128 * c + l.1) % 128 = 0 + l.1
    omega

theorem base_word {i : grid0.Coords} {c : Dev nD} {xt0 : TbBuf0 (F := Ideal) c tbM0_0} (h : Early i (stores.sl.r (F := Ideal) c i xt0)) :
    stores.sl.v40 (F := Ideal) c i xt0 = BitVec.ofNat 32 (Words.base (grp i) (row0 (stores.sl.r (F := Ideal) c i xt0))) := by
  have e := h.closed.1
  rw [← e]
  exact ((BitVec.ofNat_toNat _ _).trans (BitVec.setWidth_eq _)).symm
theorem ds619 (v : Vec Ideal S1x1x128 .i32) (l : Fin 128) : k0_pay619 (F := Ideal) v (ix2 0 l) = v (ix3 0 0 l) := by
  pointwise [k0_pay619]
theorem ds620 (v : Vec Ideal S1x1x128 .i32) (l : Fin 128) : k0_pay620 (F := Ideal) v (ix2 0 l) = v (ix3 0 0 l) := by
  pointwise [k0_pay620]
theorem ds621 (v : Vec Ideal S1x1x128 .i32) (l : Fin 128) : k0_pay621 (F := Ideal) v (ix2 0 l) = v (ix3 0 0 l) := by
  pointwise [k0_pay621]

/-- All that the weight loop of unit 0 leaves. -/
theorem pv5_all (𝒱 : Variants) (c : Dev nD) (bd : Option 𝒱.V) (i : grid0.Coords) (arg2 : Memref sig .tc .smem S256 .i32) (harg2 : arg2.IsWhole) (arg3 : Memref sig .tc .smem S1x1x256 .f32) (harg3 : arg3.IsWhole) (arg4 : Memref sig .tc .vmem S1x1x1024x128 .fp8e4m3) (harg4 : arg4.IsWhole) (arg5 : Memref sig .tc .vmem S1x1x1x128 .f32) (harg5 : arg5.IsWhole) (arg6 : Memref sig .tc .vmem S1x1x8x128 .bf16) (harg6 : arg6.IsWhole) (arg7 : Memref sig .tc .vmem S1x8x128 .i32) (harg7 : arg7.IsWhole) (arg8 : Memref sig .tc .vmem S16384x128 .fp8e4m3) (harg8 : arg8.IsWhole) (arg9 : Memref sig .tc .vmem S1x128x16384 .fp8e4m3) (harg9 : arg9.IsWhole) (arg10 : Memref sig .tc .vmem S1x128x128 .f32) (harg10 : arg10.IsWhole) (arg11 : Memref sig .tc .vmem S128x1024 .bf16) (harg11 : arg11.IsWhole) (arg12 : Memref sig .tc .vmem S16384x512 .f32) (harg12 : arg12.IsWhole) (arg13 : Memref sig .tc .vmem S16384x128 .f32) (harg13 : arg13.IsWhole) (v16 : Elt Ideal .i32) (k0_hw1 : k0_chk1 i v16) (v37 : BitVec 32) (v40 : BitVec 32) (v94_3 : FVec Ideal S8x128 .f32) (v98 : FVec Ideal S1x128 .f32) (v102 : FVec Ideal S1x128 .f32) (v106 : FVec Ideal S1x128 .f32) (X_arg9 : BufTy.Contents (Elt Ideal) arg9.view.ty) (X_arg12 : BufTy.Contents (Elt Ideal) arg12.view.ty) (init :  FVec Ideal S8x128 .f32 × FVec Ideal S8x128 .f32 × FVec Ideal S8x128 .f32 × FVec Ideal S8x128 .f32 × FVec Ideal S128x512 .f32) (h : Early i v16) {w : ℕ → ℕ → EReal} {off : ℕ → EReal} (hw : ∀ y : S16384x512.Idx, (y 0).1 < 512 * Words.nt (grp i) (row0 v16) → arg12.view.read (Elt Ideal) X_arg12 y = w (y 0).1 (y 1).1) (ho0 : ∀ l : Fin 128, v98 (ix2 0 l) = off l.1) (ho1 : ∀ l : Fin 128, v102 (ix2 0 l) = off (128 + l.1)) (ho2 : ∀ l : Fin 128, v106 (ix2 0 l) = off (256 + l.1)) (ho3 : ∀ l : Fin 128, offF v94_3 l = off (384 + l.1)) (hz0 : ∀ l : Fin 128, (∑ a : Fin 8, (init.1 (ix2 a l) : EReal)) = 0) (hz1 : ∀ l : Fin 128, (∑ a : Fin 8, (init.2.1 (ix2 a l) : EReal)) = 0) (hz2 : ∀ l : Fin 128, (∑ a : Fin 8, (init.2.2.1 (ix2 a l) : EReal)) = 0) (hz3 : ∀ l : Fin 128, (∑ a : Fin 8, (init.2.2.2.1 (ix2 a l) : EReal)) = 0) (hz : ∀ d col, (init.2.2.2.2 (ix2 d col) : EReal) = 0) :
    (∀ l : Fin 128, (∑ a : Fin 8, ((st_k0_t5 (F := Ideal) 𝒱 c bd i arg2 harg2 arg3 harg3 arg4 harg4 arg5 harg5 arg6 harg6 arg7 harg7 arg8 harg8 arg9 harg9 arg10 harg10 arg11 harg11 arg12 harg12 arg13 harg13 v16 k0_hw1 v37 v40 v94_3 v98 v102 v106 X_arg9 X_arg12 init (k0_t5_loop i v16).trips).1 (ix2 a l) : EReal)) = ∑ row ∈ Finset.range (512 * Words.nt (grp i) (row0 v16)), weightF w off row (l.1)) ∧
    (∀ l : Fin 128, (∑ a : Fin 8, ((st_k0_t5 (F := Ideal) 𝒱 c bd i arg2 harg2 arg3 harg3 arg4 harg4 arg5 harg5 arg6 harg6 arg7 harg7 arg8 harg8 arg9 harg9 arg10 harg10 arg11 harg11 arg12 harg12 arg13 harg13 v16 k0_hw1 v37 v40 v94_3 v98 v102 v106 X_arg9 X_arg12 init (k0_t5_loop i v16).trips).2.1 (ix2 a l) : EReal)) = ∑ row ∈ Finset.range (512 * Words.nt (grp i) (row0 v16)), weightF w off row (128 + l.1)) ∧
    (∀ l : Fin 128, (∑ a : Fin 8, ((st_k0_t5 (F := Ideal) 𝒱 c bd i arg2 harg2 arg3 harg3 arg4 harg4 arg5 harg5 arg6 harg6 arg7 harg7 arg8 harg8 arg9 harg9 arg10 harg10 arg11 harg11 arg12 harg12 arg13 harg13 v16 k0_hw1 v37 v40 v94_3 v98 v102 v106 X_arg9 X_arg12 init (k0_t5_loop i v16).trips).2.2.1 (ix2 a l) : EReal)) = ∑ row ∈ Finset.range (512 * Words.nt (grp i) (row0 v16)), weightF w off row (256 + l.1)) ∧
    (∀ l : Fin 128, (∑ a : Fin 8, ((st_k0_t5 (F := Ideal) 𝒱 c bd i arg2 harg2 arg3 harg3 arg4 harg4 arg5 harg5 arg6 harg6 arg7 harg7 arg8 harg8 arg9 harg9 arg10 harg10 arg11 harg11 arg12 harg12 arg13 harg13 v16 k0_hw1 v37 v40 v94_3 v98 v102 v106 X_arg9 X_arg12 init (k0_t5_loop i v16).trips).2.2.2.1 (ix2 a l) : EReal)) = ∑ row ∈ Finset.range (512 * Words.nt (grp i) (row0 v16)), weightF w off row (384 + l.1)) ∧
    (∀ d col, ((st_k0_t5 (F := Ideal) 𝒱 c bd i arg2 harg2 arg3 harg3 arg4 harg4 arg5 harg5 arg6 harg6 arg7 harg7 arg8 harg8 arg9 harg9 arg10 harg10 arg11 harg11 arg12 harg12 arg13 harg13 v16 k0_hw1 v37 v40 v94_3 v98 v102 v106 X_arg9 X_arg12 init (k0_t5_loop i v16).trips).2.2.2.2 (ix2 d col) : EReal) = ∑ row ∈ Finset.range (512 * Words.nt (grp i) (row0 v16)), (arg9.view.read (Elt Ideal) X_arg9 (ix3 0 d (keyIx (Words.base (grp i) (row0 v16) + row))) : EReal) * clipF (weightF w off row col.1)) := by
  have e : (k0_t5_loop i v16).trips = Words.nt (grp i) (row0 v16) := h.trips
  refine ⟨fun l => ?_, fun l => ?_, fun l => ?_, fun l => ?_, fun d col => ?_⟩
  · rw [pv5_total0 𝒱 c bd i arg2 harg2 arg3 harg3 arg4 harg4 arg5 harg5 arg6 harg6 arg7 harg7 arg8 harg8 arg9 harg9 arg10 harg10 arg11 harg11 arg12 harg12 arg13 harg13 v16 k0_hw1 v37 v40 v94_3 v98 v102 v106 X_arg9 X_arg12 init h hw ho0 ho1 ho2 ho3 l, hz0, zero_add, e]
  · rw [pv5_total1 𝒱 c bd i arg2 harg2 arg3 harg3 arg4 harg4 arg5 harg5 arg6 harg6 arg7 harg7 arg8 harg8 arg9 harg9 arg10 harg10 arg11 harg11 arg12 harg12 arg13 harg13 v16 k0_hw1 v37 v40 v94_3 v98 v102 v106 X_arg9 X_arg12 init h hw ho0 ho1 ho2 ho3 l, hz1, zero_add, e]
  · rw [pv5_total2 𝒱 c bd i arg2 harg2 arg3 harg3 arg4 harg4 arg5 harg5 arg6 harg6 arg7 harg7 arg8 harg8 arg9 harg9 arg10 harg10 arg11 harg11 arg12 harg12 arg13 harg13 v16 k0_hw1 v37 v40 v94_3 v98 v102 v106 X_arg9 X_arg12 init h hw ho0 ho1 ho2 ho3 l, hz2, zero_add, e]
  · rw [pv5_total3 𝒱 c bd i arg2 harg2 arg3 harg3 arg4 harg4 arg5 harg5 arg6 harg6 arg7 harg7 arg8 harg8 arg9 harg9 arg10 harg10 arg11 harg11 arg12 harg12 arg13 harg13 v16 k0_hw1 v37 v40 v94_3 v98 v102 v106 X_arg9 X_arg12 init h hw ho0 ho1 ho2 ho3 l, hz3, zero_add, e]
  · rw [pv5_values 𝒱 c bd i arg2 harg2 arg3 harg3 arg4 harg4 arg5 harg5 arg6 harg6 arg7 harg7 arg8 harg8 arg9 harg9 arg10 harg10 arg11 harg11 arg12 harg12 arg13 harg13 v16 k0_hw1 v37 v40 v94_3 v98 v102 v106 X_arg9 X_arg12 init h hw ho0 ho1 ho2 ho3 d col, hz, zero_add, e]

/-- What the second weight loop of unit 0 leaves. -/
def rawA  (c : Dev nD) (i : grid0.Coords) (arg3 : Memref sig .tc .smem S1x1x256 .f32) (harg3 : arg3.IsWhole) (arg4 : Memref sig .tc .vmem S1x1x1024x128 .fp8e4m3) (harg4 : arg4.IsWhole) (arg5 : Memref sig .tc .vmem S1x1x1x128 .f32) (harg5 : arg5.IsWhole) (arg6 : Memref sig .tc .vmem S1x1x8x128 .bf16) (harg6 : arg6.IsWhole) (arg7 : Memref sig .tc .vmem S1x8x128 .i32) (harg7 : arg7.IsWhole) (arg8 : Memref sig .tc .vmem S16384x128 .fp8e4m3) (harg8 : arg8.IsWhole) (arg9 : Memref sig .tc .vmem S1x128x16384 .fp8e4m3) (harg9 : arg9.IsWhole) (arg10 : Memref sig .tc .vmem S1x128x128 .f32) (harg10 : arg10.IsWhole) (arg11 : Memref sig .tc .vmem S128x1024 .bf16) (harg11 : arg11.IsWhole) (arg12 : Memref sig .tc .vmem S16384x512 .f32) (harg12 : arg12.IsWhole) (arg13 : Memref sig .tc .vmem S16384x128 .f32) (harg13 : arg13.IsWhole)
    (x0 : Vec Ideal S1x1x256 .f32) (x1 : Vec Ideal S1x1x1024x128 .fp8e4m3) (x2 : Vec Ideal S1x1x1x128 .f32) (x3 : Vec Ideal S1x1x8x128 .bf16) (x4 : Vec Ideal S1x8x128 .i32) (x5 : Vec Ideal S16384x128 .fp8e4m3) (x6 : Vec Ideal S1x128x16384 .fp8e4m3) (x7 : Vec Ideal S1x128x128 .f32) (xt0 : TbBuf0 (F := Ideal) c tbM0_0) (k0_hw1 : k0_chk1 i (tbM0_0.view.readAt (Elt Ideal) (Rect.unit (s := S256) (k0_off1 i) S1.size (k0_off1_inb i)).toLoadRect xt0 (Shape.Idx.first (numel1_S1.symm ▸ Nat.one_pos)))) (d12 : Vec Ideal S16384x512 .f32) (d13 : Vec Ideal S16384x128 .f32) : { V : FVec Ideal S8x128 .f32 × FVec Ideal S8x128 .f32 × FVec Ideal S8x128 .f32 × FVec Ideal S8x128 .f32 × FVec Ideal S128x512 .f32 // stores.sl.r_11 (F := Ideal) c i arg3 harg3 arg4 harg4 arg5 harg5 arg6 harg6 arg7 harg7 arg8 harg8 arg9 harg9 arg10 harg10 arg11 harg11 arg12 harg12 arg13 harg13 x0 x1 x2 x3 x4 x5 x6 xt0 k0_hw1 d12 d13 = V.2.1 } := ⟨_, rfl⟩

set_option maxHeartbeats 4000000 in
/-- What the two score loops and the two weight loops of unit 0 leave. -/
theorem unitA  (c : Dev nD) (i : grid0.Coords) (arg3 : Memref sig .tc .smem S1x1x256 .f32) (harg3 : arg3.IsWhole) (arg4 : Memref sig .tc .vmem S1x1x1024x128 .fp8e4m3) (harg4 : arg4.IsWhole) (arg5 : Memref sig .tc .vmem S1x1x1x128 .f32) (harg5 : arg5.IsWhole) (arg6 : Memref sig .tc .vmem S1x1x8x128 .bf16) (harg6 : arg6.IsWhole) (arg7 : Memref sig .tc .vmem S1x8x128 .i32) (harg7 : arg7.IsWhole) (arg8 : Memref sig .tc .vmem S16384x128 .fp8e4m3) (harg8 : arg8.IsWhole) (arg9 : Memref sig .tc .vmem S1x128x16384 .fp8e4m3) (harg9 : arg9.IsWhole) (arg10 : Memref sig .tc .vmem S1x128x128 .f32) (harg10 : arg10.IsWhole) (arg11 : Memref sig .tc .vmem S128x1024 .bf16) (harg11 : arg11.IsWhole) (arg12 : Memref sig .tc .vmem S16384x512 .f32) (harg12 : arg12.IsWhole) (arg13 : Memref sig .tc .vmem S16384x128 .f32) (harg13 : arg13.IsWhole)
    (x0 : Vec Ideal S1x1x256 .f32) (x1 : Vec Ideal S1x1x1024x128 .fp8e4m3) (x2 : Vec Ideal S1x1x1x128 .f32) (x3 : Vec Ideal S1x1x8x128 .bf16) (x4 : Vec Ideal S1x8x128 .i32) (x5 : Vec Ideal S16384x128 .fp8e4m3) (x6 : Vec Ideal S1x128x16384 .fp8e4m3) (x7 : Vec Ideal S1x128x128 .f32) (xt0 : TbBuf0 (F := Ideal) c tbM0_0) (k0_hw1 : k0_chk1 i (tbM0_0.view.readAt (Elt Ideal) (Rect.unit (s := S256) (k0_off1 i) S1.size (k0_off1_inb i)).toLoadRect xt0 (Shape.Idx.first (numel1_S1.symm ▸ Nat.one_pos)))) (d12 : Vec Ideal S16384x512 .f32) (d13 : Vec Ideal S16384x128 .f32) (h : Early i (stores.sl.r (F := Ideal) c i xt0)) :
      (∀ l : Fin 128, (∑ a : Fin 8, ((rawA c i arg3 harg3 arg4 harg4 arg5 harg5 arg6 harg6 arg7 harg7 arg8 harg8 arg9 harg9 arg10 harg10 arg11 harg11 arg12 harg12 arg13 harg13 x0 x1 x2 x3 x4 x5 x6 x7 xt0 k0_hw1 d12 d13).1.1 (ix2 a l) : EReal)) = ∑ row ∈ Finset.range (512 * Words.nt (grp i) (row0 (stores.sl.r (F := Ideal) c i xt0))), weightF (fun row col => scoreF (arg8.view.read (Elt Ideal) (harg8.unread x5)) (stores.sl.r_2 (F := Ideal) c arg6 harg6 x3) (arg3.view.read (Elt Ideal) (harg3.unread x0)) (stores.sl.r_3 (F := Ideal) c arg4 harg4 x1) (stores.sl.r_1 (F := Ideal) c arg5 harg5 x2) (qpF (grp i) 0) (dsF x4 0) (Words.base (grp i) (row0 (stores.sl.r (F := Ideal) c i xt0)) + row) col) (fun col => offS (512 * Words.nt (grp i) (row0 (stores.sl.r (F := Ideal) c i xt0))) (fun row => scoreF (arg8.view.read (Elt Ideal) (harg8.unread x5)) (stores.sl.r_2 (F := Ideal) c arg6 harg6 x3) (arg3.view.read (Elt Ideal) (harg3.unread x0)) (stores.sl.r_3 (F := Ideal) c arg4 harg4 x1) (stores.sl.r_1 (F := Ideal) c arg5 harg5 x2) (qpF (grp i) 0) (dsF x4 0) (Words.base (grp i) (row0 (stores.sl.r (F := Ideal) c i xt0)) + row) col)) row (l.1)) ∧ (∀ l : Fin 128, (∑ a : Fin 8, ((rawA c i arg3 harg3 arg4 harg4 arg5 harg5 arg6 harg6 arg7 harg7 arg8 harg8 arg9 harg9 arg10 harg10 arg11 harg11 arg12 harg12 arg13 harg13 x0 x1 x2 x3 x4 x5 x6 x7 xt0 k0_hw1 d12 d13).1.2.1 (ix2 a l) : EReal)) = ∑ row ∈ Finset.range (512 * Words.nt (grp i) (row0 (stores.sl.r (F := Ideal) c i xt0))), weightF (fun row col => scoreF (arg8.view.read (Elt Ideal) (harg8.unread x5)) (stores.sl.r_2 (F := Ideal) c arg6 harg6 x3) (arg3.view.read (Elt Ideal) (harg3.unread x0)) (stores.sl.r_3 (F := Ideal) c arg4 harg4 x1) (stores.sl.r_1 (F := Ideal) c arg5 harg5 x2) (qpF (grp i) 0) (dsF x4 0) (Words.base (grp i) (row0 (stores.sl.r (F := Ideal) c i xt0)) + row) col) (fun col => offS (512 * Words.nt (grp i) (row0 (stores.sl.r (F := Ideal) c i xt0))) (fun row => scoreF (arg8.view.read (Elt Ideal) (harg8.unread x5)) (stores.sl.r_2 (F := Ideal) c arg6 harg6 x3) (arg3.view.read (Elt Ideal) (harg3.unread x0)) (stores.sl.r_3 (F := Ideal) c arg4 harg4 x1) (stores.sl.r_1 (F := Ideal) c arg5 harg5 x2) (qpF (grp i) 0) (dsF x4 0) (Words.base (grp i) (row0 (stores.sl.r (F := Ideal) c i xt0)) + row) col)) row (128 + l.1)) ∧ (∀ l : Fin 128, (∑ a : Fin 8, ((rawA c i arg3 harg3 arg4 harg4 arg5 harg5 arg6 harg6 arg7 harg7 arg8 harg8 arg9 harg9 arg10 harg10 arg11 harg11 arg12 harg12 arg13 harg13 x0 x1 x2 x3 x4 x5 x6 x7 xt0 k0_hw1 d12 d13).1.2.2.1 (ix2 a l) : EReal)) = ∑ row ∈ Finset.range (512 * Words.nt (grp i) (row0 (stores.sl.r (F := Ideal) c i xt0))), weightF (fun row col => scoreF (arg8.view.read (Elt Ideal) (harg8.unread x5)) (stores.sl.r_2 (F := Ideal) c arg6 harg6 x3) (arg3.view.read (Elt Ideal) (harg3.unread x0)) (stores.sl.r_3 (F := Ideal) c arg4 harg4 x1) (stores.sl.r_1 (F := Ideal) c arg5 harg5 x2) (qpF (grp i) 0) (dsF x4 0) (Words.base (grp i) (row0 (stores.sl.r (F := Ideal) c i xt0)) + row) col) (fun col => offS (512 * Words.nt (grp i) (row0 (stores.sl.r (F := Ideal) c i xt0))) (fun row => scoreF (arg8.view.read (Elt Ideal) (harg8.unread x5)) (stores.sl.r_2 (F := Ideal) c arg6 harg6 x3) (arg3.view.read (Elt Ideal) (harg3.unread x0)) (stores.sl.r_3 (F := Ideal) c arg4 harg4 x1) (stores.sl.r_1 (F := Ideal) c arg5 harg5 x2) (qpF (grp i) 0) (dsF x4 0) (Words.base (grp i) (row0 (stores.sl.r (F := Ideal) c i xt0)) + row) col)) row (256 + l.1)) ∧ (∀ l : Fin 128, (∑ a : Fin 8, ((rawA c i arg3 harg3 arg4 harg4 arg5 harg5 arg6 harg6 arg7 harg7 arg8 harg8 arg9 harg9 arg10 harg10 arg11 harg11 arg12 harg12 arg13 harg13 x0 x1 x2 x3 x4 x5 x6 x7 xt0 k0_hw1 d12 d13).1.2.2.2.1 (ix2 a l) : EReal)) = ∑ row ∈ Finset.range (512 * Words.nt (grp i) (row0 (stores.sl.r (F := Ideal) c i xt0))), weightF (fun row col => scoreF (arg8.view.read (Elt Ideal) (harg8.unread x5)) (stores.sl.r_2 (F := Ideal) c arg6 harg6 x3) (arg3.view.read (Elt Ideal) (harg3.unread x0)) (stores.sl.r_3 (F := Ideal) c arg4 harg4 x1) (stores.sl.r_1 (F := Ideal) c arg5 harg5 x2) (qpF (grp i) 0) (dsF x4 0) (Words.base (grp i) (row0 (stores.sl.r (F := Ideal) c i xt0)) + row) col) (fun col => offS (512 * Words.nt (grp i) (row0 (stores.sl.r (F := Ideal) c i xt0))) (fun row => scoreF (arg8.view.read (Elt Ideal) (harg8.unread x5)) (stores.sl.r_2 (F := Ideal) c arg6 harg6 x3) (arg3.view.read (Elt Ideal) (harg3.unread x0)) (stores.sl.r_3 (F := Ideal) c arg4 harg4 x1) (stores.sl.r_1 (F := Ideal) c arg5 harg5 x2) (qpF (grp i) 0) (dsF x4 0) (Words.base (grp i) (row0 (stores.sl.r (F := Ideal) c i xt0)) + row) col)) row (384 + l.1)) ∧ (∀ d col, ((rawA c i arg3 harg3 arg4 harg4 arg5 harg5 arg6 harg6 arg7 harg7 arg8 harg8 arg9 harg9 arg10 harg10 arg11 harg11 arg12 harg12 arg13 harg13 x0 x1 x2 x3 x4 x5 x6 x7 xt0 k0_hw1 d12 d13).1.2.2.2.2 (ix2 d col) : EReal) = ∑ row ∈ Finset.range (512 * Words.nt (grp i) (row0 (stores.sl.r (F := Ideal) c i xt0))), (arg9.view.read (Elt Ideal) (harg9.unread x6) (ix3 0 d (keyIx (Words.base (grp i) (row0 (stores.sl.r (F := Ideal) c i xt0)) + row))) : EReal) * clipF (weightF (fun row col => scoreF (arg8.view.read (Elt Ideal) (harg8.unread x5)) (stores.sl.r_2 (F := Ideal) c arg6 harg6 x3) (arg3.view.read (Elt Ideal) (harg3.unread x0)) (stores.sl.r_3 (F := Ideal) c arg4 harg4 x1) (stores.sl.r_1 (F := Ideal) c arg5 harg5 x2) (qpF (grp i) 0) (dsF x4 0) (Words.base (grp i) (row0 (stores.sl.r (F := Ideal) c i xt0)) + row) col) (fun col => offS (512 * Words.nt (grp i) (row0 (stores.sl.r (F := Ideal) c i xt0))) (fun row => scoreF (arg8.view.read (Elt Ideal) (harg8.unread x5)) (stores.sl.r_2 (F := Ideal) c arg6 harg6 x3) (arg3.view.read (Elt Ideal) (harg3.unread x0)) (stores.sl.r_3 (F := Ideal) c arg4 harg4 x1) (stores.sl.r_1 (F := Ideal) c arg5 harg5 x2) (qpF (grp i) 0) (dsF x4 0) (Words.base (grp i) (row0 (stores.sl.r (F := Ideal) c i xt0)) + row) col)) row col.1)) := by
  have hv : stores.sl.v40 (F := Ideal) c i xt0 = BitVec.ofNat 32 (Words.base (grp i) (row0 (stores.sl.r (F := Ideal) c i xt0))) := base_word h
  have e2 : Scf.trips (k0_t2_loop i (stores.sl.r (F := Ideal) c i xt0)).lb (k0_t2_loop i (stores.sl.r (F := Ideal) c i xt0)).ub (k0_t2_loop i (stores.sl.r (F := Ideal) c i xt0)).st = 0 := h.restTrips
  have e4 : Scf.trips (k0_t4_loop i (stores.sl.r (F := Ideal) c i xt0)).lb (k0_t4_loop i (stores.sl.r (F := Ideal) c i xt0)).ub (k0_t4_loop i (stores.sl.r (F := Ideal) c i xt0)).st = 0 := h.restTrips
  have e6 : Scf.trips (k0_t6_loop i (stores.sl.r (F := Ideal) c i xt0)).lb (k0_t6_loop i (stores.sl.r (F := Ideal) c i xt0)).ub (k0_t6_loop i (stores.sl.r (F := Ideal) c i xt0)).st = 0 := h.restTrips
  simp only [rawA, e2, st_k0_t2.eq_1, e4, st_k0_t4.eq_1, e6, st_k0_t6.eq_1, List.nil_append]
  refine pv5_all _ _ _ _ _ _ _ _ _ _ _ _ _ _ _ _ _ _ _ _ _ _ _ _ _ _ _ _ _ _ _ _ _ _ _ _ _ _ _ h (w := (fun row col => scoreF (arg8.view.read (Elt Ideal) (harg8.unread x5)) (stores.sl.r_2 (F := Ideal) c arg6 harg6 x3) (arg3.view.read (Elt Ideal) (harg3.unread x0)) (stores.sl.r_3 (F := Ideal) c arg4 harg4 x1) (stores.sl.r_1 (F := Ideal) c arg5 harg5 x2) (qpF (grp i) 0) (dsF x4 0) (Words.base (grp i) (row0 (stores.sl.r (F := Ideal) c i xt0)) + row) col)) (off := (fun col => offS (512 * Words.nt (grp i) (row0 (stores.sl.r (F := Ideal) c i xt0))) (fun row => scoreF (arg8.view.read (Elt Ideal) (harg8.unread x5)) (stores.sl.r_2 (F := Ideal) c arg6 harg6 x3) (arg3.view.read (Elt Ideal) (harg3.unread x0)) (stores.sl.r_3 (F := Ideal) c arg4 harg4 x1) (stores.sl.r_1 (F := Ideal) c arg5 harg5 x2) (qpF (grp i) 0) (dsF x4 0) (Words.base (grp i) (row0 (stores.sl.r (F := Ideal) c i xt0)) + row) col))) ?_ ?_ ?_ ?_ ?_ zero566 zero567 zero568 zero569 zero570
  · intro y hy
    exact score3_read _ _ _ _ _ _ _ _ _ _ _ _ _ _ _ _ _ _ _ _ _ _ _ _ _ _ _ _ _ _ _ _ _ _ _ _ _ _ _ _ _ _ _ _ _ _ _ _ h (qp545 (grp_lt i)) (ds_at arg7 harg7 x4 (u := 0) (c := 0) (o := 0) rfl rfl (by decide)) (qp546 (grp_lt i)) (ds_at arg7 harg7 x4 (u := 0) (c := 1) (o := 1) rfl rfl (by decide)) (qp547 (grp_lt i)) (ds_at arg7 harg7 x4 (u := 0) (c := 2) (o := 2) rfl rfl (by decide)) (qp548 (grp_lt i)) (ds_at arg7 harg7 x4 (u := 0) (c := 3) (o := 3) rfl rfl (by decide)) hv (fun y hy => bias_read _ _ _ _ _ _ _ _ _ _ _ _ _ _ _ _ _ _ _ _ _ _ _ _ _ _ _ _ _ _ _ _ _ _ _ _ _ _ _ _ h y (by rw [show (k0_t1_loop i (stores.sl.r (F := Ideal) c i xt0)).trips = _ from h.trips]; exact hy)) y (by rw [show (k0_t3_loop i (stores.sl.r (F := Ideal) c i xt0)).trips = _ from h.trips]; exact hy)
  · intro l
    unfold stores.sl.r_8
    simp only [e2, st_k0_t2.eq_1, e4, st_k0_t4.eq_1, e6, st_k0_t6.eq_1, List.nil_append]
    exact (off562 _ l).trans (off_eq (fun a => bot554 a l) (congrArg (512 * ·) h.trips) (score3_lub0 _ _ _ _ _ _ _ _ _ _ _ _ _ _ _ _ _ _ _ _ _ _ _ _ _ _ _ _ _ _ _ _ _ _ _ _ _ _ _ _ _ _ _ _ _ _ _ h (qp545 (grp_lt i)) (ds_at arg7 harg7 x4 (u := 0) (c := 0) (o := 0) rfl rfl (by decide)) (qp546 (grp_lt i)) (ds_at arg7 harg7 x4 (u := 0) (c := 1) (o := 1) rfl rfl (by decide)) (qp547 (grp_lt i)) (ds_at arg7 harg7 x4 (u := 0) (c := 2) (o := 2) rfl rfl (by decide)) (qp548 (grp_lt i)) (ds_at arg7 harg7 x4 (u := 0) (c := 3) (o := 3) rfl rfl (by decide)) hv (fun y hy => bias_read _ _ _ _ _ _ _ _ _ _ _ _ _ _ _ _ _ _ _ _ _ _ _ _ _ _ _ _ _ _ _ _ _ _ _ _ _ _ _ _ h y (by rw [show (k0_t1_loop i (stores.sl.r (F := Ideal) c i xt0)).trips = _ from h.trips]; exact hy)) l))
  · intro l
    unfold stores.sl.r_9
    simp only [e2, st_k0_t2.eq_1, e4, st_k0_t4.eq_1, e6, st_k0_t6.eq_1, List.nil_append]
    exact (off563 _ l).trans (off_eq (fun a => bot555 a l) (congrArg (512 * ·) h.trips) (score3_lub1 _ _ _ _ _ _ _ _ _ _ _ _ _ _ _ _ _ _ _ _ _ _ _ _ _ _ _ _ _ _ _ _ _ _ _ _ _ _ _ _ _ _ _ _ _ _ _ h (qp545 (grp_lt i)) (ds_at arg7 harg7 x4 (u := 0) (c := 0) (o := 0) rfl rfl (by decide)) (qp546 (grp_lt i)) (ds_at arg7 harg7 x4 (u := 0) (c := 1) (o := 1) rfl rfl (by decide)) (qp547 (grp_lt i)) (ds_at arg7 harg7 x4 (u := 0) (c := 2) (o := 2) rfl rfl (by decide)) (qp548 (grp_lt i)) (ds_at arg7 harg7 x4 (u := 0) (c := 3) (o := 3) rfl rfl (by decide)) hv (fun y hy => bias_read _ _ _ _ _ _ _ _ _ _ _ _ _ _ _ _ _ _ _ _ _ _ _ _ _ _ _ _ _ _ _ _ _ _ _ _ _ _ _ _ h y (by rw [show (k0_t1_loop i (stores.sl.r (F := Ideal) c i xt0)).trips = _ from h.trips]; exact hy)) l))
  · intro l
    unfold stores.sl.r_10
    simp only [e2, st_k0_t2.eq_1, e4, st_k0_t4.eq_1, e6, st_k0_t6.eq_1, List.nil_append]
    exact (off564 _ l).trans (off_eq (fun a => bot556 a l) (congrArg (512 * ·) h.trips) (score3_lub2 _ _ _ _ _ _ _ _ _ _ _ _ _ _ _ _ _ _ _ _ _ _ _ _ _ _ _ _ _ _ _ _ _ _ _ _ _ _ _ _ _ _ _ _ _ _ _ h (qp545 (grp_lt i)) (ds_at arg7 harg7 x4 (u := 0) (c := 0) (o := 0) rfl rfl (by decide)) (qp546 (grp_lt i)) (ds_at arg7 harg7 x4 (u := 0) (c := 1) (o := 1) rfl rfl (by decide)) (qp547 (grp_lt i)) (ds_at arg7 harg7 x4 (u := 0) (c := 2) (o := 2) rfl rfl (by decide)) (qp548 (grp_lt i)) (ds_at arg7 harg7 x4 (u := 0) (c := 3) (o := 3) rfl rfl (by decide)) hv (fun y hy => bias_read _ _ _ _ _ _ _ _ _ _ _ _ _ _ _ _ _ _ _ _ _ _ _ _ _ _ _ _ _ _ _ _ _ _ _ _ _ _ _ _ h y (by rw [show (k0_t1_loop i (stores.sl.r (F := Ideal) c i xt0)).trips = _ from h.trips]; exact hy)) l))
  · intro l
    unfold stores.sl.r_7
    simp only [e2, st_k0_t2.eq_1, e4, st_k0_t4.eq_1, e6, st_k0_t6.eq_1, List.nil_append]
    exact off_eq (fun a => bot557 a l) (congrArg (512 * ·) h.trips) (score3_lub3 _ _ _ _ _ _ _ _ _ _ _ _ _ _ _ _ _ _ _ _ _ _ _ _ _ _ _ _ _ _ _ _ _ _ _ _ _ _ _ _ _ _ _ _ _ _ _ h (qp545 (grp_lt i)) (ds_at arg7 harg7 x4 (u := 0) (c := 0) (o := 0) rfl rfl (by decide)) (qp546 (grp_lt i)) (ds_at arg7 harg7 x4 (u := 0) (c := 1) (o := 1) rfl rfl (by decide)) (qp547 (grp_lt i)) (ds_at arg7 harg7 x4 (u := 0) (c := 2) (o := 2) rfl rfl (by decide)) (qp548 (grp_lt i)) (ds_at arg7 harg7 x4 (u := 0) (c := 3) (o := 3) rfl rfl (by decide)) hv (fun y hy => bias_read _ _ _ _ _ _ _ _ _ _ _ _ _ _ _ _ _ _ _ _ _ _ _ _ _ _ _ _ _ _ _ _ _ _ _ _ _ _ _ _ h y (by rw [show (k0_t1_loop i (stores.sl.r (F := Ideal) c i xt0)).trips = _ from h.trips]; exact hy)) l)

end Cert.KernelIdeal.Hand
-- ==== Proof.KernelIdealScoreB.lean ====
/- A loop of the kernel over tiles of 512 keys: it writes the scores of the other four tiles of queries. -/
module

public import proofs.«01_k».proof.Proof.KernelIdealScore

@[expose] public section

set_option maxRecDepth 16384
set_option maxHeartbeats 4000000

noncomputable section

namespace Cert.KernelIdeal.Hand

open Cert.KernelIdeal.Gen
open Idealize.ShloMosaic Idealize.ShloMosaic.TcCoe Idealize.ShloMosaic.Tactic

section

variable (𝒱 : Variants) (c : Dev nD) (bd : Option 𝒱.V) (i : grid0.Coords) (arg2 : Memref sig .tc .smem S256 .i32) (harg2 : arg2.IsWhole) (arg3 : Memref sig .tc .smem S1x1x256 .f32) (harg3 : arg3.IsWhole) (arg4 : Memref sig .tc .vmem S1x1x1024x128 .fp8e4m3) (harg4 : arg4.IsWhole) (arg5 : Memref sig .tc .vmem S1x1x1x128 .f32) (harg5 : arg5.IsWhole) (arg6 : Memref sig .tc .vmem S1x1x8x128 .bf16) (harg6 : arg6.IsWhole) (arg7 : Memref sig .tc .vmem S1x8x128 .i32) (harg7 : arg7.IsWhole) (arg8 : Memref sig .tc .vmem S16384x128 .fp8e4m3) (harg8 : arg8.IsWhole) (arg9 : Memref sig .tc .vmem S1x128x16384 .fp8e4m3) (harg9 : arg9.IsWhole) (arg10 : Memref sig .tc .vmem S1x128x128 .f32) (harg10 : arg10.IsWhole) (arg11 : Memref sig .tc .vmem S128x1024 .bf16) (harg11 : arg11.IsWhole) (arg12 : Memref sig .tc .vmem S16384x512 .f32) (harg12 : arg12.IsWhole) (arg13 : Memref sig .tc .vmem S16384x128 .f32) (harg13 : arg13.IsWhole) (v3 : FVec Ideal S1x128 .f32) (v16 : Elt Ideal .i32) (k0_hw1 : k0_chk1 i v16) (v37 : BitVec 32) (v40 : BitVec 32) (v230 : FVec Ideal S512x128 .fp8e4m3) (v238 : IVec S1x128 32) (v244 : IVec S1x128 32) (v250 : IVec S1x128 32) (v256 : IVec S1x128 32) (v258 : IVec S1x128 32) (v260 : IVec S1x128 32) (v262 : IVec S1x128 32) (v263 : Vec Ideal S1x1x128 .i32) (X_arg3 : BufTy.Contents (Elt Ideal) arg3.view.ty) (X_arg8 : BufTy.Contents (Elt Ideal) arg8.view.ty) (X_arg13 : BufTy.Contents (Elt Ideal) arg13.view.ty)

include 𝒱 c bd i arg2 harg2 arg3 harg3 arg4 harg4 arg5 harg5 arg6 harg6 arg7 harg7 arg8 harg8 arg9 harg9 arg10 harg10 arg11 harg11 arg12 harg12 arg13 harg13 v3 v16 k0_hw1 v37 v40 v230 v238 v244 v250 v256 v258 v260 v262 v263 X_arg3 X_arg8 X_arg13

section

variable (k : Fin (k0_t7_loop i v16).trips) (acc :  FVec Ideal S8x128 .f32 × FVec Ideal S8x128 .f32 × FVec Ideal S8x128 .f32 × FVec Ideal S8x128 .f32) (h : Early i v16) {mq : S128x128.Idx → EReal} {qp ds : ℕ → BitVec 32} (hq0 : ∀ l : Fin 128, v238 (ix2 0 l) = qp (0 + l.1)) (hd0 : ∀ l : Fin 128, v258 (ix2 0 l) = ds (0 + l.1)) (hq1 : ∀ l : Fin 128, v244 (ix2 0 l) = qp (128 + l.1)) (hd1 : ∀ l : Fin 128, v260 (ix2 0 l) = ds (128 + l.1)) (hq2 : ∀ l : Fin 128, v250 (ix2 0 l) = qp (256 + l.1)) (hd2 : ∀ l : Fin 128, v262 (ix2 0 l) = ds (256 + l.1)) (hq3 : ∀ l : Fin 128, v256 (ix2 0 l) = qp (384 + l.1)) (hd3 : ∀ l : Fin 128, v263 (ix3 0 0 l) = ds (384 + l.1)) (hv : v40 = BitVec.ofNat 32 (Words.base (grp i) (row0 v16))) (hb : ∀ y : S16384x128.Idx, (y 0).1 < 512 * Words.nt (grp i) (row0 v16) → arg13.view.read (Elt Ideal) X_arg13 y = biasF (arg8.view.read (Elt Ideal) X_arg8) mq (arg3.view.read (Elt Ideal) X_arg3) (Words.base (grp i) (row0 v16) + (y 0).1) (y 1).1)

include k acc h mq qp ds hq0 hd0 hq1 hd1 hq2 hd2 hq3 hd3 hv hb

/-- What one trip of the loop writes, element by element. -/
theorem score7_pieces :
    ∀ P ∈ tripL_k0_t7 (F := Ideal) 𝒱 c bd i arg2 harg2 arg3 harg3 arg4 harg4 arg5 harg5 arg6 harg6 arg7 harg7 arg8 harg8 arg9 harg9 arg10 harg10 arg11 harg11 arg12 harg12 arg13 harg13 v3 v16 k0_hw1 v37 v40 v230 v238 v244 v250 v256 v258 v260 v262 v263 X_arg3 X_arg8 X_arg13 k acc, ∀ x,
      P.2 x = (fun y : S16384x512.Idx => scoreF (arg8.view.read (Elt Ideal) X_arg8) mq (arg3.view.read (Elt Ideal) X_arg3) v230 v3 qp ds (Words.base (grp i) (row0 v16) + (y 0).1) (y 1).1) (P.1.emb x) := by
  intro P hP
  unfold tripL_k0_t7 trip_k0_t7 at hP
  simp only [List.mem_cons, List.not_mem_nil, or_false] at hP
  rcases hP with hP | hP | hP | hP | hP | hP | hP | hP | hP | hP | hP | hP | hP | hP | hP | hP | hP | hP | hP | hP | hP | hP | hP | hP | hP | hP | hP | hP | hP | hP | hP | hP
  refine piece2 hP (g := fun R L => scoreF (arg8.view.read (Elt Ideal) X_arg8) mq (arg3.view.read (Elt Ideal) X_arg3) v230 v3 qp ds (Words.base (grp i) (row0 v16) + R) L) (off38_eq h k ⟨7, by decide⟩) (fun r l => ?_)
  rotate_left
  refine piece2 hP (g := fun R L => scoreF (arg8.view.read (Elt Ideal) X_arg8) mq (arg3.view.read (Elt Ideal) X_arg3) v230 v3 qp ds (Words.base (grp i) (row0 v16) + R) L) (off37_eq h k ⟨7, by decide⟩) (fun r l => ?_)
  rotate_left
  refine piece2 hP (g := fun R L => scoreF (arg8.view.read (Elt Ideal) X_arg8) mq (arg3.view.read (Elt Ideal) X_arg3) v230 v3 qp ds (Words.base (grp i) (row0 v16) + R) L) (off36_eq h k ⟨7, by decide⟩) (fun r l => ?_)
  rotate_left
  refine piece2 hP (g := fun R L => scoreF (arg8.view.read (Elt Ideal) X_arg8) mq (arg3.view.read (Elt Ideal) X_arg3) v230 v3 qp ds (Words.base (grp i) (row0 v16) + R) L) (off35_eq h k ⟨7, by decide⟩) (fun r l => ?_)
  rotate_left
  refine piece2 hP (g := fun R L => scoreF (arg8.view.read (Elt Ideal) X_arg8) mq (arg3.view.read (Elt Ideal) X_arg3) v230 v3 qp ds (Words.base (grp i) (row0 v16) + R) L) (off38_eq h k ⟨6, by decide⟩) (fun r l => ?_)
  rotate_left
  refine piece2 hP (g := fun R L => scoreF (arg8.view.read (Elt Ideal) X_arg8) mq (arg3.view.read (Elt Ideal) X_arg3) v230 v3 qp ds (Words.base (grp i) (row0 v16) + R) L) (off37_eq h k ⟨6, by decide⟩) (fun r l => ?_)
  rotate_left
  refine piece2 hP (g := fun R L => scoreF (arg8.view.read (Elt Ideal) X_arg8) mq (arg3.view.read (Elt Ideal) X_arg3) v230 v3 qp ds (Words.base (grp i) (row0 v16) + R) L) (off36_eq h k ⟨6, by decide⟩) (fun r l => ?_)
  rotate_left
  refine piece2 hP (g := fun R L => scoreF (arg8.view.read (Elt Ideal) X_arg8) mq (arg3.view.read (Elt Ideal) X_arg3) v230 v3 qp ds (Words.base (grp i) (row0 v16) + R) L) (off35_eq h k ⟨6, by decide⟩) (fun r l => ?_)
  rotate_left
  refine piece2 hP (g := fun R L => scoreF (arg8.view.read (Elt Ideal) X_arg8) mq (arg3.view.read (Elt Ideal) X_arg3) v230 v3 qp ds (Words.base (grp i) (row0 v16) + R) L) (off38_eq h k ⟨5, by decide⟩) (fun r l => ?_)
  rotate_left
  refine piece2 hP (g := fun R L => scoreF (arg8.view.read (Elt Ideal) X_arg8) mq (arg3.view.read (Elt Ideal) X_arg3) v230 v3 qp ds (Words.base (grp i) (row0 v16) + R) L) (off37_eq h k ⟨5, by decide⟩) (fun r l => ?_)
  rotate_left
  refine piece2 hP (g := fun R L => scoreF (arg8.view.read (Elt Ideal) X_arg8) mq (arg3.view.read (Elt Ideal) X_arg3) v230 v3 qp ds (Words.base (grp i) (row0 v16) + R) L) (off36_eq h k ⟨5, by decide⟩) (fun r l => ?_)
  rotate_left
  refine piece2 hP (g := fun R L => scoreF (arg8.view.read (Elt Ideal) X_arg8) mq (arg3.view.read (Elt Ideal) X_arg3) v230 v3 qp ds (Words.base (grp i) (row0 v16) + R) L) (off35_eq h k ⟨5, by decide⟩) (fun r l => ?_)
  rotate_left
  refine piece2 hP (g := fun R L => scoreF (arg8.view.read (Elt Ideal) X_arg8) mq (arg3.view.read (Elt Ideal) X_arg3) v230 v3 qp ds (Words.base (grp i) (row0 v16) + R) L) (off38_eq h k ⟨4, by decide⟩) (fun r l => ?_)
  rotate_left
  refine piece2 hP (g := fun R L => scoreF (arg8.view.read (Elt Ideal) X_arg8) mq (arg3.view.read (Elt Ideal) X_arg3) v230 v3 qp ds (Words.base (grp i) (row0 v16) + R) L) (off37_eq h k ⟨4, by decide⟩) (fun r l => ?_)
  rotate_left
  refine piece2 hP (g := fun R L => scoreF (arg8.view.read (Elt Ideal) X_arg8) mq (arg3.view.read (Elt Ideal) X_arg3) v230 v3 qp ds (Words.base (grp i) (row0 v16) + R) L) (off36_eq h k ⟨4, by decide⟩) (fun r l => ?_)
  rotate_left
  refine piece2 hP (g := fun R L => scoreF (arg8.view.read (Elt Ideal) X_arg8) mq (arg3.view.read (Elt Ideal) X_arg3) v230 v3 qp ds (Words.base (grp i) (row0 v16) + R) L) (off35_eq h k ⟨4, by decide⟩) (fun r l => ?_)
  rotate_left
  refine piece2 hP (g := fun R L => scoreF (arg8.view.read (Elt Ideal) X_arg8) mq (arg3.view.read (Elt Ideal) X_arg3) v230 v3 qp ds (Words.base (grp i) (row0 v16) + R) L) (off38_eq h k ⟨3, by decide⟩) (fun r l => ?_)
  rotate_left
  refine piece2 hP (g := fun R L => scoreF (arg8.view.read (Elt Ideal) X_arg8) mq (arg3.view.read (Elt Ideal) X_arg3) v230 v3 qp ds (Words.base (grp i) (row0 v16) + R) L) (off37_eq h k ⟨3, by decide⟩) (fun r l => ?_)
  rotate_left
  refine piece2 hP (g := fun R L => scoreF (arg8.view.read (Elt Ideal) X_arg8) mq (arg3.view.read (Elt Ideal) X_arg3) v230 v3 qp ds (Words.base (grp i) (row0 v16) + R) L) (off36_eq h k ⟨3, by decide⟩) (fun r l => ?_)
  rotate_left
  refine piece2 hP (g := fun R L => scoreF (arg8.view.read (Elt Ideal) X_arg8) mq (arg3.view.read (Elt Ideal) X_arg3) v230 v3 qp ds (Words.base (grp i) (row0 v16) + R) L) (off35_eq h k ⟨3, by decide⟩) (fun r l => ?_)
  rotate_left
  refine piece2 hP (g := fun R L => scoreF (arg8.view.read (Elt Ideal) X_arg8) mq (arg3.view.read (Elt Ideal) X_arg3) v230 v3 qp ds (Words.base (grp i) (row0 v16) + R) L) (off38_eq h k ⟨2, by decide⟩) (fun r l => ?_)
  rotate_left
  refine piece2 hP (g := fun R L => scoreF (arg8.view.read (Elt Ideal) X_arg8) mq (arg3.view.read (Elt Ideal) X_arg3) v230 v3 qp ds (Words.base (grp i) (row0 v16) + R) L) (off37_eq h k ⟨2, by decide⟩) (fun r l => ?_)
  rotate_left
  refine piece2 hP (g := fun R L => scoreF (arg8.view.read (Elt Ideal) X_arg8) mq (arg3.view.read (Elt Ideal) X_arg3) v230 v3 qp ds (Words.base (grp i) (row0 v16) + R) L) (off36_eq h k ⟨2, by decide⟩) (fun r l => ?_)
  rotate_left
  refine piece2 hP (g := fun R L => scoreF (arg8.view.read (Elt Ideal) X_arg8) mq (arg3.view.read (Elt Ideal) X_arg3) v230 v3 qp ds (Words.base (grp i) (row0 v16) + R) L) (off35_eq h k ⟨2, by decide⟩) (fun r l => ?_)
  rotate_left
  refine piece2 hP (g := fun R L => scoreF (arg8.view.read (Elt Ideal) X_arg8) mq (arg3.view.read (Elt Ideal) X_arg3) v230 v3 qp ds (Words.base (grp i) (row0 v16) + R) L) (off38_eq h k ⟨1, by decide⟩) (fun r l => ?_)
  rotate_left
  refine piece2 hP (g := fun R L => scoreF (arg8.view.read (Elt Ideal) X_arg8) mq (arg3.view.read (Elt Ideal) X_arg3) v230 v3 qp ds (Words.base (grp i) (row0 v16) + R) L) (off37_eq h k ⟨1, by decide⟩) (fun r l => ?_)
  rotate_left
  refine piece2 hP (g := fun R L => scoreF (arg8.view.read (Elt Ideal) X_arg8) mq (arg3.view.read (Elt Ideal) X_arg3) v230 v3 qp ds (Words.base (grp i) (row0 v16) + R) L) (off36_eq h k ⟨1, by decide⟩) (fun r l => ?_)
  rotate_left
  refine piece2 hP (g := fun R L => scoreF (arg8.view.read (Elt Ideal) X_arg8) mq (arg3.view.read (Elt Ideal) X_arg3) v230 v3 qp ds (Words.base (grp i) (row0 v16) + R) L) (off35_eq h k ⟨1, by decide⟩) (fun r l => ?_)
  rotate_left
  refine piece2 hP (g := fun R L => scoreF (arg8.view.read (Elt Ideal) X_arg8) mq (arg3.view.read (Elt Ideal) X_arg3) v230 v3 qp ds (Words.base (grp i) (row0 v16) + R) L) (off38_eq h k ⟨0, by decide⟩) (fun r l => ?_)
  rotate_left
  refine piece2 hP (g := fun R L => scoreF (arg8.view.read (Elt Ideal) X_arg8) mq (arg3.view.read (Elt Ideal) X_arg3) v230 v3 qp ds (Words.base (grp i) (row0 v16) + R) L) (off37_eq h k ⟨0, by decide⟩) (fun r l => ?_)
  rotate_left
  refine piece2 hP (g := fun R L => scoreF (arg8.view.read (Elt Ideal) X_arg8) mq (arg3.view.read (Elt Ideal) X_arg3) v230 v3 qp ds (Words.base (grp i) (row0 v16) + R) L) (off36_eq h k ⟨0, by decide⟩) (fun r l => ?_)
  rotate_left
  refine piece2 hP (g := fun R L => scoreF (arg8.view.read (Elt Ideal) X_arg8) mq (arg3.view.read (Elt Ideal) X_arg3) v230 v3 qp ds (Words.base (grp i) (row0 v16) + R) L) (off35_eq h k ⟨0, by decide⟩) (fun r l => ?_)
  rotate_left
  all_goals pointwise [trip_k0_t7.sl.v436, k0_pay364, trip_k0_t7.sl.v429, trip_k0_t7.sl.r_69, k0_pay310, k0_pay346, trip_k0_t7.sl.v432, k0_pay398, trip_k0_t7.sl.r_6, k0_pay369, trip_k0_t7.sl.r_24, trip_k0_t7.sl.r_15, k0_pay353, k0_pay47._proof_2, trip_k0_t7.sl.v808, trip_k0_t7.sl.v443, trip_k0_t7.sl.v450, trip_k0_t7.sl.v763, trip_k0_t7.sl.r_16, k0_pay355, k0_pay399, k0_pay392, trip_k0_t7.sl.r_58, trip_k0_t7.sl.r_41, k0_pay343, k0_pay377, k0_pay335, trip_k0_t7.sl.v449, k0_pay351, k0_pay341, k0_pay301, k0_pay296, k0_pay371, k0_pay394, trip_k0_t7.sl.v427, k0_pay319, k0_pay300, k0_pay360, k0_pay309, k0_pay304, k0_pay306, k0_pay328, trip_k0_t7.sl.r_30, k0_pay386, trip_k0_t7.sl.v446, k0_pay325, k0_pay327, k0_pay315, k0_pay330, trip_k0_t7.sl.arg14, trip_k0_t7.sl.r_74, k0_pay348, trip_k0_t7.sl.r_73, trip_k0_t7.sl.r_43, k0_pay337, trip_k0_t7.sl.v439, trip_k0_t7.sl.r_34, k0_pay324, trip_k0_t7.sl.v410, k0_pay303, trip_k0_t7.sl.v420, k0_pay350, k0_pay403, trip_k0_t7.sl.v437, trip_k0_t7.sl.r_28, trip_k0_t7.sl.v447, trip_k0_t7.sl.r_53, k0_pay384, trip_k0_t7.sl.r_39, k0_pay406, trip_k0_t7.sl.r_66, trip_k0_t7.sl.v419, trip_k0_t7.sl.r_3, trip_k0_t7.sl.r_14, k0_pay383, k0_pay42._proof_1, k0_pay365, trip_k0_t7.sl.r_64, trip_k0_t7.sl.r_31, trip_k0_t7.sl.r_25, k0_pay391, trip_k0_t7.sl.r_45, k0_pay370, trip_k0_t7.sl.r_9, k0_pay389, trip_k0_t7.sl.r_20, k0_pay331, k0_pay336, trip_k0_t7.sl.r_7, trip_k0_t7.sl.r_36, k0_pay332, k0_pay321, k0_pay47._proof_3, trip_k0_t7.sl.r_72, k0_pay361, k0_pay396, k0_pay387, k0_pay402, trip_k0_t7.sl.r_10, k0_pay345, trip_k0_t7.sl.v416, k0_pay320, trip_k0_t7.sl.r_54, trip_k0_t7.sl.r_59, trip_k0_t7.sl.v421, k0_pay405, k0_pay380, k0_pay390, trip_k0_t7.sl.r_17, k0_pay312, k0_pay318, trip_k0_t7.sl.r_42, trip_k0_t7.sl.r_65, k0_pay363, k0_pay352, trip_k0_t7.sl.r_57, k0_pay356, trip_k0_t7.sl.r_2, k0_pay329, k0_pay322, k0_pay368, trip_k0_t7.sl.r_46, k0_pay362, trip_k0_t7.sl.v442, trip_k0_t7.sl.v434, trip_k0_t7.sl.v430, trip_k0_t7.sl.r_40, trip_k0_t7.sl.v417, k0_pay393, trip_k0_t7.sl.r_70, trip_k0_t7.sl.r_1, trip_k0_t7.sl.v415, k0_pay295, k0_pay354, trip_k0_t7.sl.r_49, k0_pay305, k0_pay622, k0_pay382, k0_pay299, trip_k0_t7.sl.r_60, trip_k0_t7.sl.cst_331, trip_k0_t7.sl.r_21, k0_pay313, k0_pay385, k0_pay381, k0_pay338, trip_k0_t7.sl.r_23, trip_k0_t7.sl.r_32, k0_pay302, k0_pay357, k0_pay358, trip_k0_t7.sl.r_37, k0_pay333, k0_pay340, k0_pay375, trip_k0_t7.sl.r_29, trip_k0_t7.sl.cst_248, trip_k0_t7.sl.r_71, trip_k0_t7.sl.v440, k0_pay344, trip_k0_t7.sl.r_61, trip_k0_t7.sl.v448, trip_k0_t7.sl.r_4, trip_k0_t7.sl.r_67, k0_pay326, k0_pay47._proof_1, k0_pay379, k0_pay339, trip_k0_t7.sl.r_8, k0_pay308, trip_k0_t7.sl.r_22, k0_pay317, trip_k0_t7.sl.r_51, k0_pay359, k0_pay401, trip_k0_t7.sl.v433, trip_k0_t7.sl.r_55, trip_k0_t7.sl.v431, k0_pay373, k0_pay311, k0_pay314, k0_pay367, k0_pay374, k0_pay298, trip_k0_t7.sl.r_5, trip_k0_t7.sl.r_33, k0_pay297, trip_k0_t7.sl.r_38, k0_pay347, trip_k0_t7.sl.v445, k0_pay376, trip_k0_t7.sl.v413, k0_pay627, trip_k0_t7.sl.r, k0_pay316, k0_pay349, k0_pay395, k0_pay334, trip_k0_t7.sl.r_48, trip_k0_t7.sl.r_50, trip_k0_t7.sl.r_27, k0_pay628, trip_k0_t7.sl.r_12, trip_k0_t7.sl.v444, trip_k0_t7.sl.r_44, trip_k0_t7.sl.r_56, trip_k0_t7.sl.r_47, k0_pay404, trip_k0_t7.sl.r_52, k0_pay366, trip_k0_t7.sl.v451, trip_k0_t7.sl.v411, k0_pay400, trip_k0_t7.sl.r_13, trip_k0_t7.sl.r_68, k0_pay307, trip_k0_t7.sl.r_19, trip_k0_t7.sl.r_11, k0_pay388, k0_pay323, trip_k0_t7.sl.r_62, k0_pay342, trip_k0_t7.sl.r_63, k0_pay372, k0_pay397, trip_k0_t7.sl.r_35, trip_k0_t7.sl.r_26, trip_k0_t7.sl.r_18, trip_k0_t7.sl.v418, trip_k0_t7.sl.v428, k0_pay378]
  · exact score_at (k := k.1) hv (h.key_lt k) (h.lt k) hb (n := 7) (m := 448) (by decide) (by decide)
      (off32_eq h k) (off33_eq h k ⟨7, by decide⟩) (off34_eq h k ⟨7, by decide⟩)
      (c := 3) (by decide) ⟨448 + r.1, by have := r.2; omega⟩ r l ⟨384 + l.1, by have := l.2; omega⟩ rfl rfl (hq3 l) (hd3 l) (by simp only []; omega) (by omega)
  · exact score_at (k := k.1) hv (h.key_lt k) (h.lt k) hb (n := 7) (m := 448) (by decide) (by decide)
      (off32_eq h k) (off33_eq h k ⟨7, by decide⟩) (off34_eq h k ⟨7, by decide⟩)
      (c := 2) (by decide) ⟨448 + r.1, by have := r.2; omega⟩ r l ⟨256 + l.1, by have := l.2; omega⟩ rfl rfl (hq2 l) (hd2 l) (by simp only []; omega) (by omega)
  · exact score_at (k := k.1) hv (h.key_lt k) (h.lt k) hb (n := 7) (m := 448) (by decide) (by decide)
      (off32_eq h k) (off33_eq h k ⟨7, by decide⟩) (off34_eq h k ⟨7, by decide⟩)
      (c := 1) (by decide) ⟨448 + r.1, by have := r.2; omega⟩ r l ⟨128 + l.1, by have := l.2; omega⟩ rfl rfl (hq1 l) (hd1 l) (by simp only []; omega) (by omega)
  · exact score_at (k := k.1) hv (h.key_lt k) (h.lt k) hb (n := 7) (m := 448) (by decide) (by decide)
      (off32_eq h k) (off33_eq h k ⟨7, by decide⟩) (off34_eq h k ⟨7, by decide⟩)
      (c := 0) (by decide) ⟨448 + r.1, by have := r.2; omega⟩ r l ⟨l.1, by have := l.2; omega⟩ rfl (Nat.zero_add _).symm (hq0 l) (hd0 l) (by simp only []; omega) (by omega)
  · exact score_at (k := k.1) hv (h.key_lt k) (h.lt k) hb (n := 6) (m := 384) (by decide) (by decide)
      (off32_eq h k) (off33_eq h k ⟨6, by decide⟩) (off34_eq h k ⟨6, by decide⟩)
      (c := 3) (by decide) ⟨384 + r.1, by have := r.2; omega⟩ r l ⟨384 + l.1, by have := l.2; omega⟩ rfl rfl (hq3 l) (hd3 l) (by simp only []; omega) (by omega)
  · exact score_at (k := k.1) hv (h.key_lt k) (h.lt k) hb (n := 6) (m := 384) (by decide) (by decide)
      (off32_eq h k) (off33_eq h k ⟨6, by decide⟩) (off34_eq h k ⟨6, by decide⟩)
      (c := 2) (by decide) ⟨384 + r.1, by have := r.2; omega⟩ r l ⟨256 + l.1, by have := l.2; omega⟩ rfl rfl (hq2 l) (hd2 l) (by simp only []; omega) (by omega)
  · exact score_at (k := k.1) hv (h.key_lt k) (h.lt k) hb (n := 6) (m := 384) (by decide) (by decide)
      (off32_eq h k) (off33_eq h k ⟨6, by decide⟩) (off34_eq h k ⟨6, by decide⟩)
      (c := 1) (by decide) ⟨384 + r.1, by have := r.2; omega⟩ r l ⟨128 + l.1, by have := l.2; omega⟩ rfl rfl (hq1 l) (hd1 l) (by simp only []; omega) (by omega)
  · exact score_at (k := k.1) hv (h.key_lt k) (h.lt k) hb (n := 6) (m := 384) (by decide) (by decide)
      (off32_eq h k) (off33_eq h k ⟨6, by decide⟩) (off34_eq h k ⟨6, by decide⟩)
      (c := 0) (by decide) ⟨384 + r.1, by have := r.2; omega⟩ r l ⟨l.1, by have := l.2; omega⟩ rfl (Nat.zero_add _).symm (hq0 l) (hd0 l) (by simp only []; omega) (by omega)
  · exact score_at (k := k.1) hv (h.key_lt k) (h.lt k) hb (n := 5) (m := 320) (by decide) (by decide)
      (off32_eq h k) (off33_eq h k ⟨5, by decide⟩) (off34_eq h k ⟨5, by decide⟩)
      (c := 3) (by decide) ⟨320 + r.1, by have := r.2; omega⟩ r l ⟨384 + l.1, by have := l.2; omega⟩ rfl rfl (hq3 l) (hd3 l) (by simp only []; omega) (by omega)
  · exact score_at (k := k.1) hv (h.key_lt k) (h.lt k) hb (n := 5) (m := 320) (by decide) (by decide)
      (off32_eq h k) (off33_eq h k ⟨5, by decide⟩) (off34_eq h k ⟨5, by decide⟩)
      (c := 2) (by decide) ⟨320 + r.1, by have := r.2; omega⟩ r l ⟨256 + l.1, by have := l.2; omega⟩ rfl rfl (hq2 l) (hd2 l) (by simp only []; omega) (by omega)
  · exact score_at (k := k.1) hv (h.key_lt k) (h.lt k) hb (n := 5) (m := 320) (by decide) (by decide)
      (off32_eq h k) (off33_eq h k ⟨5, by decide⟩) (off34_eq h k ⟨5, by decide⟩)
      (c := 1) (by decide) ⟨320 + r.1, by have := r.2; omega⟩ r l ⟨128 + l.1, by have := l.2; omega⟩ rfl rfl (hq1 l) (hd1 l) (by simp only []; omega) (by omega)
  · exact score_at (k := k.1) hv (h.key_lt k) (h.lt k) hb (n := 5) (m := 320) (by decide) (by decide)
      (off32_eq h k) (off33_eq h k ⟨5, by decide⟩) (off34_eq h k ⟨5, by decide⟩)
      (c := 0) (by decide) ⟨320 + r.1, by have := r.2; omega⟩ r l ⟨l.1, by have := l.2; omega⟩ rfl (Nat.zero_add _).symm (hq0 l) (hd0 l) (by simp only []; omega) (by omega)
  · exact score_at (k := k.1) hv (h.key_lt k) (h.lt k) hb (n := 4) (m := 256) (by decide) (by decide)
      (off32_eq h k) (off33_eq h k ⟨4, by decide⟩) (off34_eq h k ⟨4, by decide⟩)
      (c := 3) (by decide) ⟨256 + r.1, by have := r.2; omega⟩ r l ⟨384 + l.1, by have := l.2; omega⟩ rfl rfl (hq3 l) (hd3 l) (by simp only []; omega) (by omega)
  · exact score_at (k := k.1) hv (h.key_lt k) (h.lt k) hb (n := 4) (m := 256) (by decide) (by decide)
      (off32_eq h k) (off33_eq h k ⟨4, by decide⟩) (off34_eq h k ⟨4, by decide⟩)
      (c := 2) (by decide) ⟨256 + r.1, by have := r.2; omega⟩ r l ⟨256 + l.1, by have := l.2; omega⟩ rfl rfl (hq2 l) (hd2 l) (by simp only []; omega) (by omega)
  · exact score_at (k := k.1) hv (h.key_lt k) (h.lt k) hb (n := 4) (m := 256) (by decide) (by decide)
      (off32_eq h k) (off33_eq h k ⟨4, by decide⟩) (off34_eq h k ⟨4, by decide⟩)
      (c := 1) (by decide) ⟨256 + r.1, by have := r.2; omega⟩ r l ⟨128 + l.1, by have := l.2; omega⟩ rfl rfl (hq1 l) (hd1 l) (by simp only []; omega) (by omega)
  · exact score_at (k := k.1) hv (h.key_lt k) (h.lt k) hb (n := 4) (m := 256) (by decide) (by decide)
      (off32_eq h k) (off33_eq h k ⟨4, by decide⟩) (off34_eq h k ⟨4, by decide⟩)
      (c := 0) (by decide) ⟨256 + r.1, by have := r.2; omega⟩ r l ⟨l.1, by have := l.2; omega⟩ rfl (Nat.zero_add _).symm (hq0 l) (hd0 l) (by simp only []; omega) (by omega)
  · exact score_at (k := k.1) hv (h.key_lt k) (h.lt k) hb (n := 3) (m := 192) (by decide) (by decide)
      (off32_eq h k) (off33_eq h k ⟨3, by decide⟩) (off34_eq h k ⟨3, by decide⟩)
      (c := 3) (by decide) ⟨192 + r.1, by have := r.2; omega⟩ r l ⟨384 + l.1, by have := l.2; omega⟩ rfl rfl (hq3 l) (hd3 l) (by simp only []; omega) (by omega)
  · exact score_at (k := k.1) hv (h.key_lt k) (h.lt k) hb (n := 3) (m := 192) (by decide) (by decide)
      (off32_eq h k) (off33_eq h k ⟨3, by decide⟩) (off34_eq h k ⟨3, by decide⟩)
      (c := 2) (by decide) ⟨192 + r.1, by have := r.2; omega⟩ r l ⟨256 + l.1, by have := l.2; omega⟩ rfl rfl (hq2 l) (hd2 l) (by simp only []; omega) (by omega)
  · exact score_at (k := k.1) hv (h.key_lt k) (h.lt k) hb (n := 3) (m := 192) (by decide) (by decide)
      (off32_eq h k) (off33_eq h k ⟨3, by decide⟩) (off34_eq h k ⟨3, by decide⟩)
      (c := 1) (by decide) ⟨192 + r.1, by have := r.2; omega⟩ r l ⟨128 + l.1, by have := l.2; omega⟩ rfl rfl (hq1 l) (hd1 l) (by simp only []; omega) (by omega)
  · exact score_at (k := k.1) hv (h.key_lt k) (h.lt k) hb (n := 3) (m := 192) (by decide) (by decide)
      (off32_eq h k) (off33_eq h k ⟨3, by decide⟩) (off34_eq h k ⟨3, by decide⟩)
      (c := 0) (by decide) ⟨192 + r.1, by have := r.2; omega⟩ r l ⟨l.1, by have := l.2; omega⟩ rfl (Nat.zero_add _).symm (hq0 l) (hd0 l) (by simp only []; omega) (by omega)
  · exact score_at (k := k.1) hv (h.key_lt k) (h.lt k) hb (n := 2) (m := 128) (by decide) (by decide)
      (off32_eq h k) (off33_eq h k ⟨2, by decide⟩) (off34_eq h k ⟨2, by decide⟩)
      (c := 3) (by decide) ⟨128 + r.1, by have := r.2; omega⟩ r l ⟨384 + l.1, by have := l.2; omega⟩ rfl rfl (hq3 l) (hd3 l) (by simp only []; omega) (by omega)
  · exact score_at (k := k.1) hv (h.key_lt k) (h.lt k) hb (n := 2) (m := 128) (by decide) (by decide)
      (off32_eq h k) (off33_eq h k ⟨2, by decide⟩) (off34_eq h k ⟨2, by decide⟩)
      (c := 2) (by decide) ⟨128 + r.1, by have := r.2; omega⟩ r l ⟨256 + l.1, by have := l.2; omega⟩ rfl rfl (hq2 l) (hd2 l) (by simp only []; omega) (by omega)
  · exact score_at (k := k.1) hv (h.key_lt k) (h.lt k) hb (n := 2) (m := 128) (by decide) (by decide)
      (off32_eq h k) (off33_eq h k ⟨2, by decide⟩) (off34_eq h k ⟨2, by decide⟩)
      (c := 1) (by decide) ⟨128 + r.1, by have := r.2; omega⟩ r l ⟨128 + l.1, by have := l.2; omega⟩ rfl rfl (hq1 l) (hd1 l) (by simp only []; omega) (by omega)
  · exact score_at (k := k.1) hv (h.key_lt k) (h.lt k) hb (n := 2) (m := 128) (by decide) (by decide)
      (off32_eq h k) (off33_eq h k ⟨2, by decide⟩) (off34_eq h k ⟨2, by decide⟩)
      (c := 0) (by decide) ⟨128 + r.1, by have := r.2; omega⟩ r l ⟨l.1, by have := l.2; omega⟩ rfl (Nat.zero_add _).symm (hq0 l) (hd0 l) (by simp only []; omega) (by omega)
  · exact score_at (k := k.1) hv (h.key_lt k) (h.lt k) hb (n := 1) (m := 64) (by decide) (by decide)
      (off32_eq h k) (off33_eq h k ⟨1, by decide⟩) (off34_eq h k ⟨1, by decide⟩)
      (c := 3) (by decide) ⟨64 + r.1, by have := r.2; omega⟩ r l ⟨384 + l.1, by have := l.2; omega⟩ rfl rfl (hq3 l) (hd3 l) (by simp only []; omega) (by omega)
  · exact score_at (k := k.1) hv (h.key_lt k) (h.lt k) hb (n := 1) (m := 64) (by decide) (by decide)
      (off32_eq h k) (off33_eq h k ⟨1, by decide⟩) (off34_eq h k ⟨1, by decide⟩)
      (c := 2) (by decide) ⟨64 + r.1, by have := r.2; omega⟩ r l ⟨256 + l.1, by have := l.2; omega⟩ rfl rfl (hq2 l) (hd2 l) (by simp only []; omega) (by omega)
  · exact score_at (k := k.1) hv (h.key_lt k) (h.lt k) hb (n := 1) (m := 64) (by decide) (by decide)
      (off32_eq h k) (off33_eq h k ⟨1, by decide⟩) (off34_eq h k ⟨1, by decide⟩)
      (c := 1) (by decide) ⟨64 + r.1, by have := r.2; omega⟩ r l ⟨128 + l.1, by have := l.2; omega⟩ rfl rfl (hq1 l) (hd1 l) (by simp only []; omega) (by omega)
  · exact score_at (k := k.1) hv (h.key_lt k) (h.lt k) hb (n := 1) (m := 64) (by decide) (by decide)
      (off32_eq h k) (off33_eq h k ⟨1, by decide⟩) (off34_eq h k ⟨1, by decide⟩)
      (c := 0) (by decide) ⟨64 + r.1, by have := r.2; omega⟩ r l ⟨l.1, by have := l.2; omega⟩ rfl (Nat.zero_add _).symm (hq0 l) (hd0 l) (by simp only []; omega) (by omega)
  · exact score_at (k := k.1) hv (h.key_lt k) (h.lt k) hb (n := 0) (m := 0) (by decide) (by decide)
      (off32_eq h k) (off33_eq h k ⟨0, by decide⟩) (off34_eq h k ⟨0, by decide⟩)
      (c := 3) (by decide) ⟨r.1, by have := r.2; omega⟩ r l ⟨384 + l.1, by have := l.2; omega⟩ (Nat.zero_add _).symm rfl (hq3 l) (hd3 l) (by simp only []; omega) (by omega)
  · exact score_at (k := k.1) hv (h.key_lt k) (h.lt k) hb (n := 0) (m := 0) (by decide) (by decide)
      (off32_eq h k) (off33_eq h k ⟨0, by decide⟩) (off34_eq h k ⟨0, by decide⟩)
      (c := 2) (by decide) ⟨r.1, by have := r.2; omega⟩ r l ⟨256 + l.1, by have := l.2; omega⟩ (Nat.zero_add _).symm rfl (hq2 l) (hd2 l) (by simp only []; omega) (by omega)
  · exact score_at (k := k.1) hv (h.key_lt k) (h.lt k) hb (n := 0) (m := 0) (by decide) (by decide)
      (off32_eq h k) (off33_eq h k ⟨0, by decide⟩) (off34_eq h k ⟨0, by decide⟩)
      (c := 1) (by decide) ⟨r.1, by have := r.2; omega⟩ r l ⟨128 + l.1, by have := l.2; omega⟩ (Nat.zero_add _).symm rfl (hq1 l) (hd1 l) (by simp only []; omega) (by omega)
  · exact score_at (k := k.1) hv (h.key_lt k) (h.lt k) hb (n := 0) (m := 0) (by decide) (by decide)
      (off32_eq h k) (off33_eq h k ⟨0, by decide⟩) (off34_eq h k ⟨0, by decide⟩)
      (c := 0) (by decide) ⟨r.1, by have := r.2; omega⟩ r l ⟨l.1, by have := l.2; omega⟩ (Nat.zero_add _).symm (Nat.zero_add _).symm (hq0 l) (hd0 l) (by simp only []; omega) (by omega)

/-- The maxima of the columns of tile 0, after one more trip. -/
theorem score7_max0 (a : Fin 8) (l : Fin 128) :
    ((tripR_k0_t7 (F := Ideal) 𝒱 c bd i arg2 harg2 arg3 harg3 arg4 harg4 arg5 harg5 arg6 harg6 arg7 harg7 arg8 harg8 arg9 harg9 arg10 harg10 arg11 harg11 arg12 harg12 arg13 harg13 v3 v16 k0_hw1 v37 v40 v230 v238 v244 v250 v256 v258 v260 v262 v263 X_arg3 X_arg8 X_arg13 k acc).1 (ix2 a l) : EReal) = tileMax (acc.1 (ix2 a l))
      (fun n x => scoreF (arg8.view.read (Elt Ideal) X_arg8) mq (arg3.view.read (Elt Ideal) X_arg3) v230 v3 qp ds (Words.base (grp i) (row0 v16) + (512 * k.1 + (64 * n + (x * 8 + a.1)))) (l.1)) := by
  unfold tripR_k0_t7 trip_k0_t7
  dsimp only
  pointwise [trip_k0_t7.sl.v436, k0_pay398, k0_pay353, trip_k0_t7.sl.v443, trip_k0_t7.sl.v450, trip_k0_t7.sl.r_16, trip_k0_t7.sl.v449, k0_pay341, k0_pay394, k0_pay309, trip_k0_t7.sl.v446, k0_pay325, k0_pay327, trip_k0_t7.sl.arg14, trip_k0_t7.sl.r_43, k0_pay337, k0_pay324, trip_k0_t7.sl.v410, trip_k0_t7.sl.v437, trip_k0_t7.sl.r_28, trip_k0_t7.sl.v447, k0_pay384, k0_pay370, trip_k0_t7.sl.r_7, k0_pay321, k0_pay396, k0_pay380, trip_k0_t7.sl.r_42, trip_k0_t7.sl.r_65, k0_pay352, trip_k0_t7.sl.r_57, k0_pay356, trip_k0_t7.sl.r_2, k0_pay322, k0_pay368, trip_k0_t7.sl.r_46, trip_k0_t7.sl.v442, trip_k0_t7.sl.r_70, trip_k0_t7.sl.v415, k0_pay295, k0_pay354, k0_pay382, trip_k0_t7.sl.cst_331, trip_k0_t7.sl.r_21, k0_pay381, k0_pay338, trip_k0_t7.sl.r_23, trip_k0_t7.sl.r_32, trip_k0_t7.sl.r_37, trip_k0_t7.sl.cst_248, trip_k0_t7.sl.r_61, trip_k0_t7.sl.v448, trip_k0_t7.sl.r_67, k0_pay339, k0_pay308, trip_k0_t7.sl.r_22, k0_pay311, k0_pay367, k0_pay297, trip_k0_t7.sl.v445, trip_k0_t7.sl.r, k0_pay395, trip_k0_t7.sl.v444, trip_k0_t7.sl.r_52, k0_pay366, trip_k0_t7.sl.v451, trip_k0_t7.sl.v411, k0_pay307, trip_k0_t7.sl.r_11, k0_pay323, trip_k0_t7.sl.r_62]
  refine tileMax_congr _ (fun n x => scoreF (arg8.view.read (Elt Ideal) X_arg8) mq (arg3.view.read (Elt Ideal) X_arg3) v230 v3 qp ds (Words.base (grp i) (row0 v16) + (512 * k.1 + (64 * n + (x * 8 + a.1)))) (l.1))
    (fun x => ?_) (fun x => ?_) (fun x => ?_) (fun x => ?_) (fun x => ?_) (fun x => ?_) (fun x => ?_) (fun x => ?_)
  · have hx : x.1 * 8 + a.1 < 64 := by have := x.2; have := a.2; omega
    exact score_at (k := k.1) hv (h.key_lt k) (h.lt k) hb (n := 0) (m := 0) (by decide) (by decide)
      (off32_eq h k) (off33_eq h k ⟨0, by decide⟩) (off34_eq h k ⟨0, by decide⟩)
      (c := 0) (by decide) ⟨(x.1 * 8 + a.1), by omega⟩ ⟨x.1 * 8 + a.1, hx⟩ l ⟨l.1, by have := l.2; omega⟩ (Nat.zero_add _).symm (Nat.zero_add _).symm (hq0 l) (hd0 l) (by simp only []; omega) (by omega)
  · have hx : x.1 * 8 + a.1 < 64 := by have := x.2; have := a.2; omega
    exact score_at (k := k.1) hv (h.key_lt k) (h.lt k) hb (n := 1) (m := 64) (by decide) (by decide)
      (off32_eq h k) (off33_eq h k ⟨1, by decide⟩) (off34_eq h k ⟨1, by decide⟩)
      (c := 0) (by decide) ⟨64 + (x.1 * 8 + a.1), by omega⟩ ⟨x.1 * 8 + a.1, hx⟩ l ⟨l.1, by have := l.2; omega⟩ rfl (Nat.zero_add _).symm (hq0 l) (hd0 l) (by simp only []; omega) (by omega)
  · have hx : x.1 * 8 + a.1 < 64 := by have := x.2; have := a.2; omega
    exact score_at (k := k.1) hv (h.key_lt k) (h.lt k) hb (n := 2) (m := 128) (by decide) (by decide)
      (off32_eq h k) (off33_eq h k ⟨2, by decide⟩) (off34_eq h k ⟨2, by decide⟩)
      (c := 0) (by decide) ⟨128 + (x.1 * 8 + a.1), by omega⟩ ⟨x.1 * 8 + a.1, hx⟩ l ⟨l.1, by have := l.2; omega⟩ rfl (Nat.zero_add _).symm (hq0 l) (hd0 l) (by simp only []; omega) (by omega)
  · have hx : x.1 * 8 + a.1 < 64 := by have := x.2; have := a.2; omega
    exact score_at (k := k.1) hv (h.key_lt k) (h.lt k) hb (n := 3) (m := 192) (by decide) (by decide)
      (off32_eq h k) (off33_eq h k ⟨3, by decide⟩) (off34_eq h k ⟨3, by decide⟩)
      (c := 0) (by decide) ⟨192 + (x.1 * 8 + a.1), by omega⟩ ⟨x.1 * 8 + a.1, hx⟩ l ⟨l.1, by have := l.2; omega⟩ rfl (Nat.zero_add _).symm (hq0 l) (hd0 l) (by simp only []; omega) (by omega)
  · have hx : x.1 * 8 + a.1 < 64 := by have := x.2; have := a.2; omega
    exact score_at (k := k.1) hv (h.key_lt k) (h.lt k) hb (n := 4) (m := 256) (by decide) (by decide)
      (off32_eq h k) (off33_eq h k ⟨4, by decide⟩) (off34_eq h k ⟨4, by decide⟩)
      (c := 0) (by decide) ⟨256 + (x.1 * 8 + a.1), by omega⟩ ⟨x.1 * 8 + a.1, hx⟩ l ⟨l.1, by have := l.2; omega⟩ rfl (Nat.zero_add _).symm (hq0 l) (hd0 l) (by simp only []; omega) (by omega)
  · have hx : x.1 * 8 + a.1 < 64 := by have := x.2; have := a.2; omega
    exact score_at (k := k.1) hv (h.key_lt k) (h.lt k) hb (n := 5) (m := 320) (by decide) (by decide)
      (off32_eq h k) (off33_eq h k ⟨5, by decide⟩) (off34_eq h k ⟨5, by decide⟩)
      (c := 0) (by decide) ⟨320 + (x.1 * 8 + a.1), by omega⟩ ⟨x.1 * 8 + a.1, hx⟩ l ⟨l.1, by have := l.2; omega⟩ rfl (Nat.zero_add _).symm (hq0 l) (hd0 l) (by simp only []; omega) (by omega)
  · have hx : x.1 * 8 + a.1 < 64 := by have := x.2; have := a.2; omega
    exact score_at (k := k.1) hv (h.key_lt k) (h.lt k) hb (n := 6) (m := 384) (by decide) (by decide)
      (off32_eq h k) (off33_eq h k ⟨6, by decide⟩) (off34_eq h k ⟨6, by decide⟩)
      (c := 0) (by decide) ⟨384 + (x.1 * 8 + a.1), by omega⟩ ⟨x.1 * 8 + a.1, hx⟩ l ⟨l.1, by have := l.2; omega⟩ rfl (Nat.zero_add _).symm (hq0 l) (hd0 l) (by simp only []; omega) (by omega)
  · have hx : x.1 * 8 + a.1 < 64 := by have := x.2; have := a.2; omega
    exact score_at (k := k.1) hv (h.key_lt k) (h.lt k) hb (n := 7) (m := 448) (by decide) (by decide)
      (off32_eq h k) (off33_eq h k ⟨7, by decide⟩) (off34_eq h k ⟨7, by decide⟩)
      (c := 0) (by decide) ⟨448 + (x.1 * 8 + a.1), by omega⟩ ⟨x.1 * 8 + a.1, hx⟩ l ⟨l.1, by have := l.2; omega⟩ rfl (Nat.zero_add _).symm (hq0 l) (hd0 l) (by simp only []; omega) (by omega)

/-- The maxima of the columns of tile 1, after one more trip. -/
theorem score7_max1 (a : Fin 8) (l : Fin 128) :
    ((tripR_k0_t7 (F := Ideal) 𝒱 c bd i arg2 harg2 arg3 harg3 arg4 harg4 arg5 harg5 arg6 harg6 arg7 harg7 arg8 harg8 arg9 harg9 arg10 harg10 arg11 harg11 arg12 harg12 arg13 harg13 v3 v16 k0_hw1 v37 v40 v230 v238 v244 v250 v256 v258 v260 v262 v263 X_arg3 X_arg8 X_arg13 k acc).2.1 (ix2 a l) : EReal) = tileMax (acc.2.1 (ix2 a l))
      (fun n x => scoreF (arg8.view.read (Elt Ideal) X_arg8) mq (arg3.view.read (Elt Ideal) X_arg3) v230 v3 qp ds (Words.base (grp i) (row0 v16) + (512 * k.1 + (64 * n + (x * 8 + a.1)))) (128 + l.1)) := by
  unfold tripR_k0_t7 trip_k0_t7
  dsimp only
  pointwise [trip_k0_t7.sl.v436, trip_k0_t7.sl.r_24, k0_pay353, trip_k0_t7.sl.v443, trip_k0_t7.sl.r_16, k0_pay399, trip_k0_t7.sl.r_58, trip_k0_t7.sl.r_41, k0_pay371, k0_pay394, k0_pay300, k0_pay328, k0_pay330, trip_k0_t7.sl.arg14, k0_pay337, trip_k0_t7.sl.r_34, trip_k0_t7.sl.v410, trip_k0_t7.sl.v437, trip_k0_t7.sl.r_28, trip_k0_t7.sl.r_53, trip_k0_t7.sl.r_39, trip_k0_t7.sl.r_3, trip_k0_t7.sl.r_20, trip_k0_t7.sl.r_7, k0_pay321, trip_k0_t7.sl.r_72, k0_pay387, k0_pay402, trip_k0_t7.sl.r_54, trip_k0_t7.sl.r_59, k0_pay380, k0_pay312, trip_k0_t7.sl.r_65, k0_pay352, trip_k0_t7.sl.r_57, k0_pay322, trip_k0_t7.sl.r_46, trip_k0_t7.sl.v442, trip_k0_t7.sl.r_40, trip_k0_t7.sl.r_1, trip_k0_t7.sl.v415, trip_k0_t7.sl.r_60, k0_pay385, k0_pay381, k0_pay338, k0_pay357, trip_k0_t7.sl.r_37, trip_k0_t7.sl.cst_248, trip_k0_t7.sl.r_71, k0_pay344, trip_k0_t7.sl.r_67, k0_pay308, k0_pay359, k0_pay401, k0_pay373, k0_pay314, k0_pay367, k0_pay298, trip_k0_t7.sl.r_33, trip_k0_t7.sl.v445, trip_k0_t7.sl.r, k0_pay395, trip_k0_t7.sl.r_12, trip_k0_t7.sl.v444, trip_k0_t7.sl.r_44, k0_pay366, trip_k0_t7.sl.v411, trip_k0_t7.sl.r_13, k0_pay307, trip_k0_t7.sl.r_19, k0_pay342, trip_k0_t7.sl.r_63, trip_k0_t7.sl.r_18]
  refine tileMax_congr _ (fun n x => scoreF (arg8.view.read (Elt Ideal) X_arg8) mq (arg3.view.read (Elt Ideal) X_arg3) v230 v3 qp ds (Words.base (grp i) (row0 v16) + (512 * k.1 + (64 * n + (x * 8 + a.1)))) (128 + l.1))
    (fun x => ?_) (fun x => ?_) (fun x => ?_) (fun x => ?_) (fun x => ?_) (fun x => ?_) (fun x => ?_) (fun x => ?_)
  · have hx : x.1 * 8 + a.1 < 64 := by have := x.2; have := a.2; omega
    exact score_at (k := k.1) hv (h.key_lt k) (h.lt k) hb (n := 0) (m := 0) (by decide) (by decide)
      (off32_eq h k) (off33_eq h k ⟨0, by decide⟩) (off34_eq h k ⟨0, by decide⟩)
      (c := 1) (by decide) ⟨(x.1 * 8 + a.1), by omega⟩ ⟨x.1 * 8 + a.1, hx⟩ l ⟨128 + l.1, by have := l.2; omega⟩ (Nat.zero_add _).symm rfl (hq1 l) (hd1 l) (by simp only []; omega) (by omega)
  · have hx : x.1 * 8 + a.1 < 64 := by have := x.2; have := a.2; omega
    exact score_at (k := k.1) hv (h.key_lt k) (h.lt k) hb (n := 1) (m := 64) (by decide) (by decide)
      (off32_eq h k) (off33_eq h k ⟨1, by decide⟩) (off34_eq h k ⟨1, by decide⟩)
      (c := 1) (by decide) ⟨64 + (x.1 * 8 + a.1), by omega⟩ ⟨x.1 * 8 + a.1, hx⟩ l ⟨128 + l.1, by have := l.2; omega⟩ rfl rfl (hq1 l) (hd1 l) (by simp only []; omega) (by omega)
  · have hx : x.1 * 8 + a.1 < 64 := by have := x.2; have := a.2; omega
    exact score_at (k := k.1) hv (h.key_lt k) (h.lt k) hb (n := 2) (m := 128) (by decide) (by decide)
      (off32_eq h k) (off33_eq h k ⟨2, by decide⟩) (off34_eq h k ⟨2, by decide⟩)
      (c := 1) (by decide) ⟨128 + (x.1 * 8 + a.1), by omega⟩ ⟨x.1 * 8 + a.1, hx⟩ l ⟨128 + l.1, by have := l.2; omega⟩ rfl rfl (hq1 l) (hd1 l) (by simp only []; omega) (by omega)
  · have hx : x.1 * 8 + a.1 < 64 := by have := x.2; have := a.2; omega
    exact score_at (k := k.1) hv (h.key_lt k) (h.lt k) hb (n := 3) (m := 192) (by decide) (by decide)
      (off32_eq h k) (off33_eq h k ⟨3, by decide⟩) (off34_eq h k ⟨3, by decide⟩)
      (c := 1) (by decide) ⟨192 + (x.1 * 8 + a.1), by omega⟩ ⟨x.1 * 8 + a.1, hx⟩ l ⟨128 + l.1, by have := l.2; omega⟩ rfl rfl (hq1 l) (hd1 l) (by simp only []; omega) (by omega)
  · have hx : x.1 * 8 + a.1 < 64 := by have := x.2; have := a.2; omega
    exact score_at (k := k.1) hv (h.key_lt k) (h.lt k) hb (n := 4) (m := 256) (by decide) (by decide)
      (off32_eq h k) (off33_eq h k ⟨4, by decide⟩) (off34_eq h k ⟨4, by decide⟩)
      (c := 1) (by decide) ⟨256 + (x.1 * 8 + a.1), by omega⟩ ⟨x.1 * 8 + a.1, hx⟩ l ⟨128 + l.1, by have := l.2; omega⟩ rfl rfl (hq1 l) (hd1 l) (by simp only []; omega) (by omega)
  · have hx : x.1 * 8 + a.1 < 64 := by have := x.2; have := a.2; omega
    exact score_at (k := k.1) hv (h.key_lt k) (h.lt k) hb (n := 5) (m := 320) (by decide) (by decide)
      (off32_eq h k) (off33_eq h k ⟨5, by decide⟩) (off34_eq h k ⟨5, by decide⟩)
      (c := 1) (by decide) ⟨320 + (x.1 * 8 + a.1), by omega⟩ ⟨x.1 * 8 + a.1, hx⟩ l ⟨128 + l.1, by have := l.2; omega⟩ rfl rfl (hq1 l) (hd1 l) (by simp only []; omega) (by omega)
  · have hx : x.1 * 8 + a.1 < 64 := by have := x.2; have := a.2; omega
    exact score_at (k := k.1) hv (h.key_lt k) (h.lt k) hb (n := 6) (m := 384) (by decide) (by decide)
      (off32_eq h k) (off33_eq h k ⟨6, by decide⟩) (off34_eq h k ⟨6, by decide⟩)
      (c := 1) (by decide) ⟨384 + (x.1 * 8 + a.1), by omega⟩ ⟨x.1 * 8 + a.1, hx⟩ l ⟨128 + l.1, by have := l.2; omega⟩ rfl rfl (hq1 l) (hd1 l) (by simp only []; omega) (by omega)
  · have hx : x.1 * 8 + a.1 < 64 := by have := x.2; have := a.2; omega
    exact score_at (k := k.1) hv (h.key_lt k) (h.lt k) hb (n := 7) (m := 448) (by decide) (by decide)
      (off32_eq h k) (off33_eq h k ⟨7, by decide⟩) (off34_eq h k ⟨7, by decide⟩)
      (c := 1) (by decide) ⟨448 + (x.1 * 8 + a.1), by omega⟩ ⟨x.1 * 8 + a.1, hx⟩ l ⟨128 + l.1, by have := l.2; omega⟩ rfl rfl (hq1 l) (hd1 l) (by simp only []; omega) (by omega)

/-- The maxima of the columns of tile 2, after one more trip. -/
theorem score7_max2 (a : Fin 8) (l : Fin 128) :
    ((tripR_k0_t7 (F := Ideal) 𝒱 c bd i arg2 harg2 arg3 harg3 arg4 harg4 arg5 harg5 arg6 harg6 arg7 harg7 arg8 harg8 arg9 harg9 arg10 harg10 arg11 harg11 arg12 harg12 arg13 harg13 v3 v16 k0_hw1 v37 v40 v230 v238 v244 v250 v256 v258 v260 v262 v263 X_arg3 X_arg8 X_arg13 k acc).2.2.1 (ix2 a l) : EReal) = tileMax (acc.2.2.1 (ix2 a l))
      (fun n x => scoreF (arg8.view.read (Elt Ideal) X_arg8) mq (arg3.view.read (Elt Ideal) X_arg3) v230 v3 qp ds (Words.base (grp i) (row0 v16) + (512 * k.1 + (64 * n + (x * 8 + a.1)))) (256 + l.1)) := by
  unfold tripR_k0_t7 trip_k0_t7
  dsimp only
  pointwise [trip_k0_t7.sl.v436, trip_k0_t7.sl.r_69, k0_pay353, trip_k0_t7.sl.v443, trip_k0_t7.sl.r_16, trip_k0_t7.sl.r_58, trip_k0_t7.sl.r_41, k0_pay301, k0_pay394, k0_pay360, trip_k0_t7.sl.r_30, k0_pay315, trip_k0_t7.sl.arg14, trip_k0_t7.sl.r_73, k0_pay337, trip_k0_t7.sl.v410, k0_pay303, k0_pay403, trip_k0_t7.sl.v437, trip_k0_t7.sl.r_28, trip_k0_t7.sl.r_39, trip_k0_t7.sl.r_14, trip_k0_t7.sl.r_64, trip_k0_t7.sl.r_31, trip_k0_t7.sl.r_25, trip_k0_t7.sl.r_45, trip_k0_t7.sl.r_9, trip_k0_t7.sl.r_20, k0_pay331, trip_k0_t7.sl.r_7, k0_pay321, trip_k0_t7.sl.r_10, k0_pay345, trip_k0_t7.sl.r_59, k0_pay405, k0_pay380, k0_pay390, trip_k0_t7.sl.r_65, k0_pay352, trip_k0_t7.sl.r_57, k0_pay322, trip_k0_t7.sl.r_46, k0_pay362, trip_k0_t7.sl.v442, trip_k0_t7.sl.r_40, trip_k0_t7.sl.r_1, trip_k0_t7.sl.v415, trip_k0_t7.sl.r_49, trip_k0_t7.sl.r_60, k0_pay381, k0_pay338, trip_k0_t7.sl.r_37, k0_pay333, trip_k0_t7.sl.r_29, trip_k0_t7.sl.cst_248, trip_k0_t7.sl.r_4, trip_k0_t7.sl.r_67, trip_k0_t7.sl.r_8, k0_pay308, k0_pay317, trip_k0_t7.sl.r_51, trip_k0_t7.sl.r_55, k0_pay367, k0_pay374, trip_k0_t7.sl.r_5, k0_pay347, trip_k0_t7.sl.v445, k0_pay376, trip_k0_t7.sl.r, k0_pay395, trip_k0_t7.sl.r_50, trip_k0_t7.sl.v444, trip_k0_t7.sl.r_47, k0_pay366, trip_k0_t7.sl.v411, trip_k0_t7.sl.r_68, k0_pay307, trip_k0_t7.sl.r_19, k0_pay388, trip_k0_t7.sl.r_35, trip_k0_t7.sl.r_26, trip_k0_t7.sl.r_18]
  refine tileMax_congr _ (fun n x => scoreF (arg8.view.read (Elt Ideal) X_arg8) mq (arg3.view.read (Elt Ideal) X_arg3) v230 v3 qp ds (Words.base (grp i) (row0 v16) + (512 * k.1 + (64 * n + (x * 8 + a.1)))) (256 + l.1))
    (fun x => ?_) (fun x => ?_) (fun x => ?_) (fun x => ?_) (fun x => ?_) (fun x => ?_) (fun x => ?_) (fun x => ?_)
  · have hx : x.1 * 8 + a.1 < 64 := by have := x.2; have := a.2; omega
    exact score_at (k := k.1) hv (h.key_lt k) (h.lt k) hb (n := 0) (m := 0) (by decide) (by decide)
      (off32_eq h k) (off33_eq h k ⟨0, by decide⟩) (off34_eq h k ⟨0, by decide⟩)
      (c := 2) (by decide) ⟨(x.1 * 8 + a.1), by omega⟩ ⟨x.1 * 8 + a.1, hx⟩ l ⟨256 + l.1, by have := l.2; omega⟩ (Nat.zero_add _).symm rfl (hq2 l) (hd2 l) (by simp only []; omega) (by omega)
  · have hx : x.1 * 8 + a.1 < 64 := by have := x.2; have := a.2; omega
    exact score_at (k := k.1) hv (h.key_lt k) (h.lt k) hb (n := 1) (m := 64) (by decide) (by decide)
      (off32_eq h k) (off33_eq h k ⟨1, by decide⟩) (off34_eq h k ⟨1, by decide⟩)
      (c := 2) (by decide) ⟨64 + (x.1 * 8 + a.1), by omega⟩ ⟨x.1 * 8 + a.1, hx⟩ l ⟨256 + l.1, by have := l.2; omega⟩ rfl rfl (hq2 l) (hd2 l) (by simp only []; omega) (by omega)
  · have hx : x.1 * 8 + a.1 < 64 := by have := x.2; have := a.2; omega
    exact score_at (k := k.1) hv (h.key_lt k) (h.lt k) hb (n := 2) (m := 128) (by decide) (by decide)
      (off32_eq h k) (off33_eq h k ⟨2, by decide⟩) (off34_eq h k ⟨2, by decide⟩)
      (c := 2) (by decide) ⟨128 + (x.1 * 8 + a.1), by omega⟩ ⟨x.1 * 8 + a.1, hx⟩ l ⟨256 + l.1, by have := l.2; omega⟩ rfl rfl (hq2 l) (hd2 l) (by simp only []; omega) (by omega)
  · have hx : x.1 * 8 + a.1 < 64 := by have := x.2; have := a.2; omega
    exact score_at (k := k.1) hv (h.key_lt k) (h.lt k) hb (n := 3) (m := 192) (by decide) (by decide)
      (off32_eq h k) (off33_eq h k ⟨3, by decide⟩) (off34_eq h k ⟨3, by decide⟩)
      (c := 2) (by decide) ⟨192 + (x.1 * 8 + a.1), by omega⟩ ⟨x.1 * 8 + a.1, hx⟩ l ⟨256 + l.1, by have := l.2; omega⟩ rfl rfl (hq2 l) (hd2 l) (by simp only []; omega) (by omega)
  · have hx : x.1 * 8 + a.1 < 64 := by have := x.2; have := a.2; omega
    exact score_at (k := k.1) hv (h.key_lt k) (h.lt k) hb (n := 4) (m := 256) (by decide) (by decide)
      (off32_eq h k) (off33_eq h k ⟨4, by decide⟩) (off34_eq h k ⟨4, by decide⟩)
      (c := 2) (by decide) ⟨256 + (x.1 * 8 + a.1), by omega⟩ ⟨x.1 * 8 + a.1, hx⟩ l ⟨256 + l.1, by have := l.2; omega⟩ rfl rfl (hq2 l) (hd2 l) (by simp only []; omega) (by omega)
  · have hx : x.1 * 8 + a.1 < 64 := by have := x.2; have := a.2; omega
    exact score_at (k := k.1) hv (h.key_lt k) (h.lt k) hb (n := 5) (m := 320) (by decide) (by decide)
      (off32_eq h k) (off33_eq h k ⟨5, by decide⟩) (off34_eq h k ⟨5, by decide⟩)
      (c := 2) (by decide) ⟨320 + (x.1 * 8 + a.1), by omega⟩ ⟨x.1 * 8 + a.1, hx⟩ l ⟨256 + l.1, by have := l.2; omega⟩ rfl rfl (hq2 l) (hd2 l) (by simp only []; omega) (by omega)
  · have hx : x.1 * 8 + a.1 < 64 := by have := x.2; have := a.2; omega
    exact score_at (k := k.1) hv (h.key_lt k) (h.lt k) hb (n := 6) (m := 384) (by decide) (by decide)
      (off32_eq h k) (off33_eq h k ⟨6, by decide⟩) (off34_eq h k ⟨6, by decide⟩)
      (c := 2) (by decide) ⟨384 + (x.1 * 8 + a.1), by omega⟩ ⟨x.1 * 8 + a.1, hx⟩ l ⟨256 + l.1, by have := l.2; omega⟩ rfl rfl (hq2 l) (hd2 l) (by simp only []; omega) (by omega)
  · have hx : x.1 * 8 + a.1 < 64 := by have := x.2; have := a.2; omega
    exact score_at (k := k.1) hv (h.key_lt k) (h.lt k) hb (n := 7) (m := 448) (by decide) (by decide)
      (off32_eq h k) (off33_eq h k ⟨7, by decide⟩) (off34_eq h k ⟨7, by decide⟩)
      (c := 2) (by decide) ⟨448 + (x.1 * 8 + a.1), by omega⟩ ⟨x.1 * 8 + a.1, hx⟩ l ⟨256 + l.1, by have := l.2; omega⟩ rfl rfl (hq2 l) (hd2 l) (by simp only []; omega) (by omega)

/-- The maxima of the columns of tile 3, after one more trip. -/
theorem score7_max3 (a : Fin 8) (l : Fin 128) :
    ((tripR_k0_t7 (F := Ideal) 𝒱 c bd i arg2 harg2 arg3 harg3 arg4 harg4 arg5 harg5 arg6 harg6 arg7 harg7 arg8 harg8 arg9 harg9 arg10 harg10 arg11 harg11 arg12 harg12 arg13 harg13 v3 v16 k0_hw1 v37 v40 v230 v238 v244 v250 v256 v258 v260 v262 v263 X_arg3 X_arg8 X_arg13 k acc).2.2.2 (ix2 a l) : EReal) = tileMax (acc.2.2.2 (ix2 a l))
      (fun n x => scoreF (arg8.view.read (Elt Ideal) X_arg8) mq (arg3.view.read (Elt Ideal) X_arg3) v230 v3 qp ds (Words.base (grp i) (row0 v16) + (512 * k.1 + (64 * n + (x * 8 + a.1)))) (384 + l.1)) := by
  unfold tripR_k0_t7 trip_k0_t7
  dsimp only
  pointwise [trip_k0_t7.sl.v436, trip_k0_t7.sl.r_69, trip_k0_t7.sl.r_6, trip_k0_t7.sl.r_15, k0_pay353, trip_k0_t7.sl.v443, trip_k0_t7.sl.r_16, trip_k0_t7.sl.r_58, trip_k0_t7.sl.r_41, k0_pay377, k0_pay351, k0_pay394, k0_pay304, k0_pay306, trip_k0_t7.sl.r_30, trip_k0_t7.sl.arg14, trip_k0_t7.sl.r_74, k0_pay348, k0_pay337, trip_k0_t7.sl.v410, k0_pay350, trip_k0_t7.sl.v437, trip_k0_t7.sl.r_28, trip_k0_t7.sl.r_39, k0_pay406, trip_k0_t7.sl.r_66, k0_pay365, trip_k0_t7.sl.r_31, k0_pay391, trip_k0_t7.sl.r_9, trip_k0_t7.sl.r_20, k0_pay336, trip_k0_t7.sl.r_7, trip_k0_t7.sl.r_36, k0_pay321, trip_k0_t7.sl.r_10, k0_pay320, trip_k0_t7.sl.r_59, k0_pay380, trip_k0_t7.sl.r_17, k0_pay318, trip_k0_t7.sl.r_65, k0_pay363, k0_pay352, trip_k0_t7.sl.r_57, k0_pay322, trip_k0_t7.sl.r_46, trip_k0_t7.sl.v442, trip_k0_t7.sl.r_40, k0_pay393, trip_k0_t7.sl.r_1, trip_k0_t7.sl.v415, trip_k0_t7.sl.r_49, k0_pay622, trip_k0_t7.sl.r_60, k0_pay381, k0_pay338, trip_k0_t7.sl.r_37, trip_k0_t7.sl.r_29, trip_k0_t7.sl.cst_248, trip_k0_t7.sl.r_67, k0_pay379, trip_k0_t7.sl.r_8, k0_pay308, trip_k0_t7.sl.r_51, k0_pay367, trip_k0_t7.sl.r_38, trip_k0_t7.sl.v445, trip_k0_t7.sl.r, k0_pay395, k0_pay334, trip_k0_t7.sl.r_48, trip_k0_t7.sl.r_50, trip_k0_t7.sl.r_27, k0_pay628, trip_k0_t7.sl.v444, trip_k0_t7.sl.r_56, k0_pay366, trip_k0_t7.sl.v411, trip_k0_t7.sl.r_68, k0_pay307, trip_k0_t7.sl.r_19, trip_k0_t7.sl.r_18]
  refine tileMax_congr _ (fun n x => scoreF (arg8.view.read (Elt Ideal) X_arg8) mq (arg3.view.read (Elt Ideal) X_arg3) v230 v3 qp ds (Words.base (grp i) (row0 v16) + (512 * k.1 + (64 * n + (x * 8 + a.1)))) (384 + l.1))
    (fun x => ?_) (fun x => ?_) (fun x => ?_) (fun x => ?_) (fun x => ?_) (fun x => ?_) (fun x => ?_) (fun x => ?_)
  · have hx : x.1 * 8 + a.1 < 64 := by have := x.2; have := a.2; omega
    exact score_at (k := k.1) hv (h.key_lt k) (h.lt k) hb (n := 0) (m := 0) (by decide) (by decide)
      (off32_eq h k) (off33_eq h k ⟨0, by decide⟩) (off34_eq h k ⟨0, by decide⟩)
      (c := 3) (by decide) ⟨(x.1 * 8 + a.1), by omega⟩ ⟨x.1 * 8 + a.1, hx⟩ l ⟨384 + l.1, by have := l.2; omega⟩ (Nat.zero_add _).symm rfl (hq3 l) (hd3 l) (by simp only []; omega) (by omega)
  · have hx : x.1 * 8 + a.1 < 64 := by have := x.2; have := a.2; omega
    exact score_at (k := k.1) hv (h.key_lt k) (h.lt k) hb (n := 1) (m := 64) (by decide) (by decide)
      (off32_eq h k) (off33_eq h k ⟨1, by decide⟩) (off34_eq h k ⟨1, by decide⟩)
      (c := 3) (by decide) ⟨64 + (x.1 * 8 + a.1), by omega⟩ ⟨x.1 * 8 + a.1, hx⟩ l ⟨384 + l.1, by have := l.2; omega⟩ rfl rfl (hq3 l) (hd3 l) (by simp only []; omega) (by omega)
  · have hx : x.1 * 8 + a.1 < 64 := by have := x.2; have := a.2; omega
    exact score_at (k := k.1) hv (h.key_lt k) (h.lt k) hb (n := 2) (m := 128) (by decide) (by decide)
      (off32_eq h k) (off33_eq h k ⟨2, by decide⟩) (off34_eq h k ⟨2, by decide⟩)
      (c := 3) (by decide) ⟨128 + (x.1 * 8 + a.1), by omega⟩ ⟨x.1 * 8 + a.1, hx⟩ l ⟨384 + l.1, by have := l.2; omega⟩ rfl rfl (hq3 l) (hd3 l) (by simp only []; omega) (by omega)
  · have hx : x.1 * 8 + a.1 < 64 := by have := x.2; have := a.2; omega
    exact score_at (k := k.1) hv (h.key_lt k) (h.lt k) hb (n := 3) (m := 192) (by decide) (by decide)
      (off32_eq h k) (off33_eq h k ⟨3, by decide⟩) (off34_eq h k ⟨3, by decide⟩)
      (c := 3) (by decide) ⟨192 + (x.1 * 8 + a.1), by omega⟩ ⟨x.1 * 8 + a.1, hx⟩ l ⟨384 + l.1, by have := l.2; omega⟩ rfl rfl (hq3 l) (hd3 l) (by simp only []; omega) (by omega)
  · have hx : x.1 * 8 + a.1 < 64 := by have := x.2; have := a.2; omega
    exact score_at (k := k.1) hv (h.key_lt k) (h.lt k) hb (n := 4) (m := 256) (by decide) (by decide)
      (off32_eq h k) (off33_eq h k ⟨4, by decide⟩) (off34_eq h k ⟨4, by decide⟩)
      (c := 3) (by decide) ⟨256 + (x.1 * 8 + a.1), by omega⟩ ⟨x.1 * 8 + a.1, hx⟩ l ⟨384 + l.1, by have := l.2; omega⟩ rfl rfl (hq3 l) (hd3 l) (by simp only []; omega) (by omega)
  · have hx : x.1 * 8 + a.1 < 64 := by have := x.2; have := a.2; omega
    exact score_at (k := k.1) hv (h.key_lt k) (h.lt k) hb (n := 5) (m := 320) (by decide) (by decide)
      (off32_eq h k) (off33_eq h k ⟨5, by decide⟩) (off34_eq h k ⟨5, by decide⟩)
      (c := 3) (by decide) ⟨320 + (x.1 * 8 + a.1), by omega⟩ ⟨x.1 * 8 + a.1, hx⟩ l ⟨384 + l.1, by have := l.2; omega⟩ rfl rfl (hq3 l) (hd3 l) (by simp only []; omega) (by omega)
  · have hx : x.1 * 8 + a.1 < 64 := by have := x.2; have := a.2; omega
    exact score_at (k := k.1) hv (h.key_lt k) (h.lt k) hb (n := 6) (m := 384) (by decide) (by decide)
      (off32_eq h k) (off33_eq h k ⟨6, by decide⟩) (off34_eq h k ⟨6, by decide⟩)
      (c := 3) (by decide) ⟨384 + (x.1 * 8 + a.1), by omega⟩ ⟨x.1 * 8 + a.1, hx⟩ l ⟨384 + l.1, by have := l.2; omega⟩ rfl rfl (hq3 l) (hd3 l) (by simp only []; omega) (by omega)
  · have hx : x.1 * 8 + a.1 < 64 := by have := x.2; have := a.2; omega
    exact score_at (k := k.1) hv (h.key_lt k) (h.lt k) hb (n := 7) (m := 448) (by decide) (by decide)
      (off32_eq h k) (off33_eq h k ⟨7, by decide⟩) (off34_eq h k ⟨7, by decide⟩)
      (c := 3) (by decide) ⟨448 + (x.1 * 8 + a.1), by omega⟩ ⟨x.1 * 8 + a.1, hx⟩ l ⟨384 + l.1, by have := l.2; omega⟩ rfl rfl (hq3 l) (hd3 l) (by simp only []; omega) (by omega)

end

/-- A trip of the loop writes all of its rows. -/
theorem score7_cover (k : Fin (k0_t7_loop i v16).trips) (acc :  FVec Ideal S8x128 .f32 × FVec Ideal S8x128 .f32 × FVec Ideal S8x128 .f32 × FVec Ideal S8x128 .f32) (h : Early i v16) (y : S16384x512.Idx) (hlo : 512 * k.1 ≤ (y 0).1) (hhi : (y 0).1 < 512 * k.1 + 512) :
    ∃ P ∈ tripL_k0_t7 (F := Ideal) 𝒱 c bd i arg2 harg2 arg3 harg3 arg4 harg4 arg5 harg5 arg6 harg6 arg7 harg7 arg8 harg8 arg9 harg9 arg10 harg10 arg11 harg11 arg12 harg12 arg13 harg13 v3 v16 k0_hw1 v37 v40 v230 v238 v244 v250 v256 v258 v260 v262 v263 X_arg3 X_arg8 X_arg13 k acc, y ∈ P.1.set := by
  by_contra hno
  replace hno := fun P hP hy => hno ⟨P, hP, hy⟩
  unfold tripL_k0_t7 trip_k0_t7 at hno
  simp only [List.forall_mem_cons] at hno
  obtain ⟨h73, h72, h71, h70, h63, h62, h61, h60, h53, h52, h51, h50, h43, h42, h41, h40, h33, h32, h31, h30, h23, h22, h21, h20, h13, h12, h11, h10, h03, h02, h01, h00, -⟩ := hno
  have hy1 : (y 1).1 < 512 := (y 1).2
  have g00 : ¬ (512 * k.1 + 0 ≤ (y 0).1 ∧ (y 0).1 < 512 * k.1 + 0 + 64 ∧ 0 ≤ (y 1).1 ∧ (y 1).1 < 0 + 128) := fun hh => h00 (mem2 (off35_eq h k ⟨0, by decide⟩) y ⟨hh.1, hh.2.1⟩ hh.2.2)
  have g01 : ¬ (512 * k.1 + 0 ≤ (y 0).1 ∧ (y 0).1 < 512 * k.1 + 0 + 64 ∧ 128 ≤ (y 1).1 ∧ (y 1).1 < 128 + 128) := fun hh => h01 (mem2 (off36_eq h k ⟨0, by decide⟩) y ⟨hh.1, hh.2.1⟩ hh.2.2)
  have g02 : ¬ (512 * k.1 + 0 ≤ (y 0).1 ∧ (y 0).1 < 512 * k.1 + 0 + 64 ∧ 256 ≤ (y 1).1 ∧ (y 1).1 < 256 + 128) := fun hh => h02 (mem2 (off37_eq h k ⟨0, by decide⟩) y ⟨hh.1, hh.2.1⟩ hh.2.2)
  have g03 : ¬ (512 * k.1 + 0 ≤ (y 0).1 ∧ (y 0).1 < 512 * k.1 + 0 + 64 ∧ 384 ≤ (y 1).1 ∧ (y 1).1 < 384 + 128) := fun hh => h03 (mem2 (off38_eq h k ⟨0, by decide⟩) y ⟨hh.1, hh.2.1⟩ hh.2.2)
  have g10 : ¬ (512 * k.1 + 64 ≤ (y 0).1 ∧ (y 0).1 < 512 * k.1 + 64 + 64 ∧ 0 ≤ (y 1).1 ∧ (y 1).1 < 0 + 128) := fun hh => h10 (mem2 (off35_eq h k ⟨1, by decide⟩) y ⟨hh.1, hh.2.1⟩ hh.2.2)
  have g11 : ¬ (512 * k.1 + 64 ≤ (y 0).1 ∧ (y 0).1 < 512 * k.1 + 64 + 64 ∧ 128 ≤ (y 1).1 ∧ (y 1).1 < 128 + 128) := fun hh => h11 (mem2 (off36_eq h k ⟨1, by decide⟩) y ⟨hh.1, hh.2.1⟩ hh.2.2)
  have g12 : ¬ (512 * k.1 + 64 ≤ (y 0).1 ∧ (y 0).1 < 512 * k.1 + 64 + 64 ∧ 256 ≤ (y 1).1 ∧ (y 1).1 < 256 + 128) := fun hh => h12 (mem2 (off37_eq h k ⟨1, by decide⟩) y ⟨hh.1, hh.2.1⟩ hh.2.2)
  have g13 : ¬ (512 * k.1 + 64 ≤ (y 0).1 ∧ (y 0).1 < 512 * k.1 + 64 + 64 ∧ 384 ≤ (y 1).1 ∧ (y 1).1 < 384 + 128) := fun hh => h13 (mem2 (off38_eq h k ⟨1, by decide⟩) y ⟨hh.1, hh.2.1⟩ hh.2.2)
  have g20 : ¬ (512 * k.1 + 128 ≤ (y 0).1 ∧ (y 0).1 < 512 * k.1 + 128 + 64 ∧ 0 ≤ (y 1).1 ∧ (y 1).1 < 0 + 128) := fun hh => h20 (mem2 (off35_eq h k ⟨2, by decide⟩) y ⟨hh.1, hh.2.1⟩ hh.2.2)
  have g21 : ¬ (512 * k.1 + 128 ≤ (y 0).1 ∧ (y 0).1 < 512 * k.1 + 128 + 64 ∧ 128 ≤ (y 1).1 ∧ (y 1).1 < 128 + 128) := fun hh => h21 (mem2 (off36_eq h k ⟨2, by decide⟩) y ⟨hh.1, hh.2.1⟩ hh.2.2)
  have g22 : ¬ (512 * k.1 + 128 ≤ (y 0).1 ∧ (y 0).1 < 512 * k.1 + 128 + 64 ∧ 256 ≤ (y 1).1 ∧ (y 1).1 < 256 + 128) := fun hh => h22 (mem2 (off37_eq h k ⟨2, by decide⟩) y ⟨hh.1, hh.2.1⟩ hh.2.2)
  have g23 : ¬ (512 * k.1 + 128 ≤ (y 0).1 ∧ (y 0).1 < 512 * k.1 + 128 + 64 ∧ 384 ≤ (y 1).1 ∧ (y 1).1 < 384 + 128) := fun hh => h23 (mem2 (off38_eq h k ⟨2, by decide⟩) y ⟨hh.1, hh.2.1⟩ hh.2.2)
  have g30 : ¬ (512 * k.1 + 192 ≤ (y 0).1 ∧ (y 0).1 < 512 * k.1 + 192 + 64 ∧ 0 ≤ (y 1).1 ∧ (y 1).1 < 0 + 128) := fun hh => h30 (mem2 (off35_eq h k ⟨3, by decide⟩) y ⟨hh.1, hh.2.1⟩ hh.2.2)
  have g31 : ¬ (512 * k.1 + 192 ≤ (y 0).1 ∧ (y 0).1 < 512 * k.1 + 192 + 64 ∧ 128 ≤ (y 1).1 ∧ (y 1).1 < 128 + 128) := fun hh => h31 (mem2 (off36_eq h k ⟨3, by decide⟩) y ⟨hh.1, hh.2.1⟩ hh.2.2)
  have g32 : ¬ (512 * k.1 + 192 ≤ (y 0).1 ∧ (y 0).1 < 512 * k.1 + 192 + 64 ∧ 256 ≤ (y 1).1 ∧ (y 1).1 < 256 + 128) := fun hh => h32 (mem2 (off37_eq h k ⟨3, by decide⟩) y ⟨hh.1, hh.2.1⟩ hh.2.2)
  have g33 : ¬ (512 * k.1 + 192 ≤ (y 0).1 ∧ (y 0).1 < 512 * k.1 + 192 + 64 ∧ 384 ≤ (y 1).1 ∧ (y 1).1 < 384 + 128) := fun hh => h33 (mem2 (off38_eq h k ⟨3, by decide⟩) y ⟨hh.1, hh.2.1⟩ hh.2.2)
  have g40 : ¬ (512 * k.1 + 256 ≤ (y 0).1 ∧ (y 0).1 < 512 * k.1 + 256 + 64 ∧ 0 ≤ (y 1).1 ∧ (y 1).1 < 0 + 128) := fun hh => h40 (mem2 (off35_eq h k ⟨4, by decide⟩) y ⟨hh.1, hh.2.1⟩ hh.2.2)
  have g41 : ¬ (512 * k.1 + 256 ≤ (y 0).1 ∧ (y 0).1 < 512 * k.1 + 256 + 64 ∧ 128 ≤ (y 1).1 ∧ (y 1).1 < 128 + 128) := fun hh => h41 (mem2 (off36_eq h k ⟨4, by decide⟩) y ⟨hh.1, hh.2.1⟩ hh.2.2)
  have g42 : ¬ (512 * k.1 + 256 ≤ (y 0).1 ∧ (y 0).1 < 512 * k.1 + 256 + 64 ∧ 256 ≤ (y 1).1 ∧ (y 1).1 < 256 + 128) := fun hh => h42 (mem2 (off37_eq h k ⟨4, by decide⟩) y ⟨hh.1, hh.2.1⟩ hh.2.2)
  have g43 : ¬ (512 * k.1 + 256 ≤ (y 0).1 ∧ (y 0).1 < 512 * k.1 + 256 + 64 ∧ 384 ≤ (y 1).1 ∧ (y 1).1 < 384 + 128) := fun hh => h43 (mem2 (off38_eq h k ⟨4, by decide⟩) y ⟨hh.1, hh.2.1⟩ hh.2.2)
  have g50 : ¬ (512 * k.1 + 320 ≤ (y 0).1 ∧ (y 0).1 < 512 * k.1 + 320 + 64 ∧ 0 ≤ (y 1).1 ∧ (y 1).1 < 0 + 128) := fun hh => h50 (mem2 (off35_eq h k ⟨5, by decide⟩) y ⟨hh.1, hh.2.1⟩ hh.2.2)
  have g51 : ¬ (512 * k.1 + 320 ≤ (y 0).1 ∧ (y 0).1 < 512 * k.1 + 320 + 64 ∧ 128 ≤ (y 1).1 ∧ (y 1).1 < 128 + 128) := fun hh => h51 (mem2 (off36_eq h k ⟨5, by decide⟩) y ⟨hh.1, hh.2.1⟩ hh.2.2)
  have g52 : ¬ (512 * k.1 + 320 ≤ (y 0).1 ∧ (y 0).1 < 512 * k.1 + 320 + 64 ∧ 256 ≤ (y 1).1 ∧ (y 1).1 < 256 + 128) := fun hh => h52 (mem2 (off37_eq h k ⟨5, by decide⟩) y ⟨hh.1, hh.2.1⟩ hh.2.2)
  have g53 : ¬ (512 * k.1 + 320 ≤ (y 0).1 ∧ (y 0).1 < 512 * k.1 + 320 + 64 ∧ 384 ≤ (y 1).1 ∧ (y 1).1 < 384 + 128) := fun hh => h53 (mem2 (off38_eq h k ⟨5, by decide⟩) y ⟨hh.1, hh.2.1⟩ hh.2.2)
  have g60 : ¬ (512 * k.1 + 384 ≤ (y 0).1 ∧ (y 0).1 < 512 * k.1 + 384 + 64 ∧ 0 ≤ (y 1).1 ∧ (y 1).1 < 0 + 128) := fun hh => h60 (mem2 (off35_eq h k ⟨6, by decide⟩) y ⟨hh.1, hh.2.1⟩ hh.2.2)
  have g61 : ¬ (512 * k.1 + 384 ≤ (y 0).1 ∧ (y 0).1 < 512 * k.1 + 384 + 64 ∧ 128 ≤ (y 1).1 ∧ (y 1).1 < 128 + 128) := fun hh => h61 (mem2 (off36_eq h k ⟨6, by decide⟩) y ⟨hh.1, hh.2.1⟩ hh.2.2)
  have g62 : ¬ (512 * k.1 + 384 ≤ (y 0).1 ∧ (y 0).1 < 512 * k.1 + 384 + 64 ∧ 256 ≤ (y 1).1 ∧ (y 1).1 < 256 + 128) := fun hh => h62 (mem2 (off37_eq h k ⟨6, by decide⟩) y ⟨hh.1, hh.2.1⟩ hh.2.2)
  have g63 : ¬ (512 * k.1 + 384 ≤ (y 0).1 ∧ (y 0).1 < 512 * k.1 + 384 + 64 ∧ 384 ≤ (y 1).1 ∧ (y 1).1 < 384 + 128) := fun hh => h63 (mem2 (off38_eq h k ⟨6, by decide⟩) y ⟨hh.1, hh.2.1⟩ hh.2.2)
  have g70 : ¬ (512 * k.1 + 448 ≤ (y 0).1 ∧ (y 0).1 < 512 * k.1 + 448 + 64 ∧ 0 ≤ (y 1).1 ∧ (y 1).1 < 0 + 128) := fun hh => h70 (mem2 (off35_eq h k ⟨7, by decide⟩) y ⟨hh.1, hh.2.1⟩ hh.2.2)
  have g71 : ¬ (512 * k.1 + 448 ≤ (y 0).1 ∧ (y 0).1 < 512 * k.1 + 448 + 64 ∧ 128 ≤ (y 1).1 ∧ (y 1).1 < 128 + 128) := fun hh => h71 (mem2 (off36_eq h k ⟨7, by decide⟩) y ⟨hh.1, hh.2.1⟩ hh.2.2)
  have g72 : ¬ (512 * k.1 + 448 ≤ (y 0).1 ∧ (y 0).1 < 512 * k.1 + 448 + 64 ∧ 256 ≤ (y 1).1 ∧ (y 1).1 < 256 + 128) := fun hh => h72 (mem2 (off37_eq h k ⟨7, by decide⟩) y ⟨hh.1, hh.2.1⟩ hh.2.2)
  have g73 : ¬ (512 * k.1 + 448 ≤ (y 0).1 ∧ (y 0).1 < 512 * k.1 + 448 + 64 ∧ 384 ≤ (y 1).1 ∧ (y 1).1 < 384 + 128) := fun hh => h73 (mem2 (off38_eq h k ⟨7, by decide⟩) y ⟨hh.1, hh.2.1⟩ hh.2.2)
  rcases (by omega : (512 * k.1 + 0 ≤ (y 0).1 ∧ (y 0).1 < 512 * k.1 + 0 + 64) ∨ (512 * k.1 + 64 ≤ (y 0).1 ∧ (y 0).1 < 512 * k.1 + 64 + 64) ∨ (512 * k.1 + 128 ≤ (y 0).1 ∧ (y 0).1 < 512 * k.1 + 128 + 64) ∨ (512 * k.1 + 192 ≤ (y 0).1 ∧ (y 0).1 < 512 * k.1 + 192 + 64) ∨ (512 * k.1 + 256 ≤ (y 0).1 ∧ (y 0).1 < 512 * k.1 + 256 + 64) ∨ (512 * k.1 + 320 ≤ (y 0).1 ∧ (y 0).1 < 512 * k.1 + 320 + 64) ∨ (512 * k.1 + 384 ≤ (y 0).1 ∧ (y 0).1 < 512 * k.1 + 384 + 64) ∨ (512 * k.1 + 448 ≤ (y 0).1 ∧ (y 0).1 < 512 * k.1 + 448 + 64)) with hn | hn | hn | hn | hn | hn | hn | hn <;>
    rcases (by omega : (0 ≤ (y 1).1 ∧ (y 1).1 < 0 + 128) ∨ (128 ≤ (y 1).1 ∧ (y 1).1 < 128 + 128) ∨ (256 ≤ (y 1).1 ∧ (y 1).1 < 256 + 128) ∨ (384 ≤ (y 1).1 ∧ (y 1).1 < 384 + 128)) with hc | hc | hc | hc
  · exact g00 ⟨hn.1, hn.2, hc⟩
  · exact g01 ⟨hn.1, hn.2, hc⟩
  · exact g02 ⟨hn.1, hn.2, hc⟩
  · exact g03 ⟨hn.1, hn.2, hc⟩
  · exact g10 ⟨hn.1, hn.2, hc⟩
  · exact g11 ⟨hn.1, hn.2, hc⟩
  · exact g12 ⟨hn.1, hn.2, hc⟩
  · exact g13 ⟨hn.1, hn.2, hc⟩
  · exact g20 ⟨hn.1, hn.2, hc⟩
  · exact g21 ⟨hn.1, hn.2, hc⟩
  · exact g22 ⟨hn.1, hn.2, hc⟩
  · exact g23 ⟨hn.1, hn.2, hc⟩
  · exact g30 ⟨hn.1, hn.2, hc⟩
  · exact g31 ⟨hn.1, hn.2, hc⟩
  · exact g32 ⟨hn.1, hn.2, hc⟩
  · exact g33 ⟨hn.1, hn.2, hc⟩
  · exact g40 ⟨hn.1, hn.2, hc⟩
  · exact g41 ⟨hn.1, hn.2, hc⟩
  · exact g42 ⟨hn.1, hn.2, hc⟩
  · exact g43 ⟨hn.1, hn.2, hc⟩
  · exact g50 ⟨hn.1, hn.2, hc⟩
  · exact g51 ⟨hn.1, hn.2, hc⟩
  · exact g52 ⟨hn.1, hn.2, hc⟩
  · exact g53 ⟨hn.1, hn.2, hc⟩
  · exact g60 ⟨hn.1, hn.2, hc⟩
  · exact g61 ⟨hn.1, hn.2, hc⟩
  · exact g62 ⟨hn.1, hn.2, hc⟩
  · exact g63 ⟨hn.1, hn.2, hc⟩
  · exact g70 ⟨hn.1, hn.2, hc⟩
  · exact g71 ⟨hn.1, hn.2, hc⟩
  · exact g72 ⟨hn.1, hn.2, hc⟩
  · exact g73 ⟨hn.1, hn.2, hc⟩

section

variable (init :  FVec Ideal S8x128 .f32 × FVec Ideal S8x128 .f32 × FVec Ideal S8x128 .f32 × FVec Ideal S8x128 .f32)

include init

/-- The scores that the loop leaves. -/
theorem score7_read (f) (h : Early i v16) {mq : S128x128.Idx → EReal} {qp ds : ℕ → BitVec 32} (hq0 : ∀ l : Fin 128, v238 (ix2 0 l) = qp (0 + l.1)) (hd0 : ∀ l : Fin 128, v258 (ix2 0 l) = ds (0 + l.1)) (hq1 : ∀ l : Fin 128, v244 (ix2 0 l) = qp (128 + l.1)) (hd1 : ∀ l : Fin 128, v260 (ix2 0 l) = ds (128 + l.1)) (hq2 : ∀ l : Fin 128, v250 (ix2 0 l) = qp (256 + l.1)) (hd2 : ∀ l : Fin 128, v262 (ix2 0 l) = ds (256 + l.1)) (hq3 : ∀ l : Fin 128, v256 (ix2 0 l) = qp (384 + l.1)) (hd3 : ∀ l : Fin 128, v263 (ix3 0 0 l) = ds (384 + l.1)) (hv : v40 = BitVec.ofNat 32 (Words.base (grp i) (row0 v16))) (hb : ∀ y : S16384x128.Idx, (y 0).1 < 512 * Words.nt (grp i) (row0 v16) → arg13.view.read (Elt Ideal) X_arg13 y = biasF (arg8.view.read (Elt Ideal) X_arg8) mq (arg3.view.read (Elt Ideal) X_arg3) (Words.base (grp i) (row0 v16) + (y 0).1) (y 1).1) (y : S16384x512.Idx) (hy : (y 0).1 < 512 * (k0_t7_loop i v16).trips) :
    arg12.view.read (Elt Ideal) (arg12.view.writes (Elt Ideal) f (st_k0_t7 (F := Ideal) 𝒱 c bd i arg2 harg2 arg3 harg3 arg4 harg4 arg5 harg5 arg6 harg6 arg7 harg7 arg8 harg8 arg9 harg9 arg10 harg10 arg11 harg11 arg12 harg12 arg13 harg13 v3 v16 k0_hw1 v37 v40 v230 v238 v244 v250 v256 v258 v260 v262 v263 X_arg3 X_arg8 X_arg13 init (k0_t7_loop i v16).trips).2) y
      = scoreF (arg8.view.read (Elt Ideal) X_arg8) mq (arg3.view.read (Elt Ideal) X_arg3) v230 v3 qp ds (Words.base (grp i) (row0 v16) + (y 0).1) (y 1).1 :=
  loop_read arg12.view f (fun y : S16384x512.Idx => scoreF (arg8.view.read (Elt Ideal) X_arg8) mq (arg3.view.read (Elt Ideal) X_arg3) v230 v3 qp ds (Words.base (grp i) (row0 v16) + (y 0).1) (y 1).1)
    (fun k => (st_k0_t7 (F := Ideal) 𝒱 c bd i arg2 harg2 arg3 harg3 arg4 harg4 arg5 harg5 arg6 harg6 arg7 harg7 arg8 harg8 arg9 harg9 arg10 harg10 arg11 harg11 arg12 harg12 arg13 harg13 v3 v16 k0_hw1 v37 v40 v230 v238 v244 v250 v256 v258 v260 v262 v263 X_arg3 X_arg8 X_arg13 init k).2) _ rfl
    (fun k hk => ⟨_, congrArg Prod.snd (st_k0_t7_succ (F := Ideal) 𝒱 c bd i arg2 harg2 arg3 harg3 arg4 harg4 arg5 harg5 arg6 harg6 arg7 harg7 arg8 harg8 arg9 harg9 arg10 harg10 arg11 harg11 arg12 harg12 arg13 harg13 v3 v16 k0_hw1 v37 v40 v230 v238 v244 v250 v256 v258 v260 v262 v263 X_arg3 X_arg8 X_arg13 init ⟨k, hk⟩),
      score7_pieces 𝒱 c bd i arg2 harg2 arg3 harg3 arg4 harg4 arg5 harg5 arg6 harg6 arg7 harg7 arg8 harg8 arg9 harg9 arg10 harg10 arg11 harg11 arg12 harg12 arg13 harg13 v3 v16 k0_hw1 v37 v40 v230 v238 v244 v250 v256 v258 v260 v262 v263 X_arg3 X_arg8 X_arg13 ⟨k, hk⟩ _ h hq0 hd0 hq1 hd1 hq2 hd2 hq3 hd3 hv hb, score7_cover 𝒱 c bd i arg2 harg2 arg3 harg3 arg4 harg4 arg5 harg5 arg6 harg6 arg7 harg7 arg8 harg8 arg9 harg9 arg10 harg10 arg11 harg11 arg12 harg12 arg13 harg13 v3 v16 k0_hw1 v37 v40 v230 v238 v244 v250 v256 v258 v260 v262 v263 X_arg3 X_arg8 X_arg13 ⟨k, hk⟩ _ h⟩) y hy

section

variable (h : Early i v16) {mq : S128x128.Idx → EReal} {qp ds : ℕ → BitVec 32} (hq0 : ∀ l : Fin 128, v238 (ix2 0 l) = qp (0 + l.1)) (hd0 : ∀ l : Fin 128, v258 (ix2 0 l) = ds (0 + l.1)) (hq1 : ∀ l : Fin 128, v244 (ix2 0 l) = qp (128 + l.1)) (hd1 : ∀ l : Fin 128, v260 (ix2 0 l) = ds (128 + l.1)) (hq2 : ∀ l : Fin 128, v250 (ix2 0 l) = qp (256 + l.1)) (hd2 : ∀ l : Fin 128, v262 (ix2 0 l) = ds (256 + l.1)) (hq3 : ∀ l : Fin 128, v256 (ix2 0 l) = qp (384 + l.1)) (hd3 : ∀ l : Fin 128, v263 (ix3 0 0 l) = ds (384 + l.1)) (hv : v40 = BitVec.ofNat 32 (Words.base (grp i) (row0 v16))) (hb : ∀ y : S16384x128.Idx, (y 0).1 < 512 * Words.nt (grp i) (row0 v16) → arg13.view.read (Elt Ideal) X_arg13 y = biasF (arg8.view.read (Elt Ideal) X_arg8) mq (arg3.view.read (Elt Ideal) X_arg3) (Words.base (grp i) (row0 v16) + (y 0).1) (y 1).1) (l : Fin 128) (z : EReal)

include h mq qp ds hq0 hd0 hq1 hd1 hq2 hd2 hq3 hd3 hv hb l z

/-- The maxima that the loop leaves for tile 0. -/
theorem score7_lub0 :
    (∀ a : Fin 8, ((st_k0_t7 (F := Ideal) 𝒱 c bd i arg2 harg2 arg3 harg3 arg4 harg4 arg5 harg5 arg6 harg6 arg7 harg7 arg8 harg8 arg9 harg9 arg10 harg10 arg11 harg11 arg12 harg12 arg13 harg13 v3 v16 k0_hw1 v37 v40 v230 v238 v244 v250 v256 v258 v260 v262 v263 X_arg3 X_arg8 X_arg13 init (k0_t7_loop i v16).trips).1.1 (ix2 a l) : EReal) ≤ z) ↔ (∀ a : Fin 8, (init.1 (ix2 a l) : EReal) ≤ z) ∧
      ∀ row < 512 * (k0_t7_loop i v16).trips, scoreF (arg8.view.read (Elt Ideal) X_arg8) mq (arg3.view.read (Elt Ideal) X_arg3) v230 v3 qp ds (Words.base (grp i) (row0 v16) + row) (l.1) ≤ z :=
  loop_max (fun k a => (st_k0_t7 (F := Ideal) 𝒱 c bd i arg2 harg2 arg3 harg3 arg4 harg4 arg5 harg5 arg6 harg6 arg7 harg7 arg8 harg8 arg9 harg9 arg10 harg10 arg11 harg11 arg12 harg12 arg13 harg13 v3 v16 k0_hw1 v37 v40 v230 v238 v244 v250 v256 v258 v260 v262 v263 X_arg3 X_arg8 X_arg13 init k).1.1 (ix2 a l)) (fun row => scoreF (arg8.view.read (Elt Ideal) X_arg8) mq (arg3.view.read (Elt Ideal) X_arg3) v230 v3 qp ds (Words.base (grp i) (row0 v16) + row) (l.1)) _
    (fun k hk a => (congrArg (fun p => (p.1.1 (ix2 a l) : EReal)) (st_k0_t7_succ (F := Ideal) 𝒱 c bd i arg2 harg2 arg3 harg3 arg4 harg4 arg5 harg5 arg6 harg6 arg7 harg7 arg8 harg8 arg9 harg9 arg10 harg10 arg11 harg11 arg12 harg12 arg13 harg13 v3 v16 k0_hw1 v37 v40 v230 v238 v244 v250 v256 v258 v260 v262 v263 X_arg3 X_arg8 X_arg13 init ⟨k, hk⟩)).trans
      (score7_max0 𝒱 c bd i arg2 harg2 arg3 harg3 arg4 harg4 arg5 harg5 arg6 harg6 arg7 harg7 arg8 harg8 arg9 harg9 arg10 harg10 arg11 harg11 arg12 harg12 arg13 harg13 v3 v16 k0_hw1 v37 v40 v230 v238 v244 v250 v256 v258 v260 v262 v263 X_arg3 X_arg8 X_arg13 ⟨k, hk⟩ _ h hq0 hd0 hq1 hd1 hq2 hd2 hq3 hd3 hv hb a l)) z _ le_rfl

/-- The maxima that the loop leaves for tile 1. -/
theorem score7_lub1 :
    (∀ a : Fin 8, ((st_k0_t7 (F := Ideal) 𝒱 c bd i arg2 harg2 arg3 harg3 arg4 harg4 arg5 harg5 arg6 harg6 arg7 harg7 arg8 harg8 arg9 harg9 arg10 harg10 arg11 harg11 arg12 harg12 arg13 harg13 v3 v16 k0_hw1 v37 v40 v230 v238 v244 v250 v256 v258 v260 v262 v263 X_arg3 X_arg8 X_arg13 init (k0_t7_loop i v16).trips).1.2.1 (ix2 a l) : EReal) ≤ z) ↔ (∀ a : Fin 8, (init.2.1 (ix2 a l) : EReal) ≤ z) ∧
      ∀ row < 512 * (k0_t7_loop i v16).trips, scoreF (arg8.view.read (Elt Ideal) X_arg8) mq (arg3.view.read (Elt Ideal) X_arg3) v230 v3 qp ds (Words.base (grp i) (row0 v16) + row) (128 + l.1) ≤ z :=
  loop_max (fun k a => (st_k0_t7 (F := Ideal) 𝒱 c bd i arg2 harg2 arg3 harg3 arg4 harg4 arg5 harg5 arg6 harg6 arg7 harg7 arg8 harg8 arg9 harg9 arg10 harg10 arg11 harg11 arg12 harg12 arg13 harg13 v3 v16 k0_hw1 v37 v40 v230 v238 v244 v250 v256 v258 v260 v262 v263 X_arg3 X_arg8 X_arg13 init k).1.2.1 (ix2 a l)) (fun row => scoreF (arg8.view.read (Elt Ideal) X_arg8) mq (arg3.view.read (Elt Ideal) X_arg3) v230 v3 qp ds (Words.base (grp i) (row0 v16) + row) (128 + l.1)) _
    (fun k hk a => (congrArg (fun p => (p.1.2.1 (ix2 a l) : EReal)) (st_k0_t7_succ (F := Ideal) 𝒱 c bd i arg2 harg2 arg3 harg3 arg4 harg4 arg5 harg5 arg6 harg6 arg7 harg7 arg8 harg8 arg9 harg9 arg10 harg10 arg11 harg11 arg12 harg12 arg13 harg13 v3 v16 k0_hw1 v37 v40 v230 v238 v244 v250 v256 v258 v260 v262 v263 X_arg3 X_arg8 X_arg13 init ⟨k, hk⟩)).trans
      (score7_max1 𝒱 c bd i arg2 harg2 arg3 harg3 arg4 harg4 arg5 harg5 arg6 harg6 arg7 harg7 arg8 harg8 arg9 harg9 arg10 harg10 arg11 harg11 arg12 harg12 arg13 harg13 v3 v16 k0_hw1 v37 v40 v230 v238 v244 v250 v256 v258 v260 v262 v263 X_arg3 X_arg8 X_arg13 ⟨k, hk⟩ _ h hq0 hd0 hq1 hd1 hq2 hd2 hq3 hd3 hv hb a l)) z _ le_rfl

/-- The maxima that the loop leaves for tile 2. -/
theorem score7_lub2 :
    (∀ a : Fin 8, ((st_k0_t7 (F := Ideal) 𝒱 c bd i arg2 harg2 arg3 harg3 arg4 harg4 arg5 harg5 arg6 harg6 arg7 harg7 arg8 harg8 arg9 harg9 arg10 harg10 arg11 harg11 arg12 harg12 arg13 harg13 v3 v16 k0_hw1 v37 v40 v230 v238 v244 v250 v256 v258 v260 v262 v263 X_arg3 X_arg8 X_arg13 init (k0_t7_loop i v16).trips).1.2.2.1 (ix2 a l) : EReal) ≤ z) ↔ (∀ a : Fin 8, (init.2.2.1 (ix2 a l) : EReal) ≤ z) ∧
      ∀ row < 512 * (k0_t7_loop i v16).trips, scoreF (arg8.view.read (Elt Ideal) X_arg8) mq (arg3.view.read (Elt Ideal) X_arg3) v230 v3 qp ds (Words.base (grp i) (row0 v16) + row) (256 + l.1) ≤ z :=
  loop_max (fun k a => (st_k0_t7 (F := Ideal) 𝒱 c bd i arg2 harg2 arg3 harg3 arg4 harg4 arg5 harg5 arg6 harg6 arg7 harg7 arg8 harg8 arg9 harg9 arg10 harg10 arg11 harg11 arg12 harg12 arg13 harg13 v3 v16 k0_hw1 v37 v40 v230 v238 v244 v250 v256 v258 v260 v262 v263 X_arg3 X_arg8 X_arg13 init k).1.2.2.1 (ix2 a l)) (fun row => scoreF (arg8.view.read (Elt Ideal) X_arg8) mq (arg3.view.read (Elt Ideal) X_arg3) v230 v3 qp ds (Words.base (grp i) (row0 v16) + row) (256 + l.1)) _
    (fun k hk a => (congrArg (fun p => (p.1.2.2.1 (ix2 a l) : EReal)) (st_k0_t7_succ (F := Ideal) 𝒱 c bd i arg2 harg2 arg3 harg3 arg4 harg4 arg5 harg5 arg6 harg6 arg7 harg7 arg8 harg8 arg9 harg9 arg10 harg10 arg11 harg11 arg12 harg12 arg13 harg13 v3 v16 k0_hw1 v37 v40 v230 v238 v244 v250 v256 v258 v260 v262 v263 X_arg3 X_arg8 X_arg13 init ⟨k, hk⟩)).trans
      (score7_max2 𝒱 c bd i arg2 harg2 arg3 harg3 arg4 harg4 arg5 harg5 arg6 harg6 arg7 harg7 arg8 harg8 arg9 harg9 arg10 harg10 arg11 harg11 arg12 harg12 arg13 harg13 v3 v16 k0_hw1 v37 v40 v230 v238 v244 v250 v256 v258 v260 v262 v263 X_arg3 X_arg8 X_arg13 ⟨k, hk⟩ _ h hq0 hd0 hq1 hd1 hq2 hd2 hq3 hd3 hv hb a l)) z _ le_rfl

/-- The maxima that the loop leaves for tile 3. -/
theorem score7_lub3 :
    (∀ a : Fin 8, ((st_k0_t7 (F := Ideal) 𝒱 c bd i arg2 harg2 arg3 harg3 arg4 harg4 arg5 harg5 arg6 harg6 arg7 harg7 arg8 harg8 arg9 harg9 arg10 harg10 arg11 harg11 arg12 harg12 arg13 harg13 v3 v16 k0_hw1 v37 v40 v230 v238 v244 v250 v256 v258 v260 v262 v263 X_arg3 X_arg8 X_arg13 init (k0_t7_loop i v16).trips).1.2.2.2 (ix2 a l) : EReal) ≤ z) ↔ (∀ a : Fin 8, (init.2.2.2 (ix2 a l) : EReal) ≤ z) ∧
      ∀ row < 512 * (k0_t7_loop i v16).trips, scoreF (arg8.view.read (Elt Ideal) X_arg8) mq (arg3.view.read (Elt Ideal) X_arg3) v230 v3 qp ds (Words.base (grp i) (row0 v16) + row) (384 + l.1) ≤ z :=
  loop_max (fun k a => (st_k0_t7 (F := Ideal) 𝒱 c bd i arg2 harg2 arg3 harg3 arg4 harg4 arg5 harg5 arg6 harg6 arg7 harg7 arg8 harg8 arg9 harg9 arg10 harg10 arg11 harg11 arg12 harg12 arg13 harg13 v3 v16 k0_hw1 v37 v40 v230 v238 v244 v250 v256 v258 v260 v262 v263 X_arg3 X_arg8 X_arg13 init k).1.2.2.2 (ix2 a l)) (fun row => scoreF (arg8.view.read (Elt Ideal) X_arg8) mq (arg3.view.read (Elt Ideal) X_arg3) v230 v3 qp ds (Words.base (grp i) (row0 v16) + row) (384 + l.1)) _
    (fun k hk a => (congrArg (fun p => (p.1.2.2.2 (ix2 a l) : EReal)) (st_k0_t7_succ (F := Ideal) 𝒱 c bd i arg2 harg2 arg3 harg3 arg4 harg4 arg5 harg5 arg6 harg6 arg7 harg7 arg8 harg8 arg9 harg9 arg10 harg10 arg11 harg11 arg12 harg12 arg13 harg13 v3 v16 k0_hw1 v37 v40 v230 v238 v244 v250 v256 v258 v260 v262 v263 X_arg3 X_arg8 X_arg13 init ⟨k, hk⟩)).trans
      (score7_max3 𝒱 c bd i arg2 harg2 arg3 harg3 arg4 harg4 arg5 harg5 arg6 harg6 arg7 harg7 arg8 harg8 arg9 harg9 arg10 harg10 arg11 harg11 arg12 harg12 arg13 harg13 v3 v16 k0_hw1 v37 v40 v230 v238 v244 v250 v256 v258 v260 v262 v263 X_arg3 X_arg8 X_arg13 ⟨k, hk⟩ _ h hq0 hd0 hq1 hd1 hq2 hd2 hq3 hd3 hv hb a l)) z _ le_rfl

end

end

end

end Cert.KernelIdeal.Hand

end
-- ==== Proof.KernelIdealWeightB.lean ====
/- A loop of the kernel over tiles of 512 keys: it sums the weights, and the values by weight, of the other four tiles of queries. -/
module

public import proofs.«01_k».proof.Proof.KernelIdealWeight

@[expose] public section

set_option maxRecDepth 16384
set_option maxHeartbeats 4000000

noncomputable section

namespace Cert.KernelIdeal.Hand

open Cert.KernelIdeal.Gen
open Idealize.ShloMosaic Idealize.ShloMosaic.TcCoe Idealize.ShloMosaic.Tactic

section

variable (𝒱 : Variants) (c : Dev nD) (bd : Option 𝒱.V) (i : grid0.Coords) (arg2 : Memref sig .tc .smem S256 .i32) (harg2 : arg2.IsWhole) (arg3 : Memref sig .tc .smem S1x1x256 .f32) (harg3 : arg3.IsWhole) (arg4 : Memref sig .tc .vmem S1x1x1024x128 .fp8e4m3) (harg4 : arg4.IsWhole) (arg5 : Memref sig .tc .vmem S1x1x1x128 .f32) (harg5 : arg5.IsWhole) (arg6 : Memref sig .tc .vmem S1x1x8x128 .bf16) (harg6 : arg6.IsWhole) (arg7 : Memref sig .tc .vmem S1x8x128 .i32) (harg7 : arg7.IsWhole) (arg8 : Memref sig .tc .vmem S16384x128 .fp8e4m3) (harg8 : arg8.IsWhole) (arg9 : Memref sig .tc .vmem S1x128x16384 .fp8e4m3) (harg9 : arg9.IsWhole) (arg10 : Memref sig .tc .vmem S1x128x128 .f32) (harg10 : arg10.IsWhole) (arg11 : Memref sig .tc .vmem S128x1024 .bf16) (harg11 : arg11.IsWhole) (arg12 : Memref sig .tc .vmem S16384x512 .f32) (harg12 : arg12.IsWhole) (arg13 : Memref sig .tc .vmem S16384x128 .f32) (harg13 : arg13.IsWhole) (v16 : Elt Ideal .i32) (k0_hw1 : k0_chk1 i v16) (v40 : BitVec 32) (v279 : FVec Ideal S1x128 .f32) (v283 : FVec Ideal S1x128 .f32) (v287 : FVec Ideal S1x128 .f32) (v291 : FVec Ideal S1x128 .f32) (v292 : FVec Ideal S8x128 .f32) (v293 : FVec Ideal S8x128 .f32) (v294 : FVec Ideal S8x128 .f32) (v295 : FVec Ideal S8x128 .f32) (v296 : FVec Ideal S128x512 .f32) (c0_i32_171 : BitVec 32) (v300 : BitVec 32) (X_arg9 : BufTy.Contents (Elt Ideal) arg9.view.ty) (X_arg12 : BufTy.Contents (Elt Ideal) arg12.view.ty)

include 𝒱 c bd i arg2 harg2 arg3 harg3 arg4 harg4 arg5 harg5 arg6 harg6 arg7 harg7 arg8 harg8 arg9 harg9 arg10 harg10 arg11 harg11 arg12 harg12 arg13 harg13 v16 k0_hw1 v40 v279 v283 v287 v291 v292 v293 v294 v295 v296 c0_i32_171 v300 X_arg9 X_arg12

section

variable (k : Fin (k0_t9_loop i v16).trips) (acc :  FVec Ideal S8x128 .f32 × FVec Ideal S8x128 .f32 × FVec Ideal S8x128 .f32 × FVec Ideal S8x128 .f32 × FVec Ideal S128x512 .f32) (h : Early i v16) {w : ℕ → ℕ → EReal} {off : ℕ → EReal} (hw : ∀ y : S16384x512.Idx, (y 0).1 < 512 * Words.nt (grp i) (row0 v16) → arg12.view.read (Elt Ideal) X_arg12 y = w (y 0).1 (y 1).1) (ho0 : ∀ l : Fin 128, v279 (ix2 0 l) = off l.1) (ho1 : ∀ l : Fin 128, v283 (ix2 0 l) = off (128 + l.1)) (ho2 : ∀ l : Fin 128, v287 (ix2 0 l) = off (256 + l.1)) (ho3 : ∀ l : Fin 128, v291 (ix2 0 l) = off (384 + l.1))

include k acc h w off hw ho0 ho1 ho2 ho3

/-- The sums of the weights of tile 0, after one more trip. -/
theorem pv9_sum0 (a : Fin 8) (l : Fin 128) :
    ((tripR_k0_t9 (F := Ideal) 𝒱 c bd i arg2 harg2 arg3 harg3 arg4 harg4 arg5 harg5 arg6 harg6 arg7 harg7 arg8 harg8 arg9 harg9 arg10 harg10 arg11 harg11 arg12 harg12 arg13 harg13 v16 k0_hw1 v40 v279 v283 v287 v291 v292 v293 v294 v295 v296 c0_i32_171 v300 X_arg9 X_arg12 k acc).1 (ix2 a l) : EReal) = (acc.1 (ix2 a l) : EReal) + ∑ x : Fin 64, weightF w off (512 * k.1 + (x.1 * 8 + a.1)) (l.1) := by
  have hT : 512 * Words.nt (grp i) (row0 v16) ≤ 16384 := by
    have := Words.nt_le (l := row0 v16) (grp_lt i); omega
  unfold tripR_k0_t9 trip_k0_t9
  dsimp only
  pointwise [trip_k0_t9.sl.v418, trip_k0_t9.sl.v420, trip_k0_t9.sl.v419, trip_k0_t9.sl.v422, trip_k0_t9.sl.v421, trip_k0_t9.sl.v417]
  refine congrArg₂ (· + ·) rfl (Finset.sum_congr rfl fun x _ => ?_)
  exact weight_at (m := 0) (v12 := arg12.view) (X12 := X_arg12) (k := k.1) hw (h.lt k) hT (off46_eq h k) (by decide) ⟨x.1 * 8 + a.1, by have := x.2; have := a.2; omega⟩ l ((ho0 l).trans (congrArg off (Nat.zero_add _).symm)) rfl (by omega)

/-- The sums of the weights of tile 1, after one more trip. -/
theorem pv9_sum1 (a : Fin 8) (l : Fin 128) :
    ((tripR_k0_t9 (F := Ideal) 𝒱 c bd i arg2 harg2 arg3 harg3 arg4 harg4 arg5 harg5 arg6 harg6 arg7 harg7 arg8 harg8 arg9 harg9 arg10 harg10 arg11 harg11 arg12 harg12 arg13 harg13 v16 k0_hw1 v40 v279 v283 v287 v291 v292 v293 v294 v295 v296 c0_i32_171 v300 X_arg9 X_arg12 k acc).2.1 (ix2 a l) : EReal) = (acc.2.1 (ix2 a l) : EReal) + ∑ x : Fin 64, weightF w off (512 * k.1 + (x.1 * 8 + a.1)) (128 + l.1) := by
  have hT : 512 * Words.nt (grp i) (row0 v16) ≤ 16384 := by
    have := Words.nt_le (l := row0 v16) (grp_lt i); omega
  unfold tripR_k0_t9 trip_k0_t9
  dsimp only
  pointwise [trip_k0_t9.sl.v433, trip_k0_t9.sl.v432, trip_k0_t9.sl.v434, trip_k0_t9.sl.v437, trip_k0_t9.sl.v436, trip_k0_t9.sl.v435]
  refine congrArg₂ (· + ·) rfl (Finset.sum_congr rfl fun x _ => ?_)
  exact weight_at (m := 128) (v12 := arg12.view) (X12 := X_arg12) (k := k.1) hw (h.lt k) hT (off47_eq h k) (by decide) ⟨x.1 * 8 + a.1, by have := x.2; have := a.2; omega⟩ l (ho1 l) rfl (by omega)

/-- The sums of the weights of tile 2, after one more trip. -/
theorem pv9_sum2 (a : Fin 8) (l : Fin 128) :
    ((tripR_k0_t9 (F := Ideal) 𝒱 c bd i arg2 harg2 arg3 harg3 arg4 harg4 arg5 harg5 arg6 harg6 arg7 harg7 arg8 harg8 arg9 harg9 arg10 harg10 arg11 harg11 arg12 harg12 arg13 harg13 v16 k0_hw1 v40 v279 v283 v287 v291 v292 v293 v294 v295 v296 c0_i32_171 v300 X_arg9 X_arg12 k acc).2.2.1 (ix2 a l) : EReal) = (acc.2.2.1 (ix2 a l) : EReal) + ∑ x : Fin 64, weightF w off (512 * k.1 + (x.1 * 8 + a.1)) (256 + l.1) := by
  have hT : 512 * Words.nt (grp i) (row0 v16) ≤ 16384 := by
    have := Words.nt_le (l := row0 v16) (grp_lt i); omega
  unfold tripR_k0_t9 trip_k0_t9
  dsimp only
  pointwise [trip_k0_t9.sl.v451, trip_k0_t9.sl.v449, trip_k0_t9.sl.v452, trip_k0_t9.sl.v447, trip_k0_t9.sl.v448, trip_k0_t9.sl.v450]
  refine congrArg₂ (· + ·) rfl (Finset.sum_congr rfl fun x _ => ?_)
  exact weight_at (m := 256) (v12 := arg12.view) (X12 := X_arg12) (k := k.1) hw (h.lt k) hT (off48_eq h k) (by decide) ⟨x.1 * 8 + a.1, by have := x.2; have := a.2; omega⟩ l (ho2 l) rfl (by omega)

/-- The sums of the weights of tile 3, after one more trip. -/
theorem pv9_sum3 (a : Fin 8) (l : Fin 128) :
    ((tripR_k0_t9 (F := Ideal) 𝒱 c bd i arg2 harg2 arg3 harg3 arg4 harg4 arg5 harg5 arg6 harg6 arg7 harg7 arg8 harg8 arg9 harg9 arg10 harg10 arg11 harg11 arg12 harg12 arg13 harg13 v16 k0_hw1 v40 v279 v283 v287 v291 v292 v293 v294 v295 v296 c0_i32_171 v300 X_arg9 X_arg12 k acc).2.2.2.1 (ix2 a l) : EReal) = (acc.2.2.2.1 (ix2 a l) : EReal) + ∑ x : Fin 64, weightF w off (512 * k.1 + (x.1 * 8 + a.1)) (384 + l.1) := by
  have hT : 512 * Words.nt (grp i) (row0 v16) ≤ 16384 := by
    have := Words.nt_le (l := row0 v16) (grp_lt i); omega
  unfold tripR_k0_t9 trip_k0_t9
  dsimp only
  pointwise [k0_pay641, k0_pay640]
  refine congrArg₂ (· + ·) rfl (Finset.sum_congr rfl fun x _ => ?_)
  exact weight_at (m := 384) (v12 := arg12.view) (X12 := X_arg12) (k := k.1) hw (h.lt k) hT (off49_eq h k) (by decide) ⟨x.1 * 8 + a.1, by have := x.2; have := a.2; omega⟩ l (ho3 l) rfl (by omega)

/-- The values by weight, after one more trip. -/
theorem pv9_acc (d : Fin 128) (col : Fin 512) :
    ((tripR_k0_t9 (F := Ideal) 𝒱 c bd i arg2 harg2 arg3 harg3 arg4 harg4 arg5 harg5 arg6 harg6 arg7 harg7 arg8 harg8 arg9 harg9 arg10 harg10 arg11 harg11 arg12 harg12 arg13 harg13 v16 k0_hw1 v40 v279 v283 v287 v291 v292 v293 v294 v295 v296 c0_i32_171 v300 X_arg9 X_arg12 k acc).2.2.2.2 (ix2 d col) : EReal) = (acc.2.2.2.2 (ix2 d col) : EReal)
      + ∑ x : Fin 512, (arg9.view.read (Elt Ideal) X_arg9 (ix3 0 d (keyIx (Words.base (grp i) (row0 v16) + (512 * k.1 + x.1)))) : EReal) * clipF (weightF w off (512 * k.1 + x.1) col.1) := by
  have hT : 512 * Words.nt (grp i) (row0 v16) ≤ 16384 := by
    have := Words.nt_le (l := row0 v16) (grp_lt i); omega
  have hk := h.key_lt k
  have hcol := col.2
  unfold tripR_k0_t9 trip_k0_t9
  dsimp only
  pointwise [trip_k0_t9.sl.v433, trip_k0_t9.sl.v427, trip_k0_t9.sl.v418, trip_k0_t9.sl.v449, trip_k0_t9.sl.cst_250, trip_k0_t9.sl.v432, trip_k0_t9.sl.v419, k0_pay642, trip_k0_t9.sl.v434, trip_k0_t9.sl.v441, trip_k0_t9.sl.v447, trip_k0_t9.sl.v448, trip_k0_t9.sl.v439, trip_k0_t9.sl.v424, trip_k0_t9.sl.v423, trip_k0_t9.sl.cst_251, trip_k0_t9.sl.v442, trip_k0_t9.sl.v425, k0_pay640, trip_k0_t9.sl.v426, trip_k0_t9.sl.v417]
  refine congrArg₂ (· + ·) rfl (Finset.sum_congr rfl fun x _ => congrArg₂ (· * ·) (value_at (off50_eq h k) hk d x (by omega)) ?_)
  by_cases h1 : col.1 < 128
  · refine (dif_pos h1).trans (clip_congr ?_)
    exact weight_at (m := 0) (v12 := arg12.view) (X12 := X_arg12) (k := k.1) hw (h.lt k) hT (off46_eq h k) (by decide) x ⟨col.1, by omega⟩ ((ho0 ⟨col.1, by omega⟩).trans (congrArg off (Nat.zero_add _).symm)) rfl (by simp only []; omega)
  refine (dif_neg h1).trans ?_
  by_cases h2 : col.1 - 128 < 128
  · refine (dif_pos h2).trans (clip_congr ?_)
    exact weight_at (m := 128) (v12 := arg12.view) (X12 := X_arg12) (k := k.1) hw (h.lt k) hT (off47_eq h k) (by decide) x ⟨col.1 - 128, by omega⟩ (ho1 ⟨col.1 - 128, by omega⟩) rfl (by simp only []; omega)
  refine (dif_neg h2).trans ?_
  by_cases h3 : col.1 - 128 - 128 < 128
  · refine (dif_pos h3).trans (clip_congr ?_)
    exact weight_at (m := 256) (v12 := arg12.view) (X12 := X_arg12) (k := k.1) hw (h.lt k) hT (off48_eq h k) (by decide) x ⟨col.1 - 128 - 128, by omega⟩ (ho2 ⟨col.1 - 128 - 128, by omega⟩) rfl (by simp only []; omega)
  refine (dif_neg h3).trans (clip_congr ?_)
  exact weight_at (m := 384) (v12 := arg12.view) (X12 := X_arg12) (k := k.1) hw (h.lt k) hT (off49_eq h k) (by decide) x ⟨col.1 - 128 - 128 - 128, by omega⟩ (ho3 ⟨col.1 - 128 - 128 - 128, by omega⟩) rfl (by simp only []; omega)

end

section

variable (init :  FVec Ideal S8x128 .f32 × FVec Ideal S8x128 .f32 × FVec Ideal S8x128 .f32 × FVec Ideal S8x128 .f32 × FVec Ideal S128x512 .f32) (h : Early i v16) {w : ℕ → ℕ → EReal} {off : ℕ → EReal} (hw : ∀ y : S16384x512.Idx, (y 0).1 < 512 * Words.nt (grp i) (row0 v16) → arg12.view.read (Elt Ideal) X_arg12 y = w (y 0).1 (y 1).1) (ho0 : ∀ l : Fin 128, v279 (ix2 0 l) = off l.1) (ho1 : ∀ l : Fin 128, v283 (ix2 0 l) = off (128 + l.1)) (ho2 : ∀ l : Fin 128, v287 (ix2 0 l) = off (256 + l.1)) (ho3 : ∀ l : Fin 128, v291 (ix2 0 l) = off (384 + l.1))

include init h w off hw ho0 ho1 ho2 ho3

/-- The sums of the weights that the loop leaves for tile 0. -/
theorem pv9_total0 (l : Fin 128) :
    (∑ a : Fin 8, ((st_k0_t9 (F := Ideal) 𝒱 c bd i arg2 harg2 arg3 harg3 arg4 harg4 arg5 harg5 arg6 harg6 arg7 harg7 arg8 harg8 arg9 harg9 arg10 harg10 arg11 harg11 arg12 harg12 arg13 harg13 v16 k0_hw1 v40 v279 v283 v287 v291 v292 v293 v294 v295 v296 c0_i32_171 v300 X_arg9 X_arg12 init (k0_t9_loop i v16).trips).1 (ix2 a l) : EReal)) = (∑ a : Fin 8, (init.1 (ix2 a l) : EReal))
      + ∑ row ∈ Finset.range (512 * (k0_t9_loop i v16).trips), weightF w off row (l.1) :=
  loop_sum (fun k a => (st_k0_t9 (F := Ideal) 𝒱 c bd i arg2 harg2 arg3 harg3 arg4 harg4 arg5 harg5 arg6 harg6 arg7 harg7 arg8 harg8 arg9 harg9 arg10 harg10 arg11 harg11 arg12 harg12 arg13 harg13 v16 k0_hw1 v40 v279 v283 v287 v291 v292 v293 v294 v295 v296 c0_i32_171 v300 X_arg9 X_arg12 init k).1 (ix2 a l)) (fun row => weightF w off row (l.1)) _
    (fun k hk a => (congrArg (fun p => (p.1 (ix2 a l) : EReal)) (st_k0_t9_succ (F := Ideal) 𝒱 c bd i arg2 harg2 arg3 harg3 arg4 harg4 arg5 harg5 arg6 harg6 arg7 harg7 arg8 harg8 arg9 harg9 arg10 harg10 arg11 harg11 arg12 harg12 arg13 harg13 v16 k0_hw1 v40 v279 v283 v287 v291 v292 v293 v294 v295 v296 c0_i32_171 v300 X_arg9 X_arg12 init ⟨k, hk⟩)).trans
      (pv9_sum0 𝒱 c bd i arg2 harg2 arg3 harg3 arg4 harg4 arg5 harg5 arg6 harg6 arg7 harg7 arg8 harg8 arg9 harg9 arg10 harg10 arg11 harg11 arg12 harg12 arg13 harg13 v16 k0_hw1 v40 v279 v283 v287 v291 v292 v293 v294 v295 v296 c0_i32_171 v300 X_arg9 X_arg12 ⟨k, hk⟩ _ h hw ho0 ho1 ho2 ho3 a l)) _ le_rfl

/-- The sums of the weights that the loop leaves for tile 1. -/
theorem pv9_total1 (l : Fin 128) :
    (∑ a : Fin 8, ((st_k0_t9 (F := Ideal) 𝒱 c bd i arg2 harg2 arg3 harg3 arg4 harg4 arg5 harg5 arg6 harg6 arg7 harg7 arg8 harg8 arg9 harg9 arg10 harg10 arg11 harg11 arg12 harg12 arg13 harg13 v16 k0_hw1 v40 v279 v283 v287 v291 v292 v293 v294 v295 v296 c0_i32_171 v300 X_arg9 X_arg12 init (k0_t9_loop i v16).trips).2.1 (ix2 a l) : EReal)) = (∑ a : Fin 8, (init.2.1 (ix2 a l) : EReal))
      + ∑ row ∈ Finset.range (512 * (k0_t9_loop i v16).trips), weightF w off row (128 + l.1) :=
  loop_sum (fun k a => (st_k0_t9 (F := Ideal) 𝒱 c bd i arg2 harg2 arg3 harg3 arg4 harg4 arg5 harg5 arg6 harg6 arg7 harg7 arg8 harg8 arg9 harg9 arg10 harg10 arg11 harg11 arg12 harg12 arg13 harg13 v16 k0_hw1 v40 v279 v283 v287 v291 v292 v293 v294 v295 v296 c0_i32_171 v300 X_arg9 X_arg12 init k).2.1 (ix2 a l)) (fun row => weightF w off row (128 + l.1)) _
    (fun k hk a => (congrArg (fun p => (p.2.1 (ix2 a l) : EReal)) (st_k0_t9_succ (F := Ideal) 𝒱 c bd i arg2 harg2 arg3 harg3 arg4 harg4 arg5 harg5 arg6 harg6 arg7 harg7 arg8 harg8 arg9 harg9 arg10 harg10 arg11 harg11 arg12 harg12 arg13 harg13 v16 k0_hw1 v40 v279 v283 v287 v291 v292 v293 v294 v295 v296 c0_i32_171 v300 X_arg9 X_arg12 init ⟨k, hk⟩)).trans
      (pv9_sum1 𝒱 c bd i arg2 harg2 arg3 harg3 arg4 harg4 arg5 harg5 arg6 harg6 arg7 harg7 arg8 harg8 arg9 harg9 arg10 harg10 arg11 harg11 arg12 harg12 arg13 harg13 v16 k0_hw1 v40 v279 v283 v287 v291 v292 v293 v294 v295 v296 c0_i32_171 v300 X_arg9 X_arg12 ⟨k, hk⟩ _ h hw ho0 ho1 ho2 ho3 a l)) _ le_rfl

/-- The sums of the weights that the loop leaves for tile 2. -/
theorem pv9_total2 (l : Fin 128) :
    (∑ a : Fin 8, ((st_k0_t9 (F := Ideal) 𝒱 c bd i arg2 harg2 arg3 harg3 arg4 harg4 arg5 harg5 arg6 harg6 arg7 harg7 arg8 harg8 arg9 harg9 arg10 harg10 arg11 harg11 arg12 harg12 arg13 harg13 v16 k0_hw1 v40 v279 v283 v287 v291 v292 v293 v294 v295 v296 c0_i32_171 v300 X_arg9 X_arg12 init (k0_t9_loop i v16).trips).2.2.1 (ix2 a l) : EReal)) = (∑ a : Fin 8, (init.2.2.1 (ix2 a l) : EReal))
      + ∑ row ∈ Finset.range (512 * (k0_t9_loop i v16).trips), weightF w off row (256 + l.1) :=
  loop_sum (fun k a => (st_k0_t9 (F := Ideal) 𝒱 c bd i arg2 harg2 arg3 harg3 arg4 harg4 arg5 harg5 arg6 harg6 arg7 harg7 arg8 harg8 arg9 harg9 arg10 harg10 arg11 harg11 arg12 harg12 arg13 harg13 v16 k0_hw1 v40 v279 v283 v287 v291 v292 v293 v294 v295 v296 c0_i32_171 v300 X_arg9 X_arg12 init k).2.2.1 (ix2 a l)) (fun row => weightF w off row (256 + l.1)) _
    (fun k hk a => (congrArg (fun p => (p.2.2.1 (ix2 a l) : EReal)) (st_k0_t9_succ (F := Ideal) 𝒱 c bd i arg2 harg2 arg3 harg3 arg4 harg4 arg5 harg5 arg6 harg6 arg7 harg7 arg8 harg8 arg9 harg9 arg10 harg10 arg11 harg11 arg12 harg12 arg13 harg13 v16 k0_hw1 v40 v279 v283 v287 v291 v292 v293 v294 v295 v296 c0_i32_171 v300 X_arg9 X_arg12 init ⟨k, hk⟩)).trans
      (pv9_sum2 𝒱 c bd i arg2 harg2 arg3 harg3 arg4 harg4 arg5 harg5 arg6 harg6 arg7 harg7 arg8 harg8 arg9 harg9 arg10 harg10 arg11 harg11 arg12 harg12 arg13 harg13 v16 k0_hw1 v40 v279 v283 v287 v291 v292 v293 v294 v295 v296 c0_i32_171 v300 X_arg9 X_arg12 ⟨k, hk⟩ _ h hw ho0 ho1 ho2 ho3 a l)) _ le_rfl

/-- The sums of the weights that the loop leaves for tile 3. -/
theorem pv9_total3 (l : Fin 128) :
    (∑ a : Fin 8, ((st_k0_t9 (F := Ideal) 𝒱 c bd i arg2 harg2 arg3 harg3 arg4 harg4 arg5 harg5 arg6 harg6 arg7 harg7 arg8 harg8 arg9 harg9 arg10 harg10 arg11 harg11 arg12 harg12 arg13 harg13 v16 k0_hw1 v40 v279 v283 v287 v291 v292 v293 v294 v295 v296 c0_i32_171 v300 X_arg9 X_arg12 init (k0_t9_loop i v16).trips).2.2.2.1 (ix2 a l) : EReal)) = (∑ a : Fin 8, (init.2.2.2.1 (ix2 a l) : EReal))
      + ∑ row ∈ Finset.range (512 * (k0_t9_loop i v16).trips), weightF w off row (384 + l.1) :=
  loop_sum (fun k a => (st_k0_t9 (F := Ideal) 𝒱 c bd i arg2 harg2 arg3 harg3 arg4 harg4 arg5 harg5 arg6 harg6 arg7 harg7 arg8 harg8 arg9 harg9 arg10 harg10 arg11 harg11 arg12 harg12 arg13 harg13 v16 k0_hw1 v40 v279 v283 v287 v291 v292 v293 v294 v295 v296 c0_i32_171 v300 X_arg9 X_arg12 init k).2.2.2.1 (ix2 a l)) (fun row => weightF w off row (384 + l.1)) _
    (fun k hk a => (congrArg (fun p => (p.2.2.2.1 (ix2 a l) : EReal)) (st_k0_t9_succ (F := Ideal) 𝒱 c bd i arg2 harg2 arg3 harg3 arg4 harg4 arg5 harg5 arg6 harg6 arg7 harg7 arg8 harg8 arg9 harg9 arg10 harg10 arg11 harg11 arg12 harg12 arg13 harg13 v16 k0_hw1 v40 v279 v283 v287 v291 v292 v293 v294 v295 v296 c0_i32_171 v300 X_arg9 X_arg12 init ⟨k, hk⟩)).trans
      (pv9_sum3 𝒱 c bd i arg2 harg2 arg3 harg3 arg4 harg4 arg5 harg5 arg6 harg6 arg7 harg7 arg8 harg8 arg9 harg9 arg10 harg10 arg11 harg11 arg12 harg12 arg13 harg13 v16 k0_hw1 v40 v279 v283 v287 v291 v292 v293 v294 v295 v296 c0_i32_171 v300 X_arg9 X_arg12 ⟨k, hk⟩ _ h hw ho0 ho1 ho2 ho3 a l)) _ le_rfl

/-- The values by weight that the loop leaves. -/
theorem pv9_values (d : Fin 128) (col : Fin 512) :
    ((st_k0_t9 (F := Ideal) 𝒱 c bd i arg2 harg2 arg3 harg3 arg4 harg4 arg5 harg5 arg6 harg6 arg7 harg7 arg8 harg8 arg9 harg9 arg10 harg10 arg11 harg11 arg12 harg12 arg13 harg13 v16 k0_hw1 v40 v279 v283 v287 v291 v292 v293 v294 v295 v296 c0_i32_171 v300 X_arg9 X_arg12 init (k0_t9_loop i v16).trips).2.2.2.2 (ix2 d col) : EReal) = (init.2.2.2.2 (ix2 d col) : EReal) + ∑ row ∈ Finset.range (512 * (k0_t9_loop i v16).trips),
      (arg9.view.read (Elt Ideal) X_arg9 (ix3 0 d (keyIx (Words.base (grp i) (row0 v16) + row))) : EReal) * clipF (weightF w off row col.1) :=
  loop_acc (fun k => (st_k0_t9 (F := Ideal) 𝒱 c bd i arg2 harg2 arg3 harg3 arg4 harg4 arg5 harg5 arg6 harg6 arg7 harg7 arg8 harg8 arg9 harg9 arg10 harg10 arg11 harg11 arg12 harg12 arg13 harg13 v16 k0_hw1 v40 v279 v283 v287 v291 v292 v293 v294 v295 v296 c0_i32_171 v300 X_arg9 X_arg12 init k).2.2.2.2 (ix2 d col)) (fun row => (arg9.view.read (Elt Ideal) X_arg9 (ix3 0 d (keyIx (Words.base (grp i) (row0 v16) + row))) : EReal) * clipF (weightF w off row col.1)) _
    (fun k hk => (congrArg (fun p => (p.2.2.2.2 (ix2 d col) : EReal)) (st_k0_t9_succ (F := Ideal) 𝒱 c bd i arg2 harg2 arg3 harg3 arg4 harg4 arg5 harg5 arg6 harg6 arg7 harg7 arg8 harg8 arg9 harg9 arg10 harg10 arg11 harg11 arg12 harg12 arg13 harg13 v16 k0_hw1 v40 v279 v283 v287 v291 v292 v293 v294 v295 v296 c0_i32_171 v300 X_arg9 X_arg12 init ⟨k, hk⟩)).trans
      (pv9_acc 𝒱 c bd i arg2 harg2 arg3 harg3 arg4 harg4 arg5 harg5 arg6 harg6 arg7 harg7 arg8 harg8 arg9 harg9 arg10 harg10 arg11 harg11 arg12 harg12 arg13 harg13 v16 k0_hw1 v40 v279 v283 v287 v291 v292 v293 v294 v295 v296 c0_i32_171 v300 X_arg9 X_arg12 ⟨k, hk⟩ _ h hw ho0 ho1 ho2 ho3 d col)) _ le_rfl

end

end

end Cert.KernelIdeal.Hand

end
-- ==== Proof.KernelIdealUnitB.lean ====
/- What the loops of the second unit of the attention kernel leave, from the values that each loop stores. -/
module

public import proofs.«01_k».proof.Proof.KernelIdealUnitA
public import proofs.«01_k».proof.Proof.KernelIdealScoreB
public import proofs.«01_k».proof.Proof.KernelIdealWeightB
public import Idealize.ShloMosaic.Lib.Pointwise

@[expose] public section

set_option maxRecDepth 16384
set_option maxHeartbeats 4000000

noncomputable section

namespace Cert.KernelIdeal.Hand

open Cert.KernelIdeal.Gen
open Idealize.ShloMosaic Idealize.ShloMosaic.TcCoe Idealize.ShloMosaic.Tactic

/-- All that the weight loop of unit 1 leaves. -/
theorem pv9_all (𝒱 : Variants) (c : Dev nD) (bd : Option 𝒱.V) (i : grid0.Coords) (arg2 : Memref sig .tc .smem S256 .i32) (harg2 : arg2.IsWhole) (arg3 : Memref sig .tc .smem S1x1x256 .f32) (harg3 : arg3.IsWhole) (arg4 : Memref sig .tc .vmem S1x1x1024x128 .fp8e4m3) (harg4 : arg4.IsWhole) (arg5 : Memref sig .tc .vmem S1x1x1x128 .f32) (harg5 : arg5.IsWhole) (arg6 : Memref sig .tc .vmem S1x1x8x128 .bf16) (harg6 : arg6.IsWhole) (arg7 : Memref sig .tc .vmem S1x8x128 .i32) (harg7 : arg7.IsWhole) (arg8 : Memref sig .tc .vmem S16384x128 .fp8e4m3) (harg8 : arg8.IsWhole) (arg9 : Memref sig .tc .vmem S1x128x16384 .fp8e4m3) (harg9 : arg9.IsWhole) (arg10 : Memref sig .tc .vmem S1x128x128 .f32) (harg10 : arg10.IsWhole) (arg11 : Memref sig .tc .vmem S128x1024 .bf16) (harg11 : arg11.IsWhole) (arg12 : Memref sig .tc .vmem S16384x512 .f32) (harg12 : arg12.IsWhole) (arg13 : Memref sig .tc .vmem S16384x128 .f32) (harg13 : arg13.IsWhole) (v16 : Elt Ideal .i32) (k0_hw1 : k0_chk1 i v16) (v40 : BitVec 32) (v279 : FVec Ideal S1x128 .f32) (v283 : FVec Ideal S1x128 .f32) (v287 : FVec Ideal S1x128 .f32) (v291 : FVec Ideal S1x128 .f32) (v292 : FVec Ideal S8x128 .f32) (v293 : FVec Ideal S8x128 .f32) (v294 : FVec Ideal S8x128 .f32) (v295 : FVec Ideal S8x128 .f32) (v296 : FVec Ideal S128x512 .f32) (c0_i32_171 : BitVec 32) (v300 : BitVec 32) (X_arg9 : BufTy.Contents (Elt Ideal) arg9.view.ty) (X_arg12 : BufTy.Contents (Elt Ideal) arg12.view.ty) (init :  FVec Ideal S8x128 .f32 × FVec Ideal S8x128 .f32 × FVec Ideal S8x128 .f32 × FVec Ideal S8x128 .f32 × FVec Ideal S128x512 .f32) (h : Early i v16) {w : ℕ → ℕ → EReal} {off : ℕ → EReal} (hw : ∀ y : S16384x512.Idx, (y 0).1 < 512 * Words.nt (grp i) (row0 v16) → arg12.view.read (Elt Ideal) X_arg12 y = w (y 0).1 (y 1).1) (ho0 : ∀ l : Fin 128, v279 (ix2 0 l) = off l.1) (ho1 : ∀ l : Fin 128, v283 (ix2 0 l) = off (128 + l.1)) (ho2 : ∀ l : Fin 128, v287 (ix2 0 l) = off (256 + l.1)) (ho3 : ∀ l : Fin 128, v291 (ix2 0 l) = off (384 + l.1)) (hz0 : ∀ l : Fin 128, (∑ a : Fin 8, (init.1 (ix2 a l) : EReal)) = 0) (hz1 : ∀ l : Fin 128, (∑ a : Fin 8, (init.2.1 (ix2 a l) : EReal)) = 0) (hz2 : ∀ l : Fin 128, (∑ a : Fin 8, (init.2.2.1 (ix2 a l) : EReal)) = 0) (hz3 : ∀ l : Fin 128, (∑ a : Fin 8, (init.2.2.2.1 (ix2 a l) : EReal)) = 0) (hz : ∀ d col, (init.2.2.2.2 (ix2 d col) : EReal) = 0) :
    (∀ l : Fin 128, (∑ a : Fin 8, ((st_k0_t9 (F := Ideal) 𝒱 c bd i arg2 harg2 arg3 harg3 arg4 harg4 arg5 harg5 arg6 harg6 arg7 harg7 arg8 harg8 arg9 harg9 arg10 harg10 arg11 harg11 arg12 harg12 arg13 harg13 v16 k0_hw1 v40 v279 v283 v287 v291 v292 v293 v294 v295 v296 c0_i32_171 v300 X_arg9 X_arg12 init (k0_t9_loop i v16).trips).1 (ix2 a l) : EReal)) = ∑ row ∈ Finset.range (512 * Words.nt (grp i) (row0 v16)), weightF w off row (l.1)) ∧
    (∀ l : Fin 128, (∑ a : Fin 8, ((st_k0_t9 (F := Ideal) 𝒱 c bd i arg2 harg2 arg3 harg3 arg4 harg4 arg5 harg5 arg6 harg6 arg7 harg7 arg8 harg8 arg9 harg9 arg10 harg10 arg11 harg11 arg12 harg12 arg13 harg13 v16 k0_hw1 v40 v279 v283 v287 v291 v292 v293 v294 v295 v296 c0_i32_171 v300 X_arg9 X_arg12 init (k0_t9_loop i v16).trips).2.1 (ix2 a l) : EReal)) = ∑ row ∈ Finset.range (512 * Words.nt (grp i) (row0 v16)), weightF w off row (128 + l.1)) ∧
    (∀ l : Fin 128, (∑ a : Fin 8, ((st_k0_t9 (F := Ideal) 𝒱 c bd i arg2 harg2 arg3 harg3 arg4 harg4 arg5 harg5 arg6 harg6 arg7 harg7 arg8 harg8 arg9 harg9 arg10 harg10 arg11 harg11 arg12 harg12 arg13 harg13 v16 k0_hw1 v40 v279 v283 v287 v291 v292 v293 v294 v295 v296 c0_i32_171 v300 X_arg9 X_arg12 init (k0_t9_loop i v16).trips).2.2.1 (ix2 a l) : EReal)) = ∑ row ∈ Finset.range (512 * Words.nt (grp i) (row0 v16)), weightF w off row (256 + l.1)) ∧
    (∀ l : Fin 128, (∑ a : Fin 8, ((st_k0_t9 (F := Ideal) 𝒱 c bd i arg2 harg2 arg3 harg3 arg4 harg4 arg5 harg5 arg6 harg6 arg7 harg7 arg8 harg8 arg9 harg9 arg10 harg10 arg11 harg11 arg12 harg12 arg13 harg13 v16 k0_hw1 v40 v279 v283 v287 v291 v292 v293 v294 v295 v296 c0_i32_171 v300 X_arg9 X_arg12 init (k0_t9_loop i v16).trips).2.2.2.1 (ix2 a l) : EReal)) = ∑ row ∈ Finset.range (512 * Words.nt (grp i) (row0 v16)), weightF w off row (384 + l.1)) ∧
    (∀ d col, ((st_k0_t9 (F := Ideal) 𝒱 c bd i arg2 harg2 arg3 harg3 arg4 harg4 arg5 harg5 arg6 harg6 arg7 harg7 arg8 harg8 arg9 harg9 arg10 harg10 arg11 harg11 arg12 harg12 arg13 harg13 v16 k0_hw1 v40 v279 v283 v287 v291 v292 v293 v294 v295 v296 c0_i32_171 v300 X_arg9 X_arg12 init (k0_t9_loop i v16).trips).2.2.2.2 (ix2 d col) : EReal) = ∑ row ∈ Finset.range (512 * Words.nt (grp i) (row0 v16)), (arg9.view.read (Elt Ideal) X_arg9 (ix3 0 d (keyIx (Words.base (grp i) (row0 v16) + row))) : EReal) * clipF (weightF w off row col.1)) := by
  have e : (k0_t9_loop i v16).trips = Words.nt (grp i) (row0 v16) := h.trips
  refine ⟨fun l => ?_, fun l => ?_, fun l => ?_, fun l => ?_, fun d col => ?_⟩
  · rw [pv9_total0 𝒱 c bd i arg2 harg2 arg3 harg3 arg4 harg4 arg5 harg5 arg6 harg6 arg7 harg7 arg8 harg8 arg9 harg9 arg10 harg10 arg11 harg11 arg12 harg12 arg13 harg13 v16 k0_hw1 v40 v279 v283 v287 v291 v292 v293 v294 v295 v296 c0_i32_171 v300 X_arg9 X_arg12 init h hw ho0 ho1 ho2 ho3 l, hz0, zero_add, e]
  · rw [pv9_total1 𝒱 c bd i arg2 harg2 arg3 harg3 arg4 harg4 arg5 harg5 arg6 harg6 arg7 harg7 arg8 harg8 arg9 harg9 arg10 harg10 arg11 harg11 arg12 harg12 arg13 harg13 v16 k0_hw1 v40 v279 v283 v287 v291 v292 v293 v294 v295 v296 c0_i32_171 v300 X_arg9 X_arg12 init h hw ho0 ho1 ho2 ho3 l, hz1, zero_add, e]
  · rw [pv9_total2 𝒱 c bd i arg2 harg2 arg3 harg3 arg4 harg4 arg5 harg5 arg6 harg6 arg7 harg7 arg8 harg8 arg9 harg9 arg10 harg10 arg11 harg11 arg12 harg12 arg13 harg13 v16 k0_hw1 v40 v279 v283 v287 v291 v292 v293 v294 v295 v296 c0_i32_171 v300 X_arg9 X_arg12 init h hw ho0 ho1 ho2 ho3 l, hz2, zero_add, e]
  · rw [pv9_total3 𝒱 c bd i arg2 harg2 arg3 harg3 arg4 harg4 arg5 harg5 arg6 harg6 arg7 harg7 arg8 harg8 arg9 harg9 arg10 harg10 arg11 harg11 arg12 harg12 arg13 harg13 v16 k0_hw1 v40 v279 v283 v287 v291 v292 v293 v294 v295 v296 c0_i32_171 v300 X_arg9 X_arg12 init h hw ho0 ho1 ho2 ho3 l, hz3, zero_add, e]
  · rw [pv9_values 𝒱 c bd i arg2 harg2 arg3 harg3 arg4 harg4 arg5 harg5 arg6 harg6 arg7 harg7 arg8 harg8 arg9 harg9 arg10 harg10 arg11 harg11 arg12 harg12 arg13 harg13 v16 k0_hw1 v40 v279 v283 v287 v291 v292 v293 v294 v295 v296 c0_i32_171 v300 X_arg9 X_arg12 init h hw ho0 ho1 ho2 ho3 d col, hz, zero_add, e]

/-- What the second weight loop of unit 1 leaves. -/
def rawB  (c : Dev nD) (i : grid0.Coords) (arg3 : Memref sig .tc .smem S1x1x256 .f32) (harg3 : arg3.IsWhole) (arg4 : Memref sig .tc .vmem S1x1x1024x128 .fp8e4m3) (harg4 : arg4.IsWhole) (arg5 : Memref sig .tc .vmem S1x1x1x128 .f32) (harg5 : arg5.IsWhole) (arg6 : Memref sig .tc .vmem S1x1x8x128 .bf16) (harg6 : arg6.IsWhole) (arg7 : Memref sig .tc .vmem S1x8x128 .i32) (harg7 : arg7.IsWhole) (arg8 : Memref sig .tc .vmem S16384x128 .fp8e4m3) (harg8 : arg8.IsWhole) (arg9 : Memref sig .tc .vmem S1x128x16384 .fp8e4m3) (harg9 : arg9.IsWhole) (arg10 : Memref sig .tc .vmem S1x128x128 .f32) (harg10 : arg10.IsWhole) (arg11 : Memref sig .tc .vmem S128x1024 .bf16) (harg11 : arg11.IsWhole) (arg12 : Memref sig .tc .vmem S16384x512 .f32) (harg12 : arg12.IsWhole) (arg13 : Memref sig .tc .vmem S16384x128 .f32) (harg13 : arg13.IsWhole)
    (x0 : Vec Ideal S1x1x256 .f32) (x1 : Vec Ideal S1x1x1024x128 .fp8e4m3) (x2 : Vec Ideal S1x1x1x128 .f32) (x3 : Vec Ideal S1x1x8x128 .bf16) (x4 : Vec Ideal S1x8x128 .i32) (x5 : Vec Ideal S16384x128 .fp8e4m3) (x6 : Vec Ideal S1x128x16384 .fp8e4m3) (x7 : Vec Ideal S1x128x128 .f32) (xt0 : TbBuf0 (F := Ideal) c tbM0_0) (k0_hw1 : k0_chk1 i (tbM0_0.view.readAt (Elt Ideal) (Rect.unit (s := S256) (k0_off1 i) S1.size (k0_off1_inb i)).toLoadRect xt0 (Shape.Idx.first (numel1_S1.symm ▸ Nat.one_pos)))) (d12 : Vec Ideal S16384x512 .f32) (d13 : Vec Ideal S16384x128 .f32) : { V : FVec Ideal S8x128 .f32 × FVec Ideal S8x128 .f32 × FVec Ideal S8x128 .f32 × FVec Ideal S8x128 .f32 × FVec Ideal S128x512 .f32 // stores.sl.r_34 (F := Ideal) c i arg3 harg3 arg4 harg4 arg5 harg5 arg6 harg6 arg7 harg7 arg8 harg8 arg9 harg9 arg10 harg10 arg11 harg11 arg12 harg12 arg13 harg13 x0 x1 x2 x3 x4 x5 x6 xt0 k0_hw1 d12 d13 = V.2.1 } := ⟨_, rfl⟩

set_option maxHeartbeats 4000000 in
/-- What the two score loops and the two weight loops of unit 1 leave. -/
theorem unitB  (c : Dev nD) (i : grid0.Coords) (arg3 : Memref sig .tc .smem S1x1x256 .f32) (harg3 : arg3.IsWhole) (arg4 : Memref sig .tc .vmem S1x1x1024x128 .fp8e4m3) (harg4 : arg4.IsWhole) (arg5 : Memref sig .tc .vmem S1x1x1x128 .f32) (harg5 : arg5.IsWhole) (arg6 : Memref sig .tc .vmem S1x1x8x128 .bf16) (harg6 : arg6.IsWhole) (arg7 : Memref sig .tc .vmem S1x8x128 .i32) (harg7 : arg7.IsWhole) (arg8 : Memref sig .tc .vmem S16384x128 .fp8e4m3) (harg8 : arg8.IsWhole) (arg9 : Memref sig .tc .vmem S1x128x16384 .fp8e4m3) (harg9 : arg9.IsWhole) (arg10 : Memref sig .tc .vmem S1x128x128 .f32) (harg10 : arg10.IsWhole) (arg11 : Memref sig .tc .vmem S128x1024 .bf16) (harg11 : arg11.IsWhole) (arg12 : Memref sig .tc .vmem S16384x512 .f32) (harg12 : arg12.IsWhole) (arg13 : Memref sig .tc .vmem S16384x128 .f32) (harg13 : arg13.IsWhole)
    (x0 : Vec Ideal S1x1x256 .f32) (x1 : Vec Ideal S1x1x1024x128 .fp8e4m3) (x2 : Vec Ideal S1x1x1x128 .f32) (x3 : Vec Ideal S1x1x8x128 .bf16) (x4 : Vec Ideal S1x8x128 .i32) (x5 : Vec Ideal S16384x128 .fp8e4m3) (x6 : Vec Ideal S1x128x16384 .fp8e4m3) (x7 : Vec Ideal S1x128x128 .f32) (xt0 : TbBuf0 (F := Ideal) c tbM0_0) (k0_hw1 : k0_chk1 i (tbM0_0.view.readAt (Elt Ideal) (Rect.unit (s := S256) (k0_off1 i) S1.size (k0_off1_inb i)).toLoadRect xt0 (Shape.Idx.first (numel1_S1.symm ▸ Nat.one_pos)))) (d12 : Vec Ideal S16384x512 .f32) (d13 : Vec Ideal S16384x128 .f32) (h : Early i (stores.sl.r (F := Ideal) c i xt0)) :
      (∀ l : Fin 128, (∑ a : Fin 8, ((rawB c i arg3 harg3 arg4 harg4 arg5 harg5 arg6 harg6 arg7 harg7 arg8 harg8 arg9 harg9 arg10 harg10 arg11 harg11 arg12 harg12 arg13 harg13 x0 x1 x2 x3 x4 x5 x6 x7 xt0 k0_hw1 d12 d13).1.1 (ix2 a l) : EReal)) = ∑ row ∈ Finset.range (512 * Words.nt (grp i) (row0 (stores.sl.r (F := Ideal) c i xt0))), weightF (fun row col => scoreF (arg8.view.read (Elt Ideal) (harg8.unread x5)) (stores.sl.r_2 (F := Ideal) c arg6 harg6 x3) (arg3.view.read (Elt Ideal) (harg3.unread x0)) (stores.sl.r_21 (F := Ideal) c arg4 harg4 x1) (stores.sl.r_1 (F := Ideal) c arg5 harg5 x2) (qpF (grp i) 1) (dsF x4 1) (Words.base (grp i) (row0 (stores.sl.r (F := Ideal) c i xt0)) + row) col) (fun col => offS (512 * Words.nt (grp i) (row0 (stores.sl.r (F := Ideal) c i xt0))) (fun row => scoreF (arg8.view.read (Elt Ideal) (harg8.unread x5)) (stores.sl.r_2 (F := Ideal) c arg6 harg6 x3) (arg3.view.read (Elt Ideal) (harg3.unread x0)) (stores.sl.r_21 (F := Ideal) c arg4 harg4 x1) (stores.sl.r_1 (F := Ideal) c arg5 harg5 x2) (qpF (grp i) 1) (dsF x4 1) (Words.base (grp i) (row0 (stores.sl.r (F := Ideal) c i xt0)) + row) col)) row (l.1)) ∧ (∀ l : Fin 128, (∑ a : Fin 8, ((rawB c i arg3 harg3 arg4 harg4 arg5 harg5 arg6 harg6 arg7 harg7 arg8 harg8 arg9 harg9 arg10 harg10 arg11 harg11 arg12 harg12 arg13 harg13 x0 x1 x2 x3 x4 x5 x6 x7 xt0 k0_hw1 d12 d13).1.2.1 (ix2 a l) : EReal)) = ∑ row ∈ Finset.range (512 * Words.nt (grp i) (row0 (stores.sl.r (F := Ideal) c i xt0))), weightF (fun row col => scoreF (arg8.view.read (Elt Ideal) (harg8.unread x5)) (stores.sl.r_2 (F := Ideal) c arg6 harg6 x3) (arg3.view.read (Elt Ideal) (harg3.unread x0)) (stores.sl.r_21 (F := Ideal) c arg4 harg4 x1) (stores.sl.r_1 (F := Ideal) c arg5 harg5 x2) (qpF (grp i) 1) (dsF x4 1) (Words.base (grp i) (row0 (stores.sl.r (F := Ideal) c i xt0)) + row) col) (fun col => offS (512 * Words.nt (grp i) (row0 (stores.sl.r (F := Ideal) c i xt0))) (fun row => scoreF (arg8.view.read (Elt Ideal) (harg8.unread x5)) (stores.sl.r_2 (F := Ideal) c arg6 harg6 x3) (arg3.view.read (Elt Ideal) (harg3.unread x0)) (stores.sl.r_21 (F := Ideal) c arg4 harg4 x1) (stores.sl.r_1 (F := Ideal) c arg5 harg5 x2) (qpF (grp i) 1) (dsF x4 1) (Words.base (grp i) (row0 (stores.sl.r (F := Ideal) c i xt0)) + row) col)) row (128 + l.1)) ∧ (∀ l : Fin 128, (∑ a : Fin 8, ((rawB c i arg3 harg3 arg4 harg4 arg5 harg5 arg6 harg6 arg7 harg7 arg8 harg8 arg9 harg9 arg10 harg10 arg11 harg11 arg12 harg12 arg13 harg13 x0 x1 x2 x3 x4 x5 x6 x7 xt0 k0_hw1 d12 d13).1.2.2.1 (ix2 a l) : EReal)) = ∑ row ∈ Finset.range (512 * Words.nt (grp i) (row0 (stores.sl.r (F := Ideal) c i xt0))), weightF (fun row col => scoreF (arg8.view.read (Elt Ideal) (harg8.unread x5)) (stores.sl.r_2 (F := Ideal) c arg6 harg6 x3) (arg3.view.read (Elt Ideal) (harg3.unread x0)) (stores.sl.r_21 (F := Ideal) c arg4 harg4 x1) (stores.sl.r_1 (F := Ideal) c arg5 harg5 x2) (qpF (grp i) 1) (dsF x4 1) (Words.base (grp i) (row0 (stores.sl.r (F := Ideal) c i xt0)) + row) col) (fun col => offS (512 * Words.nt (grp i) (row0 (stores.sl.r (F := Ideal) c i xt0))) (fun row => scoreF (arg8.view.read (Elt Ideal) (harg8.unread x5)) (stores.sl.r_2 (F := Ideal) c arg6 harg6 x3) (arg3.view.read (Elt Ideal) (harg3.unread x0)) (stores.sl.r_21 (F := Ideal) c arg4 harg4 x1) (stores.sl.r_1 (F := Ideal) c arg5 harg5 x2) (qpF (grp i) 1) (dsF x4 1) (Words.base (grp i) (row0 (stores.sl.r (F := Ideal) c i xt0)) + row) col)) row (256 + l.1)) ∧ (∀ l : Fin 128, (∑ a : Fin 8, ((rawB c i arg3 harg3 arg4 harg4 arg5 harg5 arg6 harg6 arg7 harg7 arg8 harg8 arg9 harg9 arg10 harg10 arg11 harg11 arg12 harg12 arg13 harg13 x0 x1 x2 x3 x4 x5 x6 x7 xt0 k0_hw1 d12 d13).1.2.2.2.1 (ix2 a l) : EReal)) = ∑ row ∈ Finset.range (512 * Words.nt (grp i) (row0 (stores.sl.r (F := Ideal) c i xt0))), weightF (fun row col => scoreF (arg8.view.read (Elt Ideal) (harg8.unread x5)) (stores.sl.r_2 (F := Ideal) c arg6 harg6 x3) (arg3.view.read (Elt Ideal) (harg3.unread x0)) (stores.sl.r_21 (F := Ideal) c arg4 harg4 x1) (stores.sl.r_1 (F := Ideal) c arg5 harg5 x2) (qpF (grp i) 1) (dsF x4 1) (Words.base (grp i) (row0 (stores.sl.r (F := Ideal) c i xt0)) + row) col) (fun col => offS (512 * Words.nt (grp i) (row0 (stores.sl.r (F := Ideal) c i xt0))) (fun row => scoreF (arg8.view.read (Elt Ideal) (harg8.unread x5)) (stores.sl.r_2 (F := Ideal) c arg6 harg6 x3) (arg3.view.read (Elt Ideal) (harg3.unread x0)) (stores.sl.r_21 (F := Ideal) c arg4 harg4 x1) (stores.sl.r_1 (F := Ideal) c arg5 harg5 x2) (qpF (grp i) 1) (dsF x4 1) (Words.base (grp i) (row0 (stores.sl.r (F := Ideal) c i xt0)) + row) col)) row (384 + l.1)) ∧ (∀ d col, ((rawB c i arg3 harg3 arg4 harg4 arg5 harg5 arg6 harg6 arg7 harg7 arg8 harg8 arg9 harg9 arg10 harg10 arg11 harg11 arg12 harg12 arg13 harg13 x0 x1 x2 x3 x4 x5 x6 x7 xt0 k0_hw1 d12 d13).1.2.2.2.2 (ix2 d col) : EReal) = ∑ row ∈ Finset.range (512 * Words.nt (grp i) (row0 (stores.sl.r (F := Ideal) c i xt0))), (arg9.view.read (Elt Ideal) (harg9.unread x6) (ix3 0 d (keyIx (Words.base (grp i) (row0 (stores.sl.r (F := Ideal) c i xt0)) + row))) : EReal) * clipF (weightF (fun row col => scoreF (arg8.view.read (Elt Ideal) (harg8.unread x5)) (stores.sl.r_2 (F := Ideal) c arg6 harg6 x3) (arg3.view.read (Elt Ideal) (harg3.unread x0)) (stores.sl.r_21 (F := Ideal) c arg4 harg4 x1) (stores.sl.r_1 (F := Ideal) c arg5 harg5 x2) (qpF (grp i) 1) (dsF x4 1) (Words.base (grp i) (row0 (stores.sl.r (F := Ideal) c i xt0)) + row) col) (fun col => offS (512 * Words.nt (grp i) (row0 (stores.sl.r (F := Ideal) c i xt0))) (fun row => scoreF (arg8.view.read (Elt Ideal) (harg8.unread x5)) (stores.sl.r_2 (F := Ideal) c arg6 harg6 x3) (arg3.view.read (Elt Ideal) (harg3.unread x0)) (stores.sl.r_21 (F := Ideal) c arg4 harg4 x1) (stores.sl.r_1 (F := Ideal) c arg5 harg5 x2) (qpF (grp i) 1) (dsF x4 1) (Words.base (grp i) (row0 (stores.sl.r (F := Ideal) c i xt0)) + row) col)) row col.1)) := by
  have hv : stores.sl.v40 (F := Ideal) c i xt0 = BitVec.ofNat 32 (Words.base (grp i) (row0 (stores.sl.r (F := Ideal) c i xt0))) := base_word h
  have e2 : Scf.trips (k0_t2_loop i (stores.sl.r (F := Ideal) c i xt0)).lb (k0_t2_loop i (stores.sl.r (F := Ideal) c i xt0)).ub (k0_t2_loop i (stores.sl.r (F := Ideal) c i xt0)).st = 0 := h.restTrips
  have e4 : Scf.trips (k0_t4_loop i (stores.sl.r (F := Ideal) c i xt0)).lb (k0_t4_loop i (stores.sl.r (F := Ideal) c i xt0)).ub (k0_t4_loop i (stores.sl.r (F := Ideal) c i xt0)).st = 0 := h.restTrips
  have e8 : Scf.trips (k0_t8_loop i (stores.sl.r (F := Ideal) c i xt0)).lb (k0_t8_loop i (stores.sl.r (F := Ideal) c i xt0)).ub (k0_t8_loop i (stores.sl.r (F := Ideal) c i xt0)).st = 0 := h.restTrips
  have e10 : Scf.trips (k0_t10_loop i (stores.sl.r (F := Ideal) c i xt0)).lb (k0_t10_loop i (stores.sl.r (F := Ideal) c i xt0)).ub (k0_t10_loop i (stores.sl.r (F := Ideal) c i xt0)).st = 0 := h.restTrips
  simp only [rawB, e2, st_k0_t2.eq_1, e4, st_k0_t4.eq_1, e8, st_k0_t8.eq_1, e10, st_k0_t10.eq_1, List.nil_append]
  refine pv9_all _ _ _ _ _ _ _ _ _ _ _ _ _ _ _ _ _ _ _ _ _ _ _ _ _ _ _ _ _ _ _ _ _ _ _ _ _ _ _ _ _ _ _ _ _ h (w := (fun row col => scoreF (arg8.view.read (Elt Ideal) (harg8.unread x5)) (stores.sl.r_2 (F := Ideal) c arg6 harg6 x3) (arg3.view.read (Elt Ideal) (harg3.unread x0)) (stores.sl.r_21 (F := Ideal) c arg4 harg4 x1) (stores.sl.r_1 (F := Ideal) c arg5 harg5 x2) (qpF (grp i) 1) (dsF x4 1) (Words.base (grp i) (row0 (stores.sl.r (F := Ideal) c i xt0)) + row) col)) (off := (fun col => offS (512 * Words.nt (grp i) (row0 (stores.sl.r (F := Ideal) c i xt0))) (fun row => scoreF (arg8.view.read (Elt Ideal) (harg8.unread x5)) (stores.sl.r_2 (F := Ideal) c arg6 harg6 x3) (arg3.view.read (Elt Ideal) (harg3.unread x0)) (stores.sl.r_21 (F := Ideal) c arg4 harg4 x1) (stores.sl.r_1 (F := Ideal) c arg5 harg5 x2) (qpF (grp i) 1) (dsF x4 1) (Words.base (grp i) (row0 (stores.sl.r (F := Ideal) c i xt0)) + row) col))) ?_ ?_ ?_ ?_ ?_ zero635 zero636 zero637 zero638 zero639
  · intro y hy
    rw [View.writes_append]; exact score7_read _ _ _ _ _ _ _ _ _ _ _ _ _ _ _ _ _ _ _ _ _ _ _ _ _ _ _ _ _ _ _ _ _ _ _ _ _ _ _ _ _ _ _ _ _ _ _ h (qp615 (grp_lt i)) (fun l => (ds619 _ l).trans (ds_at arg7 harg7 x4 (u := 1) (c := 0) (o := 4) rfl rfl (by decide) rfl l)) (qp616 (grp_lt i)) (fun l => (ds620 _ l).trans (ds_at arg7 harg7 x4 (u := 1) (c := 1) (o := 5) rfl rfl (by decide) rfl l)) (qp617 (grp_lt i)) (fun l => (ds621 _ l).trans (ds_at arg7 harg7 x4 (u := 1) (c := 2) (o := 6) rfl rfl (by decide) rfl l)) (qp618 (grp_lt i)) (ds_at arg7 harg7 x4 (u := 1) (c := 3) (o := 7) rfl rfl (by decide)) hv (fun y hy => bias_read _ _ _ _ _ _ _ _ _ _ _ _ _ _ _ _ _ _ _ _ _ _ _ _ _ _ _ _ _ _ _ _ _ _ _ _ _ _ _ _ h y (by rw [show (k0_t1_loop i (stores.sl.r (F := Ideal) c i xt0)).trips = _ from h.trips]; exact hy)) y (by rw [show (k0_t7_loop i (stores.sl.r (F := Ideal) c i xt0)).trips = _ from h.trips]; exact hy)
  · intro l
    unfold stores.sl.r_30
    simp only [e2, st_k0_t2.eq_1, e4, st_k0_t4.eq_1, e8, st_k0_t8.eq_1, e10, st_k0_t10.eq_1, List.nil_append]
    exact (off631 _ l).trans (off_eq (fun a => bot554 a l) (congrArg (512 * ·) h.trips) (score7_lub0 _ _ _ _ _ _ _ _ _ _ _ _ _ _ _ _ _ _ _ _ _ _ _ _ _ _ _ _ _ _ _ _ _ _ _ _ _ _ _ _ _ _ _ _ _ _ h (qp615 (grp_lt i)) (fun l => (ds619 _ l).trans (ds_at arg7 harg7 x4 (u := 1) (c := 0) (o := 4) rfl rfl (by decide) rfl l)) (qp616 (grp_lt i)) (fun l => (ds620 _ l).trans (ds_at arg7 harg7 x4 (u := 1) (c := 1) (o := 5) rfl rfl (by decide) rfl l)) (qp617 (grp_lt i)) (fun l => (ds621 _ l).trans (ds_at arg7 harg7 x4 (u := 1) (c := 2) (o := 6) rfl rfl (by decide) rfl l)) (qp618 (grp_lt i)) (ds_at arg7 harg7 x4 (u := 1) (c := 3) (o := 7) rfl rfl (by decide)) hv (fun y hy => bias_read _ _ _ _ _ _ _ _ _ _ _ _ _ _ _ _ _ _ _ _ _ _ _ _ _ _ _ _ _ _ _ _ _ _ _ _ _ _ _ _ h y (by rw [show (k0_t1_loop i (stores.sl.r (F := Ideal) c i xt0)).trips = _ from h.trips]; exact hy)) l))
  · intro l
    unfold stores.sl.r_31
    simp only [e2, st_k0_t2.eq_1, e4, st_k0_t4.eq_1, e8, st_k0_t8.eq_1, e10, st_k0_t10.eq_1, List.nil_append]
    exact (off632 _ l).trans (off_eq (fun a => bot555 a l) (congrArg (512 * ·) h.trips) (score7_lub1 _ _ _ _ _ _ _ _ _ _ _ _ _ _ _ _ _ _ _ _ _ _ _ _ _ _ _ _ _ _ _ _ _ _ _ _ _ _ _ _ _ _ _ _ _ _ h (qp615 (grp_lt i)) (fun l => (ds619 _ l).trans (ds_at arg7 harg7 x4 (u := 1) (c := 0) (o := 4) rfl rfl (by decide) rfl l)) (qp616 (grp_lt i)) (fun l => (ds620 _ l).trans (ds_at arg7 harg7 x4 (u := 1) (c := 1) (o := 5) rfl rfl (by decide) rfl l)) (qp617 (grp_lt i)) (fun l => (ds621 _ l).trans (ds_at arg7 harg7 x4 (u := 1) (c := 2) (o := 6) rfl rfl (by decide) rfl l)) (qp618 (grp_lt i)) (ds_at arg7 harg7 x4 (u := 1) (c := 3) (o := 7) rfl rfl (by decide)) hv (fun y hy => bias_read _ _ _ _ _ _ _ _ _ _ _ _ _ _ _ _ _ _ _ _ _ _ _ _ _ _ _ _ _ _ _ _ _ _ _ _ _ _ _ _ h y (by rw [show (k0_t1_loop i (stores.sl.r (F := Ideal) c i xt0)).trips = _ from h.trips]; exact hy)) l))
  · intro l
    unfold stores.sl.r_32
    simp only [e2, st_k0_t2.eq_1, e4, st_k0_t4.eq_1, e8, st_k0_t8.eq_1, e10, st_k0_t10.eq_1, List.nil_append]
    exact (off633 _ l).trans (off_eq (fun a => bot556 a l) (congrArg (512 * ·) h.trips) (score7_lub2 _ _ _ _ _ _ _ _ _ _ _ _ _ _ _ _ _ _ _ _ _ _ _ _ _ _ _ _ _ _ _ _ _ _ _ _ _ _ _ _ _ _ _ _ _ _ h (qp615 (grp_lt i)) (fun l => (ds619 _ l).trans (ds_at arg7 harg7 x4 (u := 1) (c := 0) (o := 4) rfl rfl (by decide) rfl l)) (qp616 (grp_lt i)) (fun l => (ds620 _ l).trans (ds_at arg7 harg7 x4 (u := 1) (c := 1) (o := 5) rfl rfl (by decide) rfl l)) (qp617 (grp_lt i)) (fun l => (ds621 _ l).trans (ds_at arg7 harg7 x4 (u := 1) (c := 2) (o := 6) rfl rfl (by decide) rfl l)) (qp618 (grp_lt i)) (ds_at arg7 harg7 x4 (u := 1) (c := 3) (o := 7) rfl rfl (by decide)) hv (fun y hy => bias_read _ _ _ _ _ _ _ _ _ _ _ _ _ _ _ _ _ _ _ _ _ _ _ _ _ _ _ _ _ _ _ _ _ _ _ _ _ _ _ _ h y (by rw [show (k0_t1_loop i (stores.sl.r (F := Ideal) c i xt0)).trips = _ from h.trips]; exact hy)) l))
  · intro l
    unfold stores.sl.r_33
    simp only [e2, st_k0_t2.eq_1, e4, st_k0_t4.eq_1, e8, st_k0_t8.eq_1, e10, st_k0_t10.eq_1, List.nil_append]
    exact (off634 _ l).trans (off_eq (fun a => bot557 a l) (congrArg (512 * ·) h.trips) (score7_lub3 _ _ _ _ _ _ _ _ _ _ _ _ _ _ _ _ _ _ _ _ _ _ _ _ _ _ _ _ _ _ _ _ _ _ _ _ _ _ _ _ _ _ _ _ _ _ h (qp615 (grp_lt i)) (fun l => (ds619 _ l).trans (ds_at arg7 harg7 x4 (u := 1) (c := 0) (o := 4) rfl rfl (by decide) rfl l)) (qp616 (grp_lt i)) (fun l => (ds620 _ l).trans (ds_at arg7 harg7 x4 (u := 1) (c := 1) (o := 5) rfl rfl (by decide) rfl l)) (qp617 (grp_lt i)) (fun l => (ds621 _ l).trans (ds_at arg7 harg7 x4 (u := 1) (c := 2) (o := 6) rfl rfl (by decide) rfl l)) (qp618 (grp_lt i)) (ds_at arg7 harg7 x4 (u := 1) (c := 3) (o := 7) rfl rfl (by decide)) hv (fun y hy => bias_read _ _ _ _ _ _ _ _ _ _ _ _ _ _ _ _ _ _ _ _ _ _ _ _ _ _ _ _ _ _ _ _ _ _ _ _ _ _ _ _ h y (by rw [show (k0_t1_loop i (stores.sl.r (F := Ideal) c i xt0)).trips = _ from h.trips]; exact hy)) l))

end Cert.KernelIdeal.Hand
-- ==== Proof.KernelIdealOuts.lean ====
/- The stores of one grid point to its output block, as one function of the rows and columns of the block. -/
module

public import proofs.«01_k».proof.Proof.KernelIdealUnitA
public import proofs.«01_k».proof.Proof.KernelIdealUnitB
public import Idealize.ShloMosaic.Lib.Pointwise

@[expose] public section

set_option maxRecDepth 16384
set_option maxHeartbeats 4000000

noncomputable section

namespace Cert.KernelIdeal.Hand

open Cert.KernelIdeal.Gen
open Idealize.ShloMosaic Idealize.ShloMosaic.TcCoe Idealize.ShloMosaic.Tactic

/-- The sums of the tile that a row of the output block belongs to. -/
def tileSum (V : FVec Ideal S8x128 .f32 × FVec Ideal S8x128 .f32 × FVec Ideal S8x128 .f32 × FVec Ideal S8x128 .f32 × FVec Ideal S128x512 .f32) (c : ℕ) (l : Fin 128) : EReal :=
  match c with
  | 0 => ∑ a : Fin 8, (V.1 (ix2 a l) : EReal)
  | 1 => ∑ a : Fin 8, (V.2.1 (ix2 a l) : EReal)
  | 2 => ∑ a : Fin 8, (V.2.2.1 (ix2 a l) : EReal)
  | _ => ∑ a : Fin 8, (V.2.2.2.1 (ix2 a l) : EReal)

/-- The lane of row `k` and column `cc` of the output block. -/
def laneO (k cc : ℕ) : Fin 128 := ⟨(16 * (cc / 128) + k % 16) % 128, Nat.mod_lt _ (by decide)⟩

/-- The column of the scores that row `k` and column `cc` of the output block come from. -/
def colO (k cc : ℕ) : Fin 512 := ⟨(128 * (k / 16 % 4) + 16 * (cc / 128) + k % 16) % 512, Nat.mod_lt _ (by decide)⟩

/-- The output block, from what the loops leave. -/
def outG (VA VB : FVec Ideal S8x128 .f32 × FVec Ideal S8x128 .f32 × FVec Ideal S8x128 .f32 × FVec Ideal S8x128 .f32 × FVec Ideal S128x512 .f32) (vs : S1x128x128.Idx → EReal) (k cc : ℕ) : EReal :=
  (if k < 64 then (VA.2.2.2.2 (ix2 ⟨cc % 128, Nat.mod_lt _ (by decide)⟩ (colO k cc)) : EReal) else (VB.2.2.2.2 (ix2 ⟨cc % 128, Nat.mod_lt _ (by decide)⟩ (colO k cc)) : EReal))
    * vs (ix3 0 ⟨cc % 128, Nat.mod_lt _ (by decide)⟩ (laneO k cc))
    * Ideal.div 1 (if k < 64 then tileSum VA (k / 16 % 4) (laneO k cc) else tileSum VB (k / 16 % 4) (laneO k cc))

section

variable (VA VB : FVec Ideal S8x128 .f32 × FVec Ideal S8x128 .f32 × FVec Ideal S8x128 .f32 × FVec Ideal S8x128 .f32 × FVec Ideal S128x512 .f32)

include VA VB

section

variable (vs : S1x128x128.Idx → EReal) {g k cc : ℕ} (r : Fin 16) (d : Fin 128)

include vs g k cc r d

theorem outG_0 (hk : k = 0 + r.1) (hp : cc = 128 * g + d.1) (hg : g < 8) (l : Fin 128) (cl : Fin 512) (hl : l.1 = 16 * g + r.1) (hc : cl.1 = 0 + l.1) :
    (VA.2.2.2.2 (ix2 d cl) : EReal) * vs (ix3 0 d l) * Ideal.div 1 (∑ a : Fin 8, (VA.1 (ix2 a l) : EReal)) = outG VA VB vs k cc := by
  have hr := r.2
  have hd := d.2
  have ed : (⟨cc % 128, Nat.mod_lt _ (by decide)⟩ : Fin 128) = d := Fin.ext (by show cc % 128 = d.1; omega)
  have el : laneO k cc = l := Fin.ext (by show (16 * (cc / 128) + k % 16) % 128 = l.1; omega)
  have ec : colO k cc = cl := Fin.ext (by show (128 * (k / 16 % 4) + 16 * (cc / 128) + k % 16) % 512 = cl.1; omega)
  have ek : k / 16 % 4 = 0 := by omega
  unfold outG
  rw [ed, el, ec, ek, if_pos (show k < 64 by omega), if_pos (show k < 64 by omega)]
  rfl

theorem outG_1 (hk : k = 16 + r.1) (hp : cc = 128 * g + d.1) (hg : g < 8) (l : Fin 128) (cl : Fin 512) (hl : l.1 = 16 * g + r.1) (hc : cl.1 = 128 + l.1) :
    (VA.2.2.2.2 (ix2 d cl) : EReal) * vs (ix3 0 d l) * Ideal.div 1 (∑ a : Fin 8, (VA.2.1 (ix2 a l) : EReal)) = outG VA VB vs k cc := by
  have hr := r.2
  have hd := d.2
  have ed : (⟨cc % 128, Nat.mod_lt _ (by decide)⟩ : Fin 128) = d := Fin.ext (by show cc % 128 = d.1; omega)
  have el : laneO k cc = l := Fin.ext (by show (16 * (cc / 128) + k % 16) % 128 = l.1; omega)
  have ec : colO k cc = cl := Fin.ext (by show (128 * (k / 16 % 4) + 16 * (cc / 128) + k % 16) % 512 = cl.1; omega)
  have ek : k / 16 % 4 = 1 := by omega
  unfold outG
  rw [ed, el, ec, ek, if_pos (show k < 64 by omega), if_pos (show k < 64 by omega)]
  rfl

theorem outG_2 (hk : k = 32 + r.1) (hp : cc = 128 * g + d.1) (hg : g < 8) (l : Fin 128) (cl : Fin 512) (hl : l.1 = 16 * g + r.1) (hc : cl.1 = 256 + l.1) :
    (VA.2.2.2.2 (ix2 d cl) : EReal) * vs (ix3 0 d l) * Ideal.div 1 (∑ a : Fin 8, (VA.2.2.1 (ix2 a l) : EReal)) = outG VA VB vs k cc := by
  have hr := r.2
  have hd := d.2
  have ed : (⟨cc % 128, Nat.mod_lt _ (by decide)⟩ : Fin 128) = d := Fin.ext (by show cc % 128 = d.1; omega)
  have el : laneO k cc = l := Fin.ext (by show (16 * (cc / 128) + k % 16) % 128 = l.1; omega)
  have ec : colO k cc = cl := Fin.ext (by show (128 * (k / 16 % 4) + 16 * (cc / 128) + k % 16) % 512 = cl.1; omega)
  have ek : k / 16 % 4 = 2 := by omega
  unfold outG
  rw [ed, el, ec, ek, if_pos (show k < 64 by omega), if_pos (show k < 64 by omega)]
  rfl

theorem outG_3 (hk : k = 48 + r.1) (hp : cc = 128 * g + d.1) (hg : g < 8) (l : Fin 128) (cl : Fin 512) (hl : l.1 = 16 * g + r.1) (hc : cl.1 = 384 + l.1) :
    (VA.2.2.2.2 (ix2 d cl) : EReal) * vs (ix3 0 d l) * Ideal.div 1 (∑ a : Fin 8, (VA.2.2.2.1 (ix2 a l) : EReal)) = outG VA VB vs k cc := by
  have hr := r.2
  have hd := d.2
  have ed : (⟨cc % 128, Nat.mod_lt _ (by decide)⟩ : Fin 128) = d := Fin.ext (by show cc % 128 = d.1; omega)
  have el : laneO k cc = l := Fin.ext (by show (16 * (cc / 128) + k % 16) % 128 = l.1; omega)
  have ec : colO k cc = cl := Fin.ext (by show (128 * (k / 16 % 4) + 16 * (cc / 128) + k % 16) % 512 = cl.1; omega)
  have ek : k / 16 % 4 = 3 := by omega
  unfold outG
  rw [ed, el, ec, ek, if_pos (show k < 64 by omega), if_pos (show k < 64 by omega)]
  rfl

theorem outG_4 (hk : k = 64 + r.1) (hp : cc = 128 * g + d.1) (hg : g < 8) (l : Fin 128) (cl : Fin 512) (hl : l.1 = 16 * g + r.1) (hc : cl.1 = 0 + l.1) :
    (VB.2.2.2.2 (ix2 d cl) : EReal) * vs (ix3 0 d l) * Ideal.div 1 (∑ a : Fin 8, (VB.1 (ix2 a l) : EReal)) = outG VA VB vs k cc := by
  have hr := r.2
  have hd := d.2
  have ed : (⟨cc % 128, Nat.mod_lt _ (by decide)⟩ : Fin 128) = d := Fin.ext (by show cc % 128 = d.1; omega)
  have el : laneO k cc = l := Fin.ext (by show (16 * (cc / 128) + k % 16) % 128 = l.1; omega)
  have ec : colO k cc = cl := Fin.ext (by show (128 * (k / 16 % 4) + 16 * (cc / 128) + k % 16) % 512 = cl.1; omega)
  have ek : k / 16 % 4 = 0 := by omega
  unfold outG
  rw [ed, el, ec, ek, if_neg (show ¬ k < 64 by omega), if_neg (show ¬ k < 64 by omega)]
  rfl

theorem outG_5 (hk : k = 80 + r.1) (hp : cc = 128 * g + d.1) (hg : g < 8) (l : Fin 128) (cl : Fin 512) (hl : l.1 = 16 * g + r.1) (hc : cl.1 = 128 + l.1) :
    (VB.2.2.2.2 (ix2 d cl) : EReal) * vs (ix3 0 d l) * Ideal.div 1 (∑ a : Fin 8, (VB.2.1 (ix2 a l) : EReal)) = outG VA VB vs k cc := by
  have hr := r.2
  have hd := d.2
  have ed : (⟨cc % 128, Nat.mod_lt _ (by decide)⟩ : Fin 128) = d := Fin.ext (by show cc % 128 = d.1; omega)
  have el : laneO k cc = l := Fin.ext (by show (16 * (cc / 128) + k % 16) % 128 = l.1; omega)
  have ec : colO k cc = cl := Fin.ext (by show (128 * (k / 16 % 4) + 16 * (cc / 128) + k % 16) % 512 = cl.1; omega)
  have ek : k / 16 % 4 = 1 := by omega
  unfold outG
  rw [ed, el, ec, ek, if_neg (show ¬ k < 64 by omega), if_neg (show ¬ k < 64 by omega)]
  rfl

theorem outG_6 (hk : k = 96 + r.1) (hp : cc = 128 * g + d.1) (hg : g < 8) (l : Fin 128) (cl : Fin 512) (hl : l.1 = 16 * g + r.1) (hc : cl.1 = 256 + l.1) :
    (VB.2.2.2.2 (ix2 d cl) : EReal) * vs (ix3 0 d l) * Ideal.div 1 (∑ a : Fin 8, (VB.2.2.1 (ix2 a l) : EReal)) = outG VA VB vs k cc := by
  have hr := r.2
  have hd := d.2
  have ed : (⟨cc % 128, Nat.mod_lt _ (by decide)⟩ : Fin 128) = d := Fin.ext (by show cc % 128 = d.1; omega)
  have el : laneO k cc = l := Fin.ext (by show (16 * (cc / 128) + k % 16) % 128 = l.1; omega)
  have ec : colO k cc = cl := Fin.ext (by show (128 * (k / 16 % 4) + 16 * (cc / 128) + k % 16) % 512 = cl.1; omega)
  have ek : k / 16 % 4 = 2 := by omega
  unfold outG
  rw [ed, el, ec, ek, if_neg (show ¬ k < 64 by omega), if_neg (show ¬ k < 64 by omega)]
  rfl

theorem outG_7 (hk : k = 112 + r.1) (hp : cc = 128 * g + d.1) (hg : g < 8) (l : Fin 128) (cl : Fin 512) (hl : l.1 = 16 * g + r.1) (hc : cl.1 = 384 + l.1) :
    (VB.2.2.2.2 (ix2 d cl) : EReal) * vs (ix3 0 d l) * Ideal.div 1 (∑ a : Fin 8, (VB.2.2.2.1 (ix2 a l) : EReal)) = outG VA VB vs k cc := by
  have hr := r.2
  have hd := d.2
  have ed : (⟨cc % 128, Nat.mod_lt _ (by decide)⟩ : Fin 128) = d := Fin.ext (by show cc % 128 = d.1; omega)
  have el : laneO k cc = l := Fin.ext (by show (16 * (cc / 128) + k % 16) % 128 = l.1; omega)
  have ec : colO k cc = cl := Fin.ext (by show (128 * (k / 16 % 4) + 16 * (cc / 128) + k % 16) % 512 = cl.1; omega)
  have ek : k / 16 % 4 = 3 := by omega
  unfold outG
  rw [ed, el, ec, ek, if_neg (show ¬ k < 64 by omega), if_neg (show ¬ k < 64 by omega)]
  rfl

end

section

variable (vs : Vec Ideal S1x128x128 .f32) (r : Fin 16) (d : Fin 128)

include vs r d

/-! `out_t_g`: the store of lane tile `t` (0 to 3 of the first 64 tokens, 4 to 7 of the other 64) and query head `g` writes what `outG` says. -/

theorem out_7_7 :
    ((k0_pay7 (F := Ideal) (k0_pay675 (F := Ideal) VB.2.2.2.1 VB.2.2.2.2 (k0_pay646 (F := Ideal) vs))) (ix2 r d) : EReal) = outG VA VB vs (112 + r.1) (896 + d.1) := by
  pointwise [k0_pay7, k0_pay675, k0_pay646]
  exact outG_7 VA VB vs (g := 7) r d (by omega) (by omega) (by decide) _ _ (by first | rfl | omega | (dsimp only; omega)) (by first | rfl | omega | (dsimp only; omega))

theorem out_7_6 :
    ((k0_pay6 (F := Ideal) (k0_pay675 (F := Ideal) VB.2.2.2.1 VB.2.2.2.2 (k0_pay646 (F := Ideal) vs))) (ix2 r d) : EReal) = outG VA VB vs (112 + r.1) (768 + d.1) := by
  pointwise [k0_pay6, k0_pay675, k0_pay646]
  exact outG_7 VA VB vs (g := 6) r d (by omega) (by omega) (by decide) _ _ (by first | rfl | omega | (dsimp only; omega)) (by first | rfl | omega | (dsimp only; omega))

theorem out_7_5 :
    ((k0_pay5 (F := Ideal) (k0_pay675 (F := Ideal) VB.2.2.2.1 VB.2.2.2.2 (k0_pay646 (F := Ideal) vs))) (ix2 r d) : EReal) = outG VA VB vs (112 + r.1) (640 + d.1) := by
  pointwise [k0_pay5, k0_pay675, k0_pay646]
  exact outG_7 VA VB vs (g := 5) r d (by omega) (by omega) (by decide) _ _ (by first | rfl | omega | (dsimp only; omega)) (by first | rfl | omega | (dsimp only; omega))

theorem out_7_4 :
    ((k0_pay4 (F := Ideal) (k0_pay675 (F := Ideal) VB.2.2.2.1 VB.2.2.2.2 (k0_pay646 (F := Ideal) vs))) (ix2 r d) : EReal) = outG VA VB vs (112 + r.1) (512 + d.1) := by
  pointwise [k0_pay675, k0_pay646, k0_pay4]
  exact outG_7 VA VB vs (g := 4) r d (by omega) (by omega) (by decide) _ _ (by first | rfl | omega | (dsimp only; omega)) (by first | rfl | omega | (dsimp only; omega))

theorem out_7_3 :
    ((k0_pay3 (F := Ideal) (k0_pay675 (F := Ideal) VB.2.2.2.1 VB.2.2.2.2 (k0_pay646 (F := Ideal) vs))) (ix2 r d) : EReal) = outG VA VB vs (112 + r.1) (384 + d.1) := by
  pointwise [k0_pay675, k0_pay646, k0_pay3]
  exact outG_7 VA VB vs (g := 3) r d (by omega) (by omega) (by decide) _ _ (by first | rfl | omega | (dsimp only; omega)) (by first | rfl | omega | (dsimp only; omega))

theorem out_7_2 :
    ((k0_pay2 (F := Ideal) (k0_pay675 (F := Ideal) VB.2.2.2.1 VB.2.2.2.2 (k0_pay646 (F := Ideal) vs))) (ix2 r d) : EReal) = outG VA VB vs (112 + r.1) (256 + d.1) := by
  pointwise [k0_pay2, k0_pay675, k0_pay646]
  exact outG_7 VA VB vs (g := 2) r d (by omega) (by omega) (by decide) _ _ (by first | rfl | omega | (dsimp only; omega)) (by first | rfl | omega | (dsimp only; omega))

theorem out_7_1 :
    ((k0_pay1 (F := Ideal) (k0_pay675 (F := Ideal) VB.2.2.2.1 VB.2.2.2.2 (k0_pay646 (F := Ideal) vs))) (ix2 r d) : EReal) = outG VA VB vs (112 + r.1) (128 + d.1) := by
  pointwise [k0_pay1, k0_pay675, k0_pay646]
  exact outG_7 VA VB vs (g := 1) r d (by omega) (by omega) (by decide) _ _ (by first | rfl | omega | (dsimp only; omega)) (by first | rfl | omega | (dsimp only; omega))

theorem out_7_0 :
    ((k0_pay676 (F := Ideal) VB.2.2.2.1 VB.2.2.2.2 (k0_pay646 (F := Ideal) vs)) (ix2 r d) : EReal) = outG VA VB vs (112 + r.1) (0 + d.1) := by
  pointwise [k0_pay676, k0_pay675, k0_pay646]
  exact outG_7 VA VB vs (g := 0) r d (by omega) (by omega) (by decide) _ _ (by first | rfl | omega | (dsimp only; omega)) (by first | rfl | omega | (dsimp only; omega))

theorem out_6_7 :
    ((k0_pay674 (F := Ideal) VB.2.2.2.2 (k0_pay646 (F := Ideal) vs) (k0_pay665 (F := Ideal) VB.2.2.1)) (ix2 r d) : EReal) = outG VA VB vs (96 + r.1) (896 + d.1) := by
  pointwise [k0_pay665, k0_pay666, k0_pay674, k0_pay646]
  exact outG_6 VA VB vs (g := 7) r d (by omega) (by omega) (by decide) _ _ (by first | rfl | omega | (dsimp only; omega)) (by first | rfl | omega | (dsimp only; omega))

theorem out_6_6 :
    ((k0_pay673 (F := Ideal) VB.2.2.2.2 (k0_pay646 (F := Ideal) vs) (k0_pay665 (F := Ideal) VB.2.2.1)) (ix2 r d) : EReal) = outG VA VB vs (96 + r.1) (768 + d.1) := by
  pointwise [k0_pay665, k0_pay673, k0_pay666, k0_pay646]
  exact outG_6 VA VB vs (g := 6) r d (by omega) (by omega) (by decide) _ _ (by first | rfl | omega | (dsimp only; omega)) (by first | rfl | omega | (dsimp only; omega))

theorem out_6_5 :
    ((k0_pay672 (F := Ideal) VB.2.2.2.2 (k0_pay646 (F := Ideal) vs) (k0_pay665 (F := Ideal) VB.2.2.1)) (ix2 r d) : EReal) = outG VA VB vs (96 + r.1) (640 + d.1) := by
  pointwise [k0_pay665, k0_pay666, k0_pay672, k0_pay646]
  exact outG_6 VA VB vs (g := 5) r d (by omega) (by omega) (by decide) _ _ (by first | rfl | omega | (dsimp only; omega)) (by first | rfl | omega | (dsimp only; omega))

theorem out_6_4 :
    ((k0_pay671 (F := Ideal) VB.2.2.2.2 (k0_pay646 (F := Ideal) vs) (k0_pay665 (F := Ideal) VB.2.2.1)) (ix2 r d) : EReal) = outG VA VB vs (96 + r.1) (512 + d.1) := by
  pointwise [k0_pay665, k0_pay666, k0_pay671, k0_pay646]
  exact outG_6 VA VB vs (g := 4) r d (by omega) (by omega) (by decide) _ _ (by first | rfl | omega | (dsimp only; omega)) (by first | rfl | omega | (dsimp only; omega))

theorem out_6_3 :
    ((k0_pay670 (F := Ideal) VB.2.2.2.2 (k0_pay646 (F := Ideal) vs) (k0_pay665 (F := Ideal) VB.2.2.1)) (ix2 r d) : EReal) = outG VA VB vs (96 + r.1) (384 + d.1) := by
  pointwise [k0_pay665, k0_pay666, k0_pay670, k0_pay646]
  exact outG_6 VA VB vs (g := 3) r d (by omega) (by omega) (by decide) _ _ (by first | rfl | omega | (dsimp only; omega)) (by first | rfl | omega | (dsimp only; omega))

theorem out_6_2 :
    ((k0_pay669 (F := Ideal) VB.2.2.2.2 (k0_pay646 (F := Ideal) vs) (k0_pay665 (F := Ideal) VB.2.2.1)) (ix2 r d) : EReal) = outG VA VB vs (96 + r.1) (256 + d.1) := by
  pointwise [k0_pay665, k0_pay666, k0_pay669, k0_pay646]
  exact outG_6 VA VB vs (g := 2) r d (by omega) (by omega) (by decide) _ _ (by first | rfl | omega | (dsimp only; omega)) (by first | rfl | omega | (dsimp only; omega))

theorem out_6_1 :
    ((k0_pay668 (F := Ideal) VB.2.2.2.2 (k0_pay646 (F := Ideal) vs) (k0_pay665 (F := Ideal) VB.2.2.1)) (ix2 r d) : EReal) = outG VA VB vs (96 + r.1) (128 + d.1) := by
  pointwise [k0_pay665, k0_pay666, k0_pay668, k0_pay646]
  exact outG_6 VA VB vs (g := 1) r d (by omega) (by omega) (by decide) _ _ (by first | rfl | omega | (dsimp only; omega)) (by first | rfl | omega | (dsimp only; omega))

theorem out_6_0 :
    ((k0_pay667 (F := Ideal) VB.2.2.2.2 (k0_pay646 (F := Ideal) vs) (k0_pay665 (F := Ideal) VB.2.2.1)) (ix2 r d) : EReal) = outG VA VB vs (96 + r.1) (0 + d.1) := by
  pointwise [k0_pay665, k0_pay666, k0_pay667, k0_pay646]
  exact outG_6 VA VB vs (g := 0) r d (by omega) (by omega) (by decide) _ _ (by first | rfl | omega | (dsimp only; omega)) (by first | rfl | omega | (dsimp only; omega))

theorem out_5_7 :
    ((k0_pay664 (F := Ideal) VB.2.1 VB.2.2.2.2 (k0_pay646 (F := Ideal) vs)) (ix2 r d) : EReal) = outG VA VB vs (80 + r.1) (896 + d.1) := by
  pointwise [k0_pay664, k0_pay656, k0_pay646]
  exact outG_5 VA VB vs (g := 7) r d (by omega) (by omega) (by decide) _ _ (by first | rfl | omega | (dsimp only; omega)) (by first | rfl | omega | (dsimp only; omega))

theorem out_5_6 :
    ((k0_pay663 (F := Ideal) VB.2.1 VB.2.2.2.2 (k0_pay646 (F := Ideal) vs)) (ix2 r d) : EReal) = outG VA VB vs (80 + r.1) (768 + d.1) := by
  pointwise [k0_pay656, k0_pay663, k0_pay646]
  exact outG_5 VA VB vs (g := 6) r d (by omega) (by omega) (by decide) _ _ (by first | rfl | omega | (dsimp only; omega)) (by first | rfl | omega | (dsimp only; omega))

theorem out_5_5 :
    ((k0_pay662 (F := Ideal) VB.2.1 VB.2.2.2.2 (k0_pay646 (F := Ideal) vs)) (ix2 r d) : EReal) = outG VA VB vs (80 + r.1) (640 + d.1) := by
  pointwise [k0_pay656, k0_pay646, k0_pay662]
  exact outG_5 VA VB vs (g := 5) r d (by omega) (by omega) (by decide) _ _ (by first | rfl | omega | (dsimp only; omega)) (by first | rfl | omega | (dsimp only; omega))

theorem out_5_4 :
    ((k0_pay661 (F := Ideal) VB.2.1 VB.2.2.2.2 (k0_pay646 (F := Ideal) vs)) (ix2 r d) : EReal) = outG VA VB vs (80 + r.1) (512 + d.1) := by
  pointwise [k0_pay661, k0_pay656, k0_pay646]
  exact outG_5 VA VB vs (g := 4) r d (by omega) (by omega) (by decide) _ _ (by first | rfl | omega | (dsimp only; omega)) (by first | rfl | omega | (dsimp only; omega))

theorem out_5_3 :
    ((k0_pay660 (F := Ideal) VB.2.1 VB.2.2.2.2 (k0_pay646 (F := Ideal) vs)) (ix2 r d) : EReal) = outG VA VB vs (80 + r.1) (384 + d.1) := by
  pointwise [k0_pay656, k0_pay660, k0_pay646]
  exact outG_5 VA VB vs (g := 3) r d (by omega) (by omega) (by decide) _ _ (by first | rfl | omega | (dsimp only; omega)) (by first | rfl | omega | (dsimp only; omega))

theorem out_5_2 :
    ((k0_pay659 (F := Ideal) VB.2.1 VB.2.2.2.2 (k0_pay646 (F := Ideal) vs)) (ix2 r d) : EReal) = outG VA VB vs (80 + r.1) (256 + d.1) := by
  pointwise [k0_pay656, k0_pay659, k0_pay646]
  exact outG_5 VA VB vs (g := 2) r d (by omega) (by omega) (by decide) _ _ (by first | rfl | omega | (dsimp only; omega)) (by first | rfl | omega | (dsimp only; omega))

theorem out_5_1 :
    ((k0_pay658 (F := Ideal) VB.2.1 VB.2.2.2.2 (k0_pay646 (F := Ideal) vs)) (ix2 r d) : EReal) = outG VA VB vs (80 + r.1) (128 + d.1) := by
  pointwise [k0_pay658, k0_pay656, k0_pay646]
  exact outG_5 VA VB vs (g := 1) r d (by omega) (by omega) (by decide) _ _ (by first | rfl | omega | (dsimp only; omega)) (by first | rfl | omega | (dsimp only; omega))

theorem out_5_0 :
    ((k0_pay657 (F := Ideal) VB.2.1 VB.2.2.2.2 (k0_pay646 (F := Ideal) vs)) (ix2 r d) : EReal) = outG VA VB vs (80 + r.1) (0 + d.1) := by
  pointwise [k0_pay657, k0_pay656, k0_pay646]
  exact outG_5 VA VB vs (g := 0) r d (by omega) (by omega) (by decide) _ _ (by first | rfl | omega | (dsimp only; omega)) (by first | rfl | omega | (dsimp only; omega))

theorem out_4_7 :
    ((k0_pay655 (F := Ideal) VB.1 VB.2.2.2.2 vs) (ix2 r d) : EReal) = outG VA VB vs (64 + r.1) (896 + d.1) := by
  pointwise [k0_pay647, k0_pay655, k0_pay646]
  exact outG_4 VA VB vs (g := 7) r d (by omega) (by omega) (by decide) _ _ (by first | rfl | omega | (dsimp only; omega)) (by first | rfl | omega | (dsimp only; omega))

theorem out_4_6 :
    ((k0_pay654 (F := Ideal) VB.1 VB.2.2.2.2 vs) (ix2 r d) : EReal) = outG VA VB vs (64 + r.1) (768 + d.1) := by
  pointwise [k0_pay647, k0_pay654, k0_pay646]
  exact outG_4 VA VB vs (g := 6) r d (by omega) (by omega) (by decide) _ _ (by first | rfl | omega | (dsimp only; omega)) (by first | rfl | omega | (dsimp only; omega))

theorem out_4_5 :
    ((k0_pay653 (F := Ideal) VB.1 VB.2.2.2.2 vs) (ix2 r d) : EReal) = outG VA VB vs (64 + r.1) (640 + d.1) := by
  pointwise [k0_pay647, k0_pay653, k0_pay646]
  exact outG_4 VA VB vs (g := 5) r d (by omega) (by omega) (by decide) _ _ (by first | rfl | omega | (dsimp only; omega)) (by first | rfl | omega | (dsimp only; omega))

theorem out_4_4 :
    ((k0_pay652 (F := Ideal) VB.1 VB.2.2.2.2 vs) (ix2 r d) : EReal) = outG VA VB vs (64 + r.1) (512 + d.1) := by
  pointwise [k0_pay647, k0_pay652, k0_pay646]
  exact outG_4 VA VB vs (g := 4) r d (by omega) (by omega) (by decide) _ _ (by first | rfl | omega | (dsimp only; omega)) (by first | rfl | omega | (dsimp only; omega))

theorem out_4_3 :
    ((k0_pay651 (F := Ideal) VB.1 VB.2.2.2.2 vs) (ix2 r d) : EReal) = outG VA VB vs (64 + r.1) (384 + d.1) := by
  pointwise [k0_pay647, k0_pay651, k0_pay646]
  exact outG_4 VA VB vs (g := 3) r d (by omega) (by omega) (by decide) _ _ (by first | rfl | omega | (dsimp only; omega)) (by first | rfl | omega | (dsimp only; omega))

theorem out_4_2 :
    ((k0_pay650 (F := Ideal) VB.1 VB.2.2.2.2 vs) (ix2 r d) : EReal) = outG VA VB vs (64 + r.1) (256 + d.1) := by
  pointwise [k0_pay647, k0_pay646, k0_pay650]
  exact outG_4 VA VB vs (g := 2) r d (by omega) (by omega) (by decide) _ _ (by first | rfl | omega | (dsimp only; omega)) (by first | rfl | omega | (dsimp only; omega))

theorem out_4_1 :
    ((k0_pay649 (F := Ideal) VB.1 VB.2.2.2.2 vs) (ix2 r d) : EReal) = outG VA VB vs (64 + r.1) (128 + d.1) := by
  pointwise [k0_pay647, k0_pay649, k0_pay646]
  exact outG_4 VA VB vs (g := 1) r d (by omega) (by omega) (by decide) _ _ (by first | rfl | omega | (dsimp only; omega)) (by first | rfl | omega | (dsimp only; omega))

theorem out_4_0 :
    ((k0_pay648 (F := Ideal) VB.1 VB.2.2.2.2 vs) (ix2 r d) : EReal) = outG VA VB vs (64 + r.1) (0 + d.1) := by
  pointwise [k0_pay647, k0_pay648, k0_pay646]
  exact outG_4 VA VB vs (g := 0) r d (by omega) (by omega) (by decide) _ _ (by first | rfl | omega | (dsimp only; omega)) (by first | rfl | omega | (dsimp only; omega))

theorem out_3_7 :
    ((k0_pay613 (F := Ideal) VA.2.2.2.1 VA.2.2.2.2 (k0_pay577 (F := Ideal) vs)) (ix2 r d) : EReal) = outG VA VB vs (48 + r.1) (896 + d.1) := by
  pointwise [k0_pay577, k0_pay605, k0_pay613]
  exact outG_3 VA VB vs (g := 7) r d (by omega) (by omega) (by decide) _ _ (by first | rfl | omega | (dsimp only; omega)) (by first | rfl | omega | (dsimp only; omega))

theorem out_3_6 :
    ((k0_pay612 (F := Ideal) VA.2.2.2.1 VA.2.2.2.2 (k0_pay577 (F := Ideal) vs)) (ix2 r d) : EReal) = outG VA VB vs (48 + r.1) (768 + d.1) := by
  pointwise [k0_pay577, k0_pay605, k0_pay612]
  exact outG_3 VA VB vs (g := 6) r d (by omega) (by omega) (by decide) _ _ (by first | rfl | omega | (dsimp only; omega)) (by first | rfl | omega | (dsimp only; omega))

theorem out_3_5 :
    ((k0_pay611 (F := Ideal) VA.2.2.2.1 VA.2.2.2.2 (k0_pay577 (F := Ideal) vs)) (ix2 r d) : EReal) = outG VA VB vs (48 + r.1) (640 + d.1) := by
  pointwise [k0_pay577, k0_pay605, k0_pay611]
  exact outG_3 VA VB vs (g := 5) r d (by omega) (by omega) (by decide) _ _ (by first | rfl | omega | (dsimp only; omega)) (by first | rfl | omega | (dsimp only; omega))

theorem out_3_4 :
    ((k0_pay610 (F := Ideal) VA.2.2.2.1 VA.2.2.2.2 (k0_pay577 (F := Ideal) vs)) (ix2 r d) : EReal) = outG VA VB vs (48 + r.1) (512 + d.1) := by
  pointwise [k0_pay577, k0_pay605, k0_pay610]
  exact outG_3 VA VB vs (g := 4) r d (by omega) (by omega) (by decide) _ _ (by first | rfl | omega | (dsimp only; omega)) (by first | rfl | omega | (dsimp only; omega))

theorem out_3_3 :
    ((k0_pay609 (F := Ideal) VA.2.2.2.1 VA.2.2.2.2 (k0_pay577 (F := Ideal) vs)) (ix2 r d) : EReal) = outG VA VB vs (48 + r.1) (384 + d.1) := by
  pointwise [k0_pay577, k0_pay605, k0_pay609]
  exact outG_3 VA VB vs (g := 3) r d (by omega) (by omega) (by decide) _ _ (by first | rfl | omega | (dsimp only; omega)) (by first | rfl | omega | (dsimp only; omega))

theorem out_3_2 :
    ((k0_pay608 (F := Ideal) VA.2.2.2.1 VA.2.2.2.2 (k0_pay577 (F := Ideal) vs)) (ix2 r d) : EReal) = outG VA VB vs (48 + r.1) (256 + d.1) := by
  pointwise [k0_pay577, k0_pay605, k0_pay608]
  exact outG_3 VA VB vs (g := 2) r d (by omega) (by omega) (by decide) _ _ (by first | rfl | omega | (dsimp only; omega)) (by first | rfl | omega | (dsimp only; omega))

theorem out_3_1 :
    ((k0_pay607 (F := Ideal) VA.2.2.2.1 VA.2.2.2.2 (k0_pay577 (F := Ideal) vs)) (ix2 r d) : EReal) = outG VA VB vs (48 + r.1) (128 + d.1) := by
  pointwise [k0_pay577, k0_pay605, k0_pay607]
  exact outG_3 VA VB vs (g := 1) r d (by omega) (by omega) (by decide) _ _ (by first | rfl | omega | (dsimp only; omega)) (by first | rfl | omega | (dsimp only; omega))

theorem out_3_0 :
    ((k0_pay606 (F := Ideal) VA.2.2.2.1 VA.2.2.2.2 (k0_pay577 (F := Ideal) vs)) (ix2 r d) : EReal) = outG VA VB vs (48 + r.1) (0 + d.1) := by
  pointwise [k0_pay606, k0_pay577, k0_pay605]
  exact outG_3 VA VB vs (g := 0) r d (by omega) (by omega) (by decide) _ _ (by first | rfl | omega | (dsimp only; omega)) (by first | rfl | omega | (dsimp only; omega))

theorem out_2_7 :
    ((k0_pay604 (F := Ideal) (k0_pay596 (F := Ideal) VA.2.2.1 VA.2.2.2.2 (k0_pay577 (F := Ideal) vs))) (ix2 r d) : EReal) = outG VA VB vs (32 + r.1) (896 + d.1) := by
  pointwise [k0_pay596, k0_pay577, k0_pay604]
  exact outG_2 VA VB vs (g := 7) r d (by omega) (by omega) (by decide) _ _ (by first | rfl | omega | (dsimp only; omega)) (by first | rfl | omega | (dsimp only; omega))

theorem out_2_6 :
    ((k0_pay603 (F := Ideal) VA.2.2.1 VA.2.2.2.2 (k0_pay577 (F := Ideal) vs)) (ix2 r d) : EReal) = outG VA VB vs (32 + r.1) (768 + d.1) := by
  pointwise [k0_pay596, k0_pay577, k0_pay603]
  exact outG_2 VA VB vs (g := 6) r d (by omega) (by omega) (by decide) _ _ (by first | rfl | omega | (dsimp only; omega)) (by first | rfl | omega | (dsimp only; omega))

theorem out_2_5 :
    ((k0_pay602 (F := Ideal) VA.2.2.1 VA.2.2.2.2 (k0_pay577 (F := Ideal) vs)) (ix2 r d) : EReal) = outG VA VB vs (32 + r.1) (640 + d.1) := by
  pointwise [k0_pay596, k0_pay577, k0_pay602]
  exact outG_2 VA VB vs (g := 5) r d (by omega) (by omega) (by decide) _ _ (by first | rfl | omega | (dsimp only; omega)) (by first | rfl | omega | (dsimp only; omega))

theorem out_2_4 :
    ((k0_pay601 (F := Ideal) VA.2.2.1 VA.2.2.2.2 (k0_pay577 (F := Ideal) vs)) (ix2 r d) : EReal) = outG VA VB vs (32 + r.1) (512 + d.1) := by
  pointwise [k0_pay596, k0_pay577, k0_pay601]
  exact outG_2 VA VB vs (g := 4) r d (by omega) (by omega) (by decide) _ _ (by first | rfl | omega | (dsimp only; omega)) (by first | rfl | omega | (dsimp only; omega))

theorem out_2_3 :
    ((k0_pay600 (F := Ideal) VA.2.2.1 VA.2.2.2.2 (k0_pay577 (F := Ideal) vs)) (ix2 r d) : EReal) = outG VA VB vs (32 + r.1) (384 + d.1) := by
  pointwise [k0_pay596, k0_pay577, k0_pay600]
  exact outG_2 VA VB vs (g := 3) r d (by omega) (by omega) (by decide) _ _ (by first | rfl | omega | (dsimp only; omega)) (by first | rfl | omega | (dsimp only; omega))

theorem out_2_2 :
    ((k0_pay599 (F := Ideal) VA.2.2.1 VA.2.2.2.2 (k0_pay577 (F := Ideal) vs)) (ix2 r d) : EReal) = outG VA VB vs (32 + r.1) (256 + d.1) := by
  pointwise [k0_pay596, k0_pay577, k0_pay599]
  exact outG_2 VA VB vs (g := 2) r d (by omega) (by omega) (by decide) _ _ (by first | rfl | omega | (dsimp only; omega)) (by first | rfl | omega | (dsimp only; omega))

theorem out_2_1 :
    ((k0_pay598 (F := Ideal) VA.2.2.1 VA.2.2.2.2 (k0_pay577 (F := Ideal) vs)) (ix2 r d) : EReal) = outG VA VB vs (32 + r.1) (128 + d.1) := by
  pointwise [k0_pay596, k0_pay577, k0_pay598]
  exact outG_2 VA VB vs (g := 1) r d (by omega) (by omega) (by decide) _ _ (by first | rfl | omega | (dsimp only; omega)) (by first | rfl | omega | (dsimp only; omega))

theorem out_2_0 :
    ((k0_pay597 (F := Ideal) VA.2.2.1 VA.2.2.2.2 (k0_pay577 (F := Ideal) vs)) (ix2 r d) : EReal) = outG VA VB vs (32 + r.1) (0 + d.1) := by
  pointwise [k0_pay596, k0_pay577, k0_pay597]
  exact outG_2 VA VB vs (g := 0) r d (by omega) (by omega) (by decide) _ _ (by first | rfl | omega | (dsimp only; omega)) (by first | rfl | omega | (dsimp only; omega))

theorem out_1_7 :
    ((k0_pay595 (F := Ideal) (k0_pay587 (F := Ideal) VA.2.1 VA.2.2.2.2 (k0_pay577 (F := Ideal) vs))) (ix2 r d) : EReal) = outG VA VB vs (16 + r.1) (896 + d.1) := by
  pointwise [k0_pay595, k0_pay577, k0_pay587]
  exact outG_1 VA VB vs (g := 7) r d (by omega) (by omega) (by decide) _ _ (by first | rfl | omega | (dsimp only; omega)) (by first | rfl | omega | (dsimp only; omega))

theorem out_1_6 :
    ((k0_pay594 (F := Ideal) (k0_pay587 (F := Ideal) VA.2.1 VA.2.2.2.2 (k0_pay577 (F := Ideal) vs))) (ix2 r d) : EReal) = outG VA VB vs (16 + r.1) (768 + d.1) := by
  pointwise [k0_pay577, k0_pay587, k0_pay594]
  exact outG_1 VA VB vs (g := 6) r d (by omega) (by omega) (by decide) _ _ (by first | rfl | omega | (dsimp only; omega)) (by first | rfl | omega | (dsimp only; omega))

theorem out_1_5 :
    ((k0_pay593 (F := Ideal) (k0_pay587 (F := Ideal) VA.2.1 VA.2.2.2.2 (k0_pay577 (F := Ideal) vs))) (ix2 r d) : EReal) = outG VA VB vs (16 + r.1) (640 + d.1) := by
  pointwise [k0_pay577, k0_pay587, k0_pay593]
  exact outG_1 VA VB vs (g := 5) r d (by omega) (by omega) (by decide) _ _ (by first | rfl | omega | (dsimp only; omega)) (by first | rfl | omega | (dsimp only; omega))

theorem out_1_4 :
    ((k0_pay592 (F := Ideal) VA.2.1 VA.2.2.2.2 (k0_pay577 (F := Ideal) vs)) (ix2 r d) : EReal) = outG VA VB vs (16 + r.1) (512 + d.1) := by
  pointwise [k0_pay577, k0_pay592, k0_pay587]
  exact outG_1 VA VB vs (g := 4) r d (by omega) (by omega) (by decide) _ _ (by first | rfl | omega | (dsimp only; omega)) (by first | rfl | omega | (dsimp only; omega))

theorem out_1_3 :
    ((k0_pay591 (F := Ideal) VA.2.1 VA.2.2.2.2 (k0_pay577 (F := Ideal) vs)) (ix2 r d) : EReal) = outG VA VB vs (16 + r.1) (384 + d.1) := by
  pointwise [k0_pay591, k0_pay577, k0_pay587]
  exact outG_1 VA VB vs (g := 3) r d (by omega) (by omega) (by decide) _ _ (by first | rfl | omega | (dsimp only; omega)) (by first | rfl | omega | (dsimp only; omega))

theorem out_1_2 :
    ((k0_pay590 (F := Ideal) VA.2.1 VA.2.2.2.2 (k0_pay577 (F := Ideal) vs)) (ix2 r d) : EReal) = outG VA VB vs (16 + r.1) (256 + d.1) := by
  pointwise [k0_pay590, k0_pay577, k0_pay587]
  exact outG_1 VA VB vs (g := 2) r d (by omega) (by omega) (by decide) _ _ (by first | rfl | omega | (dsimp only; omega)) (by first | rfl | omega | (dsimp only; omega))

theorem out_1_1 :
    ((k0_pay589 (F := Ideal) VA.2.1 VA.2.2.2.2 (k0_pay577 (F := Ideal) vs)) (ix2 r d) : EReal) = outG VA VB vs (16 + r.1) (128 + d.1) := by
  pointwise [k0_pay589, k0_pay577, k0_pay587]
  exact outG_1 VA VB vs (g := 1) r d (by omega) (by omega) (by decide) _ _ (by first | rfl | omega | (dsimp only; omega)) (by first | rfl | omega | (dsimp only; omega))

theorem out_1_0 :
    ((k0_pay588 (F := Ideal) VA.2.1 VA.2.2.2.2 (k0_pay577 (F := Ideal) vs)) (ix2 r d) : EReal) = outG VA VB vs (16 + r.1) (0 + d.1) := by
  pointwise [k0_pay577, k0_pay587, k0_pay588]
  exact outG_1 VA VB vs (g := 0) r d (by omega) (by omega) (by decide) _ _ (by first | rfl | omega | (dsimp only; omega)) (by first | rfl | omega | (dsimp only; omega))

theorem out_0_7 :
    ((k0_pay586 (F := Ideal) (k0_pay578 (F := Ideal) VA.1 VA.2.2.2.2 vs)) (ix2 r d) : EReal) = outG VA VB vs (0 + r.1) (896 + d.1) := by
  pointwise [k0_pay578, k0_pay577, k0_pay586]
  exact outG_0 VA VB vs (g := 7) r d (by omega) (by omega) (by decide) _ _ (by first | rfl | omega | (dsimp only; omega)) (by first | rfl | omega | (dsimp only; omega))

theorem out_0_6 :
    ((k0_pay585 (F := Ideal) (k0_pay578 (F := Ideal) VA.1 VA.2.2.2.2 vs)) (ix2 r d) : EReal) = outG VA VB vs (0 + r.1) (768 + d.1) := by
  pointwise [k0_pay578, k0_pay577, k0_pay585]
  exact outG_0 VA VB vs (g := 6) r d (by omega) (by omega) (by decide) _ _ (by first | rfl | omega | (dsimp only; omega)) (by first | rfl | omega | (dsimp only; omega))

theorem out_0_5 :
    ((k0_pay584 (F := Ideal) (k0_pay578 (F := Ideal) VA.1 VA.2.2.2.2 vs)) (ix2 r d) : EReal) = outG VA VB vs (0 + r.1) (640 + d.1) := by
  pointwise [k0_pay578, k0_pay577, k0_pay584]
  exact outG_0 VA VB vs (g := 5) r d (by omega) (by omega) (by decide) _ _ (by first | rfl | omega | (dsimp only; omega)) (by first | rfl | omega | (dsimp only; omega))

theorem out_0_4 :
    ((k0_pay583 (F := Ideal) (k0_pay578 (F := Ideal) VA.1 VA.2.2.2.2 vs)) (ix2 r d) : EReal) = outG VA VB vs (0 + r.1) (512 + d.1) := by
  pointwise [k0_pay578, k0_pay577, k0_pay583]
  exact outG_0 VA VB vs (g := 4) r d (by omega) (by omega) (by decide) _ _ (by first | rfl | omega | (dsimp only; omega)) (by first | rfl | omega | (dsimp only; omega))

theorem out_0_3 :
    ((k0_pay582 (F := Ideal) VA.1 VA.2.2.2.2 vs) (ix2 r d) : EReal) = outG VA VB vs (0 + r.1) (384 + d.1) := by
  pointwise [k0_pay578, k0_pay577, k0_pay582]
  exact outG_0 VA VB vs (g := 3) r d (by omega) (by omega) (by decide) _ _ (by first | rfl | omega | (dsimp only; omega)) (by first | rfl | omega | (dsimp only; omega))

theorem out_0_2 :
    ((k0_pay581 (F := Ideal) VA.1 VA.2.2.2.2 vs) (ix2 r d) : EReal) = outG VA VB vs (0 + r.1) (256 + d.1) := by
  pointwise [k0_pay578, k0_pay577, k0_pay581]
  exact outG_0 VA VB vs (g := 2) r d (by omega) (by omega) (by decide) _ _ (by first | rfl | omega | (dsimp only; omega)) (by first | rfl | omega | (dsimp only; omega))

theorem out_0_1 :
    ((k0_pay580 (F := Ideal) VA.1 VA.2.2.2.2 vs) (ix2 r d) : EReal) = outG VA VB vs (0 + r.1) (128 + d.1) := by
  pointwise [k0_pay580, k0_pay578, k0_pay577]
  exact outG_0 VA VB vs (g := 1) r d (by omega) (by omega) (by decide) _ _ (by first | rfl | omega | (dsimp only; omega)) (by first | rfl | omega | (dsimp only; omega))

theorem out_0_0 :
    ((k0_pay579 (F := Ideal) VA.1 VA.2.2.2.2 vs) (ix2 r d) : EReal) = outG VA VB vs (0 + r.1) (0 + d.1) := by
  pointwise [k0_pay578, k0_pay579, k0_pay577]
  exact outG_0 VA VB vs (g := 0) r d (by omega) (by omega) (by decide) _ _ (by first | rfl | omega | (dsimp only; omega)) (by first | rfl | omega | (dsimp only; omega))

end

end

/-- A store to the output block writes what `outG` says, once its values are those of `outG` at its place. -/
theorem pieceO {VA VB : FVec Ideal S8x128 .f32 × FVec Ideal S8x128 .f32 × FVec Ideal S8x128 .f32 × FVec Ideal S8x128 .f32 × FVec Ideal S128x512 .f32} {vs : Vec Ideal S1x128x128 .f32} {o p : ℕ} {off : Fin 2 → ℕ} {inb} {f : (⟨2, ![16, 128]⟩ : Shape).Idx → Elt Ideal .bf16}
    {P : View.Piece (Elt Ideal) ⟨2, ![128, 1024]⟩ .bf16} (hP : P = ⟨Rect.unit off ![16, 128] inb, f⟩) (ho : off = ![o, p])
    (h : ∀ (r : Fin 16) (d : Fin 128), (f (ix2 r d) : EReal) = outG VA VB vs (o + r.1) (p + d.1)) (x : P.1.shape.Idx) :
    P.2 x = outG VA VB vs (P.1.emb x 0).1 (P.1.emb x 1).1 :=
  piece2 (g := outG VA VB vs) hP ho h x

/-- Every store of a grid point to its output block stores that block's values. -/
theorem out_pieces  (c : Dev nD) (i : grid0.Coords) (arg3 : Memref sig .tc .smem S1x1x256 .f32) (harg3 : arg3.IsWhole) (arg4 : Memref sig .tc .vmem S1x1x1024x128 .fp8e4m3) (harg4 : arg4.IsWhole) (arg5 : Memref sig .tc .vmem S1x1x1x128 .f32) (harg5 : arg5.IsWhole) (arg6 : Memref sig .tc .vmem S1x1x8x128 .bf16) (harg6 : arg6.IsWhole) (arg7 : Memref sig .tc .vmem S1x8x128 .i32) (harg7 : arg7.IsWhole) (arg8 : Memref sig .tc .vmem S16384x128 .fp8e4m3) (harg8 : arg8.IsWhole) (arg9 : Memref sig .tc .vmem S1x128x16384 .fp8e4m3) (harg9 : arg9.IsWhole) (arg10 : Memref sig .tc .vmem S1x128x128 .f32) (harg10 : arg10.IsWhole) (arg11 : Memref sig .tc .vmem S128x1024 .bf16) (harg11 : arg11.IsWhole) (arg12 : Memref sig .tc .vmem S16384x512 .f32) (harg12 : arg12.IsWhole) (arg13 : Memref sig .tc .vmem S16384x128 .f32) (harg13 : arg13.IsWhole)
    (x0 : Vec Ideal S1x1x256 .f32) (x1 : Vec Ideal S1x1x1024x128 .fp8e4m3) (x2 : Vec Ideal S1x1x1x128 .f32) (x3 : Vec Ideal S1x1x8x128 .bf16) (x4 : Vec Ideal S1x8x128 .i32) (x5 : Vec Ideal S16384x128 .fp8e4m3) (x6 : Vec Ideal S1x128x16384 .fp8e4m3) (x7 : Vec Ideal S1x128x128 .f32) (xt0 : TbBuf0 (F := Ideal) c tbM0_0) (k0_hw1 : k0_chk1 i (tbM0_0.view.readAt (Elt Ideal) (Rect.unit (s := S256) (k0_off1 i) S1.size (k0_off1_inb i)).toLoadRect xt0 (Shape.Idx.first (numel1_S1.symm ▸ Nat.one_pos)))) (d12 : Vec Ideal S16384x512 .f32) (d13 : Vec Ideal S16384x128 .f32) : ∀ P ∈ (stores (F := Ideal) c i arg3 harg3 arg4 harg4 arg5 harg5 arg6 harg6 arg7 harg7 arg8 harg8 arg9 harg9 arg10 harg10 arg11 harg11 arg12 harg12 arg13 harg13 x0 x1 x2 x3 x4 x5 x6 x7 xt0 k0_hw1 d12 d13).1, ∀ x, P.2 x = (fun y : S128x1024.Idx => outG (rawA c i arg3 harg3 arg4 harg4 arg5 harg5 arg6 harg6 arg7 harg7 arg8 harg8 arg9 harg9 arg10 harg10 arg11 harg11 arg12 harg12 arg13 harg13 x0 x1 x2 x3 x4 x5 x6 x7 xt0 k0_hw1 d12 d13).1 (rawB c i arg3 harg3 arg4 harg4 arg5 harg5 arg6 harg6 arg7 harg7 arg8 harg8 arg9 harg9 arg10 harg10 arg11 harg11 arg12 harg12 arg13 harg13 x0 x1 x2 x3 x4 x5 x6 x7 xt0 k0_hw1 d12 d13).1 (View.readAt (Elt Ideal) arg10.view (Rect.unit (s := S1x128x128) ![0, 0, 0] S1x128x128.size inb_S1x128x128_S1x128x128_0_0_0).toLoadRect (harg10.unread x7)) (y 0).1 (y 1).1) (P.1.emb x) := by
  intro P hP
  obtain ⟨VA, hA⟩ : ∃ V, V = (rawA c i arg3 harg3 arg4 harg4 arg5 harg5 arg6 harg6 arg7 harg7 arg8 harg8 arg9 harg9 arg10 harg10 arg11 harg11 arg12 harg12 arg13 harg13 x0 x1 x2 x3 x4 x5 x6 x7 xt0 k0_hw1 d12 d13).1 := ⟨_, rfl⟩
  obtain ⟨VB, hB⟩ : ∃ V, V = (rawB c i arg3 harg3 arg4 harg4 arg5 harg5 arg6 harg6 arg7 harg7 arg8 harg8 arg9 harg9 arg10 harg10 arg11 harg11 arg12 harg12 arg13 harg13 x0 x1 x2 x3 x4 x5 x6 x7 xt0 k0_hw1 d12 d13).1 := ⟨_, rfl⟩
  obtain ⟨vs, hvs⟩ : ∃ v : Vec Ideal S1x128x128 .f32, v = (View.readAt (Elt Ideal) arg10.view (Rect.unit (s := S1x128x128) ![0, 0, 0] S1x128x128.size inb_S1x128x128_S1x128x128_0_0_0).toLoadRect (harg10.unread x7)) := ⟨_, rfl⟩
  rw [← hA, ← hB, ← hvs]
  unfold rawA at hA
  unfold rawB at hB
  unfold stores at hP
  simp only [List.mem_cons, List.not_mem_nil, or_false, stores.sl.r_11, stores.sl.r_12, stores.sl.r_13, stores.sl.r_14, stores.sl.r_15, stores.sl.r_16, stores.sl.r_17, stores.sl.r_18, stores.sl.r_19, stores.sl.r_20, stores.sl.r_34, stores.sl.r_35, stores.sl.r_36, stores.sl.r_37, stores.sl.r_38, stores.sl.r_39, stores.sl.r_40, stores.sl.r_41, stores.sl.r_42] at hP hA hB
  rw [← hA, ← hB, ← hvs] at hP
  clear hA hB hvs
  rcases hP with hP | hP | hP | hP | hP | hP | hP | hP | hP | hP | hP | hP | hP | hP | hP | hP | hP | hP | hP | hP | hP | hP | hP | hP | hP | hP | hP | hP | hP | hP | hP | hP | hP | hP | hP | hP | hP | hP | hP | hP | hP | hP | hP | hP | hP | hP | hP | hP | hP | hP | hP | hP | hP | hP | hP | hP | hP | hP | hP | hP | hP | hP | hP | hP
  · exact pieceO hP rfl (out_7_7 VA VB vs)
  · exact pieceO hP rfl (out_7_6 VA VB vs)
  · exact pieceO hP rfl (out_7_5 VA VB vs)
  · exact pieceO hP rfl (out_7_4 VA VB vs)
  · exact pieceO hP rfl (out_7_3 VA VB vs)
  · exact pieceO hP rfl (out_7_2 VA VB vs)
  · exact pieceO hP rfl (out_7_1 VA VB vs)
  · exact pieceO hP rfl (out_7_0 VA VB vs)
  · exact pieceO hP rfl (out_6_7 VA VB vs)
  · exact pieceO hP rfl (out_6_6 VA VB vs)
  · exact pieceO hP rfl (out_6_5 VA VB vs)
  · exact pieceO hP rfl (out_6_4 VA VB vs)
  · exact pieceO hP rfl (out_6_3 VA VB vs)
  · exact pieceO hP rfl (out_6_2 VA VB vs)
  · exact pieceO hP rfl (out_6_1 VA VB vs)
  · exact pieceO hP rfl (out_6_0 VA VB vs)
  · exact pieceO hP rfl (out_5_7 VA VB vs)
  · exact pieceO hP rfl (out_5_6 VA VB vs)
  · exact pieceO hP rfl (out_5_5 VA VB vs)
  · exact pieceO hP rfl (out_5_4 VA VB vs)
  · exact pieceO hP rfl (out_5_3 VA VB vs)
  · exact pieceO hP rfl (out_5_2 VA VB vs)
  · exact pieceO hP rfl (out_5_1 VA VB vs)
  · exact pieceO hP rfl (out_5_0 VA VB vs)
  · exact pieceO hP rfl (out_4_7 VA VB vs)
  · exact pieceO hP rfl (out_4_6 VA VB vs)
  · exact pieceO hP rfl (out_4_5 VA VB vs)
  · exact pieceO hP rfl (out_4_4 VA VB vs)
  · exact pieceO hP rfl (out_4_3 VA VB vs)
  · exact pieceO hP rfl (out_4_2 VA VB vs)
  · exact pieceO hP rfl (out_4_1 VA VB vs)
  · exact pieceO hP rfl (out_4_0 VA VB vs)
  · exact pieceO hP rfl (out_3_7 VA VB vs)
  · exact pieceO hP rfl (out_3_6 VA VB vs)
  · exact pieceO hP rfl (out_3_5 VA VB vs)
  · exact pieceO hP rfl (out_3_4 VA VB vs)
  · exact pieceO hP rfl (out_3_3 VA VB vs)
  · exact pieceO hP rfl (out_3_2 VA VB vs)
  · exact pieceO hP rfl (out_3_1 VA VB vs)
  · exact pieceO hP rfl (out_3_0 VA VB vs)
  · exact pieceO hP rfl (out_2_7 VA VB vs)
  · exact pieceO hP rfl (out_2_6 VA VB vs)
  · exact pieceO hP rfl (out_2_5 VA VB vs)
  · exact pieceO hP rfl (out_2_4 VA VB vs)
  · exact pieceO hP rfl (out_2_3 VA VB vs)
  · exact pieceO hP rfl (out_2_2 VA VB vs)
  · exact pieceO hP rfl (out_2_1 VA VB vs)
  · exact pieceO hP rfl (out_2_0 VA VB vs)
  · exact pieceO hP rfl (out_1_7 VA VB vs)
  · exact pieceO hP rfl (out_1_6 VA VB vs)
  · exact pieceO hP rfl (out_1_5 VA VB vs)
  · exact pieceO hP rfl (out_1_4 VA VB vs)
  · exact pieceO hP rfl (out_1_3 VA VB vs)
  · exact pieceO hP rfl (out_1_2 VA VB vs)
  · exact pieceO hP rfl (out_1_1 VA VB vs)
  · exact pieceO hP rfl (out_1_0 VA VB vs)
  · exact pieceO hP rfl (out_0_7 VA VB vs)
  · exact pieceO hP rfl (out_0_6 VA VB vs)
  · exact pieceO hP rfl (out_0_5 VA VB vs)
  · exact pieceO hP rfl (out_0_4 VA VB vs)
  · exact pieceO hP rfl (out_0_3 VA VB vs)
  · exact pieceO hP rfl (out_0_2 VA VB vs)
  · exact pieceO hP rfl (out_0_1 VA VB vs)
  · exact pieceO hP rfl (out_0_0 VA VB vs)

end Cert.KernelIdeal.Hand
-- ==== Proof.KernelIdealBlock.lean ====
/- The block that one grid point of the attention kernel stores, as a function of what the point reads. -/
module

public import proofs.«01_k».proof.Proof.KernelIdealOuts
public import Idealize.ShloMosaic.Lib.Pointwise

@[expose] public section

set_option maxRecDepth 16384
set_option maxHeartbeats 4000000

noncomputable section

namespace Cert.KernelIdeal.Hand

open Cert.KernelIdeal.Gen
open Idealize.ShloMosaic Idealize.ShloMosaic.TcCoe Idealize.ShloMosaic.Tactic

/-- The queries of unit `u`. -/
def qF (x1 : S1x1x1024x128.Idx → EReal) (u : ℕ) : S512x128.Idx → EReal := fun y => x1 (ix4 0 0 ⟨(512 * u + (y 0).1) % 1024, Nat.mod_lt _ (by decide)⟩ (y 1))

/-- The scales of the queries, in base two. -/
def sqF (x2 : S1x1x1x128.Idx → EReal) : S1x128.Idx → EReal := fun y => x2 (ix4 0 0 0 (y 1)) * smC

/-- The means of the queries, one row for each lane. -/
def mqF (x3 : S1x1x8x128.Idx → EReal) : S128x128.Idx → EReal := fun y => x3 (ix4 0 0 ⟨((y 0).1 / 16) % 8, Nat.mod_lt _ (by decide)⟩ (y 1))

theorem rd4 {A B C D a b c d : ℕ} {κ₀ : Kind} {sp : Space} {e : EltTy} {off : Fin 4 → ℕ} {inb} (v : View sig κ₀ sp ⟨4, ![A, B, C, D]⟩ e) (X : v.ty.Contents (Elt Ideal)) {o p q r : ℕ}
    (ho : off = ![o, p, q, r]) (x : (⟨4, ![a, b, c, d]⟩ : Shape).Idx) (y : (⟨4, ![A, B, C, D]⟩ : Shape).Idx)
    (h0 : (y 0).1 = o + (x 0).1) (h1 : (y 1).1 = p + (x 1).1) (h2 : (y 2).1 = q + (x 2).1) (h3 : (y 3).1 = r + (x 3).1) :
    View.readAt (Elt Ideal) v (Rect.unit (s := ⟨4, ![A, B, C, D]⟩) off ![a, b, c, d] inb).toLoadRect X x = v.read (Elt Ideal) X y := by
  subst ho
  refine congrArg (v.read (Elt Ideal) X) (funext fun j => Fin.ext ?_)
  match j with
  | ⟨0, _⟩ => exact (congrArg (o + ·) (Nat.one_mul _)).trans h0.symm
  | ⟨1, _⟩ => exact (congrArg (p + ·) (Nat.one_mul _)).trans h1.symm
  | ⟨2, _⟩ => exact (congrArg (q + ·) (Nat.one_mul _)).trans h2.symm
  | ⟨3, _⟩ => exact (congrArg (r + ·) (Nat.one_mul _)).trans h3.symm

theorem rowsA (c : Dev nD) (arg4 : Memref sig .tc .vmem S1x1x1024x128 .fp8e4m3) (harg4 : arg4.IsWhole) (x1 : Vec Ideal S1x1x1024x128 .fp8e4m3) :
    stores.sl.r_3 (F := Ideal) c arg4 harg4 x1 = qF x1 0 := by
  funext y
  have hy : (y 0).1 < 512 := (y 0).2
  rw [eq_ix2 y]
  unfold qF
  pointwise [stores.sl.r_3, k0_pay544]
  exact (rd4 arg4.view _ rfl (ix4 0 0 (y 0) (y 1)) (ix4 0 0 ⟨(y 0).1 % 1024, Nat.mod_lt _ (by decide)⟩ (y 1)) rfl rfl (by show (y 0).1 % 1024 = 0 + (y 0).1; omega) (Nat.zero_add _).symm).trans (congrFun (harg4.read_unread x1) _)

theorem rowsB (c : Dev nD) (arg4 : Memref sig .tc .vmem S1x1x1024x128 .fp8e4m3) (harg4 : arg4.IsWhole) (x1 : Vec Ideal S1x1x1024x128 .fp8e4m3) :
    stores.sl.r_21 (F := Ideal) c arg4 harg4 x1 = qF x1 1 := by
  funext y
  have hy : (y 0).1 < 512 := (y 0).2
  rw [eq_ix2 y]
  unfold qF
  pointwise [stores.sl.r_21, k0_pay614]
  exact (rd4 arg4.view _ rfl (ix4 0 0 (y 0) (y 1)) (ix4 0 0 ⟨(512 + (y 0).1) % 1024, Nat.mod_lt _ (by decide)⟩ (y 1)) rfl rfl (by show (512 + (y 0).1) % 1024 = 512 + (y 0).1; omega) (Nat.zero_add _).symm).trans (congrFun (harg4.read_unread x1) _)

theorem scaleQ (c : Dev nD) (arg5 : Memref sig .tc .vmem S1x1x1x128 .f32) (harg5 : arg5.IsWhole) (x2 : Vec Ideal S1x1x1x128 .f32) :
    stores.sl.r_1 (F := Ideal) c arg5 harg5 x2 = sqF x2 := by
  funext y
  rw [eq_ix2 y]
  unfold sqF
  pointwise [stores.sl.r_1, k0_pay540]
  exact congrArg (· * smC) ((rd4 arg5.view _ rfl _ _ rfl rfl rfl (Nat.zero_add _).symm).trans (congrFun (harg5.read_unread x2) _))

theorem meanQ (c : Dev nD) (arg6 : Memref sig .tc .vmem S1x1x8x128 .bf16) (harg6 : arg6.IsWhole) (x3 : Vec Ideal S1x1x8x128 .bf16) :
    stores.sl.r_2 (F := Ideal) c arg6 harg6 x3 = mqF x3 := by
  funext y
  rw [eq_ix2 y]
  unfold mqF
  pointwise [stores.sl.r_2, k0_pay541]
  have hy : (y 0).1 < 128 := (y 0).2
  exact (rd4 arg6.view _ rfl (ix4 0 0 ⟨(y 0).1 / 16, by omega⟩ (y 1)) (ix4 0 0 ⟨(y 0).1 / 16 % 8, Nat.mod_lt _ (by decide)⟩ (y 1)) rfl rfl (by show (y 0).1 / 16 % 8 = 0 + (y 0).1 / 16; omega) (Nat.zero_add _).symm).trans (congrFun (harg6.read_unread x3) _)

/-- The score of row `row` of the window of keys and column `col` of unit `u`, at group `g` whose window starts at `base`. -/
def kerS (x0 : S1x1x256.Idx → EReal) (x1 : S1x1x1024x128.Idx → EReal) (x2 : S1x1x1x128.Idx → EReal) (x3 : S1x1x8x128.Idx → EReal) (x4 : S1x8x128.Idx → BitVec 32) (x5 : S16384x128.Idx → EReal) (g base u row col : ℕ) : EReal :=
  scoreF x5 (mqF x3) x0 (qF x1 u) (sqF x2) (qpF g u) (dsF x4 u) (base + row) col

/-- Its weight, over a window of `n` rows. -/
def kerW (x0 : S1x1x256.Idx → EReal) (x1 : S1x1x1024x128.Idx → EReal) (x2 : S1x1x1x128.Idx → EReal) (x3 : S1x1x8x128.Idx → EReal) (x4 : S1x8x128.Idx → BitVec 32) (x5 : S16384x128.Idx → EReal) (g base n u row col : ℕ) : EReal :=
  weightF (fun row col => kerS x0 x1 x2 x3 x4 x5 g base u row col) (fun col => offS n (fun row => kerS x0 x1 x2 x3 x4 x5 g base u row col)) row col

/-- The block that one grid point stores. -/
def kerF (x0 : S1x1x256.Idx → EReal) (x1 : S1x1x1024x128.Idx → EReal) (x2 : S1x1x1x128.Idx → EReal) (x3 : S1x1x8x128.Idx → EReal) (x4 : S1x8x128.Idx → BitVec 32) (x5 : S16384x128.Idx → EReal) (x6 : S1x128x16384.Idx → EReal) (x7 : S1x128x128.Idx → EReal) (g base n k cc : ℕ) : EReal :=
  (∑ row ∈ Finset.range n, x6 (ix3 0 ⟨cc % 128, Nat.mod_lt _ (by decide)⟩ (keyIx (base + row))) * clipF (kerW x0 x1 x2 x3 x4 x5 g base n (k / 64) row (colO k cc).1))
    * x7 (ix3 0 ⟨cc % 128, Nat.mod_lt _ (by decide)⟩ (laneO k cc))
    * Ideal.div 1 (∑ row ∈ Finset.range n, kerW x0 x1 x2 x3 x4 x5 g base n (k / 64) row (colO k cc).1)

theorem col_lane {k cc : ℕ} (hc : cc < 1024) : (colO k cc).1 = 128 * (k / 16 % 4) + (laneO k cc).1 := by
  show (128 * (k / 16 % 4) + 16 * (cc / 128) + k % 16) % 512 = 128 * (k / 16 % 4) + (16 * (cc / 128) + k % 16) % 128
  omega

/-- The sums of a tile, from its four cases. -/
theorem tile_cases {V : FVec Ideal S8x128 .f32 × FVec Ideal S8x128 .f32 × FVec Ideal S8x128 .f32 × FVec Ideal S8x128 .f32 × FVec Ideal S128x512 .f32} {f : ℕ → EReal}
    (h0 : ∀ l : Fin 128, (∑ a : Fin 8, (V.1 (ix2 a l) : EReal)) = f l.1) (h1 : ∀ l : Fin 128, (∑ a : Fin 8, (V.2.1 (ix2 a l) : EReal)) = f (128 + l.1))
    (h2 : ∀ l : Fin 128, (∑ a : Fin 8, (V.2.2.1 (ix2 a l) : EReal)) = f (256 + l.1)) (h3 : ∀ l : Fin 128, (∑ a : Fin 8, (V.2.2.2.1 (ix2 a l) : EReal)) = f (384 + l.1))
    (c : ℕ) (hc : c < 4) (l : Fin 128) : tileSum V c l = f (128 * c + l.1) := by
  match c, hc with
  | 0, _ => exact (h0 l).trans (congrArg f (by omega))
  | 1, _ => exact h1 l
  | 2, _ => exact h2 l
  | 3, _ => exact h3 l

/-- What a grid point stores, as a function of what it reads. -/
theorem out_value  (c : Dev nD) (i : grid0.Coords) (arg3 : Memref sig .tc .smem S1x1x256 .f32) (harg3 : arg3.IsWhole) (arg4 : Memref sig .tc .vmem S1x1x1024x128 .fp8e4m3) (harg4 : arg4.IsWhole) (arg5 : Memref sig .tc .vmem S1x1x1x128 .f32) (harg5 : arg5.IsWhole) (arg6 : Memref sig .tc .vmem S1x1x8x128 .bf16) (harg6 : arg6.IsWhole) (arg7 : Memref sig .tc .vmem S1x8x128 .i32) (harg7 : arg7.IsWhole) (arg8 : Memref sig .tc .vmem S16384x128 .fp8e4m3) (harg8 : arg8.IsWhole) (arg9 : Memref sig .tc .vmem S1x128x16384 .fp8e4m3) (harg9 : arg9.IsWhole) (arg10 : Memref sig .tc .vmem S1x128x128 .f32) (harg10 : arg10.IsWhole) (arg11 : Memref sig .tc .vmem S128x1024 .bf16) (harg11 : arg11.IsWhole) (arg12 : Memref sig .tc .vmem S16384x512 .f32) (harg12 : arg12.IsWhole) (arg13 : Memref sig .tc .vmem S16384x128 .f32) (harg13 : arg13.IsWhole)
    (x0 : Vec Ideal S1x1x256 .f32) (x1 : Vec Ideal S1x1x1024x128 .fp8e4m3) (x2 : Vec Ideal S1x1x1x128 .f32) (x3 : Vec Ideal S1x1x8x128 .bf16) (x4 : Vec Ideal S1x8x128 .i32) (x5 : Vec Ideal S16384x128 .fp8e4m3) (x6 : Vec Ideal S1x128x16384 .fp8e4m3) (x7 : Vec Ideal S1x128x128 .f32) (xt0 : TbBuf0 (F := Ideal) c tbM0_0) (k0_hw1 : k0_chk1 i (tbM0_0.view.readAt (Elt Ideal) (Rect.unit (s := S256) (k0_off1 i) S1.size (k0_off1_inb i)).toLoadRect xt0 (Shape.Idx.first (numel1_S1.symm ▸ Nat.one_pos)))) (d12 : Vec Ideal S16384x512 .f32) (d13 : Vec Ideal S16384x128 .f32) (h : Early i (stores.sl.r (F := Ideal) c i xt0)) (k cc : ℕ) (hk : k < 128) (hc : cc < 1024) :
    outG (rawA c i arg3 harg3 arg4 harg4 arg5 harg5 arg6 harg6 arg7 harg7 arg8 harg8 arg9 harg9 arg10 harg10 arg11 harg11 arg12 harg12 arg13 harg13 x0 x1 x2 x3 x4 x5 x6 x7 xt0 k0_hw1 d12 d13).1 (rawB c i arg3 harg3 arg4 harg4 arg5 harg5 arg6 harg6 arg7 harg7 arg8 harg8 arg9 harg9 arg10 harg10 arg11 harg11 arg12 harg12 arg13 harg13 x0 x1 x2 x3 x4 x5 x6 x7 xt0 k0_hw1 d12 d13).1 (View.readAt (Elt Ideal) arg10.view (Rect.unit (s := S1x128x128) ![0, 0, 0] S1x128x128.size inb_S1x128x128_S1x128x128_0_0_0).toLoadRect (harg10.unread x7)) k cc
      = kerF x0 x1 x2 x3 x4 x5 x6 x7 (grp i) (Words.base (grp i) (row0 (stores.sl.r (F := Ideal) c i xt0))) (512 * Words.nt (grp i) (row0 (stores.sl.r (F := Ideal) c i xt0))) k cc := by
  have A := unitA c i arg3 harg3 arg4 harg4 arg5 harg5 arg6 harg6 arg7 harg7 arg8 harg8 arg9 harg9 arg10 harg10 arg11 harg11 arg12 harg12 arg13 harg13 x0 x1 x2 x3 x4 x5 x6 x7 xt0 k0_hw1 d12 d13 h
  have B := unitB c i arg3 harg3 arg4 harg4 arg5 harg5 arg6 harg6 arg7 harg7 arg8 harg8 arg9 harg9 arg10 harg10 arg11 harg11 arg12 harg12 arg13 harg13 x0 x1 x2 x3 x4 x5 x6 x7 xt0 k0_hw1 d12 d13 h
  rw [rowsA, scaleQ, meanQ, harg3.read_unread, harg8.read_unread, harg9.read_unread] at A
  rw [rowsB, scaleQ, meanQ, harg3.read_unread, harg8.read_unread, harg9.read_unread] at B
  have hvs : ∀ d l : Fin 128, (View.readAt (Elt Ideal) arg10.view (Rect.unit (s := S1x128x128) ![0, 0, 0] S1x128x128.size inb_S1x128x128_S1x128x128_0_0_0).toLoadRect (harg10.unread x7)) (ix3 0 d l) = x7 (ix3 0 d l) := fun d l =>
    (rd3 arg10.view _ rfl (ix3 0 d l) (ix3 0 d l) rfl (Nat.zero_add _).symm (Nat.zero_add _).symm).trans (congrFun (harg10.read_unread x7) _)
  generalize (rawA c i arg3 harg3 arg4 harg4 arg5 harg5 arg6 harg6 arg7 harg7 arg8 harg8 arg9 harg9 arg10 harg10 arg11 harg11 arg12 harg12 arg13 harg13 x0 x1 x2 x3 x4 x5 x6 x7 xt0 k0_hw1 d12 d13).1 = VA at A ⊢
  generalize (rawB c i arg3 harg3 arg4 harg4 arg5 harg5 arg6 harg6 arg7 harg7 arg8 harg8 arg9 harg9 arg10 harg10 arg11 harg11 arg12 harg12 arg13 harg13 x0 x1 x2 x3 x4 x5 x6 x7 xt0 k0_hw1 d12 d13).1 = VB at B ⊢
  obtain ⟨a0, a1, a2, a3, aV⟩ := A
  obtain ⟨b0, b1, b2, b3, bV⟩ := B
  have eA := tile_cases (f := fun col => ∑ row ∈ Finset.range (512 * Words.nt (grp i) (row0 (stores.sl.r (F := Ideal) c i xt0))), kerW x0 x1 x2 x3 x4 x5 (grp i) (Words.base (grp i) (row0 (stores.sl.r (F := Ideal) c i xt0))) (512 * Words.nt (grp i) (row0 (stores.sl.r (F := Ideal) c i xt0))) 0 row col) a0 a1 a2 a3 (k / 16 % 4) (by omega) (laneO k cc)
  have eB := tile_cases (f := fun col => ∑ row ∈ Finset.range (512 * Words.nt (grp i) (row0 (stores.sl.r (F := Ideal) c i xt0))), kerW x0 x1 x2 x3 x4 x5 (grp i) (Words.base (grp i) (row0 (stores.sl.r (F := Ideal) c i xt0))) (512 * Words.nt (grp i) (row0 (stores.sl.r (F := Ideal) c i xt0))) 1 row col) b0 b1 b2 b3 (k / 16 % 4) (by omega) (laneO k cc)
  rw [← col_lane hc] at eA eB
  unfold outG kerF
  rw [hvs]
  by_cases hu : k < 64
  · rw [if_pos hu, if_pos hu, eA, aV, show k / 64 = 0 by omega]
    rfl
  · rw [if_neg hu, if_neg hu, eB, bV, show k / 64 = 1 by omega]
    rfl

end Cert.KernelIdeal.Hand
-- ==== Proof.KernelIdealCover.lean ====
/- What a grid point leaves in its output block. -/
module

public import proofs.«01_k».proof.Proof.KernelIdealBlock

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.Sem

set_option maxHeartbeats 4000000 in
/-- The stores of a grid point cover its output block. -/
theorem out_cover   (c : Dev nD) (i : grid0.Coords) (arg3 : Memref sig .tc .smem S1x1x256 .f32) (harg3 : arg3.IsWhole) (arg4 : Memref sig .tc .vmem S1x1x1024x128 .fp8e4m3) (harg4 : arg4.IsWhole) (arg5 : Memref sig .tc .vmem S1x1x1x128 .f32) (harg5 : arg5.IsWhole) (arg6 : Memref sig .tc .vmem S1x1x8x128 .bf16) (harg6 : arg6.IsWhole) (arg7 : Memref sig .tc .vmem S1x8x128 .i32) (harg7 : arg7.IsWhole) (arg8 : Memref sig .tc .vmem S16384x128 .fp8e4m3) (harg8 : arg8.IsWhole) (arg9 : Memref sig .tc .vmem S1x128x16384 .fp8e4m3) (harg9 : arg9.IsWhole) (arg10 : Memref sig .tc .vmem S1x128x128 .f32) (harg10 : arg10.IsWhole) (arg11 : Memref sig .tc .vmem S128x1024 .bf16) (harg11 : arg11.IsWhole) (arg12 : Memref sig .tc .vmem S16384x512 .f32) (harg12 : arg12.IsWhole) (arg13 : Memref sig .tc .vmem S16384x128 .f32) (harg13 : arg13.IsWhole)
    (x0 : Vec Ideal S1x1x256 .f32) (x1 : Vec Ideal S1x1x1024x128 .fp8e4m3) (x2 : Vec Ideal S1x1x1x128 .f32) (x3 : Vec Ideal S1x1x8x128 .bf16) (x4 : Vec Ideal S1x8x128 .i32) (x5 : Vec Ideal S16384x128 .fp8e4m3) (x6 : Vec Ideal S1x128x16384 .fp8e4m3) (x7 : Vec Ideal S1x128x128 .f32) (xt0 : TbBuf0 (F := Ideal) c tbM0_0) (k0_hw1 : k0_chk1 i (tbM0_0.view.readAt (Elt Ideal) (Rect.unit (s := S256) (k0_off1 i) S1.size (k0_off1_inb i)).toLoadRect xt0 (Shape.Idx.first (numel1_S1.symm ▸ Nat.one_pos)))) (d12 : Vec Ideal S16384x512 .f32) (d13 : Vec Ideal S16384x128 .f32)  (y : S128x1024.Idx) :
    ∃ P ∈ (stores (F := Ideal) c i arg3 harg3 arg4 harg4 arg5 harg5 arg6 harg6 arg7 harg7 arg8 harg8 arg9 harg9 arg10 harg10 arg11 harg11 arg12 harg12 arg13 harg13 x0 x1 x2 x3 x4 x5 x6 x7 xt0 k0_hw1 d12 d13).1, y ∈ P.1.set := by
  have y0 : (y 0).1 < 128 := (y 0).2
  have y1 : (y 1).1 < 1024 := (y 1).2
  by_contra hno
  replace hno := fun P hP hy => hno ⟨P, hP, hy⟩
  unfold stores at hno
  simp only [List.forall_mem_cons] at hno
  obtain ⟨h7_7, h7_6, h7_5, h7_4, h7_3, h7_2, h7_1, h7_0, h6_7, h6_6, h6_5, h6_4, h6_3, h6_2, h6_1, h6_0, h5_7, h5_6, h5_5, h5_4, h5_3, h5_2, h5_1, h5_0, h4_7, h4_6, h4_5, h4_4, h4_3, h4_2, h4_1, h4_0, h3_7, h3_6, h3_5, h3_4, h3_3, h3_2, h3_1, h3_0, h2_7, h2_6, h2_5, h2_4, h2_3, h2_2, h2_1, h2_0, h1_7, h1_6, h1_5, h1_4, h1_3, h1_2, h1_1, h1_0, h0_7, h0_6, h0_5, h0_4, h0_3, h0_2, h0_1, h0_0, -⟩ := hno
  rcases (by omega : (y 0).1 / 16 = 0 ∨ (y 0).1 / 16 = 1 ∨ (y 0).1 / 16 = 2 ∨ (y 0).1 / 16 = 3 ∨ (y 0).1 / 16 = 4 ∨ (y 0).1 / 16 = 5 ∨ (y 0).1 / 16 = 6 ∨ (y 0).1 / 16 = 7) with e | e | e | e | e | e | e | e <;>
    rcases (by omega : (y 1).1 / 128 = 0 ∨ (y 1).1 / 128 = 1 ∨ (y 1).1 / 128 = 2 ∨ (y 1).1 / 128 = 3 ∨ (y 1).1 / 128 = 4 ∨ (y 1).1 / 128 = 5 ∨ (y 1).1 / 128 = 6 ∨ (y 1).1 / 128 = 7) with e2 | e2 | e2 | e2 | e2 | e2 | e2 | e2
  · exact h0_0 (mem2 (o := 0) (p := 0) (a := 16) (b := 128) rfl y ⟨by omega, by omega⟩ ⟨by omega, by omega⟩)
  · exact h0_1 (mem2 (o := 0) (p := 128) (a := 16) (b := 128) rfl y ⟨by omega, by omega⟩ ⟨by omega, by omega⟩)
  · exact h0_2 (mem2 (o := 0) (p := 256) (a := 16) (b := 128) rfl y ⟨by omega, by omega⟩ ⟨by omega, by omega⟩)
  · exact h0_3 (mem2 (o := 0) (p := 384) (a := 16) (b := 128) rfl y ⟨by omega, by omega⟩ ⟨by omega, by omega⟩)
  · exact h0_4 (mem2 (o := 0) (p := 512) (a := 16) (b := 128) rfl y ⟨by omega, by omega⟩ ⟨by omega, by omega⟩)
  · exact h0_5 (mem2 (o := 0) (p := 640) (a := 16) (b := 128) rfl y ⟨by omega, by omega⟩ ⟨by omega, by omega⟩)
  · exact h0_6 (mem2 (o := 0) (p := 768) (a := 16) (b := 128) rfl y ⟨by omega, by omega⟩ ⟨by omega, by omega⟩)
  · exact h0_7 (mem2 (o := 0) (p := 896) (a := 16) (b := 128) rfl y ⟨by omega, by omega⟩ ⟨by omega, by omega⟩)
  · exact h1_0 (mem2 (o := 16) (p := 0) (a := 16) (b := 128) rfl y ⟨by omega, by omega⟩ ⟨by omega, by omega⟩)
  · exact h1_1 (mem2 (o := 16) (p := 128) (a := 16) (b := 128) rfl y ⟨by omega, by omega⟩ ⟨by omega, by omega⟩)
  · exact h1_2 (mem2 (o := 16) (p := 256) (a := 16) (b := 128) rfl y ⟨by omega, by omega⟩ ⟨by omega, by omega⟩)
  · exact h1_3 (mem2 (o := 16) (p := 384) (a := 16) (b := 128) rfl y ⟨by omega, by omega⟩ ⟨by omega, by omega⟩)
  · exact h1_4 (mem2 (o := 16) (p := 512) (a := 16) (b := 128) rfl y ⟨by omega, by omega⟩ ⟨by omega, by omega⟩)
  · exact h1_5 (mem2 (o := 16) (p := 640) (a := 16) (b := 128) rfl y ⟨by omega, by omega⟩ ⟨by omega, by omega⟩)
  · exact h1_6 (mem2 (o := 16) (p := 768) (a := 16) (b := 128) rfl y ⟨by omega, by omega⟩ ⟨by omega, by omega⟩)
  · exact h1_7 (mem2 (o := 16) (p := 896) (a := 16) (b := 128) rfl y ⟨by omega, by omega⟩ ⟨by omega, by omega⟩)
  · exact h2_0 (mem2 (o := 32) (p := 0) (a := 16) (b := 128) rfl y ⟨by omega, by omega⟩ ⟨by omega, by omega⟩)
  · exact h2_1 (mem2 (o := 32) (p := 128) (a := 16) (b := 128) rfl y ⟨by omega, by omega⟩ ⟨by omega, by omega⟩)
  · exact h2_2 (mem2 (o := 32) (p := 256) (a := 16) (b := 128) rfl y ⟨by omega, by omega⟩ ⟨by omega, by omega⟩)
  · exact h2_3 (mem2 (o := 32) (p := 384) (a := 16) (b := 128) rfl y ⟨by omega, by omega⟩ ⟨by omega, by omega⟩)
  · exact h2_4 (mem2 (o := 32) (p := 512) (a := 16) (b := 128) rfl y ⟨by omega, by omega⟩ ⟨by omega, by omega⟩)
  · exact h2_5 (mem2 (o := 32) (p := 640) (a := 16) (b := 128) rfl y ⟨by omega, by omega⟩ ⟨by omega, by omega⟩)
  · exact h2_6 (mem2 (o := 32) (p := 768) (a := 16) (b := 128) rfl y ⟨by omega, by omega⟩ ⟨by omega, by omega⟩)
  · exact h2_7 (mem2 (o := 32) (p := 896) (a := 16) (b := 128) rfl y ⟨by omega, by omega⟩ ⟨by omega, by omega⟩)
  · exact h3_0 (mem2 (o := 48) (p := 0) (a := 16) (b := 128) rfl y ⟨by omega, by omega⟩ ⟨by omega, by omega⟩)
  · exact h3_1 (mem2 (o := 48) (p := 128) (a := 16) (b := 128) rfl y ⟨by omega, by omega⟩ ⟨by omega, by omega⟩)
  · exact h3_2 (mem2 (o := 48) (p := 256) (a := 16) (b := 128) rfl y ⟨by omega, by omega⟩ ⟨by omega, by omega⟩)
  · exact h3_3 (mem2 (o := 48) (p := 384) (a := 16) (b := 128) rfl y ⟨by omega, by omega⟩ ⟨by omega, by omega⟩)
  · exact h3_4 (mem2 (o := 48) (p := 512) (a := 16) (b := 128) rfl y ⟨by omega, by omega⟩ ⟨by omega, by omega⟩)
  · exact h3_5 (mem2 (o := 48) (p := 640) (a := 16) (b := 128) rfl y ⟨by omega, by omega⟩ ⟨by omega, by omega⟩)
  · exact h3_6 (mem2 (o := 48) (p := 768) (a := 16) (b := 128) rfl y ⟨by omega, by omega⟩ ⟨by omega, by omega⟩)
  · exact h3_7 (mem2 (o := 48) (p := 896) (a := 16) (b := 128) rfl y ⟨by omega, by omega⟩ ⟨by omega, by omega⟩)
  · exact h4_0 (mem2 (o := 64) (p := 0) (a := 16) (b := 128) rfl y ⟨by omega, by omega⟩ ⟨by omega, by omega⟩)
  · exact h4_1 (mem2 (o := 64) (p := 128) (a := 16) (b := 128) rfl y ⟨by omega, by omega⟩ ⟨by omega, by omega⟩)
  · exact h4_2 (mem2 (o := 64) (p := 256) (a := 16) (b := 128) rfl y ⟨by omega, by omega⟩ ⟨by omega, by omega⟩)
  · exact h4_3 (mem2 (o := 64) (p := 384) (a := 16) (b := 128) rfl y ⟨by omega, by omega⟩ ⟨by omega, by omega⟩)
  · exact h4_4 (mem2 (o := 64) (p := 512) (a := 16) (b := 128) rfl y ⟨by omega, by omega⟩ ⟨by omega, by omega⟩)
  · exact h4_5 (mem2 (o := 64) (p := 640) (a := 16) (b := 128) rfl y ⟨by omega, by omega⟩ ⟨by omega, by omega⟩)
  · exact h4_6 (mem2 (o := 64) (p := 768) (a := 16) (b := 128) rfl y ⟨by omega, by omega⟩ ⟨by omega, by omega⟩)
  · exact h4_7 (mem2 (o := 64) (p := 896) (a := 16) (b := 128) rfl y ⟨by omega, by omega⟩ ⟨by omega, by omega⟩)
  · exact h5_0 (mem2 (o := 80) (p := 0) (a := 16) (b := 128) rfl y ⟨by omega, by omega⟩ ⟨by omega, by omega⟩)
  · exact h5_1 (mem2 (o := 80) (p := 128) (a := 16) (b := 128) rfl y ⟨by omega, by omega⟩ ⟨by omega, by omega⟩)
  · exact h5_2 (mem2 (o := 80) (p := 256) (a := 16) (b := 128) rfl y ⟨by omega, by omega⟩ ⟨by omega, by omega⟩)
  · exact h5_3 (mem2 (o := 80) (p := 384) (a := 16) (b := 128) rfl y ⟨by omega, by omega⟩ ⟨by omega, by omega⟩)
  · exact h5_4 (mem2 (o := 80) (p := 512) (a := 16) (b := 128) rfl y ⟨by omega, by omega⟩ ⟨by omega, by omega⟩)
  · exact h5_5 (mem2 (o := 80) (p := 640) (a := 16) (b := 128) rfl y ⟨by omega, by omega⟩ ⟨by omega, by omega⟩)
  · exact h5_6 (mem2 (o := 80) (p := 768) (a := 16) (b := 128) rfl y ⟨by omega, by omega⟩ ⟨by omega, by omega⟩)
  · exact h5_7 (mem2 (o := 80) (p := 896) (a := 16) (b := 128) rfl y ⟨by omega, by omega⟩ ⟨by omega, by omega⟩)
  · exact h6_0 (mem2 (o := 96) (p := 0) (a := 16) (b := 128) rfl y ⟨by omega, by omega⟩ ⟨by omega, by omega⟩)
  · exact h6_1 (mem2 (o := 96) (p := 128) (a := 16) (b := 128) rfl y ⟨by omega, by omega⟩ ⟨by omega, by omega⟩)
  · exact h6_2 (mem2 (o := 96) (p := 256) (a := 16) (b := 128) rfl y ⟨by omega, by omega⟩ ⟨by omega, by omega⟩)
  · exact h6_3 (mem2 (o := 96) (p := 384) (a := 16) (b := 128) rfl y ⟨by omega, by omega⟩ ⟨by omega, by omega⟩)
  · exact h6_4 (mem2 (o := 96) (p := 512) (a := 16) (b := 128) rfl y ⟨by omega, by omega⟩ ⟨by omega, by omega⟩)
  · exact h6_5 (mem2 (o := 96) (p := 640) (a := 16) (b := 128) rfl y ⟨by omega, by omega⟩ ⟨by omega, by omega⟩)
  · exact h6_6 (mem2 (o := 96) (p := 768) (a := 16) (b := 128) rfl y ⟨by omega, by omega⟩ ⟨by omega, by omega⟩)
  · exact h6_7 (mem2 (o := 96) (p := 896) (a := 16) (b := 128) rfl y ⟨by omega, by omega⟩ ⟨by omega, by omega⟩)
  · exact h7_0 (mem2 (o := 112) (p := 0) (a := 16) (b := 128) rfl y ⟨by omega, by omega⟩ ⟨by omega, by omega⟩)
  · exact h7_1 (mem2 (o := 112) (p := 128) (a := 16) (b := 128) rfl y ⟨by omega, by omega⟩ ⟨by omega, by omega⟩)
  · exact h7_2 (mem2 (o := 112) (p := 256) (a := 16) (b := 128) rfl y ⟨by omega, by omega⟩ ⟨by omega, by omega⟩)
  · exact h7_3 (mem2 (o := 112) (p := 384) (a := 16) (b := 128) rfl y ⟨by omega, by omega⟩ ⟨by omega, by omega⟩)
  · exact h7_4 (mem2 (o := 112) (p := 512) (a := 16) (b := 128) rfl y ⟨by omega, by omega⟩ ⟨by omega, by omega⟩)
  · exact h7_5 (mem2 (o := 112) (p := 640) (a := 16) (b := 128) rfl y ⟨by omega, by omega⟩ ⟨by omega, by omega⟩)
  · exact h7_6 (mem2 (o := 112) (p := 768) (a := 16) (b := 128) rfl y ⟨by omega, by omega⟩ ⟨by omega, by omega⟩)
  · exact h7_7 (mem2 (o := 112) (p := 896) (a := 16) (b := 128) rfl y ⟨by omega, by omega⟩ ⟨by omega, by omega⟩)

/-- What they leave: the block as a function of what the point reads. -/
theorem out_read   (c : Dev nD) (i : grid0.Coords) (arg3 : Memref sig .tc .smem S1x1x256 .f32) (harg3 : arg3.IsWhole) (arg4 : Memref sig .tc .vmem S1x1x1024x128 .fp8e4m3) (harg4 : arg4.IsWhole) (arg5 : Memref sig .tc .vmem S1x1x1x128 .f32) (harg5 : arg5.IsWhole) (arg6 : Memref sig .tc .vmem S1x1x8x128 .bf16) (harg6 : arg6.IsWhole) (arg7 : Memref sig .tc .vmem S1x8x128 .i32) (harg7 : arg7.IsWhole) (arg8 : Memref sig .tc .vmem S16384x128 .fp8e4m3) (harg8 : arg8.IsWhole) (arg9 : Memref sig .tc .vmem S1x128x16384 .fp8e4m3) (harg9 : arg9.IsWhole) (arg10 : Memref sig .tc .vmem S1x128x128 .f32) (harg10 : arg10.IsWhole) (arg11 : Memref sig .tc .vmem S128x1024 .bf16) (harg11 : arg11.IsWhole) (arg12 : Memref sig .tc .vmem S16384x512 .f32) (harg12 : arg12.IsWhole) (arg13 : Memref sig .tc .vmem S16384x128 .f32) (harg13 : arg13.IsWhole)
    (x0 : Vec Ideal S1x1x256 .f32) (x1 : Vec Ideal S1x1x1024x128 .fp8e4m3) (x2 : Vec Ideal S1x1x1x128 .f32) (x3 : Vec Ideal S1x1x8x128 .bf16) (x4 : Vec Ideal S1x8x128 .i32) (x5 : Vec Ideal S16384x128 .fp8e4m3) (x6 : Vec Ideal S1x128x16384 .fp8e4m3) (x7 : Vec Ideal S1x128x128 .f32) (xt0 : TbBuf0 (F := Ideal) c tbM0_0) (k0_hw1 : k0_chk1 i (tbM0_0.view.readAt (Elt Ideal) (Rect.unit (s := S256) (k0_off1 i) S1.size (k0_off1_inb i)).toLoadRect xt0 (Shape.Idx.first (numel1_S1.symm ▸ Nat.one_pos)))) (d12 : Vec Ideal S16384x512 .f32) (d13 : Vec Ideal S16384x128 .f32)  (h : Early i (stores.sl.r (F := Ideal) c i xt0)) (f : arg11.view.ty.Contents (Elt Ideal)) :
    arg11.view.read (Elt Ideal) (arg11.view.writes (Elt Ideal) f (stores (F := Ideal) c i arg3 harg3 arg4 harg4 arg5 harg5 arg6 harg6 arg7 harg7 arg8 harg8 arg9 harg9 arg10 harg10 arg11 harg11 arg12 harg12 arg13 harg13 x0 x1 x2 x3 x4 x5 x6 x7 xt0 k0_hw1 d12 d13).1)
      = fun y : S128x1024.Idx => kerF x0 x1 x2 x3 x4 x5 x6 x7 (grp i) (Words.base (grp i) (row0 (stores.sl.r (F := Ideal) c i xt0))) (512 * Words.nt (grp i) (row0 (stores.sl.r (F := Ideal) c i xt0))) (y 0).1 (y 1).1 := by
  funext y
  rw [View.read_writes_apply_of_pieces arg11.view f (fun y : S128x1024.Idx => outG (rawA c i arg3 harg3 arg4 harg4 arg5 harg5 arg6 harg6 arg7 harg7 arg8 harg8 arg9 harg9 arg10 harg10 arg11 harg11 arg12 harg12 arg13 harg13 x0 x1 x2 x3 x4 x5 x6 x7 xt0 k0_hw1 d12 d13).1 (rawB c i arg3 harg3 arg4 harg4 arg5 harg5 arg6 harg6 arg7 harg7 arg8 harg8 arg9 harg9 arg10 harg10 arg11 harg11 arg12 harg12 arg13 harg13 x0 x1 x2 x3 x4 x5 x6 x7 xt0 k0_hw1 d12 d13).1 (View.readAt (Elt Ideal) arg10.view (Rect.unit (s := S1x128x128) ![0, 0, 0] S1x128x128.size inb_S1x128x128_S1x128x128_0_0_0).toLoadRect (harg10.unread x7)) (y 0).1 (y 1).1) _ (out_pieces c i arg3 harg3 arg4 harg4 arg5 harg5 arg6 harg6 arg7 harg7 arg8 harg8 arg9 harg9 arg10 harg10 arg11 harg11 arg12 harg12 arg13 harg13 x0 x1 x2 x3 x4 x5 x6 x7 xt0 k0_hw1 d12 d13) y (out_cover c i arg3 harg3 arg4 harg4 arg5 harg5 arg6 harg6 arg7 harg7 arg8 harg8 arg9 harg9 arg10 harg10 arg11 harg11 arg12 harg12 arg13 harg13 x0 x1 x2 x3 x4 x5 x6 x7 xt0 k0_hw1 d12 d13 y)]
  exact out_value c i arg3 harg3 arg4 harg4 arg5 harg5 arg6 harg6 arg7 harg7 arg8 harg8 arg9 harg9 arg10 harg10 arg11 harg11 arg12 harg12 arg13 harg13 x0 x1 x2 x3 x4 x5 x6 x7 xt0 k0_hw1 d12 d13 h _ _ (y 0).2 (y 1).2

end Cert.KernelIdeal.Hand

end
-- ==== Proof.KernelIdealValue.lean ====
module

public import proofs.«01_k».proof.Proof.KernelIdealCover
public import proofs.«01_k».proof.Proof.KernelIdealFrame
public import proofs.«01_k».proof.Proof.KernelIdealEarly
public import Idealize.ShloMosaic.Lib.Claim

@[expose] public section

set_option maxRecDepth 16384

noncomputable section

namespace Cert.KernelIdeal.Value

open Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)
/-! ## The pipeline's proof data -/

/-- The block that the body leaves at point `t`. -/
def oblk (hO : Ok m) (c : Dev nD) (t : Fin (cfgM m hO).N) : S128x1024.Idx → EReal := fun y =>
  kerF (iblk m hO c 0 t) (iblk m hO c 1 t) (iblk m hO c 2 t) (iblk m hO c 3 t) (iblk m hO c 4 t) (iblk m hO c 5 t) (iblk m hO c 6 t) (iblk m hO c 7 t)
    (grp (grid0.coords t)) (Words.base (grp (grid0.coords t)) (row0 (wordAt m (grid0.coords t)))) (512 * Words.nt (grp (grid0.coords t)) (row0 (wordAt m (grid0.coords t)))) (y 0).1 (y 1).1

/-- The proof data of the launch: each input at its block, the output at the block that the body leaves. -/
def dats (hO : Ok m) (hH : Hyps m hO) (_ : Fin 1) (c : Dev nD) : Dat τ (Elt Ideal) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => oblk m hO c t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (hH : Hyps m hO) (c : Dev nD) (w : Fin (cfgM m hO).W) : (dats m hO hH 0 c).A w = V m c (Pipeline.arrRef spec0 w) := by
  dsimp only [dats]

/-- What the body leaves, window by window (the proof data's `match` reduced by `dsimp`). -/
theorem after0_0 (hO : Ok m) (hH : Hyps m hO) (c : Dev nD) (t : Fin (cfgM m hO).N) : (dats m hO hH 0 c).after 0 t = iblk m hO c 0 t := by dsimp only [dats]; try rfl
theorem after0_1 (hO : Ok m) (hH : Hyps m hO) (c : Dev nD) (t : Fin (cfgM m hO).N) : (dats m hO hH 0 c).after 1 t = iblk m hO c 1 t := by dsimp only [dats]; try rfl
theorem after0_2 (hO : Ok m) (hH : Hyps m hO) (c : Dev nD) (t : Fin (cfgM m hO).N) : (dats m hO hH 0 c).after 2 t = iblk m hO c 2 t := by dsimp only [dats]; try rfl
theorem after0_3 (hO : Ok m) (hH : Hyps m hO) (c : Dev nD) (t : Fin (cfgM m hO).N) : (dats m hO hH 0 c).after 3 t = iblk m hO c 3 t := by dsimp only [dats]; try rfl
theorem after0_4 (hO : Ok m) (hH : Hyps m hO) (c : Dev nD) (t : Fin (cfgM m hO).N) : (dats m hO hH 0 c).after 4 t = iblk m hO c 4 t := by dsimp only [dats]; try rfl
theorem after0_5 (hO : Ok m) (hH : Hyps m hO) (c : Dev nD) (t : Fin (cfgM m hO).N) : (dats m hO hH 0 c).after 5 t = iblk m hO c 5 t := by dsimp only [dats]; try rfl
theorem after0_6 (hO : Ok m) (hH : Hyps m hO) (c : Dev nD) (t : Fin (cfgM m hO).N) : (dats m hO hH 0 c).after 6 t = iblk m hO c 6 t := by dsimp only [dats]; try rfl
theorem after0_7 (hO : Ok m) (hH : Hyps m hO) (c : Dev nD) (t : Fin (cfgM m hO).N) : (dats m hO hH 0 c).after 7 t = iblk m hO c 7 t := by dsimp only [dats]; try rfl
theorem after0_8 (hO : Ok m) (hH : Hyps m hO) (c : Dev nD) (t : Fin (cfgM m hO).N) : (dats m hO hH 0 c).after 8 t = oblk m hO c t := by dsimp only [dats]; try rfl

/-- Each input's current staging buffer holds its block at every point, fetched there or not (`beforeK_W_of`). -/
theorem before0_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d
theorem before0_1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (after0_1 m hO hH c) t d
theorem before0_2 (hO : Ok m) (hH : Hyps m hO) (c : Dev nD) (t : Fin (cfgM m hO).N) (d) : (dats m hO hH 0 c).before 2 t d = iblk m hO c 2 t :=
  before0_2_of m hO (dats m hO hH 0 c) (A_eq m hO hH c 2) (after0_2 m hO hH c) t d
theorem before0_3 (hO : Ok m) (hH : Hyps m hO) (c : Dev nD) (t : Fin (cfgM m hO).N) (d) : (dats m hO hH 0 c).before 3 t d = iblk m hO c 3 t :=
  before0_3_of m hO (dats m hO hH 0 c) (A_eq m hO hH c 3) (after0_3 m hO hH c) t d
theorem before0_4 (hO : Ok m) (hH : Hyps m hO) (c : Dev nD) (t : Fin (cfgM m hO).N) (d) : (dats m hO hH 0 c).before 4 t d = iblk m hO c 4 t :=
  before0_4_of m hO (dats m hO hH 0 c) (A_eq m hO hH c 4) (after0_4 m hO hH c) t d
theorem before0_5 (hO : Ok m) (hH : Hyps m hO) (c : Dev nD) (t : Fin (cfgM m hO).N) (d) : (dats m hO hH 0 c).before 5 t d = iblk m hO c 5 t :=
  before0_5_of m hO (dats m hO hH 0 c) (A_eq m hO hH c 5) (after0_5 m hO hH c) t d
theorem before0_6 (hO : Ok m) (hH : Hyps m hO) (c : Dev nD) (t : Fin (cfgM m hO).N) (d) : (dats m hO hH 0 c).before 6 t d = iblk m hO c 6 t :=
  before0_6_of m hO (dats m hO hH 0 c) (A_eq m hO hH c 6) (after0_6 m hO hH c) t d
theorem before0_7 (hO : Ok m) (hH : Hyps m hO) (c : Dev nD) (t : Fin (cfgM m hO).N) (d) : (dats m hO hH 0 c).before 7 t d = iblk m hO c 7 t :=
  before0_7_of m hO (dats m hO hH 0 c) (A_eq m hO hH c 7) (after0_7 m hO hH c) t d

/-! ## The body obligation, at a generic point -/

/-- What the body is called with at point `t` (Lib/Pipeline.lean `BodyObligation`'s precondition, the windows one by one), -/
def bodyPre (hO : Ok m) (hH : Hyps m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare ((dats m hO hH 0 c).before 4 t d))
    ∗ (∃ d, owns (c : Thread nD τ) (ms0_5 m hO t) fullShare ((dats m hO hH 0 c).before 5 t d))
    ∗ (∃ d, owns (c : Thread nD τ) (ms0_6 m hO t) fullShare ((dats m hO hH 0 c).before 6 t d))
    ∗ (∃ d, owns (c : Thread nD τ) (ms0_7 m hO t) fullShare ((dats m hO hH 0 c).before 7 t d))
    ∗ (∃ d, owns (c : Thread nD τ) (ms0_8 m hO t) fullShare ((dats m hO hH 0 c).before 8 t d)))

/-- and what it returns. -/
def bodyPost (hO : Ok m) (hH : Hyps m hO) (c : Dev nD) (t : Fin (cfgM m hO).N) : sProp 𝕄 :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t)
    ∗ owns (c : Thread nD τ) (ms0_2 m hO t) fullShare ((dats m hO hH 0 c).after 2 t)
    ∗ owns (c : Thread nD τ) (ms0_3 m hO t) fullShare ((dats m hO hH 0 c).after 3 t)
    ∗ owns (c : Thread nD τ) (ms0_4 m hO t) fullShare ((dats m hO hH 0 c).after 4 t)
    ∗ owns (c : Thread nD τ) (ms0_5 m hO t) fullShare ((dats m hO hH 0 c).after 5 t)
    ∗ owns (c : Thread nD τ) (ms0_6 m hO t) fullShare ((dats m hO hH 0 c).after 6 t)
    ∗ owns (c : Thread nD τ) (ms0_7 m hO t) fullShare ((dats m hO hH 0 c).after 7 t)
    ∗ owns (c : Thread nD τ) (ms0_8 m hO t) fullShare ((dats m hO hH 0 c).after 8 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (hO : Ok m) (hH : Hyps m hO) (hE : ∀ i, Early i (wordAt m i)) (c : Dev nD) (t : Fin (cfgM m hO).N) :
    bodyPre m hO hH c t ⊢ wp frame (wpE (defs₀ (F := Ideal)) Variants.none c none) Set.univ (bodyAt0 (adm m hO) t) (fun _ => bodyPost m hO hH c t) := by
  unfold bodyPre bodyPost bodyAt0
  simp only [before0_0, before0_1, before0_2, before0_3, before0_4, before0_5, before0_6, before0_7]
  rw [show (dats m hO hH 0 c).Φ t.succ = (dats m hO hH 0 c).Φ t.castSucc from rfl,
    show (dats m hO hH 0 c).owesAt () t.succ = (dats m hO hH 0 c).owesAt () t.castSucc from rfl,
    after0_0, after0_1, after0_2, after0_3, after0_4, after0_5, after0_6, after0_7, after0_8]
  rw [show (dats m hO hH 0 c).Φ t.castSucc = iprop(Pipeline.ΦA spec0 c ∗ Pipeline.ΦT pre0 (tbl m) c) from rfl, PhiT0_eq, PhiA0_eq]
  iintro ⟨⟨⟨⟨⟨%e0, HS0⟩, ⟨%e1, HS1⟩⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((stores (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) (iblk m hO c 0 t) (iblk m hO c 1 t) (iblk m hO c 2 t) (iblk m hO c 3 t) (iblk m hO c 4 t) (iblk m hO c 5 t) (iblk m hO c 6 t) (iblk m hO c 7 t) (tbl m 0) (Hyps.c0 hH c t) e0 e1).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  isplitl [HT0]; · iexact HT0
  iintro ⟨H0, H1, H2, H3, H4, H5, H6, H7, ⟨%f8, H8⟩, HS0, HS1, HT0⟩
  isplitl [HS0 HS1 Hg HT0]
  · isplitl [HS0 HS1 Hg]
    · isplitl [HS0 HS1]
      · isplitl [HS0]
        · iexact HS0
        iexact HS1
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  rw [show oblk m hO c t = _ from (out_read c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) (iblk m hO c 0 t) (iblk m hO c 1 t) (iblk m hO c 2 t) (iblk m hO c 3 t) (iblk m hO c 4 t) (iblk m hO c 5 t) (iblk m hO c 6 t) (iblk m hO c 7 t) (tbl m 0) (Hyps.c0 hH c t) e0 e1 (hE (grid0.coords t)) f8).symm]
  iexact H8

/-- The library's body obligation, at every point: the body's triple restated (Lib/Pipeline/FrameBody.lean `triple_restated`). -/
theorem body_obligation (hO : Ok m) (hH : Hyps m hO) (hE : ∀ i, Early i (wordAt m i)) (c : Dev nD) : BodyObligation (dats m hO hH 0 c) (defs₀ (F := Ideal)) Variants.none () Set.univ := fun t => by
  rw [bigSep_W0, bigSep_W0, defs₀_row m hO]
  exact triple_restated (sound_body m hO hH hE c t) rfl .rfl fun _ => .rfl

/-! ## The run and the frame -/

-- `θ_run_frameP_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main (hO : Ok m) (hH : Hyps m hO) (hE : ∀ i, Early i (wordAt m i)) : θ_run defs (onTc (τ := τ) (main (F := Ideal))) (s₀ m ρ) (Pipeline.FramePost (Pipeline.pin pcfgs fun _ => adm m hO) (dats m hO hH) 0 (V m)) :=
  Pipeline.θ_run_frameP pcfgs (fun _ => adm m hO) (dats m hO hH) (0 : Fin 1) launch0 defs₀ Variants.none m ρ main
    (hbody := fun c => (body_obligation m hO hH hE c).loose) (hshare := fun c => (dats m hO hH 0 c).share_full fun _ => rfl)
    (howed := fun _ _ => rfl) (V := V m) (hmain := hmain m Variants.none) (hA := A_eq m hO hH) (hpf := V_pre m) (hΦ := fun _ _ => rfl)

end Cert.KernelIdeal.Value

end
-- ==== Proof.Softmax.lean ====
/- The attention of one row, in extended reals: in base two over a window of keys, and by the exponential over all keys. -/
module

public import proofs.«01_k».proof.Proof.KernelIdealWeight
public import Mathlib.Analysis.SpecialFunctions.Pow.Real

@[expose] public section

noncomputable section

namespace Cert.Softmax

open Idealize.ShloMosaic
open Cert.KernelIdeal.Hand (clipF)

theorem eight : Ideal.ofBits .f32 1090519040#32 = ((8 : ℝ) : EReal) := by
  simp [Ideal.ofBits, Ideal.ieee, -EReal.coe_mul]; norm_num

theorem c256 : Ideal.ofBits .f32 1132462080#32 = ((256 : ℝ) : EReal) := by
  simp [Ideal.ofBits, Ideal.ieee, -EReal.coe_mul]; norm_num

theorem c256inv : Ideal.ofBits .f32 998244352#32 = (((256 : ℝ)⁻¹ : ℝ) : EReal) := by
  simp [Ideal.ofBits, Ideal.ieee, -EReal.coe_mul]; norm_num

theorem clip_zero : clipF 0 = 0 := by
  have h1 : Ideal.ofBits .f32 1138753536#32 = ((448 : ℝ) : EReal) := by
    simp [Ideal.ofBits, Ideal.ieee, -EReal.coe_mul]; norm_num
  have h2 : Ideal.ofBits .f32 3286237184#32 = ((-448 : ℝ) : EReal) := by
    simp [Ideal.ofBits, Ideal.ieee, -EReal.coe_mul]; norm_num
  unfold clipF
  rw [h1, h2, ← EReal.coe_zero, max_eq_right (EReal.coe_le_coe_iff.2 (by norm_num)), min_eq_right (EReal.coe_le_coe_iff.2 (by norm_num))]

/-- The logarithm's factor. -/
def lc : ℝ := (Real.log 2)⁻¹

theorem lc_pos : 0 < lc := inv_pos.2 (Real.log_pos (by norm_num))

theorem bot_lc : (⊥ : EReal) * (lc : EReal) = ⊥ := EReal.bot_mul_coe_of_pos lc_pos

theorem mono_lc : Monotone fun x : EReal => x * (lc : EReal) := fun _ _ h =>
  mul_le_mul_of_nonneg_right h (EReal.coe_nonneg.2 lc_pos.le)

/-- A weight in base two, with the maximum less eight, is 256 times the weight by the exponential. -/
theorem weight (s m : EReal) (h : s ≤ m) : ∃ q : ℝ, 0 ≤ q ∧ Ideal.exp (s - m) = (q : EReal) ∧
    Ideal.exp2 (s * (lc : EReal) - (m * (lc : EReal) - ((8 : ℝ) : EReal))) = ((256 * q : ℝ) : EReal) := by
  induction m with
  | top =>
    refine ⟨0, le_rfl, ?_, ?_⟩
    · rw [EReal.sub_top]; rfl
    · rw [EReal.top_mul_coe_of_pos lc_pos, EReal.top_sub_coe, EReal.sub_top, mul_zero]; rfl
  | bot =>
    obtain rfl := le_bot_iff.1 h
    refine ⟨0, le_rfl, ?_, ?_⟩
    · rw [EReal.bot_sub]; rfl
    · rw [bot_lc, EReal.bot_sub, mul_zero]; rfl
  | coe m =>
    induction s with
    | top => exact absurd h (not_le.2 (EReal.coe_lt_top m))
    | bot =>
      refine ⟨0, le_rfl, ?_, ?_⟩
      · rw [EReal.bot_sub]; rfl
      · rw [bot_lc, EReal.bot_sub, mul_zero]; rfl
    | coe s =>
      refine ⟨Real.exp (s - m), (Real.exp_pos _).le, ?_, ?_⟩
      · rw [← EReal.coe_sub]; rfl
      · rw [← EReal.coe_mul, ← EReal.coe_mul, ← EReal.coe_sub, ← EReal.coe_sub, Ideal.exp2_coe]
        refine congrArg _ ?_
        show (2 : ℝ) ^ (s * lc - (m * lc - 8)) = 256 * Real.exp (s - m)
        have e : s * lc - (m * lc - 8) = (s - m) * lc + 8 := by ring
        rw [e, Real.rpow_add (by norm_num), Real.rpow_def_of_pos (by norm_num)]
        have e2 : Real.log 2 * ((s - m) * lc) = s - m := by
          unfold lc
          have : Real.log 2 ≠ 0 := (Real.log_pos (by norm_num)).ne'
          field_simp
        rw [e2]
        norm_num
        ring

theorem sum_coe (n : ℕ) (q : ℕ → ℝ) : (∑ j ∈ Finset.range n, (q j : EReal)) = ((∑ j ∈ Finset.range n, q j : ℝ) : EReal) := by
  induction n with
  | zero => simp
  | succ n ih => rw [Finset.sum_range_succ, Finset.sum_range_succ, ih, EReal.coe_add]

/-- A sum over a window of keys, when nothing outside it counts. -/
theorem sum_window {n base N : ℕ} (hb : base + n ≤ N) (f : ℕ → EReal) (h : ∀ j < N, ¬ (base ≤ j ∧ j < base + n) → f j = 0) :
    (∑ r ∈ Finset.range n, f (base + r)) = ∑ j ∈ Finset.range N, f j := by
  have e := Finset.sum_Ico_eq_sum_range f base (base + n)
  rw [Nat.add_sub_cancel_left] at e
  rw [← e]
  refine Finset.sum_subset (fun j hj => ?_) fun j hj hn => ?_
  · rw [Finset.mem_Ico] at hj; rw [Finset.mem_range]; omega
  · rw [Finset.mem_range] at hj; rw [Finset.mem_Ico] at hn; exact h j hj hn

/-- The greatest score over a window of keys, when the scores outside it are least. -/
theorem sup_window {n base N : ℕ} (hb : base + n ≤ N) (f : ℕ → EReal) (h : ∀ j < N, ¬ (base ≤ j ∧ j < base + n) → f j = ⊥) :
    ((Finset.range n).sup fun r => f (base + r)) = (Finset.range N).sup f := by
  refine le_antisymm (Finset.sup_le fun r hr => ?_) (Finset.sup_le fun j hj => ?_)
  · rw [Finset.mem_range] at hr
    exact Finset.le_sup (f := f) (Finset.mem_range.2 (by omega))
  · by_cases hw : base ≤ j ∧ j < base + n
    · have e : j = base + (j - base) := by omega
      rw [e]
      exact Finset.le_sup (f := fun r => f (base + r)) (Finset.mem_range.2 (by omega))
    · rw [h j (Finset.mem_range.1 hj) hw]; exact bot_le

/-- The masked scores; -/
def mS (M : ℕ → Prop) [DecidablePred M] (S : ℕ → EReal) (j : ℕ) : EReal := if M j then S j else ⊥

/-- the weights by the exponential, over `N` keys; -/
def pR (M : ℕ → Prop) [DecidablePred M] (S : ℕ → EReal) (N j : ℕ) : EReal :=
  if M j then Ideal.exp (mS M S j - (Finset.range N).sup (mS M S)) else 0

/-- the weights in base two, over a window of `n` keys. -/
def wK (M : ℕ → Prop) [DecidablePred M] (S : ℕ → EReal) (base n r : ℕ) : EReal :=
  Ideal.exp2 (mS M S (base + r) * (lc : EReal) - (((Finset.range n).sup fun r => mS M S (base + r) * (lc : EReal)) - Ideal.ofBits .f32 1090519040#32))

/-- The two attentions are equal. -/
theorem attn {n base N : ℕ} (hb : base + n ≤ N) (M : ℕ → Prop) [DecidablePred M] (S vt : ℕ → EReal) (vs : EReal)
    (hM : ∀ j < N, M j → base ≤ j ∧ j < base + n) :
    (∑ r ∈ Finset.range n, vt (base + r) * clipF (wK M S base n r)) * vs * Ideal.div 1 (∑ r ∈ Finset.range n, wK M S base n r)
      = (∑ j ∈ Finset.range N, clipF (pR M S N j * Ideal.ofBits .f32 1132462080#32) * vt j) * Ideal.ofBits .f32 998244352#32 * vs
        * Ideal.div 1 (∑ j ∈ Finset.range N, pR M S N j) := by
  have hsup : ((Finset.range n).sup fun r => mS M S (base + r) * (lc : EReal)) = (Finset.range N).sup (mS M S) * (lc : EReal) := by
    have h1 := sup_window hb (fun j => mS M S j * (lc : EReal)) fun j hj hn => by
      rw [mS, if_neg fun h => hn (hM j hj h)]; exact bot_lc
    exact h1.trans (Finset.comp_sup_eq_sup_comp_of_is_total (fun x : EReal => x * (lc : EReal)) mono_lc bot_lc).symm
  have hq : ∀ j : ℕ, ∃ q : ℝ, j < N → 0 ≤ q ∧ pR M S N j = (q : EReal) ∧
      Ideal.exp2 (mS M S j * (lc : EReal) - ((Finset.range N).sup (mS M S) * (lc : EReal) - ((8 : ℝ) : EReal))) = ((256 * q : ℝ) : EReal) := by
    intro j
    by_cases hj : j < N
    · by_cases hm : M j
      · obtain ⟨q, h0, h1, h2⟩ := weight (mS M S j) ((Finset.range N).sup (mS M S)) (Finset.le_sup (Finset.mem_range.2 hj))
        exact ⟨q, fun _ => ⟨h0, (if_pos hm).trans h1, h2⟩⟩
      · refine ⟨0, fun _ => ⟨le_rfl, if_neg hm, ?_⟩⟩
        rw [mS, if_neg hm, bot_lc, EReal.bot_sub, mul_zero]; rfl
    · exact ⟨0, fun h => absurd h hj⟩
  choose q hq using hq
  have hw : ∀ r < n, wK M S base n r = ((256 * q (base + r) : ℝ) : EReal) := fun r hr => by
    unfold wK
    rw [hsup, eight]
    exact (hq (base + r) (by omega)).2.2
  have hz : ∀ j < N, ¬ (base ≤ j ∧ j < base + n) → q j = 0 := fun j hj hn => by
    have h := (hq j hj).2.1
    rw [pR, if_neg fun h => hn (hM j hj h)] at h
    exact (EReal.coe_eq_zero.1 h.symm)
  have hL : (∑ j ∈ Finset.range N, pR M S N j) = ((∑ j ∈ Finset.range N, q j : ℝ) : EReal) :=
    (Finset.sum_congr rfl fun j hj => (hq j (Finset.mem_range.1 hj)).2.1).trans (sum_coe N q)
  have hK : (∑ r ∈ Finset.range n, wK M S base n r) = ((256 * ∑ j ∈ Finset.range N, q j : ℝ) : EReal) := by
    rw [Finset.mul_sum, ← sum_coe N fun j => 256 * q j, ← sum_window hb (fun j => ((256 * q j : ℝ) : EReal)) fun j hj hn => by rw [hz j hj hn, mul_zero]; rfl]
    exact Finset.sum_congr rfl fun r hr => hw r (Finset.mem_range.1 hr)
  have hA : (∑ r ∈ Finset.range n, vt (base + r) * clipF (wK M S base n r))
      = ∑ j ∈ Finset.range N, clipF (pR M S N j * Ideal.ofBits .f32 1132462080#32) * vt j := by
    have e1 : ∀ j < N, clipF (pR M S N j * Ideal.ofBits .f32 1132462080#32) * vt j = vt j * clipF ((256 * q j : ℝ) : EReal) := fun j hj => by
      rw [(hq j hj).2.1, c256, ← EReal.coe_mul, mul_comm, mul_comm (q j)]
    rw [Finset.sum_congr rfl fun j hj => e1 j (Finset.mem_range.1 hj),
      ← sum_window hb (fun j => vt j * clipF ((256 * q j : ℝ) : EReal)) fun j hj hn => by
        rw [hz j hj hn, mul_zero, EReal.coe_zero, clip_zero, mul_zero]]
    exact Finset.sum_congr rfl fun r hr => by rw [hw r (Finset.mem_range.1 hr)]
  rw [hA, hK, hL]
  by_cases h0 : (∑ j ∈ Finset.range N, q j) = 0
  · have hq0 := (Finset.sum_eq_zero_iff_of_nonneg fun j hj => (hq j (Finset.mem_range.1 hj)).1).1 h0
    have : (∑ j ∈ Finset.range N, clipF (pR M S N j * Ideal.ofBits .f32 1132462080#32) * vt j) = 0 :=
      Finset.sum_eq_zero fun j hj => by
        rw [(hq j (Finset.mem_range.1 hj)).2.1, hq0 j hj, EReal.coe_zero, zero_mul, clip_zero, zero_mul]
    rw [this, zero_mul, zero_mul, zero_mul, zero_mul, zero_mul]
  · have hc : ∀ x : ℝ, x ≠ 0 → Ideal.div 1 (x : EReal) = ((x⁻¹ : ℝ) : EReal) := fun x hx => by
      rw [Ideal.div, if_neg fun h => hx (EReal.coe_eq_zero.1 h), one_mul, EReal.coe_inv]
    rw [hc _ h0, hc _ (mul_ne_zero (by norm_num) h0), c256inv, mul_inv, EReal.coe_mul]
    ac_rfl

end Cert.Softmax

end
-- ==== Proof.KernelIdealBridge.lean ====
/- What a grid point stores, as the attention over all keys. -/
module

public import proofs.«01_k».proof.Proof.KernelIdealBlock
public import proofs.«01_k».proof.Proof.Softmax

@[expose] public section

noncomputable section

namespace Cert.KernelIdeal.Value

open Cert.KernelIdeal.Gen Cert.KernelIdeal.Hand Cert.Softmax
open Idealize.ShloMosaic Idealize.ShloMosaic.Tactic

/-- The softmax scale. -/
def smR : EReal := (((Real.sqrt 128)⁻¹ : ℝ) : EReal)

theorem smR_nonneg : 0 ≤ smR := EReal.coe_nonneg.2 (inv_nonneg.2 (Real.sqrt_nonneg _))

theorem smC_eq : smC = smR * (lc : EReal) := EReal.coe_mul _ _

/-- The score of a key: the scale of its group times the scaled product and the product with the mean. -/
def scoreR (ks sq dq dm : EReal) : EReal := ks * (sq * dq + dm) * smR

theorem score_eq {ks : EReal} (h0 : 0 ≤ ks) (h1 : ks ≠ ⊤) (sq dq dm : EReal) :
    dq * (sq * smC * ks) + dm * (ks * smC) = scoreR ks sq dq dm * (lc : EReal) := by
  have p : 0 ≤ ks * smC := by
    rw [smC_eq]
    exact mul_nonneg h0 (mul_nonneg smR_nonneg (EReal.coe_nonneg.2 lc_pos.le))
  have q : ks * smC ≠ ⊤ := by
    lift ks to ℝ using ⟨h1, (lt_of_lt_of_le (by exact EReal.bot_lt_zero) h0).ne'⟩
    rw [smC_eq, smR, ← EReal.coe_mul, ← EReal.coe_mul]
    exact EReal.coe_ne_top _
  have e := EReal.left_distrib_of_nonneg_of_ne_top p q (sq * dq) dm
  unfold scoreR
  calc dq * (sq * smC * ks) + dm * (ks * smC) = ks * smC * (sq * dq) + ks * smC * dm := by
        congr 1
        · ac_rfl
        · ac_rfl
    _ = ks * smC * (sq * dq + dm) := e.symm
    _ = _ := by rw [smC_eq]; ac_rfl

/-- The keys that a row of a block attends. -/
def maskF (x4 : S1x8x128.Idx → BitVec 32) (g k cc j : ℕ) : Prop :=
  IntOp.andi (IntOp.cmpi CmpIPredicate.sle (BitVec.ofNat 32 j) (qpF g (k / 64) (colO k cc).1))
    (IntOp.cmpi CmpIPredicate.sge (BitVec.ofNat 32 j) (dsF x4 (k / 64) (colO k cc).1)) = 1#1

instance (x4 : S1x8x128.Idx → BitVec 32) (g k cc : ℕ) : DecidablePred (maskF x4 g k cc) := fun _ => by
  unfold maskF; infer_instance

/-- Their scores. -/
def keyS (x0 : S1x1x256.Idx → EReal) (x1 : S1x1x1024x128.Idx → EReal) (x2 : S1x1x1x128.Idx → EReal) (x3 : S1x1x8x128.Idx → EReal) (x5 : S16384x128.Idx → EReal) (k cc j : ℕ) : EReal :=
  scoreR (x0 (ix3 0 0 (grpIx j))) (x2 (ix4 0 0 0 (laneO k cc)))
    (∑ e : Fin 128, x5 (ix2 (keyIx j) e) * x1 (ix4 0 0 ⟨(128 * (k / 16) + (laneO k cc).1) % 1024, Nat.mod_lt _ (by decide)⟩ e))
    (∑ e : Fin 128, x5 (ix2 (keyIx j) e) * x3 (ix4 0 0 ⟨((laneO k cc).1 / 16) % 8, Nat.mod_lt _ (by decide)⟩ e))

theorem kerS_eq (x0 : S1x1x256.Idx → EReal) (x1 x2 x3 x4) (x5 : S16384x128.Idx → EReal) (hks : ∀ y, 0 ≤ x0 y ∧ x0 y ≠ ⊤) {g base k cc row : ℕ} (hk : k < 128) (hc : cc < 1024) :
    kerS x0 x1 x2 x3 x4 x5 g base (k / 64) row (colO k cc).1 = mS (maskF x4 g k cc) (keyS x0 x1 x2 x3 x5 k cc) (base + row) * (lc : EReal) := by
  have hcol := col_lane (k := k) hc
  have hl := (laneO k cc).2
  have e1 : laneIx (colO k cc).1 = laneO k cc := Fin.ext (by show (colO k cc).1 % 128 = _; omega)
  have e2 : laneIx ((colO k cc).1 % 128) = laneO k cc := Fin.ext (by show (colO k cc).1 % 128 % 128 = _; omega)
  have e3 : (512 * (k / 64) + (colIx (colO k cc).1).1) % 1024 = (128 * (k / 16) + (laneO k cc).1) % 1024 := by
    show (512 * (k / 64) + (colO k cc).1 % 512) % 1024 = _
    omega
  unfold kerS scoreF mS
  by_cases hM : maskF x4 g k cc (base + row)
  · rw [if_pos hM]
    refine (if_pos hM).trans ?_
    unfold keyS
    rw [← score_eq (hks _).1 (hks _).2]
    unfold biasF
    rw [e1, e2]
    refine congrArg₂ (· + ·) (congrArg (· * _) (Finset.sum_congr rfl fun e _ => congrArg (_ * ·) ?_)) rfl
    exact congrArg x1 (congrArg (fun i => ix4 0 0 i e) (Fin.ext e3))
  · rw [if_neg hM, bot_lc]
    exact (if_neg hM).trans negC_bot

/-- What a grid point stores, over all keys, when its window holds the keys it attends. -/
theorem kerF_eq (x0 : S1x1x256.Idx → EReal) (x1 x2 x3 x4) (x5 : S16384x128.Idx → EReal) (x6 : S1x128x16384.Idx → EReal) (x7 : S1x128x128.Idx → EReal) (hks : ∀ y, 0 ≤ x0 y ∧ x0 y ≠ ⊤) {g base n k cc : ℕ} (hk : k < 128) (hc : cc < 1024)
    (hb : base + n ≤ 16384) (hM : ∀ j < 16384, maskF x4 g k cc j → base ≤ j ∧ j < base + n) :
    kerF x0 x1 x2 x3 x4 x5 x6 x7 g base n k cc
      = (∑ j ∈ Finset.range 16384, clipF (pR (maskF x4 g k cc) (keyS x0 x1 x2 x3 x5 k cc) 16384 j * Ideal.ofBits .f32 1132462080#32) * x6 (ix3 0 ⟨cc % 128, Nat.mod_lt _ (by decide)⟩ (keyIx j)))
        * Ideal.ofBits .f32 998244352#32 * x7 (ix3 0 ⟨cc % 128, Nat.mod_lt _ (by decide)⟩ (laneO k cc))
        * Ideal.div 1 (∑ j ∈ Finset.range 16384, pR (maskF x4 g k cc) (keyS x0 x1 x2 x3 x5 k cc) 16384 j) := by
  have hw : ∀ r, kerW x0 x1 x2 x3 x4 x5 g base n (k / 64) r (colO k cc).1 = wK (maskF x4 g k cc) (keyS x0 x1 x2 x3 x5 k cc) base n r := fun r => by
    unfold kerW weightF offS wK
    dsimp only
    simp only [kerS_eq x0 x1 x2 x3 x4 x5 hks hk hc]
    rfl
  rw [← attn hb (maskF x4 g k cc) (keyS x0 x1 x2 x3 x5 k cc) (fun j => x6 (ix3 0 ⟨cc % 128, Nat.mod_lt _ (by decide)⟩ (keyIx j))) _ hM]
  unfold kerF
  simp only [hw]

end Cert.KernelIdeal.Value

end
-- ==== Proof.KernelIdealArray.lean ====
/- The blocks of the attention kernel, in its arrays. -/
module

public import proofs.«01_k».proof.Proof.KernelIdealValue
public import proofs.«01_k».proof.Proof.KernelIdealBridge
public import Idealize.ShloMosaic.Lib.Pipeline.ValueKit
public import Idealize.ShloMosaic.Lib.Pipeline.Covers

@[expose] public section

set_option maxRecDepth 16384

noncomputable section

namespace Cert.KernelIdeal.Value

open Cert.KernelIdeal.Gen Cert.KernelIdeal.Hand
open Idealize.ShloMosaic Idealize.ShloMosaic.TcCoe Idealize.ShloMosaic.Tactic
open Idealize.ShloMosaic.Pipeline (Dat Cfg Window)

theorem tn {n : ℕ} (h : n < 128) : (BitVec.ofNat 32 n).toNat = n := by rw [BitVec.toNat_ofNat]; omega

variable (m : (ℓ : Loc nD τ sig) → Buf (Elt Ideal) ℓ)

/-- The head of a grid point. -/
def hd (hO : Ok m) (t : Fin (cfgM m hO).N) : Fin 8 := grid0.coords t 0
/-- Its group. -/
def gr (hO : Ok m) (t : Fin (cfgM m hO).N) : Fin 128 := grid0.coords t 1

theorem hd_toNat (hO : Ok m) (t : Fin (cfgM m hO).N) : (BitVec.ofNat 32 (grid0.coords t 0).val).toNat = (hd m hO t).1 := tn (lt_trans (hd m hO t).2 (by decide))
theorem gr_toNat (hO : Ok m) (t : Fin (cfgM m hO).N) : (BitVec.ofNat 32 (grid0.coords t 1).val).toNat = (gr m hO t).1 := tn (gr m hO t).2

def b0 (a : S8x1x256.Idx → EReal) (h : Fin 8) : S1x1x256.Idx → EReal := fun y => a (ix3 h (y 1) (y 2))
def b1 (a : S8x128x1024x128.Idx → EReal) (h : Fin 8) (g : Fin 128) : S1x1x1024x128.Idx → EReal := fun y => a (ix4 h g (y 2) (y 3))
def b2 (a : S128x8x1x128.Idx → EReal) (h : Fin 8) (g : Fin 128) : S1x1x1x128.Idx → EReal := fun y => a (ix4 g h (y 2) (y 3))
def b3 (a : S128x8x8x128.Idx → EReal) (h : Fin 8) (g : Fin 128) : S1x1x8x128.Idx → EReal := fun y => a (ix4 g h (y 2) (y 3))
def b4 (a : S128x8x128.Idx → BitVec 32) (g : Fin 128) : S1x8x128.Idx → BitVec 32 := fun y => a (ix3 g (y 1) (y 2))
def b5 (a : S16384x1024.Idx → EReal) (h : Fin 8) : S16384x128.Idx → EReal := fun y => a (ix2 (y 0) ⟨h.1 * 128 + (y 1).1, by have := h.2; have : (y 1).1 < 128 := (y 1).2; omega⟩)
def b6 (a : S8x128x16384.Idx → EReal) (h : Fin 8) : S1x128x16384.Idx → EReal := fun y => a (ix3 h (y 1) (y 2))
def b7 (a : S8x128x128.Idx → EReal) (h : Fin 8) : S1x128x128.Idx → EReal := fun y => a (ix3 h (y 1) (y 2))

theorem iblk0 (hO : Ok m) (c : Dev nD) (t : Fin (cfgM m hO).N) : iblk m hO c 0 t = b0 (V m c main_arg1) (hd m hO t) := by
  funext (y : S1x1x256.Idx)
  refine congrArg (V m c main_arg1) (funext fun j => Fin.ext ?_)
  match j with
  | ⟨0, _⟩ => exact (congrArg₂ (· + ·) (congrArg (· * 1) (hd_toNat m hO t)) (Nat.one_mul _)).trans (by have hy : (y 0).1 < 1 := (y 0).2; show _ * 1 + (y 0).1 = (hd m hO t).1; omega)
  | ⟨1, _⟩ => exact (congrArg₂ (· + ·) (Nat.zero_mul _) (Nat.one_mul _)).trans (Nat.zero_add _)
  | ⟨2, _⟩ => exact (congrArg₂ (· + ·) (Nat.zero_mul _) (Nat.one_mul _)).trans (Nat.zero_add _)
theorem iblk1 (hO : Ok m) (c : Dev nD) (t : Fin (cfgM m hO).N) : iblk m hO c 1 t = b1 (V m c main_arg2) (hd m hO t) (gr m hO t) := by
  funext (y : S1x1x1024x128.Idx)
  refine congrArg (V m c main_arg2) (funext fun j => Fin.ext ?_)
  match j with
  | ⟨0, _⟩ => exact (congrArg₂ (· + ·) (congrArg (· * 1) (hd_toNat m hO t)) (Nat.one_mul _)).trans (by have hy : (y 0).1 < 1 := (y 0).2; show _ * 1 + (y 0).1 = (hd m hO t).1; omega)
  | ⟨1, _⟩ => exact (congrArg₂ (· + ·) (congrArg (· * 1) (gr_toNat m hO t)) (Nat.one_mul _)).trans (by have hy : (y 1).1 < 1 := (y 1).2; show _ * 1 + (y 1).1 = (gr m hO t).1; omega)
  | ⟨2, _⟩ => exact (congrArg₂ (· + ·) (Nat.zero_mul _) (Nat.one_mul _)).trans (Nat.zero_add _)
  | ⟨3, _⟩ => exact (congrArg₂ (· + ·) (Nat.zero_mul _) (Nat.one_mul _)).trans (Nat.zero_add _)
theorem iblk2 (hO : Ok m) (c : Dev nD) (t : Fin (cfgM m hO).N) : iblk m hO c 2 t = b2 (V m c main_arg3) (hd m hO t) (gr m hO t) := by
  funext (y : S1x1x1x128.Idx)
  refine congrArg (V m c main_arg3) (funext fun j => Fin.ext ?_)
  match j with
  | ⟨0, _⟩ => exact (congrArg₂ (· + ·) (congrArg (· * 1) (gr_toNat m hO t)) (Nat.one_mul _)).trans (by have hy : (y 0).1 < 1 := (y 0).2; show _ * 1 + (y 0).1 = (gr m hO t).1; omega)
  | ⟨1, _⟩ => exact (congrArg₂ (· + ·) (congrArg (· * 1) (hd_toNat m hO t)) (Nat.one_mul _)).trans (by have hy : (y 1).1 < 1 := (y 1).2; show _ * 1 + (y 1).1 = (hd m hO t).1; omega)
  | ⟨2, _⟩ => exact (congrArg₂ (· + ·) (Nat.zero_mul _) (Nat.one_mul _)).trans (Nat.zero_add _)
  | ⟨3, _⟩ => exact (congrArg₂ (· + ·) (Nat.zero_mul _) (Nat.one_mul _)).trans (Nat.zero_add _)
theorem iblk3 (hO : Ok m) (c : Dev nD) (t : Fin (cfgM m hO).N) : iblk m hO c 3 t = b3 (V m c main_arg4) (hd m hO t) (gr m hO t) := by
  funext (y : S1x1x8x128.Idx)
  refine congrArg (V m c main_arg4) (funext fun j => Fin.ext ?_)
  match j with
  | ⟨0, _⟩ => exact (congrArg₂ (· + ·) (congrArg (· * 1) (gr_toNat m hO t)) (Nat.one_mul _)).trans (by have hy : (y 0).1 < 1 := (y 0).2; show _ * 1 + (y 0).1 = (gr m hO t).1; omega)
  | ⟨1, _⟩ => exact (congrArg₂ (· + ·) (congrArg (· * 1) (hd_toNat m hO t)) (Nat.one_mul _)).trans (by have hy : (y 1).1 < 1 := (y 1).2; show _ * 1 + (y 1).1 = (hd m hO t).1; omega)
  | ⟨2, _⟩ => exact (congrArg₂ (· + ·) (Nat.zero_mul _) (Nat.one_mul _)).trans (Nat.zero_add _)
  | ⟨3, _⟩ => exact (congrArg₂ (· + ·) (Nat.zero_mul _) (Nat.one_mul _)).trans (Nat.zero_add _)
theorem iblk4 (hO : Ok m) (c : Dev nD) (t : Fin (cfgM m hO).N) : iblk m hO c 4 t = b4 (V m c main_arg5) (gr m hO t) := by
  funext (y : S1x8x128.Idx)
  refine congrArg (V m c main_arg5) (funext fun j => Fin.ext ?_)
  match j with
  | ⟨0, _⟩ => exact (congrArg₂ (· + ·) (congrArg (· * 1) (gr_toNat m hO t)) (Nat.one_mul _)).trans (by have hy : (y 0).1 < 1 := (y 0).2; show _ * 1 + (y 0).1 = (gr m hO t).1; omega)
  | ⟨1, _⟩ => exact (congrArg₂ (· + ·) (Nat.zero_mul _) (Nat.one_mul _)).trans (Nat.zero_add _)
  | ⟨2, _⟩ => exact (congrArg₂ (· + ·) (Nat.zero_mul _) (Nat.one_mul _)).trans (Nat.zero_add _)
theorem iblk5 (hO : Ok m) (c : Dev nD) (t : Fin (cfgM m hO).N) : iblk m hO c 5 t = b5 (V m c main_arg6) (hd m hO t) := by
  funext (y : S16384x128.Idx)
  refine congrArg (V m c main_arg6) (funext fun j => Fin.ext ?_)
  match j with
  | ⟨0, _⟩ => exact (congrArg₂ (· + ·) (Nat.zero_mul _) (Nat.one_mul _)).trans (Nat.zero_add _)
  | ⟨1, _⟩ => exact (congrArg₂ (· + ·) (congrArg (· * 128) (hd_toNat m hO t)) (Nat.one_mul _))
theorem iblk6 (hO : Ok m) (c : Dev nD) (t : Fin (cfgM m hO).N) : iblk m hO c 6 t = b6 (V m c main_arg7) (hd m hO t) := by
  funext (y : S1x128x16384.Idx)
  refine congrArg (V m c main_arg7) (funext fun j => Fin.ext ?_)
  match j with
  | ⟨0, _⟩ => exact (congrArg₂ (· + ·) (congrArg (· * 1) (hd_toNat m hO t)) (Nat.one_mul _)).trans (by have hy : (y 0).1 < 1 := (y 0).2; show _ * 1 + (y 0).1 = (hd m hO t).1; omega)
  | ⟨1, _⟩ => exact (congrArg₂ (· + ·) (Nat.zero_mul _) (Nat.one_mul _)).trans (Nat.zero_add _)
  | ⟨2, _⟩ => exact (congrArg₂ (· + ·) (Nat.zero_mul _) (Nat.one_mul _)).trans (Nat.zero_add _)
theorem iblk7 (hO : Ok m) (c : Dev nD) (t : Fin (cfgM m hO).N) : iblk m hO c 7 t = b7 (V m c main_arg8) (hd m hO t) := by
  funext (y : S1x128x128.Idx)
  refine congrArg (V m c main_arg8) (funext fun j => Fin.ext ?_)
  match j with
  | ⟨0, _⟩ => exact (congrArg₂ (· + ·) (congrArg (· * 1) (hd_toNat m hO t)) (Nat.one_mul _)).trans (by have hy : (y 0).1 < 1 := (y 0).2; show _ * 1 + (y 0).1 = (hd m hO t).1; omega)
  | ⟨1, _⟩ => exact (congrArg₂ (· + ·) (Nat.zero_mul _) (Nat.one_mul _)).trans (Nat.zero_add _)
  | ⟨2, _⟩ => exact (congrArg₂ (· + ·) (Nat.zero_mul _) (Nat.one_mul _)).trans (Nat.zero_add _)

/-- The blocks cover the output, whatever the table holds. -/
theorem covers8 (hO : Ok m) : ((cfgM m hO).win 8).Covers := by
  refine ⟨fun a => match a with | ⟨0, _⟩ => (by decide : 0 < 128) | ⟨1, _⟩ => (by decide : 0 < 1024), fun β => ?_⟩
  have h0 : (β (0 : Fin 2) : ℕ) < 128 := lt_of_lt_of_eq (β (0 : Fin 2)).2 (show (16384 + 128 - 1) / 128 = 128 from rfl)
  have h1 : (β (1 : Fin 2) : ℕ) < 8 := lt_of_lt_of_eq (β (1 : Fin 2)).2 (show (8192 + 1024 - 1) / 1024 = 8 from rfl)
  obtain ⟨t, ht⟩ := grid0.coords_surjective (fun a => match a with | ⟨0, _⟩ => (⟨(β (1 : Fin 2) : ℕ), h1⟩ : Fin 8) | ⟨1, _⟩ => (⟨(β (0 : Fin 2) : ℕ), h0⟩ : Fin 128))
  have e0 : (gr m hO t).1 = (β (0 : Fin 2) : ℕ) := congrArg Fin.val (congrFun ht 1)
  have e1 : (hd m hO t).1 = (β (1 : Fin 2) : ℕ) := congrArg Fin.val (congrFun ht 0)
  refine ⟨t, flush0_8 _ t, fun a => ?_⟩
  match a with
  | ⟨0, _⟩ => exact ⟨(gr_toNat m hO t).trans e0, Or.inl rfl⟩
  | ⟨1, _⟩ => exact ⟨(hd_toNat m hO t).trans e1, Or.inl rfl⟩

/-- The output after the launch, from its blocks. -/
theorem final8 (hO : Ok m) (hH : Hyps m hO) (c : Dev nD) (G : S16384x8192.Idx → EReal)
   (hG : ∀ t, ∀ y : S128x1024.Idx, oblk m hO c t y = G (ix2 ⟨128 * (gr m hO t).1 + (y 0).1, by have := (gr m hO t).2; have : (y 0).1 < 128 := (y 0).2; omega⟩ ⟨1024 * (hd m hO t).1 + (y 1).1, by have := (hd m hO t).2; have : (y 1).1 < 1024 := (y 1).2; omega⟩)) :
    (dats m hO hH 0 c).arrAt 8 (cfgM m hO).N = G := by
  refine (dats m hO hH 0 c).arrAt_eq_of_covers 8 G (covers8 m hO) (fun t hf (y : S128x1024.Idx) => ?_) (Memref.isWhole_whole _)
  rw [after0_8]
  refine (hG t y).trans (congrArg G (funext fun j => Fin.ext ?_))
  match j with
  | ⟨0, _⟩ =>
    show 128 * (gr m hO t).1 + (y 0).1 = (BitVec.ofNat 32 (grid0.coords t 1).val).toNat * 128 + 1 * (y 0).1
    rw [gr_toNat m hO t]; omega
  | ⟨1, _⟩ =>
    show 1024 * (hd m hO t).1 + (y 1).1 = (BitVec.ofNat 32 (grid0.coords t 0).val).toNat * 1024 + 1 * (y 1).1
    rw [hd_toNat m hO t]; omega

end Cert.KernelIdeal.Value

end
-- ==== Proof.ReferenceIdealValue.lean ====
/- The value of the plain attention, pointwise. -/
module

public import proofs.«01_k».proof.Proof.Gen.ReferenceIdeal.Frame
public import proofs.«01_k».proof.Proof.KernelIdealArray
public import Idealize.ShloMosaic.Lib.Pointwise
public import Idealize.ShloMosaic.Lib.Pipeline.ValueKit

@[expose] public section
set_option maxRecDepth 16384
noncomputable section
namespace Cert.ReferenceIdeal.Value
open Cert.ReferenceIdeal.Gen
open Cert.KernelIdeal.Value Cert.Softmax
open Cert.KernelIdeal.Hand (clipF qpF dsF colO laneO keyIx grpIx)
open Idealize.ShloMosaic Idealize.ShloMosaic.TcCoe Idealize.ShloMosaic.Tactic

variable (x0 : S8x1x256.Idx → EReal) (x1 : S8x128x1024x128.Idx → EReal) (x2 : S128x8x1x128.Idx → EReal) (x3 : S128x8x8x128.Idx → EReal) (x4 : S128x8x128.Idx → BitVec 32) (x5 : S16384x1024.Idx → EReal) (x6 : S8x128x16384.Idx → EReal) (x7 : S8x128x128.Idx → EReal)

/-- The scores. -/
abbrev sc := k0_pay2 (F := Ideal) x5 x1 x3 x2 x0

theorem pay12_eq : k0_pay12 (F := Ideal) x0 x1 x2 x3 x4 x5 x6 x7 = sc x0 x1 x2 x3 x5 := by
  unfold k0_pay12
  frame_out

/-- The weights. -/
def wt := k0_pay4 (F := Ideal) (k0_pay12 (F := Ideal) x0 x1 x2 x3 x4 x5 x6 x7) (k0_pay8 (F := Ideal) x0 x1 x2 x3 x4 x5 x6 x7) (k0_pay9 (F := Ideal) x0 x1 x2 x3 x4 x5 x6 x7) (k0_pay10 (F := Ideal) x0 x1 x2 x3 x4 x5 x6 x7) (k0_pay11 (F := Ideal) x0 x1 x2 x3 x4 x5 x6 x7) (k0_pay13 (F := Ideal) x0 x1 x2 x3 x4 x5 x6 x7) x4

theorem sc_at (h : Fin 8) (g : Fin 128) (t : Fin 8) (l : Fin 128) (j : Fin 16384) :
    sc x0 x1 x2 x3 x5 (ix5 h g t l j) = (x0 (ix3 h 0 ⟨j.1 / 64, by omega⟩) *
        (x2 (ix4 g h 0 l) *
            ∑ x : Fin 128, x1 (ix4 h g ⟨(g.1 * 1024 + t.1 * 128 + l.1) % 1024, Nat.mod_lt _ (by decide)⟩ x) * x5 (ix2 j ⟨h.1 * 128 + x.1, by omega⟩) +
          ∑ x : Fin 128, x3 (ix4 g h ⟨(g.1 * 128 + l.1) / 16 % 8, Nat.mod_lt _ (by decide)⟩ x) * x5 (ix2 j ⟨h.1 * 128 + x.1, by omega⟩)) *
      Named.named (F := Ideal) (φ := .f32) κ "sm_scale" 1035273459#32 : EReal) := by
  unfold sc
  pointwise [k0_pay2]

/-- Whether a row attends a key. -/
def bitR (v34 v35 v36 v37 v38 : IVec S128x8x128x16384 32) (v47 : S128x8x128.Idx → BitVec 32) (g : Fin 128) (t : Fin 8) (l : Fin 128) (j : Fin 16384) : BitVec 1 :=
  IntOp.andi (IntOp.cmpi .sle (v34 (ix4 g t l j)) (IntOp.addi (IntOp.addi (IntOp.muli (v35 (ix4 g t l j)) (v38 (ix4 g t l j))) (IntOp.muli (v36 (ix4 g t l j)) 16#32)) (IntOp.andi (v37 (ix4 g t l j)) 15#32)))
    (IntOp.cmpi .sge (v34 (ix4 g t l j)) (v47 (ix3 g t l)))

theorem p4 (P : FVec Ideal S8x128x8x128x16384 .f32) (v34 v35 v36 v37 v38 v47) (h : Fin 8) (g : Fin 128) (t : Fin 8) (l : Fin 128) (j : Fin 16384) :
    k0_pay4 (F := Ideal) P v34 v35 v36 v37 v38 v47 (ix5 h g t l j)
      = (Scalar.select (bitR v34 v35 v36 v37 v38 v47 g t l j) (Ideal.exp (Scalar.select (bitR v34 v35 v36 v37 v38 v47 g t l j) (P (ix5 h g t l j)) (Ideal.ofBits .f32 4286578688#32)
          - Finset.fold max (Ideal.ofBits .f32 4286578688#32) (fun x : Fin 16384 => Scalar.select (bitR v34 v35 v36 v37 v38 v47 g t l x) (P (ix5 h g t l x)) (Ideal.ofBits .f32 4286578688#32)) Finset.univ)) 0 : EReal) := by
  unfold bitR
  pointwise [k0_pay4]

theorem p5 (P : FVec Ideal S8x128x8x128x16384 .f32) (v34 v35 v36 v37 v38 v47) (h : Fin 8) (g : Fin 128) (t : Fin 8) (l : Fin 128) :
    k0_pay5 (F := Ideal) P v34 v35 v36 v37 v38 v47 (ix5 h g t l 0) = (∑ x : Fin 16384, k0_pay4 (F := Ideal) P v34 v35 v36 v37 v38 v47 (ix5 h g t l x) : EReal) := by
  unfold k0_pay5
  generalize k0_pay4 (F := Ideal) P v34 v35 v36 v37 v38 v47 = Q
  pointwise []

theorem p6 (P : FVec Ideal S8x128x8x128x16384 .f32) (v34 v35 v36 v37 v38 v47) (v74 : S8x128x16384.Idx → EReal) (h : Fin 8) (g : Fin 128) (t : Fin 8) (l d : Fin 128) :
    k0_pay6 (F := Ideal) P v34 v35 v36 v37 v38 v47 v74 (ix5 h g t l d)
      = (∑ x : Fin 16384, clipF (k0_pay4 (F := Ideal) P v34 v35 v36 v37 v38 v47 (ix5 h g t l x) * Ideal.ofBits .f32 1132462080#32) * v74 (ix3 h d x) : EReal) := by
  unfold k0_pay6 clipF
  generalize k0_pay4 (F := Ideal) P v34 v35 v36 v37 v38 v47 = Q
  pointwise []

theorem p1 (v65 : FVec Ideal S8x128x8x128x1 .f32) (v76 : FVec Ideal S8x128x8x128x128 .f32) (n : Fin 16384) (col : Fin 8192) :
    k0_pay1 (F := Ideal) v65 v76 (k0_pay7 (F := Ideal) x7) (ix2 n col)
      = (v76 (ix5 ⟨col.1 / 1024, by omega⟩ ⟨n.1 / 128, by omega⟩ ⟨n.1 / 16 % 8, Nat.mod_lt _ (by decide)⟩ ⟨col.1 / 128 % 8 * 16 + n.1 % 16, by omega⟩ ⟨col.1 % 128, Nat.mod_lt _ (by decide)⟩)
          * Ideal.ofBits .f32 998244352#32 * x7 (ix3 ⟨col.1 / 1024, by omega⟩ ⟨col.1 % 128, Nat.mod_lt _ (by decide)⟩ ⟨col.1 / 128 % 8 * 16 + n.1 % 16, by omega⟩)
          * Ideal.div 1 (v65 (ix5 ⟨col.1 / 1024, by omega⟩ ⟨n.1 / 128, by omega⟩ ⟨n.1 / 16 % 8, Nat.mod_lt _ (by decide)⟩ ⟨col.1 / 128 % 8 * 16 + n.1 % 16, by omega⟩ 0)) : EReal) := by
  have hn := n.2
  have hc := col.2
  pointwise [k0_pay1, k0_pay7]

theorem q8 (g : Fin 128) (t : Fin 8) (l : Fin 128) (j : Fin 16384) : k0_pay8 (F := Ideal) x0 x1 x2 x3 x4 x5 x6 x7 (ix4 g t l j) = BitVec.ofNat 32 j.1 := by
  pointwise [k0_pay8]
theorem q9 (g : Fin 128) (t : Fin 8) (l : Fin 128) (j : Fin 16384) : k0_pay9 (F := Ideal) x0 x1 x2 x3 x4 x5 x6 x7 (ix4 g t l j) = BitVec.ofNat 32 g.1 := by
  pointwise [k0_pay9]
theorem q10 (g : Fin 128) (t : Fin 8) (l : Fin 128) (j : Fin 16384) : k0_pay10 (F := Ideal) x0 x1 x2 x3 x4 x5 x6 x7 (ix4 g t l j) = BitVec.ofNat 32 t.1 := by
  pointwise [k0_pay10]
theorem q11 (g : Fin 128) (t : Fin 8) (l : Fin 128) (j : Fin 16384) : k0_pay11 (F := Ideal) x0 x1 x2 x3 x4 x5 x6 x7 (ix4 g t l j) = BitVec.ofNat 32 l.1 := by
  pointwise [k0_pay11]
theorem q13 (g : Fin 128) (t : Fin 8) (l : Fin 128) (j : Fin 16384) : k0_pay13 (F := Ideal) x0 x1 x2 x3 x4 x5 x6 x7 (ix4 g t l j) = 128#32 := by
  pointwise [k0_pay13, k0_pay3]

/-- The mask of a row at a key is the kernel's. -/
theorem bit_eq (g k cc : ℕ) (hg : g < 128) (hk : k < 128) (hc : cc < 1024) :
    IntOp.addi (IntOp.addi (IntOp.muli (BitVec.ofNat 32 g) 128#32) (IntOp.muli (BitVec.ofNat 32 (k / 16)) 16#32)) (IntOp.andi (BitVec.ofNat 32 (16 * (cc / 128) + k % 16)) 15#32)
      = Cert.KernelIdeal.Hand.qpF g (k / 64) (Cert.KernelIdeal.Hand.colO k cc).1 := by
  unfold IntOp.addi IntOp.muli IntOp.andi Cert.KernelIdeal.Hand.qpF
  show _ = BitVec.ofNat 32 (128 * g + 64 * (k / 64) + 16 * (((128 * (k / 16 % 4) + 16 * (cc / 128) + k % 16) % 512) / 128) + ((128 * (k / 16 % 4) + 16 * (cc / 128) + k % 16) % 512) % 16)
  apply BitVec.eq_of_toNat_eq
  have e : (BitVec.ofNat 32 (16 * (cc / 128) + k % 16) &&& 15#32).toNat = k % 16 := by
    rw [BitVec.toNat_and, BitVec.toNat_ofNat]
    show _ &&& (2 ^ 4 - 1) = _
    rw [Nat.and_two_pow_sub_one_eq_mod]
    omega
  have h1 : (128 * (k / 16 % 4) + 16 * (cc / 128) + k % 16) % 512 / 128 = k / 16 % 4 := by omega
  have h2 : (128 * (k / 16 % 4) + 16 * (cc / 128) + k % 16) % 512 % 16 = k % 16 := by omega
  have h3 : 128 * g + 64 * (k / 64) + 16 * (k / 16 % 4) + k % 16 = 128 * g + 16 * (k / 16) + k % 16 := by omega
  rw [BitVec.toNat_add, BitVec.toNat_add, BitVec.toNat_mul, BitVec.toNat_mul, e, h1, h2, h3]
  simp only [BitVec.toNat_ofNat]
  clear e h1 h2 h3
  omega

theorem least : Ideal.ofBits .f32 4286578688#32 = ⊥ := by
  simp [Ideal.ofBits, Ideal.ieee]

theorem fold_range (f : ℕ → EReal) : Finset.fold max ⊥ (fun x : Fin 16384 => f x.1) Finset.univ = (Finset.range 16384).sup f := by
  show Finset.univ.sup (fun x : Fin 16384 => f x.1) = _
  exact le_antisymm (Finset.sup_le fun x _ => Finset.le_sup (f := f) (Finset.mem_range.2 x.2))
    (Finset.sup_le fun j hj => Finset.le_sup (f := fun x : Fin 16384 => f x.1) (Finset.mem_univ ⟨j, Finset.mem_range.1 hj⟩))

theorem lane_eq {k cc : ℕ} (hc : cc < 1024) : (laneO k cc).1 = 16 * (cc / 128) + k % 16 := by
  show (16 * (cc / 128) + k % 16) % 128 = _
  omega

/-- The mask of a row at a key, in the words of the kernel. -/
theorem mask_eq (g : Fin 128) {k cc : ℕ} (hk : k < 128) (hc : cc < 1024) (j : Fin 16384) :
    (bitR (k0_pay8 (F := Ideal) x0 x1 x2 x3 x4 x5 x6 x7) (k0_pay9 (F := Ideal) x0 x1 x2 x3 x4 x5 x6 x7) (k0_pay10 (F := Ideal) x0 x1 x2 x3 x4 x5 x6 x7) (k0_pay11 (F := Ideal) x0 x1 x2 x3 x4 x5 x6 x7) (k0_pay13 (F := Ideal) x0 x1 x2 x3 x4 x5 x6 x7) x4 g ⟨k / 16, by omega⟩ (laneO k cc) j = 1#1)
      ↔ maskF (b4 x4 g) g.1 k cc j.1 := by
  unfold bitR maskF
  rw [q8, q9, q10, q11, q13, lane_eq hc, bit_eq g.1 k cc g.2 hk hc]
  have e : dsF (b4 x4 g) (k / 64) (colO k cc).1 = x4 (ix3 g ⟨k / 16, by omega⟩ (laneO k cc)) := by
    have hcol := Cert.KernelIdeal.Hand.col_lane (k := k) hc
    have hl := (laneO k cc).2
    have e1 : (4 * (k / 64) + (colO k cc).1 / 128) % 8 = k / 16 := by omega
    have e2 : (colO k cc).1 % 128 = (laneO k cc).1 := by omega
    exact congrArg x4 (congrArg₂ (fun a b => ix3 g a b) (Fin.ext e1) (Fin.ext e2))
  rw [e]

/-- The score of a row at a key, in the kernel's blocks. -/
theorem key_eq (h : Fin 8) (g : Fin 128) {k cc : ℕ} (hk : k < 128) (hc : cc < 1024) (j : Fin 16384) :
    sc x0 x1 x2 x3 x5 (ix5 h g ⟨k / 16, by omega⟩ (laneO k cc) j) = keyS (b0 x0 h) (b1 x1 h g) (b2 x2 h g) (b3 x3 h g) (b5 x5 h) k cc j.1 := by
  have hl := (laneO k cc).2
  have hj := j.2
  have e1 : (g.1 * 1024 + k / 16 * 128 + (laneO k cc).1) % 1024 = (128 * (k / 16) + (laneO k cc).1) % 1024 := by omega
  have e2 : (g.1 * 128 + (laneO k cc).1) / 16 % 8 = (laneO k cc).1 / 16 % 8 := by omega
  have e3 : keyIx j.1 = j := Fin.ext (Nat.mod_eq_of_lt hj)
  have e4 : (grpIx j.1 : Fin 256) = ⟨j.1 / 64, by omega⟩ := Fin.ext (show j.1 / 64 % 256 = j.1 / 64 by omega)
  rw [sc_at]
  unfold keyS scoreR b0 b1 b2 b3 b5
  rw [e3, e4]
  refine congrArg₂ (· * ·) (congrArg (_ * ·) (congrArg₂ (· + ·) (congrArg (_ * ·) (Finset.sum_congr rfl fun e _ => ?_)) (Finset.sum_congr rfl fun e _ => ?_))) rfl
  · rw [mul_comm]
    exact congrArg (_ * ·) (congrArg x1 (congrArg (fun i => ix4 h g i e) (Fin.ext e1)))
  · rw [mul_comm]
    exact congrArg (_ * ·) (congrArg x3 (congrArg (fun i => ix4 g h i e) (Fin.ext e2)))

/-- The weights of a row. -/
abbrev rowP (h : Fin 8) (g : Fin 128) (k cc : ℕ) : ℕ → EReal := pR (maskF (b4 x4 g) g.1 k cc) (keyS (b0 x0 h) (b1 x1 h g) (b2 x2 h g) (b3 x3 h g) (b5 x5 h) k cc) 16384

theorem wt_at (h : Fin 8) (g : Fin 128) {k cc : ℕ} (hk : k < 128) (hc : cc < 1024) (j : Fin 16384) :
    wt x0 x1 x2 x3 x4 x5 x6 x7 (ix5 h g ⟨k / 16, by omega⟩ (laneO k cc) j) = rowP x0 x1 x2 x3 x4 x5 h g k cc j.1 := by
  have hs : ∀ x : Fin 16384, (Scalar.select (bitR (k0_pay8 (F := Ideal) x0 x1 x2 x3 x4 x5 x6 x7) (k0_pay9 (F := Ideal) x0 x1 x2 x3 x4 x5 x6 x7) (k0_pay10 (F := Ideal) x0 x1 x2 x3 x4 x5 x6 x7) (k0_pay11 (F := Ideal) x0 x1 x2 x3 x4 x5 x6 x7) (k0_pay13 (F := Ideal) x0 x1 x2 x3 x4 x5 x6 x7) x4 g ⟨k / 16, by omega⟩ (laneO k cc) x) (sc x0 x1 x2 x3 x5 (ix5 h g ⟨k / 16, by omega⟩ (laneO k cc) x)) (⊥ : EReal))
      = mS (maskF (b4 x4 g) g.1 k cc) (keyS (b0 x0 h) (b1 x1 h g) (b2 x2 h g) (b3 x3 h g) (b5 x5 h) k cc) x.1 := fun x => by
    unfold Scalar.select mS
    rw [key_eq x0 x1 x2 x3 x5 h g hk hc x]
    exact if_congr (mask_eq x0 x1 x2 x3 x4 x5 x6 x7 g hk hc x) rfl rfl
  unfold wt
  rw [p4, pay12_eq, least]
  simp only [hs]
  rw [fold_range (mS (maskF (b4 x4 g) g.1 k cc) (keyS (b0 x0 h) (b1 x1 h g) (b2 x2 h g) (b3 x3 h g) (b5 x5 h) k cc))]
  exact if_congr (mask_eq x0 x1 x2 x3 x4 x5 x6 x7 g hk hc j) rfl rfl

/-- The output. -/
def out : S16384x8192.Idx → EReal := k0_pay1 (F := Ideal) (k0_pay5 (F := Ideal) (k0_pay12 (F := Ideal) x0 x1 x2 x3 x4 x5 x6 x7) (k0_pay8 (F := Ideal) x0 x1 x2 x3 x4 x5 x6 x7) (k0_pay9 (F := Ideal) x0 x1 x2 x3 x4 x5 x6 x7) (k0_pay10 (F := Ideal) x0 x1 x2 x3 x4 x5 x6 x7) (k0_pay11 (F := Ideal) x0 x1 x2 x3 x4 x5 x6 x7) (k0_pay13 (F := Ideal) x0 x1 x2 x3 x4 x5 x6 x7) x4) (k0_pay6 (F := Ideal) (k0_pay12 (F := Ideal) x0 x1 x2 x3 x4 x5 x6 x7) (k0_pay8 (F := Ideal) x0 x1 x2 x3 x4 x5 x6 x7) (k0_pay9 (F := Ideal) x0 x1 x2 x3 x4 x5 x6 x7) (k0_pay10 (F := Ideal) x0 x1 x2 x3 x4 x5 x6 x7) (k0_pay11 (F := Ideal) x0 x1 x2 x3 x4 x5 x6 x7) (k0_pay13 (F := Ideal) x0 x1 x2 x3 x4 x5 x6 x7) x4 x6) (k0_pay7 (F := Ideal) x7)

/-- The output at a row and a column of a block. -/
theorem out_at (h : Fin 8) (g : Fin 128) {k cc : ℕ} (hk : k < 128) (hc : cc < 1024) :
    out x0 x1 x2 x3 x4 x5 x6 x7 (ix2 ⟨128 * g.1 + k, by omega⟩ ⟨1024 * h.1 + cc, by omega⟩)
      = (∑ j ∈ Finset.range 16384, clipF (rowP x0 x1 x2 x3 x4 x5 h g k cc j * Ideal.ofBits .f32 1132462080#32) * b6 x6 h (ix3 0 ⟨cc % 128, Nat.mod_lt _ (by decide)⟩ (keyIx j)))
        * Ideal.ofBits .f32 998244352#32 * b7 x7 h (ix3 0 ⟨cc % 128, Nat.mod_lt _ (by decide)⟩ (laneO k cc))
        * Ideal.div 1 (∑ j ∈ Finset.range 16384, rowP x0 x1 x2 x3 x4 x5 h g k cc j) := by
  have hh := h.2
  have hg := g.2
  have e1 : ∀ p, (⟨(1024 * h.1 + cc) / 1024, p⟩ : Fin 8) = h := fun p => Fin.ext (show (1024 * h.1 + cc) / 1024 = h.1 by omega)
  have e2 : ∀ p, (⟨(128 * g.1 + k) / 128, p⟩ : Fin 128) = g := fun p => Fin.ext (show (128 * g.1 + k) / 128 = g.1 by omega)
  have e3 : ∀ p, (⟨(128 * g.1 + k) / 16 % 8, p⟩ : Fin 8) = ⟨k / 16, by omega⟩ := fun p => Fin.ext (show (128 * g.1 + k) / 16 % 8 = k / 16 by omega)
  have e4 : ∀ p, (⟨(1024 * h.1 + cc) / 128 % 8 * 16 + (128 * g.1 + k) % 16, p⟩ : Fin 128) = laneO k cc := fun p => Fin.ext (show (1024 * h.1 + cc) / 128 % 8 * 16 + (128 * g.1 + k) % 16 = (laneO k cc).1 by rw [lane_eq hc]; omega)
  have e5 : ∀ p, (⟨(1024 * h.1 + cc) % 128, p⟩ : Fin 128) = ⟨cc % 128, Nat.mod_lt _ (by decide)⟩ := fun p => Fin.ext (show (1024 * h.1 + cc) % 128 = cc % 128 by omega)
  have e6 : ∀ x : Fin 16384, keyIx x.1 = x := fun x => Fin.ext (Nat.mod_eq_of_lt x.2)
  unfold out
  rw [p1]
  dsimp only
  rw [e1, e2, e3, e4, e5, p5, p6]
  have hw := wt_at x0 x1 x2 x3 x4 x5 x6 x7 h g hk hc
  unfold wt at hw
  simp only [hw]
  rw [← Fin.sum_univ_eq_sum_range (rowP x0 x1 x2 x3 x4 x5 h g k cc) 16384,
    ← Fin.sum_univ_eq_sum_range (fun j => clipF (rowP x0 x1 x2 x3 x4 x5 h g k cc j * Ideal.ofBits .f32 1132462080#32) * b6 x6 h (ix3 0 ⟨cc % 128, Nat.mod_lt _ (by decide)⟩ (keyIx j))) 16384]
  simp only [e6]
  rfl

end Cert.ReferenceIdeal.Value
-- ==== Proof.KernelIdealFinal.lean ====
/- The array that the kernel leaves: the plain attention's. -/
module

public import proofs.«01_k».proof.Proof.ReferenceIdealValue
public import proofs.«01_k».proof.Proof.Inputs
public import Idealize.ShloMosaic.Lib.StableHlo

@[expose] public section
set_option maxRecDepth 16384
noncomputable section
namespace Cert.KernelIdeal.Value
open Cert.KernelIdeal.Gen Cert.KernelIdeal.Hand
open Idealize.SL.Sem
open Idealize.ShloMosaic Idealize.ShloMosaic.TcCoe Idealize.ShloMosaic.Tactic
open Cert.ReferenceIdeal.Value (out out_at)

/-- A row attends keys of the window only. -/
theorem window (x4 : S128x8x128.Idx → BitVec 32) (w : BitVec 32) (g : Fin 128) (hw : w.toNat ≤ 128 * g.1) (hd : ∀ t l, IntOp.cmpi .sle w (x4 (ix3 g t l)) = 1#1)
    {k cc : ℕ} (hk : k < 128) (hc : cc < 1024) {j : ℕ} (hj : j < 16384) (hM : maskF (b4 x4 g) g.1 k cc j) :
    Words.base g.1 (w.toNat / 128) ≤ j ∧ j < Words.base g.1 (w.toNat / 128) + 512 * Words.nt g.1 (w.toNat / 128) := by
  have hg := g.2
  have hcol : (colO k cc).1 = 128 * (k / 16 % 4) + (laneO k cc).1 := col_lane hc
  have hl := (laneO k cc).2
  have h1 := Words.base_le_lo g.1 (w.toNat / 128)
  have h2 := Words.le_base_end hg (show w.toNat / 128 ≤ g.1 by omega)
  unfold maskF at hM
  have hd' := hd ⟨(4 * (k / 64) + (colO k cc).1 / 128) % 8, Nat.mod_lt _ (by decide)⟩ ⟨(colO k cc).1 % 128, Nat.mod_lt _ (by decide)⟩
  have e : dsF (b4 x4 g) (k / 64) (colO k cc).1 = x4 (ix3 g ⟨(4 * (k / 64) + (colO k cc).1 / 128) % 8, Nat.mod_lt _ (by decide)⟩ ⟨(colO k cc).1 % 128, Nat.mod_lt _ (by decide)⟩) := rfl
  rw [e] at hM
  generalize x4 (ix3 g ⟨(4 * (k / 64) + (colO k cc).1 / 128) % 8, Nat.mod_lt _ (by decide)⟩ ⟨(colO k cc).1 % 128, Nat.mod_lt _ (by decide)⟩) = x at hM hd'
  simp only [IntOp.cmpi, Starts.andi_ofBool, Starts.ofBool_eq_one, Bool.and_eq_true, BitVec.sle, decide_eq_true_eq] at hM hd'
  obtain ⟨m1, m2⟩ := hM
  have j1 : (BitVec.ofNat 32 j).toInt = j := by
    rw [BitVec.toInt_eq_toNat_cond, BitVec.toNat_ofNat]; split <;> omega
  have w1 : w.toInt = w.toNat := by
    rw [BitVec.toInt_eq_toNat_cond]; split <;> omega
  have q1 : (qpF g.1 (k / 64) (colO k cc).1).toInt ≤ 128 * g.1 + 127 := by
    unfold qpF
    have n1 : (colO k cc).1 / 128 = k / 16 % 4 := by omega
    have n2 : 128 * g.1 + 64 * (k / 64) + 16 * ((colO k cc).1 / 128) + (colO k cc).1 % 16 ≤ 128 * g.1 + 127 := by
      rw [n1]; omega
    rw [BitVec.toInt_eq_toNat_cond, BitVec.toNat_ofNat]; split <;> omega
  omega

variable (m : (ℓ : Loc nD τ sig) → Buf (Elt Ideal) ℓ)

/-- What the claim needs of the arguments. -/
structure Inp : Prop where
  first : ∀ y : S256.Idx, ((m ((0 : Dev nD).tc.loc main_arg0) : S256.Idx → BitVec 32) y).toNat ≤ 64 * (y 0).1
  lanes : ∀ (g : Fin 128) (t : Fin 8) (l : Fin 128), IntOp.cmpi .sle ((m ((0 : Dev nD).tc.loc main_arg0) : S256.Idx → BitVec 32) (ix1 ⟨2 * g.1, by omega⟩)) ((m ((0 : Dev nD).tc.loc main_arg5) : S128x8x128.Idx → BitVec 32) (ix3 g t l)) = 1#1
  scales : ∀ y : S8x1x256.Idx, (0 : EReal) ≤ (m ((0 : Dev nD).tc.loc main_arg1) : S8x1x256.Idx → EReal) y ∧ ((m ((0 : Dev nD).tc.loc main_arg1) : S8x1x256.Idx → EReal) y : EReal) ≠ (⊤ : EReal)

variable {m}

theorem value (hI : Inp m) (hO : Ok m) (hH : Hyps m hO) (c : Dev nD) :
    (dats m hO hH 0 c).arrAt 8 (cfgM m hO).N = out (V m c main_arg1) (V m c main_arg2) (V m c main_arg3) (V m c main_arg4) (V m c main_arg5) (V m c main_arg6) (V m c main_arg7) (V m c main_arg8) := by
  obtain rfl : c = 0 := Subsingleton.elim _ _
  refine final8 m hO hH 0 _ fun t y => ?_
  have hy0 : (y 0).1 < 128 := (y 0).2
  have hy1 : (y 1).1 < 1024 := (y 1).2
  have hg := (gr m hO t).2
  have hE : Early (grid0.coords t) (wordAt m (grid0.coords t)) := early_of m hI.first _
  have hw : (wordAt m (grid0.coords t)).toNat ≤ 128 * (gr m hO t).1 := hE
  rw [out_at _ _ _ _ _ _ _ _ (hd m hO t) (gr m hO t) hy0 hy1]
  unfold oblk
  rw [iblk0, iblk1, iblk2, iblk3, iblk4, iblk5, iblk6, iblk7]
  refine kerF_eq _ _ _ _ _ _ _ _ (fun y => hI.scales _) hy0 hy1 (Words.base_end hg) fun j hj hM => ?_
  refine window _ (wordAt m (grid0.coords t)) (gr m hO t) hw (fun s l => ?_) hy0 hy1 hj hM
  rw [wordAt_eq m (grid0.coords t) (ix1 ⟨2 * (gr m hO t).1, by omega⟩) rfl]
  exact hI.lanes _ s l

variable (ρ : Dev nD → PrngReg)

/-- The run, with the value of the output. -/
theorem run (hI : Inp m) : θ_run defs (onTc (τ := τ) (main (F := Ideal))) ⟨m, fun _ => 0, ρ⟩ (fun r => ∀ c : Dev nD,
      r.2.mem ((c.tc : Thread nD τ).loc main_v0) = out (V m c main_arg1) (V m c main_arg2) (V m c main_arg3) (V m c main_arg4) (V m c main_arg5) (V m c main_arg6) (V m c main_arg7) (V m c main_arg8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h.1.out_eq c 8).trans (value hI trivial (hyps_of m _ hI.first) c), h.2 c⟩)
    (θ_run_and (run_main m ρ trivial (hyps_of m _ hI.first) (early_of m hI.first)) (unchanged m ρ trivial (hyps_of m _ hI.first)))

end Cert.KernelIdeal.Value

end
-- ==== Proof.ReferenceIdealFinal.lean ====
/- The array that the plain attention leaves. -/
module

public import proofs.«01_k».proof.Proof.ReferenceIdealValue
public import Idealize.ShloMosaic.Lib.Pipeline.ValueKit

@[expose] public section
set_option maxRecDepth 16384
noncomputable section
namespace Cert.ReferenceIdeal.Value
open Cert.ReferenceIdeal.Gen
open Idealize.SL.Sem
open Idealize.ShloMosaic Idealize.ShloMosaic.TcCoe Idealize.ShloMosaic.Tactic
variable (m : (ℓ : Loc nD τ sig) → Buf (Elt Ideal) ℓ)

theorem idx0 : ∀ t : Fin cfg0.N, win0_0.index t = ![0, 0, 0] :=
  (by decide +kernel : ∀ t : Fin grid0.N, _)
theorem iblk0 (c : Dev nD) (t : Fin cfg0.N) : iblk m c 0 t = V m c main_arg1 := by
  blk_ext! [iblk, idx0 t]
theorem idx1 : ∀ t : Fin cfg0.N, win0_1.index t = ![0, 0, 0, 0] :=
  (by decide +kernel : ∀ t : Fin grid0.N, _)
theorem iblk1 (c : Dev nD) (t : Fin cfg0.N) : iblk m c 1 t = V m c main_arg2 := by
  blk_ext! [iblk, idx1 t]
theorem idx2 : ∀ t : Fin cfg0.N, win0_2.index t = ![0, 0, 0, 0] :=
  (by decide +kernel : ∀ t : Fin grid0.N, _)
theorem iblk2 (c : Dev nD) (t : Fin cfg0.N) : iblk m c 2 t = V m c main_arg3 := by
  blk_ext! [iblk, idx2 t]
theorem idx3 : ∀ t : Fin cfg0.N, win0_3.index t = ![0, 0, 0, 0] :=
  (by decide +kernel : ∀ t : Fin grid0.N, _)
theorem iblk3 (c : Dev nD) (t : Fin cfg0.N) : iblk m c 3 t = V m c main_arg4 := by
  blk_ext! [iblk, idx3 t]
theorem idx4 : ∀ t : Fin cfg0.N, win0_4.index t = ![0, 0, 0] :=
  (by decide +kernel : ∀ t : Fin grid0.N, _)
theorem iblk4 (c : Dev nD) (t : Fin cfg0.N) : iblk m c 4 t = V m c main_arg5 := by
  blk_ext! [iblk, idx4 t]
theorem idx5 : ∀ t : Fin cfg0.N, win0_5.index t = ![0, 0] :=
  (by decide +kernel : ∀ t : Fin grid0.N, _)
theorem iblk5 (c : Dev nD) (t : Fin cfg0.N) : iblk m c 5 t = V m c main_arg6 := by
  blk_ext! [iblk, idx5 t]
theorem idx6 : ∀ t : Fin cfg0.N, win0_6.index t = ![0, 0, 0] :=
  (by decide +kernel : ∀ t : Fin grid0.N, _)
theorem iblk6 (c : Dev nD) (t : Fin cfg0.N) : iblk m c 6 t = V m c main_arg7 := by
  blk_ext! [iblk, idx6 t]
theorem idx7 : ∀ t : Fin cfg0.N, win0_7.index t = ![0, 0, 0] :=
  (by decide +kernel : ∀ t : Fin grid0.N, _)
theorem iblk7 (c : Dev nD) (t : Fin cfg0.N) : iblk m c 7 t = V m c main_arg8 := by
  blk_ext! [iblk, idx7 t]
theorem idx8 : ∀ t : Fin cfg0.N, win0_8.index t = ![0, 0] :=
  (by decide +kernel : ∀ t : Fin grid0.N, _)

/-- The output after the launch. -/
theorem final8 (c : Dev nD) : (dats (F := Ideal) m 0 c).arrAt 8 cfg0.N = out (V m c main_arg1) (V m c main_arg2) (V m c main_arg3) (V m c main_arg4) (V m c main_arg5) (V m c main_arg6) (V m c main_arg7) (V m c main_arg8) := by
  refine (dats m 0 c).arrAt_eq_of_covers 8 _ (by decide +kernel) fun t hf y => ?_
  blk_simp
  rw [after0_8]
  frame_out
  simp only [iblk0, iblk1, iblk2, iblk3, iblk4, iblk5, iblk6, iblk7]
  have e : ((View.whole main_v0).slice (win0_8.rect t)).emb y = (y : S16384x8192.Idx) := by
    blk_ext [idx8 t]
  rw [e]
  rfl

variable (ρ : Dev nD → PrngReg)

/-- The run, with the value of the output. -/
theorem run : θ_run defs (onTc (τ := τ) (main (F := Ideal))) ⟨m, fun _ => 0, ρ⟩ (fun r => ∀ c : Dev nD,
      r.2.mem ((c.tc : Thread nD τ).loc main_v0) = out (V m c main_arg1) (V m c main_arg2) (V m c main_arg3) (V m c main_arg4) (V m c main_arg5) (V m c main_arg6) (V m c main_arg7) (V m c main_arg8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h.1.out_eq c 8).trans (final8 m c), h.2 c⟩) (θ_run_and (run_main m ρ) (unchanged m ρ))

end Cert.ReferenceIdeal.Value

end
-- ==== Proof.Values.lean ====
/- The value claim: the kernel leaves the plain attention's array; and the frames under its precondition. -/
module

public import proofs.«01_k».proof.Defs
public import proofs.«01_k».proof.Proof.KernelIdealFinal
public import proofs.«01_k».proof.Proof.ReferenceIdealFinal
public import Idealize.ShloMosaic.Lib.Claim

@[expose] public section

noncomputable section

namespace Cert.Values

open Idealize.ShloMosaic Idealize.SL.Sem

theorem frame_pi : Cert.quiescent_KernelIdeal_pre_inputs := fun m ρ h =>
  Cert.KernelIdeal.Hand.frame m ρ trivial (Cert.KernelIdeal.Hand.hyps_of m _ (Inputs.starts (h 0).1))

theorem frame_ri : Cert.quiescent_ReferenceIdeal_pre_inputs := fun m ρ _ => Cert.ReferenceIdeal.Gen.frame m ρ

theorem inp (m) (h : Cert.Pre_KernelIdeal_inputs m) : Cert.KernelIdeal.Value.Inp m :=
  ⟨Inputs.starts (h 0).1, Inputs.lanes (h 0).2.1, Inputs.scales (h 0).2.2⟩

theorem algebraic : Cert.algebraic_KernelIdeal_ReferenceIdeal_pre_inputs := fun m g m' g' hpre hagree => by
  refine ⟨_, Cert.KernelIdeal.Value.run g (inp m hpre), (θ_run Cert.ReferenceIdeal.defs _ _).mono (fun r h c => ⟨(h c).1.trans ?_, (h c).2⟩) (Cert.ReferenceIdeal.Value.run m' g')⟩
  obtain ⟨-, e1, e2, e3, e4, e5, e6, e7, e8⟩ := hagree c
  exact congr (congr (congr (congr (congr (congr (congr (congrArg Cert.ReferenceIdeal.Value.out e1) e2) e3) e4) e5) e6) e7) e8

end Cert.Values

end
-- ==== Proof.lean ====
/- The certificate's claims, assembled behind the witnesses of the programs' stated facts. -/
module

public import proofs.«01_k».proof.Defs
public import proofs.«01_k».proof.Proof.Frames
public import proofs.«01_k».proof.Proof.Inputs
public import proofs.«01_k».proof.Proof.Values

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_starts.Gen.facts, Cert.Pre_inputs.Gen.facts,
    Frames.frame_p, Frames.frame_pi, Values.frame_pi, Frames.frame_ri, Values.frame_ri, Frames.preserves, Values.algebraic⟩

end Cert.Proof

end
